-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_x [hPre_bf16_x : Cert.Pre_bf16_x.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_x [hPre_bf16_x : Cert.Pre_bf16_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bf16_x [hKernelIdeal : Cert.KernelIdeal.Facts] [hPre_bf16_x : Cert.Pre_bf16_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bf16_x [hReferenceIdeal : Cert.ReferenceIdeal.Facts] [hPre_bf16_x : Cert.Pre_bf16_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bf16_x [hKernelIdeal : Cert.KernelIdeal.Facts] [hReferenceIdeal : Cert.ReferenceIdeal.Facts] [hPre_bf16_x : Cert.Pre_bf16_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bf16_x : Cert.Pre_bf16_x.Facts),
    quiescent_Kernel (hKernel := hKernel)
    ∧ quiescent_KernelIdeal (hKernelIdeal := hKernelIdeal)
    ∧ quiescent_KernelIdeal_pre_bf16_x (hKernelIdeal := hKernelIdeal) (hPre_bf16_x := hPre_bf16_x)
    ∧ quiescent_ReferenceIdeal (hReferenceIdeal := hReferenceIdeal)
    ∧ quiescent_ReferenceIdeal_pre_bf16_x (hReferenceIdeal := hReferenceIdeal) (hPre_bf16_x := hPre_bf16_x)
    ∧ preserves_Kernel_KernelIdeal
    ∧ algebraic_KernelIdeal_ReferenceIdeal_pre_bf16_x (hKernelIdeal := hKernelIdeal) (hReferenceIdeal := hReferenceIdeal) (hPre_bf16_x := hPre_bf16_x)
-- ==== Pre_bf16_x.lean ====
abbrev S8x32x2816 : Shape := ⟨3, ![8, 32, 2816]⟩
abbrev S8 : Shape := ⟨1, ![8]⟩
abbrev S8x14336x2816 : Shape := ⟨3, ![8, 14336, 2816]⟩
abbrev S8x14336 : Shape := ⟨2, ![8, 14336]⟩
abbrev S_ : Shape := ⟨0, ![]⟩

class Facts : Prop where
  bitsLt_bf16_f32 : FTy.bits .bf16 < FTy.bits .f32
  bcast_S_S8x32x2816 : S_.BroadcastsInDim S8x32x2816 (![] : Fin 0 → Fin S8x32x2816.rank)

variable [Facts]

def fn {F : FTy → Type} [FloatOps F] (main_arg0 : FVec F S8x32x2816 .bf16) (main_arg1 : IVec S8 32) (main_arg2 : FVec F S8x14336x2816 .fp8e4m3) (main_arg3 : FVec F S8x14336 .f32) : IVec S8x32x2816 1 :=
  let main_v0 : FVec F S8x32x2816 .f32 := (extf .f32 · bitsLt_bf16_f32) main_arg0
  let main_v1 : FVec F S8x32x2816 .f32 := Host.absf main_v0
  let main_cst : FVec F S_ .f32 := constant S_ .f32 0x7F7F0000#32
  let main_v2 : FVec F S8x32x2816 .f32 := broadcastInDim S8x32x2816 ![] bcast_S_S8x32x2816 main_cst
  let main_v3 : IVec S8x32x2816 1 := cmpf .ole main_v1 main_v2
  let main_cst_0 : FVec F S_ .f32 := constant S_ .f32 0x7F800000#32
  let main_v4 : FVec F S8x32x2816 .f32 := broadcastInDim S8x32x2816 ![] bcast_S_S8x32x2816 main_cst_0
  let main_v5 : IVec S8x32x2816 1 := cmpf .oeq main_v1 main_v4
  let main_v6 : IVec S8x32x2816 1 := ori main_v3 main_v5
  main_v6
-- ==== Kernel.lean ====
abbrev S8x32x2816 : Shape := ⟨3, ![8, 32, 2816]⟩
abbrev S8 : Shape := ⟨1, ![8]⟩
abbrev S8x14336x2816 : Shape := ⟨3, ![8, 14336, 2816]⟩
abbrev S8x14336 : Shape := ⟨2, ![8, 14336]⟩
abbrev S8x32x14336 : Shape := ⟨3, ![8, 32, 14336]⟩
abbrev S9 : Shape := ⟨1, ![9]⟩
abbrev S32x2816 : Shape := ⟨2, ![32, 2816]⟩
abbrev S32x128 : Shape := ⟨2, ![32, 128]⟩
abbrev S6x2048x2816 : Shape := ⟨3, ![6, 2048, 2816]⟩
abbrev S3x32x2048 : Shape := ⟨3, ![3, 32, 2048]⟩
abbrev S32x14336 : Shape := ⟨2, ![32, 14336]⟩
abbrev S_ : Shape := ⟨0, ![]⟩
abbrev S6 : Shape := ⟨1, ![6]⟩
abbrev S3 : Shape := ⟨1, ![3]⟩
abbrev S1 : Shape := ⟨1, ![1]⟩
abbrev S1x2048x2816 : Shape := ⟨3, ![1, 2048, 2816]⟩
abbrev S2048x2816 : Shape := ⟨2, ![2048, 2816]⟩
abbrev S1x32x14336 : Shape := ⟨3, ![1, 32, 14336]⟩
abbrev S1x32x2048 : Shape := ⟨3, ![1, 32, 2048]⟩
abbrev S32x2048 : Shape := ⟨2, ![32, 2048]⟩
abbrev S1x32x2816 : Shape := ⟨3, ![1, 32, 2816]⟩
abbrev S32 : Shape := ⟨1, ![32]⟩
abbrev S32x1 : Shape := ⟨2, ![32, 1]⟩
abbrev S1x2048 : Shape := ⟨2, ![1, 2048]⟩

abbrev nBuf : Space → Nat
  | .hbm => 5
  | .vmem => 7
  | .smem => 2
  | _ => 0

abbrev bufTy : (tb : Table) → Fin (tcTables nBuf tb) → BufTy
  | .hbm, ⟨0, _⟩ => ⟨S8x32x2816, .bf16⟩
  | .hbm, ⟨1, _⟩ => ⟨S8, .i32⟩
  | .hbm, ⟨2, _⟩ => ⟨S8x14336x2816, .fp8e4m3⟩
  | .hbm, ⟨3, _⟩ => ⟨S8x14336, .f32⟩
  | .hbm, ⟨4, _⟩ => ⟨S8x32x14336, .bf16⟩
  | .local _ .vmem, ⟨0, _⟩ => ⟨S8x32x2816, .bf16⟩
  | .local _ .vmem, ⟨1, _⟩ => ⟨S8x14336, .f32⟩
  | .local _ .vmem, ⟨2, _⟩ => ⟨S32x2816, .fp8e4m3⟩
  | .local _ .vmem, ⟨3, _⟩ => ⟨S32x128, .f32⟩
  | .local _ .vmem, ⟨4, _⟩ => ⟨S6x2048x2816, .fp8e4m3⟩
  | .local _ .vmem, ⟨5, _⟩ => ⟨S3x32x2048, .bf16⟩
  | .local _ .vmem, ⟨6, _⟩ => ⟨S32x14336, .bf16⟩
  | .local _ .smem, ⟨0, _⟩ => ⟨S8, .i32⟩
  | .local _ .smem, ⟨1, _⟩ => ⟨S9, .i32⟩
  | _, _ => ⟨S8x32x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch0 : Ref sig .tc := ⟨.smem, 0, rfl⟩
abbrev cc0_scratch1 : Ref sig .tc := ⟨.smem, 1, rfl⟩

abbrev nD : Nat := 1
abbrev τ : Topo := Topo.v7x

variable {F : FTy → Type} [FloatOps F]

abbrev grid0 : Pipeline.Grid := .none

def k0_off1 (v1 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let v5 : Index := Scalar.indexCast v4
  ![v5.toNat]

def k0_chk1 (v1 : BitVec 32) : Prop :=
  (∀ a, (k0_off1 v1) a + S1.size a ≤ S9.size a)
theorem k0_off1_inb : ∀ (v1 : BitVec 32) (k0_hw1 : k0_chk1 v1), ∀ a, (k0_off1 v1) a + S1.size a ≤ S9.size a := fun v1 k0_hw1 => k0_hw1

def k0_off2 (v1 : BitVec 32) (v7 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let v11 : Index := Scalar.indexCast v10
  ![v11.toNat]

def k0_chk2 (v1 : BitVec 32) (v7 : BitVec 32) : Prop :=
  (∀ a, (k0_off2 v1 v7) a + S1.size a ≤ S9.size a)
theorem k0_off2_inb : ∀ (v1 : BitVec 32) (v7 : BitVec 32) (k0_hw2 : k0_chk2 v1 v7), ∀ a, (k0_off2 v1 v7) a + S1.size a ≤ S9.size a := fun v1 v7 k0_hw2 => k0_hw2

def k0_off3 (v1 : BitVec 32) (v7 : BitVec 32) (v13 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let v17 : Index := Scalar.indexCast v16
  ![v17.toNat]

def k0_chk3 (v1 : BitVec 32) (v7 : BitVec 32) (v13 : BitVec 32) : Prop :=
  (∀ a, (k0_off3 v1 v7 v13) a + S1.size a ≤ S9.size a)
theorem k0_off3_inb : ∀ (v1 : BitVec 32) (v7 : BitVec 32) (v13 : BitVec 32) (k0_hw3 : k0_chk3 v1 v7 v13), ∀ a, (k0_off3 v1 v7 v13) a + S1.size a ≤ S9.size a := fun v1 v7 v13 k0_hw3 => k0_hw3

def k0_off4 (v1 : BitVec 32) (v7 : BitVec 32) (v13 : BitVec 32) (v19 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let v23 : Index := Scalar.indexCast v22
  ![v23.toNat]

def k0_chk4 (v1 : BitVec 32) (v7 : BitVec 32) (v13 : BitVec 32) (v19 : BitVec 32) : Prop :=
  (∀ a, (k0_off4 v1 v7 v13 v19) a + S1.size a ≤ S9.size a)
theorem k0_off4_inb : ∀ (v1 : BitVec 32) (v7 : BitVec 32) (v13 : BitVec 32) (v19 : BitVec 32) (k0_hw4 : k0_chk4 v1 v7 v13 v19), ∀ a, (k0_off4 v1 v7 v13 v19) a + S1.size a ≤ S9.size a := fun v1 v7 v13 v19 k0_hw4 => k0_hw4

def k0_off5 (v1 : BitVec 32) (v7 : BitVec 32) (v13 : BitVec 32) (v19 : BitVec 32) (v25 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let v29 : Index := Scalar.indexCast v28
  ![v29.toNat]

def k0_chk5 (v1 : BitVec 32) (v7 : BitVec 32) (v13 : BitVec 32) (v19 : BitVec 32) (v25 : BitVec 32) : Prop :=
  (∀ a, (k0_off5 v1 v7 v13 v19 v25) a + S1.size a ≤ S9.size a)
theorem k0_off5_inb : ∀ (v1 : BitVec 32) (v7 : BitVec 32) (v13 : BitVec 32) (v19 : BitVec 32) (v25 : BitVec 32) (k0_hw5 : k0_chk5 v1 v7 v13 v19 v25), ∀ a, (k0_off5 v1 v7 v13 v19 v25) a + S1.size a ≤ S9.size a := fun v1 v7 v13 v19 v25 k0_hw5 => k0_hw5

def k0_off6 (v1 : BitVec 32) (v7 : BitVec 32) (v13 : BitVec 32) (v19 : BitVec 32) (v25 : BitVec 32) (v31 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let v35 : Index := Scalar.indexCast v34
  ![v35.toNat]

def k0_chk6 (v1 : BitVec 32) (v7 : BitVec 32) (v13 : BitVec 32) (v19 : BitVec 32) (v25 : BitVec 32) (v31 : BitVec 32) : Prop :=
  (∀ a, (k0_off6 v1 v7 v13 v19 v25 v31) a + S1.size a ≤ S9.size a)
theorem k0_off6_inb : ∀ (v1 : BitVec 32) (v7 : BitVec 32) (v13 : BitVec 32) (v19 : BitVec 32) (v25 : BitVec 32) (v31 : BitVec 32) (k0_hw6 : k0_chk6 v1 v7 v13 v19 v25 v31), ∀ a, (k0_off6 v1 v7 v13 v19 v25 v31) a + S1.size a ≤ S9.size a := fun v1 v7 v13 v19 v25 v31 k0_hw6 => k0_hw6

def k0_off7 (v1 : BitVec 32) (v7 : BitVec 32) (v13 : BitVec 32) (v19 : BitVec 32) (v25 : BitVec 32) (v31 : BitVec 32) (v37 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let v41 : Index := Scalar.indexCast v40
  ![v41.toNat]

def k0_chk7 (v1 : BitVec 32) (v7 : BitVec 32) (v13 : BitVec 32) (v19 : BitVec 32) (v25 : BitVec 32) (v31 : BitVec 32) (v37 : BitVec 32) : Prop :=
  (∀ a, (k0_off7 v1 v7 v13 v19 v25 v31 v37) a + S1.size a ≤ S9.size a)
theorem k0_off7_inb : ∀ (v1 : BitVec 32) (v7 : BitVec 32) (v13 : BitVec 32) (v19 : BitVec 32) (v25 : BitVec 32) (v31 : BitVec 32) (v37 : BitVec 32) (k0_hw7 : k0_chk7 v1 v7 v13 v19 v25 v31 v37), ∀ a, (k0_off7 v1 v7 v13 v19 v25 v31 v37) a + S1.size a ≤ S9.size a := fun v1 v7 v13 v19 v25 v31 v37 k0_hw7 => k0_hw7

def k0_off8 : Fin 1 → Nat :=
  let c0_i32_84 : BitVec 32 := 0#32
  let c0_i32_86 : BitVec 32 := 0#32
  let v149 : BitVec 1 := Scalar.cmpi .sgt c0_i32_84 c0_i32_86
  let v150 : BitVec 32 := Scalar.extui v149
  let c0_i32_87 : BitVec 32 := 0#32
  let v151 : BitVec 1 := Scalar.cmpi .slt c0_i32_84 c0_i32_87
  let v152 : BitVec 32 := Scalar.extui v151
  let v153 : BitVec 32 := Scalar.subi v150 v152
  let c7_i32_85 : BitVec 32 := 7#32
  let c0_i32_88 : BitVec 32 := 0#32
  let v154 : BitVec 1 := Scalar.cmpi .sgt c7_i32_85 c0_i32_88
  let v155 : BitVec 32 := Scalar.extui v154
  let c0_i32_89 : BitVec 32 := 0#32
  let v156 : BitVec 1 := Scalar.cmpi .slt c7_i32_85 c0_i32_89
  let v157 : BitVec 32 := Scalar.extui v156
  let v158 : BitVec 32 := Scalar.subi v155 v157
  let v159 : BitVec 1 := Scalar.cmpi .ne v153 v158
  let v160 : BitVec 32 := Scalar.remsi c0_i32_84 c7_i32_85
  let c0_i32_90 : BitVec 32 := 0#32
  let v161 : BitVec 1 := Scalar.cmpi .ne v160 c0_i32_90
  let v162 : BitVec 1 := Scalar.andi v159 v161
  let v148 : BitVec 32 := Scalar.divsi c0_i32_84 c7_i32_85
  let c1_i32_91 : BitVec 32 := 1#32
  let v163 : BitVec 32 := Scalar.subi v148 c1_i32_91
  let v164 : BitVec 32 := Scalar.select v162 v163 v148
  let v165 : Index := Scalar.indexCast v164
  ![v165.toNat]
def k0_off9 : Fin 1 → Nat :=
  let c0_i32_92 : BitVec 32 := 0#32
  let c6_i32_93 : BitVec 32 := 6#32
  let v167 : BitVec 32 := Scalar.remsi c0_i32_92 c6_i32_93
  ![v167.toNat]
def k0_off10 : Fin 3 → Nat :=
  let c0_i32_92 : BitVec 32 := 0#32
  let c6_i32_93 : BitVec 32 := 6#32
  let v167 : BitVec 32 := Scalar.remsi c0_i32_92 c6_i32_93
  let c0_i32_96 : BitVec 32 := 0#32
  let c0_i32_97 : BitVec 32 := 0#32
  ![v167.toNat, 0, 0]
def k0_off11 (v166 : BitVec 32) : Fin 3 → Nat :=
  let c0_i32_94 : BitVec 32 := 0#32
  let c7_i32_95 : BitVec 32 := 7#32
  let v168 : BitVec 32 := Scalar.remsi c0_i32_94 c7_i32_95
  let c2048_i32 : BitVec 32 := 2048#32
  let v169 : BitVec 32 := Scalar.muli v168 c2048_i32
  let c0_i32_98 : BitVec 32 := 0#32
  ![v166.toNat, v169.toNat, 0]
def k0_cond1 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c0_i32_11 : BitVec 32 := 0#32
  let v48 : BitVec 1 := Scalar.cmpi .sgt v47 c0_i32_11
  let v49 : BitVec 32 := Scalar.extui v48
  let c0_i32_12 : BitVec 32 := 0#32
  let v50 : BitVec 1 := Scalar.cmpi .ne v49 c0_i32_12
  v50

def k0_chk8 (v1 : BitVec 32) (v7 : BitVec 32) (v13 : BitVec 32) (v19 : BitVec 32) (v25 : BitVec 32) (v31 : BitVec 32) (v37 : BitVec 32) (v43 : BitVec 32) (v166 : BitVec 32) : Prop :=
  (∀ (k0_h1 : k0_cond1 v1 v7 v13 v19 v25 v31 v37 v43 = 1#1), ∀ a, (k0_off11 v166) a + S1x2048x2816.size a ≤ S8x14336x2816.size a) ∧
  (∀ (k0_h1 : k0_cond1 v1 v7 v13 v19 v25 v31 v37 v43 = 1#1), ∀ (hinb : ∀ a, (k0_off11 v166) a + S1x2048x2816.size a ≤ S8x14336x2816.size a), (Rect.unit (s := S8x14336x2816) (k0_off11 v166) S1x2048x2816.size hinb).WholeWords (EltTy.packing .fp8e4m3))
theorem k0_off11_inb : ∀ (v1 : BitVec 32) (v7 : BitVec 32) (v13 : BitVec 32) (v19 : BitVec 32) (v25 : BitVec 32) (v31 : BitVec 32) (v37 : BitVec 32) (v43 : BitVec 32) (v166 : BitVec 32) (k0_hw8 : k0_chk8 v1 v7 v13 v19 v25 v31 v37 v43 v166), ∀ (k0_h1 : k0_cond1 v1 v7 v13 v19 v25 v31 v37 v43 = 1#1), ∀ a, (k0_off11 v166) a + S1x2048x2816.size a ≤ S8x14336x2816.size a := fun v1 v7 v13 v19 v25 v31 v37 v43 v166 k0_hw8 k0_h1 => k0_hw8.1 k0_h1
theorem k0_off11_wordsfp8e4m3 : ∀ (v1 : BitVec 32) (v7 : BitVec 32) (v13 : BitVec 32) (v19 : BitVec 32) (v25 : BitVec 32) (v31 : BitVec 32) (v37 : BitVec 32) (v43 : BitVec 32) (v166 : BitVec 32) (k0_hw8 : k0_chk8 v1 v7 v13 v19 v25 v31 v37 v43 v166), ∀ (k0_h1 : k0_cond1 v1 v7 v13 v19 v25 v31 v37 v43 = 1#1), (Rect.unit (s := S8x14336x2816) (k0_off11 v166) S1x2048x2816.size (k0_off11_inb v1 v7 v13 v19 v25 v31 v37 v43 v166 k0_hw8 k0_h1)).WholeWords (EltTy.packing .fp8e4m3) := fun v1 v7 v13 v19 v25 v31 v37 v43 v166 k0_hw8 k0_h1 => k0_hw8.2 k0_h1 (k0_off11_inb v1 v7 v13 v19 v25 v31 v37 v43 v166 k0_hw8 k0_h1)

def k0_off12 : Fin 1 → Nat :=
  let c1_i32_84 : BitVec 32 := 1#32
  let c0_i32_86 : BitVec 32 := 0#32
  let v149 : BitVec 1 := Scalar.cmpi .sgt c1_i32_84 c0_i32_86
  let v150 : BitVec 32 := Scalar.extui v149
  let c0_i32_87 : BitVec 32 := 0#32
  let v151 : BitVec 1 := Scalar.cmpi .slt c1_i32_84 c0_i32_87
  let v152 : BitVec 32 := Scalar.extui v151
  let v153 : BitVec 32 := Scalar.subi v150 v152
  let c7_i32_85 : BitVec 32 := 7#32
  let c0_i32_88 : BitVec 32 := 0#32
  let v154 : BitVec 1 := Scalar.cmpi .sgt c7_i32_85 c0_i32_88
  let v155 : BitVec 32 := Scalar.extui v154
  let c0_i32_89 : BitVec 32 := 0#32
  let v156 : BitVec 1 := Scalar.cmpi .slt c7_i32_85 c0_i32_89
  let v157 : BitVec 32 := Scalar.extui v156
  let v158 : BitVec 32 := Scalar.subi v155 v157
  let v159 : BitVec 1 := Scalar.cmpi .ne v153 v158
  let v160 : BitVec 32 := Scalar.remsi c1_i32_84 c7_i32_85
  let c0_i32_90 : BitVec 32 := 0#32
  let v161 : BitVec 1 := Scalar.cmpi .ne v160 c0_i32_90
  let v162 : BitVec 1 := Scalar.andi v159 v161
  let v148 : BitVec 32 := Scalar.divsi c1_i32_84 c7_i32_85
  let c1_i32_91 : BitVec 32 := 1#32
  let v163 : BitVec 32 := Scalar.subi v148 c1_i32_91
  let v164 : BitVec 32 := Scalar.select v162 v163 v148
  let v165 : Index := Scalar.indexCast v164
  ![v165.toNat]
def k0_off13 : Fin 1 → Nat :=
  let c1_i32_92 : BitVec 32 := 1#32
  let c6_i32_93 : BitVec 32 := 6#32
  let v167 : BitVec 32 := Scalar.remsi c1_i32_92 c6_i32_93
  ![v167.toNat]
def k0_off14 : Fin 3 → Nat :=
  let c1_i32_92 : BitVec 32 := 1#32
  let c6_i32_93 : BitVec 32 := 6#32
  let v167 : BitVec 32 := Scalar.remsi c1_i32_92 c6_i32_93
  let c0_i32_96 : BitVec 32 := 0#32
  let c0_i32_97 : BitVec 32 := 0#32
  ![v167.toNat, 0, 0]
def k0_off15 (v166 : BitVec 32) : Fin 3 → Nat :=
  let c1_i32_94 : BitVec 32 := 1#32
  let c7_i32_95 : BitVec 32 := 7#32
  let v168 : BitVec 32 := Scalar.remsi c1_i32_94 c7_i32_95
  let c2048_i32 : BitVec 32 := 2048#32
  let v169 : BitVec 32 := Scalar.muli v168 c2048_i32
  let c0_i32_98 : BitVec 32 := 0#32
  ![v166.toNat, v169.toNat, 0]
def k0_cond2 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_13 : BitVec 32 := 1#32
  let v51 : BitVec 1 := Scalar.cmpi .sgt v47 c1_i32_13
  let v52 : BitVec 32 := Scalar.extui v51
  let c0_i32_14 : BitVec 32 := 0#32
  let v53 : BitVec 1 := Scalar.cmpi .ne v52 c0_i32_14
  v53

def k0_chk9 (v1 : BitVec 32) (v7 : BitVec 32) (v13 : BitVec 32) (v19 : BitVec 32) (v25 : BitVec 32) (v31 : BitVec 32) (v37 : BitVec 32) (v43 : BitVec 32) (v166 : BitVec 32) : Prop :=
  (∀ (k0_h2 : k0_cond2 v1 v7 v13 v19 v25 v31 v37 v43 = 1#1), ∀ a, (k0_off15 v166) a + S1x2048x2816.size a ≤ S8x14336x2816.size a) ∧
  (∀ (k0_h2 : k0_cond2 v1 v7 v13 v19 v25 v31 v37 v43 = 1#1), ∀ (hinb : ∀ a, (k0_off15 v166) a + S1x2048x2816.size a ≤ S8x14336x2816.size a), (Rect.unit (s := S8x14336x2816) (k0_off15 v166) S1x2048x2816.size hinb).WholeWords (EltTy.packing .fp8e4m3))
theorem k0_off15_inb : ∀ (v1 : BitVec 32) (v7 : BitVec 32) (v13 : BitVec 32) (v19 : BitVec 32) (v25 : BitVec 32) (v31 : BitVec 32) (v37 : BitVec 32) (v43 : BitVec 32) (v166 : BitVec 32) (k0_hw9 : k0_chk9 v1 v7 v13 v19 v25 v31 v37 v43 v166), ∀ (k0_h2 : k0_cond2 v1 v7 v13 v19 v25 v31 v37 v43 = 1#1), ∀ a, (k0_off15 v166) a + S1x2048x2816.size a ≤ S8x14336x2816.size a := fun v1 v7 v13 v19 v25 v31 v37 v43 v166 k0_hw9 k0_h2 => k0_hw9.1 k0_h2
theorem k0_off15_wordsfp8e4m3 : ∀ (v1 : BitVec 32) (v7 : BitVec 32) (v13 : BitVec 32) (v19 : BitVec 32) (v25 : BitVec 32) (v31 : BitVec 32) (v37 : BitVec 32) (v43 : BitVec 32) (v166 : BitVec 32) (k0_hw9 : k0_chk9 v1 v7 v13 v19 v25 v31 v37 v43 v166), ∀ (k0_h2 : k0_cond2 v1 v7 v13 v19 v25 v31 v37 v43 = 1#1), (Rect.unit (s := S8x14336x2816) (k0_off15 v166) S1x2048x2816.size (k0_off15_inb v1 v7 v13 v19 v25 v31 v37 v43 v166 k0_hw9 k0_h2)).WholeWords (EltTy.packing .fp8e4m3) := fun v1 v7 v13 v19 v25 v31 v37 v43 v166 k0_hw9 k0_h2 => k0_hw9.2 k0_h2 (k0_off15_inb v1 v7 v13 v19 v25 v31 v37 v43 v166 k0_hw9 k0_h2)

def k0_off16 : Fin 1 → Nat :=
  let c2_i32_84 : BitVec 32 := 2#32
  let c0_i32_86 : BitVec 32 := 0#32
  let v149 : BitVec 1 := Scalar.cmpi .sgt c2_i32_84 c0_i32_86
  let v150 : BitVec 32 := Scalar.extui v149
  let c0_i32_87 : BitVec 32 := 0#32
  let v151 : BitVec 1 := Scalar.cmpi .slt c2_i32_84 c0_i32_87
  let v152 : BitVec 32 := Scalar.extui v151
  let v153 : BitVec 32 := Scalar.subi v150 v152
  let c7_i32_85 : BitVec 32 := 7#32
  let c0_i32_88 : BitVec 32 := 0#32
  let v154 : BitVec 1 := Scalar.cmpi .sgt c7_i32_85 c0_i32_88
  let v155 : BitVec 32 := Scalar.extui v154
  let c0_i32_89 : BitVec 32 := 0#32
  let v156 : BitVec 1 := Scalar.cmpi .slt c7_i32_85 c0_i32_89
  let v157 : BitVec 32 := Scalar.extui v156
  let v158 : BitVec 32 := Scalar.subi v155 v157
  let v159 : BitVec 1 := Scalar.cmpi .ne v153 v158
  let v160 : BitVec 32 := Scalar.remsi c2_i32_84 c7_i32_85
  let c0_i32_90 : BitVec 32 := 0#32
  let v161 : BitVec 1 := Scalar.cmpi .ne v160 c0_i32_90
  let v162 : BitVec 1 := Scalar.andi v159 v161
  let v148 : BitVec 32 := Scalar.divsi c2_i32_84 c7_i32_85
  let c1_i32_91 : BitVec 32 := 1#32
  let v163 : BitVec 32 := Scalar.subi v148 c1_i32_91
  let v164 : BitVec 32 := Scalar.select v162 v163 v148
  let v165 : Index := Scalar.indexCast v164
  ![v165.toNat]
def k0_off17 : Fin 1 → Nat :=
  let c2_i32_92 : BitVec 32 := 2#32
  let c6_i32_93 : BitVec 32 := 6#32
  let v167 : BitVec 32 := Scalar.remsi c2_i32_92 c6_i32_93
  ![v167.toNat]
def k0_off18 : Fin 3 → Nat :=
  let c2_i32_92 : BitVec 32 := 2#32
  let c6_i32_93 : BitVec 32 := 6#32
  let v167 : BitVec 32 := Scalar.remsi c2_i32_92 c6_i32_93
  let c0_i32_96 : BitVec 32 := 0#32
  let c0_i32_97 : BitVec 32 := 0#32
  ![v167.toNat, 0, 0]
def k0_off19 (v166 : BitVec 32) : Fin 3 → Nat :=
  let c2_i32_94 : BitVec 32 := 2#32
  let c7_i32_95 : BitVec 32 := 7#32
  let v168 : BitVec 32 := Scalar.remsi c2_i32_94 c7_i32_95
  let c2048_i32 : BitVec 32 := 2048#32
  let v169 : BitVec 32 := Scalar.muli v168 c2048_i32
  let c0_i32_98 : BitVec 32 := 0#32
  ![v166.toNat, v169.toNat, 0]
def k0_cond3 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c2_i32_15 : BitVec 32 := 2#32
  let v54 : BitVec 1 := Scalar.cmpi .sgt v47 c2_i32_15
  let v55 : BitVec 32 := Scalar.extui v54
  let c0_i32_16 : BitVec 32 := 0#32
  let v56 : BitVec 1 := Scalar.cmpi .ne v55 c0_i32_16
  v56

def k0_chk10 (v1 : BitVec 32) (v7 : BitVec 32) (v13 : BitVec 32) (v19 : BitVec 32) (v25 : BitVec 32) (v31 : BitVec 32) (v37 : BitVec 32) (v43 : BitVec 32) (v166 : BitVec 32) : Prop :=
  (∀ (k0_h3 : k0_cond3 v1 v7 v13 v19 v25 v31 v37 v43 = 1#1), ∀ a, (k0_off19 v166) a + S1x2048x2816.size a ≤ S8x14336x2816.size a) ∧
  (∀ (k0_h3 : k0_cond3 v1 v7 v13 v19 v25 v31 v37 v43 = 1#1), ∀ (hinb : ∀ a, (k0_off19 v166) a + S1x2048x2816.size a ≤ S8x14336x2816.size a), (Rect.unit (s := S8x14336x2816) (k0_off19 v166) S1x2048x2816.size hinb).WholeWords (EltTy.packing .fp8e4m3))
theorem k0_off19_inb : ∀ (v1 : BitVec 32) (v7 : BitVec 32) (v13 : BitVec 32) (v19 : BitVec 32) (v25 : BitVec 32) (v31 : BitVec 32) (v37 : BitVec 32) (v43 : BitVec 32) (v166 : BitVec 32) (k0_hw10 : k0_chk10 v1 v7 v13 v19 v25 v31 v37 v43 v166), ∀ (k0_h3 : k0_cond3 v1 v7 v13 v19 v25 v31 v37 v43 = 1#1), ∀ a, (k0_off19 v166) a + S1x2048x2816.size a ≤ S8x14336x2816.size a := fun v1 v7 v13 v19 v25 v31 v37 v43 v166 k0_hw10 k0_h3 => k0_hw10.1 k0_h3
theorem k0_off19_wordsfp8e4m3 : ∀ (v1 : BitVec 32) (v7 : BitVec 32) (v13 : BitVec 32) (v19 : BitVec 32) (v25 : BitVec 32) (v31 : BitVec 32) (v37 : BitVec 32) (v43 : BitVec 32) (v166 : BitVec 32) (k0_hw10 : k0_chk10 v1 v7 v13 v19 v25 v31 v37 v43 v166), ∀ (k0_h3 : k0_cond3 v1 v7 v13 v19 v25 v31 v37 v43 = 1#1), (Rect.unit (s := S8x14336x2816) (k0_off19 v166) S1x2048x2816.size (k0_off19_inb v1 v7 v13 v19 v25 v31 v37 v43 v166 k0_hw10 k0_h3)).WholeWords (EltTy.packing .fp8e4m3) := fun v1 v7 v13 v19 v25 v31 v37 v43 v166 k0_hw10 k0_h3 => k0_hw10.2 k0_h3 (k0_off19_inb v1 v7 v13 v19 v25 v31 v37 v43 v166 k0_hw10 k0_h3)

def k0_off20 : Fin 1 → Nat :=
  let c3_i32_84 : BitVec 32 := 3#32
  let c0_i32_86 : BitVec 32 := 0#32
  let v149 : BitVec 1 := Scalar.cmpi .sgt c3_i32_84 c0_i32_86
  let v150 : BitVec 32 := Scalar.extui v149
  let c0_i32_87 : BitVec 32 := 0#32
  let v151 : BitVec 1 := Scalar.cmpi .slt c3_i32_84 c0_i32_87
  let v152 : BitVec 32 := Scalar.extui v151
  let v153 : BitVec 32 := Scalar.subi v150 v152
  let c7_i32_85 : BitVec 32 := 7#32
  let c0_i32_88 : BitVec 32 := 0#32
  let v154 : BitVec 1 := Scalar.cmpi .sgt c7_i32_85 c0_i32_88
  let v155 : BitVec 32 := Scalar.extui v154
  let c0_i32_89 : BitVec 32 := 0#32
  let v156 : BitVec 1 := Scalar.cmpi .slt c7_i32_85 c0_i32_89
  let v157 : BitVec 32 := Scalar.extui v156
  let v158 : BitVec 32 := Scalar.subi v155 v157
  let v159 : BitVec 1 := Scalar.cmpi .ne v153 v158
  let v160 : BitVec 32 := Scalar.remsi c3_i32_84 c7_i32_85
  let c0_i32_90 : BitVec 32 := 0#32
  let v161 : BitVec 1 := Scalar.cmpi .ne v160 c0_i32_90
  let v162 : BitVec 1 := Scalar.andi v159 v161
  let v148 : BitVec 32 := Scalar.divsi c3_i32_84 c7_i32_85
  let c1_i32_91 : BitVec 32 := 1#32
  let v163 : BitVec 32 := Scalar.subi v148 c1_i32_91
  let v164 : BitVec 32 := Scalar.select v162 v163 v148
  let v165 : Index := Scalar.indexCast v164
  ![v165.toNat]
def k0_off21 : Fin 1 → Nat :=
  let c3_i32_92 : BitVec 32 := 3#32
  let c6_i32_93 : BitVec 32 := 6#32
  let v167 : BitVec 32 := Scalar.remsi c3_i32_92 c6_i32_93
  ![v167.toNat]
def k0_off22 : Fin 3 → Nat :=
  let c3_i32_92 : BitVec 32 := 3#32
  let c6_i32_93 : BitVec 32 := 6#32
  let v167 : BitVec 32 := Scalar.remsi c3_i32_92 c6_i32_93
  let c0_i32_96 : BitVec 32 := 0#32
  let c0_i32_97 : BitVec 32 := 0#32
  ![v167.toNat, 0, 0]
def k0_off23 (v166 : BitVec 32) : Fin 3 → Nat :=
  let c3_i32_94 : BitVec 32 := 3#32
  let c7_i32_95 : BitVec 32 := 7#32
  let v168 : BitVec 32 := Scalar.remsi c3_i32_94 c7_i32_95
  let c2048_i32 : BitVec 32 := 2048#32
  let v169 : BitVec 32 := Scalar.muli v168 c2048_i32
  let c0_i32_98 : BitVec 32 := 0#32
  ![v166.toNat, v169.toNat, 0]
def k0_cond4 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c3_i32_17 : BitVec 32 := 3#32
  let v57 : BitVec 1 := Scalar.cmpi .sgt v47 c3_i32_17
  let v58 : BitVec 32 := Scalar.extui v57
  let c0_i32_18 : BitVec 32 := 0#32
  let v59 : BitVec 1 := Scalar.cmpi .ne v58 c0_i32_18
  v59

def k0_chk11 (v1 : BitVec 32) (v7 : BitVec 32) (v13 : BitVec 32) (v19 : BitVec 32) (v25 : BitVec 32) (v31 : BitVec 32) (v37 : BitVec 32) (v43 : BitVec 32) (v166 : BitVec 32) : Prop :=
  (∀ (k0_h4 : k0_cond4 v1 v7 v13 v19 v25 v31 v37 v43 = 1#1), ∀ a, (k0_off23 v166) a + S1x2048x2816.size a ≤ S8x14336x2816.size a) ∧
  (∀ (k0_h4 : k0_cond4 v1 v7 v13 v19 v25 v31 v37 v43 = 1#1), ∀ (hinb : ∀ a, (k0_off23 v166) a + S1x2048x2816.size a ≤ S8x14336x2816.size a), (Rect.unit (s := S8x14336x2816) (k0_off23 v166) S1x2048x2816.size hinb).WholeWords (EltTy.packing .fp8e4m3))
theorem k0_off23_inb : ∀ (v1 : BitVec 32) (v7 : BitVec 32) (v13 : BitVec 32) (v19 : BitVec 32) (v25 : BitVec 32) (v31 : BitVec 32) (v37 : BitVec 32) (v43 : BitVec 32) (v166 : BitVec 32) (k0_hw11 : k0_chk11 v1 v7 v13 v19 v25 v31 v37 v43 v166), ∀ (k0_h4 : k0_cond4 v1 v7 v13 v19 v25 v31 v37 v43 = 1#1), ∀ a, (k0_off23 v166) a + S1x2048x2816.size a ≤ S8x14336x2816.size a := fun v1 v7 v13 v19 v25 v31 v37 v43 v166 k0_hw11 k0_h4 => k0_hw11.1 k0_h4
theorem k0_off23_wordsfp8e4m3 : ∀ (v1 : BitVec 32) (v7 : BitVec 32) (v13 : BitVec 32) (v19 : BitVec 32) (v25 : BitVec 32) (v31 : BitVec 32) (v37 : BitVec 32) (v43 : BitVec 32) (v166 : BitVec 32) (k0_hw11 : k0_chk11 v1 v7 v13 v19 v25 v31 v37 v43 v166), ∀ (k0_h4 : k0_cond4 v1 v7 v13 v19 v25 v31 v37 v43 = 1#1), (Rect.unit (s := S8x14336x2816) (k0_off23 v166) S1x2048x2816.size (k0_off23_inb v1 v7 v13 v19 v25 v31 v37 v43 v166 k0_hw11 k0_h4)).WholeWords (EltTy.packing .fp8e4m3) := fun v1 v7 v13 v19 v25 v31 v37 v43 v166 k0_hw11 k0_h4 => k0_hw11.2 k0_h4 (k0_off23_inb v1 v7 v13 v19 v25 v31 v37 v43 v166 k0_hw11 k0_h4)

def k0_off24 : Fin 1 → Nat :=
  let c4_i32_84 : BitVec 32 := 4#32
  let c0_i32_86 : BitVec 32 := 0#32
  let v149 : BitVec 1 := Scalar.cmpi .sgt c4_i32_84 c0_i32_86
  let v150 : BitVec 32 := Scalar.extui v149
  let c0_i32_87 : BitVec 32 := 0#32
  let v151 : BitVec 1 := Scalar.cmpi .slt c4_i32_84 c0_i32_87
  let v152 : BitVec 32 := Scalar.extui v151
  let v153 : BitVec 32 := Scalar.subi v150 v152
  let c7_i32_85 : BitVec 32 := 7#32
  let c0_i32_88 : BitVec 32 := 0#32
  let v154 : BitVec 1 := Scalar.cmpi .sgt c7_i32_85 c0_i32_88
  let v155 : BitVec 32 := Scalar.extui v154
  let c0_i32_89 : BitVec 32 := 0#32
  let v156 : BitVec 1 := Scalar.cmpi .slt c7_i32_85 c0_i32_89
  let v157 : BitVec 32 := Scalar.extui v156
  let v158 : BitVec 32 := Scalar.subi v155 v157
  let v159 : BitVec 1 := Scalar.cmpi .ne v153 v158
  let v160 : BitVec 32 := Scalar.remsi c4_i32_84 c7_i32_85
  let c0_i32_90 : BitVec 32 := 0#32
  let v161 : BitVec 1 := Scalar.cmpi .ne v160 c0_i32_90
  let v162 : BitVec 1 := Scalar.andi v159 v161
  let v148 : BitVec 32 := Scalar.divsi c4_i32_84 c7_i32_85
  let c1_i32_91 : BitVec 32 := 1#32
  let v163 : BitVec 32 := Scalar.subi v148 c1_i32_91
  let v164 : BitVec 32 := Scalar.select v162 v163 v148
  let v165 : Index := Scalar.indexCast v164
  ![v165.toNat]
def k0_off25 : Fin 1 → Nat :=
  let c4_i32_92 : BitVec 32 := 4#32
  let c6_i32_93 : BitVec 32 := 6#32
  let v167 : BitVec 32 := Scalar.remsi c4_i32_92 c6_i32_93
  ![v167.toNat]
def k0_off26 : Fin 3 → Nat :=
  let c4_i32_92 : BitVec 32 := 4#32
  let c6_i32_93 : BitVec 32 := 6#32
  let v167 : BitVec 32 := Scalar.remsi c4_i32_92 c6_i32_93
  let c0_i32_96 : BitVec 32 := 0#32
  let c0_i32_97 : BitVec 32 := 0#32
  ![v167.toNat, 0, 0]
def k0_off27 (v166 : BitVec 32) : Fin 3 → Nat :=
  let c4_i32_94 : BitVec 32 := 4#32
  let c7_i32_95 : BitVec 32 := 7#32
  let v168 : BitVec 32 := Scalar.remsi c4_i32_94 c7_i32_95
  let c2048_i32 : BitVec 32 := 2048#32
  let v169 : BitVec 32 := Scalar.muli v168 c2048_i32
  let c0_i32_98 : BitVec 32 := 0#32
  ![v166.toNat, v169.toNat, 0]
def k0_cond5 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c4_i32_19 : BitVec 32 := 4#32
  let v60 : BitVec 1 := Scalar.cmpi .sgt v47 c4_i32_19
  let v61 : BitVec 32 := Scalar.extui v60
  let c0_i32_20 : BitVec 32 := 0#32
  let v62 : BitVec 1 := Scalar.cmpi .ne v61 c0_i32_20
  v62

def k0_chk12 (v1 : BitVec 32) (v7 : BitVec 32) (v13 : BitVec 32) (v19 : BitVec 32) (v25 : BitVec 32) (v31 : BitVec 32) (v37 : BitVec 32) (v43 : BitVec 32) (v166 : BitVec 32) : Prop :=
  (∀ (k0_h5 : k0_cond5 v1 v7 v13 v19 v25 v31 v37 v43 = 1#1), ∀ a, (k0_off27 v166) a + S1x2048x2816.size a ≤ S8x14336x2816.size a) ∧
  (∀ (k0_h5 : k0_cond5 v1 v7 v13 v19 v25 v31 v37 v43 = 1#1), ∀ (hinb : ∀ a, (k0_off27 v166) a + S1x2048x2816.size a ≤ S8x14336x2816.size a), (Rect.unit (s := S8x14336x2816) (k0_off27 v166) S1x2048x2816.size hinb).WholeWords (EltTy.packing .fp8e4m3))
theorem k0_off27_inb : ∀ (v1 : BitVec 32) (v7 : BitVec 32) (v13 : BitVec 32) (v19 : BitVec 32) (v25 : BitVec 32) (v31 : BitVec 32) (v37 : BitVec 32) (v43 : BitVec 32) (v166 : BitVec 32) (k0_hw12 : k0_chk12 v1 v7 v13 v19 v25 v31 v37 v43 v166), ∀ (k0_h5 : k0_cond5 v1 v7 v13 v19 v25 v31 v37 v43 = 1#1), ∀ a, (k0_off27 v166) a + S1x2048x2816.size a ≤ S8x14336x2816.size a := fun v1 v7 v13 v19 v25 v31 v37 v43 v166 k0_hw12 k0_h5 => k0_hw12.1 k0_h5
theorem k0_off27_wordsfp8e4m3 : ∀ (v1 : BitVec 32) (v7 : BitVec 32) (v13 : BitVec 32) (v19 : BitVec 32) (v25 : BitVec 32) (v31 : BitVec 32) (v37 : BitVec 32) (v43 : BitVec 32) (v166 : BitVec 32) (k0_hw12 : k0_chk12 v1 v7 v13 v19 v25 v31 v37 v43 v166), ∀ (k0_h5 : k0_cond5 v1 v7 v13 v19 v25 v31 v37 v43 = 1#1), (Rect.unit (s := S8x14336x2816) (k0_off27 v166) S1x2048x2816.size (k0_off27_inb v1 v7 v13 v19 v25 v31 v37 v43 v166 k0_hw12 k0_h5)).WholeWords (EltTy.packing .fp8e4m3) := fun v1 v7 v13 v19 v25 v31 v37 v43 v166 k0_hw12 k0_h5 => k0_hw12.2 k0_h5 (k0_off27_inb v1 v7 v13 v19 v25 v31 v37 v43 v166 k0_hw12 k0_h5)

@[reducible] def k0_t1_loop (v1 : BitVec 32) (v7 : BitVec 32) (v13 : BitVec 32) (v19 : BitVec 32) (v25 : BitVec 32) (v31 : BitVec 32) (v37 : BitVec 32) (v43 : BitVec 32) : Scf.Loop 32 :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_50 : BitVec 32 := 1#32
  ⟨c0_i32_48, v103, c1_i32_50⟩

def k0_off28 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c0_i32_86 : BitVec 32 := 0#32
  let v150 : BitVec 1 := Scalar.cmpi .sgt arg20 c0_i32_86
  let v151 : BitVec 32 := Scalar.extui v150
  let c0_i32_87 : BitVec 32 := 0#32
  let v152 : BitVec 1 := Scalar.cmpi .slt arg20 c0_i32_87
  let v153 : BitVec 32 := Scalar.extui v152
  let v154 : BitVec 32 := Scalar.subi v151 v153
  let c7_i32_85 : BitVec 32 := 7#32
  let c0_i32_88 : BitVec 32 := 0#32
  let v155 : BitVec 1 := Scalar.cmpi .sgt c7_i32_85 c0_i32_88
  let v156 : BitVec 32 := Scalar.extui v155
  let c0_i32_89 : BitVec 32 := 0#32
  let v157 : BitVec 1 := Scalar.cmpi .slt c7_i32_85 c0_i32_89
  let v158 : BitVec 32 := Scalar.extui v157
  let v159 : BitVec 32 := Scalar.subi v156 v158
  let v160 : BitVec 1 := Scalar.cmpi .ne v154 v159
  let v161 : BitVec 32 := Scalar.remsi arg20 c7_i32_85
  let c0_i32_90 : BitVec 32 := 0#32
  let v162 : BitVec 1 := Scalar.cmpi .ne v161 c0_i32_90
  let v163 : BitVec 1 := Scalar.andi v160 v162
  let v149 : BitVec 32 := Scalar.divsi arg20 c7_i32_85
  let c1_i32_91 : BitVec 32 := 1#32
  let v164 : BitVec 32 := Scalar.subi v149 c1_i32_91
  let v165 : BitVec 32 := Scalar.select v163 v164 v149
  let v166 : Index := Scalar.indexCast v165
  ![v166.toNat]
def k0_off29 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c6_i32_126 : BitVec 32 := 6#32
  let v239 : BitVec 32 := Scalar.addi arg20 c6_i32_126
  let c1_i32_127 : BitVec 32 := 1#32
  let v240 : BitVec 32 := Scalar.subi v239 c1_i32_127
  let c0_i32_129 : BitVec 32 := 0#32
  let v242 : BitVec 1 := Scalar.cmpi .sgt v240 c0_i32_129
  let v243 : BitVec 32 := Scalar.extui v242
  let c0_i32_130 : BitVec 32 := 0#32
  let v244 : BitVec 1 := Scalar.cmpi .slt v240 c0_i32_130
  let v245 : BitVec 32 := Scalar.extui v244
  let v246 : BitVec 32 := Scalar.subi v243 v245
  let c7_i32_128 : BitVec 32 := 7#32
  let c0_i32_131 : BitVec 32 := 0#32
  let v247 : BitVec 1 := Scalar.cmpi .sgt c7_i32_128 c0_i32_131
  let v248 : BitVec 32 := Scalar.extui v247
  let c0_i32_132 : BitVec 32 := 0#32
  let v249 : BitVec 1 := Scalar.cmpi .slt c7_i32_128 c0_i32_132
  let v250 : BitVec 32 := Scalar.extui v249
  let v251 : BitVec 32 := Scalar.subi v248 v250
  let v252 : BitVec 1 := Scalar.cmpi .ne v246 v251
  let v253 : BitVec 32 := Scalar.remsi v240 c7_i32_128
  let c0_i32_133 : BitVec 32 := 0#32
  let v254 : BitVec 1 := Scalar.cmpi .ne v253 c0_i32_133
  let v255 : BitVec 1 := Scalar.andi v252 v254
  let v241 : BitVec 32 := Scalar.divsi v240 c7_i32_128
  let c1_i32_134 : BitVec 32 := 1#32
  let v256 : BitVec 32 := Scalar.subi v241 c1_i32_134
  let v257 : BitVec 32 := Scalar.select v255 v256 v241
  let v258 : Index := Scalar.indexCast v257
  ![v258.toNat]
def k0_cond14 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : BitVec 1 :=
  let c0_i32_48 : BitVec 32 := 0#32
  let c1_i32_50 : BitVec 32 := 1#32
  let arg20 : BitVec 32 := Scf.iv c0_i32_48 c1_i32_50 k0_t1
  let c6_i32_94 : BitVec 32 := 6#32
  let v170 : BitVec 32 := Scalar.addi arg20 c6_i32_94
  let c1_i32_95 : BitVec 32 := 1#32
  let v171 : BitVec 32 := Scalar.subi v170 c1_i32_95
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v172 : BitVec 1 := Scalar.cmpi .slt v171 v47
  let v173 : BitVec 32 := Scalar.extui v172
  let c0_i32_96 : BitVec 32 := 0#32
  let v174 : BitVec 1 := Scalar.cmpi .ne v173 c0_i32_96
  v174

def k0_off30 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c6_i32_126 : BitVec 32 := 6#32
  let v239 : BitVec 32 := Scalar.addi arg20 c6_i32_126
  let c1_i32_127 : BitVec 32 := 1#32
  let v240 : BitVec 32 := Scalar.subi v239 c1_i32_127
  let c6_i32_135 : BitVec 32 := 6#32
  let v260 : BitVec 32 := Scalar.remsi v240 c6_i32_135
  ![v260.toNat]
def k0_off31 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 3 → Nat :=
  let c0_i32_48 : BitVec 32 := 0#32
  let c1_i32_50 : BitVec 32 := 1#32
  let arg20 : BitVec 32 := Scf.iv c0_i32_48 c1_i32_50 k0_t1
  let c6_i32_126 : BitVec 32 := 6#32
  let v239 : BitVec 32 := Scalar.addi arg20 c6_i32_126
  let c1_i32_127 : BitVec 32 := 1#32
  let v240 : BitVec 32 := Scalar.subi v239 c1_i32_127
  let c6_i32_135 : BitVec 32 := 6#32
  let v260 : BitVec 32 := Scalar.remsi v240 c6_i32_135
  let c0_i32_138 : BitVec 32 := 0#32
  let c0_i32_139 : BitVec 32 := 0#32
  ![v260.toNat, 0, 0]
def k0_off32 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v259 : BitVec 32) : Fin 3 → Nat :=
  let c0_i32_48 : BitVec 32 := 0#32
  let c1_i32_50 : BitVec 32 := 1#32
  let arg20 : BitVec 32 := Scf.iv c0_i32_48 c1_i32_50 k0_t1
  let c6_i32_126 : BitVec 32 := 6#32
  let v239 : BitVec 32 := Scalar.addi arg20 c6_i32_126
  let c1_i32_127 : BitVec 32 := 1#32
  let v240 : BitVec 32 := Scalar.subi v239 c1_i32_127
  let c7_i32_136 : BitVec 32 := 7#32
  let v261 : BitVec 32 := Scalar.remsi v240 c7_i32_136
  let c2048_i32_137 : BitVec 32 := 2048#32
  let v262 : BitVec 32 := Scalar.muli v261 c2048_i32_137
  let c0_i32_140 : BitVec 32 := 0#32
  ![v259.toNat, v262.toNat, 0]

def k0_chk14 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v259 : BitVec 32) : Prop :=
  (∀ (k0_h14 : k0_cond14 v1 v7 v13 v19 v25 v31 v37 v43 k0_t1 = 1#1), ∀ a, (k0_off32 v1 v7 v13 v19 v25 v31 v37 v43 k0_t1 v259) a + S1x2048x2816.size a ≤ S8x14336x2816.size a) ∧
  (∀ (k0_h14 : k0_cond14 v1 v7 v13 v19 v25 v31 v37 v43 k0_t1 = 1#1), ∀ (hinb : ∀ a, (k0_off32 v1 v7 v13 v19 v25 v31 v37 v43 k0_t1 v259) a + S1x2048x2816.size a ≤ S8x14336x2816.size a), (Rect.unit (s := S8x14336x2816) (k0_off32 v1 v7 v13 v19 v25 v31 v37 v43 k0_t1 v259) S1x2048x2816.size hinb).WholeWords (EltTy.packing .fp8e4m3))
theorem k0_off32_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v259 : BitVec 32) (k0_hw14 : k0_chk14 v1 v7 v13 v19 v25 v31 v37 v43 k0_t1 v259), ∀ (k0_h14 : k0_cond14 v1 v7 v13 v19 v25 v31 v37 v43 k0_t1 = 1#1), ∀ a, (k0_off32 v1 v7 v13 v19 v25 v31 v37 v43 k0_t1 v259) a + S1x2048x2816.size a ≤ S8x14336x2816.size a := fun v1 v7 v13 v19 v25 v31 v37 v43 k0_t1 v259 k0_hw14 k0_h14 => k0_hw14.1 k0_h14
theorem k0_off32_wordsfp8e4m3 : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v259 : BitVec 32) (k0_hw14 : k0_chk14 v1 v7 v13 v19 v25 v31 v37 v43 k0_t1 v259), ∀ (k0_h14 : k0_cond14 v1 v7 v13 v19 v25 v31 v37 v43 k0_t1 = 1#1), (Rect.unit (s := S8x14336x2816) (k0_off32 v1 v7 v13 v19 v25 v31 v37 v43 k0_t1 v259) S1x2048x2816.size (k0_off32_inb v1 v7 v13 v19 v25 v31 v37 v43 k0_t1 v259 k0_hw14 k0_h14)).WholeWords (EltTy.packing .fp8e4m3) := fun v1 v7 v13 v19 v25 v31 v37 v43 k0_t1 v259 k0_hw14 k0_h14 => k0_hw14.2 k0_h14 (k0_off32_inb v1 v7 v13 v19 v25 v31 v37 v43 k0_t1 v259 k0_hw14 k0_h14)

def k0_cond15 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : BitVec 1 :=
  let c0_i32_48 : BitVec 32 := 0#32
  let c1_i32_50 : BitVec 32 := 1#32
  let arg20 : BitVec 32 := Scf.iv c0_i32_48 c1_i32_50 k0_t1
  let c0_i32_97 : BitVec 32 := 0#32
  let v175 : BitVec 1 := Scalar.cmpi .sgt arg20 c0_i32_97
  let v176 : BitVec 32 := Scalar.extui v175
  let c0_i32_98 : BitVec 32 := 0#32
  let v177 : BitVec 1 := Scalar.cmpi .ne v176 c0_i32_98
  v177

def k0_off33 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c1_i32_126 : BitVec 32 := 1#32
  let v239 : BitVec 32 := Scalar.subi arg20 c1_i32_126
  let c0_i32_128 : BitVec 32 := 0#32
  let v241 : BitVec 1 := Scalar.cmpi .sgt v239 c0_i32_128
  let v242 : BitVec 32 := Scalar.extui v241
  let c0_i32_129 : BitVec 32 := 0#32
  let v243 : BitVec 1 := Scalar.cmpi .slt v239 c0_i32_129
  let v244 : BitVec 32 := Scalar.extui v243
  let v245 : BitVec 32 := Scalar.subi v242 v244
  let c7_i32_127 : BitVec 32 := 7#32
  let c0_i32_130 : BitVec 32 := 0#32
  let v246 : BitVec 1 := Scalar.cmpi .sgt c7_i32_127 c0_i32_130
  let v247 : BitVec 32 := Scalar.extui v246
  let c0_i32_131 : BitVec 32 := 0#32
  let v248 : BitVec 1 := Scalar.cmpi .slt c7_i32_127 c0_i32_131
  let v249 : BitVec 32 := Scalar.extui v248
  let v250 : BitVec 32 := Scalar.subi v247 v249
  let v251 : BitVec 1 := Scalar.cmpi .ne v245 v250
  let v252 : BitVec 32 := Scalar.remsi v239 c7_i32_127
  let c0_i32_132 : BitVec 32 := 0#32
  let v253 : BitVec 1 := Scalar.cmpi .ne v252 c0_i32_132
  let v254 : BitVec 1 := Scalar.andi v251 v253
  let v240 : BitVec 32 := Scalar.divsi v239 c7_i32_127
  let c1_i32_133 : BitVec 32 := 1#32
  let v255 : BitVec 32 := Scalar.subi v240 c1_i32_133
  let v256 : BitVec 32 := Scalar.select v254 v255 v240
  let v257 : Index := Scalar.indexCast v256
  ![v257.toNat]
def k0_off34 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c1_i32_126 : BitVec 32 := 1#32
  let v239 : BitVec 32 := Scalar.subi arg20 c1_i32_126
  let c3_i32_134 : BitVec 32 := 3#32
  let v259 : BitVec 32 := Scalar.remsi v239 c3_i32_134
  ![v259.toNat]
def k0_off35 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v258 : BitVec 32) : Fin 3 → Nat :=
  let c0_i32_137 : BitVec 32 := 0#32
  let c0_i32_48 : BitVec 32 := 0#32
  let c1_i32_50 : BitVec 32 := 1#32
  let arg20 : BitVec 32 := Scf.iv c0_i32_48 c1_i32_50 k0_t1
  let c1_i32_126 : BitVec 32 := 1#32
  let v239 : BitVec 32 := Scalar.subi arg20 c1_i32_126
  let c7_i32_135 : BitVec 32 := 7#32
  let v260 : BitVec 32 := Scalar.remsi v239 c7_i32_135
  let c2048_i32_136 : BitVec 32 := 2048#32
  let v261 : BitVec 32 := Scalar.muli v260 c2048_i32_136
  ![v258.toNat, 0, v261.toNat]

def k0_off36 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 3 → Nat :=
  let c0_i32_48 : BitVec 32 := 0#32
  let c1_i32_50 : BitVec 32 := 1#32
  let arg20 : BitVec 32 := Scf.iv c0_i32_48 c1_i32_50 k0_t1
  let c1_i32_126 : BitVec 32 := 1#32
  let v239 : BitVec 32 := Scalar.subi arg20 c1_i32_126
  let c3_i32_134 : BitVec 32 := 3#32
  let v259 : BitVec 32 := Scalar.remsi v239 c3_i32_134
  let c0_i32_138 : BitVec 32 := 0#32
  let c0_i32_139 : BitVec 32 := 0#32
  ![v259.toNat, 0, 0]

def k0_chk15 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v258 : BitVec 32) : Prop :=
  (∀ (k0_h15 : k0_cond15 v1 v7 v13 v19 v25 v31 v37 v43 k0_t1 = 1#1), ∀ a, (k0_off35 v1 v7 v13 v19 v25 v31 v37 v43 k0_t1 v258) a + S1x32x2048.size a ≤ S8x32x14336.size a) ∧
  (∀ (k0_h15 : k0_cond15 v1 v7 v13 v19 v25 v31 v37 v43 k0_t1 = 1#1), ∀ (hinb : ∀ a, (k0_off35 v1 v7 v13 v19 v25 v31 v37 v43 k0_t1 v258) a + S1x32x2048.size a ≤ S8x32x14336.size a), (Rect.unit (s := S8x32x14336) (k0_off35 v1 v7 v13 v19 v25 v31 v37 v43 k0_t1 v258) S1x32x2048.size hinb).WholeWords (EltTy.packing .bf16))
theorem k0_off35_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v258 : BitVec 32) (k0_hw15 : k0_chk15 v1 v7 v13 v19 v25 v31 v37 v43 k0_t1 v258), ∀ (k0_h15 : k0_cond15 v1 v7 v13 v19 v25 v31 v37 v43 k0_t1 = 1#1), ∀ a, (k0_off35 v1 v7 v13 v19 v25 v31 v37 v43 k0_t1 v258) a + S1x32x2048.size a ≤ S8x32x14336.size a := fun v1 v7 v13 v19 v25 v31 v37 v43 k0_t1 v258 k0_hw15 k0_h15 => k0_hw15.1 k0_h15
theorem k0_off35_wordsbf16 : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v258 : BitVec 32) (k0_hw15 : k0_chk15 v1 v7 v13 v19 v25 v31 v37 v43 k0_t1 v258), ∀ (k0_h15 : k0_cond15 v1 v7 v13 v19 v25 v31 v37 v43 k0_t1 = 1#1), (Rect.unit (s := S8x32x14336) (k0_off35 v1 v7 v13 v19 v25 v31 v37 v43 k0_t1 v258) S1x32x2048.size (k0_off35_inb v1 v7 v13 v19 v25 v31 v37 v43 k0_t1 v258 k0_hw15 k0_h15)).WholeWords (EltTy.packing .bf16) := fun v1 v7 v13 v19 v25 v31 v37 v43 k0_t1 v258 k0_hw15 k0_h15 => k0_hw15.2 k0_h15 (k0_off35_inb v1 v7 v13 v19 v25 v31 v37 v43 k0_t1 v258 k0_hw15 k0_h15)

def k0_cond16 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : BitVec 1 :=
  let c0_i32_48 : BitVec 32 := 0#32
  let c1_i32_50 : BitVec 32 := 1#32
  let arg20 : BitVec 32 := Scf.iv c0_i32_48 c1_i32_50 k0_t1
  let c3_i32_99 : BitVec 32 := 3#32
  let v178 : BitVec 1 := Scalar.cmpi .sge arg20 c3_i32_99
  let v179 : BitVec 32 := Scalar.extui v178
  let c0_i32_100 : BitVec 32 := 0#32
  let v180 : BitVec 1 := Scalar.cmpi .ne v179 c0_i32_100
  v180

def k0_off37 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c3_i32_126 : BitVec 32 := 3#32
  let v239 : BitVec 32 := Scalar.subi arg20 c3_i32_126
  let c0_i32_128 : BitVec 32 := 0#32
  let v241 : BitVec 1 := Scalar.cmpi .sgt v239 c0_i32_128
  let v242 : BitVec 32 := Scalar.extui v241
  let c0_i32_129 : BitVec 32 := 0#32
  let v243 : BitVec 1 := Scalar.cmpi .slt v239 c0_i32_129
  let v244 : BitVec 32 := Scalar.extui v243
  let v245 : BitVec 32 := Scalar.subi v242 v244
  let c7_i32_127 : BitVec 32 := 7#32
  let c0_i32_130 : BitVec 32 := 0#32
  let v246 : BitVec 1 := Scalar.cmpi .sgt c7_i32_127 c0_i32_130
  let v247 : BitVec 32 := Scalar.extui v246
  let c0_i32_131 : BitVec 32 := 0#32
  let v248 : BitVec 1 := Scalar.cmpi .slt c7_i32_127 c0_i32_131
  let v249 : BitVec 32 := Scalar.extui v248
  let v250 : BitVec 32 := Scalar.subi v247 v249
  let v251 : BitVec 1 := Scalar.cmpi .ne v245 v250
  let v252 : BitVec 32 := Scalar.remsi v239 c7_i32_127
  let c0_i32_132 : BitVec 32 := 0#32
  let v253 : BitVec 1 := Scalar.cmpi .ne v252 c0_i32_132
  let v254 : BitVec 1 := Scalar.andi v251 v253
  let v240 : BitVec 32 := Scalar.divsi v239 c7_i32_127
  let c1_i32_133 : BitVec 32 := 1#32
  let v255 : BitVec 32 := Scalar.subi v240 c1_i32_133
  let v256 : BitVec 32 := Scalar.select v254 v255 v240
  let v257 : Index := Scalar.indexCast v256
  ![v257.toNat]
def k0_off38 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c3_i32_126 : BitVec 32 := 3#32
  let v239 : BitVec 32 := Scalar.subi arg20 c3_i32_126
  let c3_i32_134 : BitVec 32 := 3#32
  let v259 : BitVec 32 := Scalar.remsi v239 c3_i32_134
  ![v259.toNat]
def k0_off39 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v258 : BitVec 32) : Fin 3 → Nat :=
  let c0_i32_137 : BitVec 32 := 0#32
  let c0_i32_48 : BitVec 32 := 0#32
  let c1_i32_50 : BitVec 32 := 1#32
  let arg20 : BitVec 32 := Scf.iv c0_i32_48 c1_i32_50 k0_t1
  let c3_i32_126 : BitVec 32 := 3#32
  let v239 : BitVec 32 := Scalar.subi arg20 c3_i32_126
  let c7_i32_135 : BitVec 32 := 7#32
  let v260 : BitVec 32 := Scalar.remsi v239 c7_i32_135
  let c2048_i32_136 : BitVec 32 := 2048#32
  let v261 : BitVec 32 := Scalar.muli v260 c2048_i32_136
  ![v258.toNat, 0, v261.toNat]

def k0_off40 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 3 → Nat :=
  let c0_i32_48 : BitVec 32 := 0#32
  let c1_i32_50 : BitVec 32 := 1#32
  let arg20 : BitVec 32 := Scf.iv c0_i32_48 c1_i32_50 k0_t1
  let c3_i32_126 : BitVec 32 := 3#32
  let v239 : BitVec 32 := Scalar.subi arg20 c3_i32_126
  let c3_i32_134 : BitVec 32 := 3#32
  let v259 : BitVec 32 := Scalar.remsi v239 c3_i32_134
  let c0_i32_138 : BitVec 32 := 0#32
  let c0_i32_139 : BitVec 32 := 0#32
  ![v259.toNat, 0, 0]

def k0_chk16 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v258 : BitVec 32) : Prop :=
  (∀ (k0_h16 : k0_cond16 v1 v7 v13 v19 v25 v31 v37 v43 k0_t1 = 1#1), ∀ a, (k0_off39 v1 v7 v13 v19 v25 v31 v37 v43 k0_t1 v258) a + S1x32x2048.size a ≤ S8x32x14336.size a) ∧
  (∀ (k0_h16 : k0_cond16 v1 v7 v13 v19 v25 v31 v37 v43 k0_t1 = 1#1), ∀ (hinb : ∀ a, (k0_off39 v1 v7 v13 v19 v25 v31 v37 v43 k0_t1 v258) a + S1x32x2048.size a ≤ S8x32x14336.size a), (Rect.unit (s := S8x32x14336) (k0_off39 v1 v7 v13 v19 v25 v31 v37 v43 k0_t1 v258) S1x32x2048.size hinb).WholeWords (EltTy.packing .bf16))
theorem k0_off39_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v258 : BitVec 32) (k0_hw16 : k0_chk16 v1 v7 v13 v19 v25 v31 v37 v43 k0_t1 v258), ∀ (k0_h16 : k0_cond16 v1 v7 v13 v19 v25 v31 v37 v43 k0_t1 = 1#1), ∀ a, (k0_off39 v1 v7 v13 v19 v25 v31 v37 v43 k0_t1 v258) a + S1x32x2048.size a ≤ S8x32x14336.size a := fun v1 v7 v13 v19 v25 v31 v37 v43 k0_t1 v258 k0_hw16 k0_h16 => k0_hw16.1 k0_h16
theorem k0_off39_wordsbf16 : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v258 : BitVec 32) (k0_hw16 : k0_chk16 v1 v7 v13 v19 v25 v31 v37 v43 k0_t1 v258), ∀ (k0_h16 : k0_cond16 v1 v7 v13 v19 v25 v31 v37 v43 k0_t1 = 1#1), (Rect.unit (s := S8x32x14336) (k0_off39 v1 v7 v13 v19 v25 v31 v37 v43 k0_t1 v258) S1x32x2048.size (k0_off39_inb v1 v7 v13 v19 v25 v31 v37 v43 k0_t1 v258 k0_hw16 k0_h16)).WholeWords (EltTy.packing .bf16) := fun v1 v7 v13 v19 v25 v31 v37 v43 k0_t1 v258 k0_hw16 k0_h16 => k0_hw16.2 k0_h16 (k0_off39_inb v1 v7 v13 v19 v25 v31 v37 v43 k0_t1 v258 k0_hw16 k0_h16)

def k0_cond17 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : BitVec 1 :=
  let c0_i32_48 : BitVec 32 := 0#32
  let c1_i32_50 : BitVec 32 := 1#32
  let arg20 : BitVec 32 := Scf.iv c0_i32_48 c1_i32_50 k0_t1
  let c7_i32_84 : BitVec 32 := 7#32
  let v148 : BitVec 32 := Scalar.remsi arg20 c7_i32_84
  let c0_i32_101 : BitVec 32 := 0#32
  let v181 : BitVec 1 := Scalar.cmpi .eq v148 c0_i32_101
  let v182 : BitVec 32 := Scalar.extui v181
  let c0_i32_102 : BitVec 32 := 0#32
  let v183 : BitVec 1 := Scalar.cmpi .ne v182 c0_i32_102
  v183

def k0_off41 (v167 : BitVec 32) : Fin 3 → Nat :=
  let v239 : Index := Scalar.indexCast v167
  let c0_126 : Index := 0#32
  let c0_127 : Index := 0#32
  ![v239.toNat, 0, 0]

def k0_off42 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c0_i32_104 : BitVec 32 := 0#32
  let v185 : BitVec 1 := Scalar.cmpi .sgt arg20 c0_i32_104
  let v186 : BitVec 32 := Scalar.extui v185
  let c0_i32_105 : BitVec 32 := 0#32
  let v187 : BitVec 1 := Scalar.cmpi .slt arg20 c0_i32_105
  let v188 : BitVec 32 := Scalar.extui v187
  let v189 : BitVec 32 := Scalar.subi v186 v188
  let c7_i32_103 : BitVec 32 := 7#32
  let c0_i32_106 : BitVec 32 := 0#32
  let v190 : BitVec 1 := Scalar.cmpi .sgt c7_i32_103 c0_i32_106
  let v191 : BitVec 32 := Scalar.extui v190
  let c0_i32_107 : BitVec 32 := 0#32
  let v192 : BitVec 1 := Scalar.cmpi .slt c7_i32_103 c0_i32_107
  let v193 : BitVec 32 := Scalar.extui v192
  let v194 : BitVec 32 := Scalar.subi v191 v193
  let v195 : BitVec 1 := Scalar.cmpi .ne v189 v194
  let v196 : BitVec 32 := Scalar.remsi arg20 c7_i32_103
  let c0_i32_108 : BitVec 32 := 0#32
  let v197 : BitVec 1 := Scalar.cmpi .ne v196 c0_i32_108
  let v198 : BitVec 1 := Scalar.andi v195 v197
  let v184 : BitVec 32 := Scalar.divsi arg20 c7_i32_103
  let c1_i32_109 : BitVec 32 := 1#32
  let v199 : BitVec 32 := Scalar.subi v184 c1_i32_109
  let v200 : BitVec 32 := Scalar.select v198 v199 v184
  let v201 : Index := Scalar.indexCast v200
  ![v201.toNat]
def k0_off43 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_48 : BitVec 32 := 0#32
  let c1_i32_50 : BitVec 32 := 1#32
  let arg20 : BitVec 32 := Scf.iv c0_i32_48 c1_i32_50 k0_t1
  let c6_i32_110 : BitVec 32 := 6#32
  let v203 : BitVec 32 := Scalar.remsi arg20 c6_i32_110
  ![v203.toNat]
def k0_off44 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 3 → Nat :=
  let c0_i32_48 : BitVec 32 := 0#32
  let c1_i32_50 : BitVec 32 := 1#32
  let arg20 : BitVec 32 := Scf.iv c0_i32_48 c1_i32_50 k0_t1
  let c6_i32_110 : BitVec 32 := 6#32
  let v203 : BitVec 32 := Scalar.remsi arg20 c6_i32_110
  let c0_i32_112 : BitVec 32 := 0#32
  let c0_i32_113 : BitVec 32 := 0#32
  ![v203.toNat, 0, 0]
def k0_off45 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v202 : BitVec 32) : Fin 3 → Nat :=
  let c0_i32_48 : BitVec 32 := 0#32
  let c1_i32_50 : BitVec 32 := 1#32
  let arg20 : BitVec 32 := Scf.iv c0_i32_48 c1_i32_50 k0_t1
  let c7_i32_111 : BitVec 32 := 7#32
  let v204 : BitVec 32 := Scalar.remsi arg20 c7_i32_111
  let c2048_i32 : BitVec 32 := 2048#32
  let v205 : BitVec 32 := Scalar.muli v204 c2048_i32
  let c0_i32_114 : BitVec 32 := 0#32
  ![v202.toNat, v205.toNat, 0]

def k0_chk18 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v202 : BitVec 32) : Prop :=
  (∀ a, (k0_off45 v1 v7 v13 v19 v25 v31 v37 v43 k0_t1 v202) a + S1x2048x2816.size a ≤ S8x14336x2816.size a) ∧
  (∀ (hinb : ∀ a, (k0_off45 v1 v7 v13 v19 v25 v31 v37 v43 k0_t1 v202) a + S1x2048x2816.size a ≤ S8x14336x2816.size a), (Rect.unit (s := S8x14336x2816) (k0_off45 v1 v7 v13 v19 v25 v31 v37 v43 k0_t1 v202) S1x2048x2816.size hinb).WholeWords (EltTy.packing .fp8e4m3))
theorem k0_off45_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v202 : BitVec 32) (k0_hw18 : k0_chk18 v1 v7 v13 v19 v25 v31 v37 v43 k0_t1 v202), ∀ a, (k0_off45 v1 v7 v13 v19 v25 v31 v37 v43 k0_t1 v202) a + S1x2048x2816.size a ≤ S8x14336x2816.size a := fun v1 v7 v13 v19 v25 v31 v37 v43 k0_t1 v202 k0_hw18 => k0_hw18.1
theorem k0_off45_wordsfp8e4m3 : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v202 : BitVec 32) (k0_hw18 : k0_chk18 v1 v7 v13 v19 v25 v31 v37 v43 k0_t1 v202), (Rect.unit (s := S8x14336x2816) (k0_off45 v1 v7 v13 v19 v25 v31 v37 v43 k0_t1 v202) S1x2048x2816.size (k0_off45_inb v1 v7 v13 v19 v25 v31 v37 v43 k0_t1 v202 k0_hw18)).WholeWords (EltTy.packing .fp8e4m3) := fun v1 v7 v13 v19 v25 v31 v37 v43 k0_t1 v202 k0_hw18 => k0_hw18.2 (k0_off45_inb v1 v7 v13 v19 v25 v31 v37 v43 k0_t1 v202 k0_hw18)

def k0_off46 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 3 → Nat :=
  let c0_i32_48 : BitVec 32 := 0#32
  let c1_i32_50 : BitVec 32 := 1#32
  let arg20 : BitVec 32 := Scf.iv c0_i32_48 c1_i32_50 k0_t1
  let c6_i32_92 : BitVec 32 := 6#32
  let v168 : BitVec 32 := Scalar.remsi arg20 c6_i32_92
  let v213 : Index := Scalar.indexCast v168
  let c0_117 : Index := 0#32
  let c0_118 : Index := 0#32
  ![v213.toNat, 0, 0]
def k0_mult1 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : BitVec 32 :=
  let c0_i32_48 : BitVec 32 := 0#32
  let c1_i32_50 : BitVec 32 := 1#32
  let arg20 : BitVec 32 := Scf.iv c0_i32_48 c1_i32_50 k0_t1
  let c7_i32_84 : BitVec 32 := 7#32
  let v148 : BitVec 32 := Scalar.remsi arg20 c7_i32_84
  let c2048_i32_120 : BitVec 32 := 2048#32
  let v217 : BitVec 32 := Scalar.muli v148 c2048_i32_120
  v217
def k0_off47 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v167 : BitVec 32) : Fin 2 → Nat :=
  let v219 : Index := Scalar.indexCast v167
  let c0_i32_48 : BitVec 32 := 0#32
  let c1_i32_50 : BitVec 32 := 1#32
  let arg20 : BitVec 32 := Scf.iv c0_i32_48 c1_i32_50 k0_t1
  let c7_i32_84 : BitVec 32 := 7#32
  let v148 : BitVec 32 := Scalar.remsi arg20 c7_i32_84
  let c2048_i32_120 : BitVec 32 := 2048#32
  let v217 : BitVec 32 := Scalar.muli v148 c2048_i32_120
  let v218 : BitVec 32 := v217
  let v220 : Index := Scalar.indexCast v218
  ![v219.toNat, v220.toNat]
def k0_off48 (v167 : BitVec 32) : Fin 1 → Nat :=
  let v228 : Index := Scalar.indexCast v167
  ![v228.toNat]

def k0_chk17 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v167 : BitVec 32) : Prop :=
  (∀ (k0_h17 : k0_cond17 v1 v7 v13 v19 v25 v31 v37 v43 k0_t1 = 1#1), ∀ a, (k0_off41 v167) a + S1x32x2816.size a ≤ S8x32x2816.size a) ∧
  (∀ a, (k0_off47 v1 v7 v13 v19 v25 v31 v37 v43 k0_t1 v167) a + S1x2048.size a ≤ S8x14336.size a) ∧
  (∀ a, (k0_off48 v167) a + S1.size a ≤ S8.size a)
theorem k0_off41_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v167 : BitVec 32) (k0_hw17 : k0_chk17 v1 v7 v13 v19 v25 v31 v37 v43 k0_t1 v167), ∀ (k0_h17 : k0_cond17 v1 v7 v13 v19 v25 v31 v37 v43 k0_t1 = 1#1), ∀ a, (k0_off41 v167) a + S1x32x2816.size a ≤ S8x32x2816.size a := fun v1 v7 v13 v19 v25 v31 v37 v43 k0_t1 v167 k0_hw17 k0_h17 => k0_hw17.1 k0_h17
theorem k0_off47_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v167 : BitVec 32) (k0_hw17 : k0_chk17 v1 v7 v13 v19 v25 v31 v37 v43 k0_t1 v167), ∀ a, (k0_off47 v1 v7 v13 v19 v25 v31 v37 v43 k0_t1 v167) a + S1x2048.size a ≤ S8x14336.size a := fun v1 v7 v13 v19 v25 v31 v37 v43 k0_t1 v167 k0_hw17 => k0_hw17.2.1
theorem k0_off48_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v167 : BitVec 32) (k0_hw17 : k0_chk17 v1 v7 v13 v19 v25 v31 v37 v43 k0_t1 v167), ∀ a, (k0_off48 v167) a + S1.size a ≤ S8.size a := fun v1 v7 v13 v19 v25 v31 v37 v43 k0_t1 v167 k0_hw17 => k0_hw17.2.2

def k0_off49 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 3 → Nat :=
  let c0_i32_48 : BitVec 32 := 0#32
  let c1_i32_50 : BitVec 32 := 1#32
  let arg20 : BitVec 32 := Scf.iv c0_i32_48 c1_i32_50 k0_t1
  let c3_i32_93 : BitVec 32 := 3#32
  let v169 : BitVec 32 := Scalar.remsi arg20 c3_i32_93
  let v235 : Index := Scalar.indexCast v169
  let c0_124 : Index := 0#32
  let c0_125 : Index := 0#32
  ![v235.toNat, 0, 0]
@[reducible] def k0_t2_loop (v1 : BitVec 32) (v7 : BitVec 32) (v13 : BitVec 32) (v19 : BitVec 32) (v25 : BitVec 32) (v31 : BitVec 32) (v37 : BitVec 32) (v43 : BitVec 32) : Scf.Loop 32 :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let v100 : BitVec 32 := Scalar.addi c0_i32_48 v99
  let c1_i32_51 : BitVec 32 := 1#32
  ⟨v103, v100, c1_i32_51⟩
def k0_off50 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c0_i32_86 : BitVec 32 := 0#32
  let v150 : BitVec 1 := Scalar.cmpi .sgt arg20 c0_i32_86
  let v151 : BitVec 32 := Scalar.extui v150
  let c0_i32_87 : BitVec 32 := 0#32
  let v152 : BitVec 1 := Scalar.cmpi .slt arg20 c0_i32_87
  let v153 : BitVec 32 := Scalar.extui v152
  let v154 : BitVec 32 := Scalar.subi v151 v153
  let c7_i32_85 : BitVec 32 := 7#32
  let c0_i32_88 : BitVec 32 := 0#32
  let v155 : BitVec 1 := Scalar.cmpi .sgt c7_i32_85 c0_i32_88
  let v156 : BitVec 32 := Scalar.extui v155
  let c0_i32_89 : BitVec 32 := 0#32
  let v157 : BitVec 1 := Scalar.cmpi .slt c7_i32_85 c0_i32_89
  let v158 : BitVec 32 := Scalar.extui v157
  let v159 : BitVec 32 := Scalar.subi v156 v158
  let v160 : BitVec 1 := Scalar.cmpi .ne v154 v159
  let v161 : BitVec 32 := Scalar.remsi arg20 c7_i32_85
  let c0_i32_90 : BitVec 32 := 0#32
  let v162 : BitVec 1 := Scalar.cmpi .ne v161 c0_i32_90
  let v163 : BitVec 1 := Scalar.andi v160 v162
  let v149 : BitVec 32 := Scalar.divsi arg20 c7_i32_85
  let c1_i32_91 : BitVec 32 := 1#32
  let v164 : BitVec 32 := Scalar.subi v149 c1_i32_91
  let v165 : BitVec 32 := Scalar.select v163 v164 v149
  let v166 : Index := Scalar.indexCast v165
  ![v166.toNat]
def k0_off51 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c6_i32_126 : BitVec 32 := 6#32
  let v239 : BitVec 32 := Scalar.addi arg20 c6_i32_126
  let c1_i32_127 : BitVec 32 := 1#32
  let v240 : BitVec 32 := Scalar.subi v239 c1_i32_127
  let c0_i32_129 : BitVec 32 := 0#32
  let v242 : BitVec 1 := Scalar.cmpi .sgt v240 c0_i32_129
  let v243 : BitVec 32 := Scalar.extui v242
  let c0_i32_130 : BitVec 32 := 0#32
  let v244 : BitVec 1 := Scalar.cmpi .slt v240 c0_i32_130
  let v245 : BitVec 32 := Scalar.extui v244
  let v246 : BitVec 32 := Scalar.subi v243 v245
  let c7_i32_128 : BitVec 32 := 7#32
  let c0_i32_131 : BitVec 32 := 0#32
  let v247 : BitVec 1 := Scalar.cmpi .sgt c7_i32_128 c0_i32_131
  let v248 : BitVec 32 := Scalar.extui v247
  let c0_i32_132 : BitVec 32 := 0#32
  let v249 : BitVec 1 := Scalar.cmpi .slt c7_i32_128 c0_i32_132
  let v250 : BitVec 32 := Scalar.extui v249
  let v251 : BitVec 32 := Scalar.subi v248 v250
  let v252 : BitVec 1 := Scalar.cmpi .ne v246 v251
  let v253 : BitVec 32 := Scalar.remsi v240 c7_i32_128
  let c0_i32_133 : BitVec 32 := 0#32
  let v254 : BitVec 1 := Scalar.cmpi .ne v253 c0_i32_133
  let v255 : BitVec 1 := Scalar.andi v252 v254
  let v241 : BitVec 32 := Scalar.divsi v240 c7_i32_128
  let c1_i32_134 : BitVec 32 := 1#32
  let v256 : BitVec 32 := Scalar.subi v241 c1_i32_134
  let v257 : BitVec 32 := Scalar.select v255 v256 v241
  let v258 : Index := Scalar.indexCast v257
  ![v258.toNat]
def k0_cond18 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : BitVec 1 :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c6_i32_94 : BitVec 32 := 6#32
  let v170 : BitVec 32 := Scalar.addi arg20 c6_i32_94
  let c1_i32_95 : BitVec 32 := 1#32
  let v171 : BitVec 32 := Scalar.subi v170 c1_i32_95
  let v172 : BitVec 1 := Scalar.cmpi .slt v171 v47
  let v173 : BitVec 32 := Scalar.extui v172
  let c0_i32_96 : BitVec 32 := 0#32
  let v174 : BitVec 1 := Scalar.cmpi .ne v173 c0_i32_96
  v174

def k0_off52 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c6_i32_126 : BitVec 32 := 6#32
  let v239 : BitVec 32 := Scalar.addi arg20 c6_i32_126
  let c1_i32_127 : BitVec 32 := 1#32
  let v240 : BitVec 32 := Scalar.subi v239 c1_i32_127
  let c6_i32_135 : BitVec 32 := 6#32
  let v260 : BitVec 32 := Scalar.remsi v240 c6_i32_135
  ![v260.toNat]
def k0_off53 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 3 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c6_i32_126 : BitVec 32 := 6#32
  let v239 : BitVec 32 := Scalar.addi arg20 c6_i32_126
  let c1_i32_127 : BitVec 32 := 1#32
  let v240 : BitVec 32 := Scalar.subi v239 c1_i32_127
  let c6_i32_135 : BitVec 32 := 6#32
  let v260 : BitVec 32 := Scalar.remsi v240 c6_i32_135
  let c0_i32_138 : BitVec 32 := 0#32
  let c0_i32_139 : BitVec 32 := 0#32
  ![v260.toNat, 0, 0]
def k0_off54 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v259 : BitVec 32) : Fin 3 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c6_i32_126 : BitVec 32 := 6#32
  let v239 : BitVec 32 := Scalar.addi arg20 c6_i32_126
  let c1_i32_127 : BitVec 32 := 1#32
  let v240 : BitVec 32 := Scalar.subi v239 c1_i32_127
  let c7_i32_136 : BitVec 32 := 7#32
  let v261 : BitVec 32 := Scalar.remsi v240 c7_i32_136
  let c2048_i32_137 : BitVec 32 := 2048#32
  let v262 : BitVec 32 := Scalar.muli v261 c2048_i32_137
  let c0_i32_140 : BitVec 32 := 0#32
  ![v259.toNat, v262.toNat, 0]

def k0_chk19 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v259 : BitVec 32) : Prop :=
  (∀ (k0_h18 : k0_cond18 v1 v7 v13 v19 v25 v31 v37 v43 k0_t2 = 1#1), ∀ a, (k0_off54 v1 v7 v13 v19 v25 v31 v37 v43 k0_t2 v259) a + S1x2048x2816.size a ≤ S8x14336x2816.size a) ∧
  (∀ (k0_h18 : k0_cond18 v1 v7 v13 v19 v25 v31 v37 v43 k0_t2 = 1#1), ∀ (hinb : ∀ a, (k0_off54 v1 v7 v13 v19 v25 v31 v37 v43 k0_t2 v259) a + S1x2048x2816.size a ≤ S8x14336x2816.size a), (Rect.unit (s := S8x14336x2816) (k0_off54 v1 v7 v13 v19 v25 v31 v37 v43 k0_t2 v259) S1x2048x2816.size hinb).WholeWords (EltTy.packing .fp8e4m3))
theorem k0_off54_inb : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v259 : BitVec 32) (k0_hw19 : k0_chk19 v1 v7 v13 v19 v25 v31 v37 v43 k0_t2 v259), ∀ (k0_h18 : k0_cond18 v1 v7 v13 v19 v25 v31 v37 v43 k0_t2 = 1#1), ∀ a, (k0_off54 v1 v7 v13 v19 v25 v31 v37 v43 k0_t2 v259) a + S1x2048x2816.size a ≤ S8x14336x2816.size a := fun v1 v7 v13 v19 v25 v31 v37 v43 k0_t2 v259 k0_hw19 k0_h18 => k0_hw19.1 k0_h18
theorem k0_off54_wordsfp8e4m3 : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v259 : BitVec 32) (k0_hw19 : k0_chk19 v1 v7 v13 v19 v25 v31 v37 v43 k0_t2 v259), ∀ (k0_h18 : k0_cond18 v1 v7 v13 v19 v25 v31 v37 v43 k0_t2 = 1#1), (Rect.unit (s := S8x14336x2816) (k0_off54 v1 v7 v13 v19 v25 v31 v37 v43 k0_t2 v259) S1x2048x2816.size (k0_off54_inb v1 v7 v13 v19 v25 v31 v37 v43 k0_t2 v259 k0_hw19 k0_h18)).WholeWords (EltTy.packing .fp8e4m3) := fun v1 v7 v13 v19 v25 v31 v37 v43 k0_t2 v259 k0_hw19 k0_h18 => k0_hw19.2 k0_h18 (k0_off54_inb v1 v7 v13 v19 v25 v31 v37 v43 k0_t2 v259 k0_hw19 k0_h18)

def k0_off55 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c1_i32_126 : BitVec 32 := 1#32
  let v239 : BitVec 32 := Scalar.subi arg20 c1_i32_126
  let c0_i32_128 : BitVec 32 := 0#32
  let v241 : BitVec 1 := Scalar.cmpi .sgt v239 c0_i32_128
  let v242 : BitVec 32 := Scalar.extui v241
  let c0_i32_129 : BitVec 32 := 0#32
  let v243 : BitVec 1 := Scalar.cmpi .slt v239 c0_i32_129
  let v244 : BitVec 32 := Scalar.extui v243
  let v245 : BitVec 32 := Scalar.subi v242 v244
  let c7_i32_127 : BitVec 32 := 7#32
  let c0_i32_130 : BitVec 32 := 0#32
  let v246 : BitVec 1 := Scalar.cmpi .sgt c7_i32_127 c0_i32_130
  let v247 : BitVec 32 := Scalar.extui v246
  let c0_i32_131 : BitVec 32 := 0#32
  let v248 : BitVec 1 := Scalar.cmpi .slt c7_i32_127 c0_i32_131
  let v249 : BitVec 32 := Scalar.extui v248
  let v250 : BitVec 32 := Scalar.subi v247 v249
  let v251 : BitVec 1 := Scalar.cmpi .ne v245 v250
  let v252 : BitVec 32 := Scalar.remsi v239 c7_i32_127
  let c0_i32_132 : BitVec 32 := 0#32
  let v253 : BitVec 1 := Scalar.cmpi .ne v252 c0_i32_132
  let v254 : BitVec 1 := Scalar.andi v251 v253
  let v240 : BitVec 32 := Scalar.divsi v239 c7_i32_127
  let c1_i32_133 : BitVec 32 := 1#32
  let v255 : BitVec 32 := Scalar.subi v240 c1_i32_133
  let v256 : BitVec 32 := Scalar.select v254 v255 v240
  let v257 : Index := Scalar.indexCast v256
  ![v257.toNat]
def k0_cond19 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : BitVec 1 :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c0_i32_97 : BitVec 32 := 0#32
  let v175 : BitVec 1 := Scalar.cmpi .sgt arg20 c0_i32_97
  let v176 : BitVec 32 := Scalar.extui v175
  let c0_i32_98 : BitVec 32 := 0#32
  let v177 : BitVec 1 := Scalar.cmpi .ne v176 c0_i32_98
  v177

def k0_off56 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c1_i32_126 : BitVec 32 := 1#32
  let v239 : BitVec 32 := Scalar.subi arg20 c1_i32_126
  let c3_i32_134 : BitVec 32 := 3#32
  let v259 : BitVec 32 := Scalar.remsi v239 c3_i32_134
  ![v259.toNat]
def k0_off57 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v258 : BitVec 32) : Fin 3 → Nat :=
  let c0_i32_137 : BitVec 32 := 0#32
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c1_i32_126 : BitVec 32 := 1#32
  let v239 : BitVec 32 := Scalar.subi arg20 c1_i32_126
  let c7_i32_135 : BitVec 32 := 7#32
  let v260 : BitVec 32 := Scalar.remsi v239 c7_i32_135
  let c2048_i32_136 : BitVec 32 := 2048#32
  let v261 : BitVec 32 := Scalar.muli v260 c2048_i32_136
  ![v258.toNat, 0, v261.toNat]

def k0_off58 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 3 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c1_i32_126 : BitVec 32 := 1#32
  let v239 : BitVec 32 := Scalar.subi arg20 c1_i32_126
  let c3_i32_134 : BitVec 32 := 3#32
  let v259 : BitVec 32 := Scalar.remsi v239 c3_i32_134
  let c0_i32_138 : BitVec 32 := 0#32
  let c0_i32_139 : BitVec 32 := 0#32
  ![v259.toNat, 0, 0]

def k0_chk20 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v258 : BitVec 32) : Prop :=
  (∀ (k0_h19 : k0_cond19 v1 v7 v13 v19 v25 v31 v37 v43 k0_t2 = 1#1), ∀ a, (k0_off57 v1 v7 v13 v19 v25 v31 v37 v43 k0_t2 v258) a + S1x32x2048.size a ≤ S8x32x14336.size a) ∧
  (∀ (k0_h19 : k0_cond19 v1 v7 v13 v19 v25 v31 v37 v43 k0_t2 = 1#1), ∀ (hinb : ∀ a, (k0_off57 v1 v7 v13 v19 v25 v31 v37 v43 k0_t2 v258) a + S1x32x2048.size a ≤ S8x32x14336.size a), (Rect.unit (s := S8x32x14336) (k0_off57 v1 v7 v13 v19 v25 v31 v37 v43 k0_t2 v258) S1x32x2048.size hinb).WholeWords (EltTy.packing .bf16))
theorem k0_off57_inb : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v258 : BitVec 32) (k0_hw20 : k0_chk20 v1 v7 v13 v19 v25 v31 v37 v43 k0_t2 v258), ∀ (k0_h19 : k0_cond19 v1 v7 v13 v19 v25 v31 v37 v43 k0_t2 = 1#1), ∀ a, (k0_off57 v1 v7 v13 v19 v25 v31 v37 v43 k0_t2 v258) a + S1x32x2048.size a ≤ S8x32x14336.size a := fun v1 v7 v13 v19 v25 v31 v37 v43 k0_t2 v258 k0_hw20 k0_h19 => k0_hw20.1 k0_h19
theorem k0_off57_wordsbf16 : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v258 : BitVec 32) (k0_hw20 : k0_chk20 v1 v7 v13 v19 v25 v31 v37 v43 k0_t2 v258), ∀ (k0_h19 : k0_cond19 v1 v7 v13 v19 v25 v31 v37 v43 k0_t2 = 1#1), (Rect.unit (s := S8x32x14336) (k0_off57 v1 v7 v13 v19 v25 v31 v37 v43 k0_t2 v258) S1x32x2048.size (k0_off57_inb v1 v7 v13 v19 v25 v31 v37 v43 k0_t2 v258 k0_hw20 k0_h19)).WholeWords (EltTy.packing .bf16) := fun v1 v7 v13 v19 v25 v31 v37 v43 k0_t2 v258 k0_hw20 k0_h19 => k0_hw20.2 k0_h19 (k0_off57_inb v1 v7 v13 v19 v25 v31 v37 v43 k0_t2 v258 k0_hw20 k0_h19)

def k0_off59 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c3_i32_126 : BitVec 32 := 3#32
  let v239 : BitVec 32 := Scalar.subi arg20 c3_i32_126
  let c0_i32_128 : BitVec 32 := 0#32
  let v241 : BitVec 1 := Scalar.cmpi .sgt v239 c0_i32_128
  let v242 : BitVec 32 := Scalar.extui v241
  let c0_i32_129 : BitVec 32 := 0#32
  let v243 : BitVec 1 := Scalar.cmpi .slt v239 c0_i32_129
  let v244 : BitVec 32 := Scalar.extui v243
  let v245 : BitVec 32 := Scalar.subi v242 v244
  let c7_i32_127 : BitVec 32 := 7#32
  let c0_i32_130 : BitVec 32 := 0#32
  let v246 : BitVec 1 := Scalar.cmpi .sgt c7_i32_127 c0_i32_130
  let v247 : BitVec 32 := Scalar.extui v246
  let c0_i32_131 : BitVec 32 := 0#32
  let v248 : BitVec 1 := Scalar.cmpi .slt c7_i32_127 c0_i32_131
  let v249 : BitVec 32 := Scalar.extui v248
  let v250 : BitVec 32 := Scalar.subi v247 v249
  let v251 : BitVec 1 := Scalar.cmpi .ne v245 v250
  let v252 : BitVec 32 := Scalar.remsi v239 c7_i32_127
  let c0_i32_132 : BitVec 32 := 0#32
  let v253 : BitVec 1 := Scalar.cmpi .ne v252 c0_i32_132
  let v254 : BitVec 1 := Scalar.andi v251 v253
  let v240 : BitVec 32 := Scalar.divsi v239 c7_i32_127
  let c1_i32_133 : BitVec 32 := 1#32
  let v255 : BitVec 32 := Scalar.subi v240 c1_i32_133
  let v256 : BitVec 32 := Scalar.select v254 v255 v240
  let v257 : Index := Scalar.indexCast v256
  ![v257.toNat]
def k0_cond20 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : BitVec 1 :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c3_i32_99 : BitVec 32 := 3#32
  let v178 : BitVec 1 := Scalar.cmpi .sge arg20 c3_i32_99
  let v179 : BitVec 32 := Scalar.extui v178
  let c0_i32_100 : BitVec 32 := 0#32
  let v180 : BitVec 1 := Scalar.cmpi .ne v179 c0_i32_100
  v180

def k0_off60 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c3_i32_126 : BitVec 32 := 3#32
  let v239 : BitVec 32 := Scalar.subi arg20 c3_i32_126
  let c3_i32_134 : BitVec 32 := 3#32
  let v259 : BitVec 32 := Scalar.remsi v239 c3_i32_134
  ![v259.toNat]
def k0_off61 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v258 : BitVec 32) : Fin 3 → Nat :=
  let c0_i32_137 : BitVec 32 := 0#32
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c3_i32_126 : BitVec 32 := 3#32
  let v239 : BitVec 32 := Scalar.subi arg20 c3_i32_126
  let c7_i32_135 : BitVec 32 := 7#32
  let v260 : BitVec 32 := Scalar.remsi v239 c7_i32_135
  let c2048_i32_136 : BitVec 32 := 2048#32
  let v261 : BitVec 32 := Scalar.muli v260 c2048_i32_136
  ![v258.toNat, 0, v261.toNat]

def k0_off62 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 3 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c3_i32_126 : BitVec 32 := 3#32
  let v239 : BitVec 32 := Scalar.subi arg20 c3_i32_126
  let c3_i32_134 : BitVec 32 := 3#32
  let v259 : BitVec 32 := Scalar.remsi v239 c3_i32_134
  let c0_i32_138 : BitVec 32 := 0#32
  let c0_i32_139 : BitVec 32 := 0#32
  ![v259.toNat, 0, 0]

def k0_chk21 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v258 : BitVec 32) : Prop :=
  (∀ (k0_h20 : k0_cond20 v1 v7 v13 v19 v25 v31 v37 v43 k0_t2 = 1#1), ∀ a, (k0_off61 v1 v7 v13 v19 v25 v31 v37 v43 k0_t2 v258) a + S1x32x2048.size a ≤ S8x32x14336.size a) ∧
  (∀ (k0_h20 : k0_cond20 v1 v7 v13 v19 v25 v31 v37 v43 k0_t2 = 1#1), ∀ (hinb : ∀ a, (k0_off61 v1 v7 v13 v19 v25 v31 v37 v43 k0_t2 v258) a + S1x32x2048.size a ≤ S8x32x14336.size a), (Rect.unit (s := S8x32x14336) (k0_off61 v1 v7 v13 v19 v25 v31 v37 v43 k0_t2 v258) S1x32x2048.size hinb).WholeWords (EltTy.packing .bf16))
theorem k0_off61_inb : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v258 : BitVec 32) (k0_hw21 : k0_chk21 v1 v7 v13 v19 v25 v31 v37 v43 k0_t2 v258), ∀ (k0_h20 : k0_cond20 v1 v7 v13 v19 v25 v31 v37 v43 k0_t2 = 1#1), ∀ a, (k0_off61 v1 v7 v13 v19 v25 v31 v37 v43 k0_t2 v258) a + S1x32x2048.size a ≤ S8x32x14336.size a := fun v1 v7 v13 v19 v25 v31 v37 v43 k0_t2 v258 k0_hw21 k0_h20 => k0_hw21.1 k0_h20
theorem k0_off61_wordsbf16 : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v258 : BitVec 32) (k0_hw21 : k0_chk21 v1 v7 v13 v19 v25 v31 v37 v43 k0_t2 v258), ∀ (k0_h20 : k0_cond20 v1 v7 v13 v19 v25 v31 v37 v43 k0_t2 = 1#1), (Rect.unit (s := S8x32x14336) (k0_off61 v1 v7 v13 v19 v25 v31 v37 v43 k0_t2 v258) S1x32x2048.size (k0_off61_inb v1 v7 v13 v19 v25 v31 v37 v43 k0_t2 v258 k0_hw21 k0_h20)).WholeWords (EltTy.packing .bf16) := fun v1 v7 v13 v19 v25 v31 v37 v43 k0_t2 v258 k0_hw21 k0_h20 => k0_hw21.2 k0_h20 (k0_off61_inb v1 v7 v13 v19 v25 v31 v37 v43 k0_t2 v258 k0_hw21 k0_h20)

def k0_off63 (v167 : BitVec 32) : Fin 3 → Nat :=
  let v239 : Index := Scalar.indexCast v167
  let c0_126 : Index := 0#32
  let c0_127 : Index := 0#32
  ![v239.toNat, 0, 0]
def k0_cond21 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : BitVec 1 :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c7_i32_84 : BitVec 32 := 7#32
  let v148 : BitVec 32 := Scalar.remsi arg20 c7_i32_84
  let c0_i32_101 : BitVec 32 := 0#32
  let v181 : BitVec 1 := Scalar.cmpi .eq v148 c0_i32_101
  let v182 : BitVec 32 := Scalar.extui v181
  let c0_i32_102 : BitVec 32 := 0#32
  let v183 : BitVec 1 := Scalar.cmpi .ne v182 c0_i32_102
  v183

def k0_off64 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c0_i32_104 : BitVec 32 := 0#32
  let v185 : BitVec 1 := Scalar.cmpi .sgt arg20 c0_i32_104
  let v186 : BitVec 32 := Scalar.extui v185
  let c0_i32_105 : BitVec 32 := 0#32
  let v187 : BitVec 1 := Scalar.cmpi .slt arg20 c0_i32_105
  let v188 : BitVec 32 := Scalar.extui v187
  let v189 : BitVec 32 := Scalar.subi v186 v188
  let c7_i32_103 : BitVec 32 := 7#32
  let c0_i32_106 : BitVec 32 := 0#32
  let v190 : BitVec 1 := Scalar.cmpi .sgt c7_i32_103 c0_i32_106
  let v191 : BitVec 32 := Scalar.extui v190
  let c0_i32_107 : BitVec 32 := 0#32
  let v192 : BitVec 1 := Scalar.cmpi .slt c7_i32_103 c0_i32_107
  let v193 : BitVec 32 := Scalar.extui v192
  let v194 : BitVec 32 := Scalar.subi v191 v193
  let v195 : BitVec 1 := Scalar.cmpi .ne v189 v194
  let v196 : BitVec 32 := Scalar.remsi arg20 c7_i32_103
  let c0_i32_108 : BitVec 32 := 0#32
  let v197 : BitVec 1 := Scalar.cmpi .ne v196 c0_i32_108
  let v198 : BitVec 1 := Scalar.andi v195 v197
  let v184 : BitVec 32 := Scalar.divsi arg20 c7_i32_103
  let c1_i32_109 : BitVec 32 := 1#32
  let v199 : BitVec 32 := Scalar.subi v184 c1_i32_109
  let v200 : BitVec 32 := Scalar.select v198 v199 v184
  let v201 : Index := Scalar.indexCast v200
  ![v201.toNat]
def k0_off65 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 1 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c6_i32_110 : BitVec 32 := 6#32
  let v203 : BitVec 32 := Scalar.remsi arg20 c6_i32_110
  ![v203.toNat]
def k0_off66 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 3 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c6_i32_110 : BitVec 32 := 6#32
  let v203 : BitVec 32 := Scalar.remsi arg20 c6_i32_110
  let c0_i32_112 : BitVec 32 := 0#32
  let c0_i32_113 : BitVec 32 := 0#32
  ![v203.toNat, 0, 0]
def k0_off67 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v202 : BitVec 32) : Fin 3 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c7_i32_111 : BitVec 32 := 7#32
  let v204 : BitVec 32 := Scalar.remsi arg20 c7_i32_111
  let c2048_i32 : BitVec 32 := 2048#32
  let v205 : BitVec 32 := Scalar.muli v204 c2048_i32
  let c0_i32_114 : BitVec 32 := 0#32
  ![v202.toNat, v205.toNat, 0]

def k0_chk23 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v202 : BitVec 32) : Prop :=
  (∀ a, (k0_off67 v1 v7 v13 v19 v25 v31 v37 v43 k0_t2 v202) a + S1x2048x2816.size a ≤ S8x14336x2816.size a) ∧
  (∀ (hinb : ∀ a, (k0_off67 v1 v7 v13 v19 v25 v31 v37 v43 k0_t2 v202) a + S1x2048x2816.size a ≤ S8x14336x2816.size a), (Rect.unit (s := S8x14336x2816) (k0_off67 v1 v7 v13 v19 v25 v31 v37 v43 k0_t2 v202) S1x2048x2816.size hinb).WholeWords (EltTy.packing .fp8e4m3))
theorem k0_off67_inb : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v202 : BitVec 32) (k0_hw23 : k0_chk23 v1 v7 v13 v19 v25 v31 v37 v43 k0_t2 v202), ∀ a, (k0_off67 v1 v7 v13 v19 v25 v31 v37 v43 k0_t2 v202) a + S1x2048x2816.size a ≤ S8x14336x2816.size a := fun v1 v7 v13 v19 v25 v31 v37 v43 k0_t2 v202 k0_hw23 => k0_hw23.1
theorem k0_off67_wordsfp8e4m3 : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v202 : BitVec 32) (k0_hw23 : k0_chk23 v1 v7 v13 v19 v25 v31 v37 v43 k0_t2 v202), (Rect.unit (s := S8x14336x2816) (k0_off67 v1 v7 v13 v19 v25 v31 v37 v43 k0_t2 v202) S1x2048x2816.size (k0_off67_inb v1 v7 v13 v19 v25 v31 v37 v43 k0_t2 v202 k0_hw23)).WholeWords (EltTy.packing .fp8e4m3) := fun v1 v7 v13 v19 v25 v31 v37 v43 k0_t2 v202 k0_hw23 => k0_hw23.2 (k0_off67_inb v1 v7 v13 v19 v25 v31 v37 v43 k0_t2 v202 k0_hw23)

def k0_off68 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 3 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c6_i32_92 : BitVec 32 := 6#32
  let v168 : BitVec 32 := Scalar.remsi arg20 c6_i32_92
  let v213 : Index := Scalar.indexCast v168
  let c0_117 : Index := 0#32
  let c0_118 : Index := 0#32
  ![v213.toNat, 0, 0]
def k0_mult2 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : BitVec 32 :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c7_i32_84 : BitVec 32 := 7#32
  let v148 : BitVec 32 := Scalar.remsi arg20 c7_i32_84
  let c2048_i32_120 : BitVec 32 := 2048#32
  let v217 : BitVec 32 := Scalar.muli v148 c2048_i32_120
  v217
def k0_off69 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v167 : BitVec 32) : Fin 2 → Nat :=
  let v219 : Index := Scalar.indexCast v167
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c7_i32_84 : BitVec 32 := 7#32
  let v148 : BitVec 32 := Scalar.remsi arg20 c7_i32_84
  let c2048_i32_120 : BitVec 32 := 2048#32
  let v217 : BitVec 32 := Scalar.muli v148 c2048_i32_120
  let v218 : BitVec 32 := v217
  let v220 : Index := Scalar.indexCast v218
  ![v219.toNat, v220.toNat]
def k0_off70 (v167 : BitVec 32) : Fin 1 → Nat :=
  let v228 : Index := Scalar.indexCast v167
  ![v228.toNat]

def k0_chk22 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v167 : BitVec 32) : Prop :=
  (∀ (k0_h21 : k0_cond21 v1 v7 v13 v19 v25 v31 v37 v43 k0_t2 = 1#1), ∀ a, (k0_off63 v167) a + S1x32x2816.size a ≤ S8x32x2816.size a) ∧
  (∀ a, (k0_off69 v1 v7 v13 v19 v25 v31 v37 v43 k0_t2 v167) a + S1x2048.size a ≤ S8x14336.size a) ∧
  (∀ a, (k0_off70 v167) a + S1.size a ≤ S8.size a)
theorem k0_off63_inb : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v167 : BitVec 32) (k0_hw22 : k0_chk22 v1 v7 v13 v19 v25 v31 v37 v43 k0_t2 v167), ∀ (k0_h21 : k0_cond21 v1 v7 v13 v19 v25 v31 v37 v43 k0_t2 = 1#1), ∀ a, (k0_off63 v167) a + S1x32x2816.size a ≤ S8x32x2816.size a := fun v1 v7 v13 v19 v25 v31 v37 v43 k0_t2 v167 k0_hw22 k0_h21 => k0_hw22.1 k0_h21
theorem k0_off69_inb : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v167 : BitVec 32) (k0_hw22 : k0_chk22 v1 v7 v13 v19 v25 v31 v37 v43 k0_t2 v167), ∀ a, (k0_off69 v1 v7 v13 v19 v25 v31 v37 v43 k0_t2 v167) a + S1x2048.size a ≤ S8x14336.size a := fun v1 v7 v13 v19 v25 v31 v37 v43 k0_t2 v167 k0_hw22 => k0_hw22.2.1
theorem k0_off70_inb : ∀ (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) (v167 : BitVec 32) (k0_hw22 : k0_chk22 v1 v7 v13 v19 v25 v31 v37 v43 k0_t2 v167), ∀ a, (k0_off70 v167) a + S1.size a ≤ S8.size a := fun v1 v7 v13 v19 v25 v31 v37 v43 k0_t2 v167 k0_hw22 => k0_hw22.2.2

def k0_off71 (v1 : BitVec 32) (v7 : BitVec 32) (v13 : BitVec 32) (v19 : BitVec 32) (v25 : BitVec 32) (v31 : BitVec 32) (v37 : BitVec 32) (v43 : BitVec 32) (k0_t2 : Fin (k0_t2_loop v1 v7 v13 v19 v25 v31 v37 v43).trips) : Fin 3 → Nat :=
  let c0_i32_48 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let v99 : BitVec 32 := Scalar.subi v47 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg20 : BitVec 32 := Scf.iv v103 c1_i32_51 k0_t2
  let c3_i32_93 : BitVec 32 := 3#32
  let v169 : BitVec 32 := Scalar.remsi arg20 c3_i32_93
  let v235 : Index := Scalar.indexCast v169
  let c0_124 : Index := 0#32
  let c0_125 : Index := 0#32
  ![v235.toNat, 0, 0]
def k0_off72 (v1 : BitVec 32) (v7 : BitVec 32) (v13 : BitVec 32) (v19 : BitVec 32) (v25 : BitVec 32) (v31 : BitVec 32) (v37 : BitVec 32) (v43 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c0_i32_86 : BitVec 32 := 0#32
  let v150 : BitVec 1 := Scalar.cmpi .sgt v148 c0_i32_86
  let v151 : BitVec 32 := Scalar.extui v150
  let c0_i32_87 : BitVec 32 := 0#32
  let v152 : BitVec 1 := Scalar.cmpi .slt v148 c0_i32_87
  let v153 : BitVec 32 := Scalar.extui v152
  let v154 : BitVec 32 := Scalar.subi v151 v153
  let c7_i32_85 : BitVec 32 := 7#32
  let c0_i32_88 : BitVec 32 := 0#32
  let v155 : BitVec 1 := Scalar.cmpi .sgt c7_i32_85 c0_i32_88
  let v156 : BitVec 32 := Scalar.extui v155
  let c0_i32_89 : BitVec 32 := 0#32
  let v157 : BitVec 1 := Scalar.cmpi .slt c7_i32_85 c0_i32_89
  let v158 : BitVec 32 := Scalar.extui v157
  let v159 : BitVec 32 := Scalar.subi v156 v158
  let v160 : BitVec 1 := Scalar.cmpi .ne v154 v159
  let v161 : BitVec 32 := Scalar.remsi v148 c7_i32_85
  let c0_i32_90 : BitVec 32 := 0#32
  let v162 : BitVec 1 := Scalar.cmpi .ne v161 c0_i32_90
  let v163 : BitVec 1 := Scalar.andi v160 v162
  let v149 : BitVec 32 := Scalar.divsi v148 c7_i32_85
  let c1_i32_91 : BitVec 32 := 1#32
  let v164 : BitVec 32 := Scalar.subi v149 c1_i32_91
  let v165 : BitVec 32 := Scalar.select v163 v164 v149
  let v166 : Index := Scalar.indexCast v165
  ![v166.toNat]
def k0_cond22 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c0_i32_52 : BitVec 32 := 0#32
  let v104 : BitVec 1 := Scalar.cmpi .sgt v47 c0_i32_52
  let v105 : BitVec 32 := Scalar.extui v104
  let c0_i32_53 : BitVec 32 := 0#32
  let v106 : BitVec 1 := Scalar.cmpi .ne v105 c0_i32_53
  v106

def k0_off73 (v1 : BitVec 32) (v7 : BitVec 32) (v13 : BitVec 32) (v19 : BitVec 32) (v25 : BitVec 32) (v31 : BitVec 32) (v37 : BitVec 32) (v43 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c3_i32_92 : BitVec 32 := 3#32
  let v168 : BitVec 32 := Scalar.remsi v148 c3_i32_92
  ![v168.toNat]
def k0_off74 (v1 : BitVec 32) (v7 : BitVec 32) (v13 : BitVec 32) (v19 : BitVec 32) (v25 : BitVec 32) (v31 : BitVec 32) (v37 : BitVec 32) (v43 : BitVec 32) (v167 : BitVec 32) : Fin 3 → Nat :=
  let c0_i32_94 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c7_i32_93 : BitVec 32 := 7#32
  let v169 : BitVec 32 := Scalar.remsi v148 c7_i32_93
  let c2048_i32 : BitVec 32 := 2048#32
  let v170 : BitVec 32 := Scalar.muli v169 c2048_i32
  ![v167.toNat, 0, v170.toNat]

def k0_off75 (v1 : BitVec 32) (v7 : BitVec 32) (v13 : BitVec 32) (v19 : BitVec 32) (v25 : BitVec 32) (v31 : BitVec 32) (v37 : BitVec 32) (v43 : BitVec 32) : Fin 3 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c3_i32_92 : BitVec 32 := 3#32
  let v168 : BitVec 32 := Scalar.remsi v148 c3_i32_92
  let c0_i32_95 : BitVec 32 := 0#32
  let c0_i32_96 : BitVec 32 := 0#32
  ![v168.toNat, 0, 0]

def k0_chk24 (v1 : BitVec 32) (v7 : BitVec 32) (v13 : BitVec 32) (v19 : BitVec 32) (v25 : BitVec 32) (v31 : BitVec 32) (v37 : BitVec 32) (v43 : BitVec 32) (v167 : BitVec 32) : Prop :=
  (∀ (k0_h22 : k0_cond22 v1 v7 v13 v19 v25 v31 v37 v43 = 1#1), ∀ a, (k0_off74 v1 v7 v13 v19 v25 v31 v37 v43 v167) a + S1x32x2048.size a ≤ S8x32x14336.size a) ∧
  (∀ (k0_h22 : k0_cond22 v1 v7 v13 v19 v25 v31 v37 v43 = 1#1), ∀ (hinb : ∀ a, (k0_off74 v1 v7 v13 v19 v25 v31 v37 v43 v167) a + S1x32x2048.size a ≤ S8x32x14336.size a), (Rect.unit (s := S8x32x14336) (k0_off74 v1 v7 v13 v19 v25 v31 v37 v43 v167) S1x32x2048.size hinb).WholeWords (EltTy.packing .bf16))
theorem k0_off74_inb : ∀ (v1 : BitVec 32) (v7 : BitVec 32) (v13 : BitVec 32) (v19 : BitVec 32) (v25 : BitVec 32) (v31 : BitVec 32) (v37 : BitVec 32) (v43 : BitVec 32) (v167 : BitVec 32) (k0_hw24 : k0_chk24 v1 v7 v13 v19 v25 v31 v37 v43 v167), ∀ (k0_h22 : k0_cond22 v1 v7 v13 v19 v25 v31 v37 v43 = 1#1), ∀ a, (k0_off74 v1 v7 v13 v19 v25 v31 v37 v43 v167) a + S1x32x2048.size a ≤ S8x32x14336.size a := fun v1 v7 v13 v19 v25 v31 v37 v43 v167 k0_hw24 k0_h22 => k0_hw24.1 k0_h22
theorem k0_off74_wordsbf16 : ∀ (v1 : BitVec 32) (v7 : BitVec 32) (v13 : BitVec 32) (v19 : BitVec 32) (v25 : BitVec 32) (v31 : BitVec 32) (v37 : BitVec 32) (v43 : BitVec 32) (v167 : BitVec 32) (k0_hw24 : k0_chk24 v1 v7 v13 v19 v25 v31 v37 v43 v167), ∀ (k0_h22 : k0_cond22 v1 v7 v13 v19 v25 v31 v37 v43 = 1#1), (Rect.unit (s := S8x32x14336) (k0_off74 v1 v7 v13 v19 v25 v31 v37 v43 v167) S1x32x2048.size (k0_off74_inb v1 v7 v13 v19 v25 v31 v37 v43 v167 k0_hw24 k0_h22)).WholeWords (EltTy.packing .bf16) := fun v1 v7 v13 v19 v25 v31 v37 v43 v167 k0_hw24 k0_h22 => k0_hw24.2 k0_h22 (k0_off74_inb v1 v7 v13 v19 v25 v31 v37 v43 v167 k0_hw24 k0_h22)

def k0_off76 (v1 : BitVec 32) (v7 : BitVec 32) (v13 : BitVec 32) (v19 : BitVec 32) (v25 : BitVec 32) (v31 : BitVec 32) (v37 : BitVec 32) (v43 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c0_i32_85 : BitVec 32 := 0#32
  let v149 : BitVec 32 := Scalar.subi v148 c0_i32_85
  let c0_i32_87 : BitVec 32 := 0#32
  let v151 : BitVec 1 := Scalar.cmpi .sgt v149 c0_i32_87
  let v152 : BitVec 32 := Scalar.extui v151
  let c0_i32_88 : BitVec 32 := 0#32
  let v153 : BitVec 1 := Scalar.cmpi .slt v149 c0_i32_88
  let v154 : BitVec 32 := Scalar.extui v153
  let v155 : BitVec 32 := Scalar.subi v152 v154
  let c7_i32_86 : BitVec 32 := 7#32
  let c0_i32_89 : BitVec 32 := 0#32
  let v156 : BitVec 1 := Scalar.cmpi .sgt c7_i32_86 c0_i32_89
  let v157 : BitVec 32 := Scalar.extui v156
  let c0_i32_90 : BitVec 32 := 0#32
  let v158 : BitVec 1 := Scalar.cmpi .slt c7_i32_86 c0_i32_90
  let v159 : BitVec 32 := Scalar.extui v158
  let v160 : BitVec 32 := Scalar.subi v157 v159
  let v161 : BitVec 1 := Scalar.cmpi .ne v155 v160
  let v162 : BitVec 32 := Scalar.remsi v149 c7_i32_86
  let c0_i32_91 : BitVec 32 := 0#32
  let v163 : BitVec 1 := Scalar.cmpi .ne v162 c0_i32_91
  let v164 : BitVec 1 := Scalar.andi v161 v163
  let v150 : BitVec 32 := Scalar.divsi v149 c7_i32_86
  let c1_i32_92 : BitVec 32 := 1#32
  let v165 : BitVec 32 := Scalar.subi v150 c1_i32_92
  let v166 : BitVec 32 := Scalar.select v164 v165 v150
  let v167 : Index := Scalar.indexCast v166
  ![v167.toNat]
def k0_cond23 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c0_i32_54 : BitVec 32 := 0#32
  let v107 : BitVec 1 := Scalar.cmpi .sgt v47 c0_i32_54
  let v108 : BitVec 32 := Scalar.extui v107
  let c0_i32_55 : BitVec 32 := 0#32
  let v109 : BitVec 1 := Scalar.cmpi .ne v108 c0_i32_55
  v109

def k0_off77 (v1 : BitVec 32) (v7 : BitVec 32) (v13 : BitVec 32) (v19 : BitVec 32) (v25 : BitVec 32) (v31 : BitVec 32) (v37 : BitVec 32) (v43 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c0_i32_85 : BitVec 32 := 0#32
  let v149 : BitVec 32 := Scalar.subi v148 c0_i32_85
  let c3_i32_93 : BitVec 32 := 3#32
  let v169 : BitVec 32 := Scalar.remsi v149 c3_i32_93
  ![v169.toNat]
def k0_off78 (v1 : BitVec 32) (v7 : BitVec 32) (v13 : BitVec 32) (v19 : BitVec 32) (v25 : BitVec 32) (v31 : BitVec 32) (v37 : BitVec 32) (v43 : BitVec 32) (v168 : BitVec 32) : Fin 3 → Nat :=
  let c0_i32_95 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c0_i32_85 : BitVec 32 := 0#32
  let v149 : BitVec 32 := Scalar.subi v148 c0_i32_85
  let c7_i32_94 : BitVec 32 := 7#32
  let v170 : BitVec 32 := Scalar.remsi v149 c7_i32_94
  let c2048_i32 : BitVec 32 := 2048#32
  let v171 : BitVec 32 := Scalar.muli v170 c2048_i32
  ![v168.toNat, 0, v171.toNat]

def k0_off79 (v1 : BitVec 32) (v7 : BitVec 32) (v13 : BitVec 32) (v19 : BitVec 32) (v25 : BitVec 32) (v31 : BitVec 32) (v37 : BitVec 32) (v43 : BitVec 32) : Fin 3 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c0_i32_85 : BitVec 32 := 0#32
  let v149 : BitVec 32 := Scalar.subi v148 c0_i32_85
  let c3_i32_93 : BitVec 32 := 3#32
  let v169 : BitVec 32 := Scalar.remsi v149 c3_i32_93
  let c0_i32_96 : BitVec 32 := 0#32
  let c0_i32_97 : BitVec 32 := 0#32
  ![v169.toNat, 0, 0]

def k0_chk25 (v1 : BitVec 32) (v7 : BitVec 32) (v13 : BitVec 32) (v19 : BitVec 32) (v25 : BitVec 32) (v31 : BitVec 32) (v37 : BitVec 32) (v43 : BitVec 32) (v168 : BitVec 32) : Prop :=
  (∀ (k0_h23 : k0_cond23 v1 v7 v13 v19 v25 v31 v37 v43 = 1#1), ∀ a, (k0_off78 v1 v7 v13 v19 v25 v31 v37 v43 v168) a + S1x32x2048.size a ≤ S8x32x14336.size a) ∧
  (∀ (k0_h23 : k0_cond23 v1 v7 v13 v19 v25 v31 v37 v43 = 1#1), ∀ (hinb : ∀ a, (k0_off78 v1 v7 v13 v19 v25 v31 v37 v43 v168) a + S1x32x2048.size a ≤ S8x32x14336.size a), (Rect.unit (s := S8x32x14336) (k0_off78 v1 v7 v13 v19 v25 v31 v37 v43 v168) S1x32x2048.size hinb).WholeWords (EltTy.packing .bf16))
theorem k0_off78_inb : ∀ (v1 : BitVec 32) (v7 : BitVec 32) (v13 : BitVec 32) (v19 : BitVec 32) (v25 : BitVec 32) (v31 : BitVec 32) (v37 : BitVec 32) (v43 : BitVec 32) (v168 : BitVec 32) (k0_hw25 : k0_chk25 v1 v7 v13 v19 v25 v31 v37 v43 v168), ∀ (k0_h23 : k0_cond23 v1 v7 v13 v19 v25 v31 v37 v43 = 1#1), ∀ a, (k0_off78 v1 v7 v13 v19 v25 v31 v37 v43 v168) a + S1x32x2048.size a ≤ S8x32x14336.size a := fun v1 v7 v13 v19 v25 v31 v37 v43 v168 k0_hw25 k0_h23 => k0_hw25.1 k0_h23
theorem k0_off78_wordsbf16 : ∀ (v1 : BitVec 32) (v7 : BitVec 32) (v13 : BitVec 32) (v19 : BitVec 32) (v25 : BitVec 32) (v31 : BitVec 32) (v37 : BitVec 32) (v43 : BitVec 32) (v168 : BitVec 32) (k0_hw25 : k0_chk25 v1 v7 v13 v19 v25 v31 v37 v43 v168), ∀ (k0_h23 : k0_cond23 v1 v7 v13 v19 v25 v31 v37 v43 = 1#1), (Rect.unit (s := S8x32x14336) (k0_off78 v1 v7 v13 v19 v25 v31 v37 v43 v168) S1x32x2048.size (k0_off78_inb v1 v7 v13 v19 v25 v31 v37 v43 v168 k0_hw25 k0_h23)).WholeWords (EltTy.packing .bf16) := fun v1 v7 v13 v19 v25 v31 v37 v43 v168 k0_hw25 k0_h23 => k0_hw25.2 k0_h23 (k0_off78_inb v1 v7 v13 v19 v25 v31 v37 v43 v168 k0_hw25 k0_h23)

def k0_off80 (v1 : BitVec 32) (v7 : BitVec 32) (v13 : BitVec 32) (v19 : BitVec 32) (v25 : BitVec 32) (v31 : BitVec 32) (v37 : BitVec 32) (v43 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c1_i32_85 : BitVec 32 := 1#32
  let v149 : BitVec 32 := Scalar.subi v148 c1_i32_85
  let c0_i32_87 : BitVec 32 := 0#32
  let v151 : BitVec 1 := Scalar.cmpi .sgt v149 c0_i32_87
  let v152 : BitVec 32 := Scalar.extui v151
  let c0_i32_88 : BitVec 32 := 0#32
  let v153 : BitVec 1 := Scalar.cmpi .slt v149 c0_i32_88
  let v154 : BitVec 32 := Scalar.extui v153
  let v155 : BitVec 32 := Scalar.subi v152 v154
  let c7_i32_86 : BitVec 32 := 7#32
  let c0_i32_89 : BitVec 32 := 0#32
  let v156 : BitVec 1 := Scalar.cmpi .sgt c7_i32_86 c0_i32_89
  let v157 : BitVec 32 := Scalar.extui v156
  let c0_i32_90 : BitVec 32 := 0#32
  let v158 : BitVec 1 := Scalar.cmpi .slt c7_i32_86 c0_i32_90
  let v159 : BitVec 32 := Scalar.extui v158
  let v160 : BitVec 32 := Scalar.subi v157 v159
  let v161 : BitVec 1 := Scalar.cmpi .ne v155 v160
  let v162 : BitVec 32 := Scalar.remsi v149 c7_i32_86
  let c0_i32_91 : BitVec 32 := 0#32
  let v163 : BitVec 1 := Scalar.cmpi .ne v162 c0_i32_91
  let v164 : BitVec 1 := Scalar.andi v161 v163
  let v150 : BitVec 32 := Scalar.divsi v149 c7_i32_86
  let c1_i32_92 : BitVec 32 := 1#32
  let v165 : BitVec 32 := Scalar.subi v150 c1_i32_92
  let v166 : BitVec 32 := Scalar.select v164 v165 v150
  let v167 : Index := Scalar.indexCast v166
  ![v167.toNat]
def k0_cond24 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_56 : BitVec 32 := 1#32
  let v110 : BitVec 1 := Scalar.cmpi .sgt v47 c1_i32_56
  let v111 : BitVec 32 := Scalar.extui v110
  let c0_i32_57 : BitVec 32 := 0#32
  let v112 : BitVec 1 := Scalar.cmpi .ne v111 c0_i32_57
  v112

def k0_off81 (v1 : BitVec 32) (v7 : BitVec 32) (v13 : BitVec 32) (v19 : BitVec 32) (v25 : BitVec 32) (v31 : BitVec 32) (v37 : BitVec 32) (v43 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c1_i32_85 : BitVec 32 := 1#32
  let v149 : BitVec 32 := Scalar.subi v148 c1_i32_85
  let c3_i32_93 : BitVec 32 := 3#32
  let v169 : BitVec 32 := Scalar.remsi v149 c3_i32_93
  ![v169.toNat]
def k0_off82 (v1 : BitVec 32) (v7 : BitVec 32) (v13 : BitVec 32) (v19 : BitVec 32) (v25 : BitVec 32) (v31 : BitVec 32) (v37 : BitVec 32) (v43 : BitVec 32) (v168 : BitVec 32) : Fin 3 → Nat :=
  let c0_i32_95 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c1_i32_85 : BitVec 32 := 1#32
  let v149 : BitVec 32 := Scalar.subi v148 c1_i32_85
  let c7_i32_94 : BitVec 32 := 7#32
  let v170 : BitVec 32 := Scalar.remsi v149 c7_i32_94
  let c2048_i32 : BitVec 32 := 2048#32
  let v171 : BitVec 32 := Scalar.muli v170 c2048_i32
  ![v168.toNat, 0, v171.toNat]

def k0_off83 (v1 : BitVec 32) (v7 : BitVec 32) (v13 : BitVec 32) (v19 : BitVec 32) (v25 : BitVec 32) (v31 : BitVec 32) (v37 : BitVec 32) (v43 : BitVec 32) : Fin 3 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c1_i32_85 : BitVec 32 := 1#32
  let v149 : BitVec 32 := Scalar.subi v148 c1_i32_85
  let c3_i32_93 : BitVec 32 := 3#32
  let v169 : BitVec 32 := Scalar.remsi v149 c3_i32_93
  let c0_i32_96 : BitVec 32 := 0#32
  let c0_i32_97 : BitVec 32 := 0#32
  ![v169.toNat, 0, 0]

def k0_chk26 (v1 : BitVec 32) (v7 : BitVec 32) (v13 : BitVec 32) (v19 : BitVec 32) (v25 : BitVec 32) (v31 : BitVec 32) (v37 : BitVec 32) (v43 : BitVec 32) (v168 : BitVec 32) : Prop :=
  (∀ (k0_h24 : k0_cond24 v1 v7 v13 v19 v25 v31 v37 v43 = 1#1), ∀ a, (k0_off82 v1 v7 v13 v19 v25 v31 v37 v43 v168) a + S1x32x2048.size a ≤ S8x32x14336.size a) ∧
  (∀ (k0_h24 : k0_cond24 v1 v7 v13 v19 v25 v31 v37 v43 = 1#1), ∀ (hinb : ∀ a, (k0_off82 v1 v7 v13 v19 v25 v31 v37 v43 v168) a + S1x32x2048.size a ≤ S8x32x14336.size a), (Rect.unit (s := S8x32x14336) (k0_off82 v1 v7 v13 v19 v25 v31 v37 v43 v168) S1x32x2048.size hinb).WholeWords (EltTy.packing .bf16))
theorem k0_off82_inb : ∀ (v1 : BitVec 32) (v7 : BitVec 32) (v13 : BitVec 32) (v19 : BitVec 32) (v25 : BitVec 32) (v31 : BitVec 32) (v37 : BitVec 32) (v43 : BitVec 32) (v168 : BitVec 32) (k0_hw26 : k0_chk26 v1 v7 v13 v19 v25 v31 v37 v43 v168), ∀ (k0_h24 : k0_cond24 v1 v7 v13 v19 v25 v31 v37 v43 = 1#1), ∀ a, (k0_off82 v1 v7 v13 v19 v25 v31 v37 v43 v168) a + S1x32x2048.size a ≤ S8x32x14336.size a := fun v1 v7 v13 v19 v25 v31 v37 v43 v168 k0_hw26 k0_h24 => k0_hw26.1 k0_h24
theorem k0_off82_wordsbf16 : ∀ (v1 : BitVec 32) (v7 : BitVec 32) (v13 : BitVec 32) (v19 : BitVec 32) (v25 : BitVec 32) (v31 : BitVec 32) (v37 : BitVec 32) (v43 : BitVec 32) (v168 : BitVec 32) (k0_hw26 : k0_chk26 v1 v7 v13 v19 v25 v31 v37 v43 v168), ∀ (k0_h24 : k0_cond24 v1 v7 v13 v19 v25 v31 v37 v43 = 1#1), (Rect.unit (s := S8x32x14336) (k0_off82 v1 v7 v13 v19 v25 v31 v37 v43 v168) S1x32x2048.size (k0_off82_inb v1 v7 v13 v19 v25 v31 v37 v43 v168 k0_hw26 k0_h24)).WholeWords (EltTy.packing .bf16) := fun v1 v7 v13 v19 v25 v31 v37 v43 v168 k0_hw26 k0_h24 => k0_hw26.2 k0_h24 (k0_off82_inb v1 v7 v13 v19 v25 v31 v37 v43 v168 k0_hw26 k0_h24)

def k0_off84 (v1 : BitVec 32) (v7 : BitVec 32) (v13 : BitVec 32) (v19 : BitVec 32) (v25 : BitVec 32) (v31 : BitVec 32) (v37 : BitVec 32) (v43 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c2_i32_85 : BitVec 32 := 2#32
  let v149 : BitVec 32 := Scalar.subi v148 c2_i32_85
  let c0_i32_87 : BitVec 32 := 0#32
  let v151 : BitVec 1 := Scalar.cmpi .sgt v149 c0_i32_87
  let v152 : BitVec 32 := Scalar.extui v151
  let c0_i32_88 : BitVec 32 := 0#32
  let v153 : BitVec 1 := Scalar.cmpi .slt v149 c0_i32_88
  let v154 : BitVec 32 := Scalar.extui v153
  let v155 : BitVec 32 := Scalar.subi v152 v154
  let c7_i32_86 : BitVec 32 := 7#32
  let c0_i32_89 : BitVec 32 := 0#32
  let v156 : BitVec 1 := Scalar.cmpi .sgt c7_i32_86 c0_i32_89
  let v157 : BitVec 32 := Scalar.extui v156
  let c0_i32_90 : BitVec 32 := 0#32
  let v158 : BitVec 1 := Scalar.cmpi .slt c7_i32_86 c0_i32_90
  let v159 : BitVec 32 := Scalar.extui v158
  let v160 : BitVec 32 := Scalar.subi v157 v159
  let v161 : BitVec 1 := Scalar.cmpi .ne v155 v160
  let v162 : BitVec 32 := Scalar.remsi v149 c7_i32_86
  let c0_i32_91 : BitVec 32 := 0#32
  let v163 : BitVec 1 := Scalar.cmpi .ne v162 c0_i32_91
  let v164 : BitVec 1 := Scalar.andi v161 v163
  let v150 : BitVec 32 := Scalar.divsi v149 c7_i32_86
  let c1_i32_92 : BitVec 32 := 1#32
  let v165 : BitVec 32 := Scalar.subi v150 c1_i32_92
  let v166 : BitVec 32 := Scalar.select v164 v165 v150
  let v167 : Index := Scalar.indexCast v166
  ![v167.toNat]
def k0_cond25 (v1 : BitVec 32) (v7 : BitVec 32) (v13 : BitVec 32) (v19 : BitVec 32) (v25 : BitVec 32) (v31 : BitVec 32) (v37 : BitVec 32) (v43 : BitVec 32) : BitVec 1 :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c2_i32_58 : BitVec 32 := 2#32
  let v113 : BitVec 1 := Scalar.cmpi .sgt v47 c2_i32_58
  let v114 : BitVec 32 := Scalar.extui v113
  let c0_i32_59 : BitVec 32 := 0#32
  let v115 : BitVec 1 := Scalar.cmpi .ne v114 c0_i32_59
  v115

def k0_off85 (v1 : BitVec 32) (v7 : BitVec 32) (v13 : BitVec 32) (v19 : BitVec 32) (v25 : BitVec 32) (v31 : BitVec 32) (v37 : BitVec 32) (v43 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c2_i32_85 : BitVec 32 := 2#32
  let v149 : BitVec 32 := Scalar.subi v148 c2_i32_85
  let c3_i32_93 : BitVec 32 := 3#32
  let v169 : BitVec 32 := Scalar.remsi v149 c3_i32_93
  ![v169.toNat]
def k0_off86 (v1 : BitVec 32) (v7 : BitVec 32) (v13 : BitVec 32) (v19 : BitVec 32) (v25 : BitVec 32) (v31 : BitVec 32) (v37 : BitVec 32) (v43 : BitVec 32) (v168 : BitVec 32) : Fin 3 → Nat :=
  let c0_i32_95 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c2_i32_85 : BitVec 32 := 2#32
  let v149 : BitVec 32 := Scalar.subi v148 c2_i32_85
  let c7_i32_94 : BitVec 32 := 7#32
  let v170 : BitVec 32 := Scalar.remsi v149 c7_i32_94
  let c2048_i32 : BitVec 32 := 2048#32
  let v171 : BitVec 32 := Scalar.muli v170 c2048_i32
  ![v168.toNat, 0, v171.toNat]

def k0_off87 (v1 : BitVec 32) (v7 : BitVec 32) (v13 : BitVec 32) (v19 : BitVec 32) (v25 : BitVec 32) (v31 : BitVec 32) (v37 : BitVec 32) (v43 : BitVec 32) : Fin 3 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c7_i32_10 : BitVec 32 := 7#32
  let v47 : BitVec 32 := Scalar.muli v46 c7_i32_10
  let c1_i32_84 : BitVec 32 := 1#32
  let v148 : BitVec 32 := Scalar.subi v47 c1_i32_84
  let c2_i32_85 : BitVec 32 := 2#32
  let v149 : BitVec 32 := Scalar.subi v148 c2_i32_85
  let c3_i32_93 : BitVec 32 := 3#32
  let v169 : BitVec 32 := Scalar.remsi v149 c3_i32_93
  let c0_i32_96 : BitVec 32 := 0#32
  let c0_i32_97 : BitVec 32 := 0#32
  ![v169.toNat, 0, 0]

def k0_chk13_0 (v1 : BitVec 32) (v7 : BitVec 32) (v13 : BitVec 32) (v19 : BitVec 32) (v25 : BitVec 32) (v31 : BitVec 32) (v37 : BitVec 32) (v43 : BitVec 32) : Prop :=
  ((k0_t1_loop v1 v7 v13 v19 v25 v31 v37 v43).OK) ∧
  (∀ k0_t1 : Fin (k0_t1_loop v1 v7 v13 v19 v25 v31 v37 v43).trips, ∀ a, (k0_off28 v1 v7 v13 v19 v25 v31 v37 v43 k0_t1) a + S1.size a ≤ S9.size a) ∧
  (∀ k0_t1 : Fin (k0_t1_loop v1 v7 v13 v19 v25 v31 v37 v43).trips, ∀ (k0_h14 : k0_cond14 v1 v7 v13 v19 v25 v31 v37 v43 k0_t1 = 1#1), ∀ a, (k0_off29 v1 v7 v13 v19 v25 v31 v37 v43 k0_t1) a + S1.size a ≤ S9.size a) ∧
  (∀ k0_t1 : Fin (k0_t1_loop v1 v7 v13 v19 v25 v31 v37 v43).trips, ∀ (k0_h14 : k0_cond14 v1 v7 v13 v19 v25 v31 v37 v43 k0_t1 = 1#1), ∀ a, (k0_off30 v1 v7 v13 v19 v25 v31 v37 v43 k0_t1) a + S1.size a ≤ S6.size a) ∧
  (∀ k0_t1 : Fin (k0_t1_loop v1 v7 v13 v19 v25 v31 v37 v43).trips, ∀ (k0_h14 : k0_cond14 v1 v7 v13 v19 v25 v31 v37 v43 k0_t1 = 1#1), ∀ a, (k0_off31 v1 v7 v13 v19 v25 v31 v37 v43 k0_t1) a + S1x2048x2816.size a ≤ S6x2048x2816.size a) ∧
  (∀ k0_t1 : Fin (k0_t1_loop v1 v7 v13 v19 v25 v31 v37 v43).trips, ∀ (k0_h14 : k0_cond14 v1 v7 v13 v19 v25 v31 v37 v43 k0_t1 = 1#1), ∀ (hinb : ∀ a, (k0_off31 v1 v7 v13 v19 v25 v31 v37 v43 k0_t1) a + S1x2048x2816.size a ≤ S6x2048x2816.size a), (Rect.unit (s := S6x2048x2816) (k0_off31 v1 v7 v13 v19 v25 v31 v37 v43 k0_t1) S1x2048x2816.size hinb).WholeWords (EltTy.packing .fp8e4m3)) ∧
  (∀ k0_t1 : Fin (k0_t1_loop v1 v7 v13 v19 v25 v31 v37 v43).trips, ∀ (k0_h15 : k0_cond15 v1 v7 v13 v19 v25 v31 v37 v43 k0_t1 = 1#1), ∀ a, (k0_off33 v1 v7 v13 v19 v25 v31 v37 v43 k0_t1) a + S1.size a ≤ S9.size a) ∧
  (∀ k0_t1 : Fin (k0_t1_loop v1 v7 v13 v19 v25 v31 v37 v43).trips, ∀ (k0_h15 : k0_cond15 v1 v7 v13 v19 v25 v31 v37 v43 k0_t1 = 1#1), ∀ a, (k0_off34 v1 v7 v13 v19 v25 v31 v37 v43 k0_t1) a + S1.size a ≤ S3.size a) ∧
  (∀ k0_t1 : Fin (k0_t1_loop v1 v7 v13 v19 v25 v31 v37 v43).trips, ∀ (k0_h15 : k0_cond15 v1 v7 v13 v19 v25 v31 v37 v43 k0_t1 = 1#1), ∀ a, (k0_off36 v1 v7 v13 v19 v25 v31 v37 v43 k0_t1) a + S1x32x2048.size a ≤ S3x32x2048.size a) ∧
  (∀ k0_t1 : Fin (k0_t1_loop v1 v7 v13 v19 v25 v31 v37 v43).trips, ∀ (k0_h15 : k0_cond15 v1 v7 v13 v19 v25 v31 v37 v43 k0_t1 = 1#1), ∀ (hinb : ∀ a, (k0_off36 v1 v7 v13 v19 v25 v31 v37 v43 k0_t1) a + S1x32x2048.size a ≤ S3x32x2048.size a), (Rect.unit (s := S3x32x2048) (k0_off36 v1 v7 v13 v19 v25 v31 v37 v43 k0_t1) S1x32x2048.size hinb).WholeWords (EltTy.packing .bf16)) ∧
  (∀ k0_t1 : Fin (k0_t1_loop v1 v7 v13 v19 v25 v31 v37 v43).trips, ∀ (k0_h16 : k0_cond16 v1 v7 v13 v19 v25 v31 v37 v43 k0_t1 = 1#1), ∀ a, (k0_off37 v1 v7 v13 v19 v25 v31 v37 v43 k0_t1) a + S1.size a ≤ S9.size a) ∧
  (∀ k0_t1 : Fin (k0_t1_loop v1 v7 v13 v19 v25 v31 v37 v43).trips, ∀ (k0_h16 : k0_cond16 v1 v7 v13 v19 v25 v31 v37 v43 k0_t1 = 1#1), ∀ a, (k0_off38 v1 v7 v13 v19 v25 v31 v37 v43 k0_t1) a + S1.size a ≤ S3.size a) ∧
  (∀ k0_t1 : Fin (k0_t1_loop v1 v7 v13 v19 v25 v31 v37 v43).trips, ∀ (k0_h16 : k0_cond16 v1 v7 v13 v19 v25 v31 v37 v43 k0_t1 = 1#1), ∀ a, (k0_off40 v1 v7 v13 v19 v25 v31 v37 v43 k0_t1) a + S1x32x2048.size a ≤ S3x32x2048.size a) ∧
  (∀ k0_t1 : Fin (k0_t1_loop v1 v7 v13 v19 v25 v31 v37 v43).trips, ∀ (k0_h16 : k0_cond16 v1 v7 v13 v19 v25 v31 v37 v43 k0_t1 = 1#1), ∀ (hinb : ∀ a, (k0_off40 v1 v7 v13 v19 v25 v31 v37 v43 k0_t1) a + S1x32x2048.size a ≤ S3x32x2048.size a), (Rect.unit (s := S3x32x2048) (k0_off40 v1 v7 v13 v19 v25 v31 v37 v43 k0_t1) S1x32x2048.size hinb).WholeWords (EltTy.packing .bf16)) ∧
  (∀ k0_t1 : Fin (k0_t1_loop v1 v7 v13 v19 v25 v31 v37 v43).trips, ∀ a, (k0_off42 v1 v7 v13 v19 v25 v31 v37 v43 k0_t1) a + S1.size a ≤ S9.size a) ∧
  (∀ k0_t1 : Fin (k0_t1_loop v1 v7 v13 v19 v25 v31 v37 v43).trips, ∀ a, (k0_off43 v1 v7 v13 v19 v25 v31 v37 v43 k0_t1) a + S1.size a ≤ S6.size a) ∧
  (∀ k0_t1 : Fin (k0_t1_loop v1 v7 v13 v19 v25 v31 v37 v43).trips, ∀ a, (k0_off44 v1 v7 v13 v19 v25 v31 v37 v43 k0_t1) a + S1x2048x2816.size a ≤ S6x2048x2816.size a) ∧
  (∀ k0_t1 : Fin (k0_t1_loop v1 v7 v13 v19 v25 v31 v37 v43).trips, ∀ (hinb : ∀ a, (k0_off44 v1 v7 v13 v19 v25 v31 v37 v43 k0_t1) a + S1x2048x2816.size a ≤ S6x2048x2816.size a), (Rect.unit (s := S6x2048x2816) (k0_off44 v1 v7 v13 v19 v25 v31 v37 v43 k0_t1) S1x2048x2816.size hinb).WholeWords (EltTy.packing .fp8e4m3)) ∧
  (∀ k0_t1 : Fin (k0_t1_loop v1 v7 v13 v19 v25 v31 v37 v43).trips, ∀ a, (k0_off46 v1 v7 v13 v19 v25 v31 v37 v43 k0_t1) a + S1x2048x2816.size a ≤ S6x2048x2816.size a) ∧
  (∀ k0_t1 : Fin (k0_t1_loop v1 v7 v13 v19 v25 v31 v37 v43).trips, 2048 ∣ (k0_mult1 v1 v7 v13 v19 v25 v31 v37 v43 k0_t1).toNat) ∧
  (∀ k0_t1 : Fin (k0_t1_loop v1 v7 v13 v19 v25 v31 v37 v43).trips, ∀ a, (k0_off49 v1 v7 v13 v19 v25 v31 v37 v43 k0_t1) a + S1x32x2048.size a ≤ S3x32x2048.size a) ∧
  (∀ k0_t1 : Fin (k0_t1_loop v1 v7 v13 v19 v25 v31 v37 v43).trips, ∀ (hinb : ∀ a, (k0_off49 v1 v7 v13 v19 v25 v31 v37 v43 k0_t1) a + S1x32x2048.size a ≤ S3x32x2048.size a), (Rect.unit (s := S3x32x2048) (k0_off49 v1 v7 v13 v19 v25 v31 v37 v43 k0_t1) S1x32x2048.size hinb).PackedRows (EltTy.packing .bf16)) ∧
  ((k0_t2_loop v1 v7 v13 v19 v25 v31 v37 v43).OK) ∧
  (∀ k0_t2 : Fin (k0_t2_loop v1 v7 v13 v19 v25 v31 v37 v43).trips, ∀ a, (k0_off50 v1 v7 v13 v19 v25 v31 v37 v43 k0_t2) a + S1.size a ≤ S9.size a) ∧
  (∀ k0_t2 : Fin (k0_t2_loop v1 v7 v13 v19 v25 v31 v37 v43).trips, ∀ (k0_h18 : k0_cond18 v1 v7 v13 v19 v25 v31 v37 v43 k0_t2 = 1#1), ∀ a, (k0_off51 v1 v7 v13 v19 v25 v31 v37 v43 k0_t2) a + S1.size a ≤ S9.size a) ∧
  (∀ k0_t2 : Fin (k0_t2_loop v1 v7 v13 v19 v25 v31 v37 v43).trips, ∀ (k0_h18 : k0_cond18 v1 v7 v13 v19 v25 v31 v37 v43 k0_t2 = 1#1), ∀ a, (k0_off52 v1 v7 v13 v19 v25 v31 v37 v43 k0_t2) a + S1.size a ≤ S6.size a) ∧
  (∀ k0_t2 : Fin (k0_t2_loop v1 v7 v13 v19 v25 v31 v37 v43).trips, ∀ (k0_h18 : k0_cond18 v1 v7 v13 v19 v25 v31 v37 v43 k0_t2 = 1#1), ∀ a, (k0_off53 v1 v7 v13 v19 v25 v31 v37 v43 k0_t2) a + S1x2048x2816.size a ≤ S6x2048x2816.size a) ∧
  (∀ k0_t2 : Fin (k0_t2_loop v1 v7 v13 v19 v25 v31 v37 v43).trips, ∀ (k0_h18 : k0_cond18 v1 v7 v13 v19 v25 v31 v37 v43 k0_t2 = 1#1), ∀ (hinb : ∀ a, (k0_off53 v1 v7 v13 v19 v25 v31 v37 v43 k0_t2) a + S1x2048x2816.size a ≤ S6x2048x2816.size a), (Rect.unit (s := S6x2048x2816) (k0_off53 v1 v7 v13 v19 v25 v31 v37 v43 k0_t2) S1x2048x2816.size hinb).WholeWords (EltTy.packing .fp8e4m3)) ∧
  (∀ k0_t2 : Fin (k0_t2_loop v1 v7 v13 v19 v25 v31 v37 v43).trips, ∀ (k0_h19 : k0_cond19 v1 v7 v13 v19 v25 v31 v37 v43 k0_t2 = 1#1), ∀ a, (k0_off55 v1 v7 v13 v19 v25 v31 v37 v43 k0_t2) a + S1.size a ≤ S9.size a) ∧
  (∀ k0_t2 : Fin (k0_t2_loop v1 v7 v13 v19 v25 v31 v37 v43).trips, ∀ (k0_h19 : k0_cond19 v1 v7 v13 v19 v25 v31 v37 v43 k0_t2 = 1#1), ∀ a, (k0_off56 v1 v7 v13 v19 v25 v31 v37 v43 k0_t2) a + S1.size a ≤ S3.size a) ∧
  (∀ k0_t2 : Fin (k0_t2_loop v1 v7 v13 v19 v25 v31 v37 v43).trips, ∀ (k0_h19 : k0_cond19 v1 v7 v13 v19 v25 v31 v37 v43 k0_t2 = 1#1), ∀ a, (k0_off58 v1 v7 v13 v19 v25 v31 v37 v43 k0_t2) a + S1x32x2048.size a ≤ S3x32x2048.size a) ∧
  (∀ k0_t2 : Fin (k0_t2_loop v1 v7 v13 v19 v25 v31 v37 v43).trips, ∀ (k0_h19 : k0_cond19 v1 v7 v13 v19 v25 v31 v37 v43 k0_t2 = 1#1), ∀ (hinb : ∀ a, (k0_off58 v1 v7 v13 v19 v25 v31 v37 v43 k0_t2) a + S1x32x2048.size a ≤ S3x32x2048.size a), (Rect.unit (s := S3x32x2048) (k0_off58 v1 v7 v13 v19 v25 v31 v37 v43 k0_t2) S1x32x2048.size hinb).WholeWords (EltTy.packing .bf16))
def k0_chk13_1 (v1 : BitVec 32) (v7 : BitVec 32) (v13 : BitVec 32) (v19 : BitVec 32) (v25 : BitVec 32) (v31 : BitVec 32) (v37 : BitVec 32) (v43 : BitVec 32) : Prop :=
  (∀ k0_t2 : Fin (k0_t2_loop v1 v7 v13 v19 v25 v31 v37 v43).trips, ∀ (k0_h20 : k0_cond20 v1 v7 v13 v19 v25 v31 v37 v43 k0_t2 = 1#1), ∀ a, (k0_off59 v1 v7 v13 v19 v25 v31 v37 v43 k0_t2) a + S1.size a ≤ S9.size a) ∧
  (∀ k0_t2 : Fin (k0_t2_loop v1 v7 v13 v19 v25 v31 v37 v43).trips, ∀ (k0_h20 : k0_cond20 v1 v7 v13 v19 v25 v31 v37 v43 k0_t2 = 1#1), ∀ a, (k0_off60 v1 v7 v13 v19 v25 v31 v37 v43 k0_t2) a + S1.size a ≤ S3.size a) ∧
  (∀ k0_t2 : Fin (k0_t2_loop v1 v7 v13 v19 v25 v31 v37 v43).trips, ∀ (k0_h20 : k0_cond20 v1 v7 v13 v19 v25 v31 v37 v43 k0_t2 = 1#1), ∀ a, (k0_off62 v1 v7 v13 v19 v25 v31 v37 v43 k0_t2) a + S1x32x2048.size a ≤ S3x32x2048.size a) ∧
  (∀ k0_t2 : Fin (k0_t2_loop v1 v7 v13 v19 v25 v31 v37 v43).trips, ∀ (k0_h20 : k0_cond20 v1 v7 v13 v19 v25 v31 v37 v43 k0_t2 = 1#1), ∀ (hinb : ∀ a, (k0_off62 v1 v7 v13 v19 v25 v31 v37 v43 k0_t2) a + S1x32x2048.size a ≤ S3x32x2048.size a), (Rect.unit (s := S3x32x2048) (k0_off62 v1 v7 v13 v19 v25 v31 v37 v43 k0_t2) S1x32x2048.size hinb).WholeWords (EltTy.packing .bf16)) ∧
  (∀ k0_t2 : Fin (k0_t2_loop v1 v7 v13 v19 v25 v31 v37 v43).trips, ∀ a, (k0_off64 v1 v7 v13 v19 v25 v31 v37 v43 k0_t2) a + S1.size a ≤ S9.size a) ∧
  (∀ k0_t2 : Fin (k0_t2_loop v1 v7 v13 v19 v25 v31 v37 v43).trips, ∀ a, (k0_off65 v1 v7 v13 v19 v25 v31 v37 v43 k0_t2) a + S1.size a ≤ S6.size a) ∧
  (∀ k0_t2 : Fin (k0_t2_loop v1 v7 v13 v19 v25 v31 v37 v43).trips, ∀ a, (k0_off66 v1 v7 v13 v19 v25 v31 v37 v43 k0_t2) a + S1x2048x2816.size a ≤ S6x2048x2816.size a) ∧
  (∀ k0_t2 : Fin (k0_t2_loop v1 v7 v13 v19 v25 v31 v37 v43).trips, ∀ (hinb : ∀ a, (k0_off66 v1 v7 v13 v19 v25 v31 v37 v43 k0_t2) a + S1x2048x2816.size a ≤ S6x2048x2816.size a), (Rect.unit (s := S6x2048x2816) (k0_off66 v1 v7 v13 v19 v25 v31 v37 v43 k0_t2) S1x2048x2816.size hinb).WholeWords (EltTy.packing .fp8e4m3)) ∧
  (∀ k0_t2 : Fin (k0_t2_loop v1 v7 v13 v19 v25 v31 v37 v43).trips, ∀ a, (k0_off68 v1 v7 v13 v19 v25 v31 v37 v43 k0_t2) a + S1x2048x2816.size a ≤ S6x2048x2816.size a) ∧
  (∀ k0_t2 : Fin (k0_t2_loop v1 v7 v13 v19 v25 v31 v37 v43).trips, 2048 ∣ (k0_mult2 v1 v7 v13 v19 v25 v31 v37 v43 k0_t2).toNat) ∧
  (∀ k0_t2 : Fin (k0_t2_loop v1 v7 v13 v19 v25 v31 v37 v43).trips, ∀ a, (k0_off71 v1 v7 v13 v19 v25 v31 v37 v43 k0_t2) a + S1x32x2048.size a ≤ S3x32x2048.size a) ∧
  (∀ k0_t2 : Fin (k0_t2_loop v1 v7 v13 v19 v25 v31 v37 v43).trips, ∀ (hinb : ∀ a, (k0_off71 v1 v7 v13 v19 v25 v31 v37 v43 k0_t2) a + S1x32x2048.size a ≤ S3x32x2048.size a), (Rect.unit (s := S3x32x2048) (k0_off71 v1 v7 v13 v19 v25 v31 v37 v43 k0_t2) S1x32x2048.size hinb).PackedRows (EltTy.packing .bf16)) ∧
  (∀ (k0_h22 : k0_cond22 v1 v7 v13 v19 v25 v31 v37 v43 = 1#1), ∀ a, (k0_off72 v1 v7 v13 v19 v25 v31 v37 v43) a + S1.size a ≤ S9.size a) ∧
  (∀ (k0_h22 : k0_cond22 v1 v7 v13 v19 v25 v31 v37 v43 = 1#1), ∀ a, (k0_off73 v1 v7 v13 v19 v25 v31 v37 v43) a + S1.size a ≤ S3.size a) ∧
  (∀ (k0_h22 : k0_cond22 v1 v7 v13 v19 v25 v31 v37 v43 = 1#1), ∀ a, (k0_off75 v1 v7 v13 v19 v25 v31 v37 v43) a + S1x32x2048.size a ≤ S3x32x2048.size a) ∧
  (∀ (k0_h22 : k0_cond22 v1 v7 v13 v19 v25 v31 v37 v43 = 1#1), ∀ (hinb : ∀ a, (k0_off75 v1 v7 v13 v19 v25 v31 v37 v43) a + S1x32x2048.size a ≤ S3x32x2048.size a), (Rect.unit (s := S3x32x2048) (k0_off75 v1 v7 v13 v19 v25 v31 v37 v43) S1x32x2048.size hinb).WholeWords (EltTy.packing .bf16)) ∧
  (∀ (k0_h23 : k0_cond23 v1 v7 v13 v19 v25 v31 v37 v43 = 1#1), ∀ a, (k0_off76 v1 v7 v13 v19 v25 v31 v37 v43) a + S1.size a ≤ S9.size a) ∧
  (∀ (k0_h23 : k0_cond23 v1 v7 v13 v19 v25 v31 v37 v43 = 1#1), ∀ a, (k0_off77 v1 v7 v13 v19 v25 v31 v37 v43) a + S1.size a ≤ S3.size a) ∧
  (∀ (k0_h23 : k0_cond23 v1 v7 v13 v19 v25 v31 v37 v43 = 1#1), ∀ a, (k0_off79 v1 v7 v13 v19 v25 v31 v37 v43) a + S1x32x2048.size a ≤ S3x32x2048.size a) ∧
  (∀ (k0_h23 : k0_cond23 v1 v7 v13 v19 v25 v31 v37 v43 = 1#1), ∀ (hinb : ∀ a, (k0_off79 v1 v7 v13 v19 v25 v31 v37 v43) a + S1x32x2048.size a ≤ S3x32x2048.size a), (Rect.unit (s := S3x32x2048) (k0_off79 v1 v7 v13 v19 v25 v31 v37 v43) S1x32x2048.size hinb).WholeWords (EltTy.packing .bf16)) ∧
  (∀ (k0_h24 : k0_cond24 v1 v7 v13 v19 v25 v31 v37 v43 = 1#1), ∀ a, (k0_off80 v1 v7 v13 v19 v25 v31 v37 v43) a + S1.size a ≤ S9.size a) ∧
  (∀ (k0_h24 : k0_cond24 v1 v7 v13 v19 v25 v31 v37 v43 = 1#1), ∀ a, (k0_off81 v1 v7 v13 v19 v25 v31 v37 v43) a + S1.size a ≤ S3.size a) ∧
  (∀ (k0_h24 : k0_cond24 v1 v7 v13 v19 v25 v31 v37 v43 = 1#1), ∀ a, (k0_off83 v1 v7 v13 v19 v25 v31 v37 v43) a + S1x32x2048.size a ≤ S3x32x2048.size a) ∧
  (∀ (k0_h24 : k0_cond24 v1 v7 v13 v19 v25 v31 v37 v43 = 1#1), ∀ (hinb : ∀ a, (k0_off83 v1 v7 v13 v19 v25 v31 v37 v43) a + S1x32x2048.size a ≤ S3x32x2048.size a), (Rect.unit (s := S3x32x2048) (k0_off83 v1 v7 v13 v19 v25 v31 v37 v43) S1x32x2048.size hinb).WholeWords (EltTy.packing .bf16)) ∧
  (∀ (k0_h25 : k0_cond25 v1 v7 v13 v19 v25 v31 v37 v43 = 1#1), ∀ a, (k0_off84 v1 v7 v13 v19 v25 v31 v37 v43) a + S1.size a ≤ S9.size a) ∧
  (∀ (k0_h25 : k0_cond25 v1 v7 v13 v19 v25 v31 v37 v43 = 1#1), ∀ a, (k0_off85 v1 v7 v13 v19 v25 v31 v37 v43) a + S1.size a ≤ S3.size a) ∧
  (∀ (k0_h25 : k0_cond25 v1 v7 v13 v19 v25 v31 v37 v43 = 1#1), ∀ a, (k0_off87 v1 v7 v13 v19 v25 v31 v37 v43) a + S1x32x2048.size a ≤ S3x32x2048.size a) ∧
  (∀ (k0_h25 : k0_cond25 v1 v7 v13 v19 v25 v31 v37 v43 = 1#1), ∀ (hinb : ∀ a, (k0_off87 v1 v7 v13 v19 v25 v31 v37 v43) a + S1x32x2048.size a ≤ S3x32x2048.size a), (Rect.unit (s := S3x32x2048) (k0_off87 v1 v7 v13 v19 v25 v31 v37 v43) S1x32x2048.size hinb).WholeWords (EltTy.packing .bf16))
def k0_chk13 (v1 : BitVec 32) (v7 : BitVec 32) (v13 : BitVec 32) (v19 : BitVec 32) (v25 : BitVec 32) (v31 : BitVec 32) (v37 : BitVec 32) (v43 : BitVec 32) : Prop :=
  k0_chk13_0 v1 v7 v13 v19 v25 v31 v37 v43 ∧
  k0_chk13_1 v1 v7 v13 v19 v25 v31 v37 v43
theorem k0_t1_ok : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), (k0_t1_loop v1 v7 v13 v19 v25 v31 v37 v43).OK := fun v1 v7 v13 v19 v25 v31 v37 v43 k0_hw13 => k0_hw13.1.1
theorem k0_off28_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ a, (k0_off28 v1 v7 v13 v19 v25 v31 v37 v43 k0_t1) a + S1.size a ≤ S9.size a := fun v1 v7 v13 v19 v25 v31 v37 v43 k0_hw13 k0_t1 => k0_hw13.1.2.1 k0_t1
theorem k0_off29_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h14 : k0_cond14 v1 v7 v13 v19 v25 v31 v37 v43 k0_t1 = 1#1), ∀ a, (k0_off29 v1 v7 v13 v19 v25 v31 v37 v43 k0_t1) a + S1.size a ≤ S9.size a := fun v1 v7 v13 v19 v25 v31 v37 v43 k0_hw13 k0_t1 k0_h14 => k0_hw13.1.2.2.1 k0_t1 k0_h14
theorem k0_off30_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h14 : k0_cond14 v1 v7 v13 v19 v25 v31 v37 v43 k0_t1 = 1#1), ∀ a, (k0_off30 v1 v7 v13 v19 v25 v31 v37 v43 k0_t1) a + S1.size a ≤ S6.size a := fun v1 v7 v13 v19 v25 v31 v37 v43 k0_hw13 k0_t1 k0_h14 => k0_hw13.1.2.2.2.1 k0_t1 k0_h14
theorem k0_off31_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h14 : k0_cond14 v1 v7 v13 v19 v25 v31 v37 v43 k0_t1 = 1#1), ∀ a, (k0_off31 v1 v7 v13 v19 v25 v31 v37 v43 k0_t1) a + S1x2048x2816.size a ≤ S6x2048x2816.size a := fun v1 v7 v13 v19 v25 v31 v37 v43 k0_hw13 k0_t1 k0_h14 => k0_hw13.1.2.2.2.2.1 k0_t1 k0_h14
theorem k0_off31_wordsfp8e4m3 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h14 : k0_cond14 v1 v7 v13 v19 v25 v31 v37 v43 k0_t1 = 1#1), (Rect.unit (s := S6x2048x2816) (k0_off31 v1 v7 v13 v19 v25 v31 v37 v43 k0_t1) S1x2048x2816.size (k0_off31_inb v1 v7 v13 v19 v25 v31 v37 v43 k0_hw13 k0_t1 k0_h14)).WholeWords (EltTy.packing .fp8e4m3) := fun v1 v7 v13 v19 v25 v31 v37 v43 k0_hw13 k0_t1 k0_h14 => k0_hw13.1.2.2.2.2.2.1 k0_t1 k0_h14 (k0_off31_inb v1 v7 v13 v19 v25 v31 v37 v43 k0_hw13 k0_t1 k0_h14)
theorem k0_off33_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h15 : k0_cond15 v1 v7 v13 v19 v25 v31 v37 v43 k0_t1 = 1#1), ∀ a, (k0_off33 v1 v7 v13 v19 v25 v31 v37 v43 k0_t1) a + S1.size a ≤ S9.size a := fun v1 v7 v13 v19 v25 v31 v37 v43 k0_hw13 k0_t1 k0_h15 => k0_hw13.1.2.2.2.2.2.2.1 k0_t1 k0_h15
theorem k0_off34_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h15 : k0_cond15 v1 v7 v13 v19 v25 v31 v37 v43 k0_t1 = 1#1), ∀ a, (k0_off34 v1 v7 v13 v19 v25 v31 v37 v43 k0_t1) a + S1.size a ≤ S3.size a := fun v1 v7 v13 v19 v25 v31 v37 v43 k0_hw13 k0_t1 k0_h15 => k0_hw13.1.2.2.2.2.2.2.2.1 k0_t1 k0_h15
theorem k0_off36_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h15 : k0_cond15 v1 v7 v13 v19 v25 v31 v37 v43 k0_t1 = 1#1), ∀ a, (k0_off36 v1 v7 v13 v19 v25 v31 v37 v43 k0_t1) a + S1x32x2048.size a ≤ S3x32x2048.size a := fun v1 v7 v13 v19 v25 v31 v37 v43 k0_hw13 k0_t1 k0_h15 => k0_hw13.1.2.2.2.2.2.2.2.2.1 k0_t1 k0_h15
theorem k0_off36_wordsbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h15 : k0_cond15 v1 v7 v13 v19 v25 v31 v37 v43 k0_t1 = 1#1), (Rect.unit (s := S3x32x2048) (k0_off36 v1 v7 v13 v19 v25 v31 v37 v43 k0_t1) S1x32x2048.size (k0_off36_inb v1 v7 v13 v19 v25 v31 v37 v43 k0_hw13 k0_t1 k0_h15)).WholeWords (EltTy.packing .bf16) := fun v1 v7 v13 v19 v25 v31 v37 v43 k0_hw13 k0_t1 k0_h15 => k0_hw13.1.2.2.2.2.2.2.2.2.2.1 k0_t1 k0_h15 (k0_off36_inb v1 v7 v13 v19 v25 v31 v37 v43 k0_hw13 k0_t1 k0_h15)
theorem k0_off37_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h16 : k0_cond16 v1 v7 v13 v19 v25 v31 v37 v43 k0_t1 = 1#1), ∀ a, (k0_off37 v1 v7 v13 v19 v25 v31 v37 v43 k0_t1) a + S1.size a ≤ S9.size a := fun v1 v7 v13 v19 v25 v31 v37 v43 k0_hw13 k0_t1 k0_h16 => k0_hw13.1.2.2.2.2.2.2.2.2.2.2.1 k0_t1 k0_h16
theorem k0_off38_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h16 : k0_cond16 v1 v7 v13 v19 v25 v31 v37 v43 k0_t1 = 1#1), ∀ a, (k0_off38 v1 v7 v13 v19 v25 v31 v37 v43 k0_t1) a + S1.size a ≤ S3.size a := fun v1 v7 v13 v19 v25 v31 v37 v43 k0_hw13 k0_t1 k0_h16 => k0_hw13.1.2.2.2.2.2.2.2.2.2.2.2.1 k0_t1 k0_h16
theorem k0_off40_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h16 : k0_cond16 v1 v7 v13 v19 v25 v31 v37 v43 k0_t1 = 1#1), ∀ a, (k0_off40 v1 v7 v13 v19 v25 v31 v37 v43 k0_t1) a + S1x32x2048.size a ≤ S3x32x2048.size a := fun v1 v7 v13 v19 v25 v31 v37 v43 k0_hw13 k0_t1 k0_h16 => k0_hw13.1.2.2.2.2.2.2.2.2.2.2.2.2.1 k0_t1 k0_h16
theorem k0_off40_wordsbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ (k0_h16 : k0_cond16 v1 v7 v13 v19 v25 v31 v37 v43 k0_t1 = 1#1), (Rect.unit (s := S3x32x2048) (k0_off40 v1 v7 v13 v19 v25 v31 v37 v43 k0_t1) S1x32x2048.size (k0_off40_inb v1 v7 v13 v19 v25 v31 v37 v43 k0_hw13 k0_t1 k0_h16)).WholeWords (EltTy.packing .bf16) := fun v1 v7 v13 v19 v25 v31 v37 v43 k0_hw13 k0_t1 k0_h16 => k0_hw13.1.2.2.2.2.2.2.2.2.2.2.2.2.2.1 k0_t1 k0_h16 (k0_off40_inb v1 v7 v13 v19 v25 v31 v37 v43 k0_hw13 k0_t1 k0_h16)
theorem k0_off42_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ a, (k0_off42 v1 v7 v13 v19 v25 v31 v37 v43 k0_t1) a + S1.size a ≤ S9.size a := fun v1 v7 v13 v19 v25 v31 v37 v43 k0_hw13 k0_t1 => k0_hw13.1.2.2.2.2.2.2.2.2.2.2.2.2.2.2.1 k0_t1
theorem k0_off43_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ a, (k0_off43 v1 v7 v13 v19 v25 v31 v37 v43 k0_t1) a + S1.size a ≤ S6.size a := fun v1 v7 v13 v19 v25 v31 v37 v43 k0_hw13 k0_t1 => k0_hw13.1.2.2.2.2.2.2.2.2.2.2.2.2.2.2.2.1 k0_t1
theorem k0_off44_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ a, (k0_off44 v1 v7 v13 v19 v25 v31 v37 v43 k0_t1) a + S1x2048x2816.size a ≤ S6x2048x2816.size a := fun v1 v7 v13 v19 v25 v31 v37 v43 k0_hw13 k0_t1 => k0_hw13.1.2.2.2.2.2.2.2.2.2.2.2.2.2.2.2.2.1 k0_t1
theorem k0_off44_wordsfp8e4m3 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), (Rect.unit (s := S6x2048x2816) (k0_off44 v1 v7 v13 v19 v25 v31 v37 v43 k0_t1) S1x2048x2816.size (k0_off44_inb v1 v7 v13 v19 v25 v31 v37 v43 k0_hw13 k0_t1)).WholeWords (EltTy.packing .fp8e4m3) := fun v1 v7 v13 v19 v25 v31 v37 v43 k0_hw13 k0_t1 => k0_hw13.1.2.2.2.2.2.2.2.2.2.2.2.2.2.2.2.2.2.1 k0_t1 (k0_off44_inb v1 v7 v13 v19 v25 v31 v37 v43 k0_hw13 k0_t1)
theorem k0_off46_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ a, (k0_off46 v1 v7 v13 v19 v25 v31 v37 v43 k0_t1) a + S1x2048x2816.size a ≤ S6x2048x2816.size a := fun v1 v7 v13 v19 v25 v31 v37 v43 k0_hw13 k0_t1 => k0_hw13.1.2.2.2.2.2.2.2.2.2.2.2.2.2.2.2.2.2.2.1 k0_t1
theorem k0_mult1_dvd : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), 2048 ∣ (k0_mult1 v1 v7 v13 v19 v25 v31 v37 v43 k0_t1).toNat := fun v1 v7 v13 v19 v25 v31 v37 v43 k0_hw13 k0_t1 => k0_hw13.1.2.2.2.2.2.2.2.2.2.2.2.2.2.2.2.2.2.2.2.1 k0_t1
theorem k0_off49_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), ∀ a, (k0_off49 v1 v7 v13 v19 v25 v31 v37 v43 k0_t1) a + S1x32x2048.size a ≤ S3x32x2048.size a := fun v1 v7 v13 v19 v25 v31 v37 v43 k0_hw13 k0_t1 => k0_hw13.1.2.2.2.2.2.2.2.2.2.2.2.2.2.2.2.2.2.2.2.2.1 k0_t1
theorem k0_off49_packedbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t1 : Fin (k0_t1_loop v1 v7 v13 v19 v25 v31 v37 v43).trips), (Rect.unit (s := S3x32x2048) (k0_off49 v1 v7 v13 v19 v25 v31 v37 v43 k0_t1) S1x32x2048.size (k0_off49_inb v1 v7 v13 v19 v25 v31 v37 v43 k0_hw13 k0_t1)).PackedRows (EltTy.packing .bf16) := fun v1 v7 v13 v19 v25 v31 v37 v43 k0_hw13 k0_t1 => k0_hw13.1.2.2.2.2.2.2.2.2.2.2.2.2.2.2.2.2.2.2.2.2.2.1 k0_t1 (k0_off49_inb v1 v7 v13 v19 v25 v31 v37 v43 k0_hw13 k0_t1)
theorem k0_t2_ok : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), (k0_t2_loop v1 v7 v13 v19 v25 v31 v37 v43).OK := fun v1 v7 v13 v19 v25 v31 v37 v43 k0_hw13 => k0_hw13.1.2.2.2.2.2.2.2.2.2.2.2.2.2.2.2.2.2.2.2.2.2.2.1
theorem k0_off50_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ a, (k0_off50 v1 v7 v13 v19 v25 v31 v37 v43 k0_t2) a + S1.size a ≤ S9.size a := fun v1 v7 v13 v19 v25 v31 v37 v43 k0_hw13 k0_t2 => k0_hw13.1.2.2.2.2.2.2.2.2.2.2.2.2.2.2.2.2.2.2.2.2.2.2.2.1 k0_t2
theorem k0_off51_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h18 : k0_cond18 v1 v7 v13 v19 v25 v31 v37 v43 k0_t2 = 1#1), ∀ a, (k0_off51 v1 v7 v13 v19 v25 v31 v37 v43 k0_t2) a + S1.size a ≤ S9.size a := fun v1 v7 v13 v19 v25 v31 v37 v43 k0_hw13 k0_t2 k0_h18 => k0_hw13.1.2.2.2.2.2.2.2.2.2.2.2.2.2.2.2.2.2.2.2.2.2.2.2.2.1 k0_t2 k0_h18
theorem k0_off52_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h18 : k0_cond18 v1 v7 v13 v19 v25 v31 v37 v43 k0_t2 = 1#1), ∀ a, (k0_off52 v1 v7 v13 v19 v25 v31 v37 v43 k0_t2) a + S1.size a ≤ S6.size a := fun v1 v7 v13 v19 v25 v31 v37 v43 k0_hw13 k0_t2 k0_h18 => k0_hw13.1.2.2.2.2.2.2.2.2.2.2.2.2.2.2.2.2.2.2.2.2.2.2.2.2.2.1 k0_t2 k0_h18
theorem k0_off53_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h18 : k0_cond18 v1 v7 v13 v19 v25 v31 v37 v43 k0_t2 = 1#1), ∀ a, (k0_off53 v1 v7 v13 v19 v25 v31 v37 v43 k0_t2) a + S1x2048x2816.size a ≤ S6x2048x2816.size a := fun v1 v7 v13 v19 v25 v31 v37 v43 k0_hw13 k0_t2 k0_h18 => k0_hw13.1.2.2.2.2.2.2.2.2.2.2.2.2.2.2.2.2.2.2.2.2.2.2.2.2.2.2.1 k0_t2 k0_h18
theorem k0_off53_wordsfp8e4m3 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h18 : k0_cond18 v1 v7 v13 v19 v25 v31 v37 v43 k0_t2 = 1#1), (Rect.unit (s := S6x2048x2816) (k0_off53 v1 v7 v13 v19 v25 v31 v37 v43 k0_t2) S1x2048x2816.size (k0_off53_inb v1 v7 v13 v19 v25 v31 v37 v43 k0_hw13 k0_t2 k0_h18)).WholeWords (EltTy.packing .fp8e4m3) := fun v1 v7 v13 v19 v25 v31 v37 v43 k0_hw13 k0_t2 k0_h18 => k0_hw13.1.2.2.2.2.2.2.2.2.2.2.2.2.2.2.2.2.2.2.2.2.2.2.2.2.2.2.2.1 k0_t2 k0_h18 (k0_off53_inb v1 v7 v13 v19 v25 v31 v37 v43 k0_hw13 k0_t2 k0_h18)
theorem k0_off55_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h19 : k0_cond19 v1 v7 v13 v19 v25 v31 v37 v43 k0_t2 = 1#1), ∀ a, (k0_off55 v1 v7 v13 v19 v25 v31 v37 v43 k0_t2) a + S1.size a ≤ S9.size a := fun v1 v7 v13 v19 v25 v31 v37 v43 k0_hw13 k0_t2 k0_h19 => k0_hw13.1.2.2.2.2.2.2.2.2.2.2.2.2.2.2.2.2.2.2.2.2.2.2.2.2.2.2.2.2.1 k0_t2 k0_h19
theorem k0_off56_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h19 : k0_cond19 v1 v7 v13 v19 v25 v31 v37 v43 k0_t2 = 1#1), ∀ a, (k0_off56 v1 v7 v13 v19 v25 v31 v37 v43 k0_t2) a + S1.size a ≤ S3.size a := fun v1 v7 v13 v19 v25 v31 v37 v43 k0_hw13 k0_t2 k0_h19 => k0_hw13.1.2.2.2.2.2.2.2.2.2.2.2.2.2.2.2.2.2.2.2.2.2.2.2.2.2.2.2.2.2.1 k0_t2 k0_h19
theorem k0_off58_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h19 : k0_cond19 v1 v7 v13 v19 v25 v31 v37 v43 k0_t2 = 1#1), ∀ a, (k0_off58 v1 v7 v13 v19 v25 v31 v37 v43 k0_t2) a + S1x32x2048.size a ≤ S3x32x2048.size a := fun v1 v7 v13 v19 v25 v31 v37 v43 k0_hw13 k0_t2 k0_h19 => k0_hw13.1.2.2.2.2.2.2.2.2.2.2.2.2.2.2.2.2.2.2.2.2.2.2.2.2.2.2.2.2.2.2.1 k0_t2 k0_h19
theorem k0_off58_wordsbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h19 : k0_cond19 v1 v7 v13 v19 v25 v31 v37 v43 k0_t2 = 1#1), (Rect.unit (s := S3x32x2048) (k0_off58 v1 v7 v13 v19 v25 v31 v37 v43 k0_t2) S1x32x2048.size (k0_off58_inb v1 v7 v13 v19 v25 v31 v37 v43 k0_hw13 k0_t2 k0_h19)).WholeWords (EltTy.packing .bf16) := fun v1 v7 v13 v19 v25 v31 v37 v43 k0_hw13 k0_t2 k0_h19 => k0_hw13.1.2.2.2.2.2.2.2.2.2.2.2.2.2.2.2.2.2.2.2.2.2.2.2.2.2.2.2.2.2.2.2 k0_t2 k0_h19 (k0_off58_inb v1 v7 v13 v19 v25 v31 v37 v43 k0_hw13 k0_t2 k0_h19)
theorem k0_off59_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h20 : k0_cond20 v1 v7 v13 v19 v25 v31 v37 v43 k0_t2 = 1#1), ∀ a, (k0_off59 v1 v7 v13 v19 v25 v31 v37 v43 k0_t2) a + S1.size a ≤ S9.size a := fun v1 v7 v13 v19 v25 v31 v37 v43 k0_hw13 k0_t2 k0_h20 => k0_hw13.2.1 k0_t2 k0_h20
theorem k0_off60_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h20 : k0_cond20 v1 v7 v13 v19 v25 v31 v37 v43 k0_t2 = 1#1), ∀ a, (k0_off60 v1 v7 v13 v19 v25 v31 v37 v43 k0_t2) a + S1.size a ≤ S3.size a := fun v1 v7 v13 v19 v25 v31 v37 v43 k0_hw13 k0_t2 k0_h20 => k0_hw13.2.2.1 k0_t2 k0_h20
theorem k0_off62_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h20 : k0_cond20 v1 v7 v13 v19 v25 v31 v37 v43 k0_t2 = 1#1), ∀ a, (k0_off62 v1 v7 v13 v19 v25 v31 v37 v43 k0_t2) a + S1x32x2048.size a ≤ S3x32x2048.size a := fun v1 v7 v13 v19 v25 v31 v37 v43 k0_hw13 k0_t2 k0_h20 => k0_hw13.2.2.2.1 k0_t2 k0_h20
theorem k0_off62_wordsbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ (k0_h20 : k0_cond20 v1 v7 v13 v19 v25 v31 v37 v43 k0_t2 = 1#1), (Rect.unit (s := S3x32x2048) (k0_off62 v1 v7 v13 v19 v25 v31 v37 v43 k0_t2) S1x32x2048.size (k0_off62_inb v1 v7 v13 v19 v25 v31 v37 v43 k0_hw13 k0_t2 k0_h20)).WholeWords (EltTy.packing .bf16) := fun v1 v7 v13 v19 v25 v31 v37 v43 k0_hw13 k0_t2 k0_h20 => k0_hw13.2.2.2.2.1 k0_t2 k0_h20 (k0_off62_inb v1 v7 v13 v19 v25 v31 v37 v43 k0_hw13 k0_t2 k0_h20)
theorem k0_off64_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ a, (k0_off64 v1 v7 v13 v19 v25 v31 v37 v43 k0_t2) a + S1.size a ≤ S9.size a := fun v1 v7 v13 v19 v25 v31 v37 v43 k0_hw13 k0_t2 => k0_hw13.2.2.2.2.2.1 k0_t2
theorem k0_off65_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ a, (k0_off65 v1 v7 v13 v19 v25 v31 v37 v43 k0_t2) a + S1.size a ≤ S6.size a := fun v1 v7 v13 v19 v25 v31 v37 v43 k0_hw13 k0_t2 => k0_hw13.2.2.2.2.2.2.1 k0_t2
theorem k0_off66_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ a, (k0_off66 v1 v7 v13 v19 v25 v31 v37 v43 k0_t2) a + S1x2048x2816.size a ≤ S6x2048x2816.size a := fun v1 v7 v13 v19 v25 v31 v37 v43 k0_hw13 k0_t2 => k0_hw13.2.2.2.2.2.2.2.1 k0_t2
theorem k0_off66_wordsfp8e4m3 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), (Rect.unit (s := S6x2048x2816) (k0_off66 v1 v7 v13 v19 v25 v31 v37 v43 k0_t2) S1x2048x2816.size (k0_off66_inb v1 v7 v13 v19 v25 v31 v37 v43 k0_hw13 k0_t2)).WholeWords (EltTy.packing .fp8e4m3) := fun v1 v7 v13 v19 v25 v31 v37 v43 k0_hw13 k0_t2 => k0_hw13.2.2.2.2.2.2.2.2.1 k0_t2 (k0_off66_inb v1 v7 v13 v19 v25 v31 v37 v43 k0_hw13 k0_t2)
theorem k0_off68_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ a, (k0_off68 v1 v7 v13 v19 v25 v31 v37 v43 k0_t2) a + S1x2048x2816.size a ≤ S6x2048x2816.size a := fun v1 v7 v13 v19 v25 v31 v37 v43 k0_hw13 k0_t2 => k0_hw13.2.2.2.2.2.2.2.2.2.1 k0_t2
theorem k0_mult2_dvd : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), 2048 ∣ (k0_mult2 v1 v7 v13 v19 v25 v31 v37 v43 k0_t2).toNat := fun v1 v7 v13 v19 v25 v31 v37 v43 k0_hw13 k0_t2 => k0_hw13.2.2.2.2.2.2.2.2.2.2.1 k0_t2
theorem k0_off71_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), ∀ a, (k0_off71 v1 v7 v13 v19 v25 v31 v37 v43 k0_t2) a + S1x32x2048.size a ≤ S3x32x2048.size a := fun v1 v7 v13 v19 v25 v31 v37 v43 k0_hw13 k0_t2 => k0_hw13.2.2.2.2.2.2.2.2.2.2.2.1 k0_t2
theorem k0_off71_packedbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43) (k0_t2 : Fin (k0_t2_loop v1 v7 v13 v19 v25 v31 v37 v43).trips), (Rect.unit (s := S3x32x2048) (k0_off71 v1 v7 v13 v19 v25 v31 v37 v43 k0_t2) S1x32x2048.size (k0_off71_inb v1 v7 v13 v19 v25 v31 v37 v43 k0_hw13 k0_t2)).PackedRows (EltTy.packing .bf16) := fun v1 v7 v13 v19 v25 v31 v37 v43 k0_hw13 k0_t2 => k0_hw13.2.2.2.2.2.2.2.2.2.2.2.2.1 k0_t2 (k0_off71_inb v1 v7 v13 v19 v25 v31 v37 v43 k0_hw13 k0_t2)
theorem k0_off72_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h22 : k0_cond22 v1 v7 v13 v19 v25 v31 v37 v43 = 1#1), ∀ a, (k0_off72 v1 v7 v13 v19 v25 v31 v37 v43) a + S1.size a ≤ S9.size a := fun v1 v7 v13 v19 v25 v31 v37 v43 k0_hw13 k0_h22 => k0_hw13.2.2.2.2.2.2.2.2.2.2.2.2.2.1 k0_h22
theorem k0_off73_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h22 : k0_cond22 v1 v7 v13 v19 v25 v31 v37 v43 = 1#1), ∀ a, (k0_off73 v1 v7 v13 v19 v25 v31 v37 v43) a + S1.size a ≤ S3.size a := fun v1 v7 v13 v19 v25 v31 v37 v43 k0_hw13 k0_h22 => k0_hw13.2.2.2.2.2.2.2.2.2.2.2.2.2.2.1 k0_h22
theorem k0_off75_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h22 : k0_cond22 v1 v7 v13 v19 v25 v31 v37 v43 = 1#1), ∀ a, (k0_off75 v1 v7 v13 v19 v25 v31 v37 v43) a + S1x32x2048.size a ≤ S3x32x2048.size a := fun v1 v7 v13 v19 v25 v31 v37 v43 k0_hw13 k0_h22 => k0_hw13.2.2.2.2.2.2.2.2.2.2.2.2.2.2.2.1 k0_h22
theorem k0_off75_wordsbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h22 : k0_cond22 v1 v7 v13 v19 v25 v31 v37 v43 = 1#1), (Rect.unit (s := S3x32x2048) (k0_off75 v1 v7 v13 v19 v25 v31 v37 v43) S1x32x2048.size (k0_off75_inb v1 v7 v13 v19 v25 v31 v37 v43 k0_hw13 k0_h22)).WholeWords (EltTy.packing .bf16) := fun v1 v7 v13 v19 v25 v31 v37 v43 k0_hw13 k0_h22 => k0_hw13.2.2.2.2.2.2.2.2.2.2.2.2.2.2.2.2.1 k0_h22 (k0_off75_inb v1 v7 v13 v19 v25 v31 v37 v43 k0_hw13 k0_h22)
theorem k0_off76_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h23 : k0_cond23 v1 v7 v13 v19 v25 v31 v37 v43 = 1#1), ∀ a, (k0_off76 v1 v7 v13 v19 v25 v31 v37 v43) a + S1.size a ≤ S9.size a := fun v1 v7 v13 v19 v25 v31 v37 v43 k0_hw13 k0_h23 => k0_hw13.2.2.2.2.2.2.2.2.2.2.2.2.2.2.2.2.2.1 k0_h23
theorem k0_off77_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h23 : k0_cond23 v1 v7 v13 v19 v25 v31 v37 v43 = 1#1), ∀ a, (k0_off77 v1 v7 v13 v19 v25 v31 v37 v43) a + S1.size a ≤ S3.size a := fun v1 v7 v13 v19 v25 v31 v37 v43 k0_hw13 k0_h23 => k0_hw13.2.2.2.2.2.2.2.2.2.2.2.2.2.2.2.2.2.2.1 k0_h23
theorem k0_off79_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h23 : k0_cond23 v1 v7 v13 v19 v25 v31 v37 v43 = 1#1), ∀ a, (k0_off79 v1 v7 v13 v19 v25 v31 v37 v43) a + S1x32x2048.size a ≤ S3x32x2048.size a := fun v1 v7 v13 v19 v25 v31 v37 v43 k0_hw13 k0_h23 => k0_hw13.2.2.2.2.2.2.2.2.2.2.2.2.2.2.2.2.2.2.2.1 k0_h23
theorem k0_off79_wordsbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h23 : k0_cond23 v1 v7 v13 v19 v25 v31 v37 v43 = 1#1), (Rect.unit (s := S3x32x2048) (k0_off79 v1 v7 v13 v19 v25 v31 v37 v43) S1x32x2048.size (k0_off79_inb v1 v7 v13 v19 v25 v31 v37 v43 k0_hw13 k0_h23)).WholeWords (EltTy.packing .bf16) := fun v1 v7 v13 v19 v25 v31 v37 v43 k0_hw13 k0_h23 => k0_hw13.2.2.2.2.2.2.2.2.2.2.2.2.2.2.2.2.2.2.2.2.1 k0_h23 (k0_off79_inb v1 v7 v13 v19 v25 v31 v37 v43 k0_hw13 k0_h23)
theorem k0_off80_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h24 : k0_cond24 v1 v7 v13 v19 v25 v31 v37 v43 = 1#1), ∀ a, (k0_off80 v1 v7 v13 v19 v25 v31 v37 v43) a + S1.size a ≤ S9.size a := fun v1 v7 v13 v19 v25 v31 v37 v43 k0_hw13 k0_h24 => k0_hw13.2.2.2.2.2.2.2.2.2.2.2.2.2.2.2.2.2.2.2.2.2.1 k0_h24
theorem k0_off81_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h24 : k0_cond24 v1 v7 v13 v19 v25 v31 v37 v43 = 1#1), ∀ a, (k0_off81 v1 v7 v13 v19 v25 v31 v37 v43) a + S1.size a ≤ S3.size a := fun v1 v7 v13 v19 v25 v31 v37 v43 k0_hw13 k0_h24 => k0_hw13.2.2.2.2.2.2.2.2.2.2.2.2.2.2.2.2.2.2.2.2.2.2.1 k0_h24
theorem k0_off83_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h24 : k0_cond24 v1 v7 v13 v19 v25 v31 v37 v43 = 1#1), ∀ a, (k0_off83 v1 v7 v13 v19 v25 v31 v37 v43) a + S1x32x2048.size a ≤ S3x32x2048.size a := fun v1 v7 v13 v19 v25 v31 v37 v43 k0_hw13 k0_h24 => k0_hw13.2.2.2.2.2.2.2.2.2.2.2.2.2.2.2.2.2.2.2.2.2.2.2.1 k0_h24
theorem k0_off83_wordsbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h24 : k0_cond24 v1 v7 v13 v19 v25 v31 v37 v43 = 1#1), (Rect.unit (s := S3x32x2048) (k0_off83 v1 v7 v13 v19 v25 v31 v37 v43) S1x32x2048.size (k0_off83_inb v1 v7 v13 v19 v25 v31 v37 v43 k0_hw13 k0_h24)).WholeWords (EltTy.packing .bf16) := fun v1 v7 v13 v19 v25 v31 v37 v43 k0_hw13 k0_h24 => k0_hw13.2.2.2.2.2.2.2.2.2.2.2.2.2.2.2.2.2.2.2.2.2.2.2.2.1 k0_h24 (k0_off83_inb v1 v7 v13 v19 v25 v31 v37 v43 k0_hw13 k0_h24)
theorem k0_off84_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h25 : k0_cond25 v1 v7 v13 v19 v25 v31 v37 v43 = 1#1), ∀ a, (k0_off84 v1 v7 v13 v19 v25 v31 v37 v43) a + S1.size a ≤ S9.size a := fun v1 v7 v13 v19 v25 v31 v37 v43 k0_hw13 k0_h25 => k0_hw13.2.2.2.2.2.2.2.2.2.2.2.2.2.2.2.2.2.2.2.2.2.2.2.2.2.1 k0_h25
theorem k0_off85_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h25 : k0_cond25 v1 v7 v13 v19 v25 v31 v37 v43 = 1#1), ∀ a, (k0_off85 v1 v7 v13 v19 v25 v31 v37 v43) a + S1.size a ≤ S3.size a := fun v1 v7 v13 v19 v25 v31 v37 v43 k0_hw13 k0_h25 => k0_hw13.2.2.2.2.2.2.2.2.2.2.2.2.2.2.2.2.2.2.2.2.2.2.2.2.2.2.1 k0_h25
theorem k0_off87_inb : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h25 : k0_cond25 v1 v7 v13 v19 v25 v31 v37 v43 = 1#1), ∀ a, (k0_off87 v1 v7 v13 v19 v25 v31 v37 v43) a + S1x32x2048.size a ≤ S3x32x2048.size a := fun v1 v7 v13 v19 v25 v31 v37 v43 k0_hw13 k0_h25 => k0_hw13.2.2.2.2.2.2.2.2.2.2.2.2.2.2.2.2.2.2.2.2.2.2.2.2.2.2.2.1 k0_h25
theorem k0_off87_wordsbf16 : ∀ (v1 : BitVec 32) (v7 : BitVec 32) (v13 : BitVec 32) (v19 : BitVec 32) (v25 : BitVec 32) (v31 : BitVec 32) (v37 : BitVec 32) (v43 : BitVec 32) (k0_hw13 : k0_chk13 v1 v7 v13 v19 v25 v31 v37 v43), ∀ (k0_h25 : k0_cond25 v1 v7 v13 v19 v25 v31 v37 v43 = 1#1), (Rect.unit (s := S3x32x2048) (k0_off87 v1 v7 v13 v19 v25 v31 v37 v43) S1x32x2048.size (k0_off87_inb v1 v7 v13 v19 v25 v31 v37 v43 k0_hw13 k0_h25)).WholeWords (EltTy.packing .bf16) := fun v1 v7 v13 v19 v25 v31 v37 v43 k0_hw13 k0_h25 => k0_hw13.2.2.2.2.2.2.2.2.2.2.2.2.2.2.2.2.2.2.2.2.2.2.2.2.2.2.2.2 k0_h25 (k0_off87_inb v1 v7 v13 v19 v25 v31 v37 v43 k0_hw13 k0_h25)

def k0_chk27 (v1 : BitVec 32) (v7 : BitVec 32) (v13 : BitVec 32) (v19 : BitVec 32) (v25 : BitVec 32) (v31 : BitVec 32) (v37 : BitVec 32) (v43 : BitVec 32) (v168 : BitVec 32) : Prop :=
  (∀ (k0_h25 : k0_cond25 v1 v7 v13 v19 v25 v31 v37 v43 = 1#1), ∀ a, (k0_off86 v1 v7 v13 v19 v25 v31 v37 v43 v168) a + S1x32x2048.size a ≤ S8x32x14336.size a) ∧
  (∀ (k0_h25 : k0_cond25 v1 v7 v13 v19 v25 v31 v37 v43 = 1#1), ∀ (hinb : ∀ a, (k0_off86 v1 v7 v13 v19 v25 v31 v37 v43 v168) a + S1x32x2048.size a ≤ S8x32x14336.size a), (Rect.unit (s := S8x32x14336) (k0_off86 v1 v7 v13 v19 v25 v31 v37 v43 v168) S1x32x2048.size hinb).WholeWords (EltTy.packing .bf16))
theorem k0_off86_inb : ∀ (v1 : BitVec 32) (v7 : BitVec 32) (v13 : BitVec 32) (v19 : BitVec 32) (v25 : BitVec 32) (v31 : BitVec 32) (v37 : BitVec 32) (v43 : BitVec 32) (v168 : BitVec 32) (k0_hw27 : k0_chk27 v1 v7 v13 v19 v25 v31 v37 v43 v168), ∀ (k0_h25 : k0_cond25 v1 v7 v13 v19 v25 v31 v37 v43 = 1#1), ∀ a, (k0_off86 v1 v7 v13 v19 v25 v31 v37 v43 v168) a + S1x32x2048.size a ≤ S8x32x14336.size a := fun v1 v7 v13 v19 v25 v31 v37 v43 v168 k0_hw27 k0_h25 => k0_hw27.1 k0_h25
theorem k0_off86_wordsbf16 : ∀ (v1 : BitVec 32) (v7 : BitVec 32) (v13 : BitVec 32) (v19 : BitVec 32) (v25 : BitVec 32) (v31 : BitVec 32) (v37 : BitVec 32) (v43 : BitVec 32) (v168 : BitVec 32) (k0_hw27 : k0_chk27 v1 v7 v13 v19 v25 v31 v37 v43 v168), ∀ (k0_h25 : k0_cond25 v1 v7 v13 v19 v25 v31 v37 v43 = 1#1), (Rect.unit (s := S8x32x14336) (k0_off86 v1 v7 v13 v19 v25 v31 v37 v43 v168) S1x32x2048.size (k0_off86_inb v1 v7 v13 v19 v25 v31 v37 v43 v168 k0_hw27 k0_h25)).WholeWords (EltTy.packing .bf16) := fun v1 v7 v13 v19 v25 v31 v37 v43 v168 k0_hw27 k0_h25 => k0_hw27.2 k0_h25 (k0_off86_inb v1 v7 v13 v19 v25 v31 v37 v43 v168 k0_hw27 k0_h25)
-- ==== ReferenceIdeal.lean ====
abbrev S8x32x2816 : Shape := ⟨3, ![8, 32, 2816]⟩
abbrev S8 : Shape := ⟨1, ![8]⟩
abbrev S8x14336x2816 : Shape := ⟨3, ![8, 14336, 2816]⟩
abbrev S8x14336 : Shape := ⟨2, ![8, 14336]⟩
abbrev S8x32x14336 : Shape := ⟨3, ![8, 32, 14336]⟩
abbrev S8x32 : Shape := ⟨2, ![8, 32]⟩
abbrev S8x32x1 : Shape := ⟨3, ![8, 32, 1]⟩
abbrev S8x1x14336 : Shape := ⟨3, ![8, 1, 14336]⟩
abbrev S8x1x1 : Shape := ⟨3, ![8, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x32x2816, .bf16⟩
  | .hbm, ⟨1, _⟩ => ⟨S8, .i32⟩
  | .hbm, ⟨2, _⟩ => ⟨S8x14336x2816, .fp8e4m3⟩
  | .hbm, ⟨3, _⟩ => ⟨S8x14336, .f32⟩
  | .hbm, ⟨4, _⟩ => ⟨S8x32x14336, .bf16⟩
  | .local _ .vmem, ⟨0, _⟩ => ⟨S8, .i32⟩
  | .local _ .vmem, ⟨1, _⟩ => ⟨S8x32x2816, .bf16⟩
  | .local _ .vmem, ⟨2, _⟩ => ⟨S8x14336, .f32⟩
  | .local _ .vmem, ⟨3, _⟩ => ⟨S8x14336x2816, .fp8e4m3⟩
  | .local _ .vmem, ⟨4, _⟩ => ⟨S8x32x14336, .bf16⟩
  | _, _ => ⟨S8x32x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x14336x2816 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x32x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Words.lean ====
module

public import proofs.«01_k».proof.Kernel
public import Idealize.ShloMosaic.Lib.Tactic
import Mathlib.Tactic.IntervalCases

set_option maxRecDepth 100000

@[expose] public section

noncomputable section

namespace Cert.Kernel.Hand

open Cert.Kernel Idealize.ShloMosaic

/-- The number of live experts, as the word the kernel sums. -/
def nlw (v1 v7 v13 v19 v25 v31 v37 v43 : BitVec 32) : BitVec 32 :=
  (Scalar.addi (Scalar.addi (Scalar.addi (Scalar.addi (Scalar.addi (Scalar.addi (Scalar.addi (Scalar.addi 0#32 (Scalar.extui (Scalar.cmpi .sgt v1 0#32))) (Scalar.extui (Scalar.cmpi .sgt v7 0#32))) (Scalar.extui (Scalar.cmpi .sgt v13 0#32))) (Scalar.extui (Scalar.cmpi .sgt v19 0#32))) (Scalar.extui (Scalar.cmpi .sgt v25 0#32))) (Scalar.extui (Scalar.cmpi .sgt v31 0#32))) (Scalar.extui (Scalar.cmpi .sgt v37 0#32))) (Scalar.extui (Scalar.cmpi .sgt v43 0#32)))

theorem nlw_def (v1 v7 v13 v19 v25 v31 v37 v43 : BitVec 32) : nlw v1 v7 v13 v19 v25 v31 v37 v43 = (Scalar.addi (Scalar.addi (Scalar.addi (Scalar.addi (Scalar.addi (Scalar.addi (Scalar.addi (Scalar.addi 0#32 (Scalar.extui (Scalar.cmpi .sgt v1 0#32))) (Scalar.extui (Scalar.cmpi .sgt v7 0#32))) (Scalar.extui (Scalar.cmpi .sgt v13 0#32))) (Scalar.extui (Scalar.cmpi .sgt v19 0#32))) (Scalar.extui (Scalar.cmpi .sgt v25 0#32))) (Scalar.extui (Scalar.cmpi .sgt v31 0#32))) (Scalar.extui (Scalar.cmpi .sgt v37 0#32))) (Scalar.extui (Scalar.cmpi .sgt v43 0#32))) := rfl

section
variable (v1 v7 v13 v19 v25 v31 v37 v43 : BitVec 32) (t1 : Fin (k0_t1_loop v1 v7 v13 v19 v25 v31 v37 v43).trips)

theorem off28 (ht : t1.val < 56) : k0_off28 v1 v7 v13 v19 v25 v31 v37 v43 t1 = ![t1.val / 7] := by
  obtain ⟨t, h⟩ := t1
  dsimp only [k0_off28] at ht ⊢
  clear h
  revert t
  decide

theorem off29 (ht : t1.val < 56) : k0_off29 v1 v7 v13 v19 v25 v31 v37 v43 t1 = ![(t1.val + 5) / 7] := by
  obtain ⟨t, h⟩ := t1
  dsimp only [k0_off29] at ht ⊢
  clear h
  revert t
  decide

theorem off30 (ht : t1.val < 56) : k0_off30 v1 v7 v13 v19 v25 v31 v37 v43 t1 = ![(t1.val + 5) % 6] := by
  obtain ⟨t, h⟩ := t1
  dsimp only [k0_off30] at ht ⊢
  clear h
  revert t
  decide

theorem off31 (ht : t1.val < 56) : k0_off31 v1 v7 v13 v19 v25 v31 v37 v43 t1 = ![(t1.val + 5) % 6, 0, 0] := by
  obtain ⟨t, h⟩ := t1
  dsimp only [k0_off31] at ht ⊢
  clear h
  revert t
  decide

theorem off42 (ht : t1.val < 56) : k0_off42 v1 v7 v13 v19 v25 v31 v37 v43 t1 = ![t1.val / 7] := by
  obtain ⟨t, h⟩ := t1
  dsimp only [k0_off42] at ht ⊢
  clear h
  revert t
  decide

theorem off43 (ht : t1.val < 56) : k0_off43 v1 v7 v13 v19 v25 v31 v37 v43 t1 = ![t1.val % 6] := by
  obtain ⟨t, h⟩ := t1
  dsimp only [k0_off43] at ht ⊢
  clear h
  revert t
  decide

theorem off44 (ht : t1.val < 56) : k0_off44 v1 v7 v13 v19 v25 v31 v37 v43 t1 = ![t1.val % 6, 0, 0] := by
  obtain ⟨t, h⟩ := t1
  dsimp only [k0_off44] at ht ⊢
  clear h
  revert t
  decide

theorem off46 (ht : t1.val < 56) : k0_off46 v1 v7 v13 v19 v25 v31 v37 v43 t1 = ![t1.val % 6, 0, 0] := by
  obtain ⟨t, h⟩ := t1
  dsimp only [k0_off46] at ht ⊢
  clear h
  revert t
  decide

theorem off49 (ht : t1.val < 56) : k0_off49 v1 v7 v13 v19 v25 v31 v37 v43 t1 = ![t1.val % 3, 0, 0] := by
  obtain ⟨t, h⟩ := t1
  dsimp only [k0_off49] at ht ⊢
  clear h
  revert t
  decide

theorem off33 (ht : t1.val < 56) (hl : 1 ≤ t1.val) : k0_off33 v1 v7 v13 v19 v25 v31 v37 v43 t1 = ![(t1.val - 1) / 7] := by
  obtain ⟨t, h⟩ := t1
  dsimp only [k0_off33] at ht hl ⊢
  clear h
  revert t
  decide

theorem off34 (ht : t1.val < 56) (hl : 1 ≤ t1.val) : k0_off34 v1 v7 v13 v19 v25 v31 v37 v43 t1 = ![(t1.val - 1) % 3] := by
  obtain ⟨t, h⟩ := t1
  dsimp only [k0_off34] at ht hl ⊢
  clear h
  revert t
  decide

theorem off36 (ht : t1.val < 56) (hl : 1 ≤ t1.val) : k0_off36 v1 v7 v13 v19 v25 v31 v37 v43 t1 = ![(t1.val - 1) % 3, 0, 0] := by
  obtain ⟨t, h⟩ := t1
  dsimp only [k0_off36] at ht hl ⊢
  clear h
  revert t
  decide

theorem off37 (ht : t1.val < 56) (hl : 3 ≤ t1.val) : k0_off37 v1 v7 v13 v19 v25 v31 v37 v43 t1 = ![(t1.val - 3) / 7] := by
  obtain ⟨t, h⟩ := t1
  dsimp only [k0_off37] at ht hl ⊢
  clear h
  revert t
  decide

theorem off38 (ht : t1.val < 56) (hl : 3 ≤ t1.val) : k0_off38 v1 v7 v13 v19 v25 v31 v37 v43 t1 = ![(t1.val - 3) % 3] := by
  obtain ⟨t, h⟩ := t1
  dsimp only [k0_off38] at ht hl ⊢
  clear h
  revert t
  decide

theorem off40 (ht : t1.val < 56) (hl : 3 ≤ t1.val) : k0_off40 v1 v7 v13 v19 v25 v31 v37 v43 t1 = ![(t1.val - 3) % 3, 0, 0] := by
  obtain ⟨t, h⟩ := t1
  dsimp only [k0_off40] at ht hl ⊢
  clear h
  revert t
  decide

theorem off32 (w : BitVec 32) (ht : t1.val < 56) (hl : 0 ≤ t1.val) : k0_off32 v1 v7 v13 v19 v25 v31 v37 v43 t1 w = ![w.toNat, 2048 * ((t1.val + 5) % 7), 0] := by
  obtain ⟨t, h⟩ := t1
  dsimp only [k0_off32] at ht hl ⊢
  clear h
  refine congrArg (fun z => ![w.toNat, z, 0]) ?_
  revert t
  decide

theorem off35 (w : BitVec 32) (ht : t1.val < 56) (hl : 1 ≤ t1.val) : k0_off35 v1 v7 v13 v19 v25 v31 v37 v43 t1 w = ![w.toNat, 0, 2048 * ((t1.val - 1) % 7)] := by
  obtain ⟨t, h⟩ := t1
  dsimp only [k0_off35] at ht hl ⊢
  clear h
  refine congrArg (fun z => ![w.toNat, 0, z]) ?_
  revert t
  decide

theorem off39 (w : BitVec 32) (ht : t1.val < 56) (hl : 3 ≤ t1.val) : k0_off39 v1 v7 v13 v19 v25 v31 v37 v43 t1 w = ![w.toNat, 0, 2048 * ((t1.val - 3) % 7)] := by
  obtain ⟨t, h⟩ := t1
  dsimp only [k0_off39] at ht hl ⊢
  clear h
  refine congrArg (fun z => ![w.toNat, 0, z]) ?_
  revert t
  decide

theorem off45 (w : BitVec 32) (ht : t1.val < 56) (hl : 0 ≤ t1.val) : k0_off45 v1 v7 v13 v19 v25 v31 v37 v43 t1 w = ![w.toNat, 2048 * (t1.val % 7), 0] := by
  obtain ⟨t, h⟩ := t1
  dsimp only [k0_off45] at ht hl ⊢
  clear h
  refine congrArg (fun z => ![w.toNat, z, 0]) ?_
  revert t
  decide

theorem off47 (w : BitVec 32) (ht : t1.val < 56) (hl : 0 ≤ t1.val) : k0_off47 v1 v7 v13 v19 v25 v31 v37 v43 t1 w = ![w.toNat, 2048 * (t1.val % 7)] := by
  obtain ⟨t, h⟩ := t1
  dsimp only [k0_off47] at ht hl ⊢
  clear h
  refine congrArg (fun z => ![w.toNat, z]) ?_
  revert t
  decide

theorem off41 (w : BitVec 32) : k0_off41 w = ![w.toNat, 0, 0] := rfl
theorem off48 (w : BitVec 32) : k0_off48 w = ![w.toNat] := rfl
theorem cond15 (ht : t1.val < 56) : k0_cond15 v1 v7 v13 v19 v25 v31 v37 v43 t1 = 1#1 ↔ 1 ≤ t1.val := by
  obtain ⟨t, h⟩ := t1
  dsimp only [k0_cond15] at ht ⊢
  clear h
  revert t
  decide
theorem cond16 (ht : t1.val < 56) : k0_cond16 v1 v7 v13 v19 v25 v31 v37 v43 t1 = 1#1 ↔ 3 ≤ t1.val := by
  obtain ⟨t, h⟩ := t1
  dsimp only [k0_cond16] at ht ⊢
  clear h
  revert t
  decide
theorem cond17 (ht : t1.val < 56) : k0_cond17 v1 v7 v13 v19 v25 v31 v37 v43 t1 = 1#1 ↔ t1.val % 7 = 0 := by
  obtain ⟨t, h⟩ := t1
  dsimp only [k0_cond17] at ht ⊢
  clear h
  revert t
  decide
theorem cond14 {n : ℕ} (hn : nlw v1 v7 v13 v19 v25 v31 v37 v43 = BitVec.ofNat 32 n) (h8 : n < 9) (ht : t1.val < 56) :
    k0_cond14 v1 v7 v13 v19 v25 v31 v37 v43 t1 = 1#1 ↔ t1.val + 5 < 7 * n := by
  obtain ⟨t, h⟩ := t1
  dsimp only [k0_cond14] at ht ⊢
  rw [← nlw_def, hn]
  clear h hn
  revert n t
  decide

theorem off8 : k0_off8 = ![0] := by decide
theorem off9 : k0_off9 = ![0] := by decide
theorem off10 : k0_off10 = ![0, 0, 0] := by decide
theorem off11 (w : BitVec 32) : k0_off11 w = ![w.toNat, 0, 0] := rfl

theorem off12 : k0_off12 = ![0] := by decide
theorem off13 : k0_off13 = ![1] := by decide
theorem off14 : k0_off14 = ![1, 0, 0] := by decide
theorem off15 (w : BitVec 32) : k0_off15 w = ![w.toNat, 2048, 0] := rfl

theorem off16 : k0_off16 = ![0] := by decide
theorem off17 : k0_off17 = ![2] := by decide
theorem off18 : k0_off18 = ![2, 0, 0] := by decide
theorem off19 (w : BitVec 32) : k0_off19 w = ![w.toNat, 4096, 0] := rfl

theorem off20 : k0_off20 = ![0] := by decide
theorem off21 : k0_off21 = ![3] := by decide
theorem off22 : k0_off22 = ![3, 0, 0] := by decide
theorem off23 (w : BitVec 32) : k0_off23 w = ![w.toNat, 6144, 0] := rfl

theorem off24 : k0_off24 = ![0] := by decide
theorem off25 : k0_off25 = ![4] := by decide
theorem off26 : k0_off26 = ![4, 0, 0] := by decide
theorem off27 (w : BitVec 32) : k0_off27 w = ![w.toNat, 8192, 0] := rfl

theorem cond1 {n : ℕ} (hn : nlw v1 v7 v13 v19 v25 v31 v37 v43 = BitVec.ofNat 32 n) (h8 : n < 9) :
    k0_cond1 v1 v7 v13 v19 v25 v31 v37 v43 = 1#1 ↔ 0 < 7 * n := by
  dsimp only [k0_cond1]
  rw [← nlw_def, hn]
  clear hn
  revert n
  decide

theorem cond2 {n : ℕ} (hn : nlw v1 v7 v13 v19 v25 v31 v37 v43 = BitVec.ofNat 32 n) (h8 : n < 9) :
    k0_cond2 v1 v7 v13 v19 v25 v31 v37 v43 = 1#1 ↔ 1 < 7 * n := by
  dsimp only [k0_cond2]
  rw [← nlw_def, hn]
  clear hn
  revert n
  decide

theorem cond3 {n : ℕ} (hn : nlw v1 v7 v13 v19 v25 v31 v37 v43 = BitVec.ofNat 32 n) (h8 : n < 9) :
    k0_cond3 v1 v7 v13 v19 v25 v31 v37 v43 = 1#1 ↔ 2 < 7 * n := by
  dsimp only [k0_cond3]
  rw [← nlw_def, hn]
  clear hn
  revert n
  decide

theorem cond4 {n : ℕ} (hn : nlw v1 v7 v13 v19 v25 v31 v37 v43 = BitVec.ofNat 32 n) (h8 : n < 9) :
    k0_cond4 v1 v7 v13 v19 v25 v31 v37 v43 = 1#1 ↔ 3 < 7 * n := by
  dsimp only [k0_cond4]
  rw [← nlw_def, hn]
  clear hn
  revert n
  decide

theorem cond5 {n : ℕ} (hn : nlw v1 v7 v13 v19 v25 v31 v37 v43 = BitVec.ofNat 32 n) (h8 : n < 9) :
    k0_cond5 v1 v7 v13 v19 v25 v31 v37 v43 = 1#1 ↔ 4 < 7 * n := by
  dsimp only [k0_cond5]
  rw [← nlw_def, hn]
  clear hn
  revert n
  decide

theorem cond22 {n : ℕ} (hn : nlw v1 v7 v13 v19 v25 v31 v37 v43 = BitVec.ofNat 32 n) (h8 : n < 9) :
    k0_cond22 v1 v7 v13 v19 v25 v31 v37 v43 = 1#1 ↔ 0 < 7 * n := by
  dsimp only [k0_cond22]
  rw [← nlw_def, hn]
  clear hn
  revert n
  decide

theorem cond23 {n : ℕ} (hn : nlw v1 v7 v13 v19 v25 v31 v37 v43 = BitVec.ofNat 32 n) (h8 : n < 9) :
    k0_cond23 v1 v7 v13 v19 v25 v31 v37 v43 = 1#1 ↔ 0 < 7 * n := by
  dsimp only [k0_cond23]
  rw [← nlw_def, hn]
  clear hn
  revert n
  decide

theorem cond24 {n : ℕ} (hn : nlw v1 v7 v13 v19 v25 v31 v37 v43 = BitVec.ofNat 32 n) (h8 : n < 9) :
    k0_cond24 v1 v7 v13 v19 v25 v31 v37 v43 = 1#1 ↔ 1 < 7 * n := by
  dsimp only [k0_cond24]
  rw [← nlw_def, hn]
  clear hn
  revert n
  decide

theorem cond25 {n : ℕ} (hn : nlw v1 v7 v13 v19 v25 v31 v37 v43 = BitVec.ofNat 32 n) (h8 : n < 9) :
    k0_cond25 v1 v7 v13 v19 v25 v31 v37 v43 = 1#1 ↔ 2 < 7 * n := by
  dsimp only [k0_cond25]
  rw [← nlw_def, hn]
  clear hn
  revert n
  decide

theorem off72 {n : ℕ} (hn : nlw v1 v7 v13 v19 v25 v31 v37 v43 = BitVec.ofNat 32 n) (h8 : n < 9) (h0 : 0 < 7 * n) :
    k0_off72 v1 v7 v13 v19 v25 v31 v37 v43 = ![(7 * n - 1 - 0) / 7] := by
  dsimp only [k0_off72]
  rw [← nlw_def, hn]
  clear hn
  revert n
  decide

theorem off73 {n : ℕ} (hn : nlw v1 v7 v13 v19 v25 v31 v37 v43 = BitVec.ofNat 32 n) (h8 : n < 9) (h0 : 0 < 7 * n) :
    k0_off73 v1 v7 v13 v19 v25 v31 v37 v43 = ![(7 * n - 1 - 0) % 3] := by
  dsimp only [k0_off73]
  rw [← nlw_def, hn]
  clear hn
  revert n
  decide

theorem off74 (w : BitVec 32) {n : ℕ} (hn : nlw v1 v7 v13 v19 v25 v31 v37 v43 = BitVec.ofNat 32 n) (h8 : n < 9) (h0 : 0 < 7 * n) :
    k0_off74 v1 v7 v13 v19 v25 v31 v37 v43 w = ![w.toNat, 0, 2048 * ((7 * n - 1 - 0) % 7)] := by
  dsimp only [k0_off74]
  rw [← nlw_def, hn]
  clear hn
  refine congrArg (fun z => ![w.toNat, 0, z]) ?_
  revert n
  decide

theorem off75 {n : ℕ} (hn : nlw v1 v7 v13 v19 v25 v31 v37 v43 = BitVec.ofNat 32 n) (h8 : n < 9) (h0 : 0 < 7 * n) :
    k0_off75 v1 v7 v13 v19 v25 v31 v37 v43 = ![(7 * n - 1 - 0) % 3, 0, 0] := by
  dsimp only [k0_off75]
  rw [← nlw_def, hn]
  clear hn
  revert n
  decide

theorem off76 {n : ℕ} (hn : nlw v1 v7 v13 v19 v25 v31 v37 v43 = BitVec.ofNat 32 n) (h8 : n < 9) (h0 : 0 < 7 * n) :
    k0_off76 v1 v7 v13 v19 v25 v31 v37 v43 = ![(7 * n - 1 - 0) / 7] := by
  dsimp only [k0_off76]
  rw [← nlw_def, hn]
  clear hn
  revert n
  decide

theorem off77 {n : ℕ} (hn : nlw v1 v7 v13 v19 v25 v31 v37 v43 = BitVec.ofNat 32 n) (h8 : n < 9) (h0 : 0 < 7 * n) :
    k0_off77 v1 v7 v13 v19 v25 v31 v37 v43 = ![(7 * n - 1 - 0) % 3] := by
  dsimp only [k0_off77]
  rw [← nlw_def, hn]
  clear hn
  revert n
  decide

theorem off78 (w : BitVec 32) {n : ℕ} (hn : nlw v1 v7 v13 v19 v25 v31 v37 v43 = BitVec.ofNat 32 n) (h8 : n < 9) (h0 : 0 < 7 * n) :
    k0_off78 v1 v7 v13 v19 v25 v31 v37 v43 w = ![w.toNat, 0, 2048 * ((7 * n - 1 - 0) % 7)] := by
  dsimp only [k0_off78]
  rw [← nlw_def, hn]
  clear hn
  refine congrArg (fun z => ![w.toNat, 0, z]) ?_
  revert n
  decide

theorem off79 {n : ℕ} (hn : nlw v1 v7 v13 v19 v25 v31 v37 v43 = BitVec.ofNat 32 n) (h8 : n < 9) (h0 : 0 < 7 * n) :
    k0_off79 v1 v7 v13 v19 v25 v31 v37 v43 = ![(7 * n - 1 - 0) % 3, 0, 0] := by
  dsimp only [k0_off79]
  rw [← nlw_def, hn]
  clear hn
  revert n
  decide

theorem off80 {n : ℕ} (hn : nlw v1 v7 v13 v19 v25 v31 v37 v43 = BitVec.ofNat 32 n) (h8 : n < 9) (h0 : 1 < 7 * n) :
    k0_off80 v1 v7 v13 v19 v25 v31 v37 v43 = ![(7 * n - 1 - 1) / 7] := by
  dsimp only [k0_off80]
  rw [← nlw_def, hn]
  clear hn
  revert n
  decide

theorem off81 {n : ℕ} (hn : nlw v1 v7 v13 v19 v25 v31 v37 v43 = BitVec.ofNat 32 n) (h8 : n < 9) (h0 : 1 < 7 * n) :
    k0_off81 v1 v7 v13 v19 v25 v31 v37 v43 = ![(7 * n - 1 - 1) % 3] := by
  dsimp only [k0_off81]
  rw [← nlw_def, hn]
  clear hn
  revert n
  decide

theorem off82 (w : BitVec 32) {n : ℕ} (hn : nlw v1 v7 v13 v19 v25 v31 v37 v43 = BitVec.ofNat 32 n) (h8 : n < 9) (h0 : 1 < 7 * n) :
    k0_off82 v1 v7 v13 v19 v25 v31 v37 v43 w = ![w.toNat, 0, 2048 * ((7 * n - 1 - 1) % 7)] := by
  dsimp only [k0_off82]
  rw [← nlw_def, hn]
  clear hn
  refine congrArg (fun z => ![w.toNat, 0, z]) ?_
  revert n
  decide

theorem off83 {n : ℕ} (hn : nlw v1 v7 v13 v19 v25 v31 v37 v43 = BitVec.ofNat 32 n) (h8 : n < 9) (h0 : 1 < 7 * n) :
    k0_off83 v1 v7 v13 v19 v25 v31 v37 v43 = ![(7 * n - 1 - 1) % 3, 0, 0] := by
  dsimp only [k0_off83]
  rw [← nlw_def, hn]
  clear hn
  revert n
  decide

theorem off84 {n : ℕ} (hn : nlw v1 v7 v13 v19 v25 v31 v37 v43 = BitVec.ofNat 32 n) (h8 : n < 9) (h0 : 2 < 7 * n) :
    k0_off84 v1 v7 v13 v19 v25 v31 v37 v43 = ![(7 * n - 1 - 2) / 7] := by
  dsimp only [k0_off84]
  rw [← nlw_def, hn]
  clear hn
  revert n
  decide

theorem off85 {n : ℕ} (hn : nlw v1 v7 v13 v19 v25 v31 v37 v43 = BitVec.ofNat 32 n) (h8 : n < 9) (h0 : 2 < 7 * n) :
    k0_off85 v1 v7 v13 v19 v25 v31 v37 v43 = ![(7 * n - 1 - 2) % 3] := by
  dsimp only [k0_off85]
  rw [← nlw_def, hn]
  clear hn
  revert n
  decide

theorem off86 (w : BitVec 32) {n : ℕ} (hn : nlw v1 v7 v13 v19 v25 v31 v37 v43 = BitVec.ofNat 32 n) (h8 : n < 9) (h0 : 2 < 7 * n) :
    k0_off86 v1 v7 v13 v19 v25 v31 v37 v43 w = ![w.toNat, 0, 2048 * ((7 * n - 1 - 2) % 7)] := by
  dsimp only [k0_off86]
  rw [← nlw_def, hn]
  clear hn
  refine congrArg (fun z => ![w.toNat, 0, z]) ?_
  revert n
  decide

theorem off87 {n : ℕ} (hn : nlw v1 v7 v13 v19 v25 v31 v37 v43 = BitVec.ofNat 32 n) (h8 : n < 9) (h0 : 2 < 7 * n) :
    k0_off87 v1 v7 v13 v19 v25 v31 v37 v43 = ![(7 * n - 1 - 2) % 3, 0, 0] := by
  dsimp only [k0_off87]
  rw [← nlw_def, hn]
  clear hn
  revert n
  decide

theorem trips1 {n : ℕ} (hn : nlw v1 v7 v13 v19 v25 v31 v37 v43 = BitVec.ofNat 32 n) (h8 : n < 9) : (k0_t1_loop v1 v7 v13 v19 v25 v31 v37 v43).trips = 7 * n := by
  dsimp only [k0_t1_loop, Scf.Loop.trips]
  rw [← nlw_def, hn]
  clear hn
  revert n
  decide
theorem trips2 {n : ℕ} (hn : nlw v1 v7 v13 v19 v25 v31 v37 v43 = BitVec.ofNat 32 n) (h8 : n < 9) : (k0_t2_loop v1 v7 v13 v19 v25 v31 v37 v43).trips = 0 := by
  dsimp only [k0_t2_loop, Scf.Loop.trips]
  rw [← nlw_def, hn]
  clear hn
  revert n
  decide
theorem ok1 {n : ℕ} (hn : nlw v1 v7 v13 v19 v25 v31 v37 v43 = BitVec.ofNat 32 n) (h8 : n < 9) : (k0_t1_loop v1 v7 v13 v19 v25 v31 v37 v43).OK := by
  dsimp only [k0_t1_loop, Scf.Loop.OK]
  rw [← nlw_def, hn]
  clear hn
  revert n
  unfold Scf.OK
  decide
theorem ok2 {n : ℕ} (hn : nlw v1 v7 v13 v19 v25 v31 v37 v43 = BitVec.ofNat 32 n) (h8 : n < 9) : (k0_t2_loop v1 v7 v13 v19 v25 v31 v37 v43).OK := by
  dsimp only [k0_t2_loop, Scf.Loop.OK]
  rw [← nlw_def, hn]
  clear hn
  revert n
  unfold Scf.OK
  decide

theorem inb1 {k m : ℕ} (h : k + 1 ≤ m) {off : Fin 1 → ℕ} (e : off = ![k]) : ∀ a : Fin 1, off a + (![1] : Fin 1 → ℕ) a ≤ (![m] : Fin 1 → ℕ) a := by
  subst e; intro a; fin_cases a; exact h
theorem inb2 {a b c d m n : ℕ} (h : a + c ≤ m) (h' : b + d ≤ n) {off : Fin 2 → ℕ} (e : off = ![a, b]) :
    ∀ i : Fin 2, off i + (![c, d] : Fin 2 → ℕ) i ≤ (![m, n] : Fin 2 → ℕ) i := by
  subst e; intro i; fin_cases i; exacts [h, h']
theorem inb3 {a b c x y z l m n : ℕ} (h : a + x ≤ l) (h' : b + y ≤ m) (h'' : c + z ≤ n) {off : Fin 3 → ℕ} (e : off = ![a, b, c]) :
    ∀ i : Fin 3, off i + (![x, y, z] : Fin 3 → ℕ) i ≤ (![l, m, n] : Fin 3 → ℕ) i := by
  subst e; intro i; fin_cases i; exacts [h, h', h'']
theorem pk3 {l m n x y z a b c p : ℕ} {off : Fin 3 → ℕ} (e : off = ![a, b, c]) (hb : p ∣ b) (hy : p ∣ y)
    (hinb : ∀ i : Fin 3, off i + (![x, y, z] : Fin 3 → ℕ) i ≤ (![l, m, n] : Fin 3 → ℕ) i) :
    (Rect.unit (s := ⟨3, ![l, m, n]⟩) off ![x, y, z] hinb).PackedRows p := by
  subst e
  have h2 : 2 ≤ (⟨3, ![l, m, n]⟩ : Shape).rank := by show 2 ≤ 3; decide
  exact .inr ⟨h2, rfl, .inl ⟨hb, hy⟩⟩
theorem ww3 {l m n x y z a b c p : ℕ} {off : Fin 3 → ℕ} (e : off = ![a, b, c]) (hb : p ∣ b) (hy : p ∣ y)
    (hinb : ∀ i : Fin 3, off i + (![x, y, z] : Fin 3 → ℕ) i ≤ (![l, m, n] : Fin 3 → ℕ) i) :
    (Rect.unit (s := ⟨3, ![l, m, n]⟩) off ![x, y, z] hinb).WholeWords p := .inl (pk3 e hb hy hinb)

theorem mult1 (ht : t1.val < 56) : 2048 ∣ (k0_mult1 v1 v7 v13 v19 v25 v31 v37 v43 t1).toNat := by
  obtain ⟨t, h⟩ := t1
  dsimp only [k0_mult1] at ht ⊢
  clear h
  revert t
  decide

theorem chk13 {n : ℕ} (hn : nlw v1 v7 v13 v19 v25 v31 v37 v43 = BitVec.ofNat 32 n) (h8 : n < 9) : k0_chk13 v1 v7 v13 v19 v25 v31 v37 v43 := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  constructor

  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact ok1 v1 v7 v13 v19 v25 v31 v37 v43 hn h8
    · intro t; have ht := lt t; have hT := lt7 t; exact inb1 (by omega) (off28 v1 v7 v13 v19 v25 v31 v37 v43 t (lt t))
    · intro t; have ht := lt t; have hT := lt7 t; intro hc; have hc := (cond14 v1 v7 v13 v19 v25 v31 v37 v43 t hn h8 (lt t)).1 hc; exact inb1 (by omega) (off29 v1 v7 v13 v19 v25 v31 v37 v43 t (lt t))
    · intro t; have ht := lt t; have hT := lt7 t; intro hc; have hc := (cond14 v1 v7 v13 v19 v25 v31 v37 v43 t hn h8 (lt t)).1 hc; exact inb1 (by omega) (off30 v1 v7 v13 v19 v25 v31 v37 v43 t (lt t))
    · intro t; have ht := lt t; have hT := lt7 t; intro hc; have hc := (cond14 v1 v7 v13 v19 v25 v31 v37 v43 t hn h8 (lt t)).1 hc; exact inb3 (by omega) (by omega) (by omega) (off31 v1 v7 v13 v19 v25 v31 v37 v43 t (lt t))
    · intro t; have ht := lt t; have hT := lt7 t; intro hc; have hc := (cond14 v1 v7 v13 v19 v25 v31 v37 v43 t hn h8 (lt t)).1 hc; intro hi; exact ww3 (off31 v1 v7 v13 v19 v25 v31 v37 v43 t (lt t)) (by show (4 : ℕ) ∣ _; omega) (by decide) hi
    · intro t; have ht := lt t; have hT := lt7 t; intro hc; have hc := (cond15 v1 v7 v13 v19 v25 v31 v37 v43 t (lt t)).1 hc; exact inb1 (by omega) (off33 v1 v7 v13 v19 v25 v31 v37 v43 t (lt t) (by omega))
    · intro t; have ht := lt t; have hT := lt7 t; intro hc; have hc := (cond15 v1 v7 v13 v19 v25 v31 v37 v43 t (lt t)).1 hc; exact inb1 (by omega) (off34 v1 v7 v13 v19 v25 v31 v37 v43 t (lt t) (by omega))
    · intro t; have ht := lt t; have hT := lt7 t; intro hc; have hc := (cond15 v1 v7 v13 v19 v25 v31 v37 v43 t (lt t)).1 hc; exact inb3 (by omega) (by omega) (by omega) (off36 v1 v7 v13 v19 v25 v31 v37 v43 t (lt t) (by omega))
    · intro t; have ht := lt t; have hT := lt7 t; intro hc; have hc := (cond15 v1 v7 v13 v19 v25 v31 v37 v43 t (lt t)).1 hc; intro hi; exact ww3 (off36 v1 v7 v13 v19 v25 v31 v37 v43 t (lt t) (by omega)) (by show (2 : ℕ) ∣ _; omega) (by decide) hi
    · intro t; have ht := lt t; have hT := lt7 t; intro hc; have hc := (cond16 v1 v7 v13 v19 v25 v31 v37 v43 t (lt t)).1 hc; exact inb1 (by omega) (off37 v1 v7 v13 v19 v25 v31 v37 v43 t (lt t) (by omega))
    · intro t; have ht := lt t; have hT := lt7 t; intro hc; have hc := (cond16 v1 v7 v13 v19 v25 v31 v37 v43 t (lt t)).1 hc; exact inb1 (by omega) (off38 v1 v7 v13 v19 v25 v31 v37 v43 t (lt t) (by omega))
    · intro t; have ht := lt t; have hT := lt7 t; intro hc; have hc := (cond16 v1 v7 v13 v19 v25 v31 v37 v43 t (lt t)).1 hc; exact inb3 (by omega) (by omega) (by omega) (off40 v1 v7 v13 v19 v25 v31 v37 v43 t (lt t) (by omega))
    · intro t; have ht := lt t; have hT := lt7 t; intro hc; have hc := (cond16 v1 v7 v13 v19 v25 v31 v37 v43 t (lt t)).1 hc; intro hi; exact ww3 (off40 v1 v7 v13 v19 v25 v31 v37 v43 t (lt t) (by omega)) (by show (2 : ℕ) ∣ _; omega) (by decide) hi
    · intro t; have ht := lt t; have hT := lt7 t; exact inb1 (by omega) (off42 v1 v7 v13 v19 v25 v31 v37 v43 t (lt t))
    · intro t; have ht := lt t; have hT := lt7 t; exact inb1 (by omega) (off43 v1 v7 v13 v19 v25 v31 v37 v43 t (lt t))
    · intro t; have ht := lt t; have hT := lt7 t; exact inb3 (by omega) (by omega) (by omega) (off44 v1 v7 v13 v19 v25 v31 v37 v43 t (lt t))
    · intro t; have ht := lt t; have hT := lt7 t; intro hi; exact ww3 (off44 v1 v7 v13 v19 v25 v31 v37 v43 t (lt t)) (by show (4 : ℕ) ∣ _; omega) (by decide) hi
    · intro t; have ht := lt t; have hT := lt7 t; exact inb3 (by omega) (by omega) (by omega) (off46 v1 v7 v13 v19 v25 v31 v37 v43 t (lt t))
    · intro t; have ht := lt t; have hT := lt7 t; exact mult1 _ _ _ _ _ _ _ _ t (lt t)
    · intro t; have ht := lt t; have hT := lt7 t; exact inb3 (by omega) (by omega) (by omega) (off49 v1 v7 v13 v19 v25 v31 v37 v43 t (lt t))
    · intro t; have ht := lt t; have hT := lt7 t; intro hi; exact pk3 (off49 v1 v7 v13 v19 v25 v31 v37 v43 t (lt t)) (by show (2 : ℕ) ∣ _; omega) (by decide) hi
    · exact ok2 v1 v7 v13 v19 v25 v31 v37 v43 hn h8
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
  · refine ⟨?_, ?_, ?_, ?_, ?_, ?_, ?_, ?_, ?_, ?_, ?_, ?_, ?_, ?_, ?_, ?_, ?_, ?_, ?_, ?_, ?_, ?_, ?_, ?_, ?_, ?_, ?_, ?_⟩
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro hc; have hc := (cond22 v1 v7 v13 v19 v25 v31 v37 v43 hn h8).1 hc; exact inb1 (by omega) (off72 v1 v7 v13 v19 v25 v31 v37 v43 hn h8 (by omega))
    · intro hc; have hc := (cond22 v1 v7 v13 v19 v25 v31 v37 v43 hn h8).1 hc; exact inb1 (by omega) (off73 v1 v7 v13 v19 v25 v31 v37 v43 hn h8 (by omega))
    · intro hc; have hc := (cond22 v1 v7 v13 v19 v25 v31 v37 v43 hn h8).1 hc; exact inb3 (by omega) (by omega) (by omega) (off75 v1 v7 v13 v19 v25 v31 v37 v43 hn h8 (by omega))
    · intro hc; have hc := (cond22 v1 v7 v13 v19 v25 v31 v37 v43 hn h8).1 hc; intro hi; exact ww3 (off75 v1 v7 v13 v19 v25 v31 v37 v43 hn h8 (by omega)) (by show (2 : ℕ) ∣ _; omega) (by decide) hi
    · intro hc; have hc := (cond23 v1 v7 v13 v19 v25 v31 v37 v43 hn h8).1 hc; exact inb1 (by omega) (off76 v1 v7 v13 v19 v25 v31 v37 v43 hn h8 (by omega))
    · intro hc; have hc := (cond23 v1 v7 v13 v19 v25 v31 v37 v43 hn h8).1 hc; exact inb1 (by omega) (off77 v1 v7 v13 v19 v25 v31 v37 v43 hn h8 (by omega))
    · intro hc; have hc := (cond23 v1 v7 v13 v19 v25 v31 v37 v43 hn h8).1 hc; exact inb3 (by omega) (by omega) (by omega) (off79 v1 v7 v13 v19 v25 v31 v37 v43 hn h8 (by omega))
    · intro hc; have hc := (cond23 v1 v7 v13 v19 v25 v31 v37 v43 hn h8).1 hc; intro hi; exact ww3 (off79 v1 v7 v13 v19 v25 v31 v37 v43 hn h8 (by omega)) (by show (2 : ℕ) ∣ _; omega) (by decide) hi
    · intro hc; have hc := (cond24 v1 v7 v13 v19 v25 v31 v37 v43 hn h8).1 hc; exact inb1 (by omega) (off80 v1 v7 v13 v19 v25 v31 v37 v43 hn h8 (by omega))
    · intro hc; have hc := (cond24 v1 v7 v13 v19 v25 v31 v37 v43 hn h8).1 hc; exact inb1 (by omega) (off81 v1 v7 v13 v19 v25 v31 v37 v43 hn h8 (by omega))
    · intro hc; have hc := (cond24 v1 v7 v13 v19 v25 v31 v37 v43 hn h8).1 hc; exact inb3 (by omega) (by omega) (by omega) (off83 v1 v7 v13 v19 v25 v31 v37 v43 hn h8 (by omega))
    · intro hc; have hc := (cond24 v1 v7 v13 v19 v25 v31 v37 v43 hn h8).1 hc; intro hi; exact ww3 (off83 v1 v7 v13 v19 v25 v31 v37 v43 hn h8 (by omega)) (by show (2 : ℕ) ∣ _; omega) (by decide) hi
    · intro hc; have hc := (cond25 v1 v7 v13 v19 v25 v31 v37 v43 hn h8).1 hc; exact inb1 (by omega) (off84 v1 v7 v13 v19 v25 v31 v37 v43 hn h8 (by omega))
    · intro hc; have hc := (cond25 v1 v7 v13 v19 v25 v31 v37 v43 hn h8).1 hc; exact inb1 (by omega) (off85 v1 v7 v13 v19 v25 v31 v37 v43 hn h8 (by omega))
    · intro hc; have hc := (cond25 v1 v7 v13 v19 v25 v31 v37 v43 hn h8).1 hc; exact inb3 (by omega) (by omega) (by omega) (off87 v1 v7 v13 v19 v25 v31 v37 v43 hn h8 (by omega))
    · intro hc; have hc := (cond25 v1 v7 v13 v19 v25 v31 v37 v43 hn h8).1 hc; intro hi; exact ww3 (off87 v1 v7 v13 v19 v25 v31 v37 v43 hn h8 (by omega)) (by show (2 : ℕ) ∣ _; omega) (by decide) hi

theorem chk8 {n : ℕ} (hn : nlw v1 v7 v13 v19 v25 v31 v37 v43 = BitVec.ofNat 32 n) (h8 : n < 9) (w : BitVec 32) (hw : w.toNat < 8) :
    k0_chk8 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond1 v1 v7 v13 v19 v25 v31 v37 v43 hn h8).1 hc; exact inb3 (by omega) (by omega) (by omega) (off11 w)
  · intro hc; have hc := (cond1 v1 v7 v13 v19 v25 v31 v37 v43 hn h8).1 hc; intro hi; exact ww3 (off11 w) (by show (4 : ℕ) ∣ _; omega) (by decide) hi

theorem chk9 {n : ℕ} (hn : nlw v1 v7 v13 v19 v25 v31 v37 v43 = BitVec.ofNat 32 n) (h8 : n < 9) (w : BitVec 32) (hw : w.toNat < 8) :
    k0_chk9 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond2 v1 v7 v13 v19 v25 v31 v37 v43 hn h8).1 hc; exact inb3 (by omega) (by omega) (by omega) (off15 w)
  · intro hc; have hc := (cond2 v1 v7 v13 v19 v25 v31 v37 v43 hn h8).1 hc; intro hi; exact ww3 (off15 w) (by show (4 : ℕ) ∣ _; omega) (by decide) hi

theorem chk10 {n : ℕ} (hn : nlw v1 v7 v13 v19 v25 v31 v37 v43 = BitVec.ofNat 32 n) (h8 : n < 9) (w : BitVec 32) (hw : w.toNat < 8) :
    k0_chk10 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond3 v1 v7 v13 v19 v25 v31 v37 v43 hn h8).1 hc; exact inb3 (by omega) (by omega) (by omega) (off19 w)
  · intro hc; have hc := (cond3 v1 v7 v13 v19 v25 v31 v37 v43 hn h8).1 hc; intro hi; exact ww3 (off19 w) (by show (4 : ℕ) ∣ _; omega) (by decide) hi

theorem chk11 {n : ℕ} (hn : nlw v1 v7 v13 v19 v25 v31 v37 v43 = BitVec.ofNat 32 n) (h8 : n < 9) (w : BitVec 32) (hw : w.toNat < 8) :
    k0_chk11 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond4 v1 v7 v13 v19 v25 v31 v37 v43 hn h8).1 hc; exact inb3 (by omega) (by omega) (by omega) (off23 w)
  · intro hc; have hc := (cond4 v1 v7 v13 v19 v25 v31 v37 v43 hn h8).1 hc; intro hi; exact ww3 (off23 w) (by show (4 : ℕ) ∣ _; omega) (by decide) hi

theorem chk12 {n : ℕ} (hn : nlw v1 v7 v13 v19 v25 v31 v37 v43 = BitVec.ofNat 32 n) (h8 : n < 9) (w : BitVec 32) (hw : w.toNat < 8) :
    k0_chk12 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond5 v1 v7 v13 v19 v25 v31 v37 v43 hn h8).1 hc; exact inb3 (by omega) (by omega) (by omega) (off27 w)
  · intro hc; have hc := (cond5 v1 v7 v13 v19 v25 v31 v37 v43 hn h8).1 hc; intro hi; exact ww3 (off27 w) (by show (4 : ℕ) ∣ _; omega) (by decide) hi

theorem chk14 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk14 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · have ht := lt t; have hT := lt7 t; intro hc; have hc := (cond14 v1 v7 v13 v19 v25 v31 v37 v43 t hn h8 (lt t)).1 hc; exact inb3 (by omega) (by omega) (by omega) (off32 v1 v7 v13 v19 v25 v31 v37 v43 t w (lt t) (by omega))
  · have ht := lt t; have hT := lt7 t; intro hc; have hc := (cond14 v1 v7 v13 v19 v25 v31 v37 v43 t hn h8 (lt t)).1 hc; intro hi; exact ww3 (off32 v1 v7 v13 v19 v25 v31 v37 v43 t w (lt t) (by omega)) (by show (4 : ℕ) ∣ _; omega) (by decide) hi

theorem chk15 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk15 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · have ht := lt t; have hT := lt7 t; intro hc; have hc := (cond15 v1 v7 v13 v19 v25 v31 v37 v43 t (lt t)).1 hc; exact inb3 (by omega) (by omega) (by omega) (off35 v1 v7 v13 v19 v25 v31 v37 v43 t w (lt t) (by omega))
  · have ht := lt t; have hT := lt7 t; intro hc; have hc := (cond15 v1 v7 v13 v19 v25 v31 v37 v43 t (lt t)).1 hc; intro hi; exact ww3 (off35 v1 v7 v13 v19 v25 v31 v37 v43 t w (lt t) (by omega)) (by show (2 : ℕ) ∣ _; omega) (by decide) hi

theorem chk16 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk16 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · have ht := lt t; have hT := lt7 t; intro hc; have hc := (cond16 v1 v7 v13 v19 v25 v31 v37 v43 t (lt t)).1 hc; exact inb3 (by omega) (by omega) (by omega) (off39 v1 v7 v13 v19 v25 v31 v37 v43 t w (lt t) (by omega))
  · have ht := lt t; have hT := lt7 t; intro hc; have hc := (cond16 v1 v7 v13 v19 v25 v31 v37 v43 t (lt t)).1 hc; intro hi; exact ww3 (off39 v1 v7 v13 v19 v25 v31 v37 v43 t w (lt t) (by omega)) (by show (2 : ℕ) ∣ _; omega) (by decide) hi

theorem chk17 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk17 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_, ?_⟩
  · have ht := lt t; have hT := lt7 t; intro hc; have hc := (cond17 v1 v7 v13 v19 v25 v31 v37 v43 t (lt t)).1 hc; exact inb3 (by omega) (by omega) (by omega) (off41 w)
  · have ht := lt t; have hT := lt7 t; exact inb2 (by omega) (by omega) (off47 v1 v7 v13 v19 v25 v31 v37 v43 t w (lt t) (by omega))
  · exact inb1 (by omega) (off48 w)

theorem chk18 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk18 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · have ht := lt t; have hT := lt7 t; exact inb3 (by omega) (by omega) (by omega) (off45 v1 v7 v13 v19 v25 v31 v37 v43 t w (lt t) (by omega))
  · have ht := lt t; have hT := lt7 t; intro hi; exact ww3 (off45 v1 v7 v13 v19 v25 v31 v37 v43 t w (lt t) (by omega)) (by show (4 : ℕ) ∣ _; omega) (by decide) hi

theorem chk24 {n : ℕ} (hn : nlw v1 v7 v13 v19 v25 v31 v37 v43 = BitVec.ofNat 32 n) (h8 : n < 9) (w : BitVec 32) (hw : w.toNat < 8) :
    k0_chk24 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond22 v1 v7 v13 v19 v25 v31 v37 v43 hn h8).1 hc; exact inb3 (by omega) (by omega) (by omega) (off74 v1 v7 v13 v19 v25 v31 v37 v43 w hn h8 (by omega))
  · intro hc; have hc := (cond22 v1 v7 v13 v19 v25 v31 v37 v43 hn h8).1 hc; intro hi; exact ww3 (off74 v1 v7 v13 v19 v25 v31 v37 v43 w hn h8 (by omega)) (by show (2 : ℕ) ∣ _; omega) (by decide) hi

theorem chk25 {n : ℕ} (hn : nlw v1 v7 v13 v19 v25 v31 v37 v43 = BitVec.ofNat 32 n) (h8 : n < 9) (w : BitVec 32) (hw : w.toNat < 8) :
    k0_chk25 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond23 v1 v7 v13 v19 v25 v31 v37 v43 hn h8).1 hc; exact inb3 (by omega) (by omega) (by omega) (off78 v1 v7 v13 v19 v25 v31 v37 v43 w hn h8 (by omega))
  · intro hc; have hc := (cond23 v1 v7 v13 v19 v25 v31 v37 v43 hn h8).1 hc; intro hi; exact ww3 (off78 v1 v7 v13 v19 v25 v31 v37 v43 w hn h8 (by omega)) (by show (2 : ℕ) ∣ _; omega) (by decide) hi

theorem chk26 {n : ℕ} (hn : nlw v1 v7 v13 v19 v25 v31 v37 v43 = BitVec.ofNat 32 n) (h8 : n < 9) (w : BitVec 32) (hw : w.toNat < 8) :
    k0_chk26 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond24 v1 v7 v13 v19 v25 v31 v37 v43 hn h8).1 hc; exact inb3 (by omega) (by omega) (by omega) (off82 v1 v7 v13 v19 v25 v31 v37 v43 w hn h8 (by omega))
  · intro hc; have hc := (cond24 v1 v7 v13 v19 v25 v31 v37 v43 hn h8).1 hc; intro hi; exact ww3 (off82 v1 v7 v13 v19 v25 v31 v37 v43 w hn h8 (by omega)) (by show (2 : ℕ) ∣ _; omega) (by decide) hi

theorem chk27 {n : ℕ} (hn : nlw v1 v7 v13 v19 v25 v31 v37 v43 = BitVec.ofNat 32 n) (h8 : n < 9) (w : BitVec 32) (hw : w.toNat < 8) :
    k0_chk27 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond25 v1 v7 v13 v19 v25 v31 v37 v43 hn h8).1 hc; exact inb3 (by omega) (by omega) (by omega) (off86 v1 v7 v13 v19 v25 v31 v37 v43 w hn h8 (by omega))
  · intro hc; have hc := (cond25 v1 v7 v13 v19 v25 v31 v37 v43 hn h8).1 hc; intro hi; exact ww3 (off86 v1 v7 v13 v19 v25 v31 v37 v43 w hn h8 (by omega)) (by show (2 : ℕ) ∣ _; omega) (by decide) hi

end

/-- One for a live expert's word, none for a dead one's. -/
def lvb (v : BitVec 32) : ℕ := if 0 < v.toInt then 1 else 0

/-- The live experts among the first `k`. -/
def cnt (gw : ℕ → BitVec 32) : ℕ → ℕ
  | 0 => 0
  | k + 1 => cnt gw k + lvb (gw k)

theorem lvb_le (v : BitVec 32) : lvb v ≤ 1 := by unfold lvb; split <;> omega

theorem cnt_le (gw : ℕ → BitVec 32) (k : ℕ) : cnt gw k ≤ k := by
  induction k with
  | zero => exact Nat.le_refl _
  | succ k ih => have := lvb_le (gw k); simp only [cnt]; omega

theorem cmpi_sgt' (v : BitVec 32) : Scalar.cmpi .sgt v 0#32 = 1#1 ↔ 0 < v.toInt := by
  show BitVec.ofBool (decide (0 < v.toInt)) = 1#1 ↔ _
  by_cases h : 0 < v.toInt <;> simp [h]

theorem lvb_word (v : BitVec 32) : Scalar.extui (Scalar.cmpi .sgt v 0#32) = BitVec.ofNat 32 (lvb v) := by
  unfold lvb
  by_cases h : 0 < v.toInt
  · rw [if_pos h, show Scalar.cmpi .sgt v 0#32 = 1#1 from (cmpi_sgt' v).2 h]; rfl
  · rw [if_neg h]
    have : Scalar.cmpi .sgt v 0#32 = 0#1 := by
      rcases (show ∀ b : BitVec 1, b = 0#1 ∨ b = 1#1 by decide) (Scalar.cmpi .sgt v 0#32) with h' | h'
      · exact h'
      · exact absurd ((cmpi_sgt' v).1 h') h
    rw [this]; rfl

theorem addi_ofNat (a b : ℕ) : Scalar.addi (BitVec.ofNat 32 a) (BitVec.ofNat 32 b) = BitVec.ofNat 32 (a + b) := by
  show BitVec.ofNat 32 a + BitVec.ofNat 32 b = _
  rw [BitVec.ofNat_add]

theorem cnt_succ (gw : ℕ → BitVec 32) (k : ℕ) :
    Scalar.addi (BitVec.ofNat 32 (cnt gw k)) (Scalar.extui (Scalar.cmpi .sgt (gw k) 0#32)) = BitVec.ofNat 32 (cnt gw (k + 1)) := by
  rw [lvb_word, addi_ofNat]; rfl

theorem nlw_eq (gw : ℕ → BitVec 32) : nlw (gw 0) (gw 1) (gw 2) (gw 3) (gw 4) (gw 5) (gw 6) (gw 7) = BitVec.ofNat 32 (cnt gw 8) := by
  unfold nlw
  rw [show Scalar.addi (0#32) (Scalar.extui (Scalar.cmpi .sgt (gw 0) 0#32)) = _ from cnt_succ gw 0]
  rw [cnt_succ gw 1, cnt_succ gw 2, cnt_succ gw 3, cnt_succ gw 4, cnt_succ gw 5, cnt_succ gw 6, cnt_succ gw 7]

theorem off1 (gw : ℕ → BitVec 32) : k0_off1 (gw 0) = ![cnt gw 1] := by
  dsimp only [k0_off1]
  rw [show Scalar.addi (0#32) (Scalar.extui (Scalar.cmpi .sgt (gw 0) 0#32)) = _ from cnt_succ gw 0]
  have := cnt_le gw 1
  refine congrArg (fun z => ![z]) ?_
  generalize cnt gw 1 = z at this
  revert z
  decide
theorem chk1 (gw : ℕ → BitVec 32) : k0_chk1 (gw 0) := by
  have := cnt_le gw 1
  exact inb1 (by omega) (off1 gw)

theorem off2 (gw : ℕ → BitVec 32) : k0_off2 (gw 0) (gw 1) = ![cnt gw 2] := by
  dsimp only [k0_off2]
  rw [show Scalar.addi (0#32) (Scalar.extui (Scalar.cmpi .sgt (gw 0) 0#32)) = _ from cnt_succ gw 0]
  rw [cnt_succ gw 1]
  have := cnt_le gw 2
  refine congrArg (fun z => ![z]) ?_
  generalize cnt gw 2 = z at this
  revert z
  decide
theorem chk2 (gw : ℕ → BitVec 32) : k0_chk2 (gw 0) (gw 1) := by
  have := cnt_le gw 2
  exact inb1 (by omega) (off2 gw)

theorem off3 (gw : ℕ → BitVec 32) : k0_off3 (gw 0) (gw 1) (gw 2) = ![cnt gw 3] := by
  dsimp only [k0_off3]
  rw [show Scalar.addi (0#32) (Scalar.extui (Scalar.cmpi .sgt (gw 0) 0#32)) = _ from cnt_succ gw 0]
  rw [cnt_succ gw 1]
  rw [cnt_succ gw 2]
  have := cnt_le gw 3
  refine congrArg (fun z => ![z]) ?_
  generalize cnt gw 3 = z at this
  revert z
  decide
theorem chk3 (gw : ℕ → BitVec 32) : k0_chk3 (gw 0) (gw 1) (gw 2) := by
  have := cnt_le gw 3
  exact inb1 (by omega) (off3 gw)

theorem off4 (gw : ℕ → BitVec 32) : k0_off4 (gw 0) (gw 1) (gw 2) (gw 3) = ![cnt gw 4] := by
  dsimp only [k0_off4]
  rw [show Scalar.addi (0#32) (Scalar.extui (Scalar.cmpi .sgt (gw 0) 0#32)) = _ from cnt_succ gw 0]
  rw [cnt_succ gw 1]
  rw [cnt_succ gw 2]
  rw [cnt_succ gw 3]
  have := cnt_le gw 4
  refine congrArg (fun z => ![z]) ?_
  generalize cnt gw 4 = z at this
  revert z
  decide
theorem chk4 (gw : ℕ → BitVec 32) : k0_chk4 (gw 0) (gw 1) (gw 2) (gw 3) := by
  have := cnt_le gw 4
  exact inb1 (by omega) (off4 gw)

theorem off5 (gw : ℕ → BitVec 32) : k0_off5 (gw 0) (gw 1) (gw 2) (gw 3) (gw 4) = ![cnt gw 5] := by
  dsimp only [k0_off5]
  rw [show Scalar.addi (0#32) (Scalar.extui (Scalar.cmpi .sgt (gw 0) 0#32)) = _ from cnt_succ gw 0]
  rw [cnt_succ gw 1]
  rw [cnt_succ gw 2]
  rw [cnt_succ gw 3]
  rw [cnt_succ gw 4]
  have := cnt_le gw 5
  refine congrArg (fun z => ![z]) ?_
  generalize cnt gw 5 = z at this
  revert z
  decide
theorem chk5 (gw : ℕ → BitVec 32) : k0_chk5 (gw 0) (gw 1) (gw 2) (gw 3) (gw 4) := by
  have := cnt_le gw 5
  exact inb1 (by omega) (off5 gw)

theorem off6 (gw : ℕ → BitVec 32) : k0_off6 (gw 0) (gw 1) (gw 2) (gw 3) (gw 4) (gw 5) = ![cnt gw 6] := by
  dsimp only [k0_off6]
  rw [show Scalar.addi (0#32) (Scalar.extui (Scalar.cmpi .sgt (gw 0) 0#32)) = _ from cnt_succ gw 0]
  rw [cnt_succ gw 1]
  rw [cnt_succ gw 2]
  rw [cnt_succ gw 3]
  rw [cnt_succ gw 4]
  rw [cnt_succ gw 5]
  have := cnt_le gw 6
  refine congrArg (fun z => ![z]) ?_
  generalize cnt gw 6 = z at this
  revert z
  decide
theorem chk6 (gw : ℕ → BitVec 32) : k0_chk6 (gw 0) (gw 1) (gw 2) (gw 3) (gw 4) (gw 5) := by
  have := cnt_le gw 6
  exact inb1 (by omega) (off6 gw)

theorem off7 (gw : ℕ → BitVec 32) : k0_off7 (gw 0) (gw 1) (gw 2) (gw 3) (gw 4) (gw 5) (gw 6) = ![cnt gw 7] := by
  dsimp only [k0_off7]
  rw [show Scalar.addi (0#32) (Scalar.extui (Scalar.cmpi .sgt (gw 0) 0#32)) = _ from cnt_succ gw 0]
  rw [cnt_succ gw 1]
  rw [cnt_succ gw 2]
  rw [cnt_succ gw 3]
  rw [cnt_succ gw 4]
  rw [cnt_succ gw 5]
  rw [cnt_succ gw 6]
  have := cnt_le gw 7
  refine congrArg (fun z => ![z]) ?_
  generalize cnt gw 7 = z at this
  revert z
  decide
theorem chk7 (gw : ℕ → BitVec 32) : k0_chk7 (gw 0) (gw 1) (gw 2) (gw 3) (gw 4) (gw 5) (gw 6) := by
  have := cnt_le gw 7
  exact inb1 (by omega) (off7 gw)

end Cert.Kernel.Hand

end
-- ==== Proof.Count.lean ====
module

public import proofs.«01_k».proof.Proof.Words

@[expose] public section

noncomputable section

namespace Cert.Kernel.Hand

open Cert.Kernel Idealize.ShloMosaic

/-- The list of live experts after the first `k` are seen: the kernel writes the expert at the count of live ones so far. -/
def lst (gw : ℕ → BitVec 32) : ℕ → ℕ → ℕ
  | 0 => fun _ => 0
  | k + 1 => Function.update (lst gw k) (cnt gw k) k

/-- The `k`-th live expert. -/
def ex (gw : ℕ → BitVec 32) (k : ℕ) : ℕ := lst gw 8 k

theorem cnt_mono (gw : ℕ → BitVec 32) {a b : ℕ} (h : a ≤ b) : cnt gw a ≤ cnt gw b := by
  induction b, h using Nat.le_induction with
  | base => exact Nat.le_refl _
  | succ b _ ih => simp only [cnt]; omega

theorem lvb_pos {v : BitVec 32} (h : 0 < v.toInt) : lvb v = 1 := if_pos h
theorem lvb_neg {v : BitVec 32} (h : ¬ 0 < v.toInt) : lvb v = 0 := if_neg h

theorem lst_inv (gw : ℕ → BitVec 32) (m : ℕ) :
    (∀ e < m, 0 < (gw e).toInt → lst gw m (cnt gw e) = e) ∧
    (∀ k < cnt gw m, lst gw m k < m ∧ 0 < (gw (lst gw m k)).toInt ∧ cnt gw (lst gw m k) = k) := by
  induction m with
  | zero => exact ⟨fun e h => absurd h (Nat.not_lt_zero _), fun k h => absurd h (Nat.not_lt_zero _)⟩
  | succ m ih =>
    refine ⟨fun e he hl => ?_, fun k hk => ?_⟩
    · by_cases h : e = m
      · subst h; simp [lst]
      · have hlt : e < m := by omega
        have h1 : cnt gw (e + 1) ≤ cnt gw m := cnt_mono gw hlt
        simp only [cnt, lvb_pos hl] at h1
        simp only [lst]
        rw [Function.update_of_ne (by omega)]
        exact ih.1 e hlt hl
    · by_cases h : k = cnt gw m
      · subst h
        have hs : lst gw (m + 1) (cnt gw m) = m := Function.update_self ..
        rw [hs]
        refine ⟨Nat.lt_succ_self _, ?_, rfl⟩
        by_contra hc
        simp only [cnt, lvb_neg hc] at hk
        omega
      · have hlt : k < cnt gw m := by
          have := lvb_le (gw m); simp only [cnt] at hk; omega
        simp only [lst]
        rw [Function.update_of_ne h]
        obtain ⟨a, b, d⟩ := ih.2 k hlt
        exact ⟨by omega, b, d⟩

section
variable (gw : ℕ → BitVec 32)

theorem ex_cnt {e : ℕ} (he : e < 8) (hl : 0 < (gw e).toInt) : ex gw (cnt gw e) = e := (lst_inv gw 8).1 e he hl
theorem ex_lt {k : ℕ} (h : k < cnt gw 8) : ex gw k < 8 := ((lst_inv gw 8).2 k h).1
theorem ex_live {k : ℕ} (h : k < cnt gw 8) : 0 < (gw (ex gw k)).toInt := ((lst_inv gw 8).2 k h).2.1
theorem cnt_ex {k : ℕ} (h : k < cnt gw 8) : cnt gw (ex gw k) = k := ((lst_inv gw 8).2 k h).2.2

theorem ex_le (k : ℕ) : ex gw k < 8 := by
  have : ∀ m, 0 < m → lst gw m k < m := by
    intro m
    induction m with
    | zero => intro h; exact absurd h (Nat.not_lt_zero _)
    | succ m ih =>
      intro _
      simp only [lst]
      by_cases h : k = cnt gw m
      · subst h; rw [Function.update_self]; omega
      · rw [Function.update_of_ne h]
        rcases Nat.eq_zero_or_pos m with h0 | h0
        · subst h0; simp [lst]
        · have := ih h0; omega
  exact this 8 (by decide)

/-- Where an element of the result stands in the order the kernel writes it: a live expert's block by its number, a
    dead expert's slab after every block. -/
def rk (e b : ℕ) : ℕ := if 0 < (gw e).toInt then 7 * cnt gw e + b else 56 + (e - cnt gw e)

theorem rk_block {j e b : ℕ} (he : e < 8) (hb : b < 7) (hj : j < 7 * cnt gw 8) :
    rk gw e b = j ↔ e = ex gw (j / 7) ∧ b = j % 7 := by
  have hj7 : j / 7 < cnt gw 8 := by omega
  have c8 := cnt_le gw 8
  unfold rk
  constructor
  · intro h
    split at h
    · rename_i hl
      have : j / 7 = cnt gw e := by omega
      rw [this, ex_cnt gw he hl]
      exact ⟨rfl, by omega⟩
    · omega
  · rintro ⟨rfl, rfl⟩
    rw [if_pos (ex_live gw hj7), cnt_ex gw hj7]; omega

theorem rk_dead {j e b d : ℕ} (hd : d < 8) (hb : b < 7) (he : e < 8) (hl : ¬ 0 < (gw d).toInt) :
    rk gw e b = 56 + (d - cnt gw d) ↔ e = d := by
  have c8 := cnt_le gw 8
  have key : ∀ a b, a < b → ¬ 0 < (gw a).toInt → a - cnt gw a < b - cnt gw b := by
    intro a b hab ha
    have h1 : ∀ n, cnt gw (a + 1 + n) ≤ cnt gw (a + 1) + n := by
      intro n
      induction n with
      | zero => exact Nat.le_refl _
      | succ n ih => have := lvb_le (gw (a + 1 + n)); rw [← Nat.add_assoc]; simp only [cnt] at ih ⊢; omega
    have h2 := h1 (b - (a + 1))
    rw [show a + 1 + (b - (a + 1)) = b by omega] at h2
    simp only [cnt, lvb_neg ha] at h2
    have := cnt_le gw a
    have := cnt_le gw b
    omega
  have hcnt : ∀ a, a < 8 → 0 < (gw a).toInt → cnt gw a < cnt gw 8 := by
    intro a ha hl
    have := cnt_mono gw (show a + 1 ≤ 8 from ha)
    simp only [cnt, lvb_pos hl] at this ⊢; omega
  unfold rk
  constructor
  · intro h
    split at h
    · rename_i hle
      have := hcnt e he hle
      omega
    · rename_i hle
      rcases Nat.lt_trichotomy e d with h' | h' | h'
      · have := key e d h' hle; omega
      · exact h'
      · have := key d e h' hl; omega
  · rintro rfl
    rw [if_neg hl]

theorem rk_lt {e b : ℕ} (he : e < 8) (hb : b < 7) :
    (0 < (gw e).toInt → rk gw e b < 7 * cnt gw 8) ∧ (¬ 0 < (gw e).toInt → 56 ≤ rk gw e b ∧ rk gw e b < 56 + (8 - cnt gw 8)) := by
  unfold rk
  constructor
  · intro h
    rw [if_pos h]
    have := cnt_mono gw (show e + 1 ≤ 8 from he)
    simp only [cnt, lvb_pos h] at this ⊢
    omega
  · intro h
    rw [if_neg h]
    refine ⟨by omega, ?_⟩
    have h1 : ∀ n, cnt gw (e + 1 + n) ≤ cnt gw (e + 1) + n := by
      intro n
      induction n with
      | zero => exact Nat.le_refl _
      | succ n ih => have := lvb_le (gw (e + 1 + n)); rw [← Nat.add_assoc]; simp only [cnt] at ih ⊢; omega
    have h2 := h1 (8 - (e + 1))
    rw [show e + 1 + (8 - (e + 1)) = 8 by omega] at h2
    simp only [cnt, lvb_neg h] at h2 ⊢
    have := cnt_le gw e
    have := cnt_le gw 8
    simp only [cnt] at this
    omega

end

end Cert.Kernel.Hand

end
-- ==== Proof.Base.lean ====
module

public import proofs.«01_k».proof.Proof.Words
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- An index from its coordinates' values (each taken modulo the axis). -/
def mk (s : Shape) (f : Fin s.rank → ℕ) (h : ∀ a, 0 < s.size a := by decide) : s.Idx :=
  fun a => ⟨f a % s.size a, Nat.mod_lt _ (h a)⟩

theorem mk_val (s : Shape) (f : Fin s.rank → ℕ) (h : ∀ a, 0 < s.size a) (a : Fin s.rank) (hf : f a < s.size a) :
    (mk s f h a : ℕ) = f a := Nat.mod_eq_of_lt hf

theorem eq_mk (s : Shape) (f : Fin s.rank → ℕ) (h : ∀ a, 0 < s.size a) (i : s.Idx) (hi : ∀ a, (i a : ℕ) = f a) : i = mk s f h := by
  funext a
  have h1 : f a < s.size a := (hi a) ▸ (i a).isLt
  exact Fin.ext ((hi a).trans (Nat.mod_eq_of_lt h1).symm)

/-! ## Scalar memory -/

abbrev tc (c : Dev nD) : Thread nD τ := c

section rules
variable (c : Dev nD) {α : Type}

theorem wp_asm {P : Prop} {d : Decidable P} {k : PLift P → Prog (TpuEff nD τ sig (Elt F) Λ₀ (tc c).2) α} {Q : α → sProp 𝕄} (h : P) :
    wp frame (wpE (defs₀ (F := F)) Variants.none (tc c) none) Set.univ (k ⟨h⟩) Q
      ⊢ wp frame (wpE (defs₀ (F := F)) Variants.none (tc c) none) Set.univ (Prog.lift (.assume P d) >>= k) Q :=
  wp_assume Variants.none (tc c) none Set.univ h

theorem wp_ldL {off : Fin 1 → ℕ} {inb h1 h2} (L : S9.Idx → BitVec 32) (i : ℕ) (hi : off = ![i]) (hi9 : i < 9)
    {k : BitVec 32 → Prog (TpuEff nD τ sig (Elt F) Λ₀ (tc c).2) α} {Q : α → sProp 𝕄} :
    ((tc c).loc cc0_scratch1 ↦[Finset.univ]{fullShare} L : sProp 𝕄)
      ⊢ iprop((((tc c).loc cc0_scratch1 ↦[Finset.univ]{fullShare} L) -∗ wp frame (wpE (defs₀ (F := F)) Variants.none (tc c) none) Set.univ (k (L (mk S9 ![i]))) Q)
        -∗ wp frame (wpE (defs₀ (F := F)) Variants.none (tc c) none) Set.univ
            (smemLoad (Memref.whole cc0_scratch1) (Rect.unit (s := S9) off S1.size inb) h1 h2 >>= k) Q) := by
  subst hi
  have e : ∀ x, ((Memref.whole cc0_scratch1).access (Rect.unit (s := S9) ![i] S1.size inb)).read (Elt F) L x = L (mk S9 ![i]) := by
    intro x
    refine congrArg L (eq_mk _ _ _ _ fun a => ?_)
    refine (ValueKit.view_emb_slice_whole_unit_val cc0_scratch1 _ _ _ x a).trans ?_
    match a with
    | ⟨0, _⟩ => exact congrArg (i + ·) (Nat.lt_one_iff.mp (x 0).isLt)
  have h := wp_smemLoadElt (m := Memref.whole cc0_scratch1) (r := Rect.unit (s := S9) ![i] S1.size inb) (hw := View.loads_smem_one h2 h1)
    (x := Shape.Idx.first (h1.symm ▸ Nat.one_pos)) (k := k) (Q := Q) (Γ := .empty) (defs := defs₀ (F := F)) Variants.none (tc c) none Set.univ (q := fullShare) (f := L) (Finset.subset_univ _)
  rw [e] at h
  exact h

theorem wp_ldG {off : Fin 1 → ℕ} {inb h1 h2} (L : S8.Idx → BitVec 32) (i : ℕ) (hi : off = ![i]) (hi9 : i < 8)
    {k : BitVec 32 → Prog (TpuEff nD τ sig (Elt F) Λ₀ (tc c).2) α} {Q : α → sProp 𝕄} :
    ((tc c).loc cc0_scratch0 ↦[Finset.univ]{fullShare} L : sProp 𝕄)
      ⊢ iprop((((tc c).loc cc0_scratch0 ↦[Finset.univ]{fullShare} L) -∗ wp frame (wpE (defs₀ (F := F)) Variants.none (tc c) none) Set.univ (k (L (mk S8 ![i]))) Q)
        -∗ wp frame (wpE (defs₀ (F := F)) Variants.none (tc c) none) Set.univ
            (smemLoad (Memref.whole cc0_scratch0) (Rect.unit (s := S8) off S1.size inb) h1 h2 >>= k) Q) := by
  subst hi
  have e : ∀ x, ((Memref.whole cc0_scratch0).access (Rect.unit (s := S8) ![i] S1.size inb)).read (Elt F) L x = L (mk S8 ![i]) := by
    intro x
    refine congrArg L (eq_mk _ _ _ _ fun a => ?_)
    refine (ValueKit.view_emb_slice_whole_unit_val cc0_scratch0 _ _ _ x a).trans ?_
    match a with
    | ⟨0, _⟩ => exact congrArg (i + ·) (Nat.lt_one_iff.mp (x 0).isLt)
  have h := wp_smemLoadElt (m := Memref.whole cc0_scratch0) (r := Rect.unit (s := S8) ![i] S1.size inb) (hw := View.loads_smem_one h2 h1)
    (x := Shape.Idx.first (h1.symm ▸ Nat.one_pos)) (k := k) (Q := Q) (Γ := .empty) (defs := defs₀ (F := F)) Variants.none (tc c) none Set.univ (q := fullShare) (f := L) (Finset.subset_univ _)
  rw [e] at h
  exact h

/-- A store of a word in the list of live experts. -/
theorem wp_stL {off : Fin 1 → ℕ} {inb hx hm} (L : S9.Idx → BitVec 32) (i : ℕ) (hi : off = ![i]) (hi9 : i < 9) (w : BitVec 32)
    {k : PUnit → Prog (TpuEff nD τ sig (Elt F) Λ₀ (tc c).2) α} {Q : α → sProp 𝕄} :
    ((tc c).loc cc0_scratch1 ↦[Finset.univ]{fullShare} L : sProp 𝕄)
      ⊢ iprop((((tc c).loc cc0_scratch1 ↦[Finset.univ]{fullShare} (Function.update L (mk S9 ![i]) w)) -∗ wp frame (wpE (defs₀ (F := F)) Variants.none (tc c) none) Set.univ (k ⟨⟩) Q)
        -∗ wp frame (wpE (defs₀ (F := F)) Variants.none (tc c) none) Set.univ
            (Prog.lift (.store (Memref.whole cc0_scratch1) (Rect.unit (s := S9) off S1.size inb) (fun _ => w) Finset.univ hx hm) >>= k) Q) := by
  subst hi
  have e : ∀ x, ((Memref.whole cc0_scratch1).access (Rect.unit (s := S9) ![i] S1.size inb)).emb x = mk S9 ![i] := by
    intro x
    refine (eq_mk _ _ _ _ fun a => ?_)
    refine (ValueKit.view_emb_slice_whole_unit_val cc0_scratch1 _ _ _ x a).trans ?_
    match a with
    | ⟨0, _⟩ => exact congrArg (i + ·) (Nat.lt_one_iff.mp (x 0).isLt)
  have h := wp_store (m := Memref.whole cc0_scratch1) (r := Rect.unit (s := S9) ![i] S1.size inb) (w := fun _ => w) (Mk := Finset.univ) (hx := hx) (hm := hm)
    (k := k) (Q := Q) (Γ := .empty) (defs := defs₀ (F := F)) Variants.none (tc c) none Set.univ (f := L) (Finset.subset_univ _)
  have e2 : ((Memref.whole cc0_scratch1).access (Rect.unit (s := S9) ![i] S1.size inb)).write (Elt F) L (fun _ => w) Finset.univ = Function.update L (mk S9 ![i]) w := by
    funext j
    by_cases hj : j = mk S9 ![i]
    · subst hj
      rw [Function.update_self, ← e (fun a => ⟨0, by match a with | ⟨0, _⟩ => exact Nat.one_pos⟩)]
      exact View.write_emb_of_mem _ _ (Finset.mem_univ _)
    · rw [Function.update_of_ne hj]
      refine View.write_of_not_mem _ _ _ fun hc => ?_
      obtain ⟨x, -, rfl⟩ := Finset.mem_map.mp hc
      exact hj (e x)
  rw [e2] at h
  exact h

/-! ## The pieces of the buffers -/

/-- Slot `s` of the six weight slots. -/
def wslot (s : ℕ) : Finset (S6x2048x2816.Idx) := Finset.univ.filter fun i => (i 0 : ℕ) = s
/-- Slot `s` of the three output slots. -/
def oslot (s : ℕ) : Finset (S3x32x2048.Idx) := Finset.univ.filter fun i => (i 0 : ℕ) = s
/-- Block `b` of expert `e`'s weights. -/
def wpc (e b : ℕ) : Finset (S8x14336x2816.Idx) := Finset.univ.filter fun i => (i 0 : ℕ) = e ∧ (i 1 : ℕ) / 2048 = b
/-- Block `b` of expert `e`'s result. -/
def opc (e b : ℕ) : Finset (S8x32x14336.Idx) := Finset.univ.filter fun i => (i 0 : ℕ) = e ∧ (i 2 : ℕ) / 2048 = b
/-- Expert `e`'s whole result. -/
def zpc (e : ℕ) : Finset (S8x32x14336.Idx) := Finset.univ.filter fun i => (i 0 : ℕ) = e

theorem set_wslot {off : Fin 3 → ℕ} {inb} (s : ℕ) (h : off = ![s, 0, 0]) :
    (((Memref.whole cc0_scratch6).slice (Rect.unit (s := S6x2048x2816) off S1x2048x2816.size inb) (fun _ => rfl)).squeeze
      S2048x2816 squeezes_S1x2048x2816_S2048x2816).view.set = wslot s := by
  subst h
  refine (View.set_reshape _ _).trans ?_
  refine Finset.ext fun i => (ValueKit.mem_set_slice_whole_iff cc0_scratch6 _ i Rect.mem_set_unit).trans ?_
  simp only [wslot, Finset.mem_filter, Finset.mem_univ, true_and]
  constructor
  · intro hh
    have := hh 0
    have h1 : s ≤ (i 0 : ℕ) ∧ (i 0 : ℕ) < s + 1 := this
    omega
  · rintro hh a
    match a with
    | ⟨0, _⟩ => exact ⟨Nat.le_of_eq hh.symm, by show (i 0 : ℕ) < s + 1; omega⟩
    | ⟨1, _⟩ => exact ⟨Nat.zero_le _, by show (i 1 : ℕ) < 0 + 2048; have : (i 1 : ℕ) < 2048 := (i 1).isLt; omega⟩
    | ⟨2, _⟩ => exact ⟨Nat.zero_le _, by show (i 2 : ℕ) < 0 + 2816; have : (i 2 : ℕ) < 2816 := (i 2).isLt; omega⟩

theorem set_oslot {off : Fin 3 → ℕ} {inb} (s : ℕ) (h : off = ![s, 0, 0]) :
    (((Memref.whole cc0_scratch7).slice (Rect.unit (s := S3x32x2048) off S1x32x2048.size inb) (fun _ => rfl)).squeeze
      S32x2048 squeezes_S1x32x2048_S32x2048).view.set = oslot s := by
  subst h
  refine (View.set_reshape _ _).trans ?_
  refine Finset.ext fun i => (ValueKit.mem_set_slice_whole_iff cc0_scratch7 _ i Rect.mem_set_unit).trans ?_
  simp only [oslot, Finset.mem_filter, Finset.mem_univ, true_and]
  constructor
  · intro hh
    have h1 : s ≤ (i 0 : ℕ) ∧ (i 0 : ℕ) < s + 1 := hh 0
    omega
  · rintro hh a
    match a with
    | ⟨0, _⟩ => exact ⟨Nat.le_of_eq hh.symm, by show (i 0 : ℕ) < s + 1; omega⟩
    | ⟨1, _⟩ => exact ⟨Nat.zero_le _, by show (i 1 : ℕ) < 0 + 32; have : (i 1 : ℕ) < 32 := (i 1).isLt; omega⟩
    | ⟨2, _⟩ => exact ⟨Nat.zero_le _, by show (i 2 : ℕ) < 0 + 2048; have : (i 2 : ℕ) < 2048 := (i 2).isLt; omega⟩

theorem set_wpc {off : Fin 3 → ℕ} {inb} (e b : ℕ) (h : off = ![e, 2048 * b, 0]) :
    (((Memref.whole main_arg2).slice (Rect.unit (s := S8x14336x2816) off S1x2048x2816.size inb) (fun _ => rfl)).squeeze
      S2048x2816 squeezes_S1x2048x2816_S2048x2816).view.set = wpc e b := by
  subst h
  refine (View.set_reshape _ _).trans ?_
  refine Finset.ext fun i => (ValueKit.mem_set_slice_whole_iff main_arg2 _ i Rect.mem_set_unit).trans ?_
  simp only [wpc, Finset.mem_filter, Finset.mem_univ, true_and]
  constructor
  · intro hh
    have h1 : e ≤ (i 0 : ℕ) ∧ (i 0 : ℕ) < e + 1 := hh 0
    have h2 : 2048 * b ≤ (i 1 : ℕ) ∧ (i 1 : ℕ) < 2048 * b + 2048 := hh 1
    omega
  · rintro hh a
    match a with
    | ⟨0, _⟩ => exact ⟨Nat.le_of_eq hh.1.symm, by show (i 0 : ℕ) < e + 1; omega⟩
    | ⟨1, _⟩ => exact ⟨by show 2048 * b ≤ (i 1 : ℕ); omega, by show (i 1 : ℕ) < 2048 * b + 2048; omega⟩
    | ⟨2, _⟩ => exact ⟨Nat.zero_le _, by show (i 2 : ℕ) < 0 + 2816; have : (i 2 : ℕ) < 2816 := (i 2).isLt; omega⟩

theorem set_opc {off : Fin 3 → ℕ} {inb} (e b : ℕ) (h : off = ![e, 0, 2048 * b]) :
    (((Memref.whole main_v0).slice (Rect.unit (s := S8x32x14336) off S1x32x2048.size inb) (fun _ => rfl)).squeeze
      S32x2048 squeezes_S1x32x2048_S32x2048).view.set = opc e b := by
  subst h
  refine (View.set_reshape _ _).trans ?_
  refine Finset.ext fun i => (ValueKit.mem_set_slice_whole_iff main_v0 _ i Rect.mem_set_unit).trans ?_
  simp only [opc, Finset.mem_filter, Finset.mem_univ, true_and]
  constructor
  · intro hh
    have h1 : e ≤ (i 0 : ℕ) ∧ (i 0 : ℕ) < e + 1 := hh 0
    have h2 : 2048 * b ≤ (i 2 : ℕ) ∧ (i 2 : ℕ) < 2048 * b + 2048 := hh 2
    omega
  · rintro hh a
    match a with
    | ⟨0, _⟩ => exact ⟨Nat.le_of_eq hh.1.symm, by show (i 0 : ℕ) < e + 1; omega⟩
    | ⟨1, _⟩ => exact ⟨Nat.zero_le _, by show (i 1 : ℕ) < 0 + 32; have : (i 1 : ℕ) < 32 := (i 1).isLt; omega⟩
    | ⟨2, _⟩ => exact ⟨by show 2048 * b ≤ (i 2 : ℕ); omega, by show (i 2 : ℕ) < 2048 * b + 2048; omega⟩

theorem set_zpc {off : Fin 3 → ℕ} {inb} (e : ℕ) (h : off = ![e, 0, 0]) :
    (((Memref.whole main_v0).slice (Rect.unit (s := S8x32x14336) off S1x32x14336.size inb) (fun _ => rfl)).squeeze
      S32x14336 squeezes_S1x32x14336_S32x14336).view.set = zpc e := by
  subst h
  refine (View.set_reshape _ _).trans ?_
  refine Finset.ext fun i => (ValueKit.mem_set_slice_whole_iff main_v0 _ i Rect.mem_set_unit).trans ?_
  simp only [zpc, Finset.mem_filter, Finset.mem_univ, true_and]
  constructor
  · intro hh
    have h1 : e ≤ (i 0 : ℕ) ∧ (i 0 : ℕ) < e + 1 := hh 0
    omega
  · rintro hh a
    match a with
    | ⟨0, _⟩ => exact ⟨Nat.le_of_eq hh.symm, by show (i 0 : ℕ) < e + 1; omega⟩
    | ⟨1, _⟩ => exact ⟨Nat.zero_le _, by show (i 1 : ℕ) < 0 + 32; have : (i 1 : ℕ) < 32 := (i 1).isLt; omega⟩
    | ⟨2, _⟩ => exact ⟨Nat.zero_le _, by show (i 2 : ℕ) < 0 + 14336; have : (i 2 : ℕ) < 14336 := (i 2).isLt; omega⟩

/-! ## The copies -/

/-- The cell of weight slot `s`, and of output slot `s`. -/
def wsem (s : ℕ) : DmaSem sig := Fin.ofNat 13 (3 + s)
def osem (s : ℕ) : DmaSem sig := Fin.ofNat 13 (9 + s)
def zsem : DmaSem sig := Fin.ofNat 13 12

theorem wsem_eq {off : Fin 1 → ℕ} {inb} (s : ℕ) (hs : s < 6) (h : off = ![s]) :
    ((cc0_scratch12.slice (Rect.unit (s := S6) off S1.size inb)).squeeze S_ squeezes_S1_S_).sem = wsem s := by
  subst h
  have key : ∀ z : S1.Idx, cc0_scratch12.ix ((Rect.unit (s := S6) ![s] S1.size inb).emb z) = wsem s := by
    intro z
    have h1 : (Rect.unit (s := S6) ![s] S1.size inb).emb z = mk S6 ![s] :=
      eq_mk S6 ![s] (by decide) _ fun a => by
        refine (ValueKit.rect_emb_unit_val (s := S6) ![s] S1.size inb z a).trans ?_
        match a with
        | ⟨0, _⟩ => exact congrArg (s + ·) (Nat.lt_one_iff.mp (z 0).isLt)
    rw [h1]
    interval_cases s <;> decide
  exact key _

theorem osem_eq {off : Fin 1 → ℕ} {inb} (s : ℕ) (hs : s < 3) (h : off = ![s]) :
    ((cc0_scratch13.slice (Rect.unit (s := S3) off S1.size inb)).squeeze S_ squeezes_S1_S_).sem = osem s := by
  subst h
  have key : ∀ z : S1.Idx, cc0_scratch13.ix ((Rect.unit (s := S3) ![s] S1.size inb).emb z) = osem s := by
    intro z
    have h1 : (Rect.unit (s := S3) ![s] S1.size inb).emb z = mk S3 ![s] :=
      eq_mk S3 ![s] (by decide) _ fun a => by
        refine (ValueKit.rect_emb_unit_val (s := S3) ![s] S1.size inb z a).trans ?_
        match a with
        | ⟨0, _⟩ => exact congrArg (s + ·) (Nat.lt_one_iff.mp (z 0).isLt)
    rw [h1]
    interval_cases s <;> decide
  exact key _

/-- What a weight slot holds of block `b` of expert `e`. -/
def wbuf (W : S8x14336x2816.Idx → Elt F .fp8e4m3) (e b : ℕ) : S6x2048x2816.Idx → Elt F .fp8e4m3 :=
  fun i => W (mk S8x14336x2816 ![e, 2048 * b + (i 1 : ℕ), (i 2 : ℕ)])

/-- The share of the weights lent to the copies into slot `s`. -/
def tok (s : ℕ) : PosShare TreeShare := Transfers.shareTokN fullShare s

/-- A free weight slot, with its cell at zero and its share of the weights. -/
def WFree (c : Dev nD) (W : S8x14336x2816.Idx → Elt F .fp8e4m3) (s : ℕ) : sProp 𝕄 :=
  iprop((∃ f, (tc c).loc cc0_scratch6 ↦[wslot s]{fullShare} f) ∗ semVal (tc c, .dma (wsem s)) 0
    ∗ ((tc c).loc main_arg2 ↦[Finset.univ]{tok s} W))

abbrev Nw : ℕ := (Memref.whole cc0_scratch6).view.ref.dmaCredit S2048x2816 .fp8e4m3
abbrev No : ℕ := (Memref.whole main_v0).view.ref.dmaCredit S32x2048 .bf16
abbrev Nz : ℕ := (Memref.whole main_v0).view.ref.dmaCredit S32x14336 .bf16

theorem Nw_pos : 0 < Nw := sig.dmaCredit_pos _ _ _ S2048x2816 _ (by decide)
theorem No_pos : 0 < No := sig.dmaCredit_pos _ _ _ S32x2048 _ (by decide)
theorem Nz_pos : 0 < Nz := sig.dmaCredit_pos _ _ _ S32x14336 _ (by decide)

/-- A weight slot that a copy of block `b` of expert `e` is filling. -/
def WFl (c : Dev nD) (W : S8x14336x2816.Idx → Elt F .fp8e4m3) (s e b : ℕ) : sProp 𝕄 :=
  iprop(Transfers.Flight (countersEmb (U := Pipeline.UD sig nD τ)) (tc c) (.dma (wsem s)) () Nw
      iprop(((tc c).loc cc0_scratch6 ↦[wslot s]{fullShare} wbuf W e b) ∗ ((tc c).loc main_arg2 ↦[wpc e b]{tok s} W))
    ∗ ((tc c).loc main_arg2 ↦[Finset.univ \ wpc e b]{tok s} W))

/-- A weight slot that holds block `b` of expert `e`. -/
def WHold (c : Dev nD) (W : S8x14336x2816.Idx → Elt F .fp8e4m3) (s e b : ℕ) : sProp 𝕄 :=
  iprop(((tc c).loc cc0_scratch6 ↦[wslot s]{fullShare} wbuf W e b) ∗ semVal (tc c, .dma (wsem s)) 0
    ∗ ((tc c).loc main_arg2 ↦[Finset.univ]{tok s} W))

theorem WHold_free (c : Dev nD) (W : S8x14336x2816.Idx → Elt F .fp8e4m3) (s e b : ℕ) : WHold c W s e b ⊢ WFree c W s := by
  unfold WHold WFree
  iintro ⟨Ha, Hb, Hc⟩
  isplitl [Ha]; · iexists _; iexact Ha
  isplitl [Hb]; · iexact Hb
  iexact Hc

/-- A weight copy starts. -/
theorem wp_wst {off1 : Fin 1 → ℕ} {off2 off3 : Fin 3 → ℕ} {inb1 inb2 inb3 hs hd ht} (W : S8x14336x2816.Idx → Elt F .fp8e4m3)
    (s e b : ℕ) (hs6 : s < 6) (h1 : off1 = ![s]) (h2 : off2 = ![s, 0, 0]) (h3 : off3 = ![e, 2048 * b, 0])
    {k : PUnit → Prog (TpuEff nD τ sig (Elt F) Λ₀ (tc c).2) α} {Q : α → sProp 𝕄} :
    WFree c W s ⊢ iprop((WFl c W s e b -∗ wp frame (wpE (defs₀ (F := F)) Variants.none (tc c) none) Set.univ (k ⟨⟩) Q)
        -∗ wp frame (wpE (defs₀ (F := F)) Variants.none (tc c) none) Set.univ
            (Prog.lift (.enqueueDma
              (((Memref.whole main_arg2).slice (Rect.unit (s := S8x14336x2816) off3 S1x2048x2816.size inb3) (fun _ => rfl)).squeeze
                S2048x2816 squeezes_S1x2048x2816_S2048x2816)
              (.here (((Memref.whole cc0_scratch6).slice (Rect.unit (s := S6x2048x2816) off2 S1x2048x2816.size inb2) (fun _ => rfl)).squeeze
                S2048x2816 squeezes_S1x2048x2816_S2048x2816))
              (.dma ((cc0_scratch12.slice (Rect.unit (s := S6) off1 S1.size inb1)).squeeze S_ squeezes_S1_S_).sem) hs hd ht) >>= k) Q) := by
  have hw := set_wslot (inb := inb2) s h2
  have hp := set_wpc (inb := inb3) e b h3
  have hse := wsem_eq (inb := inb1) s hs6 h1
  subst h1 h2 h3
  unfold WFree WFl
  iintro ⟨⟨%f, Hf⟩, Hs, HW⟩ Hk
  ihave HW := (pointsTo_split_subset (S := Finset.univ) (Finset.subset_univ (wpc e b))).1 $$ HW
  icases HW with ⟨HW1, HW2⟩
  rw [← hse]
  iapply (Transfers.wp_dmaLocal (countersEmb (U := Pipeline.UD sig nD τ)) Variants.none (tc c) none () Nw rfl
    Nw_pos (Sd := wslot s) (fs := W) (fd := f) hw.subset) $$ [HW1 Hf Hs]
  · rw [hp]
    isplitl [HW1]; · iexact HW1
    isplitl [Hf]; · iexact Hf
    iexact Hs
  iintro HF
  iapply Hk
  isplitl [HF]
  · iapply (Transfers.Flight_mono (countersEmb (U := Pipeline.UD sig nD τ)) (tc c) ?_) $$ HF
    rw [hp]
    refine sep_mono ?_ .rfl
    refine (pointsTo_congr ?_).le
    intro i hi
    rw [← hw] at hi
    obtain ⟨x, -, rfl⟩ := Finset.mem_map.mp hi
    refine (View.write_emb_of_mem _ _ (Finset.mem_univ _)).trans ?_
    refine congrArg W (eq_mk _ _ _ _ fun a => ?_)
    have hz := fun a => ValueKit.view_emb_slice_whole_unit_val main_arg2 ![e, 2048 * b, 0] S1x2048x2816.size inb3
      (Shape.reshapeEquiv squeezes_S1x2048x2816_S2048x2816.numel_eq x) a
    have hy := fun a => ValueKit.view_emb_slice_whole_unit_val cc0_scratch6 ![s, 0, 0] S1x2048x2816.size inb2
      (Shape.reshapeEquiv squeezes_S1x2048x2816_S2048x2816.numel_eq x) a
    refine (hz a).trans ?_
    match a with
    | ⟨0, _⟩ => exact congrArg (e + ·) (Nat.lt_one_iff.mp (Shape.reshapeEquiv squeezes_S1x2048x2816_S2048x2816.numel_eq x 0).isLt)
    | ⟨1, _⟩ => exact congrArg (2048 * b + ·) ((hy 1).trans (Nat.zero_add _)).symm
    | ⟨2, _⟩ => exact (Nat.zero_add _).trans ((hy 2).trans (Nat.zero_add _)).symm
  · iexact HW2

end rules

end Cert.Kernel.Hand

end

end
-- ==== Proof.Rules.lean ====
module

public import proofs.«01_k».proof.Proof.Base
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section rules
variable (c : Dev nD) {α : Type}

/-- The waits the core has recorded, whatever they are. -/
def Ow (c : Dev nD) : sProp 𝕄 := iprop(∃ W, owes (tc c) 0 W)

/-- A load of the codes. -/
theorem wp_ldxq {off : Fin 2 → ℕ} {inb hl} {sh : PosShare TreeShare}  (f : S32x2816.Idx → Elt F .fp8e4m3)
    {k : (S32x2816.Idx → Elt F .fp8e4m3) → Prog (TpuEff nD τ sig (Elt F) Λ₀ (tc c).2) α} {Q : α → sProp 𝕄} (hoff : off = ![0, 0]) :
    ((tc c).loc cc0_scratch4 ↦[Finset.univ]{sh} f : sProp 𝕄)
      ⊢ iprop((((tc c).loc cc0_scratch4 ↦[Finset.univ]{sh} f) -∗ wp frame (wpE (defs₀ (F := F)) Variants.none (tc c) none) Set.univ (k f) Q)
        -∗ wp frame (wpE (defs₀ (F := F)) Variants.none (tc c) none) Set.univ (Prog.lift (.load (Memref.whole cc0_scratch4) (Rect.unit (s := S32x2816) off S32x2816.size inb).toLoadRect hl) >>= k) Q) := by
  subst hoff
  have hrd : ((Memref.whole cc0_scratch4).access (Rect.unit (s := S32x2816) ![0, 0] S32x2816.size inb)).read (Elt F) f = f :=
    funext fun z => congrArg f ((eq_mk S32x2816 ![(z 0 : ℕ), (z 1 : ℕ)] (by decide) _ fun a => by
    refine (ValueKit.view_emb_slice_whole_unit_val cc0_scratch4 ![0, 0] S32x2816.size inb z a).trans ?_
    match a with
    | ⟨0, _⟩ => exact Nat.zero_add _
    | ⟨1, _⟩ => exact Nat.zero_add _).trans (eq_mk S32x2816 ![(z 0 : ℕ), (z 1 : ℕ)] (by decide) z fun a => by
    match a with
    | ⟨0, _⟩ => rfl
    | ⟨1, _⟩ => rfl).symm)
  have h := wp_load_rect (m := Memref.whole cc0_scratch4) (r := Rect.unit (s := S32x2816) ![0, 0] S32x2816.size inb) (hl := hl)
    (k := k) (Q := Q) (Γ := .empty) (defs := defs₀ (F := F)) Variants.none (tc c) none Set.univ (q := sh) (f := f) (Finset.subset_univ _)
  rw [hrd] at h
  exact h

/-- A load of the row scales. -/
theorem wp_ldxs {off : Fin 2 → ℕ} {inb hl} {sh : PosShare TreeShare}  (f : S32x128.Idx → Elt F .f32)
    {k : (S32x128.Idx → Elt F .f32) → Prog (TpuEff nD τ sig (Elt F) Λ₀ (tc c).2) α} {Q : α → sProp 𝕄} (hoff : off = ![0, 0]) :
    ((tc c).loc cc0_scratch5 ↦[Finset.univ]{sh} f : sProp 𝕄)
      ⊢ iprop((((tc c).loc cc0_scratch5 ↦[Finset.univ]{sh} f) -∗ wp frame (wpE (defs₀ (F := F)) Variants.none (tc c) none) Set.univ (k f) Q)
        -∗ wp frame (wpE (defs₀ (F := F)) Variants.none (tc c) none) Set.univ (Prog.lift (.load (Memref.whole cc0_scratch5) (Rect.unit (s := S32x128) off S32x128.size inb).toLoadRect hl) >>= k) Q) := by
  subst hoff
  have hrd : ((Memref.whole cc0_scratch5).access (Rect.unit (s := S32x128) ![0, 0] S32x128.size inb)).read (Elt F) f = f :=
    funext fun z => congrArg f ((eq_mk S32x128 ![(z 0 : ℕ), (z 1 : ℕ)] (by decide) _ fun a => by
    refine (ValueKit.view_emb_slice_whole_unit_val cc0_scratch5 ![0, 0] S32x128.size inb z a).trans ?_
    match a with
    | ⟨0, _⟩ => exact Nat.zero_add _
    | ⟨1, _⟩ => exact Nat.zero_add _).trans (eq_mk S32x128 ![(z 0 : ℕ), (z 1 : ℕ)] (by decide) z fun a => by
    match a with
    | ⟨0, _⟩ => rfl
    | ⟨1, _⟩ => rfl).symm)
  have h := wp_load_rect (m := Memref.whole cc0_scratch5) (r := Rect.unit (s := S32x128) ![0, 0] S32x128.size inb) (hl := hl)
    (k := k) (Q := Q) (Γ := .empty) (defs := defs₀ (F := F)) Variants.none (tc c) none Set.univ (q := sh) (f := f) (Finset.subset_univ _)
  rw [hrd] at h
  exact h

/-- A load of the first column of the row scales. -/
theorem wp_ldxs1 {off : Fin 2 → ℕ} {inb hl} {sh : PosShare TreeShare}  (f : S32x128.Idx → Elt F .f32)
    {k : (S32x1.Idx → Elt F .f32) → Prog (TpuEff nD τ sig (Elt F) Λ₀ (tc c).2) α} {Q : α → sProp 𝕄} (hoff : off = ![0, 0]) :
    ((tc c).loc cc0_scratch5 ↦[Finset.univ]{sh} f : sProp 𝕄)
      ⊢ iprop((((tc c).loc cc0_scratch5 ↦[Finset.univ]{sh} f) -∗ wp frame (wpE (defs₀ (F := F)) Variants.none (tc c) none) Set.univ (k (fun z => f (mk S32x128 ![(z 0 : ℕ), 0]))) Q)
        -∗ wp frame (wpE (defs₀ (F := F)) Variants.none (tc c) none) Set.univ (Prog.lift (.load (Memref.whole cc0_scratch5) (Rect.unit (s := S32x128) off S32x1.size inb).toLoadRect hl) >>= k) Q) := by
  subst hoff
  have hrd : ((Memref.whole cc0_scratch5).access (Rect.unit (s := S32x128) ![0, 0] S32x1.size inb)).read (Elt F) f = (fun z => f (mk S32x128 ![(z 0 : ℕ), 0])) :=
    funext fun z => congrArg f ((eq_mk S32x128 ![(z 0 : ℕ), 0] (by decide) _ fun a => by
    refine (ValueKit.view_emb_slice_whole_unit_val cc0_scratch5 ![0, 0] S32x1.size inb z a).trans ?_
    match a with
    | ⟨0, _⟩ => exact Nat.zero_add _
    | ⟨1, _⟩ => exact (Nat.zero_add _).trans (Nat.lt_one_iff.mp (z 1).isLt)))
  have h := wp_load_rect (m := Memref.whole cc0_scratch5) (r := Rect.unit (s := S32x128) ![0, 0] S32x1.size inb) (hl := hl)
    (k := k) (Q := Q) (Γ := .empty) (defs := defs₀ (F := F)) Variants.none (tc c) none Set.univ (q := sh) (f := f) (Finset.subset_univ _)
  rw [hrd] at h
  exact h

/-- A load of the zeros. -/
theorem wp_ldz {off : Fin 2 → ℕ} {inb hl} {sh : PosShare TreeShare}  (f : S32x14336.Idx → Elt F .bf16)
    {k : (S32x14336.Idx → Elt F .bf16) → Prog (TpuEff nD τ sig (Elt F) Λ₀ (tc c).2) α} {Q : α → sProp 𝕄} (hoff : off = ![0, 0]) :
    ((tc c).loc cc0_scratch8 ↦[Finset.univ]{sh} f : sProp 𝕄)
      ⊢ iprop((((tc c).loc cc0_scratch8 ↦[Finset.univ]{sh} f) -∗ wp frame (wpE (defs₀ (F := F)) Variants.none (tc c) none) Set.univ (k f) Q)
        -∗ wp frame (wpE (defs₀ (F := F)) Variants.none (tc c) none) Set.univ (Prog.lift (.load (Memref.whole cc0_scratch8) (Rect.unit (s := S32x14336) off S32x14336.size inb).toLoadRect hl) >>= k) Q) := by
  subst hoff
  have hrd : ((Memref.whole cc0_scratch8).access (Rect.unit (s := S32x14336) ![0, 0] S32x14336.size inb)).read (Elt F) f = f :=
    funext fun z => congrArg f ((eq_mk S32x14336 ![(z 0 : ℕ), (z 1 : ℕ)] (by decide) _ fun a => by
    refine (ValueKit.view_emb_slice_whole_unit_val cc0_scratch8 ![0, 0] S32x14336.size inb z a).trans ?_
    match a with
    | ⟨0, _⟩ => exact Nat.zero_add _
    | ⟨1, _⟩ => exact Nat.zero_add _).trans (eq_mk S32x14336 ![(z 0 : ℕ), (z 1 : ℕ)] (by decide) z fun a => by
    match a with
    | ⟨0, _⟩ => rfl
    | ⟨1, _⟩ => rfl).symm)
  have h := wp_load_rect (m := Memref.whole cc0_scratch8) (r := Rect.unit (s := S32x14336) ![0, 0] S32x14336.size inb) (hl := hl)
    (k := k) (Q := Q) (Γ := .empty) (defs := defs₀ (F := F)) Variants.none (tc c) none Set.univ (q := sh) (f := f) (Finset.subset_univ _)
  rw [hrd] at h
  exact h

/-- A load of an expert's rows. -/
theorem wp_ldx {off : Fin 3 → ℕ} {inb hl} {sh : PosShare TreeShare} (e : ℕ) (f : S8x32x2816.Idx → Elt F .bf16)
    {k : (S1x32x2816.Idx → Elt F .bf16) → Prog (TpuEff nD τ sig (Elt F) Λ₀ (tc c).2) α} {Q : α → sProp 𝕄} (hoff : off = ![e, 0, 0]) :
    ((tc c).loc cc0_scratch2 ↦[Finset.univ]{sh} f : sProp 𝕄)
      ⊢ iprop((((tc c).loc cc0_scratch2 ↦[Finset.univ]{sh} f) -∗ wp frame (wpE (defs₀ (F := F)) Variants.none (tc c) none) Set.univ (k (fun z => f (mk S8x32x2816 ![e, (z 1 : ℕ), (z 2 : ℕ)]))) Q)
        -∗ wp frame (wpE (defs₀ (F := F)) Variants.none (tc c) none) Set.univ (Prog.lift (.load (Memref.whole cc0_scratch2) (Rect.unit (s := S8x32x2816) off S1x32x2816.size inb).toLoadRect hl) >>= k) Q) := by
  subst hoff
  have hrd : ((Memref.whole cc0_scratch2).access (Rect.unit (s := S8x32x2816) ![e, 0, 0] S1x32x2816.size inb)).read (Elt F) f = (fun z => f (mk S8x32x2816 ![e, (z 1 : ℕ), (z 2 : ℕ)])) :=
    funext fun z => congrArg f ((eq_mk S8x32x2816 ![e, (z 1 : ℕ), (z 2 : ℕ)] (by decide) _ fun a => by
    refine (ValueKit.view_emb_slice_whole_unit_val cc0_scratch2 ![e, 0, 0] S1x32x2816.size inb z a).trans ?_
    match a with
    | ⟨0, _⟩ => exact congrArg (e + ·) (Nat.lt_one_iff.mp (z 0).isLt)
    | ⟨1, _⟩ => exact Nat.zero_add _
    | ⟨2, _⟩ => exact Nat.zero_add _))
  have h := wp_load_rect (m := Memref.whole cc0_scratch2) (r := Rect.unit (s := S8x32x2816) ![e, 0, 0] S1x32x2816.size inb) (hl := hl)
    (k := k) (Q := Q) (Γ := .empty) (defs := defs₀ (F := F)) Variants.none (tc c) none Set.univ (q := sh) (f := f) (Finset.subset_univ _)
  rw [hrd] at h
  exact h

/-- A load of a block's column scales. -/
theorem wp_ldws {off : Fin 2 → ℕ} {inb hl} {sh : PosShare TreeShare} (e b : ℕ) (f : S8x14336.Idx → Elt F .f32)
    {k : (S1x2048.Idx → Elt F .f32) → Prog (TpuEff nD τ sig (Elt F) Λ₀ (tc c).2) α} {Q : α → sProp 𝕄} (hoff : off = ![e, 2048 * b]) :
    ((tc c).loc cc0_scratch3 ↦[Finset.univ]{sh} f : sProp 𝕄)
      ⊢ iprop((((tc c).loc cc0_scratch3 ↦[Finset.univ]{sh} f) -∗ wp frame (wpE (defs₀ (F := F)) Variants.none (tc c) none) Set.univ (k (fun z => f (mk S8x14336 ![e, 2048 * b + (z 1 : ℕ)]))) Q)
        -∗ wp frame (wpE (defs₀ (F := F)) Variants.none (tc c) none) Set.univ (Prog.lift (.load (Memref.whole cc0_scratch3) (Rect.unit (s := S8x14336) off S1x2048.size inb).toLoadRect hl) >>= k) Q) := by
  subst hoff
  have hrd : ((Memref.whole cc0_scratch3).access (Rect.unit (s := S8x14336) ![e, 2048 * b] S1x2048.size inb)).read (Elt F) f = (fun z => f (mk S8x14336 ![e, 2048 * b + (z 1 : ℕ)])) :=
    funext fun z => congrArg f ((eq_mk S8x14336 ![e, 2048 * b + (z 1 : ℕ)] (by decide) _ fun a => by
    refine (ValueKit.view_emb_slice_whole_unit_val cc0_scratch3 ![e, 2048 * b] S1x2048.size inb z a).trans ?_
    match a with
    | ⟨0, _⟩ => exact congrArg (e + ·) (Nat.lt_one_iff.mp (z 0).isLt)
    | ⟨1, _⟩ => rfl))
  have h := wp_load_rect (m := Memref.whole cc0_scratch3) (r := Rect.unit (s := S8x14336) ![e, 2048 * b] S1x2048.size inb) (hl := hl)
    (k := k) (Q := Q) (Γ := .empty) (defs := defs₀ (F := F)) Variants.none (tc c) none Set.univ (q := sh) (f := f) (Finset.subset_univ _)
  rw [hrd] at h
  exact h

/-- A store of the codes. -/
theorem wp_stxq {inb hx hm} (f p : S32x2816.Idx → Elt F .fp8e4m3)
    {k : PUnit → Prog (TpuEff nD τ sig (Elt F) Λ₀ (tc c).2) α} {Q : α → sProp 𝕄} :
    ((tc c).loc cc0_scratch4 ↦[Finset.univ]{fullShare} f : sProp 𝕄)
      ⊢ iprop((((tc c).loc cc0_scratch4 ↦[Finset.univ]{fullShare} p) -∗ wp frame (wpE (defs₀ (F := F)) Variants.none (tc c) none) Set.univ (k ⟨⟩) Q)
        -∗ wp frame (wpE (defs₀ (F := F)) Variants.none (tc c) none) Set.univ (Prog.lift (.store (Memref.whole cc0_scratch4) (Rect.unit (s := S32x2816) ![0, 0] S32x2816.size inb) p Finset.univ hx hm) >>= k) Q) := by
  have em : ∀ z, ((Memref.whole cc0_scratch4).access (Rect.unit (s := S32x2816) ![0, 0] S32x2816.size inb)).emb z = z := fun z =>
    (eq_mk S32x2816 ![(z 0 : ℕ), (z 1 : ℕ)] (by decide) _ fun a => by
      refine (ValueKit.view_emb_slice_whole_unit_val cc0_scratch4 ![0, 0] S32x2816.size inb z a).trans ?_
      match a with
      | ⟨0, _⟩ => exact Nat.zero_add _
      | ⟨1, _⟩ => exact Nat.zero_add _).trans (eq_mk S32x2816 ![(z 0 : ℕ), (z 1 : ℕ)] (by decide) z fun a => by
      match a with
      | ⟨0, _⟩ => rfl
      | ⟨1, _⟩ => rfl).symm
  have e : ((Memref.whole cc0_scratch4).access (Rect.unit (s := S32x2816) ![0, 0] S32x2816.size inb)).write (Elt F) f p Finset.univ = p := by
    funext z
    conv_lhs => rw [← em z]
    exact View.write_emb_of_mem _ _ (Finset.mem_univ _)
  have h := wp_store (m := Memref.whole cc0_scratch4) (r := Rect.unit (s := S32x2816) ![0, 0] S32x2816.size inb) (w := p) (Mk := Finset.univ) (hx := hx) (hm := hm)
    (k := k) (Q := Q) (Γ := .empty) (defs := defs₀ (F := F)) Variants.none (tc c) none Set.univ (f := f) (Finset.subset_univ _)
  rw [e] at h
  exact h

/-- A store of the row scales. -/
theorem wp_stxs {inb hx hm} (f p : S32x128.Idx → Elt F .f32)
    {k : PUnit → Prog (TpuEff nD τ sig (Elt F) Λ₀ (tc c).2) α} {Q : α → sProp 𝕄} :
    ((tc c).loc cc0_scratch5 ↦[Finset.univ]{fullShare} f : sProp 𝕄)
      ⊢ iprop((((tc c).loc cc0_scratch5 ↦[Finset.univ]{fullShare} p) -∗ wp frame (wpE (defs₀ (F := F)) Variants.none (tc c) none) Set.univ (k ⟨⟩) Q)
        -∗ wp frame (wpE (defs₀ (F := F)) Variants.none (tc c) none) Set.univ (Prog.lift (.store (Memref.whole cc0_scratch5) (Rect.unit (s := S32x128) ![0, 0] S32x128.size inb) p Finset.univ hx hm) >>= k) Q) := by
  have em : ∀ z, ((Memref.whole cc0_scratch5).access (Rect.unit (s := S32x128) ![0, 0] S32x128.size inb)).emb z = z := fun z =>
    (eq_mk S32x128 ![(z 0 : ℕ), (z 1 : ℕ)] (by decide) _ fun a => by
      refine (ValueKit.view_emb_slice_whole_unit_val cc0_scratch5 ![0, 0] S32x128.size inb z a).trans ?_
      match a with
      | ⟨0, _⟩ => exact Nat.zero_add _
      | ⟨1, _⟩ => exact Nat.zero_add _).trans (eq_mk S32x128 ![(z 0 : ℕ), (z 1 : ℕ)] (by decide) z fun a => by
      match a with
      | ⟨0, _⟩ => rfl
      | ⟨1, _⟩ => rfl).symm
  have e : ((Memref.whole cc0_scratch5).access (Rect.unit (s := S32x128) ![0, 0] S32x128.size inb)).write (Elt F) f p Finset.univ = p := by
    funext z
    conv_lhs => rw [← em z]
    exact View.write_emb_of_mem _ _ (Finset.mem_univ _)
  have h := wp_store (m := Memref.whole cc0_scratch5) (r := Rect.unit (s := S32x128) ![0, 0] S32x128.size inb) (w := p) (Mk := Finset.univ) (hx := hx) (hm := hm)
    (k := k) (Q := Q) (Γ := .empty) (defs := defs₀ (F := F)) Variants.none (tc c) none Set.univ (f := f) (Finset.subset_univ _)
  rw [e] at h
  exact h

/-- A store of the zeros. -/
theorem wp_stz {inb hx hm} (f p : S32x14336.Idx → Elt F .bf16)
    {k : PUnit → Prog (TpuEff nD τ sig (Elt F) Λ₀ (tc c).2) α} {Q : α → sProp 𝕄} :
    ((tc c).loc cc0_scratch8 ↦[Finset.univ]{fullShare} f : sProp 𝕄)
      ⊢ iprop((((tc c).loc cc0_scratch8 ↦[Finset.univ]{fullShare} p) -∗ wp frame (wpE (defs₀ (F := F)) Variants.none (tc c) none) Set.univ (k ⟨⟩) Q)
        -∗ wp frame (wpE (defs₀ (F := F)) Variants.none (tc c) none) Set.univ (Prog.lift (.store (Memref.whole cc0_scratch8) (Rect.unit (s := S32x14336) ![0, 0] S32x14336.size inb) p Finset.univ hx hm) >>= k) Q) := by
  have em : ∀ z, ((Memref.whole cc0_scratch8).access (Rect.unit (s := S32x14336) ![0, 0] S32x14336.size inb)).emb z = z := fun z =>
    (eq_mk S32x14336 ![(z 0 : ℕ), (z 1 : ℕ)] (by decide) _ fun a => by
      refine (ValueKit.view_emb_slice_whole_unit_val cc0_scratch8 ![0, 0] S32x14336.size inb z a).trans ?_
      match a with
      | ⟨0, _⟩ => exact Nat.zero_add _
      | ⟨1, _⟩ => exact Nat.zero_add _).trans (eq_mk S32x14336 ![(z 0 : ℕ), (z 1 : ℕ)] (by decide) z fun a => by
      match a with
      | ⟨0, _⟩ => rfl
      | ⟨1, _⟩ => rfl).symm
  have e : ((Memref.whole cc0_scratch8).access (Rect.unit (s := S32x14336) ![0, 0] S32x14336.size inb)).write (Elt F) f p Finset.univ = p := by
    funext z
    conv_lhs => rw [← em z]
    exact View.write_emb_of_mem _ _ (Finset.mem_univ _)
  have h := wp_store (m := Memref.whole cc0_scratch8) (r := Rect.unit (s := S32x14336) ![0, 0] S32x14336.size inb) (w := p) (Mk := Finset.univ) (hx := hx) (hm := hm)
    (k := k) (Q := Q) (Γ := .empty) (defs := defs₀ (F := F)) Variants.none (tc c) none Set.univ (f := f) (Finset.subset_univ _)
  rw [e] at h
  exact h

/-- The copy of the whole of an operand, in flight. -/
def gcF (c : Dev nD) (q : PosShare TreeShare) (X : S8.Idx → Elt F .i32) : sProp 𝕄 :=
  Transfers.Flight (countersEmb (U := Pipeline.UD sig nD τ)) (tc c) (.dma (Fin.ofNat 13 0)) ()
    ((Memref.whole cc0_scratch0).view.ref.dmaCredit S8 .i32)
    iprop(((tc c).loc cc0_scratch0 ↦[Finset.univ]{fullShare} X) ∗ ((tc c).loc main_arg1 ↦[Finset.univ]{q} X))

theorem wp_gcs {hs hd ht} (q : PosShare TreeShare) (X f : S8.Idx → Elt F .i32) {k : PUnit → Prog (TpuEff nD τ sig (Elt F) Λ₀ (tc c).2) α} {Q : α → sProp 𝕄} :
    iprop(((tc c).loc main_arg1 ↦[Finset.univ]{q} X) ∗ ((tc c).loc cc0_scratch0 ↦[Finset.univ]{fullShare} f) ∗ semVal (tc c, .dma (Fin.ofNat 13 0)) 0)
      ⊢ iprop(((gcF c q X : sProp 𝕄) -∗ wp frame (wpE (defs₀ (F := F)) Variants.none (tc c) none) Set.univ (k ⟨⟩) Q)
        -∗ wp frame (wpE (defs₀ (F := F)) Variants.none (tc c) none) Set.univ (Prog.lift (.enqueueDma (Memref.whole main_arg1) (.here (Memref.whole cc0_scratch0)) (.dma cc0_scratch9.sem) hs hd ht) >>= k) Q) := by
  have hse : cc0_scratch9.sem = (Fin.ofNat 13 0 : DmaSem sig) := by decide
  have hset : (Memref.whole main_arg1).view.set = Finset.univ := View.set_whole _
  have hset' : (Memref.whole cc0_scratch0).view.set = Finset.univ := View.set_whole _
  unfold gcF
  iintro ⟨HX, Hf, Hs⟩ Hk
  rw [← hse]
  iapply (Transfers.wp_dmaLocal (countersEmb (U := Pipeline.UD sig nD τ)) Variants.none (tc c) none ()
    ((Memref.whole cc0_scratch0).view.ref.dmaCredit S8 .i32) rfl
    (sig.dmaCredit_pos _ _ _ S8 _ (by decide)) (Sd := Finset.univ) (fs := X) (fd := f) hset'.subset) $$ [HX Hf Hs]
  · rw [hset]
    isplitl [HX]; · iexact HX
    isplitl [Hf]; · iexact Hf
    iexact Hs
  iintro HF
  iapply Hk
  iapply (Transfers.Flight_mono (countersEmb (U := Pipeline.UD sig nD τ)) (tc c) ?_) $$ HF
  rw [hset]
  refine sep_mono ?_ .rfl
  refine (pointsTo_congr ?_).le
  intro i hi
  exact View.write_emb_of_mem (v := (Memref.whole cc0_scratch0).view) _ _ (Finset.mem_univ i)

theorem wp_gcw {hs hd} (q : PosShare TreeShare) (X : S8.Idx → Elt F .i32) {k : PUnit → Prog (TpuEff nD τ sig (Elt F) Λ₀ (tc c).2) α} {Q : α → sProp 𝕄} :
    iprop((gcF c q X : sProp 𝕄) ∗ Ow c)
      ⊢ iprop((iprop(((tc c).loc cc0_scratch0 ↦[Finset.univ]{fullShare} X) ∗ ((tc c).loc main_arg1 ↦[Finset.univ]{q} X)
            ∗ semVal (tc c, .dma (Fin.ofNat 13 0)) 0 ∗ Ow c) -∗ wp frame (wpE (defs₀ (F := F)) Variants.none (tc c) none) Set.univ (k ⟨⟩) Q)
        -∗ wp frame (wpE (defs₀ (F := F)) Variants.none (tc c) none) Set.univ (Prog.lift (.waitDma2 cc0_scratch9.sem (Memref.whole main_arg1) (Memref.whole cc0_scratch0) hs hd) >>= k) Q) := by
  have hse : cc0_scratch9.sem = (Fin.ofNat 13 0 : DmaSem sig) := by decide
  unfold gcF Ow
  rw [← hse]
  iintro ⟨HF, %W, HO⟩ Hk
  iapply (Transfers.wp_waitLocal (countersEmb (U := Pipeline.UD sig nD τ)) Variants.none (tc c) none () rfl) $$ [HF HO]
  · isplitl [HF]; · iexact HF
    iexact HO
  iintro ⟨⟨Hd, HX⟩, Hs, HO⟩
  iapply Hk
  isplitl [Hd]; · iexact Hd
  isplitl [HX]; · iexact HX
  isplitl [Hs]; · iexact Hs
  iexists _; iexact HO

/-- The copy of the whole of an operand, in flight. -/
def xcF (c : Dev nD) (q : PosShare TreeShare) (X : S8x32x2816.Idx → Elt F .bf16) : sProp 𝕄 :=
  Transfers.Flight (countersEmb (U := Pipeline.UD sig nD τ)) (tc c) (.dma (Fin.ofNat 13 1)) ()
    ((Memref.whole cc0_scratch2).view.ref.dmaCredit S8x32x2816 .bf16)
    iprop(((tc c).loc cc0_scratch2 ↦[Finset.univ]{fullShare} X) ∗ ((tc c).loc main_arg0 ↦[Finset.univ]{q} X))

theorem wp_xcs {hs hd ht} (q : PosShare TreeShare) (X f : S8x32x2816.Idx → Elt F .bf16) {k : PUnit → Prog (TpuEff nD τ sig (Elt F) Λ₀ (tc c).2) α} {Q : α → sProp 𝕄} :
    iprop(((tc c).loc main_arg0 ↦[Finset.univ]{q} X) ∗ ((tc c).loc cc0_scratch2 ↦[Finset.univ]{fullShare} f) ∗ semVal (tc c, .dma (Fin.ofNat 13 1)) 0)
      ⊢ iprop(((xcF c q X : sProp 𝕄) -∗ wp frame (wpE (defs₀ (F := F)) Variants.none (tc c) none) Set.univ (k ⟨⟩) Q)
        -∗ wp frame (wpE (defs₀ (F := F)) Variants.none (tc c) none) Set.univ (Prog.lift (.enqueueDma (Memref.whole main_arg0) (.here (Memref.whole cc0_scratch2)) (.dma cc0_scratch10.sem) hs hd ht) >>= k) Q) := by
  have hse : cc0_scratch10.sem = (Fin.ofNat 13 1 : DmaSem sig) := by decide
  have hset : (Memref.whole main_arg0).view.set = Finset.univ := View.set_whole _
  have hset' : (Memref.whole cc0_scratch2).view.set = Finset.univ := View.set_whole _
  unfold xcF
  iintro ⟨HX, Hf, Hs⟩ Hk
  rw [← hse]
  iapply (Transfers.wp_dmaLocal (countersEmb (U := Pipeline.UD sig nD τ)) Variants.none (tc c) none ()
    ((Memref.whole cc0_scratch2).view.ref.dmaCredit S8x32x2816 .bf16) rfl
    (sig.dmaCredit_pos _ _ _ S8x32x2816 _ (by decide)) (Sd := Finset.univ) (fs := X) (fd := f) hset'.subset) $$ [HX Hf Hs]
  · rw [hset]
    isplitl [HX]; · iexact HX
    isplitl [Hf]; · iexact Hf
    iexact Hs
  iintro HF
  iapply Hk
  iapply (Transfers.Flight_mono (countersEmb (U := Pipeline.UD sig nD τ)) (tc c) ?_) $$ HF
  rw [hset]
  refine sep_mono ?_ .rfl
  refine (pointsTo_congr ?_).le
  intro i hi
  exact View.write_emb_of_mem (v := (Memref.whole cc0_scratch2).view) _ _ (Finset.mem_univ i)

theorem wp_xcw {hs hd} (q : PosShare TreeShare) (X : S8x32x2816.Idx → Elt F .bf16) {k : PUnit → Prog (TpuEff nD τ sig (Elt F) Λ₀ (tc c).2) α} {Q : α → sProp 𝕄} :
    iprop((xcF c q X : sProp 𝕄) ∗ Ow c)
      ⊢ iprop((iprop(((tc c).loc cc0_scratch2 ↦[Finset.univ]{fullShare} X) ∗ ((tc c).loc main_arg0 ↦[Finset.univ]{q} X)
            ∗ semVal (tc c, .dma (Fin.ofNat 13 1)) 0 ∗ Ow c) -∗ wp frame (wpE (defs₀ (F := F)) Variants.none (tc c) none) Set.univ (k ⟨⟩) Q)
        -∗ wp frame (wpE (defs₀ (F := F)) Variants.none (tc c) none) Set.univ (Prog.lift (.waitDma2 cc0_scratch10.sem (Memref.whole main_arg0) (Memref.whole cc0_scratch2) hs hd) >>= k) Q) := by
  have hse : cc0_scratch10.sem = (Fin.ofNat 13 1 : DmaSem sig) := by decide
  unfold xcF Ow
  rw [← hse]
  iintro ⟨HF, %W, HO⟩ Hk
  iapply (Transfers.wp_waitLocal (countersEmb (U := Pipeline.UD sig nD τ)) Variants.none (tc c) none () rfl) $$ [HF HO]
  · isplitl [HF]; · iexact HF
    iexact HO
  iintro ⟨⟨Hd, HX⟩, Hs, HO⟩
  iapply Hk
  isplitl [Hd]; · iexact Hd
  isplitl [HX]; · iexact HX
  isplitl [Hs]; · iexact Hs
  iexists _; iexact HO

/-- The copy of the whole of an operand, in flight. -/
def scF (c : Dev nD) (q : PosShare TreeShare) (X : S8x14336.Idx → Elt F .f32) : sProp 𝕄 :=
  Transfers.Flight (countersEmb (U := Pipeline.UD sig nD τ)) (tc c) (.dma (Fin.ofNat 13 2)) ()
    ((Memref.whole cc0_scratch3).view.ref.dmaCredit S8x14336 .f32)
    iprop(((tc c).loc cc0_scratch3 ↦[Finset.univ]{fullShare} X) ∗ ((tc c).loc main_arg3 ↦[Finset.univ]{q} X))

theorem wp_scs {hs hd ht} (q : PosShare TreeShare) (X f : S8x14336.Idx → Elt F .f32) {k : PUnit → Prog (TpuEff nD τ sig (Elt F) Λ₀ (tc c).2) α} {Q : α → sProp 𝕄} :
    iprop(((tc c).loc main_arg3 ↦[Finset.univ]{q} X) ∗ ((tc c).loc cc0_scratch3 ↦[Finset.univ]{fullShare} f) ∗ semVal (tc c, .dma (Fin.ofNat 13 2)) 0)
      ⊢ iprop(((scF c q X : sProp 𝕄) -∗ wp frame (wpE (defs₀ (F := F)) Variants.none (tc c) none) Set.univ (k ⟨⟩) Q)
        -∗ wp frame (wpE (defs₀ (F := F)) Variants.none (tc c) none) Set.univ (Prog.lift (.enqueueDma (Memref.whole main_arg3) (.here (Memref.whole cc0_scratch3)) (.dma cc0_scratch11.sem) hs hd ht) >>= k) Q) := by
  have hse : cc0_scratch11.sem = (Fin.ofNat 13 2 : DmaSem sig) := by decide
  have hset : (Memref.whole main_arg3).view.set = Finset.univ := View.set_whole _
  have hset' : (Memref.whole cc0_scratch3).view.set = Finset.univ := View.set_whole _
  unfold scF
  iintro ⟨HX, Hf, Hs⟩ Hk
  rw [← hse]
  iapply (Transfers.wp_dmaLocal (countersEmb (U := Pipeline.UD sig nD τ)) Variants.none (tc c) none ()
    ((Memref.whole cc0_scratch3).view.ref.dmaCredit S8x14336 .f32) rfl
    (sig.dmaCredit_pos _ _ _ S8x14336 _ (by decide)) (Sd := Finset.univ) (fs := X) (fd := f) hset'.subset) $$ [HX Hf Hs]
  · rw [hset]
    isplitl [HX]; · iexact HX
    isplitl [Hf]; · iexact Hf
    iexact Hs
  iintro HF
  iapply Hk
  iapply (Transfers.Flight_mono (countersEmb (U := Pipeline.UD sig nD τ)) (tc c) ?_) $$ HF
  rw [hset]
  refine sep_mono ?_ .rfl
  refine (pointsTo_congr ?_).le
  intro i hi
  exact View.write_emb_of_mem (v := (Memref.whole cc0_scratch3).view) _ _ (Finset.mem_univ i)

theorem wp_scw {hs hd} (q : PosShare TreeShare) (X : S8x14336.Idx → Elt F .f32) {k : PUnit → Prog (TpuEff nD τ sig (Elt F) Λ₀ (tc c).2) α} {Q : α → sProp 𝕄} :
    iprop((scF c q X : sProp 𝕄) ∗ Ow c)
      ⊢ iprop((iprop(((tc c).loc cc0_scratch3 ↦[Finset.univ]{fullShare} X) ∗ ((tc c).loc main_arg3 ↦[Finset.univ]{q} X)
            ∗ semVal (tc c, .dma (Fin.ofNat 13 2)) 0 ∗ Ow c) -∗ wp frame (wpE (defs₀ (F := F)) Variants.none (tc c) none) Set.univ (k ⟨⟩) Q)
        -∗ wp frame (wpE (defs₀ (F := F)) Variants.none (tc c) none) Set.univ (Prog.lift (.waitDma2 cc0_scratch11.sem (Memref.whole main_arg3) (Memref.whole cc0_scratch3) hs hd) >>= k) Q) := by
  have hse : cc0_scratch11.sem = (Fin.ofNat 13 2 : DmaSem sig) := by decide
  unfold scF Ow
  rw [← hse]
  iintro ⟨HF, %W, HO⟩ Hk
  iapply (Transfers.wp_waitLocal (countersEmb (U := Pipeline.UD sig nD τ)) Variants.none (tc c) none () rfl) $$ [HF HO]
  · isplitl [HF]; · iexact HF
    iexact HO
  iintro ⟨⟨Hd, HX⟩, Hs, HO⟩
  iapply Hk
  isplitl [Hd]; · iexact Hd
  isplitl [HX]; · iexact HX
  isplitl [Hs]; · iexact Hs
  iexists _; iexact HO

/-- The wait for a weight copy. -/
theorem wp_wwt {off1 : Fin 1 → ℕ} {off2 off3 : Fin 3 → ℕ} {inb1 inb2 inb3 hs hd} (W : S8x14336x2816.Idx → Elt F .fp8e4m3)
    (s e b : ℕ) (hs6 : s < 6) (h1 : off1 = ![s]) {k : PUnit → Prog (TpuEff nD τ sig (Elt F) Λ₀ (tc c).2) α} {Q : α → sProp 𝕄} :
    iprop((WFl c W s e b : sProp 𝕄) ∗ Ow c) ⊢ iprop((iprop(WHold c W s e b ∗ Ow c) -∗ wp frame (wpE (defs₀ (F := F)) Variants.none (tc c) none) Set.univ (k ⟨⟩) Q)
        -∗ wp frame (wpE (defs₀ (F := F)) Variants.none (tc c) none) Set.univ (Prog.lift (.waitDma2 ((cc0_scratch12.slice (Rect.unit (s := S6) off1 S1.size inb1)).squeeze S_ squeezes_S1_S_).sem
              (((Memref.whole main_arg2).slice (Rect.unit (s := S8x14336x2816) off3 S1x2048x2816.size inb3) (fun _ => rfl)).squeeze
                S2048x2816 squeezes_S1x2048x2816_S2048x2816)
              (((Memref.whole cc0_scratch6).slice (Rect.unit (s := S6x2048x2816) off2 S1x2048x2816.size inb2) (fun _ => rfl)).squeeze
                S2048x2816 squeezes_S1x2048x2816_S2048x2816) hs hd) >>= k) Q) := by
  have hse := wsem_eq (inb := inb1) s hs6 h1
  unfold WFl WHold Ow
  rw [← hse]
  iintro ⟨⟨HF, HW2⟩, %Wt, HO⟩ Hk
  iapply (Transfers.wp_waitLocal (countersEmb (U := Pipeline.UD sig nD τ)) Variants.none (tc c) none () rfl) $$ [HF HO]
  · isplitl [HF]; · iexact HF
    iexact HO
  iintro ⟨⟨Hd, HW1⟩, Hs, HO⟩
  iapply Hk
  isplitr [HO]
  · isplitl [Hd]; · iexact Hd
    isplitl [Hs]; · iexact Hs
    iapply (pointsTo_split_subset (S := Finset.univ) (Finset.subset_univ (wpc e b))).2
    isplitl [HW1]; · iexact HW1
    iexact HW2
  · iexists _; iexact HO

/-- A load of a filled weight slot. -/
theorem wp_ldw {off : Fin 3 → ℕ} {inb hl} (W : S8x14336x2816.Idx → Elt F .fp8e4m3) (s e b : ℕ) (hoff : off = ![s, 0, 0])
    {k : (S1x2048x2816.Idx → Elt F .fp8e4m3) → Prog (TpuEff nD τ sig (Elt F) Λ₀ (tc c).2) α} {Q : α → sProp 𝕄} :
    (WHold c W s e b : sProp 𝕄)
      ⊢ iprop((WHold c W s e b -∗ wp frame (wpE (defs₀ (F := F)) Variants.none (tc c) none) Set.univ (k (fun z => W (mk S8x14336x2816 ![e, 2048 * b + (z 1 : ℕ), (z 2 : ℕ)]))) Q)
        -∗ wp frame (wpE (defs₀ (F := F)) Variants.none (tc c) none) Set.univ (Prog.lift (.load (Memref.whole cc0_scratch6) (Rect.unit (s := S6x2048x2816) off S1x2048x2816.size inb).toLoadRect hl) >>= k) Q) := by
  subst hoff
  have e1 : ((Memref.whole cc0_scratch6).access (Rect.unit (s := S6x2048x2816) ![s, 0, 0] S1x2048x2816.size inb)).read (Elt F) (wbuf W e b)
      = fun z => W (mk S8x14336x2816 ![e, 2048 * b + (z 1 : ℕ), (z 2 : ℕ)]) := by
    funext z
    have hz := fun a => ValueKit.view_emb_slice_whole_unit_val cc0_scratch6 ![s, 0, 0] S1x2048x2816.size inb z a
    have h1 := (hz 1).trans (Nat.zero_add _)
    have h2 := (hz 2).trans (Nat.zero_add _)
    show wbuf W e b _ = _
    unfold wbuf
    rw [h1, h2]
  have hset : ((Memref.whole cc0_scratch6).access (Rect.unit (s := S6x2048x2816) ![s, 0, 0] S1x2048x2816.size inb)).set = wslot s :=
    (View.set_reshape (v := ((Memref.whole cc0_scratch6).access (Rect.unit (s := S6x2048x2816) ![s, 0, 0] S1x2048x2816.size inb))) squeezes_S1x2048x2816_S2048x2816.numel_eq).symm.trans (set_wslot (inb := inb) s rfl)
  unfold WHold
  iintro ⟨Hd, Hs, HW⟩ Hk
  have h := wp_load_rect (m := Memref.whole cc0_scratch6) (r := Rect.unit (s := S6x2048x2816) ![s, 0, 0] S1x2048x2816.size inb) (hl := hl)
    (k := k) (Q := Q) (Γ := .empty) (defs := defs₀ (F := F)) Variants.none (tc c) none Set.univ (q := fullShare) (f := wbuf W e b) hset.subset
  rw [e1] at h
  iapply h $$ Hd
  iintro Hd
  iapply Hk
  isplitl [Hd]; · iexact Hd
  isplitl [Hs]; · iexact Hs
  iexact HW

/-! ## The output slots -/

/-- What an output slot holds of block `b` of expert `e`. -/
def gbuf (G : S8x32x14336.Idx → Elt F .bf16) (e b : ℕ) : S3x32x2048.Idx → Elt F .bf16 :=
  fun i => G (mk S8x32x14336 ![e, (i 1 : ℕ), 2048 * b + (i 2 : ℕ)])

/-- A free output slot. -/
def OFree (c : Dev nD) (s : ℕ) : sProp 𝕄 :=
  iprop((∃ f, (tc c).loc cc0_scratch7 ↦[oslot s]{fullShare} f) ∗ semVal (tc c, .dma (osem s)) 0)

/-- A slot that holds block `b` of expert `e`. -/
def OHold (c : Dev nD) (G : S8x32x14336.Idx → Elt F .bf16) (s e b : ℕ) : sProp 𝕄 :=
  iprop(((tc c).loc cc0_scratch7 ↦[oslot s]{fullShare} gbuf G e b) ∗ semVal (tc c, .dma (osem s)) 0)

/-- A slot whose block a copy is carrying out. -/
def OFl (c : Dev nD) (G : S8x32x14336.Idx → Elt F .bf16) (s e b : ℕ) : sProp 𝕄 :=
  Transfers.Flight (countersEmb (U := Pipeline.UD sig nD τ)) (tc c) (.dma (osem s)) () No
    iprop(((tc c).loc main_v0 ↦[opc e b]{fullShare} G) ∗ ((tc c).loc cc0_scratch7 ↦[oslot s]{fullShare} gbuf G e b))

/-- A result block's copy starts. -/
theorem wp_ost {off1 : Fin 1 → ℕ} {off2 off3 : Fin 3 → ℕ} {inb1 inb2 inb3 hs hd ht} (G V : S8x32x14336.Idx → Elt F .bf16)
    (s e b : ℕ) (hs3 : s < 3) (h1 : off1 = ![s]) (h2 : off2 = ![s, 0, 0]) (h3 : off3 = ![e, 0, 2048 * b]) {k : PUnit → Prog (TpuEff nD τ sig (Elt F) Λ₀ (tc c).2) α} {Q : α → sProp 𝕄} :
    iprop((OHold c G s e b : sProp 𝕄) ∗ ((tc c).loc main_v0 ↦[opc e b]{fullShare} V)) ⊢ iprop((OFl c G s e b -∗ wp frame (wpE (defs₀ (F := F)) Variants.none (tc c) none) Set.univ (k ⟨⟩) Q)
        -∗ wp frame (wpE (defs₀ (F := F)) Variants.none (tc c) none) Set.univ (Prog.lift (.enqueueDma
              (((Memref.whole cc0_scratch7).slice (Rect.unit (s := S3x32x2048) off2 S1x32x2048.size inb2) (fun _ => rfl)).squeeze
                S32x2048 squeezes_S1x32x2048_S32x2048)
              (.here (((Memref.whole main_v0).slice (Rect.unit (s := S8x32x14336) off3 S1x32x2048.size inb3) (fun _ => rfl)).squeeze
                S32x2048 squeezes_S1x32x2048_S32x2048))
              (.dma ((cc0_scratch13.slice (Rect.unit (s := S3) off1 S1.size inb1)).squeeze S_ squeezes_S1_S_).sem) hs hd ht) >>= k) Q) := by
  have hw := set_oslot (inb := inb2) s h2
  have hp := set_opc (inb := inb3) e b h3
  have hse := osem_eq (inb := inb1) s hs3 h1
  subst h1 h2 h3
  unfold OHold OFl
  rw [← hse]
  iintro ⟨⟨Hf, Hs⟩, HV⟩ Hk
  iapply (Transfers.wp_dmaLocal (countersEmb (U := Pipeline.UD sig nD τ)) Variants.none (tc c) none () No rfl
    No_pos (Sd := opc e b) (fs := gbuf G e b) (fd := V) hp.subset) $$ [Hf HV Hs]
  · rw [hw]
    isplitl [Hf]; · iexact Hf
    isplitl [HV]; · iexact HV
    iexact Hs
  iintro HF
  iapply Hk
  iapply (Transfers.Flight_mono (countersEmb (U := Pipeline.UD sig nD τ)) (tc c) ?_) $$ HF
  rw [hw]
  refine sep_mono ?_ .rfl
  refine (pointsTo_congr ?_).le
  intro i hi
  rw [← hp] at hi
  obtain ⟨x, -, rfl⟩ := Finset.mem_map.mp hi
  refine (View.write_emb_of_mem _ _ (Finset.mem_univ _)).trans ?_
  refine congrArg G (eq_mk _ _ _ _ fun a => ?_).symm
  have hz := fun a => ValueKit.view_emb_slice_whole_unit_val main_v0 ![e, 0, 2048 * b] S1x32x2048.size inb3
    (Shape.reshapeEquiv squeezes_S1x32x2048_S32x2048.numel_eq x) a
  have hy := fun a => ValueKit.view_emb_slice_whole_unit_val cc0_scratch7 ![s, 0, 0] S1x32x2048.size inb2
    (Shape.reshapeEquiv squeezes_S1x32x2048_S32x2048.numel_eq x) a
  refine (hz a).trans ?_
  match a with
  | ⟨0, _⟩ => exact congrArg (e + ·) (Nat.lt_one_iff.mp (Shape.reshapeEquiv squeezes_S1x32x2048_S32x2048.numel_eq x 0).isLt)
  | ⟨1, _⟩ => exact (Nat.zero_add _).trans ((hy 1).trans (Nat.zero_add _)).symm
  | ⟨2, _⟩ => exact congrArg (2048 * b + ·) ((hy 2).trans (Nat.zero_add _)).symm

/-- The wait for a result block's copy. -/
theorem wp_owt {off1 : Fin 1 → ℕ} {off2 off3 : Fin 3 → ℕ} {inb1 inb2 inb3 hs hd} (G : S8x32x14336.Idx → Elt F .bf16)
    (s e b : ℕ) (hs3 : s < 3) (h1 : off1 = ![s]) {k : PUnit → Prog (TpuEff nD τ sig (Elt F) Λ₀ (tc c).2) α} {Q : α → sProp 𝕄} :
    iprop((OFl c G s e b : sProp 𝕄) ∗ Ow c)
      ⊢ iprop((iprop(OFree c s ∗ ((tc c).loc main_v0 ↦[opc e b]{fullShare} G) ∗ Ow c) -∗ wp frame (wpE (defs₀ (F := F)) Variants.none (tc c) none) Set.univ (k ⟨⟩) Q)
        -∗ wp frame (wpE (defs₀ (F := F)) Variants.none (tc c) none) Set.univ (Prog.lift (.waitDma2 ((cc0_scratch13.slice (Rect.unit (s := S3) off1 S1.size inb1)).squeeze S_ squeezes_S1_S_).sem
              (((Memref.whole cc0_scratch7).slice (Rect.unit (s := S3x32x2048) off2 S1x32x2048.size inb2) (fun _ => rfl)).squeeze
                S32x2048 squeezes_S1x32x2048_S32x2048)
              (((Memref.whole main_v0).slice (Rect.unit (s := S8x32x14336) off3 S1x32x2048.size inb3) (fun _ => rfl)).squeeze
                S32x2048 squeezes_S1x32x2048_S32x2048) hs hd) >>= k) Q) := by
  have hse := osem_eq (inb := inb1) s hs3 h1
  unfold OFl OFree Ow
  rw [← hse]
  iintro ⟨HF, %Wt, HO⟩ Hk
  iapply (Transfers.wp_waitLocal (countersEmb (U := Pipeline.UD sig nD τ)) Variants.none (tc c) none () rfl) $$ [HF HO]
  · isplitl [HF]; · iexact HF
    iexact HO
  iintro ⟨⟨HG, Hd⟩, Hs, HO⟩
  iapply Hk
  isplitl [Hd Hs]
  · isplitl [Hd]; · iexists _; iexact Hd
    iexact Hs
  isplitl [HG]; · iexact HG
  iexists _; iexact HO

/-- The load of an output slot that comes before its store. -/
theorem wp_ldo {off : Fin 3 → ℕ} {inb hl} (s : ℕ) (hoff : off = ![s, 0, 0])
    {k : Prog (TpuEff nD τ sig (Elt F) Λ₀ (tc c).2) α} {Q : α → sProp 𝕄} :
    (OFree c s : sProp 𝕄)
      ⊢ iprop((OFree c s -∗ wp frame (wpE (defs₀ (F := F)) Variants.none (tc c) none) Set.univ k Q)
        -∗ wp frame (wpE (defs₀ (F := F)) Variants.none (tc c) none) Set.univ (Prog.lift (.load (Memref.whole cc0_scratch7) (Rect.unit (s := S3x32x2048) off S1x32x2048.size inb).toLoadRect hl) >>= fun _ => k) Q) := by
  subst hoff
  have hset : ((Memref.whole cc0_scratch7).access (Rect.unit (s := S3x32x2048) ![s, 0, 0] S1x32x2048.size inb)).set = oslot s :=
    (View.set_reshape (v := ((Memref.whole cc0_scratch7).access (Rect.unit (s := S3x32x2048) ![s, 0, 0] S1x32x2048.size inb))) squeezes_S1x32x2048_S32x2048.numel_eq).symm.trans (set_oslot (inb := inb) s rfl)
  unfold OFree
  iintro ⟨⟨%f, Hd⟩, Hs⟩ Hk
  iapply (wp_load_rect (m := Memref.whole cc0_scratch7) (r := Rect.unit (s := S3x32x2048) ![s, 0, 0] S1x32x2048.size inb) (hl := hl)
    (k := fun _ => k) (Q := Q) (Γ := .empty) (defs := defs₀ (F := F)) Variants.none (tc c) none Set.univ (q := fullShare) (f := f) hset.subset) $$ Hd
  iintro Hd
  iapply Hk
  isplitl [Hd]; · iexists _; iexact Hd
  iexact Hs

/-- The store of a block's result. -/
theorem wp_sto {off : Fin 3 → ℕ} {inb hx hm} (G : S8x32x14336.Idx → Elt F .bf16) (s e b : ℕ) (hoff : off = ![s, 0, 0])
    (p : S1x32x2048.Idx → Elt F .bf16) (hp : ∀ z, p z = G (mk S8x32x14336 ![e, (z 1 : ℕ), 2048 * b + (z 2 : ℕ)])) {k : PUnit → Prog (TpuEff nD τ sig (Elt F) Λ₀ (tc c).2) α} {Q : α → sProp 𝕄} :
    (OFree c s : sProp 𝕄)
      ⊢ iprop((OHold c G s e b -∗ wp frame (wpE (defs₀ (F := F)) Variants.none (tc c) none) Set.univ (k ⟨⟩) Q)
        -∗ wp frame (wpE (defs₀ (F := F)) Variants.none (tc c) none) Set.univ (Prog.lift (.store (Memref.whole cc0_scratch7) (Rect.unit (s := S3x32x2048) off S1x32x2048.size inb) p Finset.univ hx hm) >>= k) Q) := by
  subst hoff
  have hset : ((Memref.whole cc0_scratch7).access (Rect.unit (s := S3x32x2048) ![s, 0, 0] S1x32x2048.size inb)).set = oslot s :=
    (View.set_reshape (v := ((Memref.whole cc0_scratch7).access (Rect.unit (s := S3x32x2048) ![s, 0, 0] S1x32x2048.size inb))) squeezes_S1x32x2048_S32x2048.numel_eq).symm.trans (set_oslot (inb := inb) s rfl)
  unfold OFree OHold
  iintro ⟨⟨%f, Hd⟩, Hs⟩ Hk
  iapply (wp_store (m := Memref.whole cc0_scratch7) (r := Rect.unit (s := S3x32x2048) ![s, 0, 0] S1x32x2048.size inb) (w := p) (Mk := Finset.univ) (hx := hx) (hm := hm)
    (k := k) (Q := Q) (Γ := .empty) (defs := defs₀ (F := F)) Variants.none (tc c) none Set.univ (f := f) hset.subset) $$ Hd
  iintro Hd
  iapply Hk
  isplitl [Hd]
  · rw [show (((tc c).loc cc0_scratch7 ↦[oslot s]{fullShare} gbuf G e b : sProp 𝕄)) = _ from pointsTo_congr (g := ((Memref.whole cc0_scratch7).access (Rect.unit (s := S3x32x2048) ![s, 0, 0] S1x32x2048.size inb)).write (Elt F) f p Finset.univ) ?_]
    · iexact Hd
    intro i hi
    rw [← hset] at hi
    obtain ⟨x, -, rfl⟩ := Finset.mem_map.mp hi
    have hwr : ((Memref.whole cc0_scratch7).access (Rect.unit (s := S3x32x2048) ![s, 0, 0] S1x32x2048.size inb)).write (Elt F) f p Finset.univ
        (((Memref.whole cc0_scratch7).access (Rect.unit (s := S3x32x2048) ![s, 0, 0] S1x32x2048.size inb)).emb x) = p x :=
      View.write_emb_of_mem _ _ (Finset.mem_univ _)
    refine Eq.trans ?_ (hwr.trans (hp x)).symm
    have hz := fun a => ValueKit.view_emb_slice_whole_unit_val cc0_scratch7 ![s, 0, 0] S1x32x2048.size inb x a
    have h1 := (hz 1).trans (Nat.zero_add _)
    have h2 := (hz 2).trans (Nat.zero_add _)
    show gbuf G e b _ = _
    unfold gbuf
    rw [h1, h2]
  · iexact Hs

end rules

end Cert.Kernel.Hand

end

end
-- ==== Proof.Step.lean ====
module

public import proofs.«01_k».proof.Proof.Rules
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section regions
variable (gw : ℕ → BitVec 32)

/-- The result's elements whose rank is at least `a` and below `b`. -/
def Reg (a b : ℕ) : Finset (S8x32x14336.Idx) :=
  Finset.univ.filter fun i => a ≤ rk gw (i 0 : ℕ) ((i 2 : ℕ) / 2048) ∧ rk gw (i 0 : ℕ) ((i 2 : ℕ) / 2048) < b

theorem mem_Reg {a b : ℕ} {i : S8x32x14336.Idx} :
    i ∈ Reg gw a b ↔ a ≤ rk gw (i 0 : ℕ) ((i 2 : ℕ) / 2048) ∧ rk gw (i 0 : ℕ) ((i 2 : ℕ) / 2048) < b := by
  simp only [Reg, Finset.mem_filter, Finset.mem_univ, true_and]

theorem ix0 (i : S8x32x14336.Idx) : (i 0 : ℕ) < 8 := (i 0).isLt
theorem ix2 (i : S8x32x14336.Idx) : (i 2 : ℕ) / 2048 < 7 := by
  have h : (i 2 : ℕ) < 14336 := (i 2).isLt
  omega

theorem Reg_sub {a m b : ℕ} (h2 : m ≤ b) : Reg gw a m ⊆ Reg gw a b := fun i hi => by
  rw [mem_Reg] at hi ⊢
  omega

theorem Reg_diff {a m b : ℕ} (h1 : a ≤ m) : Reg gw a b \ Reg gw a m = Reg gw m b := by
  ext i
  rw [Finset.mem_sdiff, mem_Reg, mem_Reg, mem_Reg]
  omega

theorem Reg_self (a : ℕ) : Reg gw a a = ∅ := by
  ext i
  rw [mem_Reg]
  simp only [Finset.notMem_empty, iff_false]
  omega

theorem Reg_all : Reg gw 0 64 = Finset.univ := by
  ext i
  rw [mem_Reg]
  simp only [Finset.mem_univ, iff_true]
  refine ⟨Nat.zero_le _, ?_⟩
  have h := rk_lt gw (ix0 i) (ix2 i)
  have h8 := cnt_le gw 8
  by_cases hl : 0 < (gw (i 0 : ℕ)).toInt
  · have := h.1 hl; omega
  · have := (h.2 hl).2; omega

theorem Reg_opc {j : ℕ} (hj : j < 7 * cnt gw 8) : Reg gw j (j + 1) = opc (ex gw (j / 7)) (j % 7) := by
  ext i
  rw [mem_Reg]
  simp only [opc, Finset.mem_filter, Finset.mem_univ, true_and]
  rw [← rk_block gw (ix0 i) (ix2 i) hj]
  omega

/-- The dead experts before `e`. -/
def dn (e : ℕ) : ℕ := e - cnt gw e

theorem Reg_zpc {e : ℕ} (he : e < 8) (hl : ¬ 0 < (gw e).toInt) : Reg gw (56 + dn gw e) (56 + dn gw e + 1) = zpc e := by
  ext i
  rw [mem_Reg]
  simp only [zpc, Finset.mem_filter, Finset.mem_univ, true_and]
  rw [← rk_dead gw (j := 0) he (ix2 i) (ix0 i) hl]
  unfold dn
  omega

theorem Reg_gap : Reg gw (7 * cnt gw 8) 56 = ∅ := by
  ext i
  rw [mem_Reg]
  simp only [Finset.notMem_empty, iff_false]
  have h := rk_lt gw (ix0 i) (ix2 i)
  by_cases hl : 0 < (gw (i 0 : ℕ)).toInt
  · have := h.1 hl; omega
  · have := (h.2 hl).1; omega

theorem Reg_end : Reg gw (56 + dn gw 8) 64 = ∅ := by
  ext i
  rw [mem_Reg]
  simp only [Finset.notMem_empty, iff_false]
  have h := rk_lt gw (ix0 i) (ix2 i)
  unfold dn
  by_cases hl : 0 < (gw (i 0 : ℕ)).toInt
  · have := h.1 hl; have := cnt_le gw 8; omega
  · have := (h.2 hl).2; omega

theorem dn_live {e : ℕ} (hl : 0 < (gw e).toInt) : dn gw (e + 1) = dn gw e := by
  have : cnt gw (e + 1) = cnt gw e + lvb (gw e) := rfl
  rw [lvb_pos hl] at this
  unfold dn
  omega

theorem dn_dead {e : ℕ} (hl : ¬ 0 < (gw e).toInt) : dn gw (e + 1) = dn gw e + 1 := by
  have : cnt gw (e + 1) = cnt gw e + lvb (gw e) := rfl
  rw [lvb_neg hl] at this
  have := cnt_le gw e
  unfold dn
  omega

theorem dn_mono {a b : ℕ} (h : a ≤ b) : dn gw a ≤ dn gw b := by
  induction b, h using Nat.le_induction with
  | base => exact Nat.le_refl _
  | succ m _ ih =>
    by_cases hl : 0 < (gw m).toInt
    · rw [dn_live gw hl]; exact ih
    · rw [dn_dead gw hl]; omega

theorem toNat_ex (k : ℕ) : (BitVec.ofNat 32 (ex gw k)).toNat = ex gw k := by
  rw [BitVec.toNat_ofNat]
  have := ex_le gw k
  omega

theorem dead_iff (v : BitVec 32) : Scalar.cmpi .ne (Scalar.extui (Scalar.cmpi .sle v 0#32)) 0#32 = 1#1 ↔ ¬ 0 < v.toInt := by
  have h0 : Scalar.cmpi .sle v 0#32 = BitVec.ofBool (decide (v.toInt ≤ 0)) := rfl
  rw [h0, not_lt]
  by_cases h : v.toInt ≤ 0
  · simp only [h, decide_true, iff_true]; decide
  · simp only [h, decide_false, iff_false]; decide

end regions

section ite
variable (c : Dev nD) {α : Type}

/-- A guarded step: what it does when the guard holds, and that nothing is needed when it does not. -/
theorem wp_dite {φ : Prop} [Decidable φ] (P R : sProp 𝕄) {Q : α → sProp 𝕄}
    {A : φ → Prog (TpuEff nD τ sig (Elt F) Λ₀ (tc c).2) α} {k : Prog (TpuEff nD τ sig (Elt F) Λ₀ (tc c).2) α}
    (hT : ∀ h : φ, P ⊢ iprop((R -∗ wp frame (wpE (defs₀ (F := F)) Variants.none (tc c) none) Set.univ k Q) -∗ wp frame (wpE (defs₀ (F := F)) Variants.none (tc c) none) Set.univ (A h) Q)) (hF : ¬ φ → P ⊢ R) :
    P ⊢ iprop((R -∗ wp frame (wpE (defs₀ (F := F)) Variants.none (tc c) none) Set.univ k Q) -∗ wp frame (wpE (defs₀ (F := F)) Variants.none (tc c) none) Set.univ (if h : φ then A h else k) Q) := by
  by_cases h : φ
  · rw [dif_pos h]; exact hT h
  · rw [dif_neg h]
    iintro HP Hk
    iapply Hk
    iapply (hF h) $$ HP

theorem wp_ite {φ : Prop} [Decidable φ] (P R : sProp 𝕄) {Q : α → sProp 𝕄}
    {A k : Prog (TpuEff nD τ sig (Elt F) Λ₀ (tc c).2) α}
    (hT : φ → P ⊢ iprop((R -∗ wp frame (wpE (defs₀ (F := F)) Variants.none (tc c) none) Set.univ k Q) -∗ wp frame (wpE (defs₀ (F := F)) Variants.none (tc c) none) Set.univ A Q)) (hF : ¬ φ → P ⊢ R) :
    P ⊢ iprop((R -∗ wp frame (wpE (defs₀ (F := F)) Variants.none (tc c) none) Set.univ k Q) -∗ wp frame (wpE (defs₀ (F := F)) Variants.none (tc c) none) Set.univ (if φ then A else k) Q) := by
  by_cases h : φ
  · rw [if_pos h]; exact hT h
  · rw [if_neg h]
    iintro HP Hk
    iapply Hk
    iapply (hF h) $$ HP

end ite

section states
variable (c : Dev nD) (gw : ℕ → BitVec 32)

/-- The weight slot of block `u`: filling with it while there is such a block, free after. -/
def WA (W : S8x14336x2816.Idx → Elt F .fp8e4m3) (u : ℕ) : sProp 𝕄 :=
  if u < 7 * cnt gw 8 then WFl c W (u % 6) (ex gw (u / 7)) (u % 7) else WFree c W (u % 6)

/-- The output slot of block `u - 3`, its copy in flight once there is such a block. -/
def OF (G : S8x32x14336.Idx → Elt F .bf16) (u : ℕ) : sProp 𝕄 :=
  if 3 ≤ u then OFl c G (u % 3) (ex gw ((u - 3) / 7)) ((u - 3) % 7) else OFree c (u % 3)

/-- The output slot of block `u - 3`, holding it once there is such a block. -/
def OH (G : S8x32x14336.Idx → Elt F .bf16) (u : ℕ) : sProp 𝕄 :=
  if 3 ≤ u then OHold c G (u % 3) (ex gw ((u - 3) / 7)) ((u - 3) % 7) else OFree c (u % 3)

/-- A region of the result. -/
def RG (V : S8x32x14336.Idx → Elt F .bf16) (a b : ℕ) : sProp 𝕄 := ((tc c).loc main_v0 ↦[Reg gw a b]{fullShare} V)

theorem RG_split (V : S8x32x14336.Idx → Elt F .bf16) {a m b : ℕ} (h1 : a ≤ m) (h2 : m ≤ b) :
    RG c gw V a b ⊢ (iprop(RG c gw V a m ∗ RG c gw V m b) : sProp 𝕄) := by
  unfold RG
  have h := (pointsTo_split_subset (ℓ := (tc c).loc main_v0) (q := fullShare) (f := V) (Name := ℕ) (Lvl := ℕ) (Ix := Unit) (U := Pipeline.UD sig nD τ) (Reg_sub gw (a := a) h2)).1
  rwa [Reg_diff gw h1] at h

theorem RG_join (V : S8x32x14336.Idx → Elt F .bf16) {a m b : ℕ} (h1 : a ≤ m) (h2 : m ≤ b) :
    (iprop(RG c gw V a m ∗ RG c gw V m b) : sProp 𝕄) ⊢ RG c gw V a b := by
  unfold RG
  have h := (pointsTo_split_subset (ℓ := (tc c).loc main_v0) (q := fullShare) (f := V) (Name := ℕ) (Lvl := ℕ) (Ix := Unit) (U := Pipeline.UD sig nD τ) (Reg_sub gw (a := a) h2)).2
  rwa [Reg_diff gw h1] at h

/-- What the list of live experts holds. -/
def LP (L : S9.Idx → BitVec 32) : Prop := ∀ k < cnt gw 8, L (mk S9 ![k]) = BitVec.ofNat 32 (ex gw k)

/-- The list of live experts. -/
abbrev LL (L : S9.Idx → BitVec 32) : sProp 𝕄 := ((tc c).loc cc0_scratch1 ↦[Finset.univ]{fullShare} L)

set_option maxHeartbeats 4000000 in
theorem wp_part3 (L : S9.Idx → BitVec 32) (hL : LP gw L) (W : S8x14336x2816.Idx → Elt F .fp8e4m3) (G V : S8x32x14336.Idx → Elt F .bf16)
    (hw13 : k0_chk13 (gw 0) (gw 1) (gw 2) (gw 3) (gw 4) (gw 5) (gw 6) (gw 7)) (v47 a b : BitVec 32) (t : Fin (k0_t1_loop (gw 0) (gw 1) (gw 2) (gw 3) (gw 4) (gw 5) (gw 6) (gw 7)).trips) {Q}
    (hw17 : k0_chk17 (gw 0) (gw 1) (gw 2) (gw 3) (gw 4) (gw 5) (gw 6) (gw 7) t (BitVec.ofNat 32 (ex gw (t / 7)))) :
    iprop(LL c L ∗ WFree c W ((t.val + 5) % 6) ∗ OF c gw G t ∗ OH c gw G (t + 2) ∗ RG c gw V (t - 1) 56 ∗ RG c gw G 0 (t - 3) ∗ Ow c)
      ⊢ iprop((iprop(LL c L ∗ WA c gw W (t + 5) ∗ OFree c (t % 3) ∗ OF c gw G (t + 2) ∗ RG c gw V t 56 ∗ RG c gw G 0 (t - 2) ∗ Ow c)
          -∗ Q ⟨Scf.iv a b t, Scalar.remsi (Scf.iv a b t) 7#32, BitVec.ofNat 32 (ex gw (t / 7)), hw17, Scalar.remsi (Scf.iv a b t) 6#32, Scalar.remsi (Scf.iv a b t) 3#32⟩)
        -∗ wp frame (wpE (defs₀ (F := F)) Variants.none (tc c) none) Set.univ (k0_part3 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) hw13 v47 a b t) Q) := by
  have hn := nlw_eq gw
  have h8 : cnt gw 8 < 9 := by have := cnt_le gw 8; omega
  have ht7 : t.val < 7 * cnt gw 8 := (trips1 (gw 0) (gw 1) (gw 2) (gw 3) (gw 4) (gw 5) (gw 6) (gw 7) hn h8) ▸ t.isLt
  have ht : t.val < 56 := by omega
  rw [k0_part3_eq_skeleton]
  unfold k0_part3_skel LL
  dsimp only
  iintro ⟨HL, HWf, HF, HH, HV, HG, HO⟩ Hk
  iapply (wp_ldL c L (t / 7) (off28 (gw 0) (gw 1) (gw 2) (gw 3) (gw 4) (gw 5) (gw 6) (gw 7) t ht) (by omega)) $$ HL
  iintro HL
  rw [hL (t / 7) (by omega)]
  iapply (wp_asm c hw17)
  iapply (wp_dite c iprop(((tc c).loc cc0_scratch1 ↦[Finset.univ]{fullShare} L) ∗ WFree c W ((t.val + 5) % 6))
      iprop(((tc c).loc cc0_scratch1 ↦[Finset.univ]{fullShare} L) ∗ WA c gw W (t + 5)) ?_ ?_) $$ [HL HWf]
  · intro h
    have hc := (cond14 (gw 0) (gw 1) (gw 2) (gw 3) (gw 4) (gw 5) (gw 6) (gw 7) t hn h8 ht).1 h
    iintro ⟨HL, HWf⟩ Hk
    iapply (wp_ldL c L ((t + 5) / 7) (off29 (gw 0) (gw 1) (gw 2) (gw 3) (gw 4) (gw 5) (gw 6) (gw 7) t ht) (by omega)) $$ HL
    iintro HL
    rw [hL ((t + 5) / 7) (by omega)]
    iapply (wp_asm c (chk14 (gw 0) (gw 1) (gw 2) (gw 3) (gw 4) (gw 5) (gw 6) (gw 7) hn h8 t _ (by rw [toNat_ex]; exact ex_le gw _)))
    iapply (wp_wst c W ((t + 5) % 6) (ex gw ((t + 5) / 7)) ((t + 5) % 7) (by omega) (off30 (gw 0) (gw 1) (gw 2) (gw 3) (gw 4) (gw 5) (gw 6) (gw 7) t ht) (off31 (gw 0) (gw 1) (gw 2) (gw 3) (gw 4) (gw 5) (gw 6) (gw 7) t ht)
      ((off32 (gw 0) (gw 1) (gw 2) (gw 3) (gw 4) (gw 5) (gw 6) (gw 7) t _ ht (Nat.zero_le _)).trans (by rw [toNat_ex]))) $$ HWf
    iintro HF
    iapply Hk
    isplitl [HL]; · iexact HL
    unfold WA
    rw [if_pos hc]
    iexact HF
  · intro h
    have hc := (cond14 (gw 0) (gw 1) (gw 2) (gw 3) (gw 4) (gw 5) (gw 6) (gw 7) t hn h8 ht).not.1 h
    unfold WA
    rw [if_neg hc]
  · isplitl [HL]; · iexact HL
    iexact HWf
  iintro ⟨HL, HWA⟩
  iapply (wp_dite c iprop(((tc c).loc cc0_scratch1 ↦[Finset.univ]{fullShare} L) ∗ OH c gw G (t + 2) ∗ RG c gw V (t - 1) 56)
      iprop(((tc c).loc cc0_scratch1 ↦[Finset.univ]{fullShare} L) ∗ OF c gw G (t + 2) ∗ RG c gw V t 56) ?_ ?_) $$ [HL HH HV]
  · intro h
    have hc := (cond15 (gw 0) (gw 1) (gw 2) (gw 3) (gw 4) (gw 5) (gw 6) (gw 7) t ht).1 h
    rw [show OH c gw G (t.val + 2) = OHold c G ((t.val - 1) % 3) (ex gw ((t.val - 1) / 7)) ((t.val - 1) % 7) by
        unfold OH; rw [if_pos (show 3 ≤ t.val + 2 by omega), show t.val + 2 - 3 = t.val - 1 by omega, show (t.val + 2) % 3 = (t.val - 1) % 3 by omega],
      show OF c gw G (t.val + 2) = OFl c G ((t.val - 1) % 3) (ex gw ((t.val - 1) / 7)) ((t.val - 1) % 7) by
        unfold OF; rw [if_pos (show 3 ≤ t.val + 2 by omega), show t.val + 2 - 3 = t.val - 1 by omega, show (t.val + 2) % 3 = (t.val - 1) % 3 by omega]]
    iintro ⟨HL, HH, HV⟩ Hk
    iapply (wp_ldL c L ((t - 1) / 7) (off33 (gw 0) (gw 1) (gw 2) (gw 3) (gw 4) (gw 5) (gw 6) (gw 7) t ht hc) (by omega)) $$ HL
    iintro HL
    rw [hL ((t - 1) / 7) (by omega)]
    iapply (wp_asm c (chk15 (gw 0) (gw 1) (gw 2) (gw 3) (gw 4) (gw 5) (gw 6) (gw 7) hn h8 t _ (by rw [toNat_ex]; exact ex_le gw _)))
    ihave HV := (RG_split c gw V (a := t - 1) (m := t - 1 + 1) (b := 56) (by omega) (by omega)) $$ HV
    icases HV with ⟨HV1, HV2⟩
    iapply (wp_ost c G V ((t - 1) % 3) (ex gw ((t - 1) / 7)) ((t - 1) % 7) (by omega) (off34 (gw 0) (gw 1) (gw 2) (gw 3) (gw 4) (gw 5) (gw 6) (gw 7) t ht hc) (off36 (gw 0) (gw 1) (gw 2) (gw 3) (gw 4) (gw 5) (gw 6) (gw 7) t ht hc)
      ((off35 (gw 0) (gw 1) (gw 2) (gw 3) (gw 4) (gw 5) (gw 6) (gw 7) t _ ht hc).trans (by rw [toNat_ex]))) $$ [HH HV1]
    · isplitl [HH]; · iexact HH
      unfold RG
      rw [Reg_opc gw (by omega)]
      iexact HV1
    iintro HF
    iapply Hk
    isplitl [HL]; · iexact HL
    isplitl [HF]; · iexact HF
    rw [show t.val - 1 + 1 = t.val by omega]
    iexact HV2
  · intro h
    have hc := (cond15 (gw 0) (gw 1) (gw 2) (gw 3) (gw 4) (gw 5) (gw 6) (gw 7) t ht).not.1 h
    unfold OH OF
    rw [if_neg (show ¬ 3 ≤ t.val + 2 by omega), if_neg (show ¬ 3 ≤ t.val + 2 by omega), show t.val - 1 = t.val by omega]
  · isplitl [HL]; · iexact HL
    isplitl [HH]; · iexact HH
    iexact HV
  iintro ⟨HL, HH, HV⟩
  iapply (wp_dite c iprop(((tc c).loc cc0_scratch1 ↦[Finset.univ]{fullShare} L) ∗ OF c gw G t ∗ RG c gw G 0 (t - 3) ∗ Ow c)
      iprop(((tc c).loc cc0_scratch1 ↦[Finset.univ]{fullShare} L) ∗ OFree c (t % 3) ∗ RG c gw G 0 (t - 2) ∗ Ow c) ?_ ?_) $$ [HL HF HG HO]
  · intro h
    have hc := (cond16 (gw 0) (gw 1) (gw 2) (gw 3) (gw 4) (gw 5) (gw 6) (gw 7) t ht).1 h
    rw [show OF c gw G t = OFl c G ((t.val - 3) % 3) (ex gw ((t.val - 3) / 7)) ((t.val - 3) % 7) by
        unfold OF; rw [if_pos hc, show t.val % 3 = (t.val - 3) % 3 by omega],
      show t.val % 3 = (t.val - 3) % 3 by omega]
    iintro ⟨HL, HF, HG, HO⟩ Hk
    iapply (wp_ldL c L ((t - 3) / 7) (off37 (gw 0) (gw 1) (gw 2) (gw 3) (gw 4) (gw 5) (gw 6) (gw 7) t ht hc) (by omega)) $$ HL
    iintro HL
    rw [hL ((t - 3) / 7) (by omega)]
    iapply (wp_asm c (chk16 (gw 0) (gw 1) (gw 2) (gw 3) (gw 4) (gw 5) (gw 6) (gw 7) hn h8 t _ (by rw [toNat_ex]; exact ex_le gw _)))
    iapply (wp_owt c G ((t - 3) % 3) (ex gw ((t - 3) / 7)) ((t - 3) % 7) (by omega) (off38 (gw 0) (gw 1) (gw 2) (gw 3) (gw 4) (gw 5) (gw 6) (gw 7) t ht hc)) $$ [HF HO]
    · isplitl [HF]; · iexact HF
      iexact HO
    iintro ⟨HF, HG2, HO⟩
    iapply Hk
    isplitl [HL]; · iexact HL
    isplitl [HF]; · iexact HF
    isplitl [HG HG2]
    · rw [show t.val - 2 = t.val - 3 + 1 by omega]
      iapply (RG_join c gw G (a := 0) (m := t - 3) (b := t - 3 + 1) (by omega) (by omega))
      isplitl [HG]; · iexact HG
      unfold RG
      rw [Reg_opc gw (by omega)]
      iexact HG2
    iexact HO
  · intro h
    have hc := (cond16 (gw 0) (gw 1) (gw 2) (gw 3) (gw 4) (gw 5) (gw 6) (gw 7) t ht).not.1 h
    unfold OF
    rw [if_neg hc, show t.val - 3 = t.val - 2 by omega]
  · isplitl [HL]; · iexact HL
    isplitl [HF]; · iexact HF
    isplitl [HG]; · iexact HG
    iexact HO
  iintro ⟨HL, HF, HG, HO⟩
  iapply le_wp_ret
  iapply Hk
  isplitl [HL]; · iexact HL
  isplitl [HWA]; · iexact HWA
  isplitl [HF]; · iexact HF
  isplitl [HH]; · iexact HH
  isplitl [HV]; · iexact HV
  isplitl [HG]; · iexact HG
  iexact HO

end states

end Cert.Kernel.Hand

end

end
-- ==== Proof.Trip.lean ====
module

public import proofs.«01_k».proof.Proof.Step
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section values
variable (gw : ℕ → BitVec 32) (X : S8x32x2816.Idx → Elt F .bf16) (WS : S8x14336.Idx → Elt F .f32)
  (W : S8x14336x2816.Idx → Elt F .fp8e4m3)

/-- Expert `e`'s rows, as the body loads them. -/
def xl (e : ℕ) : Vec F S1x32x2816 .bf16 := fun z => X (mk S8x32x2816 ![e, (z 1 : ℕ), (z 2 : ℕ)])
/-- Expert `e`'s codes. -/
def xqv (e : ℕ) : Vec F S32x2816 .fp8e4m3 :=
  k0_pay7 (Scalar.ofBits .f32 0x43E00000#32) (k0_pay6 (k0_pay1 (xl X e)) (k0_pay2 (xl X e)) (k0_pay3 (xl X e)))
/-- Expert `e`'s row scales. -/
def xsv (e : ℕ) : Vec F S32x128 .f32 := k0_pay8 (k0_pay5 (k0_pay2 (xl X e)) (k0_pay3 (xl X e)))
/-- Block `b` of expert `e`'s weights, as the body loads it. -/
def wlv (e b : ℕ) : Vec F S1x2048x2816 .fp8e4m3 := fun z => W (mk S8x14336x2816 ![e, 2048 * b + (z 1 : ℕ), (z 2 : ℕ)])
/-- Block `b` of expert `e`'s column scales, as the body loads it. -/
def wsv (e b : ℕ) : Vec F S1x2048 .f32 := fun z => WS (mk S8x14336 ![e, 2048 * b + (z 1 : ℕ)])
/-- The first column of the row scales, as the body loads it. -/
def xs1 (e : ℕ) : Vec F S32x1 .f32 := fun z => xsv X e (mk S32x128 ![(z 0 : ℕ), 0])
/-- Block `b` of expert `e`'s result. -/
def Bl (e b : ℕ) : Vec F S1x32x2048 .bf16 :=
  k0_pay20 (k0_pay9 (xqv X e) (wlv W e b)) (wsv WS e b) (xs1 X e) (gw e)

end values

section trip
variable (c : Dev nD) (gs : S8.Idx → BitVec 32) (gw : ℕ → BitVec 32)

/-- The codes and the row scales: after a live expert's first block they are that expert's. -/
def XQ (X : S8x32x2816.Idx → Elt F .bf16) (u : ℕ) : sProp 𝕄 :=
  iprop(∃ fq fs, ((tc c).loc cc0_scratch4 ↦[Finset.univ]{fullShare} fq) ∗ ((tc c).loc cc0_scratch5 ↦[Finset.univ]{fullShare} fs)
    ∗ ⌜u % 7 ≠ 0 → fq = xqv X (ex gw (u / 7)) ∧ fs = xsv X (ex gw (u / 7))⌝)

theorem wp_part1 (X : S8x32x2816.Idx → Elt F .bf16) (t : Fin (k0_t1_loop (gw 0) (gw 1) (gw 2) (gw 3) (gw 4) (gw 5) (gw 6) (gw 7)).trips) (e : ℕ) (he : e < 8)
    (hw17 : k0_chk17 (gw 0) (gw 1) (gw 2) (gw 3) (gw 4) (gw 5) (gw 6) (gw 7) t (BitVec.ofNat 32 e)) (h17) {α : Type} {k : _ → Prog (TpuEff nD τ sig (Elt F) Λ₀ (tc c).2) α} {Q : α → sProp 𝕄} :
    ((tc c).loc cc0_scratch2 ↦[Finset.univ]{fullShare} X : sProp 𝕄)
      ⊢ iprop((((tc c).loc cc0_scratch2 ↦[Finset.univ]{fullShare} X) -∗ wp frame (wpE (defs₀ (F := F)) Variants.none (tc c) none) Set.univ (k ⟨k0_pay1 (xl X e), k0_pay2 (xl X e), k0_pay3 (xl X e)⟩) Q)
        -∗ wp frame (wpE (defs₀ (F := F)) Variants.none (tc c) none) Set.univ (k0_part1 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) t (BitVec.ofNat 32 e) hw17 h17 >>= k) Q) := by
  rw [k0_part1_eq_skeleton]
  unfold k0_part1_skel
  rw [wp_bind]
  iintro HX Hk
  iapply (wp_ldx c e X (show k0_off41 (BitVec.ofNat 32 e) = ![e, 0, 0] by
    rw [off41, BitVec.toNat_ofNat, Nat.mod_eq_of_lt (by omega)])) $$ HX
  iintro HX
  iapply le_wp_ret
  iapply Hk
  iexact HX

theorem wp_part2 (a : FVec F S32x2816 .f32) (b : FVec F S32x1 .f32) (d : IVec S32x1 32)
    {α : Type} {k : _ → Prog (TpuEff nD τ sig (Elt F) Λ₀ (tc c).2) α} {Q : α → sProp 𝕄} :
    wp frame (wpE (defs₀ (F := F)) Variants.none (tc c) none) Set.univ (k ⟨k0_pay5 b d, Scalar.ofBits .f32 0x43E00000#32, k0_pay6 a b d⟩) Q
      ⊢ wp frame (wpE (defs₀ (F := F)) Variants.none (tc c) none) Set.univ (k0_part2 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 a b d >>= k) Q := by
  rw [k0_part2_eq_skeleton]
  unfold k0_part2_skel
  rw [wp_bind]
  iintro Hk
  iapply le_wp_ret
  iexact Hk

set_option maxHeartbeats 4000000 in
theorem wp_part4 (L : S9.Idx → BitVec 32) (hL : LP gw L) (X : S8x32x2816.Idx → Elt F .bf16) (WS : S8x14336.Idx → Elt F .f32)
    (W : S8x14336x2816.Idx → Elt F .fp8e4m3)
    (hw13 : k0_chk13 (gw 0) (gw 1) (gw 2) (gw 3) (gw 4) (gw 5) (gw 6) (gw 7)) (t : Fin (k0_t1_loop (gw 0) (gw 1) (gw 2) (gw 3) (gw 4) (gw 5) (gw 6) (gw 7)).trips) (a20 a48 a68 : BitVec 32) {Q}
    (hw17 : k0_chk17 (gw 0) (gw 1) (gw 2) (gw 3) (gw 4) (gw 5) (gw 6) (gw 7) t (BitVec.ofNat 32 (ex gw (t / 7)))) :
    iprop(LL c L ∗ ((tc c).loc cc0_scratch2 ↦[Finset.univ]{fullShare} X) ∗ ((tc c).loc cc0_scratch3 ↦[Finset.univ]{fullShare} WS)
        ∗ XQ c gw X t ∗ WA c gw W t ∗ Ow c)
      ⊢ iprop((iprop(LL c L ∗ ((tc c).loc cc0_scratch2 ↦[Finset.univ]{fullShare} X) ∗ ((tc c).loc cc0_scratch3 ↦[Finset.univ]{fullShare} WS)
          ∗ ((tc c).loc cc0_scratch4 ↦[Finset.univ]{fullShare} xqv X (ex gw (t / 7)))
          ∗ ((tc c).loc cc0_scratch5 ↦[Finset.univ]{fullShare} xsv X (ex gw (t / 7))) ∗ WFree c W (t % 6) ∗ Ow c)
          -∗ Q ⟨k0_pay9 (xqv X (ex gw (t / 7))) (wlv W (ex gw (t / 7)) (t % 7)), wsv WS (ex gw (t / 7)) (t % 7)⟩)
        -∗ wp frame (wpE (defs₀ (F := F)) Variants.none (tc c) none) Set.univ (k0_part4 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) hw13 t a20 a48 (BitVec.ofNat 32 (ex gw (t / 7))) hw17 a68) Q) := by
  have hn := nlw_eq gw
  have h8 : cnt gw 8 < 9 := by have := cnt_le gw 8; omega
  have ht7 : t.val < 7 * cnt gw 8 := (trips1 (gw 0) (gw 1) (gw 2) (gw 3) (gw 4) (gw 5) (gw 6) (gw 7) hn h8) ▸ t.isLt
  have ht : t.val < 56 := by omega
  rw [k0_part4_eq_skeleton, show WA c gw W t = WFl c W (t % 6) (ex gw (t / 7)) (t % 7) from if_pos ht7]
  rw [show wlv W (ex gw (t / 7)) (t % 7) = fun z => W (mk S8x14336x2816 ![ex gw (t / 7), 2048 * (t.val % 7) + (z 1 : ℕ), (z 2 : ℕ)]) from rfl,
    show wsv WS (ex gw (t / 7)) (t % 7) = fun z => WS (mk S8x14336 ![ex gw (t / 7), 2048 * (t.val % 7) + (z 1 : ℕ)]) from rfl]
  unfold k0_part4_skel LL
  dsimp only
  iintro ⟨HL, HX, HS, HQ, HW, HO⟩ Hk
  iapply (wp_dite c iprop(((tc c).loc cc0_scratch2 ↦[Finset.univ]{fullShare} X) ∗ XQ c gw X t)
      iprop(((tc c).loc cc0_scratch2 ↦[Finset.univ]{fullShare} X)
          ∗ ((tc c).loc cc0_scratch4 ↦[Finset.univ]{fullShare} xqv X (ex gw (t / 7)))
          ∗ ((tc c).loc cc0_scratch5 ↦[Finset.univ]{fullShare} xsv X (ex gw (t / 7)))) ?_ ?_) $$ [HX HQ]
  · intro h
    unfold XQ
    iintro ⟨HX, %fq, %fs, Hq, Hs, -⟩ Hk
    iapply (wp_part1 c gw X t (ex gw (t / 7)) (ex_le gw _) hw17 h) $$ HX
    iintro HX
    dsimp only
    iapply (wp_part2 c _ _ _)
    dsimp only
    iapply (wp_ldxq c fq rfl) $$ Hq
    iintro Hq
    iapply (wp_stxq c fq (xqv X (ex gw (t / 7)))) $$ Hq
    iintro Hq
    iapply (wp_ldxs c fs rfl) $$ Hs
    iintro Hs
    iapply (wp_stxs c fs (xsv X (ex gw (t / 7)))) $$ Hs
    iintro Hs
    iapply Hk
    isplitl [HX]; · iexact HX
    isplitl [Hq]; · iexact Hq
    iexact Hs
  · intro h
    have hc := (cond17 (gw 0) (gw 1) (gw 2) (gw 3) (gw 4) (gw 5) (gw 6) (gw 7) t ht).not.1 h
    unfold XQ
    iintro ⟨HX, %fq, %fs, Hq, Hs, %hx⟩
    obtain ⟨rfl, rfl⟩ := hx hc
    isplitl [HX]; · iexact HX
    isplitl [Hq]; · iexact Hq
    iexact Hs
  · isplitl [HX]; · iexact HX
    iexact HQ
  iintro ⟨HX, Hq, Hs⟩
  iapply (wp_ldL c L (t / 7) (off42 (gw 0) (gw 1) (gw 2) (gw 3) (gw 4) (gw 5) (gw 6) (gw 7) t ht) (by omega)) $$ HL
  iintro HL
  rw [hL (t / 7) (by omega)]
  iapply (wp_asm c (chk18 (gw 0) (gw 1) (gw 2) (gw 3) (gw 4) (gw 5) (gw 6) (gw 7) hn h8 t _ (by rw [toNat_ex]; exact ex_le gw _)))
  iapply (wp_wwt c W (t % 6) (ex gw (t / 7)) (t % 7) (by omega) (off43 (gw 0) (gw 1) (gw 2) (gw 3) (gw 4) (gw 5) (gw 6) (gw 7) t ht)) $$ [HW HO]
  · isplitl [HW]; · iexact HW
    iexact HO
  iintro ⟨HW, HO⟩
  iapply (wp_ldxq c (xqv X (ex gw (t / 7))) rfl) $$ Hq
  iintro Hq
  iapply (wp_ldw c W (t % 6) (ex gw (t / 7)) (t % 7) (off46 (gw 0) (gw 1) (gw 2) (gw 3) (gw 4) (gw 5) (gw 6) (gw 7) t ht)) $$ HW
  iintro HW
  iapply (wp_ldws c (ex gw (t / 7)) (t % 7) WS ((off47 (gw 0) (gw 1) (gw 2) (gw 3) (gw 4) (gw 5) (gw 6) (gw 7) t _ ht (Nat.zero_le _)).trans (by rw [toNat_ex]))) $$ HS
  iintro HS
  iapply le_wp_ret
  iapply Hk
  isplitl [HL]; · iexact HL
  isplitl [HX]; · iexact HX
  isplitl [HS]; · iexact HS
  isplitl [Hq]; · iexact Hq
  isplitl [Hs]; · iexact Hs
  isplitl [HW]; · iapply (WHold_free c W _ _ _) $$ HW
  iexact HO

/-- What the loop holds before trip `u`. -/
def Inv (L : S9.Idx → BitVec 32) (X : S8x32x2816.Idx → Elt F .bf16) (WS : S8x14336.Idx → Elt F .f32)
    (W : S8x14336x2816.Idx → Elt F .fp8e4m3) (G V : S8x32x14336.Idx → Elt F .bf16) (u : ℕ) : sProp 𝕄 :=
  iprop(((tc c).loc cc0_scratch0 ↦[Finset.univ]{fullShare} gs) ∗ LL c L
    ∗ ((tc c).loc cc0_scratch2 ↦[Finset.univ]{fullShare} X) ∗ ((tc c).loc cc0_scratch3 ↦[Finset.univ]{fullShare} WS) ∗ XQ c gw X u
    ∗ WA c gw W u ∗ WA c gw W (u + 1) ∗ WA c gw W (u + 2) ∗ WA c gw W (u + 3) ∗ WA c gw W (u + 4) ∗ WFree c W ((u + 5) % 6)
    ∗ OF c gw G u ∗ OF c gw G (u + 1) ∗ OH c gw G (u + 2) ∗ RG c gw V (u - 1) 56 ∗ RG c gw G 0 (u - 3) ∗ Ow c)

set_option maxHeartbeats 4000000 in
theorem wp_trip (hgw : ∀ i, gw i = gs (mk S8 ![i])) (L : S9.Idx → BitVec 32) (hL : LP gw L) (X : S8x32x2816.Idx → Elt F .bf16) (WS : S8x14336.Idx → Elt F .f32)
    (W : S8x14336x2816.Idx → Elt F .fp8e4m3) (G V : S8x32x14336.Idx → Elt F .bf16)
    (hG : ∀ e < 8, 0 < (gw e).toInt → ∀ b < 7, ∀ z, Bl gw X WS W e b z = G (mk S8x32x14336 ![e, (z 1 : ℕ), 2048 * b + (z 2 : ℕ)]))
    (hw13 : k0_chk13 (gw 0) (gw 1) (gw 2) (gw 3) (gw 4) (gw 5) (gw 6) (gw 7)) (v47 v89 : BitVec 32) (t : Fin (k0_t1_loop (gw 0) (gw 1) (gw 2) (gw 3) (gw 4) (gw 5) (gw 6) (gw 7)).trips) (x : Unit) :
    Inv c gs gw L X WS W G V t ⊢ wp frame (wpE (defs₀ (F := F)) Variants.none (tc c) none) Set.univ (k0_t1_body (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) hw13 v47 v89 t x) (fun _ => Inv c gs gw L X WS W G V (t + 1)) := by
  have hn := nlw_eq gw
  have h8 : cnt gw 8 < 9 := by have := cnt_le gw 8; omega
  have ht7 : t.val < 7 * cnt gw 8 := (trips1 (gw 0) (gw 1) (gw 2) (gw 3) (gw 4) (gw 5) (gw 6) (gw 7) hn h8) ▸ t.isLt
  have ht : t.val < 56 := by omega
  have hw17 : k0_chk17 (gw 0) (gw 1) (gw 2) (gw 3) (gw 4) (gw 5) (gw 6) (gw 7) t (BitVec.ofNat 32 (ex gw (t / 7))) := chk17 (gw 0) (gw 1) (gw 2) (gw 3) (gw 4) (gw 5) (gw 6) (gw 7) hn h8 t _ (by rw [toNat_ex]; exact ex_le gw _)
  unfold k0_t1_body Inv
  iintro ⟨Hg, HL, HX, HS, HQ, HW0, HW1, HW2, HW3, HW4, HW5, HF0, HF1, HH, HV, HD, HO⟩
  rw [wp_bind]
  iapply (wp_part3 c gw L hL W G V hw13 v47 0#32 1#32 t hw17) $$ [HL HW5 HF0 HH HV HD HO]
  · isplitl [HL]; · iexact HL
    isplitl [HW5]; · iexact HW5
    isplitl [HF0]; · iexact HF0
    isplitl [HH]; · iexact HH
    isplitl [HV]; · iexact HV
    isplitl [HD]; · iexact HD
    iexact HO
  iintro ⟨HL, HW5, HF0, HF2, HV, HD, HO⟩
  dsimp only
  rw [wp_bind]
  iapply (wp_part4 c gw L hL X WS W hw13 t _ _ _ hw17) $$ [HL HX HS HQ HW0 HO]
  · isplitl [HL]; · iexact HL
    isplitl [HX]; · iexact HX
    isplitl [HS]; · iexact HS
    isplitl [HQ]; · iexact HQ
    isplitl [HW0]; · iexact HW0
    iexact HO
  iintro ⟨HL, HX, HS, Hq, Hs, HW0, HO⟩
  dsimp only
  iapply (wp_ldxs1 c (xsv X (ex gw (t / 7))) rfl) $$ Hs
  iintro Hs
  iapply (wp_ldG c gs (ex gw (t / 7)) ((off48 _).trans (by rw [toNat_ex])) (ex_le gw _)) $$ Hg
  iintro Hg
  rw [← hgw]
  iapply (wp_ldo c (t % 3) (off49 (gw 0) (gw 1) (gw 2) (gw 3) (gw 4) (gw 5) (gw 6) (gw 7) t ht)) $$ HF0
  iintro HF0
  iapply (wp_sto c G (t % 3) (ex gw (t / 7)) (t % 7) (off49 (gw 0) (gw 1) (gw 2) (gw 3) (gw 4) (gw 5) (gw 6) (gw 7) t ht) _
    (hG _ (ex_le gw _) (ex_live gw (by omega)) (t % 7) (by omega))) $$ HF0
  iintro HF0
  iapply le_wp_ret
  isplitl [Hg]; · iexact Hg
  isplitl [HL]; · iexact HL
  isplitl [HX]; · iexact HX
  isplitl [HS]; · iexact HS
  isplitl [Hq Hs]
  · unfold XQ
    iexists _, _
    isplitl [Hq]; · iexact Hq
    isplitl [Hs]; · iexact Hs
    ipureintro
    intro h
    rw [show (t.val + 1) / 7 = t.val / 7 by omega]
    exact ⟨rfl, rfl⟩
  isplitl [HW1]; · iexact HW1
  isplitl [HW2]; · iexact HW2
  isplitl [HW3]; · iexact HW3
  isplitl [HW4]; · iexact HW4
  isplitl [HW5]; · iexact HW5
  isplitl [HW0]
  · rw [show (t.val + 1 + 5) % 6 = t.val % 6 by omega]
    iexact HW0
  isplitl [HF1]; · iexact HF1
  isplitl [HF2]; · iexact HF2
  isplitl [HF0]
  · unfold OH
    rw [if_pos (show 3 ≤ t.val + 1 + 2 by omega), show (t.val + 1 + 2) % 3 = t.val % 3 by omega, show t.val + 1 + 2 - 3 = t.val by omega]
    iexact HF0
  isplitl [HV]; · iexact HV
  isplitl [HD]
  · rw [show t.val + 1 - 3 = t.val - 2 by omega]
    iexact HD
  iexact HO

end trip

end Cert.Kernel.Hand

end

end
-- ==== Proof.Dead.lean ====
module

public import proofs.«01_k».proof.Proof.Trip
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Batch
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

theorem pay19_eq (y : S32x14336.Idx) : k0_pay19 (F := F) y = Scalar.ofBits .bf16 0x0000#16 := rfl

section dead
variable (c : Dev nD) (gw : ℕ → BitVec 32)

/-- What the copy of the zeros to the `j`-th dead expert's result delivers. -/
def DZ (G : S8x32x14336.Idx → Elt F .bf16) (j : Fin (dn gw 8)) : sProp 𝕄 :=
  iprop(((tc c).loc main_v0 ↦[Reg gw (56 + j.val) (56 + j.val + 1)]{fullShare} G)
    ∗ ((tc c).loc cc0_scratch8 ↦[Finset.univ]{Transfers.shareTokN fullShare j.val} (k0_pay19 (F := F))))

instance (G : S8x32x14336.Idx → Elt F .bf16) (j : Fin (dn gw 8)) : Storable (upEmb : UEmb _ 𝕄) (DZ c gw G j) := by
  unfold DZ
  infer_instance

/-- The zeros' copies: `j` started, `u` units waited for. -/
def BT (G : S8x32x14336.Idx → Elt F .bf16) (j u : ℕ) : sProp 𝕄 :=
  Transfers.Batch (countersEmb (U := Pipeline.UD sig nD τ)) (tc c) (.dma zsem) () Nz (DZ c gw G) j u

/-- The zeros' copies when the experts before `e` have been visited. -/
def ZS (G V : S8x32x14336.Idx → Elt F .bf16) (e : ℕ) : sProp 𝕄 :=
  iprop(BT c gw G (dn gw e) 0 ∗ RG c gw V (56 + dn gw e) 64
    ∗ ((tc c).loc cc0_scratch8 ↦[Finset.univ]{Transfers.shareDrop fullShare (dn gw e)} (k0_pay19 (F := F))))

/-- The waits for the zeros' copies when the experts before `e` have been visited. -/
def ZW (G : S8x32x14336.Idx → Elt F .bf16) (e : ℕ) : sProp 𝕄 :=
  iprop(BT c gw G (dn gw 8) (dn gw e * Nz) ∗ Ow c)

theorem zsem_eq : cc0_scratch14.sem = zsem := by decide

set_option maxHeartbeats 4000000 in
theorem wp_zst {α : Type} (G V : S8x32x14336.Idx → Elt F .bf16)
    (hz : ∀ i : S8x32x14336.Idx, ¬ 0 < (gw (i 0 : ℕ)).toInt → G i = Scalar.ofBits .bf16 0x0000#16)
    (e : ℕ) (he : e < 8) {off : Fin 3 → ℕ} {inb hs hd ht} (h3 : off = ![e, 0, 0])
    {k : Prog (TpuEff nD τ sig (Elt F) Λ₀ (tc c).2) α} {Q : α → sProp 𝕄} :
    ZS c gw G V e ⊢ iprop((ZS c gw G V (e + 1) -∗ wp frame (wpE (defs₀ (F := F)) Variants.none (tc c) none) Set.univ k Q)
      -∗ wp frame (wpE (defs₀ (F := F)) Variants.none (tc c) none) Set.univ (if Scalar.cmpi .ne (Scalar.extui (Scalar.cmpi .sle (gw e) 0#32)) 0#32 = 1#1 then
          (Prog.lift (.enqueueDma (Memref.whole cc0_scratch8)
            (.here (((Memref.whole main_v0).slice (Rect.unit (s := S8x32x14336) off S1x32x14336.size inb) (fun _ => rfl)).squeeze
                S32x14336 squeezes_S1x32x14336_S32x14336))
            (.dma cc0_scratch14.sem) hs hd ht) >>= fun _ => k) else k) Q) := by
  have hp := set_zpc (inb := inb) e h3
  subst h3
  refine wp_ite c _ _ (fun h => ?_) (fun h => ?_)
  · have hl := (dead_iff _).1 h
    have hdn := dn_dead gw hl
    have hj : dn gw e < dn gw 8 := by
      have := dn_mono gw (show e + 1 ≤ 8 by omega)
      omega
    have hr := Reg_zpc gw he hl
    have hset : (Memref.whole cc0_scratch8).view.set = Finset.univ := View.set_whole _
    have h56 : dn gw 8 ≤ 8 := by unfold dn; omega
    unfold ZS BT
    rw [hdn, ← zsem_eq]
    iintro ⟨HB, HV, HZ⟩ Hk
    ihave HV := (RG_split c gw V (a := 56 + dn gw e) (m := 56 + dn gw e + 1) (b := 64) (by omega) (by omega)) $$ HV
    icases HV with ⟨HV1, HV2⟩
    ihave HZ := (show ((tc c).loc cc0_scratch8 ↦[Finset.univ]{Transfers.shareDrop fullShare (dn gw e)} (k0_pay19 (F := F)) : sProp 𝕄)
        ⊢ iprop(((tc c).loc cc0_scratch8 ↦[Finset.univ]{Transfers.shareDrop fullShare (dn gw e + 1)} (k0_pay19 (F := F)))
          ∗ ((tc c).loc cc0_scratch8 ↦[Finset.univ]{Transfers.shareTokN fullShare (dn gw e)} (k0_pay19 (F := F)))) from
      (pointsTo_share (PosShare.mem_left_op_right _)).1) $$ HZ
    icases HZ with ⟨HZ, HZ2⟩
    iapply (Transfers.wp_dmaBatch (countersEmb (U := Pipeline.UD sig nD τ)) Variants.none (tc c) none () Nz rfl
      (Sd := zpc e) (q := Transfers.shareTokN fullShare (dn gw e)) (fs := k0_pay19 (F := F)) (fd := V) (D := DZ c gw G) hp.subset hj (Nat.zero_le _) ?_) $$ [HB HV1 HZ2]
    · unfold DZ
      rw [hset]
      refine sep_mono ?_ .rfl
      rw [hr]
      refine (pointsTo_congr ?_).le
      intro i hi
      have hi0 : (i 0 : ℕ) = e := by simpa [zpc] using hi
      rw [← hp] at hi
      obtain ⟨x, -, rfl⟩ := Finset.mem_map.mp hi
      refine (View.write_emb_of_mem _ _ (Finset.mem_univ _)).trans ?_
      refine Eq.trans ?_ (hz _ (by rw [hi0]; exact hl)).symm
      rfl
    · rw [hset]
      isplitl [HZ2]; · iexact HZ2
      isplitl [HV1]
      · unfold RG
        rw [hr]
        iexact HV1
      iexact HB
    iintro HB
    iapply Hk
    isplitl [HB]; · iexact HB
    isplitl [HV2]; · iexact HV2
    iexact HZ
  · have hl : 0 < (gw e).toInt := by
      by_contra hl
      exact h ((dead_iff _).2 hl)
    unfold ZS
    rw [dn_live gw hl]

theorem wp_zwt {α : Type} (G : S8x32x14336.Idx → Elt F .bf16)
    (e : ℕ) (he : e < 8) {off : Fin 3 → ℕ} {inb hs hd}
    {k : Prog (TpuEff nD τ sig (Elt F) Λ₀ (tc c).2) α} {Q : α → sProp 𝕄} :
    ZW c gw G e ⊢ iprop((ZW c gw G (e + 1) -∗ wp frame (wpE (defs₀ (F := F)) Variants.none (tc c) none) Set.univ k Q)
      -∗ wp frame (wpE (defs₀ (F := F)) Variants.none (tc c) none) Set.univ (if Scalar.cmpi .ne (Scalar.extui (Scalar.cmpi .sle (gw e) 0#32)) 0#32 = 1#1 then
          (Prog.lift (.waitDma2 cc0_scratch14.sem (Memref.whole cc0_scratch8)
            (((Memref.whole main_v0).slice (Rect.unit (s := S8x32x14336) off S1x32x14336.size inb) (fun _ => rfl)).squeeze
                S32x14336 squeezes_S1x32x14336_S32x14336) hs hd) >>= fun _ => k) else k) Q) := by
  refine wp_ite c _ _ (fun h => ?_) (fun h => ?_)
  · have hl := (dead_iff _).1 h
    have hdn := dn_dead gw hl
    have hj : dn gw e + 1 ≤ dn gw 8 := by
      have := dn_mono gw (show e + 1 ≤ 8 by omega)
      omega
    unfold ZW BT Ow
    rw [hdn, ← zsem_eq]
    iintro ⟨HB, %Wt, HO⟩ Hk
    iapply (Transfers.wp_waitBatchMul (countersEmb (U := Pipeline.UD sig nD τ)) Variants.none (tc c) none () (N := Nz) 1 (Nat.one_mul _).symm
      (D := DZ c gw G) (j := dn gw 8) (u := dn gw e * Nz) (by rw [← Nat.add_mul, Nat.mul_comm]; exact Nat.mul_le_mul_left _ hj)) $$ [HB HO]
    · isplitl [HB]; · iexact HB
      iexact HO
    iintro ⟨HB, HO⟩
    iapply Hk
    isplitl [HB]
    · rw [Nat.add_mul]
      iexact HB
    iexists _; iexact HO
  · have hl : 0 < (gw e).toInt := by
      by_contra hl
      exact h ((dead_iff _).2 hl)
    unfold ZW
    rw [dn_live gw hl]

theorem RG_collect (G : S8x32x14336.Idx → Elt F .bf16) (n : ℕ) :
    BI.bigSep (Finset.range n) (fun j => RG c gw G (56 + j) (56 + j + 1)) ⊢ (RG c gw G 56 (56 + n) : sProp 𝕄) := by
  induction n with
  | zero =>
    unfold RG
    rw [Nat.add_zero, Reg_self, pointsTo_empty]
    exact .rfl
  | succ n ih =>
    have hb : BI.bigSep (Finset.range (n + 1)) (fun j => (RG c gw G (56 + j) (56 + j + 1) : sProp 𝕄))
        = iprop(RG c gw G (56 + n) (56 + n + 1) ∗ BI.bigSep (Finset.range n) (fun j => RG c gw G (56 + j) (56 + j + 1))) := by
      rw [Finset.range_add_one, BI.bigSep_insert Finset.notMem_range_self]; rfl
    rw [hb]
    iintro ⟨H1, H2⟩
    ihave H2 := ih $$ H2
    rw [show 56 + (n + 1) = 56 + n + 1 from rfl]
    iapply (RG_join c gw G (a := 56) (m := 56 + n) (b := 56 + n + 1) (by omega) (by omega))
    isplitl [H2]; · iexact H2
    iexact H1

/-- Every dead expert's result is zero, and the zeros are whole again. -/
theorem ZW_end (G : S8x32x14336.Idx → Elt F .bf16) :
    iprop(ZW c gw G 8 ∗ ((tc c).loc cc0_scratch8 ↦[Finset.univ]{Transfers.shareDrop fullShare (dn gw 8)} (k0_pay19 (F := F))))
      ⊢ (|={Set.univ}=> iprop(RG c gw G 56 64 ∗ ((tc c).loc cc0_scratch8 ↦[Finset.univ]{fullShare} (k0_pay19 (F := F)))
        ∗ semVal (tc c, .dma zsem) 0 ∗ Ow c) : sProp 𝕄) := by
  have h56 : dn gw 8 ≤ 8 := by unfold dn; omega
  unfold ZW BT
  rw [Nat.mul_comm]
  iintro ⟨⟨HB, HO⟩, HZ⟩
  imod (Transfers.batch_collect' (countersEmb (U := Pipeline.UD sig nD τ)) (tc c) Nz_pos) $$ HB with ⟨HD, Hs⟩
  imodintro
  ihave HD := (show BI.bigSep Finset.univ (DZ c gw G) ⊢ (iprop(BI.bigSep (Finset.range (dn gw 8)) (fun j => RG c gw G (56 + j) (56 + j + 1))
      ∗ BI.bigSep Finset.univ (fun i : Fin (dn gw 8) => ((tc c).loc cc0_scratch8 ↦[Finset.univ]{Transfers.shareTok fullShare (dn gw 8) i} (k0_pay19 (F := F))))) : sProp 𝕄) from by
    rw [← Nat.Iio_eq_range, ← Fin.map_valEmbedding_univ, BI.bigSep_map]
    exact (Entails.of_eq (BI.bigSep_sep Finset.univ _ _))) $$ HD
  icases HD with ⟨HG, HT⟩
  isplitl [HG]
  · ihave HG := (RG_collect c gw G (dn gw 8)) $$ HG
    iapply (RG_join c gw G (a := 56) (m := 56 + dn gw 8) (b := 64) (by omega) (by omega))
    isplitl [HG]; · iexact HG
    unfold RG
    rw [Reg_end, pointsTo_empty]
    iempintro
  isplitl [HZ HT]
  · iapply (Transfers.pointsTo_toks_join fullShare (dn gw 8))
    isplitl [HZ]; · iexact HZ
    iexact HT
  isplitl [Hs]; · iexact Hs
  iexact HO

end dead

end Cert.Kernel.Hand

end

end
-- ==== Proof.Pro.lean ====
module

public import proofs.«01_k».proof.Proof.Dead
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section ends
variable (c : Dev nD) (gs : S8.Idx → BitVec 32) (gw : ℕ → BitVec 32)

/-- What the list holds when the experts before `e` have been visited. -/
def LPe (e : ℕ) (L : S9.Idx → BitVec 32) : Prop := ∀ k < cnt gw e, L (mk S9 ![k]) = BitVec.ofNat 32 (lst gw e k)

theorem lt9 (e : ℕ) (he : e < 9) : cnt gw e < 9 := by
  have := cnt_le gw e
  omega

theorem mk9_ne {a b : ℕ} (ha : a < 9) (hb : b < 9) (h : a ≠ b) : mk S9 ![a] ≠ mk S9 ![b] := fun hc => by
  have h1 := congrArg (fun i : S9.Idx => (i 0 : ℕ)) hc
  have h2 : a % 9 = b % 9 := h1
  omega

theorem LPe_succ {e : ℕ} (he : e < 8) (L : S9.Idx → BitVec 32) (h : LPe gw e L) :
    LPe gw (e + 1) (Function.update L (mk S9 ![cnt gw e]) (BitVec.ofNat 32 e)) := by
  intro k hk
  have h1 : cnt gw (e + 1) = cnt gw e + lvb (gw e) := rfl
  have h2 : lst gw (e + 1) = Function.update (lst gw e) (cnt gw e) e := rfl
  have h3 := lvb_le (gw e)
  have h4 := cnt_le gw e
  rw [h2]
  by_cases hke : k = cnt gw e
  · rw [hke, Function.update_self, Function.update_self]
  · rw [Function.update_of_ne (mk9_ne (by omega) (by omega) hke), Function.update_of_ne hke]
    exact h k (by omega)

theorem LPe_zero (L : S9.Idx → BitVec 32) : LPe gw 0 L := fun k hk => absurd hk (Nat.not_lt_zero k)

theorem Ow_intro (W) : (owes (tc c) 0 W : sProp 𝕄) ⊢ Ow c := by
  unfold Ow
  iintro H
  iexists _; iexact H

set_option maxHeartbeats 4000000 in
theorem wp_part9 (hgw : ∀ i, gw i = gs (mk S8 ![i])) (L0 : S9.Idx → BitVec 32) (X : S8x32x2816.Idx → Elt F .bf16) (WS : S8x14336.Idx → Elt F .f32)
    (f0 : S8.Idx → BitVec 32) (f2 : S8x32x2816.Idx → Elt F .bf16) (f3 : S8x14336.Idx → Elt F .f32) {Q}
    (hw5 : k0_chk5 (gw 0) (gw 1) (gw 2) (gw 3) (gw 4)) :
    iprop(((tc c).loc main_arg1 ↦[Finset.univ]{fullShare} gs) ∗ ((tc c).loc cc0_scratch0 ↦[Finset.univ]{fullShare} f0) ∗ semVal (tc c, .dma (Fin.ofNat 13 0)) 0
        ∗ ((tc c).loc main_arg0 ↦[Finset.univ]{fullShare} X) ∗ ((tc c).loc cc0_scratch2 ↦[Finset.univ]{fullShare} f2) ∗ semVal (tc c, .dma (Fin.ofNat 13 1)) 0
        ∗ ((tc c).loc main_arg3 ↦[Finset.univ]{fullShare} WS) ∗ ((tc c).loc cc0_scratch3 ↦[Finset.univ]{fullShare} f3) ∗ semVal (tc c, .dma (Fin.ofNat 13 2)) 0
        ∗ LL c L0 ∗ Ow c)
      ⊢ iprop((∀ v28, iprop(((tc c).loc main_arg1 ↦[Finset.univ]{fullShare} gs) ∗ ((tc c).loc cc0_scratch0 ↦[Finset.univ]{fullShare} gs) ∗ semVal (tc c, .dma (Fin.ofNat 13 0)) 0
          ∗ xcF c fullShare X ∗ scF c fullShare WS ∗ (∃ L, LL c L ∗ ⌜LPe gw 5 L⌝) ∗ Ow c)
          -∗ Q ⟨gw 0, gw 1, gw 2, gw 3, gw 4, hw5, v28⟩)
        -∗ wp frame (wpE (defs₀ (F := F)) Variants.none (tc c) none) Set.univ (k0_part9 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  rw [k0_part9_eq_skeleton]
  unfold k0_part9_skel LL
  iintro ⟨Ha1, Hg, Hs0, Ha0, Hx, Hs1, Ha3, Hw, Hs2, HL, HO⟩ Hk
  iapply (wp_gcs c fullShare gs f0) $$ [Ha1 Hg Hs0]
  · isplitl [Ha1]; · iexact Ha1
    isplitl [Hg]; · iexact Hg
    iexact Hs0
  iintro HG
  iapply (wp_xcs c fullShare X f2) $$ [Ha0 Hx Hs1]
  · isplitl [Ha0]; · iexact Ha0
    isplitl [Hx]; · iexact Hx
    iexact Hs1
  iintro HXF
  iapply (wp_scs c fullShare WS f3) $$ [Ha3 Hw Hs2]
  · isplitl [Ha3]; · iexact Ha3
    isplitl [Hw]; · iexact Hw
    iexact Hs2
  iintro HSF
  iapply (wp_gcw c fullShare gs) $$ [HG HO]
  · isplitl [HG]; · iexact HG
    iexact HO
  iintro ⟨Hg, Ha1, Hs0, HO⟩
  iapply (wp_ldL c L0 0 rfl (by omega)) $$ HL
  iintro HL
  iapply (wp_stL c L0 0 rfl (by omega) (BitVec.ofNat 32 0)) $$ HL
  iintro HL
  iapply (wp_ldG c gs 0 rfl (by omega)) $$ Hg
  iintro Hg
  rw [← hgw 0]
  iapply (wp_asm c (chk1 gw))
  iapply (wp_ldL c _ (cnt gw 1) (off1 gw) (lt9 gw 1 (by omega))) $$ HL
  iintro HL
  iapply (wp_stL c _ (cnt gw 1) (off1 gw) (lt9 gw 1 (by omega)) (BitVec.ofNat 32 1)) $$ HL
  iintro HL
  iapply (wp_ldG c gs 1 rfl (by omega)) $$ Hg
  iintro Hg
  rw [← hgw 1]
  iapply (wp_asm c (chk2 gw))
  iapply (wp_ldL c _ (cnt gw 2) (off2 gw) (lt9 gw 2 (by omega))) $$ HL
  iintro HL
  iapply (wp_stL c _ (cnt gw 2) (off2 gw) (lt9 gw 2 (by omega)) (BitVec.ofNat 32 2)) $$ HL
  iintro HL
  iapply (wp_ldG c gs 2 rfl (by omega)) $$ Hg
  iintro Hg
  rw [← hgw 2]
  iapply (wp_asm c (chk3 gw))
  iapply (wp_ldL c _ (cnt gw 3) (off3 gw) (lt9 gw 3 (by omega))) $$ HL
  iintro HL
  iapply (wp_stL c _ (cnt gw 3) (off3 gw) (lt9 gw 3 (by omega)) (BitVec.ofNat 32 3)) $$ HL
  iintro HL
  iapply (wp_ldG c gs 3 rfl (by omega)) $$ Hg
  iintro Hg
  rw [← hgw 3]
  iapply (wp_asm c (chk4 gw))
  iapply (wp_ldL c _ (cnt gw 4) (off4 gw) (lt9 gw 4 (by omega))) $$ HL
  iintro HL
  iapply (wp_stL c _ (cnt gw 4) (off4 gw) (lt9 gw 4 (by omega)) (BitVec.ofNat 32 4)) $$ HL
  iintro HL
  iapply (wp_ldG c gs 4 rfl (by omega)) $$ Hg
  iintro Hg
  rw [← hgw 4]
  iapply (wp_asm c (chk5 gw))
  iapply le_wp_ret
  iapply Hk
  isplitl [Ha1]; · iexact Ha1
  isplitl [Hg]; · iexact Hg
  isplitl [Hs0]; · iexact Hs0
  isplitl [HXF]; · iexact HXF
  isplitl [HSF]; · iexact HSF
  isplitl [HL]
  · iexists _
    isplitl [HL]; · iexact HL
    ipureintro
    exact LPe_succ gw (by omega) _ (LPe_succ gw (by omega) _ (LPe_succ gw (by omega) _ (LPe_succ gw (by omega) _ (LPe_succ gw (e := 0) (by omega) _ (LPe_zero gw L0)))))
  iexact HO

set_option maxHeartbeats 4000000 in
theorem wp_part10 (hgw : ∀ i, gw i = gs (mk S8 ![i])) (L0 : S9.Idx → BitVec 32) (hL0 : LPe gw 5 L0) (W : S8x14336x2816.Idx → Elt F .fp8e4m3) {Q}
    (hw5 : k0_chk5 (gw 0) (gw 1) (gw 2) (gw 3) (gw 4)) (v28 : BitVec 32) (hw13 : k0_chk13 (gw 0) (gw 1) (gw 2) (gw 3) (gw 4) (gw 5) (gw 6) (gw 7)) :
    iprop(((tc c).loc cc0_scratch0 ↦[Finset.univ]{fullShare} gs) ∗ LL c L0 ∗ WFree c W 0 ∗ WFree c W 1 ∗ WFree c W 2 ∗ WFree c W 3)
      ⊢ iprop((∀ v47, iprop(((tc c).loc cc0_scratch0 ↦[Finset.univ]{fullShare} gs) ∗ (∃ L, LL c L ∗ ⌜LP gw L⌝) ∗ WA c gw W 0 ∗ WA c gw W 1 ∗ WA c gw W 2 ∗ WA c gw W 3)
          -∗ Q ⟨gw 5, gw 6, gw 7, hw13, v47, 4#32⟩)
        -∗ wp frame (wpE (defs₀ (F := F)) Variants.none (tc c) none) Set.univ (k0_part10 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) hw5 v28) Q) := by
  have hn := nlw_eq gw
  have h8 : cnt gw 8 < 9 := by have := cnt_le gw 8; omega
  rw [k0_part10_eq_skeleton]
  unfold k0_part10_skel LL
  dsimp only
  iintro ⟨Hg, HL, HW0, HW1, HW2, HW3⟩ Hk
  iapply (wp_ldL c _ (cnt gw 5) (off5 gw) (lt9 gw 5 (by omega))) $$ HL
  iintro HL
  iapply (wp_stL c _ (cnt gw 5) (off5 gw) (lt9 gw 5 (by omega)) (BitVec.ofNat 32 5)) $$ HL
  iintro HL
  iapply (wp_ldG c gs 5 rfl (by omega)) $$ Hg
  iintro Hg
  rw [← hgw 5]
  iapply (wp_asm c (chk6 gw))
  iapply (wp_ldL c _ (cnt gw 6) (off6 gw) (lt9 gw 6 (by omega))) $$ HL
  iintro HL
  iapply (wp_stL c _ (cnt gw 6) (off6 gw) (lt9 gw 6 (by omega)) (BitVec.ofNat 32 6)) $$ HL
  iintro HL
  iapply (wp_ldG c gs 6 rfl (by omega)) $$ Hg
  iintro Hg
  rw [← hgw 6]
  iapply (wp_asm c (chk7 gw))
  iapply (wp_ldL c _ (cnt gw 7) (off7 gw) (lt9 gw 7 (by omega))) $$ HL
  iintro HL
  iapply (wp_stL c _ (cnt gw 7) (off7 gw) (lt9 gw 7 (by omega)) (BitVec.ofNat 32 7)) $$ HL
  iintro HL
  iapply (wp_ldG c gs 7 rfl (by omega)) $$ Hg
  iintro Hg
  rw [← hgw 7]
  iapply (wp_asm c hw13)
  ihave HL := (show _ ⊢ iprop(∃ L, LL c L ∗ ⌜LP gw L⌝) from (by
    unfold LL
    iintro HL
    iexists _
    isplitl [HL]; · iexact HL
    ipureintro
    exact LPe_succ gw (e := 7) (by omega) _ (LPe_succ gw (by omega) _ (LPe_succ gw (by omega) _ hL0)))) $$ HL
  icases HL with ⟨%L, HL, %hL⟩
  iapply (wp_dite c iprop(LL c L ∗ WFree c W 0) iprop(LL c L ∗ WA c gw W 0) ?_ ?_) $$ [HL HW0]
  · intro h
    have hc := (cond1 (gw 0) (gw 1) (gw 2) (gw 3) (gw 4) (gw 5) (gw 6) (gw 7) hn h8).1 h
    rw [show WA c gw W 0 = WFl c W 0 (ex gw 0) 0 from if_pos hc]
    unfold LL
    iintro ⟨HL, HW⟩ Hk
    iapply (wp_ldL c L 0 off8 (by omega)) $$ HL
    iintro HL
    rw [hL 0 (by omega)]
    iapply (wp_asm c (chk8 (gw 0) (gw 1) (gw 2) (gw 3) (gw 4) (gw 5) (gw 6) (gw 7) hn h8 _ (by rw [toNat_ex]; exact ex_le gw _)))
    iapply (wp_wst c W 0 (ex gw 0) 0 (by omega) off9 off10 ((off11 _).trans (by rw [toNat_ex]))) $$ HW
    iintro HF
    iapply Hk
    isplitl [HL]; · iexact HL
    iexact HF
  · intro h
    have hc := (cond1 (gw 0) (gw 1) (gw 2) (gw 3) (gw 4) (gw 5) (gw 6) (gw 7) hn h8).not.1 h
    rw [show WA c gw W 0 = WFree c W 0 from if_neg hc]
  · isplitl [HL]; · iexact HL
    iexact HW0
  iintro ⟨HL, HW0⟩
  iapply (wp_dite c iprop(LL c L ∗ WFree c W 1) iprop(LL c L ∗ WA c gw W 1) ?_ ?_) $$ [HL HW1]
  · intro h
    have hc := (cond2 (gw 0) (gw 1) (gw 2) (gw 3) (gw 4) (gw 5) (gw 6) (gw 7) hn h8).1 h
    rw [show WA c gw W 1 = WFl c W 1 (ex gw 0) 1 from if_pos hc]
    unfold LL
    iintro ⟨HL, HW⟩ Hk
    iapply (wp_ldL c L 0 off12 (by omega)) $$ HL
    iintro HL
    rw [hL 0 (by omega)]
    iapply (wp_asm c (chk9 (gw 0) (gw 1) (gw 2) (gw 3) (gw 4) (gw 5) (gw 6) (gw 7) hn h8 _ (by rw [toNat_ex]; exact ex_le gw _)))
    iapply (wp_wst c W 1 (ex gw 0) 1 (by omega) off13 off14 ((off15 _).trans (by rw [toNat_ex]))) $$ HW
    iintro HF
    iapply Hk
    isplitl [HL]; · iexact HL
    iexact HF
  · intro h
    have hc := (cond2 (gw 0) (gw 1) (gw 2) (gw 3) (gw 4) (gw 5) (gw 6) (gw 7) hn h8).not.1 h
    rw [show WA c gw W 1 = WFree c W 1 from if_neg hc]
  · isplitl [HL]; · iexact HL
    iexact HW1
  iintro ⟨HL, HW1⟩
  iapply (wp_dite c iprop(LL c L ∗ WFree c W 2) iprop(LL c L ∗ WA c gw W 2) ?_ ?_) $$ [HL HW2]
  · intro h
    have hc := (cond3 (gw 0) (gw 1) (gw 2) (gw 3) (gw 4) (gw 5) (gw 6) (gw 7) hn h8).1 h
    rw [show WA c gw W 2 = WFl c W 2 (ex gw 0) 2 from if_pos hc]
    unfold LL
    iintro ⟨HL, HW⟩ Hk
    iapply (wp_ldL c L 0 off16 (by omega)) $$ HL
    iintro HL
    rw [hL 0 (by omega)]
    iapply (wp_asm c (chk10 (gw 0) (gw 1) (gw 2) (gw 3) (gw 4) (gw 5) (gw 6) (gw 7) hn h8 _ (by rw [toNat_ex]; exact ex_le gw _)))
    iapply (wp_wst c W 2 (ex gw 0) 2 (by omega) off17 off18 ((off19 _).trans (by rw [toNat_ex]))) $$ HW
    iintro HF
    iapply Hk
    isplitl [HL]; · iexact HL
    iexact HF
  · intro h
    have hc := (cond3 (gw 0) (gw 1) (gw 2) (gw 3) (gw 4) (gw 5) (gw 6) (gw 7) hn h8).not.1 h
    rw [show WA c gw W 2 = WFree c W 2 from if_neg hc]
  · isplitl [HL]; · iexact HL
    iexact HW2
  iintro ⟨HL, HW2⟩
  iapply (wp_dite c iprop(LL c L ∗ WFree c W 3) iprop(LL c L ∗ WA c gw W 3) ?_ ?_) $$ [HL HW3]
  · intro h
    have hc := (cond4 (gw 0) (gw 1) (gw 2) (gw 3) (gw 4) (gw 5) (gw 6) (gw 7) hn h8).1 h
    rw [show WA c gw W 3 = WFl c W 3 (ex gw 0) 3 from if_pos hc]
    unfold LL
    iintro ⟨HL, HW⟩ Hk
    iapply (wp_ldL c L 0 off20 (by omega)) $$ HL
    iintro HL
    rw [hL 0 (by omega)]
    iapply (wp_asm c (chk11 (gw 0) (gw 1) (gw 2) (gw 3) (gw 4) (gw 5) (gw 6) (gw 7) hn h8 _ (by rw [toNat_ex]; exact ex_le gw _)))
    iapply (wp_wst c W 3 (ex gw 0) 3 (by omega) off21 off22 ((off23 _).trans (by rw [toNat_ex]))) $$ HW
    iintro HF
    iapply Hk
    isplitl [HL]; · iexact HL
    iexact HF
  · intro h
    have hc := (cond4 (gw 0) (gw 1) (gw 2) (gw 3) (gw 4) (gw 5) (gw 6) (gw 7) hn h8).not.1 h
    rw [show WA c gw W 3 = WFree c W 3 from if_neg hc]
  · isplitl [HL]; · iexact HL
    iexact HW3
  iintro ⟨HL, HW3⟩
  iapply le_wp_ret
  iapply Hk
  isplitl [Hg]; · iexact Hg
  isplitl [HL]
  · iexists L
    isplitl [HL]; · iexact HL
    ipureintro
    exact hL
  isplitl [HW0]; · iexact HW0
  isplitl [HW1]; · iexact HW1
  isplitl [HW2]; · iexact HW2
  iexact HW3

end ends

end Cert.Kernel.Hand

end

end
-- ==== Proof.Epi.lean ====
module

public import proofs.«01_k».proof.Proof.Pro
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section rot
theorem WFree_rot (c : Dev nD) (W : S8x14336x2816.Idx → Elt F .fp8e4m3) (a : ℕ) : iprop(WFree c W ((a + 0) % 6) ∗ WFree c W ((a + 1) % 6) ∗ WFree c W ((a + 2) % 6) ∗ WFree c W ((a + 3) % 6) ∗ WFree c W ((a + 4) % 6) ∗ WFree c W ((a + 5) % 6))
    ⊢ (iprop(WFree c W 0 ∗ WFree c W 1 ∗ WFree c W 2 ∗ WFree c W 3 ∗ WFree c W 4 ∗ WFree c W 5) : sProp 𝕄) := by
  have h : a % 6 < 6 := Nat.mod_lt _ (by omega)
  rcases (show a % 6 = 0 ∨ a % 6 = 1 ∨ a % 6 = 2 ∨ a % 6 = 3 ∨ a % 6 = 4 ∨ a % 6 = 5 by omega) with h | h | h | h | h | h
  · rw [show (a + 0) % 6 = 0 by omega, show (a + 1) % 6 = 1 by omega, show (a + 2) % 6 = 2 by omega, show (a + 3) % 6 = 3 by omega, show (a + 4) % 6 = 4 by omega, show (a + 5) % 6 = 5 by omega]
  · rw [show (a + 0) % 6 = 1 by omega, show (a + 1) % 6 = 2 by omega, show (a + 2) % 6 = 3 by omega, show (a + 3) % 6 = 4 by omega, show (a + 4) % 6 = 5 by omega, show (a + 5) % 6 = 0 by omega]
    iintro ⟨H1, H2, H3, H4, H5, H0⟩
    isplitl [H0]; · iexact H0
    isplitl [H1]; · iexact H1
    isplitl [H2]; · iexact H2
    isplitl [H3]; · iexact H3
    isplitl [H4]; · iexact H4
    iexact H5
  · rw [show (a + 0) % 6 = 2 by omega, show (a + 1) % 6 = 3 by omega, show (a + 2) % 6 = 4 by omega, show (a + 3) % 6 = 5 by omega, show (a + 4) % 6 = 0 by omega, show (a + 5) % 6 = 1 by omega]
    iintro ⟨H2, H3, H4, H5, H0, H1⟩
    isplitl [H0]; · iexact H0
    isplitl [H1]; · iexact H1
    isplitl [H2]; · iexact H2
    isplitl [H3]; · iexact H3
    isplitl [H4]; · iexact H4
    iexact H5
  · rw [show (a + 0) % 6 = 3 by omega, show (a + 1) % 6 = 4 by omega, show (a + 2) % 6 = 5 by omega, show (a + 3) % 6 = 0 by omega, show (a + 4) % 6 = 1 by omega, show (a + 5) % 6 = 2 by omega]
    iintro ⟨H3, H4, H5, H0, H1, H2⟩
    isplitl [H0]; · iexact H0
    isplitl [H1]; · iexact H1
    isplitl [H2]; · iexact H2
    isplitl [H3]; · iexact H3
    isplitl [H4]; · iexact H4
    iexact H5
  · rw [show (a + 0) % 6 = 4 by omega, show (a + 1) % 6 = 5 by omega, show (a + 2) % 6 = 0 by omega, show (a + 3) % 6 = 1 by omega, show (a + 4) % 6 = 2 by omega, show (a + 5) % 6 = 3 by omega]
    iintro ⟨H4, H5, H0, H1, H2, H3⟩
    isplitl [H0]; · iexact H0
    isplitl [H1]; · iexact H1
    isplitl [H2]; · iexact H2
    isplitl [H3]; · iexact H3
    isplitl [H4]; · iexact H4
    iexact H5
  · rw [show (a + 0) % 6 = 5 by omega, show (a + 1) % 6 = 0 by omega, show (a + 2) % 6 = 1 by omega, show (a + 3) % 6 = 2 by omega, show (a + 4) % 6 = 3 by omega, show (a + 5) % 6 = 4 by omega]
    iintro ⟨H5, H0, H1, H2, H3, H4⟩
    isplitl [H0]; · iexact H0
    isplitl [H1]; · iexact H1
    isplitl [H2]; · iexact H2
    isplitl [H3]; · iexact H3
    isplitl [H4]; · iexact H4
    iexact H5

theorem OFree_rot (c : Dev nD) (a : ℕ) : iprop(OFree (F := F) c ((a + 0) % 3) ∗ OFree (F := F) c ((a + 1) % 3) ∗ OFree (F := F) c ((a + 2) % 3))
    ⊢ (iprop(OFree (F := F) c 0 ∗ OFree (F := F) c 1 ∗ OFree (F := F) c 2) : sProp 𝕄) := by
  have h : a % 3 < 3 := Nat.mod_lt _ (by omega)
  rcases (show a % 3 = 0 ∨ a % 3 = 1 ∨ a % 3 = 2 by omega) with h | h | h
  · rw [show (a + 0) % 3 = 0 by omega, show (a + 1) % 3 = 1 by omega, show (a + 2) % 3 = 2 by omega]
  · rw [show (a + 0) % 3 = 1 by omega, show (a + 1) % 3 = 2 by omega, show (a + 2) % 3 = 0 by omega]
    iintro ⟨H1, H2, H0⟩
    isplitl [H0]; · iexact H0
    isplitl [H1]; · iexact H1
    iexact H2
  · rw [show (a + 0) % 3 = 2 by omega, show (a + 1) % 3 = 0 by omega, show (a + 2) % 3 = 1 by omega]
    iintro ⟨H2, H0, H1⟩
    isplitl [H0]; · iexact H0
    isplitl [H1]; · iexact H1
    iexact H2

theorem RG_opc (c : Dev nD) (gw : ℕ → BitVec 32) (V : S8x32x14336.Idx → Elt F .bf16) {a b j : ℕ} (ha : a = j) (hb : b = j + 1) (hj : j < 7 * cnt gw 8) :
    (RG c gw V a b : sProp 𝕄) = ((tc c).loc main_v0 ↦[opc (ex gw (j / 7)) (j % 7)]{fullShare} V) := by
  subst ha hb
  unfold RG
  rw [Reg_opc gw hj]

theorem RG_nil (c : Dev nD) (gw : ℕ → BitVec 32) (V : S8x32x14336.Idx → Elt F .bf16) {a b : ℕ} (h : a = b) :
    (RG c gw V a b : sProp 𝕄) = iprop(emp) := by
  subst h
  unfold RG
  rw [Reg_self, pointsTo_empty]

end rot

section ends
variable (c : Dev nD) (gs : S8.Idx → BitVec 32) (gw : ℕ → BitVec 32)

set_option maxHeartbeats 4000000 in
theorem wp_part11 (hgw : ∀ i, gw i = gs (mk S8 ![i])) (L : S9.Idx → BitVec 32) (hL : LP gw L) (X : S8x32x2816.Idx → Elt F .bf16) (WS : S8x14336.Idx → Elt F .f32)
    (W : S8x14336x2816.Idx → Elt F .fp8e4m3) (G V : S8x32x14336.Idx → Elt F .bf16) (f8 : S32x14336.Idx → Elt F .bf16)
    (hz : ∀ i : S8x32x14336.Idx, ¬ 0 < (gw (i 0 : ℕ)).toInt → G i = Scalar.ofBits .bf16 0x0000#16) (v47 a : BitVec 32) {Q} :
    iprop(((tc c).loc cc0_scratch0 ↦[Finset.univ]{fullShare} gs) ∗ LL c L ∗ WFree c W 4 ∗ xcF c fullShare X ∗ scF c fullShare WS
        ∗ ((tc c).loc cc0_scratch8 ↦[Finset.univ]{fullShare} f8) ∗ semVal (tc c, .dma zsem) 0 ∗ RG c gw V 56 64 ∗ Ow c)
      ⊢ iprop((iprop(((tc c).loc cc0_scratch0 ↦[Finset.univ]{fullShare} gs) ∗ LL c L ∗ WA c gw W 4
          ∗ (((tc c).loc cc0_scratch2 ↦[Finset.univ]{fullShare} X) ∗ ((tc c).loc main_arg0 ↦[Finset.univ]{fullShare} X) ∗ semVal (tc c, .dma (Fin.ofNat 13 1)) 0)
          ∗ (((tc c).loc cc0_scratch3 ↦[Finset.univ]{fullShare} WS) ∗ ((tc c).loc main_arg3 ↦[Finset.univ]{fullShare} WS) ∗ semVal (tc c, .dma (Fin.ofNat 13 2)) 0)
          ∗ ZS c gw G V 5 ∗ Ow c)
          -∗ Q (Scalar.extui (Scalar.cmpi .sle (gw 5) 0#32)))
        -∗ wp frame (wpE (defs₀ (F := F)) Variants.none (tc c) none) Set.univ (k0_part11 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) v47 a) Q) := by
  have hn := nlw_eq gw
  have h8 : cnt gw 8 < 9 := by have := cnt_le gw 8; omega
  rw [k0_part11_eq_skeleton]
  unfold k0_part11_skel
  dsimp only
  iintro ⟨Hg, HL, HW4, HX, HS, Hf, Hz, HV, HO⟩ Hk
  iapply (wp_dite c iprop(LL c L ∗ WFree c W 4) iprop(LL c L ∗ WA c gw W 4) ?_ ?_) $$ [HL HW4]
  · intro h
    have hc := (cond5 (gw 0) (gw 1) (gw 2) (gw 3) (gw 4) (gw 5) (gw 6) (gw 7) hn h8).1 h
    rw [show WA c gw W 4 = WFl c W 4 (ex gw 0) 4 from if_pos hc]
    unfold LL
    iintro ⟨HL, HW⟩ Hk
    iapply (wp_ldL c L 0 off24 (by omega)) $$ HL
    iintro HL
    rw [hL 0 (by omega)]
    iapply (wp_asm c (chk12 (gw 0) (gw 1) (gw 2) (gw 3) (gw 4) (gw 5) (gw 6) (gw 7) hn h8 _ (by rw [toNat_ex]; exact ex_le gw _)))
    iapply (wp_wst c W 4 (ex gw 0) 4 (by omega) off25 off26 ((off27 _).trans (by rw [toNat_ex]))) $$ HW
    iintro HF
    iapply Hk
    isplitl [HL]; · iexact HL
    iexact HF
  · intro h
    have hc := (cond5 (gw 0) (gw 1) (gw 2) (gw 3) (gw 4) (gw 5) (gw 6) (gw 7) hn h8).not.1 h
    rw [show WA c gw W 4 = WFree c W 4 from if_neg hc]
  · isplitl [HL]; · iexact HL
    iexact HW4
  iintro ⟨HL, HW4⟩
  iapply (wp_ldz c f8 rfl) $$ Hf
  iintro Hf
  iapply (wp_stz c f8 (k0_pay19 (F := F))) $$ Hf
  iintro Hf
  iapply (wp_xcw c fullShare X) $$ [HX HO]
  · isplitl [HX]; · iexact HX
    iexact HO
  iintro ⟨Hx, Ha0, Hs1, HO⟩
  iapply (wp_scw c fullShare WS) $$ [HS HO]
  · isplitl [HS]; · iexact HS
    iexact HO
  iintro ⟨Hw, Ha3, Hs2, HO⟩
  imod (Transfers.batch_alloc' (Lvl := ℕ) (countersEmb (U := Pipeline.UD sig nD τ)) (c : Thread nD τ) () Nz
      (DZ c gw G) (sm := SemLoc.dma zsem) (E := Set.univ)) $$ Hz with HB
  ihave HZ := (show iprop(Transfers.Batch (countersEmb (U := Pipeline.UD sig nD τ)) (tc c) (.dma zsem) () Nz (DZ c gw G) 0 0
      ∗ RG c gw V 56 64 ∗ ((tc c).loc cc0_scratch8 ↦[Finset.univ]{fullShare} (k0_pay19 (F := F)))) ⊢ (ZS c gw G V 0 : sProp 𝕄) from .rfl) $$ [HB HV Hf]
  · isplitl [HB]; · iexact HB
    isplitl [HV]; · iexact HV
    iexact Hf
  iapply (wp_ldG c gs 0 rfl (by omega)) $$ Hg
  iintro Hg
  rw [← hgw 0]
  iapply (wp_zst c gw G V hz 0 (by omega) rfl) $$ HZ
  iintro HZ
  iapply (wp_ldG c gs 1 rfl (by omega)) $$ Hg
  iintro Hg
  rw [← hgw 1]
  iapply (wp_zst c gw G V hz 1 (by omega) rfl) $$ HZ
  iintro HZ
  iapply (wp_ldG c gs 2 rfl (by omega)) $$ Hg
  iintro Hg
  rw [← hgw 2]
  iapply (wp_zst c gw G V hz 2 (by omega) rfl) $$ HZ
  iintro HZ
  iapply (wp_ldG c gs 3 rfl (by omega)) $$ Hg
  iintro Hg
  rw [← hgw 3]
  iapply (wp_zst c gw G V hz 3 (by omega) rfl) $$ HZ
  iintro HZ
  iapply (wp_ldG c gs 4 rfl (by omega)) $$ Hg
  iintro Hg
  rw [← hgw 4]
  iapply (wp_zst c gw G V hz 4 (by omega) rfl) $$ HZ
  iintro HZ
  iapply (wp_ldG c gs 5 rfl (by omega)) $$ Hg
  iintro Hg
  rw [← hgw 5]
  iapply le_wp_ret
  iapply Hk
  isplitl [Hg]; · iexact Hg
  isplitl [HL]; · iexact HL
  isplitl [HW4]; · iexact HW4
  isplitl [Hx Ha0 Hs1]
  · isplitl [Hx]; · iexact Hx
    isplitl [Ha0]; · iexact Ha0
    iexact Hs1
  isplitl [Hw Ha3 Hs2]
  · isplitl [Hw]; · iexact Hw
    isplitl [Ha3]; · iexact Ha3
    iexact Hs2
  isplitl [HZ]; · iexact HZ
  iexact HO

set_option maxHeartbeats 8000000 in
theorem wp_part12 (hgw : ∀ i, gw i = gs (mk S8 ![i])) (L : S9.Idx → BitVec 32) (hL : LP gw L) (X : S8x32x2816.Idx → Elt F .bf16) (WS : S8x14336.Idx → Elt F .f32)
    (W : S8x14336x2816.Idx → Elt F .fp8e4m3) (G V : S8x32x14336.Idx → Elt F .bf16)
    (hG : ∀ e < 8, 0 < (gw e).toInt → ∀ b < 7, ∀ z, Bl gw X WS W e b z = G (mk S8x32x14336 ![e, (z 1 : ℕ), 2048 * b + (z 2 : ℕ)]))
    (hz : ∀ i : S8x32x14336.Idx, ¬ 0 < (gw (i 0 : ℕ)).toInt → G i = Scalar.ofBits .bf16 0x0000#16)
    (hw13 : k0_chk13 (gw 0) (gw 1) (gw 2) (gw 3) (gw 4) (gw 5) (gw 6) (gw 7)) (v47 : BitVec 32) {Q} :
    iprop(((tc c).loc cc0_scratch0 ↦[Finset.univ]{fullShare} gs) ∗ LL c L ∗ ((tc c).loc cc0_scratch2 ↦[Finset.univ]{fullShare} X) ∗ ((tc c).loc cc0_scratch3 ↦[Finset.univ]{fullShare} WS)
        ∗ XQ c gw X 0 ∗ WA c gw W 0 ∗ WA c gw W 1 ∗ WA c gw W 2 ∗ WA c gw W 3 ∗ WA c gw W 4 ∗ WFree c W 5
        ∗ OFree c 0 ∗ OFree c 1 ∗ OFree c 2 ∗ RG c gw V 0 56 ∗ ZS c gw G V 5 ∗ Ow c)
      ⊢ iprop((iprop(((tc c).loc cc0_scratch0 ↦[Finset.univ]{fullShare} gs) ∗ LL c L ∗ ((tc c).loc cc0_scratch2 ↦[Finset.univ]{fullShare} X) ∗ ((tc c).loc cc0_scratch3 ↦[Finset.univ]{fullShare} WS)
          ∗ XQ c gw X (7 * cnt gw 8) ∗ (WFree c W 0 ∗ WFree c W 1 ∗ WFree c W 2 ∗ WFree c W 3 ∗ WFree c W 4 ∗ WFree c W 5)
          ∗ (OFree c 0 ∗ OFree c 1 ∗ OFree c 2) ∗ RG c gw G 0 56 ∗ ZS c gw G V 8 ∗ Ow c)
          -∗ Q (Scalar.extui (Scalar.cmpi .sle (gw 0) 0#32)))
        -∗ wp frame (wpE (defs₀ (F := F)) Variants.none (tc c) none) Set.univ (k0_part12 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) hw13 v47 (Scalar.extui (Scalar.cmpi .sle (gw 5) 0#32))) Q) := by
  have hn := nlw_eq gw
  have h8 : cnt gw 8 < 9 := by have := cnt_le gw 8; omega
  rw [k0_part12_eq_skeleton]
  unfold k0_part12_skel
  dsimp only
  iintro ⟨Hg, HL, HX, HS, HQ, HW0, HW1, HW2, HW3, HW4, HW5, HF0, HF1, HF2, HV, HZ, HO⟩ Hk
  iapply (wp_zst c gw G V hz 5 (by omega) rfl) $$ HZ
  iintro HZ
  iapply (wp_ldG c gs 6 rfl (by omega)) $$ Hg
  iintro Hg
  rw [← hgw 6]
  iapply (wp_zst c gw G V hz 6 (by omega) rfl) $$ HZ
  iintro HZ
  iapply (wp_ldG c gs 7 rfl (by omega)) $$ Hg
  iintro Hg
  rw [← hgw 7]
  iapply (wp_zst c gw G V hz 7 (by omega) rfl) $$ HZ
  iintro HZ
  ihave HI := (show iprop(((tc c).loc cc0_scratch0 ↦[Finset.univ]{fullShare} gs) ∗ LL c L ∗ ((tc c).loc cc0_scratch2 ↦[Finset.univ]{fullShare} X) ∗ ((tc c).loc cc0_scratch3 ↦[Finset.univ]{fullShare} WS)
        ∗ XQ c gw X 0 ∗ WA c gw W 0 ∗ WA c gw W 1 ∗ WA c gw W 2 ∗ WA c gw W 3 ∗ WA c gw W 4 ∗ WFree c W 5
        ∗ OFree c 0 ∗ OFree c 1 ∗ OFree c 2 ∗ RG c gw V 0 56 ∗ Ow c) ⊢ Inv c gs gw L X WS W G V 0 from by
    unfold Inv OF OH
    rw [RG_nil c gw G (show 0 = 0 - 3 by omega), if_neg (show ¬ 3 ≤ 0 by omega), if_neg (show ¬ 3 ≤ 0 + 1 by omega), if_neg (show ¬ 3 ≤ 0 + 2 by omega),
      show 0 % 3 = 0 by omega, show (0 + 1) % 3 = 1 by omega, show (0 + 2) % 3 = 2 by omega]
    iintro ⟨Hg, HL, HX, HS, HQ, HW0, HW1, HW2, HW3, HW4, HW5, HF0, HF1, HF2, HV, HO⟩
    isplitl [Hg]; · iexact Hg
    isplitl [HL]; · iexact HL
    isplitl [HX]; · iexact HX
    isplitl [HS]; · iexact HS
    isplitl [HQ]; · iexact HQ
    isplitl [HW0]; · iexact HW0
    isplitl [HW1]; · iexact HW1
    isplitl [HW2]; · iexact HW2
    isplitl [HW3]; · iexact HW3
    isplitl [HW4]; · iexact HW4
    isplitl [HW5]; · iexact HW5
    isplitl [HF0]; · iexact HF0
    isplitl [HF1]; · iexact HF1
    isplitl [HF2]; · iexact HF2
    isplitl [HV]; · iexact HV
    isplitr; · iempintro
    iexact HO) $$ [Hg HL HX HS HQ HW0 HW1 HW2 HW3 HW4 HW5 HF0 HF1 HF2 HV HO]
  · isplitl [Hg]; · iexact Hg
    isplitl [HL]; · iexact HL
    isplitl [HX]; · iexact HX
    isplitl [HS]; · iexact HS
    isplitl [HQ]; · iexact HQ
    isplitl [HW0]; · iexact HW0
    isplitl [HW1]; · iexact HW1
    isplitl [HW2]; · iexact HW2
    isplitl [HW3]; · iexact HW3
    isplitl [HW4]; · iexact HW4
    isplitl [HW5]; · iexact HW5
    isplitl [HF0]; · iexact HF0
    isplitl [HF1]; · iexact HF1
    isplitl [HF2]; · iexact HF2
    isplitl [HV]; · iexact HV
    iexact HO
  iapply (Scf.wp_for_bind _ _ _ _ _ _ (k0_t1_ok (gw 0) (gw 1) (gw 2) (gw 3) (gw 4) (gw 5) (gw 6) (gw 7) hw13) _ _ (fun u _ => Inv c gs gw L X WS W G V u)
    (fun t x => wp_trip c gs gw hgw L hL X WS W G V hG hw13 _ _ t x)) $$ HI
  iintro %_x HI
  ihave HI := (Entails.of_eq (congrArg (Inv c gs gw L X WS W G V) (trips1 (gw 0) (gw 1) (gw 2) (gw 3) (gw 4) (gw 5) (gw 6) (gw 7) hn h8))) $$ HI
  iapply (Scf.wp_for_bind _ _ _ _ _ _ (k0_t2_ok (gw 0) (gw 1) (gw 2) (gw 3) (gw 4) (gw 5) (gw 6) (gw 7) hw13) _ _ (fun _ _ => Inv c gs gw L X WS W G V (7 * cnt gw 8))
    (fun t x => (Fin.cast (trips2 (gw 0) (gw 1) (gw 2) (gw 3) (gw 4) (gw 5) (gw 6) (gw 7) hn h8) t).elim0)) $$ HI
  iintro %_y HI
  ihave HI := (show Inv c gs gw L X WS W G V (7 * cnt gw 8) ⊢ iprop(((tc c).loc cc0_scratch0 ↦[Finset.univ]{fullShare} gs) ∗ LL c L
    ∗ ((tc c).loc cc0_scratch2 ↦[Finset.univ]{fullShare} X) ∗ ((tc c).loc cc0_scratch3 ↦[Finset.univ]{fullShare} WS) ∗ XQ c gw X (7 * cnt gw 8)
    ∗ (WFree c W 0 ∗ WFree c W 1 ∗ WFree c W 2 ∗ WFree c W 3 ∗ WFree c W 4 ∗ WFree c W 5)
    ∗ OF c gw G (7 * cnt gw 8 + 0) ∗ OF c gw G (7 * cnt gw 8 + 1) ∗ OH c gw G (7 * cnt gw 8 + 2) ∗ RG c gw V (7 * cnt gw 8 - 1) 56 ∗ RG c gw G 0 (7 * cnt gw 8 - 3) ∗ Ow c) from by
    unfold Inv WA
    rw [if_neg (show ¬ 7 * cnt gw 8 + 1 < 7 * cnt gw 8 by omega), if_neg (show ¬ 7 * cnt gw 8 + 2 < 7 * cnt gw 8 by omega), if_neg (show ¬ 7 * cnt gw 8 + 3 < 7 * cnt gw 8 by omega), if_neg (show ¬ 7 * cnt gw 8 + 4 < 7 * cnt gw 8 by omega), if_neg (show ¬ 7 * cnt gw 8 < 7 * cnt gw 8 by omega)]
    iintro ⟨Hg, HL, HX, HS, HQ, HW0, HW1, HW2, HW3, HW4, HW5, HF0, HF1, HF2, HV, HD, HO⟩
    isplitl [Hg]; · iexact Hg
    isplitl [HL]; · iexact HL
    isplitl [HX]; · iexact HX
    isplitl [HS]; · iexact HS
    isplitl [HQ]; · iexact HQ
    isplitl [HW0 HW1 HW2 HW3 HW4 HW5]
    · iapply (WFree_rot c W (7 * cnt gw 8))
      isplitl [HW0]; · iexact HW0
      isplitl [HW1]; · iexact HW1
      isplitl [HW2]; · iexact HW2
      isplitl [HW3]; · iexact HW3
      isplitl [HW4]; · iexact HW4
      iexact HW5
    isplitl [HF0]; · iexact HF0
    isplitl [HF1]; · iexact HF1
    isplitl [HF2]; · iexact HF2
    isplitl [HV]; · iexact HV
    isplitl [HD]; · iexact HD
    iexact HO) $$ HI
  icases HI with ⟨Hg, HL, HX, HS, HQ, HW, HF0, HF1, HF2, HV, HD, HO⟩
  iapply (wp_dite c iprop(LL c L ∗ OH c gw G (7 * cnt gw 8 + 2) ∗ RG c gw V (7 * cnt gw 8 - 1) 56)
      iprop(LL c L ∗ OF c gw G (7 * cnt gw 8 + 2) ∗ RG c gw V (7 * cnt gw 8) 56) ?_ ?_) $$ [HL HF2 HV]
  · intro h
    have hc := (cond22 (gw 0) (gw 1) (gw 2) (gw 3) (gw 4) (gw 5) (gw 6) (gw 7) hn h8).1 h
    rw [show OH c gw G (7 * cnt gw 8 + 2) = OHold c G ((7 * cnt gw 8 - 1 - 0) % 3) (ex gw ((7 * cnt gw 8 - 1 - 0) / 7)) ((7 * cnt gw 8 - 1 - 0) % 7) by
        unfold OH; rw [if_pos (show 3 ≤ 7 * cnt gw 8 + 2 by omega), show 7 * cnt gw 8 + 2 - 3 = 7 * cnt gw 8 - 1 - 0 by omega, show (7 * cnt gw 8 + 2) % 3 = (7 * cnt gw 8 - 1 - 0) % 3 by omega],
      show OF c gw G (7 * cnt gw 8 + 2) = OFl c G ((7 * cnt gw 8 - 1 - 0) % 3) (ex gw ((7 * cnt gw 8 - 1 - 0) / 7)) ((7 * cnt gw 8 - 1 - 0) % 7) by
        unfold OF; rw [if_pos (show 3 ≤ 7 * cnt gw 8 + 2 by omega), show 7 * cnt gw 8 + 2 - 3 = 7 * cnt gw 8 - 1 - 0 by omega, show (7 * cnt gw 8 + 2) % 3 = (7 * cnt gw 8 - 1 - 0) % 3 by omega]]
    iintro ⟨HL, HH, HV⟩ Hk
    iapply (wp_ldL c L ((7 * cnt gw 8 - 1 - 0) / 7) (off72 (gw 0) (gw 1) (gw 2) (gw 3) (gw 4) (gw 5) (gw 6) (gw 7) hn h8 hc) (by omega)) $$ HL
    iintro HL
    rw [hL ((7 * cnt gw 8 - 1 - 0) / 7) (by omega)]
    iapply (wp_asm c (chk24 (gw 0) (gw 1) (gw 2) (gw 3) (gw 4) (gw 5) (gw 6) (gw 7) hn h8 _ (by rw [toNat_ex]; exact ex_le gw _)))
    ihave HV := (RG_split c gw V (a := 7 * cnt gw 8 - 1) (m := 7 * cnt gw 8 - 1 + 1) (b := 56) (by omega) (by omega)) $$ HV
    icases HV with ⟨HV1, HV2⟩
    iapply (wp_ost c G V ((7 * cnt gw 8 - 1 - 0) % 3) (ex gw ((7 * cnt gw 8 - 1 - 0) / 7)) ((7 * cnt gw 8 - 1 - 0) % 7) (by omega) (off73 (gw 0) (gw 1) (gw 2) (gw 3) (gw 4) (gw 5) (gw 6) (gw 7) hn h8 hc) (off75 (gw 0) (gw 1) (gw 2) (gw 3) (gw 4) (gw 5) (gw 6) (gw 7) hn h8 hc)
      ((off74 (gw 0) (gw 1) (gw 2) (gw 3) (gw 4) (gw 5) (gw 6) (gw 7) _ hn h8 hc).trans (by rw [toNat_ex]))) $$ [HH HV1]
    · isplitl [HH]; · iexact HH
      iapply (Entails.of_eq (RG_opc c gw V (j := 7 * cnt gw 8 - 1 - 0) (by omega) (by omega) (by omega))) $$ HV1
    iintro HF
    iapply Hk
    isplitl [HL]; · iexact HL
    isplitl [HF]; · iexact HF
    rw [show 7 * cnt gw 8 - 1 + 1 = 7 * cnt gw 8 by omega]
    iexact HV2
  · intro h
    have hc := (cond22 (gw 0) (gw 1) (gw 2) (gw 3) (gw 4) (gw 5) (gw 6) (gw 7) hn h8).not.1 h
    have h0 : 7 * cnt gw 8 = 0 := by omega
    unfold OH OF
    rw [if_neg (show ¬ 3 ≤ 7 * cnt gw 8 + 2 by omega), if_neg (show ¬ 3 ≤ 7 * cnt gw 8 + 2 by omega), show 7 * cnt gw 8 - 1 = 7 * cnt gw 8 by omega]
  · isplitl [HL]; · iexact HL
    isplitl [HF2]; · iexact HF2
    iexact HV
  iintro ⟨HL, HF2, HV⟩
  iapply (wp_dite c iprop(LL c L ∗ OF c gw G (7 * cnt gw 8 + 2) ∗ Ow c)
      iprop(LL c L ∗ OFree c ((7 * cnt gw 8 + 2) % 3) ∗ RG c gw G (7 * cnt gw 8 - 1 - 0) (7 * cnt gw 8 - 0) ∗ Ow c) ?_ ?_) $$ [HL HF2 HO]
  · intro h
    have hc := (cond23 (gw 0) (gw 1) (gw 2) (gw 3) (gw 4) (gw 5) (gw 6) (gw 7) hn h8).1 h
    rw [show OF c gw G (7 * cnt gw 8 + 2) = OFl c G ((7 * cnt gw 8 - 1 - 0) % 3) (ex gw ((7 * cnt gw 8 - 1 - 0) / 7)) ((7 * cnt gw 8 - 1 - 0) % 7) by
        unfold OF; rw [if_pos (show 3 ≤ 7 * cnt gw 8 + 2 by omega), show 7 * cnt gw 8 + 2 - 3 = 7 * cnt gw 8 - 1 - 0 by omega, show (7 * cnt gw 8 + 2) % 3 = (7 * cnt gw 8 - 1 - 0) % 3 by omega],
      show (7 * cnt gw 8 + 2) % 3 = (7 * cnt gw 8 - 1 - 0) % 3 by omega]
    iintro ⟨HL, HF, HO⟩ Hk
    iapply (wp_ldL c L ((7 * cnt gw 8 - 1 - 0) / 7) (off76 (gw 0) (gw 1) (gw 2) (gw 3) (gw 4) (gw 5) (gw 6) (gw 7) hn h8 (by omega)) (by omega)) $$ HL
    iintro HL
    rw [hL ((7 * cnt gw 8 - 1 - 0) / 7) (by omega)]
    iapply (wp_asm c (chk25 (gw 0) (gw 1) (gw 2) (gw 3) (gw 4) (gw 5) (gw 6) (gw 7) hn h8 _ (by rw [toNat_ex]; exact ex_le gw _)))
    iapply (wp_owt c G ((7 * cnt gw 8 - 1 - 0) % 3) (ex gw ((7 * cnt gw 8 - 1 - 0) / 7)) ((7 * cnt gw 8 - 1 - 0) % 7) (by omega) (off77 (gw 0) (gw 1) (gw 2) (gw 3) (gw 4) (gw 5) (gw 6) (gw 7) hn h8 (by omega))) $$ [HF HO]
    · isplitl [HF]; · iexact HF
      iexact HO
    iintro ⟨HF, HG, HO⟩
    iapply Hk
    isplitl [HL]; · iexact HL
    isplitl [HF]; · iexact HF
    isplitl [HG]
    · iapply (Entails.of_eq (RG_opc c gw G (j := 7 * cnt gw 8 - 1 - 0) rfl (by omega) (by omega)).symm) $$ HG
    iexact HO
  · intro h
    have hc := (cond23 (gw 0) (gw 1) (gw 2) (gw 3) (gw 4) (gw 5) (gw 6) (gw 7) hn h8).not.1 h
    have h0 : 7 * cnt gw 8 = 0 := by omega
    unfold OF
    rw [if_neg (show ¬ 3 ≤ 7 * cnt gw 8 + 2 by omega), RG_nil c gw G (show 7 * cnt gw 8 - 1 - 0 = 7 * cnt gw 8 - 0 by omega)]
    iintro ⟨HL, HF, HO⟩
    isplitl [HL]; · iexact HL
    isplitl [HF]; · iexact HF
    isplitr; · iempintro
    iexact HO
  · isplitl [HL]; · iexact HL
    isplitl [HF2]; · iexact HF2
    iexact HO
  iintro ⟨HL, HF2, HG2, HO⟩
  iapply (wp_dite c iprop(LL c L ∗ OF c gw G (7 * cnt gw 8 + 1) ∗ Ow c)
      iprop(LL c L ∗ OFree c ((7 * cnt gw 8 + 1) % 3) ∗ RG c gw G (7 * cnt gw 8 - 1 - 1) (7 * cnt gw 8 - 1) ∗ Ow c) ?_ ?_) $$ [HL HF1 HO]
  · intro h
    have hc := (cond24 (gw 0) (gw 1) (gw 2) (gw 3) (gw 4) (gw 5) (gw 6) (gw 7) hn h8).1 h
    rw [show OF c gw G (7 * cnt gw 8 + 1) = OFl c G ((7 * cnt gw 8 - 1 - 1) % 3) (ex gw ((7 * cnt gw 8 - 1 - 1) / 7)) ((7 * cnt gw 8 - 1 - 1) % 7) by
        unfold OF; rw [if_pos (show 3 ≤ 7 * cnt gw 8 + 1 by omega), show 7 * cnt gw 8 + 1 - 3 = 7 * cnt gw 8 - 1 - 1 by omega, show (7 * cnt gw 8 + 1) % 3 = (7 * cnt gw 8 - 1 - 1) % 3 by omega],
      show (7 * cnt gw 8 + 1) % 3 = (7 * cnt gw 8 - 1 - 1) % 3 by omega]
    iintro ⟨HL, HF, HO⟩ Hk
    iapply (wp_ldL c L ((7 * cnt gw 8 - 1 - 1) / 7) (off80 (gw 0) (gw 1) (gw 2) (gw 3) (gw 4) (gw 5) (gw 6) (gw 7) hn h8 (by omega)) (by omega)) $$ HL
    iintro HL
    rw [hL ((7 * cnt gw 8 - 1 - 1) / 7) (by omega)]
    iapply (wp_asm c (chk26 (gw 0) (gw 1) (gw 2) (gw 3) (gw 4) (gw 5) (gw 6) (gw 7) hn h8 _ (by rw [toNat_ex]; exact ex_le gw _)))
    iapply (wp_owt c G ((7 * cnt gw 8 - 1 - 1) % 3) (ex gw ((7 * cnt gw 8 - 1 - 1) / 7)) ((7 * cnt gw 8 - 1 - 1) % 7) (by omega) (off81 (gw 0) (gw 1) (gw 2) (gw 3) (gw 4) (gw 5) (gw 6) (gw 7) hn h8 (by omega))) $$ [HF HO]
    · isplitl [HF]; · iexact HF
      iexact HO
    iintro ⟨HF, HG, HO⟩
    iapply Hk
    isplitl [HL]; · iexact HL
    isplitl [HF]; · iexact HF
    isplitl [HG]
    · iapply (Entails.of_eq (RG_opc c gw G (j := 7 * cnt gw 8 - 1 - 1) rfl (by omega) (by omega)).symm) $$ HG
    iexact HO
  · intro h
    have hc := (cond24 (gw 0) (gw 1) (gw 2) (gw 3) (gw 4) (gw 5) (gw 6) (gw 7) hn h8).not.1 h
    have h0 : 7 * cnt gw 8 = 0 := by omega
    unfold OF
    rw [if_neg (show ¬ 3 ≤ 7 * cnt gw 8 + 1 by omega), RG_nil c gw G (show 7 * cnt gw 8 - 1 - 1 = 7 * cnt gw 8 - 1 by omega)]
    iintro ⟨HL, HF, HO⟩
    isplitl [HL]; · iexact HL
    isplitl [HF]; · iexact HF
    isplitr; · iempintro
    iexact HO
  · isplitl [HL]; · iexact HL
    isplitl [HF1]; · iexact HF1
    iexact HO
  iintro ⟨HL, HF1, HG1, HO⟩
  iapply (wp_dite c iprop(LL c L ∗ OF c gw G (7 * cnt gw 8 + 0) ∗ Ow c)
      iprop(LL c L ∗ OFree c ((7 * cnt gw 8 + 0) % 3) ∗ RG c gw G (7 * cnt gw 8 - 1 - 2) (7 * cnt gw 8 - 2) ∗ Ow c) ?_ ?_) $$ [HL HF0 HO]
  · intro h
    have hc := (cond25 (gw 0) (gw 1) (gw 2) (gw 3) (gw 4) (gw 5) (gw 6) (gw 7) hn h8).1 h
    rw [show OF c gw G (7 * cnt gw 8 + 0) = OFl c G ((7 * cnt gw 8 - 1 - 2) % 3) (ex gw ((7 * cnt gw 8 - 1 - 2) / 7)) ((7 * cnt gw 8 - 1 - 2) % 7) by
        unfold OF; rw [if_pos (show 3 ≤ 7 * cnt gw 8 + 0 by omega), show 7 * cnt gw 8 + 0 - 3 = 7 * cnt gw 8 - 1 - 2 by omega, show (7 * cnt gw 8 + 0) % 3 = (7 * cnt gw 8 - 1 - 2) % 3 by omega],
      show (7 * cnt gw 8 + 0) % 3 = (7 * cnt gw 8 - 1 - 2) % 3 by omega]
    iintro ⟨HL, HF, HO⟩ Hk
    iapply (wp_ldL c L ((7 * cnt gw 8 - 1 - 2) / 7) (off84 (gw 0) (gw 1) (gw 2) (gw 3) (gw 4) (gw 5) (gw 6) (gw 7) hn h8 (by omega)) (by omega)) $$ HL
    iintro HL
    rw [hL ((7 * cnt gw 8 - 1 - 2) / 7) (by omega)]
    iapply (wp_asm c (chk27 (gw 0) (gw 1) (gw 2) (gw 3) (gw 4) (gw 5) (gw 6) (gw 7) hn h8 _ (by rw [toNat_ex]; exact ex_le gw _)))
    iapply (wp_owt c G ((7 * cnt gw 8 - 1 - 2) % 3) (ex gw ((7 * cnt gw 8 - 1 - 2) / 7)) ((7 * cnt gw 8 - 1 - 2) % 7) (by omega) (off85 (gw 0) (gw 1) (gw 2) (gw 3) (gw 4) (gw 5) (gw 6) (gw 7) hn h8 (by omega))) $$ [HF HO]
    · isplitl [HF]; · iexact HF
      iexact HO
    iintro ⟨HF, HG, HO⟩
    iapply Hk
    isplitl [HL]; · iexact HL
    isplitl [HF]; · iexact HF
    isplitl [HG]
    · iapply (Entails.of_eq (RG_opc c gw G (j := 7 * cnt gw 8 - 1 - 2) rfl (by omega) (by omega)).symm) $$ HG
    iexact HO
  · intro h
    have hc := (cond25 (gw 0) (gw 1) (gw 2) (gw 3) (gw 4) (gw 5) (gw 6) (gw 7) hn h8).not.1 h
    have h0 : 7 * cnt gw 8 = 0 := by omega
    unfold OF
    rw [if_neg (show ¬ 3 ≤ 7 * cnt gw 8 + 0 by omega), RG_nil c gw G (show 7 * cnt gw 8 - 1 - 2 = 7 * cnt gw 8 - 2 by omega)]
    iintro ⟨HL, HF, HO⟩
    isplitl [HL]; · iexact HL
    isplitl [HF]; · iexact HF
    isplitr; · iempintro
    iexact HO
  · isplitl [HL]; · iexact HL
    isplitl [HF0]; · iexact HF0
    iexact HO
  iintro ⟨HL, HF0, HG0, HO⟩
  iapply (wp_ldG c gs 0 rfl (by omega)) $$ Hg
  iintro Hg
  rw [← hgw 0]
  iapply le_wp_ret
  iapply Hk
  isplitl [Hg]; · iexact Hg
  isplitl [HL]; · iexact HL
  isplitl [HX]; · iexact HX
  isplitl [HS]; · iexact HS
  isplitl [HQ]; · iexact HQ
  isplitl [HW]; · iexact HW
  isplitl [HF0 HF1 HF2]
  · iapply (OFree_rot c (7 * cnt gw 8))
    isplitl [HF0]; · iexact HF0
    isplitl [HF1]; · iexact HF1
    iexact HF2
  isplitl [HD HG0 HG1 HG2 HV]
  · iapply (RG_join c gw G (a := 0) (m := 7 * cnt gw 8) (b := 56) (by omega) (by omega))
    isplitr [HV]
    · iapply (RG_join c gw G (a := 0) (m := 7 * cnt gw 8 - 1) (b := 7 * cnt gw 8) (by omega) (by omega))
      isplitr [HG2]
      · iapply (RG_join c gw G (a := 0) (m := 7 * cnt gw 8 - 2) (b := 7 * cnt gw 8 - 1) (by omega) (by omega))
        isplitr [HG1]
        · iapply (RG_join c gw G (a := 0) (m := 7 * cnt gw 8 - 3) (b := 7 * cnt gw 8 - 2) (by omega) (by omega))
          isplitr [HG0]
          · iexact HD
          · iexact HG0
        · iexact HG1
      · iexact HG2
    · iapply (show RG c gw V (7 * cnt gw 8) 56 ⊢ (RG c gw G (7 * cnt gw 8) 56 : sProp 𝕄) from by
        unfold RG
        rw [Reg_gap, pointsTo_empty, pointsTo_empty]) $$ HV
  isplitl [HZ]; · iexact HZ
  iexact HO

end ends

end Cert.Kernel.Hand

end

end
-- ==== Proof.Body.lean ====
module

public import proofs.«01_k».proof.Proof.Epi
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section slots

/-- The slots from `a` on. -/
def wrest (a : ℕ) : Finset (S6x2048x2816.Idx) := Finset.univ.filter fun i => a ≤ (i 0 : ℕ)

theorem wrest_sub (a : ℕ) : wslot a ⊆ wrest a := by
  intro i hi
  simp only [wslot, wrest, Finset.mem_filter, Finset.mem_univ, true_and] at hi ⊢
  omega

theorem wrest_diff (a : ℕ) : wrest a \ wslot a = wrest (a + 1) := by
  ext i
  simp only [wslot, wrest, Finset.mem_sdiff, Finset.mem_filter, Finset.mem_univ, true_and]
  omega

theorem wrest_zero : wrest 0 = Finset.univ := by
  ext i
  simp [wrest]

theorem wrest_last : wrest 6 = ∅ := by
  ext i
  have h : (i 0 : ℕ) < 6 := (i 0).isLt
  simp only [wrest, Finset.mem_filter, Finset.mem_univ, true_and, Finset.notMem_empty, iff_false]
  omega

theorem wsplit (c : Dev nD) (f : S6x2048x2816.Idx → Elt F .fp8e4m3) (a : ℕ) :
    ((tc c).loc cc0_scratch6 ↦[wrest a]{fullShare} f : sProp 𝕄)
      ⊢ iprop((∃ f, (tc c).loc cc0_scratch6 ↦[wslot a]{fullShare} f) ∗ ((tc c).loc cc0_scratch6 ↦[wrest (a + 1)]{fullShare} f)) := by
  iintro H
  ihave H := (pointsTo_split_subset (wrest_sub a)).1 $$ H
  icases H with ⟨H1, H2⟩
  isplitl [H1]
  · iexists f
    iexact H1
  rw [wrest_diff]
  iexact H2

theorem wjoin (c : Dev nD) (a : ℕ) :
    iprop((∃ f, (tc c).loc cc0_scratch6 ↦[wslot a]{fullShare} f) ∗ (∃ f, (tc c).loc cc0_scratch6 ↦[wrest (a + 1)]{fullShare} f))
      ⊢ (iprop(∃ f : S6x2048x2816.Idx → Elt F .fp8e4m3, (tc c).loc cc0_scratch6 ↦[wrest a]{fullShare} f) : sProp 𝕄) := by
  iintro ⟨⟨%f, H1⟩, ⟨%g, H2⟩⟩
  rw [← wrest_diff]
  ihave H := (pointsTo_join_subset (ℓ := (tc c).loc cc0_scratch6) (wrest_sub a)) $$ [H1 H2]
  · isplitl [H1]; · iexact H1
    iexact H2
  iexists _
  iexact H

theorem wsplit_all (c : Dev nD) (f : S6x2048x2816.Idx → Elt F .fp8e4m3) :
    ((tc c).loc cc0_scratch6 ↦[Finset.univ]{fullShare} f : sProp 𝕄)
      ⊢ iprop((∃ f, (tc c).loc cc0_scratch6 ↦[wslot 0]{fullShare} f) ∗ (∃ f, (tc c).loc cc0_scratch6 ↦[wslot 1]{fullShare} f) ∗ (∃ f, (tc c).loc cc0_scratch6 ↦[wslot 2]{fullShare} f) ∗ (∃ f, (tc c).loc cc0_scratch6 ↦[wslot 3]{fullShare} f) ∗ (∃ f, (tc c).loc cc0_scratch6 ↦[wslot 4]{fullShare} f) ∗ (∃ f, (tc c).loc cc0_scratch6 ↦[wslot 5]{fullShare} f)) := by
  rw [← wrest_zero]
  iintro H
  ihave H := (wsplit c f 0) $$ H
  icases H with ⟨H0, H⟩
  ihave H := (wsplit c f 1) $$ H
  icases H with ⟨H1, H⟩
  ihave H := (wsplit c f 2) $$ H
  icases H with ⟨H2, H⟩
  ihave H := (wsplit c f 3) $$ H
  icases H with ⟨H3, H⟩
  ihave H := (wsplit c f 4) $$ H
  icases H with ⟨H4, H⟩
  ihave H := (wsplit c f 5) $$ H
  icases H with ⟨H5, H⟩
  isplitl [H0]; · iexact H0
  isplitl [H1]; · iexact H1
  isplitl [H2]; · iexact H2
  isplitl [H3]; · iexact H3
  isplitl [H4]; · iexact H4
  iexact H5

theorem wjoin_all (c : Dev nD) :
    iprop((∃ f, (tc c).loc cc0_scratch6 ↦[wslot 0]{fullShare} f) ∗ (∃ f, (tc c).loc cc0_scratch6 ↦[wslot 1]{fullShare} f) ∗ (∃ f, (tc c).loc cc0_scratch6 ↦[wslot 2]{fullShare} f) ∗ (∃ f, (tc c).loc cc0_scratch6 ↦[wslot 3]{fullShare} f) ∗ (∃ f, (tc c).loc cc0_scratch6 ↦[wslot 4]{fullShare} f) ∗ (∃ f, (tc c).loc cc0_scratch6 ↦[wslot 5]{fullShare} f))
      ⊢ (iprop(∃ f : S6x2048x2816.Idx → Elt F .fp8e4m3, (tc c).loc cc0_scratch6 ↦[Finset.univ]{fullShare} f) : sProp 𝕄) := by
  have he : (iprop(emp) : sProp 𝕄) ⊢ iprop(∃ f : S6x2048x2816.Idx → Elt F .fp8e4m3, (tc c).loc cc0_scratch6 ↦[wrest 6]{fullShare} f) := by
    rw [wrest_last]
    iintro H
    iexists (fun _ => Scalar.ofBits .fp8e4m3 0#8)
    rw [pointsTo_empty]
    iexact H
  rw [← wrest_zero]
  iintro ⟨H0, H1, H2, H3, H4, H5⟩
  ihave H := he $$ []
  · iempintro
  ihave H := (wjoin c 5) $$ [H5 H]
  · isplitl [H5]; · iexact H5
    iexact H
  ihave H := (wjoin c 4) $$ [H4 H]
  · isplitl [H4]; · iexact H4
    iexact H
  ihave H := (wjoin c 3) $$ [H3 H]
  · isplitl [H3]; · iexact H3
    iexact H
  ihave H := (wjoin c 2) $$ [H2 H]
  · isplitl [H2]; · iexact H2
    iexact H
  ihave H := (wjoin c 1) $$ [H1 H]
  · isplitl [H1]; · iexact H1
    iexact H
  ihave H := (wjoin c 0) $$ [H0 H]
  · isplitl [H0]; · iexact H0
    iexact H
  iexact H

/-- The slots from `a` on. -/
def orest (a : ℕ) : Finset (S3x32x2048.Idx) := Finset.univ.filter fun i => a ≤ (i 0 : ℕ)

theorem orest_sub (a : ℕ) : oslot a ⊆ orest a := by
  intro i hi
  simp only [oslot, orest, Finset.mem_filter, Finset.mem_univ, true_and] at hi ⊢
  omega

theorem orest_diff (a : ℕ) : orest a \ oslot a = orest (a + 1) := by
  ext i
  simp only [oslot, orest, Finset.mem_sdiff, Finset.mem_filter, Finset.mem_univ, true_and]
  omega

theorem orest_zero : orest 0 = Finset.univ := by
  ext i
  simp [orest]

theorem orest_last : orest 3 = ∅ := by
  ext i
  have h : (i 0 : ℕ) < 3 := (i 0).isLt
  simp only [orest, Finset.mem_filter, Finset.mem_univ, true_and, Finset.notMem_empty, iff_false]
  omega

theorem osplit (c : Dev nD) (f : S3x32x2048.Idx → Elt F .bf16) (a : ℕ) :
    ((tc c).loc cc0_scratch7 ↦[orest a]{fullShare} f : sProp 𝕄)
      ⊢ iprop((∃ f, (tc c).loc cc0_scratch7 ↦[oslot a]{fullShare} f) ∗ ((tc c).loc cc0_scratch7 ↦[orest (a + 1)]{fullShare} f)) := by
  iintro H
  ihave H := (pointsTo_split_subset (orest_sub a)).1 $$ H
  icases H with ⟨H1, H2⟩
  isplitl [H1]
  · iexists f
    iexact H1
  rw [orest_diff]
  iexact H2

theorem ojoin (c : Dev nD) (a : ℕ) :
    iprop((∃ f, (tc c).loc cc0_scratch7 ↦[oslot a]{fullShare} f) ∗ (∃ f, (tc c).loc cc0_scratch7 ↦[orest (a + 1)]{fullShare} f))
      ⊢ (iprop(∃ f : S3x32x2048.Idx → Elt F .bf16, (tc c).loc cc0_scratch7 ↦[orest a]{fullShare} f) : sProp 𝕄) := by
  iintro ⟨⟨%f, H1⟩, ⟨%g, H2⟩⟩
  rw [← orest_diff]
  ihave H := (pointsTo_join_subset (ℓ := (tc c).loc cc0_scratch7) (orest_sub a)) $$ [H1 H2]
  · isplitl [H1]; · iexact H1
    iexact H2
  iexists _
  iexact H

theorem osplit_all (c : Dev nD) (f : S3x32x2048.Idx → Elt F .bf16) :
    ((tc c).loc cc0_scratch7 ↦[Finset.univ]{fullShare} f : sProp 𝕄)
      ⊢ iprop((∃ f, (tc c).loc cc0_scratch7 ↦[oslot 0]{fullShare} f) ∗ (∃ f, (tc c).loc cc0_scratch7 ↦[oslot 1]{fullShare} f) ∗ (∃ f, (tc c).loc cc0_scratch7 ↦[oslot 2]{fullShare} f)) := by
  rw [← orest_zero]
  iintro H
  ihave H := (osplit c f 0) $$ H
  icases H with ⟨H0, H⟩
  ihave H := (osplit c f 1) $$ H
  icases H with ⟨H1, H⟩
  ihave H := (osplit c f 2) $$ H
  icases H with ⟨H2, H⟩
  isplitl [H0]; · iexact H0
  isplitl [H1]; · iexact H1
  iexact H2

theorem ojoin_all (c : Dev nD) :
    iprop((∃ f, (tc c).loc cc0_scratch7 ↦[oslot 0]{fullShare} f) ∗ (∃ f, (tc c).loc cc0_scratch7 ↦[oslot 1]{fullShare} f) ∗ (∃ f, (tc c).loc cc0_scratch7 ↦[oslot 2]{fullShare} f))
      ⊢ (iprop(∃ f : S3x32x2048.Idx → Elt F .bf16, (tc c).loc cc0_scratch7 ↦[Finset.univ]{fullShare} f) : sProp 𝕄) := by
  have he : (iprop(emp) : sProp 𝕄) ⊢ iprop(∃ f : S3x32x2048.Idx → Elt F .bf16, (tc c).loc cc0_scratch7 ↦[orest 3]{fullShare} f) := by
    rw [orest_last]
    iintro H
    iexists (fun _ => Scalar.ofBits .bf16 0#16)
    rw [pointsTo_empty]
    iexact H
  rw [← orest_zero]
  iintro ⟨H0, H1, H2⟩
  ihave H := he $$ []
  · iempintro
  ihave H := (ojoin c 2) $$ [H2 H]
  · isplitl [H2]; · iexact H2
    iexact H
  ihave H := (ojoin c 1) $$ [H1 H]
  · isplitl [H1]; · iexact H1
    iexact H
  ihave H := (ojoin c 0) $$ [H0 H]
  · isplitl [H0]; · iexact H0
    iexact H
  iexact H

theorem tok_split (c : Dev nD) (W : S8x14336x2816.Idx → Elt F .fp8e4m3) (k : ℕ) :
    (((tc c).loc main_arg2 ↦[Finset.univ]{Transfers.shareDrop fullShare k} W) : sProp 𝕄)
      ⊣⊢ iprop(((tc c).loc main_arg2 ↦[Finset.univ]{Transfers.shareDrop fullShare (k + 1)} W) ∗ ((tc c).loc main_arg2 ↦[Finset.univ]{tok k} W)) :=
  pointsTo_share (PosShare.mem_left_op_right _)

theorem tok_split_all (c : Dev nD) (W : S8x14336x2816.Idx → Elt F .fp8e4m3) :
    (((tc c).loc main_arg2 ↦[Finset.univ]{fullShare} W) : sProp 𝕄)
      ⊢ iprop(((tc c).loc main_arg2 ↦[Finset.univ]{Transfers.shareDrop fullShare 6} W) ∗ ((tc c).loc main_arg2 ↦[Finset.univ]{tok 0} W) ∗ ((tc c).loc main_arg2 ↦[Finset.univ]{tok 1} W) ∗ ((tc c).loc main_arg2 ↦[Finset.univ]{tok 2} W) ∗ ((tc c).loc main_arg2 ↦[Finset.univ]{tok 3} W) ∗ ((tc c).loc main_arg2 ↦[Finset.univ]{tok 4} W) ∗ ((tc c).loc main_arg2 ↦[Finset.univ]{tok 5} W)) := by
  refine (show (((tc c).loc main_arg2 ↦[Finset.univ]{fullShare} W) : sProp 𝕄) ⊢ ((tc c).loc main_arg2 ↦[Finset.univ]{Transfers.shareDrop fullShare 0} W) from .rfl).trans ?_
  iintro H
  ihave H := (tok_split c W 0).1 $$ H
  icases H with ⟨H, H0⟩
  ihave H := (tok_split c W 1).1 $$ H
  icases H with ⟨H, H1⟩
  ihave H := (tok_split c W 2).1 $$ H
  icases H with ⟨H, H2⟩
  ihave H := (tok_split c W 3).1 $$ H
  icases H with ⟨H, H3⟩
  ihave H := (tok_split c W 4).1 $$ H
  icases H with ⟨H, H4⟩
  ihave H := (tok_split c W 5).1 $$ H
  icases H with ⟨H, H5⟩
  isplitl [H]; · iexact H
  isplitl [H0]; · iexact H0
  isplitl [H1]; · iexact H1
  isplitl [H2]; · iexact H2
  isplitl [H3]; · iexact H3
  isplitl [H4]; · iexact H4
  iexact H5

theorem tok_join_all (c : Dev nD) (W : S8x14336x2816.Idx → Elt F .fp8e4m3) :
    iprop(((tc c).loc main_arg2 ↦[Finset.univ]{Transfers.shareDrop fullShare 6} W) ∗ ((tc c).loc main_arg2 ↦[Finset.univ]{tok 0} W) ∗ ((tc c).loc main_arg2 ↦[Finset.univ]{tok 1} W) ∗ ((tc c).loc main_arg2 ↦[Finset.univ]{tok 2} W) ∗ ((tc c).loc main_arg2 ↦[Finset.univ]{tok 3} W) ∗ ((tc c).loc main_arg2 ↦[Finset.univ]{tok 4} W) ∗ ((tc c).loc main_arg2 ↦[Finset.univ]{tok 5} W))
      ⊢ (((tc c).loc main_arg2 ↦[Finset.univ]{fullShare} W) : sProp 𝕄) := by
  refine BIBase.Entails.trans ?_ (show ((tc c).loc main_arg2 ↦[Finset.univ]{Transfers.shareDrop fullShare 0} W) ⊢ (((tc c).loc main_arg2 ↦[Finset.univ]{fullShare} W) : sProp 𝕄) from .rfl)
  iintro ⟨H, H0, H1, H2, H3, H4, H5⟩
  ihave H := (tok_split c W 5).2 $$ [H H5]
  · isplitl [H]; · iexact H
    iexact H5
  ihave H := (tok_split c W 4).2 $$ [H H4]
  · isplitl [H]; · iexact H
    iexact H4
  ihave H := (tok_split c W 3).2 $$ [H H3]
  · isplitl [H]; · iexact H
    iexact H3
  ihave H := (tok_split c W 2).2 $$ [H H2]
  · isplitl [H]; · iexact H
    iexact H2
  ihave H := (tok_split c W 1).2 $$ [H H1]
  · isplitl [H]; · iexact H
    iexact H1
  ihave H := (tok_split c W 0).2 $$ [H H0]
  · isplitl [H]; · iexact H
    iexact H0
  iexact H

/-- The weight slots at the start. -/
theorem WFree_start (c : Dev nD) (W : S8x14336x2816.Idx → Elt F .fp8e4m3) (f6 : S6x2048x2816.Idx → Elt F .fp8e4m3) :
    iprop(((tc c).loc main_arg2 ↦[Finset.univ]{fullShare} W) ∗ ((tc c).loc cc0_scratch6 ↦[Finset.univ]{fullShare} f6) ∗ semVal (tc c, .dma (Fin.ofNat 13 3)) 0 ∗ semVal (tc c, .dma (Fin.ofNat 13 4)) 0 ∗ semVal (tc c, .dma (Fin.ofNat 13 5)) 0 ∗ semVal (tc c, .dma (Fin.ofNat 13 6)) 0 ∗ semVal (tc c, .dma (Fin.ofNat 13 7)) 0 ∗ semVal (tc c, .dma (Fin.ofNat 13 8)) 0)
      ⊢ (iprop(((tc c).loc main_arg2 ↦[Finset.univ]{Transfers.shareDrop fullShare 6} W) ∗ WFree c W 0 ∗ WFree c W 1 ∗ WFree c W 2 ∗ WFree c W 3 ∗ WFree c W 4 ∗ WFree c W 5) : sProp 𝕄) := by
  iintro ⟨HW, Hf, Hm3, Hm4, Hm5, Hm6, Hm7, Hm8⟩
  ihave HW := (tok_split_all c W) $$ HW
  icases HW with ⟨HW, Ht0, Ht1, Ht2, Ht3, Ht4, Ht5⟩
  ihave Hf := (wsplit_all c f6) $$ Hf
  icases Hf with ⟨Hw0, Hw1, Hw2, Hw3, Hw4, Hw5⟩
  isplitl [HW]; · iexact HW
  isplitl [Hw0 Hm3 Ht0]
  · unfold WFree
    isplitl [Hw0]; · iexact Hw0
    isplitl [Hm3]; · iexact Hm3
    iexact Ht0
  isplitl [Hw1 Hm4 Ht1]
  · unfold WFree
    isplitl [Hw1]; · iexact Hw1
    isplitl [Hm4]; · iexact Hm4
    iexact Ht1
  isplitl [Hw2 Hm5 Ht2]
  · unfold WFree
    isplitl [Hw2]; · iexact Hw2
    isplitl [Hm5]; · iexact Hm5
    iexact Ht2
  isplitl [Hw3 Hm6 Ht3]
  · unfold WFree
    isplitl [Hw3]; · iexact Hw3
    isplitl [Hm6]; · iexact Hm6
    iexact Ht3
  isplitl [Hw4 Hm7 Ht4]
  · unfold WFree
    isplitl [Hw4]; · iexact Hw4
    isplitl [Hm7]; · iexact Hm7
    iexact Ht4
  · unfold WFree
    isplitl [Hw5]; · iexact Hw5
    isplitl [Hm8]; · iexact Hm8
    iexact Ht5

/-- The weight slots at the end. -/
theorem WFree_end (c : Dev nD) (W : S8x14336x2816.Idx → Elt F .fp8e4m3) :
    iprop(((tc c).loc main_arg2 ↦[Finset.univ]{Transfers.shareDrop fullShare 6} W) ∗ WFree c W 0 ∗ WFree c W 1 ∗ WFree c W 2 ∗ WFree c W 3 ∗ WFree c W 4 ∗ WFree c W 5)
      ⊢ (iprop(((tc c).loc main_arg2 ↦[Finset.univ]{fullShare} W) ∗ (∃ f, ((tc c).loc cc0_scratch6 ↦[Finset.univ]{fullShare} f)) ∗ semVal (tc c, .dma (Fin.ofNat 13 3)) 0 ∗ semVal (tc c, .dma (Fin.ofNat 13 4)) 0 ∗ semVal (tc c, .dma (Fin.ofNat 13 5)) 0 ∗ semVal (tc c, .dma (Fin.ofNat 13 6)) 0 ∗ semVal (tc c, .dma (Fin.ofNat 13 7)) 0 ∗ semVal (tc c, .dma (Fin.ofNat 13 8)) 0) : sProp 𝕄) := by
  unfold WFree
  iintro ⟨HW, ⟨Hw0, Hm0, Ht0⟩, ⟨Hw1, Hm1, Ht1⟩, ⟨Hw2, Hm2, Ht2⟩, ⟨Hw3, Hm3, Ht3⟩, ⟨Hw4, Hm4, Ht4⟩, ⟨Hw5, Hm5, Ht5⟩⟩
  isplitl [HW Ht0 Ht1 Ht2 Ht3 Ht4 Ht5]
  · iapply (tok_join_all c W)
    isplitl [HW]; · iexact HW
    isplitl [Ht0]; · iexact Ht0
    isplitl [Ht1]; · iexact Ht1
    isplitl [Ht2]; · iexact Ht2
    isplitl [Ht3]; · iexact Ht3
    isplitl [Ht4]; · iexact Ht4
    iexact Ht5
  isplitl [Hw0 Hw1 Hw2 Hw3 Hw4 Hw5]
  · iapply (wjoin_all c)
    isplitl [Hw0]; · iexact Hw0
    isplitl [Hw1]; · iexact Hw1
    isplitl [Hw2]; · iexact Hw2
    isplitl [Hw3]; · iexact Hw3
    isplitl [Hw4]; · iexact Hw4
    iexact Hw5
  isplitl [Hm0]; · iexact Hm0
  isplitl [Hm1]; · iexact Hm1
  isplitl [Hm2]; · iexact Hm2
  isplitl [Hm3]; · iexact Hm3
  isplitl [Hm4]; · iexact Hm4
  iexact Hm5

/-- The output slots at the start. -/
theorem OFree_start (c : Dev nD) (f7 : S3x32x2048.Idx → Elt F .bf16) :
    iprop(((tc c).loc cc0_scratch7 ↦[Finset.univ]{fullShare} f7) ∗ semVal (tc c, .dma (Fin.ofNat 13 9)) 0 ∗ semVal (tc c, .dma (Fin.ofNat 13 10)) 0 ∗ semVal (tc c, .dma (Fin.ofNat 13 11)) 0)
      ⊢ (iprop(OFree (F := F) c 0 ∗ OFree (F := F) c 1 ∗ OFree (F := F) c 2) : sProp 𝕄) := by
  iintro ⟨Hf, Hm0, Hm1, Hm2⟩
  ihave Hf := (osplit_all c f7) $$ Hf
  icases Hf with ⟨Hw0, Hw1, Hw2⟩
  unfold OFree
  isplitl [Hw0 Hm0]
  · isplitl [Hw0]; · iexact Hw0
    iexact Hm0
  isplitl [Hw1 Hm1]
  · isplitl [Hw1]; · iexact Hw1
    iexact Hm1
  · isplitl [Hw2]; · iexact Hw2
    iexact Hm2

/-- The output slots at the end. -/
theorem OFree_end (c : Dev nD) :
    iprop(OFree (F := F) c 0 ∗ OFree (F := F) c 1 ∗ OFree (F := F) c 2)
      ⊢ (iprop((∃ f, ((tc c).loc cc0_scratch7 ↦[Finset.univ]{fullShare} f)) ∗ semVal (tc c, .dma (Fin.ofNat 13 9)) 0 ∗ semVal (tc c, .dma (Fin.ofNat 13 10)) 0 ∗ semVal (tc c, .dma (Fin.ofNat 13 11)) 0) : sProp 𝕄) := by
  unfold OFree
  iintro ⟨⟨Hw0, Hm0⟩, ⟨Hw1, Hm1⟩, ⟨Hw2, Hm2⟩⟩
  isplitl [Hw0 Hw1 Hw2]
  · iapply (ojoin_all c)
    isplitl [Hw0]; · iexact Hw0
    isplitl [Hw1]; · iexact Hw1
    iexact Hw2
  isplitl [Hm0]; · iexact Hm0
  isplitl [Hm1]; · iexact Hm1
  iexact Hm2

end slots

section body
variable (c : Dev nD) (gs : S8.Idx → BitVec 32) (gw : ℕ → BitVec 32)

set_option maxHeartbeats 8000000 in
theorem wp_part13 (hgw : ∀ i, gw i = gs (mk S8 ![i])) (X : S8x32x2816.Idx → Elt F .bf16) (WS : S8x14336.Idx → Elt F .f32)
    (W : S8x14336x2816.Idx → Elt F .fp8e4m3) (G V : S8x32x14336.Idx → Elt F .bf16)
    (hG : ∀ e < 8, 0 < (gw e).toInt → ∀ b < 7, ∀ z, Bl gw X WS W e b z = G (mk S8x32x14336 ![e, (z 1 : ℕ), 2048 * b + (z 2 : ℕ)]))
    (hz : ∀ i : S8x32x14336.Idx, ¬ 0 < (gw (i 0 : ℕ)).toInt → G i = Scalar.ofBits .bf16 0x0000#16)
    (f0 : S8.Idx → BitVec 32) (f1 : S9.Idx → BitVec 32) (f2 : S8x32x2816.Idx → Elt F .bf16) (f3 : S8x14336.Idx → Elt F .f32)
    (f4 : S32x2816.Idx → Elt F .fp8e4m3) (f5 : S32x128.Idx → Elt F .f32) (f8 : S32x14336.Idx → Elt F .bf16) {Q} :
    iprop(((tc c).loc main_arg1 ↦[Finset.univ]{fullShare} gs) ∗ ((tc c).loc cc0_scratch0 ↦[Finset.univ]{fullShare} f0) ∗ semVal (tc c, .dma (Fin.ofNat 13 0)) 0 ∗ ((tc c).loc main_arg0 ↦[Finset.univ]{fullShare} X) ∗ ((tc c).loc cc0_scratch2 ↦[Finset.univ]{fullShare} f2) ∗ semVal (tc c, .dma (Fin.ofNat 13 1)) 0 ∗ ((tc c).loc main_arg3 ↦[Finset.univ]{fullShare} WS) ∗ ((tc c).loc cc0_scratch3 ↦[Finset.univ]{fullShare} f3) ∗ semVal (tc c, .dma (Fin.ofNat 13 2)) 0 ∗ LL c f1 ∗ ((tc c).loc cc0_scratch4 ↦[Finset.univ]{fullShare} f4) ∗ ((tc c).loc cc0_scratch5 ↦[Finset.univ]{fullShare} f5) ∗ ((tc c).loc cc0_scratch8 ↦[Finset.univ]{fullShare} f8) ∗ semVal (tc c, .dma (Fin.ofNat 13 12)) 0 ∗ WFree c W 0 ∗ WFree c W 1 ∗ WFree c W 2 ∗ WFree c W 3 ∗ WFree c W 4 ∗ WFree c W 5 ∗ OFree (F := F) c 0 ∗ OFree (F := F) c 1 ∗ OFree (F := F) c 2 ∗ RG c gw V 0 56 ∗ RG c gw V 56 64 ∗ Ow c)
      ⊢ iprop((iprop(((tc c).loc main_arg1 ↦[Finset.univ]{fullShare} gs) ∗ ((tc c).loc cc0_scratch0 ↦[Finset.univ]{fullShare} gs) ∗ semVal (tc c, .dma (Fin.ofNat 13 0)) 0 ∗ ((tc c).loc main_arg0 ↦[Finset.univ]{fullShare} X) ∗ ((tc c).loc cc0_scratch2 ↦[Finset.univ]{fullShare} X) ∗ semVal (tc c, .dma (Fin.ofNat 13 1)) 0 ∗ ((tc c).loc main_arg3 ↦[Finset.univ]{fullShare} WS) ∗ ((tc c).loc cc0_scratch3 ↦[Finset.univ]{fullShare} WS) ∗ semVal (tc c, .dma (Fin.ofNat 13 2)) 0 ∗ (∃ f, LL c f) ∗ XQ c gw X (7 * cnt gw 8) ∗ ((tc c).loc cc0_scratch8 ↦[Finset.univ]{Transfers.shareDrop fullShare (dn gw 8)} (k0_pay19 (F := F))) ∗ (WFree c W 0 ∗ WFree c W 1 ∗ WFree c W 2 ∗ WFree c W 3 ∗ WFree c W 4 ∗ WFree c W 5) ∗ (OFree (F := F) c 0 ∗ OFree (F := F) c 1 ∗ OFree (F := F) c 2) ∗ RG c gw G 0 56 ∗ ZW c gw G 7)
          -∗ Q (Scalar.extui (Scalar.cmpi .sle (gw 7) 0#32)))
        -∗ wp frame (wpE (defs₀ (F := F)) Variants.none (tc c) none) Set.univ (k0_part13 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  have hn := nlw_eq gw
  have h8 : cnt gw 8 < 9 := by have := cnt_le gw 8; omega
  rw [k0_part13_eq_skeleton]
  unfold k0_part13_skel
  dsimp only
  iintro ⟨Ha1, Hg, Hm0, Ha0, Hx, Hm1, Ha3, Hs, Hm2, HL, Hq, Hf5, Hf8, Hm12, HW0, HW1, HW2, HW3, HW4, HW5, HF0, HF1, HF2, HV, HV2, HO⟩ Hk
  rw [wp_bind]
  iapply (wp_part9 c gs gw hgw f1 X WS f0 f2 f3 (chk5 gw)) $$ [Ha1 Hg Hm0 Ha0 Hx Hm1 Ha3 Hs Hm2 HL HO]
  · isplitl [Ha1]; · iexact Ha1
    isplitl [Hg]; · iexact Hg
    isplitl [Hm0]; · iexact Hm0
    isplitl [Ha0]; · iexact Ha0
    isplitl [Hx]; · iexact Hx
    isplitl [Hm1]; · iexact Hm1
    isplitl [Ha3]; · iexact Ha3
    isplitl [Hs]; · iexact Hs
    isplitl [Hm2]; · iexact Hm2
    isplitl [HL]; · iexact HL
    iexact HO
  iintro %v28 ⟨Ha1, Hg, Hm0, HX, HS, ⟨%L0, HL, %hL0⟩, HO⟩
  dsimp only
  rw [wp_bind]
  iapply (wp_part10 c gs gw hgw L0 hL0 W (chk5 gw) v28 (chk13 (gw 0) (gw 1) (gw 2) (gw 3) (gw 4) (gw 5) (gw 6) (gw 7) hn h8)) $$ [Hg HL HW0 HW1 HW2 HW3]
  · isplitl [Hg]; · iexact Hg
    isplitl [HL]; · iexact HL
    isplitl [HW0]; · iexact HW0
    isplitl [HW1]; · iexact HW1
    isplitl [HW2]; · iexact HW2
    iexact HW3
  iintro %v47 ⟨Hg, ⟨%L, HL, %hL⟩, HW0, HW1, HW2, HW3⟩
  dsimp only
  rw [wp_bind]
  iapply (wp_part11 c gs gw hgw L hL X WS W G V f8 hz v47 4#32) $$ [Hg HL HW4 HX HS Hf8 Hm12 HV2 HO]
  · isplitl [Hg]; · iexact Hg
    isplitl [HL]; · iexact HL
    isplitl [HW4]; · iexact HW4
    isplitl [HX]; · iexact HX
    isplitl [HS]; · iexact HS
    isplitl [Hf8]; · iexact Hf8
    isplitl [Hm12]; · iexact Hm12
    isplitl [HV2]; · iexact HV2
    iexact HO
  iintro ⟨Hg, HL, HW4, ⟨Hx, Ha0, Hm1⟩, ⟨Hs, Ha3, Hm2⟩, HZ, HO⟩
  rw [wp_bind]
  ihave HQ := (show iprop(((tc c).loc cc0_scratch4 ↦[Finset.univ]{fullShare} f4) ∗ ((tc c).loc cc0_scratch5 ↦[Finset.univ]{fullShare} f5)) ⊢ (XQ c gw X 0 : sProp 𝕄) from by
    unfold XQ
    iintro ⟨H1, H2⟩
    iexists f4
    iexists f5
    isplitl [H1]; · iexact H1
    isplitl [H2]; · iexact H2
    ipureintro
    intro h
    omega) $$ [Hq Hf5]
  · isplitl [Hq]; · iexact Hq
    iexact Hf5
  iapply (wp_part12 c gs gw hgw L hL X WS W G V hG hz (chk13 (gw 0) (gw 1) (gw 2) (gw 3) (gw 4) (gw 5) (gw 6) (gw 7) hn h8) v47) $$ [Hg HL Hx Hs HQ HW0 HW1 HW2 HW3 HW4 HW5 HF0 HF1 HF2 HV HZ HO]
  · isplitl [Hg]; · iexact Hg
    isplitl [HL]; · iexact HL
    isplitl [Hx]; · iexact Hx
    isplitl [Hs]; · iexact Hs
    isplitl [HQ]; · iexact HQ
    isplitl [HW0]; · iexact HW0
    isplitl [HW1]; · iexact HW1
    isplitl [HW2]; · iexact HW2
    isplitl [HW3]; · iexact HW3
    isplitl [HW4]; · iexact HW4
    isplitl [HW5]; · iexact HW5
    isplitl [HF0]; · iexact HF0
    isplitl [HF1]; · iexact HF1
    isplitl [HF2]; · iexact HF2
    isplitl [HV]; · iexact HV
    isplitl [HZ]; · iexact HZ
    iexact HO
  iintro ⟨Hg, HL, Hx, Hs, HQ, HW, HF, HG, HZ, HO⟩
  ihave HZ := (show ZS c gw G V 8 ⊢ (iprop(BT c gw G (dn gw 8) 0 ∗ RG c gw V (56 + dn gw 8) 64
      ∗ ((tc c).loc cc0_scratch8 ↦[Finset.univ]{Transfers.shareDrop fullShare (dn gw 8)} (k0_pay19 (F := F)))) : sProp 𝕄) from .rfl) $$ HZ
  icases HZ with ⟨HB, -, H8⟩
  ihave HZ := (show iprop(BT c gw G (dn gw 8) 0 ∗ Ow c) ⊢ (ZW c gw G 0 : sProp 𝕄) from by
    unfold ZW
    rw [show dn gw 0 = 0 from rfl, Nat.zero_mul]) $$ [HB HO]
  · isplitl [HB]; · iexact HB
    iexact HO
  iapply (wp_zwt c gw G 0 (by omega)) $$ HZ
  iintro HZ
  iapply (wp_ldG c gs 1 rfl (by omega)) $$ Hg
  iintro Hg
  rw [← hgw 1]
  iapply (wp_zwt c gw G 1 (by omega)) $$ HZ
  iintro HZ
  iapply (wp_ldG c gs 2 rfl (by omega)) $$ Hg
  iintro Hg
  rw [← hgw 2]
  iapply (wp_zwt c gw G 2 (by omega)) $$ HZ
  iintro HZ
  iapply (wp_ldG c gs 3 rfl (by omega)) $$ Hg
  iintro Hg
  rw [← hgw 3]
  iapply (wp_zwt c gw G 3 (by omega)) $$ HZ
  iintro HZ
  iapply (wp_ldG c gs 4 rfl (by omega)) $$ Hg
  iintro Hg
  rw [← hgw 4]
  iapply (wp_zwt c gw G 4 (by omega)) $$ HZ
  iintro HZ
  iapply (wp_ldG c gs 5 rfl (by omega)) $$ Hg
  iintro Hg
  rw [← hgw 5]
  iapply (wp_zwt c gw G 5 (by omega)) $$ HZ
  iintro HZ
  iapply (wp_ldG c gs 6 rfl (by omega)) $$ Hg
  iintro Hg
  rw [← hgw 6]
  iapply (wp_zwt c gw G 6 (by omega)) $$ HZ
  iintro HZ
  iapply (wp_ldG c gs 7 rfl (by omega)) $$ Hg
  iintro Hg
  rw [← hgw 7]
  iapply le_wp_ret
  iapply Hk
  isplitl [Ha1]; · iexact Ha1
  isplitl [Hg]; · iexact Hg
  isplitl [Hm0]; · iexact Hm0
  isplitl [Ha0]; · iexact Ha0
  isplitl [Hx]; · iexact Hx
  isplitl [Hm1]; · iexact Hm1
  isplitl [Ha3]; · iexact Ha3
  isplitl [Hs]; · iexact Hs
  isplitl [Hm2]; · iexact Hm2
  isplitl [HL]
  · iexists L
    iexact HL
  isplitl [HQ]; · iexact HQ
  isplitl [H8]; · iexact H8
  isplitl [HW]; · iexact HW
  isplitl [HF]; · iexact HF
  isplitl [HG]; · iexact HG
  iexact HZ

set_option maxHeartbeats 8000000 in
/-- The kernel's body: from the four arguments, the result's buffer and the scratch at anything and every
    semaphore at zero, to the result at `G`, everything else handed back. -/
theorem wp_kernel (hgw : ∀ i, gw i = gs (mk S8 ![i])) (X : S8x32x2816.Idx → Elt F .bf16) (WS : S8x14336.Idx → Elt F .f32)
    (W : S8x14336x2816.Idx → Elt F .fp8e4m3) (G V : S8x32x14336.Idx → Elt F .bf16)
    (hG : ∀ e < 8, 0 < (gw e).toInt → ∀ b < 7, ∀ z, Bl gw X WS W e b z = G (mk S8x32x14336 ![e, (z 1 : ℕ), 2048 * b + (z 2 : ℕ)]))
    (hz : ∀ i : S8x32x14336.Idx, ¬ 0 < (gw (i 0 : ℕ)).toInt → G i = Scalar.ofBits .bf16 0x0000#16)
    (f0 : S8.Idx → BitVec 32) (f1 : S9.Idx → BitVec 32) (f2 : S8x32x2816.Idx → Elt F .bf16) (f3 : S8x14336.Idx → Elt F .f32)
    (f4 : S32x2816.Idx → Elt F .fp8e4m3) (f5 : S32x128.Idx → Elt F .f32) (f6 : S6x2048x2816.Idx → Elt F .fp8e4m3)
    (f7 : S3x32x2048.Idx → Elt F .bf16) (f8 : S32x14336.Idx → Elt F .bf16) {Q} :
    iprop(((tc c).loc main_arg0 ↦[Finset.univ]{fullShare} X) ∗ ((tc c).loc main_arg1 ↦[Finset.univ]{fullShare} gs) ∗ ((tc c).loc main_arg2 ↦[Finset.univ]{fullShare} W) ∗ ((tc c).loc main_arg3 ↦[Finset.univ]{fullShare} WS) ∗ ((tc c).loc main_v0 ↦[Finset.univ]{fullShare} V) ∗ ((tc c).loc cc0_scratch0 ↦[Finset.univ]{fullShare} f0) ∗ ((tc c).loc cc0_scratch1 ↦[Finset.univ]{fullShare} f1) ∗ ((tc c).loc cc0_scratch2 ↦[Finset.univ]{fullShare} f2) ∗ ((tc c).loc cc0_scratch3 ↦[Finset.univ]{fullShare} f3) ∗ ((tc c).loc cc0_scratch4 ↦[Finset.univ]{fullShare} f4) ∗ ((tc c).loc cc0_scratch5 ↦[Finset.univ]{fullShare} f5) ∗ ((tc c).loc cc0_scratch6 ↦[Finset.univ]{fullShare} f6) ∗ ((tc c).loc cc0_scratch7 ↦[Finset.univ]{fullShare} f7) ∗ ((tc c).loc cc0_scratch8 ↦[Finset.univ]{fullShare} f8) ∗ semVal (tc c, .dma (Fin.ofNat 13 0)) 0 ∗ semVal (tc c, .dma (Fin.ofNat 13 1)) 0 ∗ semVal (tc c, .dma (Fin.ofNat 13 2)) 0 ∗ semVal (tc c, .dma (Fin.ofNat 13 3)) 0 ∗ semVal (tc c, .dma (Fin.ofNat 13 4)) 0 ∗ semVal (tc c, .dma (Fin.ofNat 13 5)) 0 ∗ semVal (tc c, .dma (Fin.ofNat 13 6)) 0 ∗ semVal (tc c, .dma (Fin.ofNat 13 7)) 0 ∗ semVal (tc c, .dma (Fin.ofNat 13 8)) 0 ∗ semVal (tc c, .dma (Fin.ofNat 13 9)) 0 ∗ semVal (tc c, .dma (Fin.ofNat 13 10)) 0 ∗ semVal (tc c, .dma (Fin.ofNat 13 11)) 0 ∗ semVal (tc c, .dma (Fin.ofNat 13 12)) 0 ∗ Ow c)
      ⊢ iprop((iprop(((tc c).loc main_arg0 ↦[Finset.univ]{fullShare} X) ∗ ((tc c).loc main_arg1 ↦[Finset.univ]{fullShare} gs) ∗ ((tc c).loc main_arg2 ↦[Finset.univ]{fullShare} W) ∗ ((tc c).loc main_arg3 ↦[Finset.univ]{fullShare} WS) ∗ ((tc c).loc main_v0 ↦[Finset.univ]{fullShare} G) ∗ (∃ f, ((tc c).loc cc0_scratch0 ↦[Finset.univ]{fullShare} f)) ∗ (∃ f, ((tc c).loc cc0_scratch1 ↦[Finset.univ]{fullShare} f)) ∗ (∃ f, ((tc c).loc cc0_scratch2 ↦[Finset.univ]{fullShare} f)) ∗ (∃ f, ((tc c).loc cc0_scratch3 ↦[Finset.univ]{fullShare} f)) ∗ (∃ f, ((tc c).loc cc0_scratch4 ↦[Finset.univ]{fullShare} f)) ∗ (∃ f, ((tc c).loc cc0_scratch5 ↦[Finset.univ]{fullShare} f)) ∗ (∃ f, ((tc c).loc cc0_scratch6 ↦[Finset.univ]{fullShare} f)) ∗ (∃ f, ((tc c).loc cc0_scratch7 ↦[Finset.univ]{fullShare} f)) ∗ (∃ f, ((tc c).loc cc0_scratch8 ↦[Finset.univ]{fullShare} f)) ∗ semVal (tc c, .dma (Fin.ofNat 13 0)) 0 ∗ semVal (tc c, .dma (Fin.ofNat 13 1)) 0 ∗ semVal (tc c, .dma (Fin.ofNat 13 2)) 0 ∗ semVal (tc c, .dma (Fin.ofNat 13 3)) 0 ∗ semVal (tc c, .dma (Fin.ofNat 13 4)) 0 ∗ semVal (tc c, .dma (Fin.ofNat 13 5)) 0 ∗ semVal (tc c, .dma (Fin.ofNat 13 6)) 0 ∗ semVal (tc c, .dma (Fin.ofNat 13 7)) 0 ∗ semVal (tc c, .dma (Fin.ofNat 13 8)) 0 ∗ semVal (tc c, .dma (Fin.ofNat 13 9)) 0 ∗ semVal (tc c, .dma (Fin.ofNat 13 10)) 0 ∗ semVal (tc c, .dma (Fin.ofNat 13 11)) 0 ∗ semVal (tc c, .dma (Fin.ofNat 13 12)) 0 ∗ Ow c)
          -∗ Q ⟨⟩)
        -∗ wp frame (wpE (defs₀ (F := F)) Variants.none (tc c) none) Set.univ (cc0_grouped_fp8 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  simp only [cc0_grouped_fp8_eq_skeleton]
  unfold cc0_grouped_fp8_skel
  dsimp only
  iintro ⟨Ha0, Ha1, Ha2, Ha3, HV, H0, H1, H2, H3, H4, H5, H6, H7, H8, Hm0, Hm1, Hm2, Hm3, Hm4, Hm5, Hm6, Hm7, Hm8, Hm9, Hm10, Hm11, Hm12, HO⟩ Hk
  ihave HW := (WFree_start c W f6) $$ [Ha2 H6 Hm3 Hm4 Hm5 Hm6 Hm7 Hm8]
  · isplitl [Ha2]; · iexact Ha2
    isplitl [H6]; · iexact H6
    isplitl [Hm3]; · iexact Hm3
    isplitl [Hm4]; · iexact Hm4
    isplitl [Hm5]; · iexact Hm5
    isplitl [Hm6]; · iexact Hm6
    isplitl [Hm7]; · iexact Hm7
    iexact Hm8
  icases HW with ⟨Ha2, HW0, HW1, HW2, HW3, HW4, HW5⟩
  ihave HF := (OFree_start c f7) $$ [H7 Hm9 Hm10 Hm11]
  · isplitl [H7]; · iexact H7
    isplitl [Hm9]; · iexact Hm9
    isplitl [Hm10]; · iexact Hm10
    iexact Hm11
  icases HF with ⟨HF0, HF1, HF2⟩
  ihave HV := (show ((tc c).loc main_v0 ↦[Finset.univ]{fullShare} V) ⊢ (RG c gw V 0 64 : sProp 𝕄) from by
    unfold RG
    rw [Reg_all]) $$ HV
  ihave HV := (RG_split c gw V (a := 0) (m := 56) (b := 64) (by omega) (by omega)) $$ HV
  icases HV with ⟨HV, HV2⟩
  rw [wp_bind]
  iapply (wp_part13 c gs gw hgw X WS W G V hG hz f0 f1 f2 f3 f4 f5 f8) $$ [Ha1 H0 Hm0 Ha0 H2 Hm1 Ha3 H3 Hm2 H1 H4 H5 H8 Hm12 HW0 HW1 HW2 HW3 HW4 HW5 HF0 HF1 HF2 HV HV2 HO]
  · isplitl [Ha1]; · iexact Ha1
    isplitl [H0]; · iexact H0
    isplitl [Hm0]; · iexact Hm0
    isplitl [Ha0]; · iexact Ha0
    isplitl [H2]; · iexact H2
    isplitl [Hm1]; · iexact Hm1
    isplitl [Ha3]; · iexact Ha3
    isplitl [H3]; · iexact H3
    isplitl [Hm2]; · iexact Hm2
    isplitl [H1]; · iexact H1
    isplitl [H4]; · iexact H4
    isplitl [H5]; · iexact H5
    isplitl [H8]; · iexact H8
    isplitl [Hm12]; · iexact Hm12
    isplitl [HW0]; · iexact HW0
    isplitl [HW1]; · iexact HW1
    isplitl [HW2]; · iexact HW2
    isplitl [HW3]; · iexact HW3
    isplitl [HW4]; · iexact HW4
    isplitl [HW5]; · iexact HW5
    isplitl [HF0]; · iexact HF0
    isplitl [HF1]; · iexact HF1
    isplitl [HF2]; · iexact HF2
    isplitl [HV]; · iexact HV
    isplitl [HV2]; · iexact HV2
    iexact HO
  iintro ⟨Ha1, H0, Hm0, Ha0, H2, Hm1, Ha3, H3, Hm2, H1, HQ, H8, HW, HF, HG, HZ⟩
  iapply (wp_zwt c gw G 7 (by omega)) $$ HZ
  iintro HZ
  ihave HE := (ZW_end c gw G) $$ [HZ H8]
  · isplitl [HZ]; · iexact HZ
    iexact H8
  imod HE with ⟨HG2, H8, Hm12, HO⟩
  ihave HG := (RG_join c gw G (a := 0) (m := 56) (b := 64) (by omega) (by omega)) $$ [HG HG2]
  · isplitl [HG]; · iexact HG
    iexact HG2
  ihave HG := (show (RG c gw G 0 64 : sProp 𝕄) ⊢ ((tc c).loc main_v0 ↦[Finset.univ]{fullShare} G) from by
    unfold RG
    rw [Reg_all]) $$ HG
  ihave HW := (WFree_end c W) $$ [Ha2 HW]
  · isplitl [Ha2]; · iexact Ha2
    iexact HW
  icases HW with ⟨Ha2, H6, Hm3, Hm4, Hm5, Hm6, Hm7, Hm8⟩
  ihave HF := (OFree_end c) $$ HF
  icases HF with ⟨H7, Hm9, Hm10, Hm11⟩
  ihave HQ := (show XQ c gw X (7 * cnt gw 8) ⊢ (iprop((∃ f, ((tc c).loc cc0_scratch4 ↦[Finset.univ]{fullShare} f)) ∗ (∃ f, ((tc c).loc cc0_scratch5 ↦[Finset.univ]{fullShare} f))) : sProp 𝕄) from by
    unfold XQ
    iintro ⟨%fq, %fs, H1, H2, -⟩
    isplitl [H1]
    · iexists fq
      iexact H1
    iexists fs
    iexact H2) $$ HQ
  icases HQ with ⟨H4, H5⟩
  icases H1 with ⟨%g1, H1⟩
  iapply le_wp_ret
  iapply Hk
  isplitl [Ha0]; · iexact Ha0
  isplitl [Ha1]; · iexact Ha1
  isplitl [Ha2]; · iexact Ha2
  isplitl [Ha3]; · iexact Ha3
  isplitl [HG]; · iexact HG
  isplitl [H0]
  · iexists gs
    iexact H0
  isplitl [H1]
  · iexists g1
    iexact H1
  isplitl [H2]
  · iexists X
    iexact H2
  isplitl [H3]
  · iexists WS
    iexact H3
  isplitl [H4]; · iexact H4
  isplitl [H5]; · iexact H5
  isplitl [H6]; · iexact H6
  isplitl [H7]; · iexact H7
  isplitl [H8]
  · iexists _
    iexact H8
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  iexact HO

end body

end Cert.Kernel.Hand

end

end
-- ==== Proof.Final.lean ====
module

public import proofs.«01_k».proof.Proof.Body
public import Idealize.ShloMosaic.Lib.Pipeline.FrameBody
public import Idealize.ShloMosaic.Lib.Pipeline.FrameValue
public import proofs.«01_k».proof.Proof.Count
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## What the kernel leaves -/

/-- The number of rows of group `i`. -/
def gwOf (gs : S8.Idx → BitVec 32) (i : ℕ) : BitVec 32 := gs (mk S8 ![i])

/-- The kernel's result: block by block what a trip computes for an expert that has rows, zero for the others. -/
def Res (gs : S8.Idx → BitVec 32) (X : S8x32x2816.Idx → Elt F .bf16) (WS : S8x14336.Idx → Elt F .f32)
    (W : S8x14336x2816.Idx → Elt F .fp8e4m3) (i : S8x32x14336.Idx) : Elt F .bf16 :=
  if 0 < (gwOf gs (i 0)).toInt then Bl (gwOf gs) X WS W (i 0) ((i 2 : ℕ) / 2048) (mk S1x32x2048 ![0, (i 1 : ℕ), (i 2 : ℕ) % 2048])
  else Scalar.ofBits .bf16 0x0000#16

theorem Res_live (gs : S8.Idx → BitVec 32) (X : S8x32x2816.Idx → Elt F .bf16) (WS : S8x14336.Idx → Elt F .f32)
    (W : S8x14336x2816.Idx → Elt F .fp8e4m3) :
    ∀ e < 8, 0 < (gwOf gs e).toInt → ∀ b < 7, ∀ z, Bl (gwOf gs) X WS W e b z = Res gs X WS W (mk S8x32x14336 ![e, (z 1 : ℕ), 2048 * b + (z 2 : ℕ)]) := by
  intro e he hg b hb z
  have hz0 : (z 0 : ℕ) < 1 := (z 0).isLt
  have hz1 : (z 1 : ℕ) < 32 := (z 1).isLt
  have hz2 : (z 2 : ℕ) < 2048 := (z 2).isLt
  have h0 : ((mk S8x32x14336 ![e, (z 1 : ℕ), 2048 * b + (z 2 : ℕ)]) 0 : ℕ) = e := mk_val S8x32x14336 ![e, (z 1 : ℕ), 2048 * b + (z 2 : ℕ)] _ 0 he
  have h1 : ((mk S8x32x14336 ![e, (z 1 : ℕ), 2048 * b + (z 2 : ℕ)]) 1 : ℕ) = (z 1 : ℕ) := mk_val S8x32x14336 ![e, (z 1 : ℕ), 2048 * b + (z 2 : ℕ)] _ 1 hz1
  have h2 : ((mk S8x32x14336 ![e, (z 1 : ℕ), 2048 * b + (z 2 : ℕ)]) 2 : ℕ) = 2048 * b + (z 2 : ℕ) :=
    mk_val S8x32x14336 ![e, (z 1 : ℕ), 2048 * b + (z 2 : ℕ)] _ 2 (show 2048 * b + (z 2 : ℕ) < 14336 by omega)
  unfold Res
  rw [h0, h1, h2, if_pos hg, show (2048 * b + (z 2 : ℕ)) / 2048 = b by omega, show (2048 * b + (z 2 : ℕ)) % 2048 = (z 2 : ℕ) by omega]
  congr 1
  exact eq_mk S1x32x2048 _ _ z fun a => by
    fin_cases a
    · show (z 0 : ℕ) = 0
      omega
    · rfl
    · rfl

theorem Res_dead (gs : S8.Idx → BitVec 32) (X : S8x32x2816.Idx → Elt F .bf16) (WS : S8x14336.Idx → Elt F .f32)
    (W : S8x14336x2816.Idx → Elt F .fp8e4m3) :
    ∀ i : S8x32x14336.Idx, ¬ 0 < (gwOf gs (i 0 : ℕ)).toInt → Res gs X WS W i = Scalar.ofBits .bf16 0x0000#16 := by
  intro i h
  unfold Res
  rw [if_neg h]

/-! ## The launch -/

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The result on core `c`. -/
def resOf (c : Dev nD) : Buf (Elt F) ((c : Thread nD τ).loc main_v0) :=
  Res (V m c main_arg1) (V m c main_arg0) (V m c main_arg3) (V m c main_arg2)

/-- Every buffer after the run. -/
def after (c : Dev nD) : (b : Ref sig .tc) → Buf (Elt F) ((c : Thread nD τ).loc b) :=
  Function.update (V m c) main_v0 (resOf m c)

theorem after_v0 (c : Dev nD) : after m c main_v0 = resOf m c := Function.update_self ..

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's thirteen cells. -/
abbrev osem0 : Fin 13 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 13 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7, 8, 9, 10, 11, 12] (by decide) (by decide)]; rfl

def H0 : Finset (Ref sig .tc) := {main_arg0, main_arg1, main_arg2, main_arg3}
theorem H0_sub : H0 ⊆ Pipeline.restRefs sig cfg0.spec := by decide
theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)) := by
  rw [BI.bigSep_eq_bigSepL_of_eq [main_arg0, main_arg1, main_arg2, main_arg3] (by decide) (by decide)]; rfl

def R0 : Finset (Ref sig .tc) := {main_v0}
theorem R0_sub : R0 ⊆ Pipeline.restRefs sig cfg0.spec \ H0 := by decide
theorem routed0_eq (c : Dev nD) (G : (b : Ref sig .tc) → Buf (Elt F) ((c : Thread nD τ).loc b)) :
    (Pipeline.routed R0 c G : sProp 𝕄) = (((c : Thread nD τ).loc main_v0) ↦{fullShare} G main_v0) := by
  unfold Pipeline.routed; rw [BI.bigSep_eq_bigSepL_of_eq [main_v0] (by decide) (by decide)]; rfl

theorem Phi_eq (c : Dev nD) (G : (c : Dev nD) → (b : Ref sig .tc) → Buf (Elt F) ((c : Thread nD τ).loc b)) :
    (Pipeline.ΦDRG osem0 cfg0.spec H0 R0 (V m) G c : sProp 𝕄)
      = iprop(iprop((∃ f : Buf (Elt F) ((c : Thread nD τ).loc cc0_scratch2), (((c : Thread nD τ).loc cc0_scratch2) ↦{fullShare} f)) ∗ (∃ f : Buf (Elt F) ((c : Thread nD τ).loc cc0_scratch3), (((c : Thread nD τ).loc cc0_scratch3) ↦{fullShare} f)) ∗ (∃ f : Buf (Elt F) ((c : Thread nD τ).loc cc0_scratch4), (((c : Thread nD τ).loc cc0_scratch4) ↦{fullShare} f)) ∗ (∃ f : Buf (Elt F) ((c : Thread nD τ).loc cc0_scratch5), (((c : Thread nD τ).loc cc0_scratch5) ↦{fullShare} f)) ∗ (∃ f : Buf (Elt F) ((c : Thread nD τ).loc cc0_scratch6), (((c : Thread nD τ).loc cc0_scratch6) ↦{fullShare} f)) ∗ (∃ f : Buf (Elt F) ((c : Thread nD τ).loc cc0_scratch7), (((c : Thread nD τ).loc cc0_scratch7) ↦{fullShare} f)) ∗ (∃ f : Buf (Elt F) ((c : Thread nD τ).loc cc0_scratch8), (((c : Thread nD τ).loc cc0_scratch8) ↦{fullShare} f)) ∗ (∃ f : Buf (Elt F) ((c : Thread nD τ).loc cc0_scratch0), (((c : Thread nD τ).loc cc0_scratch0) ↦{fullShare} f)) ∗ (∃ f : Buf (Elt F) ((c : Thread nD τ).loc cc0_scratch1), (((c : Thread nD τ).loc cc0_scratch1) ↦{fullShare} f)))
      ∗ (∃ r, prngReg c r)
      ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3))
      ∗ (((c : Thread nD τ).loc main_v0) ↦{fullShare} G c main_v0)) := by
  rw [Pipeline.ΦDRG_eq, scopedRest0_eq, ownSems00_eq, hbmPts0_eq, routed0_eq]

/-- The proof data of the one region: nothing staged, the body's invariant at the launch contents before the one
    point and at the result after it. -/
def dats (_ : Fin 1) (c : Dev nD) : Dat τ (Elt F) Unit ℕ (Pipeline.UD sig nD τ) ℕ cfg0 c where
  A w := V m c (Pipeline.arrRef cfg0.spec w)
  after w t := w.elim0
  Φ t := if (t : ℕ) = 0 then Pipeline.ΦDRG osem0 cfg0.spec H0 R0 (V m) (V m) c else Pipeline.ΦDRG osem0 cfg0.spec H0 R0 (V m) (after m) c
  q _ := fullShare
  owed _ := 0

theorem Phi_pre (c : Dev nD) (t : Fin cfg0.N) : (dats m 0 c).Φ t.castSucc = Pipeline.ΦDRG osem0 cfg0.spec H0 R0 (V m) (V m) c := by
  have h : ((t.castSucc : Fin (cfg0.N + 1)) : ℕ) = 0 := by rw [fin_N0 t]; rfl
  dsimp only [dats]
  rw [if_pos h]
theorem Phi_post (c : Dev nD) (t : Fin cfg0.N) : (dats m 0 c).Φ t.succ = Pipeline.ΦDRG osem0 cfg0.spec H0 R0 (V m) (after m) c := by
  have h : ((t.succ : Fin (cfg0.N + 1)) : ℕ) ≠ 0 := by simp
  dsimp only [dats]
  rw [if_neg h]

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, Phi_eq, Phi_eq, after_v0]
  unfold Dat.owesAt Pipeline.owesWithin
  rw [show (dats m 0 c).owed t.castSucc = 0 from rfl, show (dats m 0 c).owed t.succ = 0 from rfl]
  iintro ⟨⟨⟨⟨%f2, H2⟩, ⟨%f3, H3⟩, ⟨%f4, H4⟩, ⟨%f5, H5⟩, ⟨%f6, H6⟩, ⟨%f7, H7⟩, ⟨%f8, H8⟩, ⟨%f0, H0⟩, ⟨%f1, H1⟩⟩, Hp, ⟨Hm0, Hm1, Hm2, Hm3, Hm4, Hm5, Hm6, Hm7, Hm8, Hm9, Hm10, Hm11, Hm12⟩, ⟨Ha0, Ha1, Ha2, Ha3⟩, Hv⟩, ⟨%W, -, HO⟩, -⟩
  ihave HO := (show owes (c : Thread nD τ) 0 W ⊢ (Ow c : sProp 𝕄) from Ow_intro c W) $$ HO
  iapply (wp_kernel c (V m c main_arg1) (gwOf (V m c main_arg1)) (fun _ => rfl) (V m c main_arg0) (V m c main_arg3) (V m c main_arg2)
    (resOf m c) (V m c main_v0) (Res_live _ _ _ _) (Res_dead _ _ _ _) f0 f1 f2 f3 f4 f5 f6 f7 f8) $$ [Ha0 Ha1 Ha2 Ha3 Hv H0 H1 H2 H3 H4 H5 H6 H7 H8 Hm0 Hm1 Hm2 Hm3 Hm4 Hm5 Hm6 Hm7 Hm8 Hm9 Hm10 Hm11 Hm12 HO]
  · isplitl [Ha0]; · iexact Ha0
    isplitl [Ha1]; · iexact Ha1
    isplitl [Ha2]; · iexact Ha2
    isplitl [Ha3]; · iexact Ha3
    isplitl [Hv]; · iexact Hv
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    iexact HO
  iintro ⟨Ha0, Ha1, Ha2, Ha3, Hv, H0, H1, H2, H3, H4, H5, H6, H7, H8, Hm0, Hm1, Hm2, Hm3, Hm4, Hm5, Hm6, Hm7, Hm8, Hm9, Hm10, Hm11, Hm12, HO⟩
  isplitl [Ha0 Ha1 Ha2 Ha3 Hv H0 H1 H2 H3 H4 H5 H6 H7 H8 Hm0 Hm1 Hm2 Hm3 Hm4 Hm5 Hm6 Hm7 Hm8 Hm9 Hm10 Hm11 Hm12 Hp]
  · isplitl [H2 H3 H4 H5 H6 H7 H8 H0 H1]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H0]; · iexact H0
      iexact H1
    isplitl [Hp]; · iexact Hp
    isplitl [Hm0 Hm1 Hm2 Hm3 Hm4 Hm5 Hm6 Hm7 Hm8 Hm9 Hm10 Hm11 Hm12]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      iexact Hm12
    isplitl [Ha0 Ha1 Ha2 Ha3]
    · isplitl [Ha0]; · iexact Ha0
      isplitl [Ha1]; · iexact Ha1
      isplitl [Ha2]; · iexact Ha2
      iexact Ha3
    iexact Hv
  unfold Ow
  icases HO with ⟨%W', HO⟩
  isplitl [HO]
  · iexists W'; isplitr; · ipureintro; exact fun _ _ => Or.inl trivial
    iexact HO
  iempintro

theorem bigSep_none (Φ : Fin cfg0.W → sProp 𝕄) : bigSep Finset.univ Φ = iprop(emp) := by
  rw [show (Finset.univ : Finset (Fin cfg0.W)) = ∅ from Finset.univ_eq_empty, BI.bigSep_empty]
  rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

set_option backward.isDefEq.respectTransparency.types false in
theorem run_main : θ_run defs (onTc (τ := τ) (main (F := F))) (s₀ m ρ) (fun r => Pipeline.FramePostRG cfgs (dats m) 0 R0 (V m) (after m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0) (G := after m)
    (hin := fun c => Entails.of_eq (Phi_pre m c t0_0).symm) (hout := fun c => Entails.of_eq (Phi_post m c t0_0))

/-- The run: the result in the result's buffer, the arguments unchanged, every semaphore at zero. -/
theorem run_value : θ_run defs (onTc (τ := τ) (main (F := F))) ⟨m, fun _ => 0, ρ⟩ (fun r => (∀ c : Dev nD,
      r.2.mem ((c.tc : Thread nD τ).loc main_v0) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.2 c main_v0 (by decide)).trans (after_v0 m c),
      (h.1.1 c).2 main_arg0 (Finset.mem_sdiff.mpr ⟨Pipeline.mem_restRefs_of main_arg0 (by decide) (by decide), by decide⟩),
      (h.1.1 c).2 main_arg1 (Finset.mem_sdiff.mpr ⟨Pipeline.mem_restRefs_of main_arg1 (by decide) (by decide), by decide⟩),
      (h.1.1 c).2 main_arg2 (Finset.mem_sdiff.mpr ⟨Pipeline.mem_restRefs_of main_arg2 (by decide) (by decide), by decide⟩),
      (h.1.1 c).2 main_arg3 (Finset.mem_sdiff.mpr ⟨Pipeline.mem_restRefs_of main_arg3 (by decide) (by decide), by decide⟩)⟩, h.2⟩) (run_main m ρ)

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_value m ρ)

end Cert.Kernel.Hand

end

end
-- ==== Proof.Ideal.Words.lean ====
module

public import proofs.«01_k».proof.KernelIdeal
public import Idealize.ShloMosaic.Lib.Tactic
import Mathlib.Tactic.IntervalCases

set_option maxRecDepth 100000

@[expose] public section

noncomputable section

namespace Cert.KernelIdeal.Hand

open Cert.KernelIdeal Idealize.ShloMosaic

/-- The number of live experts, as the word the kernel sums. -/
def nlw (v1 v7 v13 v19 v25 v31 v37 v43 : BitVec 32) : BitVec 32 :=
  (Scalar.addi (Scalar.addi (Scalar.addi (Scalar.addi (Scalar.addi (Scalar.addi (Scalar.addi (Scalar.addi 0#32 (Scalar.extui (Scalar.cmpi .sgt v1 0#32))) (Scalar.extui (Scalar.cmpi .sgt v7 0#32))) (Scalar.extui (Scalar.cmpi .sgt v13 0#32))) (Scalar.extui (Scalar.cmpi .sgt v19 0#32))) (Scalar.extui (Scalar.cmpi .sgt v25 0#32))) (Scalar.extui (Scalar.cmpi .sgt v31 0#32))) (Scalar.extui (Scalar.cmpi .sgt v37 0#32))) (Scalar.extui (Scalar.cmpi .sgt v43 0#32)))

theorem nlw_def (v1 v7 v13 v19 v25 v31 v37 v43 : BitVec 32) : nlw v1 v7 v13 v19 v25 v31 v37 v43 = (Scalar.addi (Scalar.addi (Scalar.addi (Scalar.addi (Scalar.addi (Scalar.addi (Scalar.addi (Scalar.addi 0#32 (Scalar.extui (Scalar.cmpi .sgt v1 0#32))) (Scalar.extui (Scalar.cmpi .sgt v7 0#32))) (Scalar.extui (Scalar.cmpi .sgt v13 0#32))) (Scalar.extui (Scalar.cmpi .sgt v19 0#32))) (Scalar.extui (Scalar.cmpi .sgt v25 0#32))) (Scalar.extui (Scalar.cmpi .sgt v31 0#32))) (Scalar.extui (Scalar.cmpi .sgt v37 0#32))) (Scalar.extui (Scalar.cmpi .sgt v43 0#32))) := rfl

section
variable (v1 v7 v13 v19 v25 v31 v37 v43 : BitVec 32) (t1 : Fin (k0_t1_loop v1 v7 v13 v19 v25 v31 v37 v43).trips)

theorem off28 (ht : t1.val < 56) : k0_off28 v1 v7 v13 v19 v25 v31 v37 v43 t1 = ![t1.val / 7] := by
  obtain ⟨t, h⟩ := t1
  dsimp only [k0_off28] at ht ⊢
  clear h
  revert t
  decide

theorem off29 (ht : t1.val < 56) : k0_off29 v1 v7 v13 v19 v25 v31 v37 v43 t1 = ![(t1.val + 5) / 7] := by
  obtain ⟨t, h⟩ := t1
  dsimp only [k0_off29] at ht ⊢
  clear h
  revert t
  decide

theorem off30 (ht : t1.val < 56) : k0_off30 v1 v7 v13 v19 v25 v31 v37 v43 t1 = ![(t1.val + 5) % 6] := by
  obtain ⟨t, h⟩ := t1
  dsimp only [k0_off30] at ht ⊢
  clear h
  revert t
  decide

theorem off31 (ht : t1.val < 56) : k0_off31 v1 v7 v13 v19 v25 v31 v37 v43 t1 = ![(t1.val + 5) % 6, 0, 0] := by
  obtain ⟨t, h⟩ := t1
  dsimp only [k0_off31] at ht ⊢
  clear h
  revert t
  decide

theorem off42 (ht : t1.val < 56) : k0_off42 v1 v7 v13 v19 v25 v31 v37 v43 t1 = ![t1.val / 7] := by
  obtain ⟨t, h⟩ := t1
  dsimp only [k0_off42] at ht ⊢
  clear h
  revert t
  decide

theorem off43 (ht : t1.val < 56) : k0_off43 v1 v7 v13 v19 v25 v31 v37 v43 t1 = ![t1.val % 6] := by
  obtain ⟨t, h⟩ := t1
  dsimp only [k0_off43] at ht ⊢
  clear h
  revert t
  decide

theorem off44 (ht : t1.val < 56) : k0_off44 v1 v7 v13 v19 v25 v31 v37 v43 t1 = ![t1.val % 6, 0, 0] := by
  obtain ⟨t, h⟩ := t1
  dsimp only [k0_off44] at ht ⊢
  clear h
  revert t
  decide

theorem off46 (ht : t1.val < 56) : k0_off46 v1 v7 v13 v19 v25 v31 v37 v43 t1 = ![t1.val % 6, 0, 0] := by
  obtain ⟨t, h⟩ := t1
  dsimp only [k0_off46] at ht ⊢
  clear h
  revert t
  decide

theorem off49 (ht : t1.val < 56) : k0_off49 v1 v7 v13 v19 v25 v31 v37 v43 t1 = ![t1.val % 3, 0, 0] := by
  obtain ⟨t, h⟩ := t1
  dsimp only [k0_off49] at ht ⊢
  clear h
  revert t
  decide

theorem off33 (ht : t1.val < 56) (hl : 1 ≤ t1.val) : k0_off33 v1 v7 v13 v19 v25 v31 v37 v43 t1 = ![(t1.val - 1) / 7] := by
  obtain ⟨t, h⟩ := t1
  dsimp only [k0_off33] at ht hl ⊢
  clear h
  revert t
  decide

theorem off34 (ht : t1.val < 56) (hl : 1 ≤ t1.val) : k0_off34 v1 v7 v13 v19 v25 v31 v37 v43 t1 = ![(t1.val - 1) % 3] := by
  obtain ⟨t, h⟩ := t1
  dsimp only [k0_off34] at ht hl ⊢
  clear h
  revert t
  decide

theorem off36 (ht : t1.val < 56) (hl : 1 ≤ t1.val) : k0_off36 v1 v7 v13 v19 v25 v31 v37 v43 t1 = ![(t1.val - 1) % 3, 0, 0] := by
  obtain ⟨t, h⟩ := t1
  dsimp only [k0_off36] at ht hl ⊢
  clear h
  revert t
  decide

theorem off37 (ht : t1.val < 56) (hl : 3 ≤ t1.val) : k0_off37 v1 v7 v13 v19 v25 v31 v37 v43 t1 = ![(t1.val - 3) / 7] := by
  obtain ⟨t, h⟩ := t1
  dsimp only [k0_off37] at ht hl ⊢
  clear h
  revert t
  decide

theorem off38 (ht : t1.val < 56) (hl : 3 ≤ t1.val) : k0_off38 v1 v7 v13 v19 v25 v31 v37 v43 t1 = ![(t1.val - 3) % 3] := by
  obtain ⟨t, h⟩ := t1
  dsimp only [k0_off38] at ht hl ⊢
  clear h
  revert t
  decide

theorem off40 (ht : t1.val < 56) (hl : 3 ≤ t1.val) : k0_off40 v1 v7 v13 v19 v25 v31 v37 v43 t1 = ![(t1.val - 3) % 3, 0, 0] := by
  obtain ⟨t, h⟩ := t1
  dsimp only [k0_off40] at ht hl ⊢
  clear h
  revert t
  decide

theorem off32 (w : BitVec 32) (ht : t1.val < 56) (hl : 0 ≤ t1.val) : k0_off32 v1 v7 v13 v19 v25 v31 v37 v43 t1 w = ![w.toNat, 2048 * ((t1.val + 5) % 7), 0] := by
  obtain ⟨t, h⟩ := t1
  dsimp only [k0_off32] at ht hl ⊢
  clear h
  refine congrArg (fun z => ![w.toNat, z, 0]) ?_
  revert t
  decide

theorem off35 (w : BitVec 32) (ht : t1.val < 56) (hl : 1 ≤ t1.val) : k0_off35 v1 v7 v13 v19 v25 v31 v37 v43 t1 w = ![w.toNat, 0, 2048 * ((t1.val - 1) % 7)] := by
  obtain ⟨t, h⟩ := t1
  dsimp only [k0_off35] at ht hl ⊢
  clear h
  refine congrArg (fun z => ![w.toNat, 0, z]) ?_
  revert t
  decide

theorem off39 (w : BitVec 32) (ht : t1.val < 56) (hl : 3 ≤ t1.val) : k0_off39 v1 v7 v13 v19 v25 v31 v37 v43 t1 w = ![w.toNat, 0, 2048 * ((t1.val - 3) % 7)] := by
  obtain ⟨t, h⟩ := t1
  dsimp only [k0_off39] at ht hl ⊢
  clear h
  refine congrArg (fun z => ![w.toNat, 0, z]) ?_
  revert t
  decide

theorem off45 (w : BitVec 32) (ht : t1.val < 56) (hl : 0 ≤ t1.val) : k0_off45 v1 v7 v13 v19 v25 v31 v37 v43 t1 w = ![w.toNat, 2048 * (t1.val % 7), 0] := by
  obtain ⟨t, h⟩ := t1
  dsimp only [k0_off45] at ht hl ⊢
  clear h
  refine congrArg (fun z => ![w.toNat, z, 0]) ?_
  revert t
  decide

theorem off47 (w : BitVec 32) (ht : t1.val < 56) (hl : 0 ≤ t1.val) : k0_off47 v1 v7 v13 v19 v25 v31 v37 v43 t1 w = ![w.toNat, 2048 * (t1.val % 7)] := by
  obtain ⟨t, h⟩ := t1
  dsimp only [k0_off47] at ht hl ⊢
  clear h
  refine congrArg (fun z => ![w.toNat, z]) ?_
  revert t
  decide

theorem off41 (w : BitVec 32) : k0_off41 w = ![w.toNat, 0, 0] := rfl
theorem off48 (w : BitVec 32) : k0_off48 w = ![w.toNat] := rfl
theorem cond15 (ht : t1.val < 56) : k0_cond15 v1 v7 v13 v19 v25 v31 v37 v43 t1 = 1#1 ↔ 1 ≤ t1.val := by
  obtain ⟨t, h⟩ := t1
  dsimp only [k0_cond15] at ht ⊢
  clear h
  revert t
  decide
theorem cond16 (ht : t1.val < 56) : k0_cond16 v1 v7 v13 v19 v25 v31 v37 v43 t1 = 1#1 ↔ 3 ≤ t1.val := by
  obtain ⟨t, h⟩ := t1
  dsimp only [k0_cond16] at ht ⊢
  clear h
  revert t
  decide
theorem cond17 (ht : t1.val < 56) : k0_cond17 v1 v7 v13 v19 v25 v31 v37 v43 t1 = 1#1 ↔ t1.val % 7 = 0 := by
  obtain ⟨t, h⟩ := t1
  dsimp only [k0_cond17] at ht ⊢
  clear h
  revert t
  decide
theorem cond14 {n : ℕ} (hn : nlw v1 v7 v13 v19 v25 v31 v37 v43 = BitVec.ofNat 32 n) (h8 : n < 9) (ht : t1.val < 56) :
    k0_cond14 v1 v7 v13 v19 v25 v31 v37 v43 t1 = 1#1 ↔ t1.val + 5 < 7 * n := by
  obtain ⟨t, h⟩ := t1
  dsimp only [k0_cond14] at ht ⊢
  rw [← nlw_def, hn]
  clear h hn
  revert n t
  decide

theorem off8 : k0_off8 = ![0] := by decide
theorem off9 : k0_off9 = ![0] := by decide
theorem off10 : k0_off10 = ![0, 0, 0] := by decide
theorem off11 (w : BitVec 32) : k0_off11 w = ![w.toNat, 0, 0] := rfl

theorem off12 : k0_off12 = ![0] := by decide
theorem off13 : k0_off13 = ![1] := by decide
theorem off14 : k0_off14 = ![1, 0, 0] := by decide
theorem off15 (w : BitVec 32) : k0_off15 w = ![w.toNat, 2048, 0] := rfl

theorem off16 : k0_off16 = ![0] := by decide
theorem off17 : k0_off17 = ![2] := by decide
theorem off18 : k0_off18 = ![2, 0, 0] := by decide
theorem off19 (w : BitVec 32) : k0_off19 w = ![w.toNat, 4096, 0] := rfl

theorem off20 : k0_off20 = ![0] := by decide
theorem off21 : k0_off21 = ![3] := by decide
theorem off22 : k0_off22 = ![3, 0, 0] := by decide
theorem off23 (w : BitVec 32) : k0_off23 w = ![w.toNat, 6144, 0] := rfl

theorem off24 : k0_off24 = ![0] := by decide
theorem off25 : k0_off25 = ![4] := by decide
theorem off26 : k0_off26 = ![4, 0, 0] := by decide
theorem off27 (w : BitVec 32) : k0_off27 w = ![w.toNat, 8192, 0] := rfl

theorem cond1 {n : ℕ} (hn : nlw v1 v7 v13 v19 v25 v31 v37 v43 = BitVec.ofNat 32 n) (h8 : n < 9) :
    k0_cond1 v1 v7 v13 v19 v25 v31 v37 v43 = 1#1 ↔ 0 < 7 * n := by
  dsimp only [k0_cond1]
  rw [← nlw_def, hn]
  clear hn
  revert n
  decide

theorem cond2 {n : ℕ} (hn : nlw v1 v7 v13 v19 v25 v31 v37 v43 = BitVec.ofNat 32 n) (h8 : n < 9) :
    k0_cond2 v1 v7 v13 v19 v25 v31 v37 v43 = 1#1 ↔ 1 < 7 * n := by
  dsimp only [k0_cond2]
  rw [← nlw_def, hn]
  clear hn
  revert n
  decide

theorem cond3 {n : ℕ} (hn : nlw v1 v7 v13 v19 v25 v31 v37 v43 = BitVec.ofNat 32 n) (h8 : n < 9) :
    k0_cond3 v1 v7 v13 v19 v25 v31 v37 v43 = 1#1 ↔ 2 < 7 * n := by
  dsimp only [k0_cond3]
  rw [← nlw_def, hn]
  clear hn
  revert n
  decide

theorem cond4 {n : ℕ} (hn : nlw v1 v7 v13 v19 v25 v31 v37 v43 = BitVec.ofNat 32 n) (h8 : n < 9) :
    k0_cond4 v1 v7 v13 v19 v25 v31 v37 v43 = 1#1 ↔ 3 < 7 * n := by
  dsimp only [k0_cond4]
  rw [← nlw_def, hn]
  clear hn
  revert n
  decide

theorem cond5 {n : ℕ} (hn : nlw v1 v7 v13 v19 v25 v31 v37 v43 = BitVec.ofNat 32 n) (h8 : n < 9) :
    k0_cond5 v1 v7 v13 v19 v25 v31 v37 v43 = 1#1 ↔ 4 < 7 * n := by
  dsimp only [k0_cond5]
  rw [← nlw_def, hn]
  clear hn
  revert n
  decide

theorem cond22 {n : ℕ} (hn : nlw v1 v7 v13 v19 v25 v31 v37 v43 = BitVec.ofNat 32 n) (h8 : n < 9) :
    k0_cond22 v1 v7 v13 v19 v25 v31 v37 v43 = 1#1 ↔ 0 < 7 * n := by
  dsimp only [k0_cond22]
  rw [← nlw_def, hn]
  clear hn
  revert n
  decide

theorem cond23 {n : ℕ} (hn : nlw v1 v7 v13 v19 v25 v31 v37 v43 = BitVec.ofNat 32 n) (h8 : n < 9) :
    k0_cond23 v1 v7 v13 v19 v25 v31 v37 v43 = 1#1 ↔ 0 < 7 * n := by
  dsimp only [k0_cond23]
  rw [← nlw_def, hn]
  clear hn
  revert n
  decide

theorem cond24 {n : ℕ} (hn : nlw v1 v7 v13 v19 v25 v31 v37 v43 = BitVec.ofNat 32 n) (h8 : n < 9) :
    k0_cond24 v1 v7 v13 v19 v25 v31 v37 v43 = 1#1 ↔ 1 < 7 * n := by
  dsimp only [k0_cond24]
  rw [← nlw_def, hn]
  clear hn
  revert n
  decide

theorem cond25 {n : ℕ} (hn : nlw v1 v7 v13 v19 v25 v31 v37 v43 = BitVec.ofNat 32 n) (h8 : n < 9) :
    k0_cond25 v1 v7 v13 v19 v25 v31 v37 v43 = 1#1 ↔ 2 < 7 * n := by
  dsimp only [k0_cond25]
  rw [← nlw_def, hn]
  clear hn
  revert n
  decide

theorem off72 {n : ℕ} (hn : nlw v1 v7 v13 v19 v25 v31 v37 v43 = BitVec.ofNat 32 n) (h8 : n < 9) (h0 : 0 < 7 * n) :
    k0_off72 v1 v7 v13 v19 v25 v31 v37 v43 = ![(7 * n - 1 - 0) / 7] := by
  dsimp only [k0_off72]
  rw [← nlw_def, hn]
  clear hn
  revert n
  decide

theorem off73 {n : ℕ} (hn : nlw v1 v7 v13 v19 v25 v31 v37 v43 = BitVec.ofNat 32 n) (h8 : n < 9) (h0 : 0 < 7 * n) :
    k0_off73 v1 v7 v13 v19 v25 v31 v37 v43 = ![(7 * n - 1 - 0) % 3] := by
  dsimp only [k0_off73]
  rw [← nlw_def, hn]
  clear hn
  revert n
  decide

theorem off74 (w : BitVec 32) {n : ℕ} (hn : nlw v1 v7 v13 v19 v25 v31 v37 v43 = BitVec.ofNat 32 n) (h8 : n < 9) (h0 : 0 < 7 * n) :
    k0_off74 v1 v7 v13 v19 v25 v31 v37 v43 w = ![w.toNat, 0, 2048 * ((7 * n - 1 - 0) % 7)] := by
  dsimp only [k0_off74]
  rw [← nlw_def, hn]
  clear hn
  refine congrArg (fun z => ![w.toNat, 0, z]) ?_
  revert n
  decide

theorem off75 {n : ℕ} (hn : nlw v1 v7 v13 v19 v25 v31 v37 v43 = BitVec.ofNat 32 n) (h8 : n < 9) (h0 : 0 < 7 * n) :
    k0_off75 v1 v7 v13 v19 v25 v31 v37 v43 = ![(7 * n - 1 - 0) % 3, 0, 0] := by
  dsimp only [k0_off75]
  rw [← nlw_def, hn]
  clear hn
  revert n
  decide

theorem off76 {n : ℕ} (hn : nlw v1 v7 v13 v19 v25 v31 v37 v43 = BitVec.ofNat 32 n) (h8 : n < 9) (h0 : 0 < 7 * n) :
    k0_off76 v1 v7 v13 v19 v25 v31 v37 v43 = ![(7 * n - 1 - 0) / 7] := by
  dsimp only [k0_off76]
  rw [← nlw_def, hn]
  clear hn
  revert n
  decide

theorem off77 {n : ℕ} (hn : nlw v1 v7 v13 v19 v25 v31 v37 v43 = BitVec.ofNat 32 n) (h8 : n < 9) (h0 : 0 < 7 * n) :
    k0_off77 v1 v7 v13 v19 v25 v31 v37 v43 = ![(7 * n - 1 - 0) % 3] := by
  dsimp only [k0_off77]
  rw [← nlw_def, hn]
  clear hn
  revert n
  decide

theorem off78 (w : BitVec 32) {n : ℕ} (hn : nlw v1 v7 v13 v19 v25 v31 v37 v43 = BitVec.ofNat 32 n) (h8 : n < 9) (h0 : 0 < 7 * n) :
    k0_off78 v1 v7 v13 v19 v25 v31 v37 v43 w = ![w.toNat, 0, 2048 * ((7 * n - 1 - 0) % 7)] := by
  dsimp only [k0_off78]
  rw [← nlw_def, hn]
  clear hn
  refine congrArg (fun z => ![w.toNat, 0, z]) ?_
  revert n
  decide

theorem off79 {n : ℕ} (hn : nlw v1 v7 v13 v19 v25 v31 v37 v43 = BitVec.ofNat 32 n) (h8 : n < 9) (h0 : 0 < 7 * n) :
    k0_off79 v1 v7 v13 v19 v25 v31 v37 v43 = ![(7 * n - 1 - 0) % 3, 0, 0] := by
  dsimp only [k0_off79]
  rw [← nlw_def, hn]
  clear hn
  revert n
  decide

theorem off80 {n : ℕ} (hn : nlw v1 v7 v13 v19 v25 v31 v37 v43 = BitVec.ofNat 32 n) (h8 : n < 9) (h0 : 1 < 7 * n) :
    k0_off80 v1 v7 v13 v19 v25 v31 v37 v43 = ![(7 * n - 1 - 1) / 7] := by
  dsimp only [k0_off80]
  rw [← nlw_def, hn]
  clear hn
  revert n
  decide

theorem off81 {n : ℕ} (hn : nlw v1 v7 v13 v19 v25 v31 v37 v43 = BitVec.ofNat 32 n) (h8 : n < 9) (h0 : 1 < 7 * n) :
    k0_off81 v1 v7 v13 v19 v25 v31 v37 v43 = ![(7 * n - 1 - 1) % 3] := by
  dsimp only [k0_off81]
  rw [← nlw_def, hn]
  clear hn
  revert n
  decide

theorem off82 (w : BitVec 32) {n : ℕ} (hn : nlw v1 v7 v13 v19 v25 v31 v37 v43 = BitVec.ofNat 32 n) (h8 : n < 9) (h0 : 1 < 7 * n) :
    k0_off82 v1 v7 v13 v19 v25 v31 v37 v43 w = ![w.toNat, 0, 2048 * ((7 * n - 1 - 1) % 7)] := by
  dsimp only [k0_off82]
  rw [← nlw_def, hn]
  clear hn
  refine congrArg (fun z => ![w.toNat, 0, z]) ?_
  revert n
  decide

theorem off83 {n : ℕ} (hn : nlw v1 v7 v13 v19 v25 v31 v37 v43 = BitVec.ofNat 32 n) (h8 : n < 9) (h0 : 1 < 7 * n) :
    k0_off83 v1 v7 v13 v19 v25 v31 v37 v43 = ![(7 * n - 1 - 1) % 3, 0, 0] := by
  dsimp only [k0_off83]
  rw [← nlw_def, hn]
  clear hn
  revert n
  decide

theorem off84 {n : ℕ} (hn : nlw v1 v7 v13 v19 v25 v31 v37 v43 = BitVec.ofNat 32 n) (h8 : n < 9) (h0 : 2 < 7 * n) :
    k0_off84 v1 v7 v13 v19 v25 v31 v37 v43 = ![(7 * n - 1 - 2) / 7] := by
  dsimp only [k0_off84]
  rw [← nlw_def, hn]
  clear hn
  revert n
  decide

theorem off85 {n : ℕ} (hn : nlw v1 v7 v13 v19 v25 v31 v37 v43 = BitVec.ofNat 32 n) (h8 : n < 9) (h0 : 2 < 7 * n) :
    k0_off85 v1 v7 v13 v19 v25 v31 v37 v43 = ![(7 * n - 1 - 2) % 3] := by
  dsimp only [k0_off85]
  rw [← nlw_def, hn]
  clear hn
  revert n
  decide

theorem off86 (w : BitVec 32) {n : ℕ} (hn : nlw v1 v7 v13 v19 v25 v31 v37 v43 = BitVec.ofNat 32 n) (h8 : n < 9) (h0 : 2 < 7 * n) :
    k0_off86 v1 v7 v13 v19 v25 v31 v37 v43 w = ![w.toNat, 0, 2048 * ((7 * n - 1 - 2) % 7)] := by
  dsimp only [k0_off86]
  rw [← nlw_def, hn]
  clear hn
  refine congrArg (fun z => ![w.toNat, 0, z]) ?_
  revert n
  decide

theorem off87 {n : ℕ} (hn : nlw v1 v7 v13 v19 v25 v31 v37 v43 = BitVec.ofNat 32 n) (h8 : n < 9) (h0 : 2 < 7 * n) :
    k0_off87 v1 v7 v13 v19 v25 v31 v37 v43 = ![(7 * n - 1 - 2) % 3, 0, 0] := by
  dsimp only [k0_off87]
  rw [← nlw_def, hn]
  clear hn
  revert n
  decide

theorem trips1 {n : ℕ} (hn : nlw v1 v7 v13 v19 v25 v31 v37 v43 = BitVec.ofNat 32 n) (h8 : n < 9) : (k0_t1_loop v1 v7 v13 v19 v25 v31 v37 v43).trips = 7 * n := by
  dsimp only [k0_t1_loop, Scf.Loop.trips]
  rw [← nlw_def, hn]
  clear hn
  revert n
  decide
theorem trips2 {n : ℕ} (hn : nlw v1 v7 v13 v19 v25 v31 v37 v43 = BitVec.ofNat 32 n) (h8 : n < 9) : (k0_t2_loop v1 v7 v13 v19 v25 v31 v37 v43).trips = 0 := by
  dsimp only [k0_t2_loop, Scf.Loop.trips]
  rw [← nlw_def, hn]
  clear hn
  revert n
  decide
theorem ok1 {n : ℕ} (hn : nlw v1 v7 v13 v19 v25 v31 v37 v43 = BitVec.ofNat 32 n) (h8 : n < 9) : (k0_t1_loop v1 v7 v13 v19 v25 v31 v37 v43).OK := by
  dsimp only [k0_t1_loop, Scf.Loop.OK]
  rw [← nlw_def, hn]
  clear hn
  revert n
  unfold Scf.OK
  decide
theorem ok2 {n : ℕ} (hn : nlw v1 v7 v13 v19 v25 v31 v37 v43 = BitVec.ofNat 32 n) (h8 : n < 9) : (k0_t2_loop v1 v7 v13 v19 v25 v31 v37 v43).OK := by
  dsimp only [k0_t2_loop, Scf.Loop.OK]
  rw [← nlw_def, hn]
  clear hn
  revert n
  unfold Scf.OK
  decide

theorem inb1 {k m : ℕ} (h : k + 1 ≤ m) {off : Fin 1 → ℕ} (e : off = ![k]) : ∀ a : Fin 1, off a + (![1] : Fin 1 → ℕ) a ≤ (![m] : Fin 1 → ℕ) a := by
  subst e; intro a; fin_cases a; exact h
theorem inb2 {a b c d m n : ℕ} (h : a + c ≤ m) (h' : b + d ≤ n) {off : Fin 2 → ℕ} (e : off = ![a, b]) :
    ∀ i : Fin 2, off i + (![c, d] : Fin 2 → ℕ) i ≤ (![m, n] : Fin 2 → ℕ) i := by
  subst e; intro i; fin_cases i; exacts [h, h']
theorem inb3 {a b c x y z l m n : ℕ} (h : a + x ≤ l) (h' : b + y ≤ m) (h'' : c + z ≤ n) {off : Fin 3 → ℕ} (e : off = ![a, b, c]) :
    ∀ i : Fin 3, off i + (![x, y, z] : Fin 3 → ℕ) i ≤ (![l, m, n] : Fin 3 → ℕ) i := by
  subst e; intro i; fin_cases i; exacts [h, h', h'']
theorem pk3 {l m n x y z a b c p : ℕ} {off : Fin 3 → ℕ} (e : off = ![a, b, c]) (hb : p ∣ b) (hy : p ∣ y)
    (hinb : ∀ i : Fin 3, off i + (![x, y, z] : Fin 3 → ℕ) i ≤ (![l, m, n] : Fin 3 → ℕ) i) :
    (Rect.unit (s := ⟨3, ![l, m, n]⟩) off ![x, y, z] hinb).PackedRows p := by
  subst e
  have h2 : 2 ≤ (⟨3, ![l, m, n]⟩ : Shape).rank := by show 2 ≤ 3; decide
  exact .inr ⟨h2, rfl, .inl ⟨hb, hy⟩⟩
theorem ww3 {l m n x y z a b c p : ℕ} {off : Fin 3 → ℕ} (e : off = ![a, b, c]) (hb : p ∣ b) (hy : p ∣ y)
    (hinb : ∀ i : Fin 3, off i + (![x, y, z] : Fin 3 → ℕ) i ≤ (![l, m, n] : Fin 3 → ℕ) i) :
    (Rect.unit (s := ⟨3, ![l, m, n]⟩) off ![x, y, z] hinb).WholeWords p := .inl (pk3 e hb hy hinb)

theorem mult1 (ht : t1.val < 56) : 2048 ∣ (k0_mult1 v1 v7 v13 v19 v25 v31 v37 v43 t1).toNat := by
  obtain ⟨t, h⟩ := t1
  dsimp only [k0_mult1] at ht ⊢
  clear h
  revert t
  decide

theorem chk13 {n : ℕ} (hn : nlw v1 v7 v13 v19 v25 v31 v37 v43 = BitVec.ofNat 32 n) (h8 : n < 9) : k0_chk13 v1 v7 v13 v19 v25 v31 v37 v43 := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  constructor

  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact ok1 v1 v7 v13 v19 v25 v31 v37 v43 hn h8
    · intro t; have ht := lt t; have hT := lt7 t; exact inb1 (by omega) (off28 v1 v7 v13 v19 v25 v31 v37 v43 t (lt t))
    · intro t; have ht := lt t; have hT := lt7 t; intro hc; have hc := (cond14 v1 v7 v13 v19 v25 v31 v37 v43 t hn h8 (lt t)).1 hc; exact inb1 (by omega) (off29 v1 v7 v13 v19 v25 v31 v37 v43 t (lt t))
    · intro t; have ht := lt t; have hT := lt7 t; intro hc; have hc := (cond14 v1 v7 v13 v19 v25 v31 v37 v43 t hn h8 (lt t)).1 hc; exact inb1 (by omega) (off30 v1 v7 v13 v19 v25 v31 v37 v43 t (lt t))
    · intro t; have ht := lt t; have hT := lt7 t; intro hc; have hc := (cond14 v1 v7 v13 v19 v25 v31 v37 v43 t hn h8 (lt t)).1 hc; exact inb3 (by omega) (by omega) (by omega) (off31 v1 v7 v13 v19 v25 v31 v37 v43 t (lt t))
    · intro t; have ht := lt t; have hT := lt7 t; intro hc; have hc := (cond14 v1 v7 v13 v19 v25 v31 v37 v43 t hn h8 (lt t)).1 hc; intro hi; exact ww3 (off31 v1 v7 v13 v19 v25 v31 v37 v43 t (lt t)) (by show (4 : ℕ) ∣ _; omega) (by decide) hi
    · intro t; have ht := lt t; have hT := lt7 t; intro hc; have hc := (cond15 v1 v7 v13 v19 v25 v31 v37 v43 t (lt t)).1 hc; exact inb1 (by omega) (off33 v1 v7 v13 v19 v25 v31 v37 v43 t (lt t) (by omega))
    · intro t; have ht := lt t; have hT := lt7 t; intro hc; have hc := (cond15 v1 v7 v13 v19 v25 v31 v37 v43 t (lt t)).1 hc; exact inb1 (by omega) (off34 v1 v7 v13 v19 v25 v31 v37 v43 t (lt t) (by omega))
    · intro t; have ht := lt t; have hT := lt7 t; intro hc; have hc := (cond15 v1 v7 v13 v19 v25 v31 v37 v43 t (lt t)).1 hc; exact inb3 (by omega) (by omega) (by omega) (off36 v1 v7 v13 v19 v25 v31 v37 v43 t (lt t) (by omega))
    · intro t; have ht := lt t; have hT := lt7 t; intro hc; have hc := (cond15 v1 v7 v13 v19 v25 v31 v37 v43 t (lt t)).1 hc; intro hi; exact ww3 (off36 v1 v7 v13 v19 v25 v31 v37 v43 t (lt t) (by omega)) (by show (2 : ℕ) ∣ _; omega) (by decide) hi
    · intro t; have ht := lt t; have hT := lt7 t; intro hc; have hc := (cond16 v1 v7 v13 v19 v25 v31 v37 v43 t (lt t)).1 hc; exact inb1 (by omega) (off37 v1 v7 v13 v19 v25 v31 v37 v43 t (lt t) (by omega))
    · intro t; have ht := lt t; have hT := lt7 t; intro hc; have hc := (cond16 v1 v7 v13 v19 v25 v31 v37 v43 t (lt t)).1 hc; exact inb1 (by omega) (off38 v1 v7 v13 v19 v25 v31 v37 v43 t (lt t) (by omega))
    · intro t; have ht := lt t; have hT := lt7 t; intro hc; have hc := (cond16 v1 v7 v13 v19 v25 v31 v37 v43 t (lt t)).1 hc; exact inb3 (by omega) (by omega) (by omega) (off40 v1 v7 v13 v19 v25 v31 v37 v43 t (lt t) (by omega))
    · intro t; have ht := lt t; have hT := lt7 t; intro hc; have hc := (cond16 v1 v7 v13 v19 v25 v31 v37 v43 t (lt t)).1 hc; intro hi; exact ww3 (off40 v1 v7 v13 v19 v25 v31 v37 v43 t (lt t) (by omega)) (by show (2 : ℕ) ∣ _; omega) (by decide) hi
    · intro t; have ht := lt t; have hT := lt7 t; exact inb1 (by omega) (off42 v1 v7 v13 v19 v25 v31 v37 v43 t (lt t))
    · intro t; have ht := lt t; have hT := lt7 t; exact inb1 (by omega) (off43 v1 v7 v13 v19 v25 v31 v37 v43 t (lt t))
    · intro t; have ht := lt t; have hT := lt7 t; exact inb3 (by omega) (by omega) (by omega) (off44 v1 v7 v13 v19 v25 v31 v37 v43 t (lt t))
    · intro t; have ht := lt t; have hT := lt7 t; intro hi; exact ww3 (off44 v1 v7 v13 v19 v25 v31 v37 v43 t (lt t)) (by show (4 : ℕ) ∣ _; omega) (by decide) hi
    · intro t; have ht := lt t; have hT := lt7 t; exact inb3 (by omega) (by omega) (by omega) (off46 v1 v7 v13 v19 v25 v31 v37 v43 t (lt t))
    · intro t; have ht := lt t; have hT := lt7 t; exact mult1 _ _ _ _ _ _ _ _ t (lt t)
    · intro t; have ht := lt t; have hT := lt7 t; exact inb3 (by omega) (by omega) (by omega) (off49 v1 v7 v13 v19 v25 v31 v37 v43 t (lt t))
    · intro t; have ht := lt t; have hT := lt7 t; intro hi; exact pk3 (off49 v1 v7 v13 v19 v25 v31 v37 v43 t (lt t)) (by show (2 : ℕ) ∣ _; omega) (by decide) hi
    · exact ok2 v1 v7 v13 v19 v25 v31 v37 v43 hn h8
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
  · refine ⟨?_, ?_, ?_, ?_, ?_, ?_, ?_, ?_, ?_, ?_, ?_, ?_, ?_, ?_, ?_, ?_, ?_, ?_, ?_, ?_, ?_, ?_, ?_, ?_, ?_, ?_, ?_, ?_⟩
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro t; exact (Fin.cast (trips2 v1 v7 v13 v19 v25 v31 v37 v43 hn h8) t).elim0
    · intro hc; have hc := (cond22 v1 v7 v13 v19 v25 v31 v37 v43 hn h8).1 hc; exact inb1 (by omega) (off72 v1 v7 v13 v19 v25 v31 v37 v43 hn h8 (by omega))
    · intro hc; have hc := (cond22 v1 v7 v13 v19 v25 v31 v37 v43 hn h8).1 hc; exact inb1 (by omega) (off73 v1 v7 v13 v19 v25 v31 v37 v43 hn h8 (by omega))
    · intro hc; have hc := (cond22 v1 v7 v13 v19 v25 v31 v37 v43 hn h8).1 hc; exact inb3 (by omega) (by omega) (by omega) (off75 v1 v7 v13 v19 v25 v31 v37 v43 hn h8 (by omega))
    · intro hc; have hc := (cond22 v1 v7 v13 v19 v25 v31 v37 v43 hn h8).1 hc; intro hi; exact ww3 (off75 v1 v7 v13 v19 v25 v31 v37 v43 hn h8 (by omega)) (by show (2 : ℕ) ∣ _; omega) (by decide) hi
    · intro hc; have hc := (cond23 v1 v7 v13 v19 v25 v31 v37 v43 hn h8).1 hc; exact inb1 (by omega) (off76 v1 v7 v13 v19 v25 v31 v37 v43 hn h8 (by omega))
    · intro hc; have hc := (cond23 v1 v7 v13 v19 v25 v31 v37 v43 hn h8).1 hc; exact inb1 (by omega) (off77 v1 v7 v13 v19 v25 v31 v37 v43 hn h8 (by omega))
    · intro hc; have hc := (cond23 v1 v7 v13 v19 v25 v31 v37 v43 hn h8).1 hc; exact inb3 (by omega) (by omega) (by omega) (off79 v1 v7 v13 v19 v25 v31 v37 v43 hn h8 (by omega))
    · intro hc; have hc := (cond23 v1 v7 v13 v19 v25 v31 v37 v43 hn h8).1 hc; intro hi; exact ww3 (off79 v1 v7 v13 v19 v25 v31 v37 v43 hn h8 (by omega)) (by show (2 : ℕ) ∣ _; omega) (by decide) hi
    · intro hc; have hc := (cond24 v1 v7 v13 v19 v25 v31 v37 v43 hn h8).1 hc; exact inb1 (by omega) (off80 v1 v7 v13 v19 v25 v31 v37 v43 hn h8 (by omega))
    · intro hc; have hc := (cond24 v1 v7 v13 v19 v25 v31 v37 v43 hn h8).1 hc; exact inb1 (by omega) (off81 v1 v7 v13 v19 v25 v31 v37 v43 hn h8 (by omega))
    · intro hc; have hc := (cond24 v1 v7 v13 v19 v25 v31 v37 v43 hn h8).1 hc; exact inb3 (by omega) (by omega) (by omega) (off83 v1 v7 v13 v19 v25 v31 v37 v43 hn h8 (by omega))
    · intro hc; have hc := (cond24 v1 v7 v13 v19 v25 v31 v37 v43 hn h8).1 hc; intro hi; exact ww3 (off83 v1 v7 v13 v19 v25 v31 v37 v43 hn h8 (by omega)) (by show (2 : ℕ) ∣ _; omega) (by decide) hi
    · intro hc; have hc := (cond25 v1 v7 v13 v19 v25 v31 v37 v43 hn h8).1 hc; exact inb1 (by omega) (off84 v1 v7 v13 v19 v25 v31 v37 v43 hn h8 (by omega))
    · intro hc; have hc := (cond25 v1 v7 v13 v19 v25 v31 v37 v43 hn h8).1 hc; exact inb1 (by omega) (off85 v1 v7 v13 v19 v25 v31 v37 v43 hn h8 (by omega))
    · intro hc; have hc := (cond25 v1 v7 v13 v19 v25 v31 v37 v43 hn h8).1 hc; exact inb3 (by omega) (by omega) (by omega) (off87 v1 v7 v13 v19 v25 v31 v37 v43 hn h8 (by omega))
    · intro hc; have hc := (cond25 v1 v7 v13 v19 v25 v31 v37 v43 hn h8).1 hc; intro hi; exact ww3 (off87 v1 v7 v13 v19 v25 v31 v37 v43 hn h8 (by omega)) (by show (2 : ℕ) ∣ _; omega) (by decide) hi

theorem chk8 {n : ℕ} (hn : nlw v1 v7 v13 v19 v25 v31 v37 v43 = BitVec.ofNat 32 n) (h8 : n < 9) (w : BitVec 32) (hw : w.toNat < 8) :
    k0_chk8 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond1 v1 v7 v13 v19 v25 v31 v37 v43 hn h8).1 hc; exact inb3 (by omega) (by omega) (by omega) (off11 w)
  · intro hc; have hc := (cond1 v1 v7 v13 v19 v25 v31 v37 v43 hn h8).1 hc; intro hi; exact ww3 (off11 w) (by show (4 : ℕ) ∣ _; omega) (by decide) hi

theorem chk9 {n : ℕ} (hn : nlw v1 v7 v13 v19 v25 v31 v37 v43 = BitVec.ofNat 32 n) (h8 : n < 9) (w : BitVec 32) (hw : w.toNat < 8) :
    k0_chk9 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond2 v1 v7 v13 v19 v25 v31 v37 v43 hn h8).1 hc; exact inb3 (by omega) (by omega) (by omega) (off15 w)
  · intro hc; have hc := (cond2 v1 v7 v13 v19 v25 v31 v37 v43 hn h8).1 hc; intro hi; exact ww3 (off15 w) (by show (4 : ℕ) ∣ _; omega) (by decide) hi

theorem chk10 {n : ℕ} (hn : nlw v1 v7 v13 v19 v25 v31 v37 v43 = BitVec.ofNat 32 n) (h8 : n < 9) (w : BitVec 32) (hw : w.toNat < 8) :
    k0_chk10 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond3 v1 v7 v13 v19 v25 v31 v37 v43 hn h8).1 hc; exact inb3 (by omega) (by omega) (by omega) (off19 w)
  · intro hc; have hc := (cond3 v1 v7 v13 v19 v25 v31 v37 v43 hn h8).1 hc; intro hi; exact ww3 (off19 w) (by show (4 : ℕ) ∣ _; omega) (by decide) hi

theorem chk11 {n : ℕ} (hn : nlw v1 v7 v13 v19 v25 v31 v37 v43 = BitVec.ofNat 32 n) (h8 : n < 9) (w : BitVec 32) (hw : w.toNat < 8) :
    k0_chk11 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond4 v1 v7 v13 v19 v25 v31 v37 v43 hn h8).1 hc; exact inb3 (by omega) (by omega) (by omega) (off23 w)
  · intro hc; have hc := (cond4 v1 v7 v13 v19 v25 v31 v37 v43 hn h8).1 hc; intro hi; exact ww3 (off23 w) (by show (4 : ℕ) ∣ _; omega) (by decide) hi

theorem chk12 {n : ℕ} (hn : nlw v1 v7 v13 v19 v25 v31 v37 v43 = BitVec.ofNat 32 n) (h8 : n < 9) (w : BitVec 32) (hw : w.toNat < 8) :
    k0_chk12 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond5 v1 v7 v13 v19 v25 v31 v37 v43 hn h8).1 hc; exact inb3 (by omega) (by omega) (by omega) (off27 w)
  · intro hc; have hc := (cond5 v1 v7 v13 v19 v25 v31 v37 v43 hn h8).1 hc; intro hi; exact ww3 (off27 w) (by show (4 : ℕ) ∣ _; omega) (by decide) hi

theorem chk14 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk14 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · have ht := lt t; have hT := lt7 t; intro hc; have hc := (cond14 v1 v7 v13 v19 v25 v31 v37 v43 t hn h8 (lt t)).1 hc; exact inb3 (by omega) (by omega) (by omega) (off32 v1 v7 v13 v19 v25 v31 v37 v43 t w (lt t) (by omega))
  · have ht := lt t; have hT := lt7 t; intro hc; have hc := (cond14 v1 v7 v13 v19 v25 v31 v37 v43 t hn h8 (lt t)).1 hc; intro hi; exact ww3 (off32 v1 v7 v13 v19 v25 v31 v37 v43 t w (lt t) (by omega)) (by show (4 : ℕ) ∣ _; omega) (by decide) hi

theorem chk15 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk15 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · have ht := lt t; have hT := lt7 t; intro hc; have hc := (cond15 v1 v7 v13 v19 v25 v31 v37 v43 t (lt t)).1 hc; exact inb3 (by omega) (by omega) (by omega) (off35 v1 v7 v13 v19 v25 v31 v37 v43 t w (lt t) (by omega))
  · have ht := lt t; have hT := lt7 t; intro hc; have hc := (cond15 v1 v7 v13 v19 v25 v31 v37 v43 t (lt t)).1 hc; intro hi; exact ww3 (off35 v1 v7 v13 v19 v25 v31 v37 v43 t w (lt t) (by omega)) (by show (2 : ℕ) ∣ _; omega) (by decide) hi

theorem chk16 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk16 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · have ht := lt t; have hT := lt7 t; intro hc; have hc := (cond16 v1 v7 v13 v19 v25 v31 v37 v43 t (lt t)).1 hc; exact inb3 (by omega) (by omega) (by omega) (off39 v1 v7 v13 v19 v25 v31 v37 v43 t w (lt t) (by omega))
  · have ht := lt t; have hT := lt7 t; intro hc; have hc := (cond16 v1 v7 v13 v19 v25 v31 v37 v43 t (lt t)).1 hc; intro hi; exact ww3 (off39 v1 v7 v13 v19 v25 v31 v37 v43 t w (lt t) (by omega)) (by show (2 : ℕ) ∣ _; omega) (by decide) hi

theorem chk17 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk17 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_, ?_⟩
  · have ht := lt t; have hT := lt7 t; intro hc; have hc := (cond17 v1 v7 v13 v19 v25 v31 v37 v43 t (lt t)).1 hc; exact inb3 (by omega) (by omega) (by omega) (off41 w)
  · have ht := lt t; have hT := lt7 t; exact inb2 (by omega) (by omega) (off47 v1 v7 v13 v19 v25 v31 v37 v43 t w (lt t) (by omega))
  · exact inb1 (by omega) (off48 w)

theorem chk18 {n : ℕ} (hn : nlw v1 v7 v13 v19 v25 v31 v37 v43 = BitVec.ofNat 32 n) (h8 : n < 9) (t : Fin (k0_t1_loop v1 v7 v13 v19 v25 v31 v37 v43).trips) (w : BitVec 32) (hw : w.toNat < 8) :
    k0_chk18 v1 v7 v13 v19 v25 v31 v37 v43 t w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · have ht := lt t; have hT := lt7 t; exact inb3 (by omega) (by omega) (by omega) (off45 v1 v7 v13 v19 v25 v31 v37 v43 t w (lt t) (by omega))
  · have ht := lt t; have hT := lt7 t; intro hi; exact ww3 (off45 v1 v7 v13 v19 v25 v31 v37 v43 t w (lt t) (by omega)) (by show (4 : ℕ) ∣ _; omega) (by decide) hi

theorem chk24 {n : ℕ} (hn : nlw v1 v7 v13 v19 v25 v31 v37 v43 = BitVec.ofNat 32 n) (h8 : n < 9) (w : BitVec 32) (hw : w.toNat < 8) :
    k0_chk24 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond22 v1 v7 v13 v19 v25 v31 v37 v43 hn h8).1 hc; exact inb3 (by omega) (by omega) (by omega) (off74 v1 v7 v13 v19 v25 v31 v37 v43 w hn h8 (by omega))
  · intro hc; have hc := (cond22 v1 v7 v13 v19 v25 v31 v37 v43 hn h8).1 hc; intro hi; exact ww3 (off74 v1 v7 v13 v19 v25 v31 v37 v43 w hn h8 (by omega)) (by show (2 : ℕ) ∣ _; omega) (by decide) hi

theorem chk25 {n : ℕ} (hn : nlw v1 v7 v13 v19 v25 v31 v37 v43 = BitVec.ofNat 32 n) (h8 : n < 9) (w : BitVec 32) (hw : w.toNat < 8) :
    k0_chk25 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond23 v1 v7 v13 v19 v25 v31 v37 v43 hn h8).1 hc; exact inb3 (by omega) (by omega) (by omega) (off78 v1 v7 v13 v19 v25 v31 v37 v43 w hn h8 (by omega))
  · intro hc; have hc := (cond23 v1 v7 v13 v19 v25 v31 v37 v43 hn h8).1 hc; intro hi; exact ww3 (off78 v1 v7 v13 v19 v25 v31 v37 v43 w hn h8 (by omega)) (by show (2 : ℕ) ∣ _; omega) (by decide) hi

theorem chk26 {n : ℕ} (hn : nlw v1 v7 v13 v19 v25 v31 v37 v43 = BitVec.ofNat 32 n) (h8 : n < 9) (w : BitVec 32) (hw : w.toNat < 8) :
    k0_chk26 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond24 v1 v7 v13 v19 v25 v31 v37 v43 hn h8).1 hc; exact inb3 (by omega) (by omega) (by omega) (off82 v1 v7 v13 v19 v25 v31 v37 v43 w hn h8 (by omega))
  · intro hc; have hc := (cond24 v1 v7 v13 v19 v25 v31 v37 v43 hn h8).1 hc; intro hi; exact ww3 (off82 v1 v7 v13 v19 v25 v31 v37 v43 w hn h8 (by omega)) (by show (2 : ℕ) ∣ _; omega) (by decide) hi

theorem chk27 {n : ℕ} (hn : nlw v1 v7 v13 v19 v25 v31 v37 v43 = BitVec.ofNat 32 n) (h8 : n < 9) (w : BitVec 32) (hw : w.toNat < 8) :
    k0_chk27 v1 v7 v13 v19 v25 v31 v37 v43 w := by
  have lt7 : ∀ t : Fin (k0_t1_loop v1 v7 v13 v19 v25 v31 v37 v43).trips, t.val < 7 * n := fun t => trips1 v1 v7 v13 v19 v25 v31 v37 v43 hn h8 ▸ t.isLt
  have lt : ∀ t : Fin (k0_t1_loop v1 v7 v13 v19 v25 v31 v37 v43).trips, t.val < 56 := fun t => by have := lt7 t; omega
  refine ⟨?_, ?_⟩
  · intro hc; have hc := (cond25 v1 v7 v13 v19 v25 v31 v37 v43 hn h8).1 hc; exact inb3 (by omega) (by omega) (by omega) (off86 v1 v7 v13 v19 v25 v31 v37 v43 w hn h8 (by omega))
  · intro hc; have hc := (cond25 v1 v7 v13 v19 v25 v31 v37 v43 hn h8).1 hc; intro hi; exact ww3 (off86 v1 v7 v13 v19 v25 v31 v37 v43 w hn h8 (by omega)) (by show (2 : ℕ) ∣ _; omega) (by decide) hi

end

/-- One for a live expert's word, none for a dead one's. -/
def lvb (v : BitVec 32) : ℕ := if 0 < v.toInt then 1 else 0

/-- The live experts among the first `k`. -/
def cnt (gw : ℕ → BitVec 32) : ℕ → ℕ
  | 0 => 0
  | k + 1 => cnt gw k + lvb (gw k)

theorem lvb_le (v : BitVec 32) : lvb v ≤ 1 := by unfold lvb; split <;> omega

theorem cnt_le (gw : ℕ → BitVec 32) (k : ℕ) : cnt gw k ≤ k := by
  induction k with
  | zero => exact Nat.le_refl _
  | succ k ih => have := lvb_le (gw k); simp only [cnt]; omega

theorem cmpi_sgt' (v : BitVec 32) : Scalar.cmpi .sgt v 0#32 = 1#1 ↔ 0 < v.toInt := by
  show BitVec.ofBool (decide (0 < v.toInt)) = 1#1 ↔ _
  by_cases h : 0 < v.toInt <;> simp [h]

theorem lvb_word (v : BitVec 32) : Scalar.extui (Scalar.cmpi .sgt v 0#32) = BitVec.ofNat 32 (lvb v) := by
  unfold lvb
  by_cases h : 0 < v.toInt
  · rw [if_pos h, show Scalar.cmpi .sgt v 0#32 = 1#1 from (cmpi_sgt' v).2 h]; rfl
  · rw [if_neg h]
    have : Scalar.cmpi .sgt v 0#32 = 0#1 := by
      rcases (show ∀ b : BitVec 1, b = 0#1 ∨ b = 1#1 by decide) (Scalar.cmpi .sgt v 0#32) with h' | h'
      · exact h'
      · exact absurd ((cmpi_sgt' v).1 h') h
    rw [this]; rfl

theorem addi_ofNat (a b : ℕ) : Scalar.addi (BitVec.ofNat 32 a) (BitVec.ofNat 32 b) = BitVec.ofNat 32 (a + b) := by
  show BitVec.ofNat 32 a + BitVec.ofNat 32 b = _
  rw [BitVec.ofNat_add]

theorem cnt_succ (gw : ℕ → BitVec 32) (k : ℕ) :
    Scalar.addi (BitVec.ofNat 32 (cnt gw k)) (Scalar.extui (Scalar.cmpi .sgt (gw k) 0#32)) = BitVec.ofNat 32 (cnt gw (k + 1)) := by
  rw [lvb_word, addi_ofNat]; rfl

theorem nlw_eq (gw : ℕ → BitVec 32) : nlw (gw 0) (gw 1) (gw 2) (gw 3) (gw 4) (gw 5) (gw 6) (gw 7) = BitVec.ofNat 32 (cnt gw 8) := by
  unfold nlw
  rw [show Scalar.addi (0#32) (Scalar.extui (Scalar.cmpi .sgt (gw 0) 0#32)) = _ from cnt_succ gw 0]
  rw [cnt_succ gw 1, cnt_succ gw 2, cnt_succ gw 3, cnt_succ gw 4, cnt_succ gw 5, cnt_succ gw 6, cnt_succ gw 7]

theorem off1 (gw : ℕ → BitVec 32) : k0_off1 (gw 0) = ![cnt gw 1] := by
  dsimp only [k0_off1]
  rw [show Scalar.addi (0#32) (Scalar.extui (Scalar.cmpi .sgt (gw 0) 0#32)) = _ from cnt_succ gw 0]
  have := cnt_le gw 1
  refine congrArg (fun z => ![z]) ?_
  generalize cnt gw 1 = z at this
  revert z
  decide
theorem chk1 (gw : ℕ → BitVec 32) : k0_chk1 (gw 0) := by
  have := cnt_le gw 1
  exact inb1 (by omega) (off1 gw)

theorem off2 (gw : ℕ → BitVec 32) : k0_off2 (gw 0) (gw 1) = ![cnt gw 2] := by
  dsimp only [k0_off2]
  rw [show Scalar.addi (0#32) (Scalar.extui (Scalar.cmpi .sgt (gw 0) 0#32)) = _ from cnt_succ gw 0]
  rw [cnt_succ gw 1]
  have := cnt_le gw 2
  refine congrArg (fun z => ![z]) ?_
  generalize cnt gw 2 = z at this
  revert z
  decide
theorem chk2 (gw : ℕ → BitVec 32) : k0_chk2 (gw 0) (gw 1) := by
  have := cnt_le gw 2
  exact inb1 (by omega) (off2 gw)

theorem off3 (gw : ℕ → BitVec 32) : k0_off3 (gw 0) (gw 1) (gw 2) = ![cnt gw 3] := by
  dsimp only [k0_off3]
  rw [show Scalar.addi (0#32) (Scalar.extui (Scalar.cmpi .sgt (gw 0) 0#32)) = _ from cnt_succ gw 0]
  rw [cnt_succ gw 1]
  rw [cnt_succ gw 2]
  have := cnt_le gw 3
  refine congrArg (fun z => ![z]) ?_
  generalize cnt gw 3 = z at this
  revert z
  decide
theorem chk3 (gw : ℕ → BitVec 32) : k0_chk3 (gw 0) (gw 1) (gw 2) := by
  have := cnt_le gw 3
  exact inb1 (by omega) (off3 gw)

theorem off4 (gw : ℕ → BitVec 32) : k0_off4 (gw 0) (gw 1) (gw 2) (gw 3) = ![cnt gw 4] := by
  dsimp only [k0_off4]
  rw [show Scalar.addi (0#32) (Scalar.extui (Scalar.cmpi .sgt (gw 0) 0#32)) = _ from cnt_succ gw 0]
  rw [cnt_succ gw 1]
  rw [cnt_succ gw 2]
  rw [cnt_succ gw 3]
  have := cnt_le gw 4
  refine congrArg (fun z => ![z]) ?_
  generalize cnt gw 4 = z at this
  revert z
  decide
theorem chk4 (gw : ℕ → BitVec 32) : k0_chk4 (gw 0) (gw 1) (gw 2) (gw 3) := by
  have := cnt_le gw 4
  exact inb1 (by omega) (off4 gw)

theorem off5 (gw : ℕ → BitVec 32) : k0_off5 (gw 0) (gw 1) (gw 2) (gw 3) (gw 4) = ![cnt gw 5] := by
  dsimp only [k0_off5]
  rw [show Scalar.addi (0#32) (Scalar.extui (Scalar.cmpi .sgt (gw 0) 0#32)) = _ from cnt_succ gw 0]
  rw [cnt_succ gw 1]
  rw [cnt_succ gw 2]
  rw [cnt_succ gw 3]
  rw [cnt_succ gw 4]
  have := cnt_le gw 5
  refine congrArg (fun z => ![z]) ?_
  generalize cnt gw 5 = z at this
  revert z
  decide
theorem chk5 (gw : ℕ → BitVec 32) : k0_chk5 (gw 0) (gw 1) (gw 2) (gw 3) (gw 4) := by
  have := cnt_le gw 5
  exact inb1 (by omega) (off5 gw)

theorem off6 (gw : ℕ → BitVec 32) : k0_off6 (gw 0) (gw 1) (gw 2) (gw 3) (gw 4) (gw 5) = ![cnt gw 6] := by
  dsimp only [k0_off6]
  rw [show Scalar.addi (0#32) (Scalar.extui (Scalar.cmpi .sgt (gw 0) 0#32)) = _ from cnt_succ gw 0]
  rw [cnt_succ gw 1]
  rw [cnt_succ gw 2]
  rw [cnt_succ gw 3]
  rw [cnt_succ gw 4]
  rw [cnt_succ gw 5]
  have := cnt_le gw 6
  refine congrArg (fun z => ![z]) ?_
  generalize cnt gw 6 = z at this
  revert z
  decide
theorem chk6 (gw : ℕ → BitVec 32) : k0_chk6 (gw 0) (gw 1) (gw 2) (gw 3) (gw 4) (gw 5) := by
  have := cnt_le gw 6
  exact inb1 (by omega) (off6 gw)

theorem off7 (gw : ℕ → BitVec 32) : k0_off7 (gw 0) (gw 1) (gw 2) (gw 3) (gw 4) (gw 5) (gw 6) = ![cnt gw 7] := by
  dsimp only [k0_off7]
  rw [show Scalar.addi (0#32) (Scalar.extui (Scalar.cmpi .sgt (gw 0) 0#32)) = _ from cnt_succ gw 0]
  rw [cnt_succ gw 1]
  rw [cnt_succ gw 2]
  rw [cnt_succ gw 3]
  rw [cnt_succ gw 4]
  rw [cnt_succ gw 5]
  rw [cnt_succ gw 6]
  have := cnt_le gw 7
  refine congrArg (fun z => ![z]) ?_
  generalize cnt gw 7 = z at this
  revert z
  decide
theorem chk7 (gw : ℕ → BitVec 32) : k0_chk7 (gw 0) (gw 1) (gw 2) (gw 3) (gw 4) (gw 5) (gw 6) := by
  have := cnt_le gw 7
  exact inb1 (by omega) (off7 gw)

end Cert.KernelIdeal.Hand

end
-- ==== Proof.Ideal.Count.lean ====
module

public import proofs.«01_k».proof.Proof.Ideal.Words

@[expose] public section

noncomputable section

namespace Cert.KernelIdeal.Hand

open Cert.KernelIdeal Idealize.ShloMosaic

/-- The list of live experts after the first `k` are seen: the kernel writes the expert at the count of live ones so far. -/
def lst (gw : ℕ → BitVec 32) : ℕ → ℕ → ℕ
  | 0 => fun _ => 0
  | k + 1 => Function.update (lst gw k) (cnt gw k) k

/-- The `k`-th live expert. -/
def ex (gw : ℕ → BitVec 32) (k : ℕ) : ℕ := lst gw 8 k

theorem cnt_mono (gw : ℕ → BitVec 32) {a b : ℕ} (h : a ≤ b) : cnt gw a ≤ cnt gw b := by
  induction b, h using Nat.le_induction with
  | base => exact Nat.le_refl _
  | succ b _ ih => simp only [cnt]; omega

theorem lvb_pos {v : BitVec 32} (h : 0 < v.toInt) : lvb v = 1 := if_pos h
theorem lvb_neg {v : BitVec 32} (h : ¬ 0 < v.toInt) : lvb v = 0 := if_neg h

theorem lst_inv (gw : ℕ → BitVec 32) (m : ℕ) :
    (∀ e < m, 0 < (gw e).toInt → lst gw m (cnt gw e) = e) ∧
    (∀ k < cnt gw m, lst gw m k < m ∧ 0 < (gw (lst gw m k)).toInt ∧ cnt gw (lst gw m k) = k) := by
  induction m with
  | zero => exact ⟨fun e h => absurd h (Nat.not_lt_zero _), fun k h => absurd h (Nat.not_lt_zero _)⟩
  | succ m ih =>
    refine ⟨fun e he hl => ?_, fun k hk => ?_⟩
    · by_cases h : e = m
      · subst h; simp [lst]
      · have hlt : e < m := by omega
        have h1 : cnt gw (e + 1) ≤ cnt gw m := cnt_mono gw hlt
        simp only [cnt, lvb_pos hl] at h1
        simp only [lst]
        rw [Function.update_of_ne (by omega)]
        exact ih.1 e hlt hl
    · by_cases h : k = cnt gw m
      · subst h
        have hs : lst gw (m + 1) (cnt gw m) = m := Function.update_self ..
        rw [hs]
        refine ⟨Nat.lt_succ_self _, ?_, rfl⟩
        by_contra hc
        simp only [cnt, lvb_neg hc] at hk
        omega
      · have hlt : k < cnt gw m := by
          have := lvb_le (gw m); simp only [cnt] at hk; omega
        simp only [lst]
        rw [Function.update_of_ne h]
        obtain ⟨a, b, d⟩ := ih.2 k hlt
        exact ⟨by omega, b, d⟩

section
variable (gw : ℕ → BitVec 32)

theorem ex_cnt {e : ℕ} (he : e < 8) (hl : 0 < (gw e).toInt) : ex gw (cnt gw e) = e := (lst_inv gw 8).1 e he hl
theorem ex_lt {k : ℕ} (h : k < cnt gw 8) : ex gw k < 8 := ((lst_inv gw 8).2 k h).1
theorem ex_live {k : ℕ} (h : k < cnt gw 8) : 0 < (gw (ex gw k)).toInt := ((lst_inv gw 8).2 k h).2.1
theorem cnt_ex {k : ℕ} (h : k < cnt gw 8) : cnt gw (ex gw k) = k := ((lst_inv gw 8).2 k h).2.2

theorem ex_le (k : ℕ) : ex gw k < 8 := by
  have : ∀ m, 0 < m → lst gw m k < m := by
    intro m
    induction m with
    | zero => intro h; exact absurd h (Nat.not_lt_zero _)
    | succ m ih =>
      intro _
      simp only [lst]
      by_cases h : k = cnt gw m
      · subst h; rw [Function.update_self]; omega
      · rw [Function.update_of_ne h]
        rcases Nat.eq_zero_or_pos m with h0 | h0
        · subst h0; simp [lst]
        · have := ih h0; omega
  exact this 8 (by decide)

/-- Where an element of the result stands in the order the kernel writes it: a live expert's block by its number, a
    dead expert's slab after every block. -/
def rk (e b : ℕ) : ℕ := if 0 < (gw e).toInt then 7 * cnt gw e + b else 56 + (e - cnt gw e)

theorem rk_block {j e b : ℕ} (he : e < 8) (hb : b < 7) (hj : j < 7 * cnt gw 8) :
    rk gw e b = j ↔ e = ex gw (j / 7) ∧ b = j % 7 := by
  have hj7 : j / 7 < cnt gw 8 := by omega
  have c8 := cnt_le gw 8
  unfold rk
  constructor
  · intro h
    split at h
    · rename_i hl
      have : j / 7 = cnt gw e := by omega
      rw [this, ex_cnt gw he hl]
      exact ⟨rfl, by omega⟩
    · omega
  · rintro ⟨rfl, rfl⟩
    rw [if_pos (ex_live gw hj7), cnt_ex gw hj7]; omega

theorem rk_dead {j e b d : ℕ} (hd : d < 8) (hb : b < 7) (he : e < 8) (hl : ¬ 0 < (gw d).toInt) :
    rk gw e b = 56 + (d - cnt gw d) ↔ e = d := by
  have c8 := cnt_le gw 8
  have key : ∀ a b, a < b → ¬ 0 < (gw a).toInt → a - cnt gw a < b - cnt gw b := by
    intro a b hab ha
    have h1 : ∀ n, cnt gw (a + 1 + n) ≤ cnt gw (a + 1) + n := by
      intro n
      induction n with
      | zero => exact Nat.le_refl _
      | succ n ih => have := lvb_le (gw (a + 1 + n)); rw [← Nat.add_assoc]; simp only [cnt] at ih ⊢; omega
    have h2 := h1 (b - (a + 1))
    rw [show a + 1 + (b - (a + 1)) = b by omega] at h2
    simp only [cnt, lvb_neg ha] at h2
    have := cnt_le gw a
    have := cnt_le gw b
    omega
  have hcnt : ∀ a, a < 8 → 0 < (gw a).toInt → cnt gw a < cnt gw 8 := by
    intro a ha hl
    have := cnt_mono gw (show a + 1 ≤ 8 from ha)
    simp only [cnt, lvb_pos hl] at this ⊢; omega
  unfold rk
  constructor
  · intro h
    split at h
    · rename_i hle
      have := hcnt e he hle
      omega
    · rename_i hle
      rcases Nat.lt_trichotomy e d with h' | h' | h'
      · have := key e d h' hle; omega
      · exact h'
      · have := key d e h' hl; omega
  · rintro rfl
    rw [if_neg hl]

theorem rk_lt {e b : ℕ} (he : e < 8) (hb : b < 7) :
    (0 < (gw e).toInt → rk gw e b < 7 * cnt gw 8) ∧ (¬ 0 < (gw e).toInt → 56 ≤ rk gw e b ∧ rk gw e b < 56 + (8 - cnt gw 8)) := by
  unfold rk
  constructor
  · intro h
    rw [if_pos h]
    have := cnt_mono gw (show e + 1 ≤ 8 from he)
    simp only [cnt, lvb_pos h] at this ⊢
    omega
  · intro h
    rw [if_neg h]
    refine ⟨by omega, ?_⟩
    have h1 : ∀ n, cnt gw (e + 1 + n) ≤ cnt gw (e + 1) + n := by
      intro n
      induction n with
      | zero => exact Nat.le_refl _
      | succ n ih => have := lvb_le (gw (e + 1 + n)); rw [← Nat.add_assoc]; simp only [cnt] at ih ⊢; omega
    have h2 := h1 (8 - (e + 1))
    rw [show e + 1 + (8 - (e + 1)) = 8 by omega] at h2
    simp only [cnt, lvb_neg h] at h2 ⊢
    have := cnt_le gw e
    have := cnt_le gw 8
    simp only [cnt] at this
    omega

end

end Cert.KernelIdeal.Hand

end
-- ==== Proof.Ideal.Base.lean ====
module

public import proofs.«01_k».proof.Proof.Ideal.Words
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- An index from its coordinates' values (each taken modulo the axis). -/
def mk (s : Shape) (f : Fin s.rank → ℕ) (h : ∀ a, 0 < s.size a := by decide) : s.Idx :=
  fun a => ⟨f a % s.size a, Nat.mod_lt _ (h a)⟩

theorem mk_val (s : Shape) (f : Fin s.rank → ℕ) (h : ∀ a, 0 < s.size a) (a : Fin s.rank) (hf : f a < s.size a) :
    (mk s f h a : ℕ) = f a := Nat.mod_eq_of_lt hf

theorem eq_mk (s : Shape) (f : Fin s.rank → ℕ) (h : ∀ a, 0 < s.size a) (i : s.Idx) (hi : ∀ a, (i a : ℕ) = f a) : i = mk s f h := by
  funext a
  have h1 : f a < s.size a := (hi a) ▸ (i a).isLt
  exact Fin.ext ((hi a).trans (Nat.mod_eq_of_lt h1).symm)

/-! ## Scalar memory -/

abbrev tc (c : Dev nD) : Thread nD τ := c

section rules
variable (c : Dev nD) {α : Type}

theorem wp_asm {P : Prop} {d : Decidable P} {k : PLift P → Prog (TpuEff nD τ sig (Elt F) Λ₀ (tc c).2) α} {Q : α → sProp 𝕄} (h : P) :
    wp frame (wpE (defs₀ (F := F)) Variants.none (tc c) none) Set.univ (k ⟨h⟩) Q
      ⊢ wp frame (wpE (defs₀ (F := F)) Variants.none (tc c) none) Set.univ (Prog.lift (.assume P d) >>= k) Q :=
  wp_assume Variants.none (tc c) none Set.univ h

theorem wp_ldL {off : Fin 1 → ℕ} {inb h1 h2} (L : S9.Idx → BitVec 32) (i : ℕ) (hi : off = ![i]) (hi9 : i < 9)
    {k : BitVec 32 → Prog (TpuEff nD τ sig (Elt F) Λ₀ (tc c).2) α} {Q : α → sProp 𝕄} :
    ((tc c).loc cc0_scratch1 ↦[Finset.univ]{fullShare} L : sProp 𝕄)
      ⊢ iprop((((tc c).loc cc0_scratch1 ↦[Finset.univ]{fullShare} L) -∗ wp frame (wpE (defs₀ (F := F)) Variants.none (tc c) none) Set.univ (k (L (mk S9 ![i]))) Q)
        -∗ wp frame (wpE (defs₀ (F := F)) Variants.none (tc c) none) Set.univ
            (smemLoad (Memref.whole cc0_scratch1) (Rect.unit (s := S9) off S1.size inb) h1 h2 >>= k) Q) := by
  subst hi
  have e : ∀ x, ((Memref.whole cc0_scratch1).access (Rect.unit (s := S9) ![i] S1.size inb)).read (Elt F) L x = L (mk S9 ![i]) := by
    intro x
    refine congrArg L (eq_mk _ _ _ _ fun a => ?_)
    refine (ValueKit.view_emb_slice_whole_unit_val cc0_scratch1 _ _ _ x a).trans ?_
    match a with
    | ⟨0, _⟩ => exact congrArg (i + ·) (Nat.lt_one_iff.mp (x 0).isLt)
  have h := wp_smemLoadElt (m := Memref.whole cc0_scratch1) (r := Rect.unit (s := S9) ![i] S1.size inb) (hw := View.loads_smem_one h2 h1)
    (x := Shape.Idx.first (h1.symm ▸ Nat.one_pos)) (k := k) (Q := Q) (Γ := .empty) (defs := defs₀ (F := F)) Variants.none (tc c) none Set.univ (q := fullShare) (f := L) (Finset.subset_univ _)
  rw [e] at h
  exact h

theorem wp_ldG {off : Fin 1 → ℕ} {inb h1 h2} (L : S8.Idx → BitVec 32) (i : ℕ) (hi : off = ![i]) (hi9 : i < 8)
    {k : BitVec 32 → Prog (TpuEff nD τ sig (Elt F) Λ₀ (tc c).2) α} {Q : α → sProp 𝕄} :
    ((tc c).loc cc0_scratch0 ↦[Finset.univ]{fullShare} L : sProp 𝕄)
      ⊢ iprop((((tc c).loc cc0_scratch0 ↦[Finset.univ]{fullShare} L) -∗ wp frame (wpE (defs₀ (F := F)) Variants.none (tc c) none) Set.univ (k (L (mk S8 ![i]))) Q)
        -∗ wp frame (wpE (defs₀ (F := F)) Variants.none (tc c) none) Set.univ
            (smemLoad (Memref.whole cc0_scratch0) (Rect.unit (s := S8) off S1.size inb) h1 h2 >>= k) Q) := by
  subst hi
  have e : ∀ x, ((Memref.whole cc0_scratch0).access (Rect.unit (s := S8) ![i] S1.size inb)).read (Elt F) L x = L (mk S8 ![i]) := by
    intro x
    refine congrArg L (eq_mk _ _ _ _ fun a => ?_)
    refine (ValueKit.view_emb_slice_whole_unit_val cc0_scratch0 _ _ _ x a).trans ?_
    match a with
    | ⟨0, _⟩ => exact congrArg (i + ·) (Nat.lt_one_iff.mp (x 0).isLt)
  have h := wp_smemLoadElt (m := Memref.whole cc0_scratch0) (r := Rect.unit (s := S8) ![i] S1.size inb) (hw := View.loads_smem_one h2 h1)
    (x := Shape.Idx.first (h1.symm ▸ Nat.one_pos)) (k := k) (Q := Q) (Γ := .empty) (defs := defs₀ (F := F)) Variants.none (tc c) none Set.univ (q := fullShare) (f := L) (Finset.subset_univ _)
  rw [e] at h
  exact h

/-- A store of a word in the list of live experts. -/
theorem wp_stL {off : Fin 1 → ℕ} {inb hx hm} (L : S9.Idx → BitVec 32) (i : ℕ) (hi : off = ![i]) (hi9 : i < 9) (w : BitVec 32)
    {k : PUnit → Prog (TpuEff nD τ sig (Elt F) Λ₀ (tc c).2) α} {Q : α → sProp 𝕄} :
    ((tc c).loc cc0_scratch1 ↦[Finset.univ]{fullShare} L : sProp 𝕄)
      ⊢ iprop((((tc c).loc cc0_scratch1 ↦[Finset.univ]{fullShare} (Function.update L (mk S9 ![i]) w)) -∗ wp frame (wpE (defs₀ (F := F)) Variants.none (tc c) none) Set.univ (k ⟨⟩) Q)
        -∗ wp frame (wpE (defs₀ (F := F)) Variants.none (tc c) none) Set.univ
            (Prog.lift (.store (Memref.whole cc0_scratch1) (Rect.unit (s := S9) off S1.size inb) (fun _ => w) Finset.univ hx hm) >>= k) Q) := by
  subst hi
  have e : ∀ x, ((Memref.whole cc0_scratch1).access (Rect.unit (s := S9) ![i] S1.size inb)).emb x = mk S9 ![i] := by
    intro x
    refine (eq_mk _ _ _ _ fun a => ?_)
    refine (ValueKit.view_emb_slice_whole_unit_val cc0_scratch1 _ _ _ x a).trans ?_
    match a with
    | ⟨0, _⟩ => exact congrArg (i + ·) (Nat.lt_one_iff.mp (x 0).isLt)
  have h := wp_store (m := Memref.whole cc0_scratch1) (r := Rect.unit (s := S9) ![i] S1.size inb) (w := fun _ => w) (Mk := Finset.univ) (hx := hx) (hm := hm)
    (k := k) (Q := Q) (Γ := .empty) (defs := defs₀ (F := F)) Variants.none (tc c) none Set.univ (f := L) (Finset.subset_univ _)
  have e2 : ((Memref.whole cc0_scratch1).access (Rect.unit (s := S9) ![i] S1.size inb)).write (Elt F) L (fun _ => w) Finset.univ = Function.update L (mk S9 ![i]) w := by
    funext j
    by_cases hj : j = mk S9 ![i]
    · subst hj
      rw [Function.update_self, ← e (fun a => ⟨0, by match a with | ⟨0, _⟩ => exact Nat.one_pos⟩)]
      exact View.write_emb_of_mem _ _ (Finset.mem_univ _)
    · rw [Function.update_of_ne hj]
      refine View.write_of_not_mem _ _ _ fun hc => ?_
      obtain ⟨x, -, rfl⟩ := Finset.mem_map.mp hc
      exact hj (e x)
  rw [e2] at h
  exact h

/-! ## The pieces of the buffers -/

/-- Slot `s` of the six weight slots. -/
def wslot (s : ℕ) : Finset (S6x2048x2816.Idx) := Finset.univ.filter fun i => (i 0 : ℕ) = s
/-- Slot `s` of the three output slots. -/
def oslot (s : ℕ) : Finset (S3x32x2048.Idx) := Finset.univ.filter fun i => (i 0 : ℕ) = s
/-- Block `b` of expert `e`'s weights. -/
def wpc (e b : ℕ) : Finset (S8x14336x2816.Idx) := Finset.univ.filter fun i => (i 0 : ℕ) = e ∧ (i 1 : ℕ) / 2048 = b
/-- Block `b` of expert `e`'s result. -/
def opc (e b : ℕ) : Finset (S8x32x14336.Idx) := Finset.univ.filter fun i => (i 0 : ℕ) = e ∧ (i 2 : ℕ) / 2048 = b
/-- Expert `e`'s whole result. -/
def zpc (e : ℕ) : Finset (S8x32x14336.Idx) := Finset.univ.filter fun i => (i 0 : ℕ) = e

theorem set_wslot {off : Fin 3 → ℕ} {inb} (s : ℕ) (h : off = ![s, 0, 0]) :
    (((Memref.whole cc0_scratch6).slice (Rect.unit (s := S6x2048x2816) off S1x2048x2816.size inb) (fun _ => rfl)).squeeze
      S2048x2816 squeezes_S1x2048x2816_S2048x2816).view.set = wslot s := by
  subst h
  refine (View.set_reshape _ _).trans ?_
  refine Finset.ext fun i => (ValueKit.mem_set_slice_whole_iff cc0_scratch6 _ i Rect.mem_set_unit).trans ?_
  simp only [wslot, Finset.mem_filter, Finset.mem_univ, true_and]
  constructor
  · intro hh
    have := hh 0
    have h1 : s ≤ (i 0 : ℕ) ∧ (i 0 : ℕ) < s + 1 := this
    omega
  · rintro hh a
    match a with
    | ⟨0, _⟩ => exact ⟨Nat.le_of_eq hh.symm, by show (i 0 : ℕ) < s + 1; omega⟩
    | ⟨1, _⟩ => exact ⟨Nat.zero_le _, by show (i 1 : ℕ) < 0 + 2048; have : (i 1 : ℕ) < 2048 := (i 1).isLt; omega⟩
    | ⟨2, _⟩ => exact ⟨Nat.zero_le _, by show (i 2 : ℕ) < 0 + 2816; have : (i 2 : ℕ) < 2816 := (i 2).isLt; omega⟩

theorem set_oslot {off : Fin 3 → ℕ} {inb} (s : ℕ) (h : off = ![s, 0, 0]) :
    (((Memref.whole cc0_scratch7).slice (Rect.unit (s := S3x32x2048) off S1x32x2048.size inb) (fun _ => rfl)).squeeze
      S32x2048 squeezes_S1x32x2048_S32x2048).view.set = oslot s := by
  subst h
  refine (View.set_reshape _ _).trans ?_
  refine Finset.ext fun i => (ValueKit.mem_set_slice_whole_iff cc0_scratch7 _ i Rect.mem_set_unit).trans ?_
  simp only [oslot, Finset.mem_filter, Finset.mem_univ, true_and]
  constructor
  · intro hh
    have h1 : s ≤ (i 0 : ℕ) ∧ (i 0 : ℕ) < s + 1 := hh 0
    omega
  · rintro hh a
    match a with
    | ⟨0, _⟩ => exact ⟨Nat.le_of_eq hh.symm, by show (i 0 : ℕ) < s + 1; omega⟩
    | ⟨1, _⟩ => exact ⟨Nat.zero_le _, by show (i 1 : ℕ) < 0 + 32; have : (i 1 : ℕ) < 32 := (i 1).isLt; omega⟩
    | ⟨2, _⟩ => exact ⟨Nat.zero_le _, by show (i 2 : ℕ) < 0 + 2048; have : (i 2 : ℕ) < 2048 := (i 2).isLt; omega⟩

theorem set_wpc {off : Fin 3 → ℕ} {inb} (e b : ℕ) (h : off = ![e, 2048 * b, 0]) :
    (((Memref.whole main_arg2).slice (Rect.unit (s := S8x14336x2816) off S1x2048x2816.size inb) (fun _ => rfl)).squeeze
      S2048x2816 squeezes_S1x2048x2816_S2048x2816).view.set = wpc e b := by
  subst h
  refine (View.set_reshape _ _).trans ?_
  refine Finset.ext fun i => (ValueKit.mem_set_slice_whole_iff main_arg2 _ i Rect.mem_set_unit).trans ?_
  simp only [wpc, Finset.mem_filter, Finset.mem_univ, true_and]
  constructor
  · intro hh
    have h1 : e ≤ (i 0 : ℕ) ∧ (i 0 : ℕ) < e + 1 := hh 0
    have h2 : 2048 * b ≤ (i 1 : ℕ) ∧ (i 1 : ℕ) < 2048 * b + 2048 := hh 1
    omega
  · rintro hh a
    match a with
    | ⟨0, _⟩ => exact ⟨Nat.le_of_eq hh.1.symm, by show (i 0 : ℕ) < e + 1; omega⟩
    | ⟨1, _⟩ => exact ⟨by show 2048 * b ≤ (i 1 : ℕ); omega, by show (i 1 : ℕ) < 2048 * b + 2048; omega⟩
    | ⟨2, _⟩ => exact ⟨Nat.zero_le _, by show (i 2 : ℕ) < 0 + 2816; have : (i 2 : ℕ) < 2816 := (i 2).isLt; omega⟩

theorem set_opc {off : Fin 3 → ℕ} {inb} (e b : ℕ) (h : off = ![e, 0, 2048 * b]) :
    (((Memref.whole main_v0).slice (Rect.unit (s := S8x32x14336) off S1x32x2048.size inb) (fun _ => rfl)).squeeze
      S32x2048 squeezes_S1x32x2048_S32x2048).view.set = opc e b := by
  subst h
  refine (View.set_reshape _ _).trans ?_
  refine Finset.ext fun i => (ValueKit.mem_set_slice_whole_iff main_v0 _ i Rect.mem_set_unit).trans ?_
  simp only [opc, Finset.mem_filter, Finset.mem_univ, true_and]
  constructor
  · intro hh
    have h1 : e ≤ (i 0 : ℕ) ∧ (i 0 : ℕ) < e + 1 := hh 0
    have h2 : 2048 * b ≤ (i 2 : ℕ) ∧ (i 2 : ℕ) < 2048 * b + 2048 := hh 2
    omega
  · rintro hh a
    match a with
    | ⟨0, _⟩ => exact ⟨Nat.le_of_eq hh.1.symm, by show (i 0 : ℕ) < e + 1; omega⟩
    | ⟨1, _⟩ => exact ⟨Nat.zero_le _, by show (i 1 : ℕ) < 0 + 32; have : (i 1 : ℕ) < 32 := (i 1).isLt; omega⟩
    | ⟨2, _⟩ => exact ⟨by show 2048 * b ≤ (i 2 : ℕ); omega, by show (i 2 : ℕ) < 2048 * b + 2048; omega⟩

theorem set_zpc {off : Fin 3 → ℕ} {inb} (e : ℕ) (h : off = ![e, 0, 0]) :
    (((Memref.whole main_v0).slice (Rect.unit (s := S8x32x14336) off S1x32x14336.size inb) (fun _ => rfl)).squeeze
      S32x14336 squeezes_S1x32x14336_S32x14336).view.set = zpc e := by
  subst h
  refine (View.set_reshape _ _).trans ?_
  refine Finset.ext fun i => (ValueKit.mem_set_slice_whole_iff main_v0 _ i Rect.mem_set_unit).trans ?_
  simp only [zpc, Finset.mem_filter, Finset.mem_univ, true_and]
  constructor
  · intro hh
    have h1 : e ≤ (i 0 : ℕ) ∧ (i 0 : ℕ) < e + 1 := hh 0
    omega
  · rintro hh a
    match a with
    | ⟨0, _⟩ => exact ⟨Nat.le_of_eq hh.symm, by show (i 0 : ℕ) < e + 1; omega⟩
    | ⟨1, _⟩ => exact ⟨Nat.zero_le _, by show (i 1 : ℕ) < 0 + 32; have : (i 1 : ℕ) < 32 := (i 1).isLt; omega⟩
    | ⟨2, _⟩ => exact ⟨Nat.zero_le _, by show (i 2 : ℕ) < 0 + 14336; have : (i 2 : ℕ) < 14336 := (i 2).isLt; omega⟩

/-! ## The copies -/

/-- The cell of weight slot `s`, and of output slot `s`. -/
def wsem (s : ℕ) : DmaSem sig := Fin.ofNat 13 (3 + s)
def osem (s : ℕ) : DmaSem sig := Fin.ofNat 13 (9 + s)
def zsem : DmaSem sig := Fin.ofNat 13 12

theorem wsem_eq {off : Fin 1 → ℕ} {inb} (s : ℕ) (hs : s < 6) (h : off = ![s]) :
    ((cc0_scratch12.slice (Rect.unit (s := S6) off S1.size inb)).squeeze S_ squeezes_S1_S_).sem = wsem s := by
  subst h
  have key : ∀ z : S1.Idx, cc0_scratch12.ix ((Rect.unit (s := S6) ![s] S1.size inb).emb z) = wsem s := by
    intro z
    have h1 : (Rect.unit (s := S6) ![s] S1.size inb).emb z = mk S6 ![s] :=
      eq_mk S6 ![s] (by decide) _ fun a => by
        refine (ValueKit.rect_emb_unit_val (s := S6) ![s] S1.size inb z a).trans ?_
        match a with
        | ⟨0, _⟩ => exact congrArg (s + ·) (Nat.lt_one_iff.mp (z 0).isLt)
    rw [h1]
    interval_cases s <;> decide
  exact key _

theorem osem_eq {off : Fin 1 → ℕ} {inb} (s : ℕ) (hs : s < 3) (h : off = ![s]) :
    ((cc0_scratch13.slice (Rect.unit (s := S3) off S1.size inb)).squeeze S_ squeezes_S1_S_).sem = osem s := by
  subst h
  have key : ∀ z : S1.Idx, cc0_scratch13.ix ((Rect.unit (s := S3) ![s] S1.size inb).emb z) = osem s := by
    intro z
    have h1 : (Rect.unit (s := S3) ![s] S1.size inb).emb z = mk S3 ![s] :=
      eq_mk S3 ![s] (by decide) _ fun a => by
        refine (ValueKit.rect_emb_unit_val (s := S3) ![s] S1.size inb z a).trans ?_
        match a with
        | ⟨0, _⟩ => exact congrArg (s + ·) (Nat.lt_one_iff.mp (z 0).isLt)
    rw [h1]
    interval_cases s <;> decide
  exact key _

/-- What a weight slot holds of block `b` of expert `e`. -/
def wbuf (W : S8x14336x2816.Idx → Elt F .fp8e4m3) (e b : ℕ) : S6x2048x2816.Idx → Elt F .fp8e4m3 :=
  fun i => W (mk S8x14336x2816 ![e, 2048 * b + (i 1 : ℕ), (i 2 : ℕ)])

/-- The share of the weights lent to the copies into slot `s`. -/
def tok (s : ℕ) : PosShare TreeShare := Transfers.shareTokN fullShare s

/-- A free weight slot, with its cell at zero and its share of the weights. -/
def WFree (c : Dev nD) (W : S8x14336x2816.Idx → Elt F .fp8e4m3) (s : ℕ) : sProp 𝕄 :=
  iprop((∃ f, (tc c).loc cc0_scratch6 ↦[wslot s]{fullShare} f) ∗ semVal (tc c, .dma (wsem s)) 0
    ∗ ((tc c).loc main_arg2 ↦[Finset.univ]{tok s} W))

abbrev Nw : ℕ := (Memref.whole cc0_scratch6).view.ref.dmaCredit S2048x2816 .fp8e4m3
abbrev No : ℕ := (Memref.whole main_v0).view.ref.dmaCredit S32x2048 .bf16
abbrev Nz : ℕ := (Memref.whole main_v0).view.ref.dmaCredit S32x14336 .bf16

theorem Nw_pos : 0 < Nw := sig.dmaCredit_pos _ _ _ S2048x2816 _ (by decide)
theorem No_pos : 0 < No := sig.dmaCredit_pos _ _ _ S32x2048 _ (by decide)
theorem Nz_pos : 0 < Nz := sig.dmaCredit_pos _ _ _ S32x14336 _ (by decide)

/-- A weight slot that a copy of block `b` of expert `e` is filling. -/
def WFl (c : Dev nD) (W : S8x14336x2816.Idx → Elt F .fp8e4m3) (s e b : ℕ) : sProp 𝕄 :=
  iprop(Transfers.Flight (countersEmb (U := Pipeline.UD sig nD τ)) (tc c) (.dma (wsem s)) () Nw
      iprop(((tc c).loc cc0_scratch6 ↦[wslot s]{fullShare} wbuf W e b) ∗ ((tc c).loc main_arg2 ↦[wpc e b]{tok s} W))
    ∗ ((tc c).loc main_arg2 ↦[Finset.univ \ wpc e b]{tok s} W))

/-- A weight slot that holds block `b` of expert `e`. -/
def WHold (c : Dev nD) (W : S8x14336x2816.Idx → Elt F .fp8e4m3) (s e b : ℕ) : sProp 𝕄 :=
  iprop(((tc c).loc cc0_scratch6 ↦[wslot s]{fullShare} wbuf W e b) ∗ semVal (tc c, .dma (wsem s)) 0
    ∗ ((tc c).loc main_arg2 ↦[Finset.univ]{tok s} W))

theorem WHold_free (c : Dev nD) (W : S8x14336x2816.Idx → Elt F .fp8e4m3) (s e b : ℕ) : WHold c W s e b ⊢ WFree c W s := by
  unfold WHold WFree
  iintro ⟨Ha, Hb, Hc⟩
  isplitl [Ha]; · iexists _; iexact Ha
  isplitl [Hb]; · iexact Hb
  iexact Hc

/-- A weight copy starts. -/
theorem wp_wst {off1 : Fin 1 → ℕ} {off2 off3 : Fin 3 → ℕ} {inb1 inb2 inb3 hs hd ht} (W : S8x14336x2816.Idx → Elt F .fp8e4m3)
    (s e b : ℕ) (hs6 : s < 6) (h1 : off1 = ![s]) (h2 : off2 = ![s, 0, 0]) (h3 : off3 = ![e, 2048 * b, 0])
    {k : PUnit → Prog (TpuEff nD τ sig (Elt F) Λ₀ (tc c).2) α} {Q : α → sProp 𝕄} :
    WFree c W s ⊢ iprop((WFl c W s e b -∗ wp frame (wpE (defs₀ (F := F)) Variants.none (tc c) none) Set.univ (k ⟨⟩) Q)
        -∗ wp frame (wpE (defs₀ (F := F)) Variants.none (tc c) none) Set.univ
            (Prog.lift (.enqueueDma
              (((Memref.whole main_arg2).slice (Rect.unit (s := S8x14336x2816) off3 S1x2048x2816.size inb3) (fun _ => rfl)).squeeze
                S2048x2816 squeezes_S1x2048x2816_S2048x2816)
              (.here (((Memref.whole cc0_scratch6).slice (Rect.unit (s := S6x2048x2816) off2 S1x2048x2816.size inb2) (fun _ => rfl)).squeeze
                S2048x2816 squeezes_S1x2048x2816_S2048x2816))
              (.dma ((cc0_scratch12.slice (Rect.unit (s := S6) off1 S1.size inb1)).squeeze S_ squeezes_S1_S_).sem) hs hd ht) >>= k) Q) := by
  have hw := set_wslot (inb := inb2) s h2
  have hp := set_wpc (inb := inb3) e b h3
  have hse := wsem_eq (inb := inb1) s hs6 h1
  subst h1 h2 h3
  unfold WFree WFl
  iintro ⟨⟨%f, Hf⟩, Hs, HW⟩ Hk
  ihave HW := (pointsTo_split_subset (S := Finset.univ) (Finset.subset_univ (wpc e b))).1 $$ HW
  icases HW with ⟨HW1, HW2⟩
  rw [← hse]
  iapply (Transfers.wp_dmaLocal (countersEmb (U := Pipeline.UD sig nD τ)) Variants.none (tc c) none () Nw rfl
    Nw_pos (Sd := wslot s) (fs := W) (fd := f) hw.subset) $$ [HW1 Hf Hs]
  · rw [hp]
    isplitl [HW1]; · iexact HW1
    isplitl [Hf]; · iexact Hf
    iexact Hs
  iintro HF
  iapply Hk
  isplitl [HF]
  · iapply (Transfers.Flight_mono (countersEmb (U := Pipeline.UD sig nD τ)) (tc c) ?_) $$ HF
    rw [hp]
    refine sep_mono ?_ .rfl
    refine (pointsTo_congr ?_).le
    intro i hi
    rw [← hw] at hi
    obtain ⟨x, -, rfl⟩ := Finset.mem_map.mp hi
    refine (View.write_emb_of_mem _ _ (Finset.mem_univ _)).trans ?_
    refine congrArg W (eq_mk _ _ _ _ fun a => ?_)
    have hz := fun a => ValueKit.view_emb_slice_whole_unit_val main_arg2 ![e, 2048 * b, 0] S1x2048x2816.size inb3
      (Shape.reshapeEquiv squeezes_S1x2048x2816_S2048x2816.numel_eq x) a
    have hy := fun a => ValueKit.view_emb_slice_whole_unit_val cc0_scratch6 ![s, 0, 0] S1x2048x2816.size inb2
      (Shape.reshapeEquiv squeezes_S1x2048x2816_S2048x2816.numel_eq x) a
    refine (hz a).trans ?_
    match a with
    | ⟨0, _⟩ => exact congrArg (e + ·) (Nat.lt_one_iff.mp (Shape.reshapeEquiv squeezes_S1x2048x2816_S2048x2816.numel_eq x 0).isLt)
    | ⟨1, _⟩ => exact congrArg (2048 * b + ·) ((hy 1).trans (Nat.zero_add _)).symm
    | ⟨2, _⟩ => exact (Nat.zero_add _).trans ((hy 2).trans (Nat.zero_add _)).symm
  · iexact HW2

end rules

end Cert.KernelIdeal.Hand

end

end
-- ==== Proof.Ideal.Rules.lean ====
module

public import proofs.«01_k».proof.Proof.Ideal.Base
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section rules
variable (c : Dev nD) {α : Type}

/-- The waits the core has recorded, whatever they are. -/
def Ow (c : Dev nD) : sProp 𝕄 := iprop(∃ W, owes (tc c) 0 W)

/-- A load of the codes. -/
theorem wp_ldxq {off : Fin 2 → ℕ} {inb hl} {sh : PosShare TreeShare}  (f : S32x2816.Idx → Elt F .fp8e4m3)
    {k : (S32x2816.Idx → Elt F .fp8e4m3) → Prog (TpuEff nD τ sig (Elt F) Λ₀ (tc c).2) α} {Q : α → sProp 𝕄} (hoff : off = ![0, 0]) :
    ((tc c).loc cc0_scratch4 ↦[Finset.univ]{sh} f : sProp 𝕄)
      ⊢ iprop((((tc c).loc cc0_scratch4 ↦[Finset.univ]{sh} f) -∗ wp frame (wpE (defs₀ (F := F)) Variants.none (tc c) none) Set.univ (k f) Q)
        -∗ wp frame (wpE (defs₀ (F := F)) Variants.none (tc c) none) Set.univ (Prog.lift (.load (Memref.whole cc0_scratch4) (Rect.unit (s := S32x2816) off S32x2816.size inb).toLoadRect hl) >>= k) Q) := by
  subst hoff
  have hrd : ((Memref.whole cc0_scratch4).access (Rect.unit (s := S32x2816) ![0, 0] S32x2816.size inb)).read (Elt F) f = f :=
    funext fun z => congrArg f ((eq_mk S32x2816 ![(z 0 : ℕ), (z 1 : ℕ)] (by decide) _ fun a => by
    refine (ValueKit.view_emb_slice_whole_unit_val cc0_scratch4 ![0, 0] S32x2816.size inb z a).trans ?_
    match a with
    | ⟨0, _⟩ => exact Nat.zero_add _
    | ⟨1, _⟩ => exact Nat.zero_add _).trans (eq_mk S32x2816 ![(z 0 : ℕ), (z 1 : ℕ)] (by decide) z fun a => by
    match a with
    | ⟨0, _⟩ => rfl
    | ⟨1, _⟩ => rfl).symm)
  have h := wp_load_rect (m := Memref.whole cc0_scratch4) (r := Rect.unit (s := S32x2816) ![0, 0] S32x2816.size inb) (hl := hl)
    (k := k) (Q := Q) (Γ := .empty) (defs := defs₀ (F := F)) Variants.none (tc c) none Set.univ (q := sh) (f := f) (Finset.subset_univ _)
  rw [hrd] at h
  exact h

/-- A load of the row scales. -/
theorem wp_ldxs {off : Fin 2 → ℕ} {inb hl} {sh : PosShare TreeShare}  (f : S32x128.Idx → Elt F .f32)
    {k : (S32x128.Idx → Elt F .f32) → Prog (TpuEff nD τ sig (Elt F) Λ₀ (tc c).2) α} {Q : α → sProp 𝕄} (hoff : off = ![0, 0]) :
    ((tc c).loc cc0_scratch5 ↦[Finset.univ]{sh} f : sProp 𝕄)
      ⊢ iprop((((tc c).loc cc0_scratch5 ↦[Finset.univ]{sh} f) -∗ wp frame (wpE (defs₀ (F := F)) Variants.none (tc c) none) Set.univ (k f) Q)
        -∗ wp frame (wpE (defs₀ (F := F)) Variants.none (tc c) none) Set.univ (Prog.lift (.load (Memref.whole cc0_scratch5) (Rect.unit (s := S32x128) off S32x128.size inb).toLoadRect hl) >>= k) Q) := by
  subst hoff
  have hrd : ((Memref.whole cc0_scratch5).access (Rect.unit (s := S32x128) ![0, 0] S32x128.size inb)).read (Elt F) f = f :=
    funext fun z => congrArg f ((eq_mk S32x128 ![(z 0 : ℕ), (z 1 : ℕ)] (by decide) _ fun a => by
    refine (ValueKit.view_emb_slice_whole_unit_val cc0_scratch5 ![0, 0] S32x128.size inb z a).trans ?_
    match a with
    | ⟨0, _⟩ => exact Nat.zero_add _
    | ⟨1, _⟩ => exact Nat.zero_add _).trans (eq_mk S32x128 ![(z 0 : ℕ), (z 1 : ℕ)] (by decide) z fun a => by
    match a with
    | ⟨0, _⟩ => rfl
    | ⟨1, _⟩ => rfl).symm)
  have h := wp_load_rect (m := Memref.whole cc0_scratch5) (r := Rect.unit (s := S32x128) ![0, 0] S32x128.size inb) (hl := hl)
    (k := k) (Q := Q) (Γ := .empty) (defs := defs₀ (F := F)) Variants.none (tc c) none Set.univ (q := sh) (f := f) (Finset.subset_univ _)
  rw [hrd] at h
  exact h

/-- A load of the first column of the row scales. -/
theorem wp_ldxs1 {off : Fin 2 → ℕ} {inb hl} {sh : PosShare TreeShare}  (f : S32x128.Idx → Elt F .f32)
    {k : (S32x1.Idx → Elt F .f32) → Prog (TpuEff nD τ sig (Elt F) Λ₀ (tc c).2) α} {Q : α → sProp 𝕄} (hoff : off = ![0, 0]) :
    ((tc c).loc cc0_scratch5 ↦[Finset.univ]{sh} f : sProp 𝕄)
      ⊢ iprop((((tc c).loc cc0_scratch5 ↦[Finset.univ]{sh} f) -∗ wp frame (wpE (defs₀ (F := F)) Variants.none (tc c) none) Set.univ (k (fun z => f (mk S32x128 ![(z 0 : ℕ), 0]))) Q)
        -∗ wp frame (wpE (defs₀ (F := F)) Variants.none (tc c) none) Set.univ (Prog.lift (.load (Memref.whole cc0_scratch5) (Rect.unit (s := S32x128) off S32x1.size inb).toLoadRect hl) >>= k) Q) := by
  subst hoff
  have hrd : ((Memref.whole cc0_scratch5).access (Rect.unit (s := S32x128) ![0, 0] S32x1.size inb)).read (Elt F) f = (fun z => f (mk S32x128 ![(z 0 : ℕ), 0])) :=
    funext fun z => congrArg f ((eq_mk S32x128 ![(z 0 : ℕ), 0] (by decide) _ fun a => by
    refine (ValueKit.view_emb_slice_whole_unit_val cc0_scratch5 ![0, 0] S32x1.size inb z a).trans ?_
    match a with
    | ⟨0, _⟩ => exact Nat.zero_add _
    | ⟨1, _⟩ => exact (Nat.zero_add _).trans (Nat.lt_one_iff.mp (z 1).isLt)))
  have h := wp_load_rect (m := Memref.whole cc0_scratch5) (r := Rect.unit (s := S32x128) ![0, 0] S32x1.size inb) (hl := hl)
    (k := k) (Q := Q) (Γ := .empty) (defs := defs₀ (F := F)) Variants.none (tc c) none Set.univ (q := sh) (f := f) (Finset.subset_univ _)
  rw [hrd] at h
  exact h

/-- A load of the zeros. -/
theorem wp_ldz {off : Fin 2 → ℕ} {inb hl} {sh : PosShare TreeShare}  (f : S32x14336.Idx → Elt F .bf16)
    {k : (S32x14336.Idx → Elt F .bf16) → Prog (TpuEff nD τ sig (Elt F) Λ₀ (tc c).2) α} {Q : α → sProp 𝕄} (hoff : off = ![0, 0]) :
    ((tc c).loc cc0_scratch8 ↦[Finset.univ]{sh} f : sProp 𝕄)
      ⊢ iprop((((tc c).loc cc0_scratch8 ↦[Finset.univ]{sh} f) -∗ wp frame (wpE (defs₀ (F := F)) Variants.none (tc c) none) Set.univ (k f) Q)
        -∗ wp frame (wpE (defs₀ (F := F)) Variants.none (tc c) none) Set.univ (Prog.lift (.load (Memref.whole cc0_scratch8) (Rect.unit (s := S32x14336) off S32x14336.size inb).toLoadRect hl) >>= k) Q) := by
  subst hoff
  have hrd : ((Memref.whole cc0_scratch8).access (Rect.unit (s := S32x14336) ![0, 0] S32x14336.size inb)).read (Elt F) f = f :=
    funext fun z => congrArg f ((eq_mk S32x14336 ![(z 0 : ℕ), (z 1 : ℕ)] (by decide) _ fun a => by
    refine (ValueKit.view_emb_slice_whole_unit_val cc0_scratch8 ![0, 0] S32x14336.size inb z a).trans ?_
    match a with
    | ⟨0, _⟩ => exact Nat.zero_add _
    | ⟨1, _⟩ => exact Nat.zero_add _).trans (eq_mk S32x14336 ![(z 0 : ℕ), (z 1 : ℕ)] (by decide) z fun a => by
    match a with
    | ⟨0, _⟩ => rfl
    | ⟨1, _⟩ => rfl).symm)
  have h := wp_load_rect (m := Memref.whole cc0_scratch8) (r := Rect.unit (s := S32x14336) ![0, 0] S32x14336.size inb) (hl := hl)
    (k := k) (Q := Q) (Γ := .empty) (defs := defs₀ (F := F)) Variants.none (tc c) none Set.univ (q := sh) (f := f) (Finset.subset_univ _)
  rw [hrd] at h
  exact h

/-- A load of an expert's rows. -/
theorem wp_ldx {off : Fin 3 → ℕ} {inb hl} {sh : PosShare TreeShare} (e : ℕ) (f : S8x32x2816.Idx → Elt F .bf16)
    {k : (S1x32x2816.Idx → Elt F .bf16) → Prog (TpuEff nD τ sig (Elt F) Λ₀ (tc c).2) α} {Q : α → sProp 𝕄} (hoff : off = ![e, 0, 0]) :
    ((tc c).loc cc0_scratch2 ↦[Finset.univ]{sh} f : sProp 𝕄)
      ⊢ iprop((((tc c).loc cc0_scratch2 ↦[Finset.univ]{sh} f) -∗ wp frame (wpE (defs₀ (F := F)) Variants.none (tc c) none) Set.univ (k (fun z => f (mk S8x32x2816 ![e, (z 1 : ℕ), (z 2 : ℕ)]))) Q)
        -∗ wp frame (wpE (defs₀ (F := F)) Variants.none (tc c) none) Set.univ (Prog.lift (.load (Memref.whole cc0_scratch2) (Rect.unit (s := S8x32x2816) off S1x32x2816.size inb).toLoadRect hl) >>= k) Q) := by
  subst hoff
  have hrd : ((Memref.whole cc0_scratch2).access (Rect.unit (s := S8x32x2816) ![e, 0, 0] S1x32x2816.size inb)).read (Elt F) f = (fun z => f (mk S8x32x2816 ![e, (z 1 : ℕ), (z 2 : ℕ)])) :=
    funext fun z => congrArg f ((eq_mk S8x32x2816 ![e, (z 1 : ℕ), (z 2 : ℕ)] (by decide) _ fun a => by
    refine (ValueKit.view_emb_slice_whole_unit_val cc0_scratch2 ![e, 0, 0] S1x32x2816.size inb z a).trans ?_
    match a with
    | ⟨0, _⟩ => exact congrArg (e + ·) (Nat.lt_one_iff.mp (z 0).isLt)
    | ⟨1, _⟩ => exact Nat.zero_add _
    | ⟨2, _⟩ => exact Nat.zero_add _))
  have h := wp_load_rect (m := Memref.whole cc0_scratch2) (r := Rect.unit (s := S8x32x2816) ![e, 0, 0] S1x32x2816.size inb) (hl := hl)
    (k := k) (Q := Q) (Γ := .empty) (defs := defs₀ (F := F)) Variants.none (tc c) none Set.univ (q := sh) (f := f) (Finset.subset_univ _)
  rw [hrd] at h
  exact h

/-- A load of a block's column scales. -/
theorem wp_ldws {off : Fin 2 → ℕ} {inb hl} {sh : PosShare TreeShare} (e b : ℕ) (f : S8x14336.Idx → Elt F .f32)
    {k : (S1x2048.Idx → Elt F .f32) → Prog (TpuEff nD τ sig (Elt F) Λ₀ (tc c).2) α} {Q : α → sProp 𝕄} (hoff : off = ![e, 2048 * b]) :
    ((tc c).loc cc0_scratch3 ↦[Finset.univ]{sh} f : sProp 𝕄)
      ⊢ iprop((((tc c).loc cc0_scratch3 ↦[Finset.univ]{sh} f) -∗ wp frame (wpE (defs₀ (F := F)) Variants.none (tc c) none) Set.univ (k (fun z => f (mk S8x14336 ![e, 2048 * b + (z 1 : ℕ)]))) Q)
        -∗ wp frame (wpE (defs₀ (F := F)) Variants.none (tc c) none) Set.univ (Prog.lift (.load (Memref.whole cc0_scratch3) (Rect.unit (s := S8x14336) off S1x2048.size inb).toLoadRect hl) >>= k) Q) := by
  subst hoff
  have hrd : ((Memref.whole cc0_scratch3).access (Rect.unit (s := S8x14336) ![e, 2048 * b] S1x2048.size inb)).read (Elt F) f = (fun z => f (mk S8x14336 ![e, 2048 * b + (z 1 : ℕ)])) :=
    funext fun z => congrArg f ((eq_mk S8x14336 ![e, 2048 * b + (z 1 : ℕ)] (by decide) _ fun a => by
    refine (ValueKit.view_emb_slice_whole_unit_val cc0_scratch3 ![e, 2048 * b] S1x2048.size inb z a).trans ?_
    match a with
    | ⟨0, _⟩ => exact congrArg (e + ·) (Nat.lt_one_iff.mp (z 0).isLt)
    | ⟨1, _⟩ => rfl))
  have h := wp_load_rect (m := Memref.whole cc0_scratch3) (r := Rect.unit (s := S8x14336) ![e, 2048 * b] S1x2048.size inb) (hl := hl)
    (k := k) (Q := Q) (Γ := .empty) (defs := defs₀ (F := F)) Variants.none (tc c) none Set.univ (q := sh) (f := f) (Finset.subset_univ _)
  rw [hrd] at h
  exact h

/-- A store of the codes. -/
theorem wp_stxq {inb hx hm} (f p : S32x2816.Idx → Elt F .fp8e4m3)
    {k : PUnit → Prog (TpuEff nD τ sig (Elt F) Λ₀ (tc c).2) α} {Q : α → sProp 𝕄} :
    ((tc c).loc cc0_scratch4 ↦[Finset.univ]{fullShare} f : sProp 𝕄)
      ⊢ iprop((((tc c).loc cc0_scratch4 ↦[Finset.univ]{fullShare} p) -∗ wp frame (wpE (defs₀ (F := F)) Variants.none (tc c) none) Set.univ (k ⟨⟩) Q)
        -∗ wp frame (wpE (defs₀ (F := F)) Variants.none (tc c) none) Set.univ (Prog.lift (.store (Memref.whole cc0_scratch4) (Rect.unit (s := S32x2816) ![0, 0] S32x2816.size inb) p Finset.univ hx hm) >>= k) Q) := by
  have em : ∀ z, ((Memref.whole cc0_scratch4).access (Rect.unit (s := S32x2816) ![0, 0] S32x2816.size inb)).emb z = z := fun z =>
    (eq_mk S32x2816 ![(z 0 : ℕ), (z 1 : ℕ)] (by decide) _ fun a => by
      refine (ValueKit.view_emb_slice_whole_unit_val cc0_scratch4 ![0, 0] S32x2816.size inb z a).trans ?_
      match a with
      | ⟨0, _⟩ => exact Nat.zero_add _
      | ⟨1, _⟩ => exact Nat.zero_add _).trans (eq_mk S32x2816 ![(z 0 : ℕ), (z 1 : ℕ)] (by decide) z fun a => by
      match a with
      | ⟨0, _⟩ => rfl
      | ⟨1, _⟩ => rfl).symm
  have e : ((Memref.whole cc0_scratch4).access (Rect.unit (s := S32x2816) ![0, 0] S32x2816.size inb)).write (Elt F) f p Finset.univ = p := by
    funext z
    conv_lhs => rw [← em z]
    exact View.write_emb_of_mem _ _ (Finset.mem_univ _)
  have h := wp_store (m := Memref.whole cc0_scratch4) (r := Rect.unit (s := S32x2816) ![0, 0] S32x2816.size inb) (w := p) (Mk := Finset.univ) (hx := hx) (hm := hm)
    (k := k) (Q := Q) (Γ := .empty) (defs := defs₀ (F := F)) Variants.none (tc c) none Set.univ (f := f) (Finset.subset_univ _)
  rw [e] at h
  exact h

/-- A store of the row scales. -/
theorem wp_stxs {inb hx hm} (f p : S32x128.Idx → Elt F .f32)
    {k : PUnit → Prog (TpuEff nD τ sig (Elt F) Λ₀ (tc c).2) α} {Q : α → sProp 𝕄} :
    ((tc c).loc cc0_scratch5 ↦[Finset.univ]{fullShare} f : sProp 𝕄)
      ⊢ iprop((((tc c).loc cc0_scratch5 ↦[Finset.univ]{fullShare} p) -∗ wp frame (wpE (defs₀ (F := F)) Variants.none (tc c) none) Set.univ (k ⟨⟩) Q)
        -∗ wp frame (wpE (defs₀ (F := F)) Variants.none (tc c) none) Set.univ (Prog.lift (.store (Memref.whole cc0_scratch5) (Rect.unit (s := S32x128) ![0, 0] S32x128.size inb) p Finset.univ hx hm) >>= k) Q) := by
  have em : ∀ z, ((Memref.whole cc0_scratch5).access (Rect.unit (s := S32x128) ![0, 0] S32x128.size inb)).emb z = z := fun z =>
    (eq_mk S32x128 ![(z 0 : ℕ), (z 1 : ℕ)] (by decide) _ fun a => by
      refine (ValueKit.view_emb_slice_whole_unit_val cc0_scratch5 ![0, 0] S32x128.size inb z a).trans ?_
      match a with
      | ⟨0, _⟩ => exact Nat.zero_add _
      | ⟨1, _⟩ => exact Nat.zero_add _).trans (eq_mk S32x128 ![(z 0 : ℕ), (z 1 : ℕ)] (by decide) z fun a => by
      match a with
      | ⟨0, _⟩ => rfl
      | ⟨1, _⟩ => rfl).symm
  have e : ((Memref.whole cc0_scratch5).access (Rect.unit (s := S32x128) ![0, 0] S32x128.size inb)).write (Elt F) f p Finset.univ = p := by
    funext z
    conv_lhs => rw [← em z]
    exact View.write_emb_of_mem _ _ (Finset.mem_univ _)
  have h := wp_store (m := Memref.whole cc0_scratch5) (r := Rect.unit (s := S32x128) ![0, 0] S32x128.size inb) (w := p) (Mk := Finset.univ) (hx := hx) (hm := hm)
    (k := k) (Q := Q) (Γ := .empty) (defs := defs₀ (F := F)) Variants.none (tc c) none Set.univ (f := f) (Finset.subset_univ _)
  rw [e] at h
  exact h

/-- A store of the zeros. -/
theorem wp_stz {inb hx hm} (f p : S32x14336.Idx → Elt F .bf16)
    {k : PUnit → Prog (TpuEff nD τ sig (Elt F) Λ₀ (tc c).2) α} {Q : α → sProp 𝕄} :
    ((tc c).loc cc0_scratch8 ↦[Finset.univ]{fullShare} f : sProp 𝕄)
      ⊢ iprop((((tc c).loc cc0_scratch8 ↦[Finset.univ]{fullShare} p) -∗ wp frame (wpE (defs₀ (F := F)) Variants.none (tc c) none) Set.univ (k ⟨⟩) Q)
        -∗ wp frame (wpE (defs₀ (F := F)) Variants.none (tc c) none) Set.univ (Prog.lift (.store (Memref.whole cc0_scratch8) (Rect.unit (s := S32x14336) ![0, 0] S32x14336.size inb) p Finset.univ hx hm) >>= k) Q) := by
  have em : ∀ z, ((Memref.whole cc0_scratch8).access (Rect.unit (s := S32x14336) ![0, 0] S32x14336.size inb)).emb z = z := fun z =>
    (eq_mk S32x14336 ![(z 0 : ℕ), (z 1 : ℕ)] (by decide) _ fun a => by
      refine (ValueKit.view_emb_slice_whole_unit_val cc0_scratch8 ![0, 0] S32x14336.size inb z a).trans ?_
      match a with
      | ⟨0, _⟩ => exact Nat.zero_add _
      | ⟨1, _⟩ => exact Nat.zero_add _).trans (eq_mk S32x14336 ![(z 0 : ℕ), (z 1 : ℕ)] (by decide) z fun a => by
      match a with
      | ⟨0, _⟩ => rfl
      | ⟨1, _⟩ => rfl).symm
  have e : ((Memref.whole cc0_scratch8).access (Rect.unit (s := S32x14336) ![0, 0] S32x14336.size inb)).write (Elt F) f p Finset.univ = p := by
    funext z
    conv_lhs => rw [← em z]
    exact View.write_emb_of_mem _ _ (Finset.mem_univ _)
  have h := wp_store (m := Memref.whole cc0_scratch8) (r := Rect.unit (s := S32x14336) ![0, 0] S32x14336.size inb) (w := p) (Mk := Finset.univ) (hx := hx) (hm := hm)
    (k := k) (Q := Q) (Γ := .empty) (defs := defs₀ (F := F)) Variants.none (tc c) none Set.univ (f := f) (Finset.subset_univ _)
  rw [e] at h
  exact h

/-- The copy of the whole of an operand, in flight. -/
def gcF (c : Dev nD) (q : PosShare TreeShare) (X : S8.Idx → Elt F .i32) : sProp 𝕄 :=
  Transfers.Flight (countersEmb (U := Pipeline.UD sig nD τ)) (tc c) (.dma (Fin.ofNat 13 0)) ()
    ((Memref.whole cc0_scratch0).view.ref.dmaCredit S8 .i32)
    iprop(((tc c).loc cc0_scratch0 ↦[Finset.univ]{fullShare} X) ∗ ((tc c).loc main_arg1 ↦[Finset.univ]{q} X))

theorem wp_gcs {hs hd ht} (q : PosShare TreeShare) (X f : S8.Idx → Elt F .i32) {k : PUnit → Prog (TpuEff nD τ sig (Elt F) Λ₀ (tc c).2) α} {Q : α → sProp 𝕄} :
    iprop(((tc c).loc main_arg1 ↦[Finset.univ]{q} X) ∗ ((tc c).loc cc0_scratch0 ↦[Finset.univ]{fullShare} f) ∗ semVal (tc c, .dma (Fin.ofNat 13 0)) 0)
      ⊢ iprop(((gcF c q X : sProp 𝕄) -∗ wp frame (wpE (defs₀ (F := F)) Variants.none (tc c) none) Set.univ (k ⟨⟩) Q)
        -∗ wp frame (wpE (defs₀ (F := F)) Variants.none (tc c) none) Set.univ (Prog.lift (.enqueueDma (Memref.whole main_arg1) (.here (Memref.whole cc0_scratch0)) (.dma cc0_scratch9.sem) hs hd ht) >>= k) Q) := by
  have hse : cc0_scratch9.sem = (Fin.ofNat 13 0 : DmaSem sig) := by decide
  have hset : (Memref.whole main_arg1).view.set = Finset.univ := View.set_whole _
  have hset' : (Memref.whole cc0_scratch0).view.set = Finset.univ := View.set_whole _
  unfold gcF
  iintro ⟨HX, Hf, Hs⟩ Hk
  rw [← hse]
  iapply (Transfers.wp_dmaLocal (countersEmb (U := Pipeline.UD sig nD τ)) Variants.none (tc c) none ()
    ((Memref.whole cc0_scratch0).view.ref.dmaCredit S8 .i32) rfl
    (sig.dmaCredit_pos _ _ _ S8 _ (by decide)) (Sd := Finset.univ) (fs := X) (fd := f) hset'.subset) $$ [HX Hf Hs]
  · rw [hset]
    isplitl [HX]; · iexact HX
    isplitl [Hf]; · iexact Hf
    iexact Hs
  iintro HF
  iapply Hk
  iapply (Transfers.Flight_mono (countersEmb (U := Pipeline.UD sig nD τ)) (tc c) ?_) $$ HF
  rw [hset]
  refine sep_mono ?_ .rfl
  refine (pointsTo_congr ?_).le
  intro i hi
  exact View.write_emb_of_mem (v := (Memref.whole cc0_scratch0).view) _ _ (Finset.mem_univ i)

theorem wp_gcw {hs hd} (q : PosShare TreeShare) (X : S8.Idx → Elt F .i32) {k : PUnit → Prog (TpuEff nD τ sig (Elt F) Λ₀ (tc c).2) α} {Q : α → sProp 𝕄} :
    iprop((gcF c q X : sProp 𝕄) ∗ Ow c)
      ⊢ iprop((iprop(((tc c).loc cc0_scratch0 ↦[Finset.univ]{fullShare} X) ∗ ((tc c).loc main_arg1 ↦[Finset.univ]{q} X)
            ∗ semVal (tc c, .dma (Fin.ofNat 13 0)) 0 ∗ Ow c) -∗ wp frame (wpE (defs₀ (F := F)) Variants.none (tc c) none) Set.univ (k ⟨⟩) Q)
        -∗ wp frame (wpE (defs₀ (F := F)) Variants.none (tc c) none) Set.univ (Prog.lift (.waitDma2 cc0_scratch9.sem (Memref.whole main_arg1) (Memref.whole cc0_scratch0) hs hd) >>= k) Q) := by
  have hse : cc0_scratch9.sem = (Fin.ofNat 13 0 : DmaSem sig) := by decide
  unfold gcF Ow
  rw [← hse]
  iintro ⟨HF, %W, HO⟩ Hk
  iapply (Transfers.wp_waitLocal (countersEmb (U := Pipeline.UD sig nD τ)) Variants.none (tc c) none () rfl) $$ [HF HO]
  · isplitl [HF]; · iexact HF
    iexact HO
  iintro ⟨⟨Hd, HX⟩, Hs, HO⟩
  iapply Hk
  isplitl [Hd]; · iexact Hd
  isplitl [HX]; · iexact HX
  isplitl [Hs]; · iexact Hs
  iexists _; iexact HO

/-- The copy of the whole of an operand, in flight. -/
def xcF (c : Dev nD) (q : PosShare TreeShare) (X : S8x32x2816.Idx → Elt F .bf16) : sProp 𝕄 :=
  Transfers.Flight (countersEmb (U := Pipeline.UD sig nD τ)) (tc c) (.dma (Fin.ofNat 13 1)) ()
    ((Memref.whole cc0_scratch2).view.ref.dmaCredit S8x32x2816 .bf16)
    iprop(((tc c).loc cc0_scratch2 ↦[Finset.univ]{fullShare} X) ∗ ((tc c).loc main_arg0 ↦[Finset.univ]{q} X))

theorem wp_xcs {hs hd ht} (q : PosShare TreeShare) (X f : S8x32x2816.Idx → Elt F .bf16) {k : PUnit → Prog (TpuEff nD τ sig (Elt F) Λ₀ (tc c).2) α} {Q : α → sProp 𝕄} :
    iprop(((tc c).loc main_arg0 ↦[Finset.univ]{q} X) ∗ ((tc c).loc cc0_scratch2 ↦[Finset.univ]{fullShare} f) ∗ semVal (tc c, .dma (Fin.ofNat 13 1)) 0)
      ⊢ iprop(((xcF c q X : sProp 𝕄) -∗ wp frame (wpE (defs₀ (F := F)) Variants.none (tc c) none) Set.univ (k ⟨⟩) Q)
        -∗ wp frame (wpE (defs₀ (F := F)) Variants.none (tc c) none) Set.univ (Prog.lift (.enqueueDma (Memref.whole main_arg0) (.here (Memref.whole cc0_scratch2)) (.dma cc0_scratch10.sem) hs hd ht) >>= k) Q) := by
  have hse : cc0_scratch10.sem = (Fin.ofNat 13 1 : DmaSem sig) := by decide
  have hset : (Memref.whole main_arg0).view.set = Finset.univ := View.set_whole _
  have hset' : (Memref.whole cc0_scratch2).view.set = Finset.univ := View.set_whole _
  unfold xcF
  iintro ⟨HX, Hf, Hs⟩ Hk
  rw [← hse]
  iapply (Transfers.wp_dmaLocal (countersEmb (U := Pipeline.UD sig nD τ)) Variants.none (tc c) none ()
    ((Memref.whole cc0_scratch2).view.ref.dmaCredit S8x32x2816 .bf16) rfl
    (sig.dmaCredit_pos _ _ _ S8x32x2816 _ (by decide)) (Sd := Finset.univ) (fs := X) (fd := f) hset'.subset) $$ [HX Hf Hs]
  · rw [hset]
    isplitl [HX]; · iexact HX
    isplitl [Hf]; · iexact Hf
    iexact Hs
  iintro HF
  iapply Hk
  iapply (Transfers.Flight_mono (countersEmb (U := Pipeline.UD sig nD τ)) (tc c) ?_) $$ HF
  rw [hset]
  refine sep_mono ?_ .rfl
  refine (pointsTo_congr ?_).le
  intro i hi
  exact View.write_emb_of_mem (v := (Memref.whole cc0_scratch2).view) _ _ (Finset.mem_univ i)

theorem wp_xcw {hs hd} (q : PosShare TreeShare) (X : S8x32x2816.Idx → Elt F .bf16) {k : PUnit → Prog (TpuEff nD τ sig (Elt F) Λ₀ (tc c).2) α} {Q : α → sProp 𝕄} :
    iprop((xcF c q X : sProp 𝕄) ∗ Ow c)
      ⊢ iprop((iprop(((tc c).loc cc0_scratch2 ↦[Finset.univ]{fullShare} X) ∗ ((tc c).loc main_arg0 ↦[Finset.univ]{q} X)
            ∗ semVal (tc c, .dma (Fin.ofNat 13 1)) 0 ∗ Ow c) -∗ wp frame (wpE (defs₀ (F := F)) Variants.none (tc c) none) Set.univ (k ⟨⟩) Q)
        -∗ wp frame (wpE (defs₀ (F := F)) Variants.none (tc c) none) Set.univ (Prog.lift (.waitDma2 cc0_scratch10.sem (Memref.whole main_arg0) (Memref.whole cc0_scratch2) hs hd) >>= k) Q) := by
  have hse : cc0_scratch10.sem = (Fin.ofNat 13 1 : DmaSem sig) := by decide
  unfold xcF Ow
  rw [← hse]
  iintro ⟨HF, %W, HO⟩ Hk
  iapply (Transfers.wp_waitLocal (countersEmb (U := Pipeline.UD sig nD τ)) Variants.none (tc c) none () rfl) $$ [HF HO]
  · isplitl [HF]; · iexact HF
    iexact HO
  iintro ⟨⟨Hd, HX⟩, Hs, HO⟩
  iapply Hk
  isplitl [Hd]; · iexact Hd
  isplitl [HX]; · iexact HX
  isplitl [Hs]; · iexact Hs
  iexists _; iexact HO

/-- The copy of the whole of an operand, in flight. -/
def scF (c : Dev nD) (q : PosShare TreeShare) (X : S8x14336.Idx → Elt F .f32) : sProp 𝕄 :=
  Transfers.Flight (countersEmb (U := Pipeline.UD sig nD τ)) (tc c) (.dma (Fin.ofNat 13 2)) ()
    ((Memref.whole cc0_scratch3).view.ref.dmaCredit S8x14336 .f32)
    iprop(((tc c).loc cc0_scratch3 ↦[Finset.univ]{fullShare} X) ∗ ((tc c).loc main_arg3 ↦[Finset.univ]{q} X))

theorem wp_scs {hs hd ht} (q : PosShare TreeShare) (X f : S8x14336.Idx → Elt F .f32) {k : PUnit → Prog (TpuEff nD τ sig (Elt F) Λ₀ (tc c).2) α} {Q : α → sProp 𝕄} :
    iprop(((tc c).loc main_arg3 ↦[Finset.univ]{q} X) ∗ ((tc c).loc cc0_scratch3 ↦[Finset.univ]{fullShare} f) ∗ semVal (tc c, .dma (Fin.ofNat 13 2)) 0)
      ⊢ iprop(((scF c q X : sProp 𝕄) -∗ wp frame (wpE (defs₀ (F := F)) Variants.none (tc c) none) Set.univ (k ⟨⟩) Q)
        -∗ wp frame (wpE (defs₀ (F := F)) Variants.none (tc c) none) Set.univ (Prog.lift (.enqueueDma (Memref.whole main_arg3) (.here (Memref.whole cc0_scratch3)) (.dma cc0_scratch11.sem) hs hd ht) >>= k) Q) := by
  have hse : cc0_scratch11.sem = (Fin.ofNat 13 2 : DmaSem sig) := by decide
  have hset : (Memref.whole main_arg3).view.set = Finset.univ := View.set_whole _
  have hset' : (Memref.whole cc0_scratch3).view.set = Finset.univ := View.set_whole _
  unfold scF
  iintro ⟨HX, Hf, Hs⟩ Hk
  rw [← hse]
  iapply (Transfers.wp_dmaLocal (countersEmb (U := Pipeline.UD sig nD τ)) Variants.none (tc c) none ()
    ((Memref.whole cc0_scratch3).view.ref.dmaCredit S8x14336 .f32) rfl
    (sig.dmaCredit_pos _ _ _ S8x14336 _ (by decide)) (Sd := Finset.univ) (fs := X) (fd := f) hset'.subset) $$ [HX Hf Hs]
  · rw [hset]
    isplitl [HX]; · iexact HX
    isplitl [Hf]; · iexact Hf
    iexact Hs
  iintro HF
  iapply Hk
  iapply (Transfers.Flight_mono (countersEmb (U := Pipeline.UD sig nD τ)) (tc c) ?_) $$ HF
  rw [hset]
  refine sep_mono ?_ .rfl
  refine (pointsTo_congr ?_).le
  intro i hi
  exact View.write_emb_of_mem (v := (Memref.whole cc0_scratch3).view) _ _ (Finset.mem_univ i)

theorem wp_scw {hs hd} (q : PosShare TreeShare) (X : S8x14336.Idx → Elt F .f32) {k : PUnit → Prog (TpuEff nD τ sig (Elt F) Λ₀ (tc c).2) α} {Q : α → sProp 𝕄} :
    iprop((scF c q X : sProp 𝕄) ∗ Ow c)
      ⊢ iprop((iprop(((tc c).loc cc0_scratch3 ↦[Finset.univ]{fullShare} X) ∗ ((tc c).loc main_arg3 ↦[Finset.univ]{q} X)
            ∗ semVal (tc c, .dma (Fin.ofNat 13 2)) 0 ∗ Ow c) -∗ wp frame (wpE (defs₀ (F := F)) Variants.none (tc c) none) Set.univ (k ⟨⟩) Q)
        -∗ wp frame (wpE (defs₀ (F := F)) Variants.none (tc c) none) Set.univ (Prog.lift (.waitDma2 cc0_scratch11.sem (Memref.whole main_arg3) (Memref.whole cc0_scratch3) hs hd) >>= k) Q) := by
  have hse : cc0_scratch11.sem = (Fin.ofNat 13 2 : DmaSem sig) := by decide
  unfold scF Ow
  rw [← hse]
  iintro ⟨HF, %W, HO⟩ Hk
  iapply (Transfers.wp_waitLocal (countersEmb (U := Pipeline.UD sig nD τ)) Variants.none (tc c) none () rfl) $$ [HF HO]
  · isplitl [HF]; · iexact HF
    iexact HO
  iintro ⟨⟨Hd, HX⟩, Hs, HO⟩
  iapply Hk
  isplitl [Hd]; · iexact Hd
  isplitl [HX]; · iexact HX
  isplitl [Hs]; · iexact Hs
  iexists _; iexact HO

/-- The wait for a weight copy. -/
theorem wp_wwt {off1 : Fin 1 → ℕ} {off2 off3 : Fin 3 → ℕ} {inb1 inb2 inb3 hs hd} (W : S8x14336x2816.Idx → Elt F .fp8e4m3)
    (s e b : ℕ) (hs6 : s < 6) (h1 : off1 = ![s]) {k : PUnit → Prog (TpuEff nD τ sig (Elt F) Λ₀ (tc c).2) α} {Q : α → sProp 𝕄} :
    iprop((WFl c W s e b : sProp 𝕄) ∗ Ow c) ⊢ iprop((iprop(WHold c W s e b ∗ Ow c) -∗ wp frame (wpE (defs₀ (F := F)) Variants.none (tc c) none) Set.univ (k ⟨⟩) Q)
        -∗ wp frame (wpE (defs₀ (F := F)) Variants.none (tc c) none) Set.univ (Prog.lift (.waitDma2 ((cc0_scratch12.slice (Rect.unit (s := S6) off1 S1.size inb1)).squeeze S_ squeezes_S1_S_).sem
              (((Memref.whole main_arg2).slice (Rect.unit (s := S8x14336x2816) off3 S1x2048x2816.size inb3) (fun _ => rfl)).squeeze
                S2048x2816 squeezes_S1x2048x2816_S2048x2816)
              (((Memref.whole cc0_scratch6).slice (Rect.unit (s := S6x2048x2816) off2 S1x2048x2816.size inb2) (fun _ => rfl)).squeeze
                S2048x2816 squeezes_S1x2048x2816_S2048x2816) hs hd) >>= k) Q) := by
  have hse := wsem_eq (inb := inb1) s hs6 h1
  unfold WFl WHold Ow
  rw [← hse]
  iintro ⟨⟨HF, HW2⟩, %Wt, HO⟩ Hk
  iapply (Transfers.wp_waitLocal (countersEmb (U := Pipeline.UD sig nD τ)) Variants.none (tc c) none () rfl) $$ [HF HO]
  · isplitl [HF]; · iexact HF
    iexact HO
  iintro ⟨⟨Hd, HW1⟩, Hs, HO⟩
  iapply Hk
  isplitr [HO]
  · isplitl [Hd]; · iexact Hd
    isplitl [Hs]; · iexact Hs
    iapply (pointsTo_split_subset (S := Finset.univ) (Finset.subset_univ (wpc e b))).2
    isplitl [HW1]; · iexact HW1
    iexact HW2
  · iexists _; iexact HO

/-- A load of a filled weight slot. -/
theorem wp_ldw {off : Fin 3 → ℕ} {inb hl} (W : S8x14336x2816.Idx → Elt F .fp8e4m3) (s e b : ℕ) (hoff : off = ![s, 0, 0])
    {k : (S1x2048x2816.Idx → Elt F .fp8e4m3) → Prog (TpuEff nD τ sig (Elt F) Λ₀ (tc c).2) α} {Q : α → sProp 𝕄} :
    (WHold c W s e b : sProp 𝕄)
      ⊢ iprop((WHold c W s e b -∗ wp frame (wpE (defs₀ (F := F)) Variants.none (tc c) none) Set.univ (k (fun z => W (mk S8x14336x2816 ![e, 2048 * b + (z 1 : ℕ), (z 2 : ℕ)]))) Q)
        -∗ wp frame (wpE (defs₀ (F := F)) Variants.none (tc c) none) Set.univ (Prog.lift (.load (Memref.whole cc0_scratch6) (Rect.unit (s := S6x2048x2816) off S1x2048x2816.size inb).toLoadRect hl) >>= k) Q) := by
  subst hoff
  have e1 : ((Memref.whole cc0_scratch6).access (Rect.unit (s := S6x2048x2816) ![s, 0, 0] S1x2048x2816.size inb)).read (Elt F) (wbuf W e b)
      = fun z => W (mk S8x14336x2816 ![e, 2048 * b + (z 1 : ℕ), (z 2 : ℕ)]) := by
    funext z
    have hz := fun a => ValueKit.view_emb_slice_whole_unit_val cc0_scratch6 ![s, 0, 0] S1x2048x2816.size inb z a
    have h1 := (hz 1).trans (Nat.zero_add _)
    have h2 := (hz 2).trans (Nat.zero_add _)
    show wbuf W e b _ = _
    unfold wbuf
    rw [h1, h2]
  have hset : ((Memref.whole cc0_scratch6).access (Rect.unit (s := S6x2048x2816) ![s, 0, 0] S1x2048x2816.size inb)).set = wslot s :=
    (View.set_reshape (v := ((Memref.whole cc0_scratch6).access (Rect.unit (s := S6x2048x2816) ![s, 0, 0] S1x2048x2816.size inb))) squeezes_S1x2048x2816_S2048x2816.numel_eq).symm.trans (set_wslot (inb := inb) s rfl)
  unfold WHold
  iintro ⟨Hd, Hs, HW⟩ Hk
  have h := wp_load_rect (m := Memref.whole cc0_scratch6) (r := Rect.unit (s := S6x2048x2816) ![s, 0, 0] S1x2048x2816.size inb) (hl := hl)
    (k := k) (Q := Q) (Γ := .empty) (defs := defs₀ (F := F)) Variants.none (tc c) none Set.univ (q := fullShare) (f := wbuf W e b) hset.subset
  rw [e1] at h
  iapply h $$ Hd
  iintro Hd
  iapply Hk
  isplitl [Hd]; · iexact Hd
  isplitl [Hs]; · iexact Hs
  iexact HW

/-! ## The output slots -/

/-- What an output slot holds of block `b` of expert `e`. -/
def gbuf (G : S8x32x14336.Idx → Elt F .bf16) (e b : ℕ) : S3x32x2048.Idx → Elt F .bf16 :=
  fun i => G (mk S8x32x14336 ![e, (i 1 : ℕ), 2048 * b + (i 2 : ℕ)])

/-- A free output slot. -/
def OFree (c : Dev nD) (s : ℕ) : sProp 𝕄 :=
  iprop((∃ f, (tc c).loc cc0_scratch7 ↦[oslot s]{fullShare} f) ∗ semVal (tc c, .dma (osem s)) 0)

/-- A slot that holds block `b` of expert `e`. -/
def OHold (c : Dev nD) (G : S8x32x14336.Idx → Elt F .bf16) (s e b : ℕ) : sProp 𝕄 :=
  iprop(((tc c).loc cc0_scratch7 ↦[oslot s]{fullShare} gbuf G e b) ∗ semVal (tc c, .dma (osem s)) 0)

/-- A slot whose block a copy is carrying out. -/
def OFl (c : Dev nD) (G : S8x32x14336.Idx → Elt F .bf16) (s e b : ℕ) : sProp 𝕄 :=
  Transfers.Flight (countersEmb (U := Pipeline.UD sig nD τ)) (tc c) (.dma (osem s)) () No
    iprop(((tc c).loc main_v0 ↦[opc e b]{fullShare} G) ∗ ((tc c).loc cc0_scratch7 ↦[oslot s]{fullShare} gbuf G e b))

/-- A result block's copy starts. -/
theorem wp_ost {off1 : Fin 1 → ℕ} {off2 off3 : Fin 3 → ℕ} {inb1 inb2 inb3 hs hd ht} (G V : S8x32x14336.Idx → Elt F .bf16)
    (s e b : ℕ) (hs3 : s < 3) (h1 : off1 = ![s]) (h2 : off2 = ![s, 0, 0]) (h3 : off3 = ![e, 0, 2048 * b]) {k : PUnit → Prog (TpuEff nD τ sig (Elt F) Λ₀ (tc c).2) α} {Q : α → sProp 𝕄} :
    iprop((OHold c G s e b : sProp 𝕄) ∗ ((tc c).loc main_v0 ↦[opc e b]{fullShare} V)) ⊢ iprop((OFl c G s e b -∗ wp frame (wpE (defs₀ (F := F)) Variants.none (tc c) none) Set.univ (k ⟨⟩) Q)
        -∗ wp frame (wpE (defs₀ (F := F)) Variants.none (tc c) none) Set.univ (Prog.lift (.enqueueDma
              (((Memref.whole cc0_scratch7).slice (Rect.unit (s := S3x32x2048) off2 S1x32x2048.size inb2) (fun _ => rfl)).squeeze
                S32x2048 squeezes_S1x32x2048_S32x2048)
              (.here (((Memref.whole main_v0).slice (Rect.unit (s := S8x32x14336) off3 S1x32x2048.size inb3) (fun _ => rfl)).squeeze
                S32x2048 squeezes_S1x32x2048_S32x2048))
              (.dma ((cc0_scratch13.slice (Rect.unit (s := S3) off1 S1.size inb1)).squeeze S_ squeezes_S1_S_).sem) hs hd ht) >>= k) Q) := by
  have hw := set_oslot (inb := inb2) s h2
  have hp := set_opc (inb := inb3) e b h3
  have hse := osem_eq (inb := inb1) s hs3 h1
  subst h1 h2 h3
  unfold OHold OFl
  rw [← hse]
  iintro ⟨⟨Hf, Hs⟩, HV⟩ Hk
  iapply (Transfers.wp_dmaLocal (countersEmb (U := Pipeline.UD sig nD τ)) Variants.none (tc c) none () No rfl
    No_pos (Sd := opc e b) (fs := gbuf G e b) (fd := V) hp.subset) $$ [Hf HV Hs]
  · rw [hw]
    isplitl [Hf]; · iexact Hf
    isplitl [HV]; · iexact HV
    iexact Hs
  iintro HF
  iapply Hk
  iapply (Transfers.Flight_mono (countersEmb (U := Pipeline.UD sig nD τ)) (tc c) ?_) $$ HF
  rw [hw]
  refine sep_mono ?_ .rfl
  refine (pointsTo_congr ?_).le
  intro i hi
  rw [← hp] at hi
  obtain ⟨x, -, rfl⟩ := Finset.mem_map.mp hi
  refine (View.write_emb_of_mem _ _ (Finset.mem_univ _)).trans ?_
  refine congrArg G (eq_mk _ _ _ _ fun a => ?_).symm
  have hz := fun a => ValueKit.view_emb_slice_whole_unit_val main_v0 ![e, 0, 2048 * b] S1x32x2048.size inb3
    (Shape.reshapeEquiv squeezes_S1x32x2048_S32x2048.numel_eq x) a
  have hy := fun a => ValueKit.view_emb_slice_whole_unit_val cc0_scratch7 ![s, 0, 0] S1x32x2048.size inb2
    (Shape.reshapeEquiv squeezes_S1x32x2048_S32x2048.numel_eq x) a
  refine (hz a).trans ?_
  match a with
  | ⟨0, _⟩ => exact congrArg (e + ·) (Nat.lt_one_iff.mp (Shape.reshapeEquiv squeezes_S1x32x2048_S32x2048.numel_eq x 0).isLt)
  | ⟨1, _⟩ => exact (Nat.zero_add _).trans ((hy 1).trans (Nat.zero_add _)).symm
  | ⟨2, _⟩ => exact congrArg (2048 * b + ·) ((hy 2).trans (Nat.zero_add _)).symm

/-- The wait for a result block's copy. -/
theorem wp_owt {off1 : Fin 1 → ℕ} {off2 off3 : Fin 3 → ℕ} {inb1 inb2 inb3 hs hd} (G : S8x32x14336.Idx → Elt F .bf16)
    (s e b : ℕ) (hs3 : s < 3) (h1 : off1 = ![s]) {k : PUnit → Prog (TpuEff nD τ sig (Elt F) Λ₀ (tc c).2) α} {Q : α → sProp 𝕄} :
    iprop((OFl c G s e b : sProp 𝕄) ∗ Ow c)
      ⊢ iprop((iprop(OFree c s ∗ ((tc c).loc main_v0 ↦[opc e b]{fullShare} G) ∗ Ow c) -∗ wp frame (wpE (defs₀ (F := F)) Variants.none (tc c) none) Set.univ (k ⟨⟩) Q)
        -∗ wp frame (wpE (defs₀ (F := F)) Variants.none (tc c) none) Set.univ (Prog.lift (.waitDma2 ((cc0_scratch13.slice (Rect.unit (s := S3) off1 S1.size inb1)).squeeze S_ squeezes_S1_S_).sem
              (((Memref.whole cc0_scratch7).slice (Rect.unit (s := S3x32x2048) off2 S1x32x2048.size inb2) (fun _ => rfl)).squeeze
                S32x2048 squeezes_S1x32x2048_S32x2048)
              (((Memref.whole main_v0).slice (Rect.unit (s := S8x32x14336) off3 S1x32x2048.size inb3) (fun _ => rfl)).squeeze
                S32x2048 squeezes_S1x32x2048_S32x2048) hs hd) >>= k) Q) := by
  have hse := osem_eq (inb := inb1) s hs3 h1
  unfold OFl OFree Ow
  rw [← hse]
  iintro ⟨HF, %Wt, HO⟩ Hk
  iapply (Transfers.wp_waitLocal (countersEmb (U := Pipeline.UD sig nD τ)) Variants.none (tc c) none () rfl) $$ [HF HO]
  · isplitl [HF]; · iexact HF
    iexact HO
  iintro ⟨⟨HG, Hd⟩, Hs, HO⟩
  iapply Hk
  isplitl [Hd Hs]
  · isplitl [Hd]; · iexists _; iexact Hd
    iexact Hs
  isplitl [HG]; · iexact HG
  iexists _; iexact HO

/-- The load of an output slot that comes before its store. -/
theorem wp_ldo {off : Fin 3 → ℕ} {inb hl} (s : ℕ) (hoff : off = ![s, 0, 0])
    {k : Prog (TpuEff nD τ sig (Elt F) Λ₀ (tc c).2) α} {Q : α → sProp 𝕄} :
    (OFree c s : sProp 𝕄)
      ⊢ iprop((OFree c s -∗ wp frame (wpE (defs₀ (F := F)) Variants.none (tc c) none) Set.univ k Q)
        -∗ wp frame (wpE (defs₀ (F := F)) Variants.none (tc c) none) Set.univ (Prog.lift (.load (Memref.whole cc0_scratch7) (Rect.unit (s := S3x32x2048) off S1x32x2048.size inb).toLoadRect hl) >>= fun _ => k) Q) := by
  subst hoff
  have hset : ((Memref.whole cc0_scratch7).access (Rect.unit (s := S3x32x2048) ![s, 0, 0] S1x32x2048.size inb)).set = oslot s :=
    (View.set_reshape (v := ((Memref.whole cc0_scratch7).access (Rect.unit (s := S3x32x2048) ![s, 0, 0] S1x32x2048.size inb))) squeezes_S1x32x2048_S32x2048.numel_eq).symm.trans (set_oslot (inb := inb) s rfl)
  unfold OFree
  iintro ⟨⟨%f, Hd⟩, Hs⟩ Hk
  iapply (wp_load_rect (m := Memref.whole cc0_scratch7) (r := Rect.unit (s := S3x32x2048) ![s, 0, 0] S1x32x2048.size inb) (hl := hl)
    (k := fun _ => k) (Q := Q) (Γ := .empty) (defs := defs₀ (F := F)) Variants.none (tc c) none Set.univ (q := fullShare) (f := f) hset.subset) $$ Hd
  iintro Hd
  iapply Hk
  isplitl [Hd]; · iexists _; iexact Hd
  iexact Hs

/-- The store of a block's result. -/
theorem wp_sto {off : Fin 3 → ℕ} {inb hx hm} (G : S8x32x14336.Idx → Elt F .bf16) (s e b : ℕ) (hoff : off = ![s, 0, 0])
    (p : S1x32x2048.Idx → Elt F .bf16) (hp : ∀ z, p z = G (mk S8x32x14336 ![e, (z 1 : ℕ), 2048 * b + (z 2 : ℕ)])) {k : PUnit → Prog (TpuEff nD τ sig (Elt F) Λ₀ (tc c).2) α} {Q : α → sProp 𝕄} :
    (OFree c s : sProp 𝕄)
      ⊢ iprop((OHold c G s e b -∗ wp frame (wpE (defs₀ (F := F)) Variants.none (tc c) none) Set.univ (k ⟨⟩) Q)
        -∗ wp frame (wpE (defs₀ (F := F)) Variants.none (tc c) none) Set.univ (Prog.lift (.store (Memref.whole cc0_scratch7) (Rect.unit (s := S3x32x2048) off S1x32x2048.size inb) p Finset.univ hx hm) >>= k) Q) := by
  subst hoff
  have hset : ((Memref.whole cc0_scratch7).access (Rect.unit (s := S3x32x2048) ![s, 0, 0] S1x32x2048.size inb)).set = oslot s :=
    (View.set_reshape (v := ((Memref.whole cc0_scratch7).access (Rect.unit (s := S3x32x2048) ![s, 0, 0] S1x32x2048.size inb))) squeezes_S1x32x2048_S32x2048.numel_eq).symm.trans (set_oslot (inb := inb) s rfl)
  unfold OFree OHold
  iintro ⟨⟨%f, Hd⟩, Hs⟩ Hk
  iapply (wp_store (m := Memref.whole cc0_scratch7) (r := Rect.unit (s := S3x32x2048) ![s, 0, 0] S1x32x2048.size inb) (w := p) (Mk := Finset.univ) (hx := hx) (hm := hm)
    (k := k) (Q := Q) (Γ := .empty) (defs := defs₀ (F := F)) Variants.none (tc c) none Set.univ (f := f) hset.subset) $$ Hd
  iintro Hd
  iapply Hk
  isplitl [Hd]
  · rw [show (((tc c).loc cc0_scratch7 ↦[oslot s]{fullShare} gbuf G e b : sProp 𝕄)) = _ from pointsTo_congr (g := ((Memref.whole cc0_scratch7).access (Rect.unit (s := S3x32x2048) ![s, 0, 0] S1x32x2048.size inb)).write (Elt F) f p Finset.univ) ?_]
    · iexact Hd
    intro i hi
    rw [← hset] at hi
    obtain ⟨x, -, rfl⟩ := Finset.mem_map.mp hi
    have hwr : ((Memref.whole cc0_scratch7).access (Rect.unit (s := S3x32x2048) ![s, 0, 0] S1x32x2048.size inb)).write (Elt F) f p Finset.univ
        (((Memref.whole cc0_scratch7).access (Rect.unit (s := S3x32x2048) ![s, 0, 0] S1x32x2048.size inb)).emb x) = p x :=
      View.write_emb_of_mem _ _ (Finset.mem_univ _)
    refine Eq.trans ?_ (hwr.trans (hp x)).symm
    have hz := fun a => ValueKit.view_emb_slice_whole_unit_val cc0_scratch7 ![s, 0, 0] S1x32x2048.size inb x a
    have h1 := (hz 1).trans (Nat.zero_add _)
    have h2 := (hz 2).trans (Nat.zero_add _)
    show gbuf G e b _ = _
    unfold gbuf
    rw [h1, h2]
  · iexact Hs

end rules

end Cert.KernelIdeal.Hand

end

end
-- ==== Proof.Ideal.Step.lean ====
module

public import proofs.«01_k».proof.Proof.Ideal.Rules
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section regions
variable (gw : ℕ → BitVec 32)

/-- The result's elements whose rank is at least `a` and below `b`. -/
def Reg (a b : ℕ) : Finset (S8x32x14336.Idx) :=
  Finset.univ.filter fun i => a ≤ rk gw (i 0 : ℕ) ((i 2 : ℕ) / 2048) ∧ rk gw (i 0 : ℕ) ((i 2 : ℕ) / 2048) < b

theorem mem_Reg {a b : ℕ} {i : S8x32x14336.Idx} :
    i ∈ Reg gw a b ↔ a ≤ rk gw (i 0 : ℕ) ((i 2 : ℕ) / 2048) ∧ rk gw (i 0 : ℕ) ((i 2 : ℕ) / 2048) < b := by
  simp only [Reg, Finset.mem_filter, Finset.mem_univ, true_and]

theorem ix0 (i : S8x32x14336.Idx) : (i 0 : ℕ) < 8 := (i 0).isLt
theorem ix2 (i : S8x32x14336.Idx) : (i 2 : ℕ) / 2048 < 7 := by
  have h : (i 2 : ℕ) < 14336 := (i 2).isLt
  omega

theorem Reg_sub {a m b : ℕ} (h2 : m ≤ b) : Reg gw a m ⊆ Reg gw a b := fun i hi => by
  rw [mem_Reg] at hi ⊢
  omega

theorem Reg_diff {a m b : ℕ} (h1 : a ≤ m) : Reg gw a b \ Reg gw a m = Reg gw m b := by
  ext i
  rw [Finset.mem_sdiff, mem_Reg, mem_Reg, mem_Reg]
  omega

theorem Reg_self (a : ℕ) : Reg gw a a = ∅ := by
  ext i
  rw [mem_Reg]
  simp only [Finset.notMem_empty, iff_false]
  omega

theorem Reg_all : Reg gw 0 64 = Finset.univ := by
  ext i
  rw [mem_Reg]
  simp only [Finset.mem_univ, iff_true]
  refine ⟨Nat.zero_le _, ?_⟩
  have h := rk_lt gw (ix0 i) (ix2 i)
  have h8 := cnt_le gw 8
  by_cases hl : 0 < (gw (i 0 : ℕ)).toInt
  · have := h.1 hl; omega
  · have := (h.2 hl).2; omega

theorem Reg_opc {j : ℕ} (hj : j < 7 * cnt gw 8) : Reg gw j (j + 1) = opc (ex gw (j / 7)) (j % 7) := by
  ext i
  rw [mem_Reg]
  simp only [opc, Finset.mem_filter, Finset.mem_univ, true_and]
  rw [← rk_block gw (ix0 i) (ix2 i) hj]
  omega

/-- The dead experts before `e`. -/
def dn (e : ℕ) : ℕ := e - cnt gw e

theorem Reg_zpc {e : ℕ} (he : e < 8) (hl : ¬ 0 < (gw e).toInt) : Reg gw (56 + dn gw e) (56 + dn gw e + 1) = zpc e := by
  ext i
  rw [mem_Reg]
  simp only [zpc, Finset.mem_filter, Finset.mem_univ, true_and]
  rw [← rk_dead gw (j := 0) he (ix2 i) (ix0 i) hl]
  unfold dn
  omega

theorem Reg_gap : Reg gw (7 * cnt gw 8) 56 = ∅ := by
  ext i
  rw [mem_Reg]
  simp only [Finset.notMem_empty, iff_false]
  have h := rk_lt gw (ix0 i) (ix2 i)
  by_cases hl : 0 < (gw (i 0 : ℕ)).toInt
  · have := h.1 hl; omega
  · have := (h.2 hl).1; omega

theorem Reg_end : Reg gw (56 + dn gw 8) 64 = ∅ := by
  ext i
  rw [mem_Reg]
  simp only [Finset.notMem_empty, iff_false]
  have h := rk_lt gw (ix0 i) (ix2 i)
  unfold dn
  by_cases hl : 0 < (gw (i 0 : ℕ)).toInt
  · have := h.1 hl; have := cnt_le gw 8; omega
  · have := (h.2 hl).2; omega

theorem dn_live {e : ℕ} (hl : 0 < (gw e).toInt) : dn gw (e + 1) = dn gw e := by
  have : cnt gw (e + 1) = cnt gw e + lvb (gw e) := rfl
  rw [lvb_pos hl] at this
  unfold dn
  omega

theorem dn_dead {e : ℕ} (hl : ¬ 0 < (gw e).toInt) : dn gw (e + 1) = dn gw e + 1 := by
  have : cnt gw (e + 1) = cnt gw e + lvb (gw e) := rfl
  rw [lvb_neg hl] at this
  have := cnt_le gw e
  unfold dn
  omega

theorem dn_mono {a b : ℕ} (h : a ≤ b) : dn gw a ≤ dn gw b := by
  induction b, h using Nat.le_induction with
  | base => exact Nat.le_refl _
  | succ m _ ih =>
    by_cases hl : 0 < (gw m).toInt
    · rw [dn_live gw hl]; exact ih
    · rw [dn_dead gw hl]; omega

theorem toNat_ex (k : ℕ) : (BitVec.ofNat 32 (ex gw k)).toNat = ex gw k := by
  rw [BitVec.toNat_ofNat]
  have := ex_le gw k
  omega

theorem dead_iff (v : BitVec 32) : Scalar.cmpi .ne (Scalar.extui (Scalar.cmpi .sle v 0#32)) 0#32 = 1#1 ↔ ¬ 0 < v.toInt := by
  have h0 : Scalar.cmpi .sle v 0#32 = BitVec.ofBool (decide (v.toInt ≤ 0)) := rfl
  rw [h0, not_lt]
  by_cases h : v.toInt ≤ 0
  · simp only [h, decide_true, iff_true]; decide
  · simp only [h, decide_false, iff_false]; decide

end regions

section ite
variable (c : Dev nD) {α : Type}

/-- A guarded step: what it does when the guard holds, and that nothing is needed when it does not. -/
theorem wp_dite {φ : Prop} [Decidable φ] (P R : sProp 𝕄) {Q : α → sProp 𝕄}
    {A : φ → Prog (TpuEff nD τ sig (Elt F) Λ₀ (tc c).2) α} {k : Prog (TpuEff nD τ sig (Elt F) Λ₀ (tc c).2) α}
    (hT : ∀ h : φ, P ⊢ iprop((R -∗ wp frame (wpE (defs₀ (F := F)) Variants.none (tc c) none) Set.univ k Q) -∗ wp frame (wpE (defs₀ (F := F)) Variants.none (tc c) none) Set.univ (A h) Q)) (hF : ¬ φ → P ⊢ R) :
    P ⊢ iprop((R -∗ wp frame (wpE (defs₀ (F := F)) Variants.none (tc c) none) Set.univ k Q) -∗ wp frame (wpE (defs₀ (F := F)) Variants.none (tc c) none) Set.univ (if h : φ then A h else k) Q) := by
  by_cases h : φ
  · rw [dif_pos h]; exact hT h
  · rw [dif_neg h]
    iintro HP Hk
    iapply Hk
    iapply (hF h) $$ HP

theorem wp_ite {φ : Prop} [Decidable φ] (P R : sProp 𝕄) {Q : α → sProp 𝕄}
    {A k : Prog (TpuEff nD τ sig (Elt F) Λ₀ (tc c).2) α}
    (hT : φ → P ⊢ iprop((R -∗ wp frame (wpE (defs₀ (F := F)) Variants.none (tc c) none) Set.univ k Q) -∗ wp frame (wpE (defs₀ (F := F)) Variants.none (tc c) none) Set.univ A Q)) (hF : ¬ φ → P ⊢ R) :
    P ⊢ iprop((R -∗ wp frame (wpE (defs₀ (F := F)) Variants.none (tc c) none) Set.univ k Q) -∗ wp frame (wpE (defs₀ (F := F)) Variants.none (tc c) none) Set.univ (if φ then A else k) Q) := by
  by_cases h : φ
  · rw [if_pos h]; exact hT h
  · rw [if_neg h]
    iintro HP Hk
    iapply Hk
    iapply (hF h) $$ HP

end ite

section states
variable (c : Dev nD) (gw : ℕ → BitVec 32)

/-- The weight slot of block `u`: filling with it while there is such a block, free after. -/
def WA (W : S8x14336x2816.Idx → Elt F .fp8e4m3) (u : ℕ) : sProp 𝕄 :=
  if u < 7 * cnt gw 8 then WFl c W (u % 6) (ex gw (u / 7)) (u % 7) else WFree c W (u % 6)

/-- The output slot of block `u - 3`, its copy in flight once there is such a block. -/
def OF (G : S8x32x14336.Idx → Elt F .bf16) (u : ℕ) : sProp 𝕄 :=
  if 3 ≤ u then OFl c G (u % 3) (ex gw ((u - 3) / 7)) ((u - 3) % 7) else OFree c (u % 3)

/-- The output slot of block `u - 3`, holding it once there is such a block. -/
def OH (G : S8x32x14336.Idx → Elt F .bf16) (u : ℕ) : sProp 𝕄 :=
  if 3 ≤ u then OHold c G (u % 3) (ex gw ((u - 3) / 7)) ((u - 3) % 7) else OFree c (u % 3)

/-- A region of the result. -/
def RG (V : S8x32x14336.Idx → Elt F .bf16) (a b : ℕ) : sProp 𝕄 := ((tc c).loc main_v0 ↦[Reg gw a b]{fullShare} V)

theorem RG_split (V : S8x32x14336.Idx → Elt F .bf16) {a m b : ℕ} (h1 : a ≤ m) (h2 : m ≤ b) :
    RG c gw V a b ⊢ (iprop(RG c gw V a m ∗ RG c gw V m b) : sProp 𝕄) := by
  unfold RG
  have h := (pointsTo_split_subset (ℓ := (tc c).loc main_v0) (q := fullShare) (f := V) (Name := ℕ) (Lvl := ℕ) (Ix := Unit) (U := Pipeline.UD sig nD τ) (Reg_sub gw (a := a) h2)).1
  rwa [Reg_diff gw h1] at h

theorem RG_join (V : S8x32x14336.Idx → Elt F .bf16) {a m b : ℕ} (h1 : a ≤ m) (h2 : m ≤ b) :
    (iprop(RG c gw V a m ∗ RG c gw V m b) : sProp 𝕄) ⊢ RG c gw V a b := by
  unfold RG
  have h := (pointsTo_split_subset (ℓ := (tc c).loc main_v0) (q := fullShare) (f := V) (Name := ℕ) (Lvl := ℕ) (Ix := Unit) (U := Pipeline.UD sig nD τ) (Reg_sub gw (a := a) h2)).2
  rwa [Reg_diff gw h1] at h

/-- What the list of live experts holds. -/
def LP (L : S9.Idx → BitVec 32) : Prop := ∀ k < cnt gw 8, L (mk S9 ![k]) = BitVec.ofNat 32 (ex gw k)

/-- The list of live experts. -/
abbrev LL (L : S9.Idx → BitVec 32) : sProp 𝕄 := ((tc c).loc cc0_scratch1 ↦[Finset.univ]{fullShare} L)

set_option maxHeartbeats 4000000 in
theorem wp_part3 (L : S9.Idx → BitVec 32) (hL : LP gw L) (W : S8x14336x2816.Idx → Elt F .fp8e4m3) (G V : S8x32x14336.Idx → Elt F .bf16)
    (hw13 : k0_chk13 (gw 0) (gw 1) (gw 2) (gw 3) (gw 4) (gw 5) (gw 6) (gw 7)) (v47 a b : BitVec 32) (t : Fin (k0_t1_loop (gw 0) (gw 1) (gw 2) (gw 3) (gw 4) (gw 5) (gw 6) (gw 7)).trips) {Q}
    (hw17 : k0_chk17 (gw 0) (gw 1) (gw 2) (gw 3) (gw 4) (gw 5) (gw 6) (gw 7) t (BitVec.ofNat 32 (ex gw (t / 7)))) :
    iprop(LL c L ∗ WFree c W ((t.val + 5) % 6) ∗ OF c gw G t ∗ OH c gw G (t + 2) ∗ RG c gw V (t - 1) 56 ∗ RG c gw G 0 (t - 3) ∗ Ow c)
      ⊢ iprop((iprop(LL c L ∗ WA c gw W (t + 5) ∗ OFree c (t % 3) ∗ OF c gw G (t + 2) ∗ RG c gw V t 56 ∗ RG c gw G 0 (t - 2) ∗ Ow c)
          -∗ Q ⟨Scf.iv a b t, Scalar.remsi (Scf.iv a b t) 7#32, BitVec.ofNat 32 (ex gw (t / 7)), hw17, Scalar.remsi (Scf.iv a b t) 6#32, Scalar.remsi (Scf.iv a b t) 3#32⟩)
        -∗ wp frame (wpE (defs₀ (F := F)) Variants.none (tc c) none) Set.univ (k0_part3 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) hw13 v47 a b t) Q) := by
  have hn := nlw_eq gw
  have h8 : cnt gw 8 < 9 := by have := cnt_le gw 8; omega
  have ht7 : t.val < 7 * cnt gw 8 := (trips1 (gw 0) (gw 1) (gw 2) (gw 3) (gw 4) (gw 5) (gw 6) (gw 7) hn h8) ▸ t.isLt
  have ht : t.val < 56 := by omega
  rw [k0_part3_eq_skeleton]
  unfold k0_part3_skel LL
  dsimp only
  iintro ⟨HL, HWf, HF, HH, HV, HG, HO⟩ Hk
  iapply (wp_ldL c L (t / 7) (off28 (gw 0) (gw 1) (gw 2) (gw 3) (gw 4) (gw 5) (gw 6) (gw 7) t ht) (by omega)) $$ HL
  iintro HL
  rw [hL (t / 7) (by omega)]
  iapply (wp_asm c hw17)
  iapply (wp_dite c iprop(((tc c).loc cc0_scratch1 ↦[Finset.univ]{fullShare} L) ∗ WFree c W ((t.val + 5) % 6))
      iprop(((tc c).loc cc0_scratch1 ↦[Finset.univ]{fullShare} L) ∗ WA c gw W (t + 5)) ?_ ?_) $$ [HL HWf]
  · intro h
    have hc := (cond14 (gw 0) (gw 1) (gw 2) (gw 3) (gw 4) (gw 5) (gw 6) (gw 7) t hn h8 ht).1 h
    iintro ⟨HL, HWf⟩ Hk
    iapply (wp_ldL c L ((t + 5) / 7) (off29 (gw 0) (gw 1) (gw 2) (gw 3) (gw 4) (gw 5) (gw 6) (gw 7) t ht) (by omega)) $$ HL
    iintro HL
    rw [hL ((t + 5) / 7) (by omega)]
    iapply (wp_asm c (chk14 (gw 0) (gw 1) (gw 2) (gw 3) (gw 4) (gw 5) (gw 6) (gw 7) hn h8 t _ (by rw [toNat_ex]; exact ex_le gw _)))
    iapply (wp_wst c W ((t + 5) % 6) (ex gw ((t + 5) / 7)) ((t + 5) % 7) (by omega) (off30 (gw 0) (gw 1) (gw 2) (gw 3) (gw 4) (gw 5) (gw 6) (gw 7) t ht) (off31 (gw 0) (gw 1) (gw 2) (gw 3) (gw 4) (gw 5) (gw 6) (gw 7) t ht)
      ((off32 (gw 0) (gw 1) (gw 2) (gw 3) (gw 4) (gw 5) (gw 6) (gw 7) t _ ht (Nat.zero_le _)).trans (by rw [toNat_ex]))) $$ HWf
    iintro HF
    iapply Hk
    isplitl [HL]; · iexact HL
    unfold WA
    rw [if_pos hc]
    iexact HF
  · intro h
    have hc := (cond14 (gw 0) (gw 1) (gw 2) (gw 3) (gw 4) (gw 5) (gw 6) (gw 7) t hn h8 ht).not.1 h
    unfold WA
    rw [if_neg hc]
  · isplitl [HL]; · iexact HL
    iexact HWf
  iintro ⟨HL, HWA⟩
  iapply (wp_dite c iprop(((tc c).loc cc0_scratch1 ↦[Finset.univ]{fullShare} L) ∗ OH c gw G (t + 2) ∗ RG c gw V (t - 1) 56)
      iprop(((tc c).loc cc0_scratch1 ↦[Finset.univ]{fullShare} L) ∗ OF c gw G (t + 2) ∗ RG c gw V t 56) ?_ ?_) $$ [HL HH HV]
  · intro h
    have hc := (cond15 (gw 0) (gw 1) (gw 2) (gw 3) (gw 4) (gw 5) (gw 6) (gw 7) t ht).1 h
    rw [show OH c gw G (t.val + 2) = OHold c G ((t.val - 1) % 3) (ex gw ((t.val - 1) / 7)) ((t.val - 1) % 7) by
        unfold OH; rw [if_pos (show 3 ≤ t.val + 2 by omega), show t.val + 2 - 3 = t.val - 1 by omega, show (t.val + 2) % 3 = (t.val - 1) % 3 by omega],
      show OF c gw G (t.val + 2) = OFl c G ((t.val - 1) % 3) (ex gw ((t.val - 1) / 7)) ((t.val - 1) % 7) by
        unfold OF; rw [if_pos (show 3 ≤ t.val + 2 by omega), show t.val + 2 - 3 = t.val - 1 by omega, show (t.val + 2) % 3 = (t.val - 1) % 3 by omega]]
    iintro ⟨HL, HH, HV⟩ Hk
    iapply (wp_ldL c L ((t - 1) / 7) (off33 (gw 0) (gw 1) (gw 2) (gw 3) (gw 4) (gw 5) (gw 6) (gw 7) t ht hc) (by omega)) $$ HL
    iintro HL
    rw [hL ((t - 1) / 7) (by omega)]
    iapply (wp_asm c (chk15 (gw 0) (gw 1) (gw 2) (gw 3) (gw 4) (gw 5) (gw 6) (gw 7) hn h8 t _ (by rw [toNat_ex]; exact ex_le gw _)))
    ihave HV := (RG_split c gw V (a := t - 1) (m := t - 1 + 1) (b := 56) (by omega) (by omega)) $$ HV
    icases HV with ⟨HV1, HV2⟩
    iapply (wp_ost c G V ((t - 1) % 3) (ex gw ((t - 1) / 7)) ((t - 1) % 7) (by omega) (off34 (gw 0) (gw 1) (gw 2) (gw 3) (gw 4) (gw 5) (gw 6) (gw 7) t ht hc) (off36 (gw 0) (gw 1) (gw 2) (gw 3) (gw 4) (gw 5) (gw 6) (gw 7) t ht hc)
      ((off35 (gw 0) (gw 1) (gw 2) (gw 3) (gw 4) (gw 5) (gw 6) (gw 7) t _ ht hc).trans (by rw [toNat_ex]))) $$ [HH HV1]
    · isplitl [HH]; · iexact HH
      unfold RG
      rw [Reg_opc gw (by omega)]
      iexact HV1
    iintro HF
    iapply Hk
    isplitl [HL]; · iexact HL
    isplitl [HF]; · iexact HF
    rw [show t.val - 1 + 1 = t.val by omega]
    iexact HV2
  · intro h
    have hc := (cond15 (gw 0) (gw 1) (gw 2) (gw 3) (gw 4) (gw 5) (gw 6) (gw 7) t ht).not.1 h
    unfold OH OF
    rw [if_neg (show ¬ 3 ≤ t.val + 2 by omega), if_neg (show ¬ 3 ≤ t.val + 2 by omega), show t.val - 1 = t.val by omega]
  · isplitl [HL]; · iexact HL
    isplitl [HH]; · iexact HH
    iexact HV
  iintro ⟨HL, HH, HV⟩
  iapply (wp_dite c iprop(((tc c).loc cc0_scratch1 ↦[Finset.univ]{fullShare} L) ∗ OF c gw G t ∗ RG c gw G 0 (t - 3) ∗ Ow c)
      iprop(((tc c).loc cc0_scratch1 ↦[Finset.univ]{fullShare} L) ∗ OFree c (t % 3) ∗ RG c gw G 0 (t - 2) ∗ Ow c) ?_ ?_) $$ [HL HF HG HO]
  · intro h
    have hc := (cond16 (gw 0) (gw 1) (gw 2) (gw 3) (gw 4) (gw 5) (gw 6) (gw 7) t ht).1 h
    rw [show OF c gw G t = OFl c G ((t.val - 3) % 3) (ex gw ((t.val - 3) / 7)) ((t.val - 3) % 7) by
        unfold OF; rw [if_pos hc, show t.val % 3 = (t.val - 3) % 3 by omega],
      show t.val % 3 = (t.val - 3) % 3 by omega]
    iintro ⟨HL, HF, HG, HO⟩ Hk
    iapply (wp_ldL c L ((t - 3) / 7) (off37 (gw 0) (gw 1) (gw 2) (gw 3) (gw 4) (gw 5) (gw 6) (gw 7) t ht hc) (by omega)) $$ HL
    iintro HL
    rw [hL ((t - 3) / 7) (by omega)]
    iapply (wp_asm c (chk16 (gw 0) (gw 1) (gw 2) (gw 3) (gw 4) (gw 5) (gw 6) (gw 7) hn h8 t _ (by rw [toNat_ex]; exact ex_le gw _)))
    iapply (wp_owt c G ((t - 3) % 3) (ex gw ((t - 3) / 7)) ((t - 3) % 7) (by omega) (off38 (gw 0) (gw 1) (gw 2) (gw 3) (gw 4) (gw 5) (gw 6) (gw 7) t ht hc)) $$ [HF HO]
    · isplitl [HF]; · iexact HF
      iexact HO
    iintro ⟨HF, HG2, HO⟩
    iapply Hk
    isplitl [HL]; · iexact HL
    isplitl [HF]; · iexact HF
    isplitl [HG HG2]
    · rw [show t.val - 2 = t.val - 3 + 1 by omega]
      iapply (RG_join c gw G (a := 0) (m := t - 3) (b := t - 3 + 1) (by omega) (by omega))
      isplitl [HG]; · iexact HG
      unfold RG
      rw [Reg_opc gw (by omega)]
      iexact HG2
    iexact HO
  · intro h
    have hc := (cond16 (gw 0) (gw 1) (gw 2) (gw 3) (gw 4) (gw 5) (gw 6) (gw 7) t ht).not.1 h
    unfold OF
    rw [if_neg hc, show t.val - 3 = t.val - 2 by omega]
  · isplitl [HL]; · iexact HL
    isplitl [HF]; · iexact HF
    isplitl [HG]; · iexact HG
    iexact HO
  iintro ⟨HL, HF, HG, HO⟩
  iapply le_wp_ret
  iapply Hk
  isplitl [HL]; · iexact HL
  isplitl [HWA]; · iexact HWA
  isplitl [HF]; · iexact HF
  isplitl [HH]; · iexact HH
  isplitl [HV]; · iexact HV
  isplitl [HG]; · iexact HG
  iexact HO

end states

end Cert.KernelIdeal.Hand

end

end
-- ==== Proof.Ideal.Trip.lean ====
module

public import proofs.«01_k».proof.Proof.Ideal.Step
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section values
variable (gw : ℕ → BitVec 32) (X : S8x32x2816.Idx → Elt F .bf16) (WS : S8x14336.Idx → Elt F .f32)
  (W : S8x14336x2816.Idx → Elt F .fp8e4m3)

/-- Expert `e`'s rows, as the body loads them. -/
def xl (e : ℕ) : Vec F S1x32x2816 .bf16 := fun z => X (mk S8x32x2816 ![e, (z 1 : ℕ), (z 2 : ℕ)])
/-- Expert `e`'s codes. -/
def xqv (e : ℕ) : Vec F S32x2816 .fp8e4m3 :=
  k0_pay7 (Scalar.ofBits .f32 0x43E00000#32) (k0_pay6 (k0_pay1 (xl X e)) (k0_pay2 (xl X e)) (k0_pay3 (xl X e)))
/-- Expert `e`'s row scales. -/
def xsv (e : ℕ) : Vec F S32x128 .f32 := k0_pay8 (k0_pay5 (k0_pay2 (xl X e)) (k0_pay3 (xl X e)))
/-- Block `b` of expert `e`'s weights, as the body loads it. -/
def wlv (e b : ℕ) : Vec F S1x2048x2816 .fp8e4m3 := fun z => W (mk S8x14336x2816 ![e, 2048 * b + (z 1 : ℕ), (z 2 : ℕ)])
/-- Block `b` of expert `e`'s column scales, as the body loads it. -/
def wsv (e b : ℕ) : Vec F S1x2048 .f32 := fun z => WS (mk S8x14336 ![e, 2048 * b + (z 1 : ℕ)])
/-- The first column of the row scales, as the body loads it. -/
def xs1 (e : ℕ) : Vec F S32x1 .f32 := fun z => xsv X e (mk S32x128 ![(z 0 : ℕ), 0])
/-- Block `b` of expert `e`'s result. -/
def Bl (e b : ℕ) : Vec F S1x32x2048 .bf16 :=
  k0_pay20 (k0_pay9 (xqv X e) (wlv W e b)) (wsv WS e b) (xs1 X e) (gw e)

end values

section trip
variable (c : Dev nD) (gs : S8.Idx → BitVec 32) (gw : ℕ → BitVec 32)

/-- The codes and the row scales: after a live expert's first block they are that expert's. -/
def XQ (X : S8x32x2816.Idx → Elt F .bf16) (u : ℕ) : sProp 𝕄 :=
  iprop(∃ fq fs, ((tc c).loc cc0_scratch4 ↦[Finset.univ]{fullShare} fq) ∗ ((tc c).loc cc0_scratch5 ↦[Finset.univ]{fullShare} fs)
    ∗ ⌜u % 7 ≠ 0 → fq = xqv X (ex gw (u / 7)) ∧ fs = xsv X (ex gw (u / 7))⌝)

theorem wp_part1 (X : S8x32x2816.Idx → Elt F .bf16) (t : Fin (k0_t1_loop (gw 0) (gw 1) (gw 2) (gw 3) (gw 4) (gw 5) (gw 6) (gw 7)).trips) (e : ℕ) (he : e < 8)
    (hw17 : k0_chk17 (gw 0) (gw 1) (gw 2) (gw 3) (gw 4) (gw 5) (gw 6) (gw 7) t (BitVec.ofNat 32 e)) (h17) {α : Type} {k : _ → Prog (TpuEff nD τ sig (Elt F) Λ₀ (tc c).2) α} {Q : α → sProp 𝕄} :
    ((tc c).loc cc0_scratch2 ↦[Finset.univ]{fullShare} X : sProp 𝕄)
      ⊢ iprop((((tc c).loc cc0_scratch2 ↦[Finset.univ]{fullShare} X) -∗ wp frame (wpE (defs₀ (F := F)) Variants.none (tc c) none) Set.univ (k ⟨k0_pay1 (xl X e), k0_pay2 (xl X e), k0_pay3 (xl X e)⟩) Q)
        -∗ wp frame (wpE (defs₀ (F := F)) Variants.none (tc c) none) Set.univ (k0_part1 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) t (BitVec.ofNat 32 e) hw17 h17 >>= k) Q) := by
  rw [k0_part1_eq_skeleton]
  unfold k0_part1_skel
  rw [wp_bind]
  iintro HX Hk
  iapply (wp_ldx c e X (show k0_off41 (BitVec.ofNat 32 e) = ![e, 0, 0] by
    rw [off41, BitVec.toNat_ofNat, Nat.mod_eq_of_lt (by omega)])) $$ HX
  iintro HX
  iapply le_wp_ret
  iapply Hk
  iexact HX

theorem wp_part2 (a : FVec F S32x2816 .f32) (b : FVec F S32x1 .f32) (d : IVec S32x1 32)
    {α : Type} {k : _ → Prog (TpuEff nD τ sig (Elt F) Λ₀ (tc c).2) α} {Q : α → sProp 𝕄} :
    wp frame (wpE (defs₀ (F := F)) Variants.none (tc c) none) Set.univ (k ⟨k0_pay5 b d, Scalar.ofBits .f32 0x43E00000#32, k0_pay6 a b d⟩) Q
      ⊢ wp frame (wpE (defs₀ (F := F)) Variants.none (tc c) none) Set.univ (k0_part2 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 a b d >>= k) Q := by
  rw [k0_part2_eq_skeleton]
  unfold k0_part2_skel
  rw [wp_bind]
  iintro Hk
  iapply le_wp_ret
  iexact Hk

set_option maxHeartbeats 4000000 in
theorem wp_part4 (L : S9.Idx → BitVec 32) (hL : LP gw L) (X : S8x32x2816.Idx → Elt F .bf16) (WS : S8x14336.Idx → Elt F .f32)
    (W : S8x14336x2816.Idx → Elt F .fp8e4m3)
    (hw13 : k0_chk13 (gw 0) (gw 1) (gw 2) (gw 3) (gw 4) (gw 5) (gw 6) (gw 7)) (t : Fin (k0_t1_loop (gw 0) (gw 1) (gw 2) (gw 3) (gw 4) (gw 5) (gw 6) (gw 7)).trips) (a20 a48 a68 : BitVec 32) {Q}
    (hw17 : k0_chk17 (gw 0) (gw 1) (gw 2) (gw 3) (gw 4) (gw 5) (gw 6) (gw 7) t (BitVec.ofNat 32 (ex gw (t / 7)))) :
    iprop(LL c L ∗ ((tc c).loc cc0_scratch2 ↦[Finset.univ]{fullShare} X) ∗ ((tc c).loc cc0_scratch3 ↦[Finset.univ]{fullShare} WS)
        ∗ XQ c gw X t ∗ WA c gw W t ∗ Ow c)
      ⊢ iprop((iprop(LL c L ∗ ((tc c).loc cc0_scratch2 ↦[Finset.univ]{fullShare} X) ∗ ((tc c).loc cc0_scratch3 ↦[Finset.univ]{fullShare} WS)
          ∗ ((tc c).loc cc0_scratch4 ↦[Finset.univ]{fullShare} xqv X (ex gw (t / 7)))
          ∗ ((tc c).loc cc0_scratch5 ↦[Finset.univ]{fullShare} xsv X (ex gw (t / 7))) ∗ WFree c W (t % 6) ∗ Ow c)
          -∗ Q ⟨k0_pay9 (xqv X (ex gw (t / 7))) (wlv W (ex gw (t / 7)) (t % 7)), wsv WS (ex gw (t / 7)) (t % 7)⟩)
        -∗ wp frame (wpE (defs₀ (F := F)) Variants.none (tc c) none) Set.univ (k0_part4 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) hw13 t a20 a48 (BitVec.ofNat 32 (ex gw (t / 7))) hw17 a68) Q) := by
  have hn := nlw_eq gw
  have h8 : cnt gw 8 < 9 := by have := cnt_le gw 8; omega
  have ht7 : t.val < 7 * cnt gw 8 := (trips1 (gw 0) (gw 1) (gw 2) (gw 3) (gw 4) (gw 5) (gw 6) (gw 7) hn h8) ▸ t.isLt
  have ht : t.val < 56 := by omega
  rw [k0_part4_eq_skeleton, show WA c gw W t = WFl c W (t % 6) (ex gw (t / 7)) (t % 7) from if_pos ht7]
  rw [show wlv W (ex gw (t / 7)) (t % 7) = fun z => W (mk S8x14336x2816 ![ex gw (t / 7), 2048 * (t.val % 7) + (z 1 : ℕ), (z 2 : ℕ)]) from rfl,
    show wsv WS (ex gw (t / 7)) (t % 7) = fun z => WS (mk S8x14336 ![ex gw (t / 7), 2048 * (t.val % 7) + (z 1 : ℕ)]) from rfl]
  unfold k0_part4_skel LL
  dsimp only
  iintro ⟨HL, HX, HS, HQ, HW, HO⟩ Hk
  iapply (wp_dite c iprop(((tc c).loc cc0_scratch2 ↦[Finset.univ]{fullShare} X) ∗ XQ c gw X t)
      iprop(((tc c).loc cc0_scratch2 ↦[Finset.univ]{fullShare} X)
          ∗ ((tc c).loc cc0_scratch4 ↦[Finset.univ]{fullShare} xqv X (ex gw (t / 7)))
          ∗ ((tc c).loc cc0_scratch5 ↦[Finset.univ]{fullShare} xsv X (ex gw (t / 7)))) ?_ ?_) $$ [HX HQ]
  · intro h
    unfold XQ
    iintro ⟨HX, %fq, %fs, Hq, Hs, -⟩ Hk
    iapply (wp_part1 c gw X t (ex gw (t / 7)) (ex_le gw _) hw17 h) $$ HX
    iintro HX
    dsimp only
    iapply (wp_part2 c _ _ _)
    dsimp only
    iapply (wp_ldxq c fq rfl) $$ Hq
    iintro Hq
    iapply (wp_stxq c fq (xqv X (ex gw (t / 7)))) $$ Hq
    iintro Hq
    iapply (wp_ldxs c fs rfl) $$ Hs
    iintro Hs
    iapply (wp_stxs c fs (xsv X (ex gw (t / 7)))) $$ Hs
    iintro Hs
    iapply Hk
    isplitl [HX]; · iexact HX
    isplitl [Hq]; · iexact Hq
    iexact Hs
  · intro h
    have hc := (cond17 (gw 0) (gw 1) (gw 2) (gw 3) (gw 4) (gw 5) (gw 6) (gw 7) t ht).not.1 h
    unfold XQ
    iintro ⟨HX, %fq, %fs, Hq, Hs, %hx⟩
    obtain ⟨rfl, rfl⟩ := hx hc
    isplitl [HX]; · iexact HX
    isplitl [Hq]; · iexact Hq
    iexact Hs
  · isplitl [HX]; · iexact HX
    iexact HQ
  iintro ⟨HX, Hq, Hs⟩
  iapply (wp_ldL c L (t / 7) (off42 (gw 0) (gw 1) (gw 2) (gw 3) (gw 4) (gw 5) (gw 6) (gw 7) t ht) (by omega)) $$ HL
  iintro HL
  rw [hL (t / 7) (by omega)]
  iapply (wp_asm c (chk18 (gw 0) (gw 1) (gw 2) (gw 3) (gw 4) (gw 5) (gw 6) (gw 7) hn h8 t _ (by rw [toNat_ex]; exact ex_le gw _)))
  iapply (wp_wwt c W (t % 6) (ex gw (t / 7)) (t % 7) (by omega) (off43 (gw 0) (gw 1) (gw 2) (gw 3) (gw 4) (gw 5) (gw 6) (gw 7) t ht)) $$ [HW HO]
  · isplitl [HW]; · iexact HW
    iexact HO
  iintro ⟨HW, HO⟩
  iapply (wp_ldxq c (xqv X (ex gw (t / 7))) rfl) $$ Hq
  iintro Hq
  iapply (wp_ldw c W (t % 6) (ex gw (t / 7)) (t % 7) (off46 (gw 0) (gw 1) (gw 2) (gw 3) (gw 4) (gw 5) (gw 6) (gw 7) t ht)) $$ HW
  iintro HW
  iapply (wp_ldws c (ex gw (t / 7)) (t % 7) WS ((off47 (gw 0) (gw 1) (gw 2) (gw 3) (gw 4) (gw 5) (gw 6) (gw 7) t _ ht (Nat.zero_le _)).trans (by rw [toNat_ex]))) $$ HS
  iintro HS
  iapply le_wp_ret
  iapply Hk
  isplitl [HL]; · iexact HL
  isplitl [HX]; · iexact HX
  isplitl [HS]; · iexact HS
  isplitl [Hq]; · iexact Hq
  isplitl [Hs]; · iexact Hs
  isplitl [HW]; · iapply (WHold_free c W _ _ _) $$ HW
  iexact HO

/-- What the loop holds before trip `u`. -/
def Inv (L : S9.Idx → BitVec 32) (X : S8x32x2816.Idx → Elt F .bf16) (WS : S8x14336.Idx → Elt F .f32)
    (W : S8x14336x2816.Idx → Elt F .fp8e4m3) (G V : S8x32x14336.Idx → Elt F .bf16) (u : ℕ) : sProp 𝕄 :=
  iprop(((tc c).loc cc0_scratch0 ↦[Finset.univ]{fullShare} gs) ∗ LL c L
    ∗ ((tc c).loc cc0_scratch2 ↦[Finset.univ]{fullShare} X) ∗ ((tc c).loc cc0_scratch3 ↦[Finset.univ]{fullShare} WS) ∗ XQ c gw X u
    ∗ WA c gw W u ∗ WA c gw W (u + 1) ∗ WA c gw W (u + 2) ∗ WA c gw W (u + 3) ∗ WA c gw W (u + 4) ∗ WFree c W ((u + 5) % 6)
    ∗ OF c gw G u ∗ OF c gw G (u + 1) ∗ OH c gw G (u + 2) ∗ RG c gw V (u - 1) 56 ∗ RG c gw G 0 (u - 3) ∗ Ow c)

set_option maxHeartbeats 4000000 in
theorem wp_trip (hgw : ∀ i, gw i = gs (mk S8 ![i])) (L : S9.Idx → BitVec 32) (hL : LP gw L) (X : S8x32x2816.Idx → Elt F .bf16) (WS : S8x14336.Idx → Elt F .f32)
    (W : S8x14336x2816.Idx → Elt F .fp8e4m3) (G V : S8x32x14336.Idx → Elt F .bf16)
    (hG : ∀ e < 8, 0 < (gw e).toInt → ∀ b < 7, ∀ z, Bl gw X WS W e b z = G (mk S8x32x14336 ![e, (z 1 : ℕ), 2048 * b + (z 2 : ℕ)]))
    (hw13 : k0_chk13 (gw 0) (gw 1) (gw 2) (gw 3) (gw 4) (gw 5) (gw 6) (gw 7)) (v47 v89 : BitVec 32) (t : Fin (k0_t1_loop (gw 0) (gw 1) (gw 2) (gw 3) (gw 4) (gw 5) (gw 6) (gw 7)).trips) (x : Unit) :
    Inv c gs gw L X WS W G V t ⊢ wp frame (wpE (defs₀ (F := F)) Variants.none (tc c) none) Set.univ (k0_t1_body (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) hw13 v47 v89 t x) (fun _ => Inv c gs gw L X WS W G V (t + 1)) := by
  have hn := nlw_eq gw
  have h8 : cnt gw 8 < 9 := by have := cnt_le gw 8; omega
  have ht7 : t.val < 7 * cnt gw 8 := (trips1 (gw 0) (gw 1) (gw 2) (gw 3) (gw 4) (gw 5) (gw 6) (gw 7) hn h8) ▸ t.isLt
  have ht : t.val < 56 := by omega
  have hw17 : k0_chk17 (gw 0) (gw 1) (gw 2) (gw 3) (gw 4) (gw 5) (gw 6) (gw 7) t (BitVec.ofNat 32 (ex gw (t / 7))) := chk17 (gw 0) (gw 1) (gw 2) (gw 3) (gw 4) (gw 5) (gw 6) (gw 7) hn h8 t _ (by rw [toNat_ex]; exact ex_le gw _)
  unfold k0_t1_body Inv
  iintro ⟨Hg, HL, HX, HS, HQ, HW0, HW1, HW2, HW3, HW4, HW5, HF0, HF1, HH, HV, HD, HO⟩
  rw [wp_bind]
  iapply (wp_part3 c gw L hL W G V hw13 v47 0#32 1#32 t hw17) $$ [HL HW5 HF0 HH HV HD HO]
  · isplitl [HL]; · iexact HL
    isplitl [HW5]; · iexact HW5
    isplitl [HF0]; · iexact HF0
    isplitl [HH]; · iexact HH
    isplitl [HV]; · iexact HV
    isplitl [HD]; · iexact HD
    iexact HO
  iintro ⟨HL, HW5, HF0, HF2, HV, HD, HO⟩
  dsimp only
  rw [wp_bind]
  iapply (wp_part4 c gw L hL X WS W hw13 t _ _ _ hw17) $$ [HL HX HS HQ HW0 HO]
  · isplitl [HL]; · iexact HL
    isplitl [HX]; · iexact HX
    isplitl [HS]; · iexact HS
    isplitl [HQ]; · iexact HQ
    isplitl [HW0]; · iexact HW0
    iexact HO
  iintro ⟨HL, HX, HS, Hq, Hs, HW0, HO⟩
  dsimp only
  iapply (wp_ldxs1 c (xsv X (ex gw (t / 7))) rfl) $$ Hs
  iintro Hs
  iapply (wp_ldG c gs (ex gw (t / 7)) ((off48 _).trans (by rw [toNat_ex])) (ex_le gw _)) $$ Hg
  iintro Hg
  rw [← hgw]
  iapply (wp_ldo c (t % 3) (off49 (gw 0) (gw 1) (gw 2) (gw 3) (gw 4) (gw 5) (gw 6) (gw 7) t ht)) $$ HF0
  iintro HF0
  iapply (wp_sto c G (t % 3) (ex gw (t / 7)) (t % 7) (off49 (gw 0) (gw 1) (gw 2) (gw 3) (gw 4) (gw 5) (gw 6) (gw 7) t ht) _
    (hG _ (ex_le gw _) (ex_live gw (by omega)) (t % 7) (by omega))) $$ HF0
  iintro HF0
  iapply le_wp_ret
  isplitl [Hg]; · iexact Hg
  isplitl [HL]; · iexact HL
  isplitl [HX]; · iexact HX
  isplitl [HS]; · iexact HS
  isplitl [Hq Hs]
  · unfold XQ
    iexists _, _
    isplitl [Hq]; · iexact Hq
    isplitl [Hs]; · iexact Hs
    ipureintro
    intro h
    rw [show (t.val + 1) / 7 = t.val / 7 by omega]
    exact ⟨rfl, rfl⟩
  isplitl [HW1]; · iexact HW1
  isplitl [HW2]; · iexact HW2
  isplitl [HW3]; · iexact HW3
  isplitl [HW4]; · iexact HW4
  isplitl [HW5]; · iexact HW5
  isplitl [HW0]
  · rw [show (t.val + 1 + 5) % 6 = t.val % 6 by omega]
    iexact HW0
  isplitl [HF1]; · iexact HF1
  isplitl [HF2]; · iexact HF2
  isplitl [HF0]
  · unfold OH
    rw [if_pos (show 3 ≤ t.val + 1 + 2 by omega), show (t.val + 1 + 2) % 3 = t.val % 3 by omega, show t.val + 1 + 2 - 3 = t.val by omega]
    iexact HF0
  isplitl [HV]; · iexact HV
  isplitl [HD]
  · rw [show t.val + 1 - 3 = t.val - 2 by omega]
    iexact HD
  iexact HO

end trip

end Cert.KernelIdeal.Hand

end

end
-- ==== Proof.Ideal.Dead.lean ====
module

public import proofs.«01_k».proof.Proof.Ideal.Trip
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Batch
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

theorem pay19_eq (y : S32x14336.Idx) : k0_pay19 (F := F) y = Scalar.ofBits .bf16 0x0000#16 := rfl

section dead
variable (c : Dev nD) (gw : ℕ → BitVec 32)

/-- What the copy of the zeros to the `j`-th dead expert's result delivers. -/
def DZ (G : S8x32x14336.Idx → Elt F .bf16) (j : Fin (dn gw 8)) : sProp 𝕄 :=
  iprop(((tc c).loc main_v0 ↦[Reg gw (56 + j.val) (56 + j.val + 1)]{fullShare} G)
    ∗ ((tc c).loc cc0_scratch8 ↦[Finset.univ]{Transfers.shareTokN fullShare j.val} (k0_pay19 (F := F))))

instance (G : S8x32x14336.Idx → Elt F .bf16) (j : Fin (dn gw 8)) : Storable (upEmb : UEmb _ 𝕄) (DZ c gw G j) := by
  unfold DZ
  infer_instance

/-- The zeros' copies: `j` started, `u` units waited for. -/
def BT (G : S8x32x14336.Idx → Elt F .bf16) (j u : ℕ) : sProp 𝕄 :=
  Transfers.Batch (countersEmb (U := Pipeline.UD sig nD τ)) (tc c) (.dma zsem) () Nz (DZ c gw G) j u

/-- The zeros' copies when the experts before `e` have been visited. -/
def ZS (G V : S8x32x14336.Idx → Elt F .bf16) (e : ℕ) : sProp 𝕄 :=
  iprop(BT c gw G (dn gw e) 0 ∗ RG c gw V (56 + dn gw e) 64
    ∗ ((tc c).loc cc0_scratch8 ↦[Finset.univ]{Transfers.shareDrop fullShare (dn gw e)} (k0_pay19 (F := F))))

/-- The waits for the zeros' copies when the experts before `e` have been visited. -/
def ZW (G : S8x32x14336.Idx → Elt F .bf16) (e : ℕ) : sProp 𝕄 :=
  iprop(BT c gw G (dn gw 8) (dn gw e * Nz) ∗ Ow c)

theorem zsem_eq : cc0_scratch14.sem = zsem := by decide

set_option maxHeartbeats 4000000 in
theorem wp_zst {α : Type} (G V : S8x32x14336.Idx → Elt F .bf16)
    (hz : ∀ i : S8x32x14336.Idx, ¬ 0 < (gw (i 0 : ℕ)).toInt → G i = Scalar.ofBits .bf16 0x0000#16)
    (e : ℕ) (he : e < 8) {off : Fin 3 → ℕ} {inb hs hd ht} (h3 : off = ![e, 0, 0])
    {k : Prog (TpuEff nD τ sig (Elt F) Λ₀ (tc c).2) α} {Q : α → sProp 𝕄} :
    ZS c gw G V e ⊢ iprop((ZS c gw G V (e + 1) -∗ wp frame (wpE (defs₀ (F := F)) Variants.none (tc c) none) Set.univ k Q)
      -∗ wp frame (wpE (defs₀ (F := F)) Variants.none (tc c) none) Set.univ (if Scalar.cmpi .ne (Scalar.extui (Scalar.cmpi .sle (gw e) 0#32)) 0#32 = 1#1 then
          (Prog.lift (.enqueueDma (Memref.whole cc0_scratch8)
            (.here (((Memref.whole main_v0).slice (Rect.unit (s := S8x32x14336) off S1x32x14336.size inb) (fun _ => rfl)).squeeze
                S32x14336 squeezes_S1x32x14336_S32x14336))
            (.dma cc0_scratch14.sem) hs hd ht) >>= fun _ => k) else k) Q) := by
  have hp := set_zpc (inb := inb) e h3
  subst h3
  refine wp_ite c _ _ (fun h => ?_) (fun h => ?_)
  · have hl := (dead_iff _).1 h
    have hdn := dn_dead gw hl
    have hj : dn gw e < dn gw 8 := by
      have := dn_mono gw (show e + 1 ≤ 8 by omega)
      omega
    have hr := Reg_zpc gw he hl
    have hset : (Memref.whole cc0_scratch8).view.set = Finset.univ := View.set_whole _
    have h56 : dn gw 8 ≤ 8 := by unfold dn; omega
    unfold ZS BT
    rw [hdn, ← zsem_eq]
    iintro ⟨HB, HV, HZ⟩ Hk
    ihave HV := (RG_split c gw V (a := 56 + dn gw e) (m := 56 + dn gw e + 1) (b := 64) (by omega) (by omega)) $$ HV
    icases HV with ⟨HV1, HV2⟩
    ihave HZ := (show ((tc c).loc cc0_scratch8 ↦[Finset.univ]{Transfers.shareDrop fullShare (dn gw e)} (k0_pay19 (F := F)) : sProp 𝕄)
        ⊢ iprop(((tc c).loc cc0_scratch8 ↦[Finset.univ]{Transfers.shareDrop fullShare (dn gw e + 1)} (k0_pay19 (F := F)))
          ∗ ((tc c).loc cc0_scratch8 ↦[Finset.univ]{Transfers.shareTokN fullShare (dn gw e)} (k0_pay19 (F := F)))) from
      (pointsTo_share (PosShare.mem_left_op_right _)).1) $$ HZ
    icases HZ with ⟨HZ, HZ2⟩
    iapply (Transfers.wp_dmaBatch (countersEmb (U := Pipeline.UD sig nD τ)) Variants.none (tc c) none () Nz rfl
      (Sd := zpc e) (q := Transfers.shareTokN fullShare (dn gw e)) (fs := k0_pay19 (F := F)) (fd := V) (D := DZ c gw G) hp.subset hj (Nat.zero_le _) ?_) $$ [HB HV1 HZ2]
    · unfold DZ
      rw [hset]
      refine sep_mono ?_ .rfl
      rw [hr]
      refine (pointsTo_congr ?_).le
      intro i hi
      have hi0 : (i 0 : ℕ) = e := by simpa [zpc] using hi
      rw [← hp] at hi
      obtain ⟨x, -, rfl⟩ := Finset.mem_map.mp hi
      refine (View.write_emb_of_mem _ _ (Finset.mem_univ _)).trans ?_
      refine Eq.trans ?_ (hz _ (by rw [hi0]; exact hl)).symm
      rfl
    · rw [hset]
      isplitl [HZ2]; · iexact HZ2
      isplitl [HV1]
      · unfold RG
        rw [hr]
        iexact HV1
      iexact HB
    iintro HB
    iapply Hk
    isplitl [HB]; · iexact HB
    isplitl [HV2]; · iexact HV2
    iexact HZ
  · have hl : 0 < (gw e).toInt := by
      by_contra hl
      exact h ((dead_iff _).2 hl)
    unfold ZS
    rw [dn_live gw hl]

theorem wp_zwt {α : Type} (G : S8x32x14336.Idx → Elt F .bf16)
    (e : ℕ) (he : e < 8) {off : Fin 3 → ℕ} {inb hs hd}
    {k : Prog (TpuEff nD τ sig (Elt F) Λ₀ (tc c).2) α} {Q : α → sProp 𝕄} :
    ZW c gw G e ⊢ iprop((ZW c gw G (e + 1) -∗ wp frame (wpE (defs₀ (F := F)) Variants.none (tc c) none) Set.univ k Q)
      -∗ wp frame (wpE (defs₀ (F := F)) Variants.none (tc c) none) Set.univ (if Scalar.cmpi .ne (Scalar.extui (Scalar.cmpi .sle (gw e) 0#32)) 0#32 = 1#1 then
          (Prog.lift (.waitDma2 cc0_scratch14.sem (Memref.whole cc0_scratch8)
            (((Memref.whole main_v0).slice (Rect.unit (s := S8x32x14336) off S1x32x14336.size inb) (fun _ => rfl)).squeeze
                S32x14336 squeezes_S1x32x14336_S32x14336) hs hd) >>= fun _ => k) else k) Q) := by
  refine wp_ite c _ _ (fun h => ?_) (fun h => ?_)
  · have hl := (dead_iff _).1 h
    have hdn := dn_dead gw hl
    have hj : dn gw e + 1 ≤ dn gw 8 := by
      have := dn_mono gw (show e + 1 ≤ 8 by omega)
      omega
    unfold ZW BT Ow
    rw [hdn, ← zsem_eq]
    iintro ⟨HB, %Wt, HO⟩ Hk
    iapply (Transfers.wp_waitBatchMul (countersEmb (U := Pipeline.UD sig nD τ)) Variants.none (tc c) none () (N := Nz) 1 (Nat.one_mul _).symm
      (D := DZ c gw G) (j := dn gw 8) (u := dn gw e * Nz) (by rw [← Nat.add_mul, Nat.mul_comm]; exact Nat.mul_le_mul_left _ hj)) $$ [HB HO]
    · isplitl [HB]; · iexact HB
      iexact HO
    iintro ⟨HB, HO⟩
    iapply Hk
    isplitl [HB]
    · rw [Nat.add_mul]
      iexact HB
    iexists _; iexact HO
  · have hl : 0 < (gw e).toInt := by
      by_contra hl
      exact h ((dead_iff _).2 hl)
    unfold ZW
    rw [dn_live gw hl]

theorem RG_collect (G : S8x32x14336.Idx → Elt F .bf16) (n : ℕ) :
    BI.bigSep (Finset.range n) (fun j => RG c gw G (56 + j) (56 + j + 1)) ⊢ (RG c gw G 56 (56 + n) : sProp 𝕄) := by
  induction n with
  | zero =>
    unfold RG
    rw [Nat.add_zero, Reg_self, pointsTo_empty]
    exact .rfl
  | succ n ih =>
    have hb : BI.bigSep (Finset.range (n + 1)) (fun j => (RG c gw G (56 + j) (56 + j + 1) : sProp 𝕄))
        = iprop(RG c gw G (56 + n) (56 + n + 1) ∗ BI.bigSep (Finset.range n) (fun j => RG c gw G (56 + j) (56 + j + 1))) := by
      rw [Finset.range_add_one, BI.bigSep_insert Finset.notMem_range_self]; rfl
    rw [hb]
    iintro ⟨H1, H2⟩
    ihave H2 := ih $$ H2
    rw [show 56 + (n + 1) = 56 + n + 1 from rfl]
    iapply (RG_join c gw G (a := 56) (m := 56 + n) (b := 56 + n + 1) (by omega) (by omega))
    isplitl [H2]; · iexact H2
    iexact H1

/-- Every dead expert's result is zero, and the zeros are whole again. -/
theorem ZW_end (G : S8x32x14336.Idx → Elt F .bf16) :
    iprop(ZW c gw G 8 ∗ ((tc c).loc cc0_scratch8 ↦[Finset.univ]{Transfers.shareDrop fullShare (dn gw 8)} (k0_pay19 (F := F))))
      ⊢ (|={Set.univ}=> iprop(RG c gw G 56 64 ∗ ((tc c).loc cc0_scratch8 ↦[Finset.univ]{fullShare} (k0_pay19 (F := F)))
        ∗ semVal (tc c, .dma zsem) 0 ∗ Ow c) : sProp 𝕄) := by
  have h56 : dn gw 8 ≤ 8 := by unfold dn; omega
  unfold ZW BT
  rw [Nat.mul_comm]
  iintro ⟨⟨HB, HO⟩, HZ⟩
  imod (Transfers.batch_collect' (countersEmb (U := Pipeline.UD sig nD τ)) (tc c) Nz_pos) $$ HB with ⟨HD, Hs⟩
  imodintro
  ihave HD := (show BI.bigSep Finset.univ (DZ c gw G) ⊢ (iprop(BI.bigSep (Finset.range (dn gw 8)) (fun j => RG c gw G (56 + j) (56 + j + 1))
      ∗ BI.bigSep Finset.univ (fun i : Fin (dn gw 8) => ((tc c).loc cc0_scratch8 ↦[Finset.univ]{Transfers.shareTok fullShare (dn gw 8) i} (k0_pay19 (F := F))))) : sProp 𝕄) from by
    rw [← Nat.Iio_eq_range, ← Fin.map_valEmbedding_univ, BI.bigSep_map]
    exact (Entails.of_eq (BI.bigSep_sep Finset.univ _ _))) $$ HD
  icases HD with ⟨HG, HT⟩
  isplitl [HG]
  · ihave HG := (RG_collect c gw G (dn gw 8)) $$ HG
    iapply (RG_join c gw G (a := 56) (m := 56 + dn gw 8) (b := 64) (by omega) (by omega))
    isplitl [HG]; · iexact HG
    unfold RG
    rw [Reg_end, pointsTo_empty]
    iempintro
  isplitl [HZ HT]
  · iapply (Transfers.pointsTo_toks_join fullShare (dn gw 8))
    isplitl [HZ]; · iexact HZ
    iexact HT
  isplitl [Hs]; · iexact Hs
  iexact HO

end dead

end Cert.KernelIdeal.Hand

end

end
-- ==== Proof.Ideal.Pro.lean ====
module

public import proofs.«01_k».proof.Proof.Ideal.Dead
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section ends
variable (c : Dev nD) (gs : S8.Idx → BitVec 32) (gw : ℕ → BitVec 32)

/-- What the list holds when the experts before `e` have been visited. -/
def LPe (e : ℕ) (L : S9.Idx → BitVec 32) : Prop := ∀ k < cnt gw e, L (mk S9 ![k]) = BitVec.ofNat 32 (lst gw e k)

theorem lt9 (e : ℕ) (he : e < 9) : cnt gw e < 9 := by
  have := cnt_le gw e
  omega

theorem mk9_ne {a b : ℕ} (ha : a < 9) (hb : b < 9) (h : a ≠ b) : mk S9 ![a] ≠ mk S9 ![b] := fun hc => by
  have h1 := congrArg (fun i : S9.Idx => (i 0 : ℕ)) hc
  have h2 : a % 9 = b % 9 := h1
  omega

theorem LPe_succ {e : ℕ} (he : e < 8) (L : S9.Idx → BitVec 32) (h : LPe gw e L) :
    LPe gw (e + 1) (Function.update L (mk S9 ![cnt gw e]) (BitVec.ofNat 32 e)) := by
  intro k hk
  have h1 : cnt gw (e + 1) = cnt gw e + lvb (gw e) := rfl
  have h2 : lst gw (e + 1) = Function.update (lst gw e) (cnt gw e) e := rfl
  have h3 := lvb_le (gw e)
  have h4 := cnt_le gw e
  rw [h2]
  by_cases hke : k = cnt gw e
  · rw [hke, Function.update_self, Function.update_self]
  · rw [Function.update_of_ne (mk9_ne (by omega) (by omega) hke), Function.update_of_ne hke]
    exact h k (by omega)

theorem LPe_zero (L : S9.Idx → BitVec 32) : LPe gw 0 L := fun k hk => absurd hk (Nat.not_lt_zero k)

theorem Ow_intro (W) : (owes (tc c) 0 W : sProp 𝕄) ⊢ Ow c := by
  unfold Ow
  iintro H
  iexists _; iexact H

set_option maxHeartbeats 4000000 in
theorem wp_part9 (hgw : ∀ i, gw i = gs (mk S8 ![i])) (L0 : S9.Idx → BitVec 32) (X : S8x32x2816.Idx → Elt F .bf16) (WS : S8x14336.Idx → Elt F .f32)
    (f0 : S8.Idx → BitVec 32) (f2 : S8x32x2816.Idx → Elt F .bf16) (f3 : S8x14336.Idx → Elt F .f32) {Q}
    (hw5 : k0_chk5 (gw 0) (gw 1) (gw 2) (gw 3) (gw 4)) :
    iprop(((tc c).loc main_arg1 ↦[Finset.univ]{fullShare} gs) ∗ ((tc c).loc cc0_scratch0 ↦[Finset.univ]{fullShare} f0) ∗ semVal (tc c, .dma (Fin.ofNat 13 0)) 0
        ∗ ((tc c).loc main_arg0 ↦[Finset.univ]{fullShare} X) ∗ ((tc c).loc cc0_scratch2 ↦[Finset.univ]{fullShare} f2) ∗ semVal (tc c, .dma (Fin.ofNat 13 1)) 0
        ∗ ((tc c).loc main_arg3 ↦[Finset.univ]{fullShare} WS) ∗ ((tc c).loc cc0_scratch3 ↦[Finset.univ]{fullShare} f3) ∗ semVal (tc c, .dma (Fin.ofNat 13 2)) 0
        ∗ LL c L0 ∗ Ow c)
      ⊢ iprop((∀ v28, iprop(((tc c).loc main_arg1 ↦[Finset.univ]{fullShare} gs) ∗ ((tc c).loc cc0_scratch0 ↦[Finset.univ]{fullShare} gs) ∗ semVal (tc c, .dma (Fin.ofNat 13 0)) 0
          ∗ xcF c fullShare X ∗ scF c fullShare WS ∗ (∃ L, LL c L ∗ ⌜LPe gw 5 L⌝) ∗ Ow c)
          -∗ Q ⟨gw 0, gw 1, gw 2, gw 3, gw 4, hw5, v28⟩)
        -∗ wp frame (wpE (defs₀ (F := F)) Variants.none (tc c) none) Set.univ (k0_part9 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  rw [k0_part9_eq_skeleton]
  unfold k0_part9_skel LL
  iintro ⟨Ha1, Hg, Hs0, Ha0, Hx, Hs1, Ha3, Hw, Hs2, HL, HO⟩ Hk
  iapply (wp_gcs c fullShare gs f0) $$ [Ha1 Hg Hs0]
  · isplitl [Ha1]; · iexact Ha1
    isplitl [Hg]; · iexact Hg
    iexact Hs0
  iintro HG
  iapply (wp_xcs c fullShare X f2) $$ [Ha0 Hx Hs1]
  · isplitl [Ha0]; · iexact Ha0
    isplitl [Hx]; · iexact Hx
    iexact Hs1
  iintro HXF
  iapply (wp_scs c fullShare WS f3) $$ [Ha3 Hw Hs2]
  · isplitl [Ha3]; · iexact Ha3
    isplitl [Hw]; · iexact Hw
    iexact Hs2
  iintro HSF
  iapply (wp_gcw c fullShare gs) $$ [HG HO]
  · isplitl [HG]; · iexact HG
    iexact HO
  iintro ⟨Hg, Ha1, Hs0, HO⟩
  iapply (wp_ldL c L0 0 rfl (by omega)) $$ HL
  iintro HL
  iapply (wp_stL c L0 0 rfl (by omega) (BitVec.ofNat 32 0)) $$ HL
  iintro HL
  iapply (wp_ldG c gs 0 rfl (by omega)) $$ Hg
  iintro Hg
  rw [← hgw 0]
  iapply (wp_asm c (chk1 gw))
  iapply (wp_ldL c _ (cnt gw 1) (off1 gw) (lt9 gw 1 (by omega))) $$ HL
  iintro HL
  iapply (wp_stL c _ (cnt gw 1) (off1 gw) (lt9 gw 1 (by omega)) (BitVec.ofNat 32 1)) $$ HL
  iintro HL
  iapply (wp_ldG c gs 1 rfl (by omega)) $$ Hg
  iintro Hg
  rw [← hgw 1]
  iapply (wp_asm c (chk2 gw))
  iapply (wp_ldL c _ (cnt gw 2) (off2 gw) (lt9 gw 2 (by omega))) $$ HL
  iintro HL
  iapply (wp_stL c _ (cnt gw 2) (off2 gw) (lt9 gw 2 (by omega)) (BitVec.ofNat 32 2)) $$ HL
  iintro HL
  iapply (wp_ldG c gs 2 rfl (by omega)) $$ Hg
  iintro Hg
  rw [← hgw 2]
  iapply (wp_asm c (chk3 gw))
  iapply (wp_ldL c _ (cnt gw 3) (off3 gw) (lt9 gw 3 (by omega))) $$ HL
  iintro HL
  iapply (wp_stL c _ (cnt gw 3) (off3 gw) (lt9 gw 3 (by omega)) (BitVec.ofNat 32 3)) $$ HL
  iintro HL
  iapply (wp_ldG c gs 3 rfl (by omega)) $$ Hg
  iintro Hg
  rw [← hgw 3]
  iapply (wp_asm c (chk4 gw))
  iapply (wp_ldL c _ (cnt gw 4) (off4 gw) (lt9 gw 4 (by omega))) $$ HL
  iintro HL
  iapply (wp_stL c _ (cnt gw 4) (off4 gw) (lt9 gw 4 (by omega)) (BitVec.ofNat 32 4)) $$ HL
  iintro HL
  iapply (wp_ldG c gs 4 rfl (by omega)) $$ Hg
  iintro Hg
  rw [← hgw 4]
  iapply (wp_asm c (chk5 gw))
  iapply le_wp_ret
  iapply Hk
  isplitl [Ha1]; · iexact Ha1
  isplitl [Hg]; · iexact Hg
  isplitl [Hs0]; · iexact Hs0
  isplitl [HXF]; · iexact HXF
  isplitl [HSF]; · iexact HSF
  isplitl [HL]
  · iexists _
    isplitl [HL]; · iexact HL
    ipureintro
    exact LPe_succ gw (by omega) _ (LPe_succ gw (by omega) _ (LPe_succ gw (by omega) _ (LPe_succ gw (by omega) _ (LPe_succ gw (e := 0) (by omega) _ (LPe_zero gw L0)))))
  iexact HO

set_option maxHeartbeats 4000000 in
theorem wp_part10 (hgw : ∀ i, gw i = gs (mk S8 ![i])) (L0 : S9.Idx → BitVec 32) (hL0 : LPe gw 5 L0) (W : S8x14336x2816.Idx → Elt F .fp8e4m3) {Q}
    (hw5 : k0_chk5 (gw 0) (gw 1) (gw 2) (gw 3) (gw 4)) (v28 : BitVec 32) (hw13 : k0_chk13 (gw 0) (gw 1) (gw 2) (gw 3) (gw 4) (gw 5) (gw 6) (gw 7)) :
    iprop(((tc c).loc cc0_scratch0 ↦[Finset.univ]{fullShare} gs) ∗ LL c L0 ∗ WFree c W 0 ∗ WFree c W 1 ∗ WFree c W 2 ∗ WFree c W 3)
      ⊢ iprop((∀ v47, iprop(((tc c).loc cc0_scratch0 ↦[Finset.univ]{fullShare} gs) ∗ (∃ L, LL c L ∗ ⌜LP gw L⌝) ∗ WA c gw W 0 ∗ WA c gw W 1 ∗ WA c gw W 2 ∗ WA c gw W 3)
          -∗ Q ⟨gw 5, gw 6, gw 7, hw13, v47, 4#32⟩)
        -∗ wp frame (wpE (defs₀ (F := F)) Variants.none (tc c) none) Set.univ (k0_part10 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) hw5 v28) Q) := by
  have hn := nlw_eq gw
  have h8 : cnt gw 8 < 9 := by have := cnt_le gw 8; omega
  rw [k0_part10_eq_skeleton]
  unfold k0_part10_skel LL
  dsimp only
  iintro ⟨Hg, HL, HW0, HW1, HW2, HW3⟩ Hk
  iapply (wp_ldL c _ (cnt gw 5) (off5 gw) (lt9 gw 5 (by omega))) $$ HL
  iintro HL
  iapply (wp_stL c _ (cnt gw 5) (off5 gw) (lt9 gw 5 (by omega)) (BitVec.ofNat 32 5)) $$ HL
  iintro HL
  iapply (wp_ldG c gs 5 rfl (by omega)) $$ Hg
  iintro Hg
  rw [← hgw 5]
  iapply (wp_asm c (chk6 gw))
  iapply (wp_ldL c _ (cnt gw 6) (off6 gw) (lt9 gw 6 (by omega))) $$ HL
  iintro HL
  iapply (wp_stL c _ (cnt gw 6) (off6 gw) (lt9 gw 6 (by omega)) (BitVec.ofNat 32 6)) $$ HL
  iintro HL
  iapply (wp_ldG c gs 6 rfl (by omega)) $$ Hg
  iintro Hg
  rw [← hgw 6]
  iapply (wp_asm c (chk7 gw))
  iapply (wp_ldL c _ (cnt gw 7) (off7 gw) (lt9 gw 7 (by omega))) $$ HL
  iintro HL
  iapply (wp_stL c _ (cnt gw 7) (off7 gw) (lt9 gw 7 (by omega)) (BitVec.ofNat 32 7)) $$ HL
  iintro HL
  iapply (wp_ldG c gs 7 rfl (by omega)) $$ Hg
  iintro Hg
  rw [← hgw 7]
  iapply (wp_asm c hw13)
  ihave HL := (show _ ⊢ iprop(∃ L, LL c L ∗ ⌜LP gw L⌝) from (by
    unfold LL
    iintro HL
    iexists _
    isplitl [HL]; · iexact HL
    ipureintro
    exact LPe_succ gw (e := 7) (by omega) _ (LPe_succ gw (by omega) _ (LPe_succ gw (by omega) _ hL0)))) $$ HL
  icases HL with ⟨%L, HL, %hL⟩
  iapply (wp_dite c iprop(LL c L ∗ WFree c W 0) iprop(LL c L ∗ WA c gw W 0) ?_ ?_) $$ [HL HW0]
  · intro h
    have hc := (cond1 (gw 0) (gw 1) (gw 2) (gw 3) (gw 4) (gw 5) (gw 6) (gw 7) hn h8).1 h
    rw [show WA c gw W 0 = WFl c W 0 (ex gw 0) 0 from if_pos hc]
    unfold LL
    iintro ⟨HL, HW⟩ Hk
    iapply (wp_ldL c L 0 off8 (by omega)) $$ HL
    iintro HL
    rw [hL 0 (by omega)]
    iapply (wp_asm c (chk8 (gw 0) (gw 1) (gw 2) (gw 3) (gw 4) (gw 5) (gw 6) (gw 7) hn h8 _ (by rw [toNat_ex]; exact ex_le gw _)))
    iapply (wp_wst c W 0 (ex gw 0) 0 (by omega) off9 off10 ((off11 _).trans (by rw [toNat_ex]))) $$ HW
    iintro HF
    iapply Hk
    isplitl [HL]; · iexact HL
    iexact HF
  · intro h
    have hc := (cond1 (gw 0) (gw 1) (gw 2) (gw 3) (gw 4) (gw 5) (gw 6) (gw 7) hn h8).not.1 h
    rw [show WA c gw W 0 = WFree c W 0 from if_neg hc]
  · isplitl [HL]; · iexact HL
    iexact HW0
  iintro ⟨HL, HW0⟩
  iapply (wp_dite c iprop(LL c L ∗ WFree c W 1) iprop(LL c L ∗ WA c gw W 1) ?_ ?_) $$ [HL HW1]
  · intro h
    have hc := (cond2 (gw 0) (gw 1) (gw 2) (gw 3) (gw 4) (gw 5) (gw 6) (gw 7) hn h8).1 h
    rw [show WA c gw W 1 = WFl c W 1 (ex gw 0) 1 from if_pos hc]
    unfold LL
    iintro ⟨HL, HW⟩ Hk
    iapply (wp_ldL c L 0 off12 (by omega)) $$ HL
    iintro HL
    rw [hL 0 (by omega)]
    iapply (wp_asm c (chk9 (gw 0) (gw 1) (gw 2) (gw 3) (gw 4) (gw 5) (gw 6) (gw 7) hn h8 _ (by rw [toNat_ex]; exact ex_le gw _)))
    iapply (wp_wst c W 1 (ex gw 0) 1 (by omega) off13 off14 ((off15 _).trans (by rw [toNat_ex]))) $$ HW
    iintro HF
    iapply Hk
    isplitl [HL]; · iexact HL
    iexact HF
  · intro h
    have hc := (cond2 (gw 0) (gw 1) (gw 2) (gw 3) (gw 4) (gw 5) (gw 6) (gw 7) hn h8).not.1 h
    rw [show WA c gw W 1 = WFree c W 1 from if_neg hc]
  · isplitl [HL]; · iexact HL
    iexact HW1
  iintro ⟨HL, HW1⟩
  iapply (wp_dite c iprop(LL c L ∗ WFree c W 2) iprop(LL c L ∗ WA c gw W 2) ?_ ?_) $$ [HL HW2]
  · intro h
    have hc := (cond3 (gw 0) (gw 1) (gw 2) (gw 3) (gw 4) (gw 5) (gw 6) (gw 7) hn h8).1 h
    rw [show WA c gw W 2 = WFl c W 2 (ex gw 0) 2 from if_pos hc]
    unfold LL
    iintro ⟨HL, HW⟩ Hk
    iapply (wp_ldL c L 0 off16 (by omega)) $$ HL
    iintro HL
    rw [hL 0 (by omega)]
    iapply (wp_asm c (chk10 (gw 0) (gw 1) (gw 2) (gw 3) (gw 4) (gw 5) (gw 6) (gw 7) hn h8 _ (by rw [toNat_ex]; exact ex_le gw _)))
    iapply (wp_wst c W 2 (ex gw 0) 2 (by omega) off17 off18 ((off19 _).trans (by rw [toNat_ex]))) $$ HW
    iintro HF
    iapply Hk
    isplitl [HL]; · iexact HL
    iexact HF
  · intro h
    have hc := (cond3 (gw 0) (gw 1) (gw 2) (gw 3) (gw 4) (gw 5) (gw 6) (gw 7) hn h8).not.1 h
    rw [show WA c gw W 2 = WFree c W 2 from if_neg hc]
  · isplitl [HL]; · iexact HL
    iexact HW2
  iintro ⟨HL, HW2⟩
  iapply (wp_dite c iprop(LL c L ∗ WFree c W 3) iprop(LL c L ∗ WA c gw W 3) ?_ ?_) $$ [HL HW3]
  · intro h
    have hc := (cond4 (gw 0) (gw 1) (gw 2) (gw 3) (gw 4) (gw 5) (gw 6) (gw 7) hn h8).1 h
    rw [show WA c gw W 3 = WFl c W 3 (ex gw 0) 3 from if_pos hc]
    unfold LL
    iintro ⟨HL, HW⟩ Hk
    iapply (wp_ldL c L 0 off20 (by omega)) $$ HL
    iintro HL
    rw [hL 0 (by omega)]
    iapply (wp_asm c (chk11 (gw 0) (gw 1) (gw 2) (gw 3) (gw 4) (gw 5) (gw 6) (gw 7) hn h8 _ (by rw [toNat_ex]; exact ex_le gw _)))
    iapply (wp_wst c W 3 (ex gw 0) 3 (by omega) off21 off22 ((off23 _).trans (by rw [toNat_ex]))) $$ HW
    iintro HF
    iapply Hk
    isplitl [HL]; · iexact HL
    iexact HF
  · intro h
    have hc := (cond4 (gw 0) (gw 1) (gw 2) (gw 3) (gw 4) (gw 5) (gw 6) (gw 7) hn h8).not.1 h
    rw [show WA c gw W 3 = WFree c W 3 from if_neg hc]
  · isplitl [HL]; · iexact HL
    iexact HW3
  iintro ⟨HL, HW3⟩
  iapply le_wp_ret
  iapply Hk
  isplitl [Hg]; · iexact Hg
  isplitl [HL]
  · iexists L
    isplitl [HL]; · iexact HL
    ipureintro
    exact hL
  isplitl [HW0]; · iexact HW0
  isplitl [HW1]; · iexact HW1
  isplitl [HW2]; · iexact HW2
  iexact HW3

end ends

end Cert.KernelIdeal.Hand

end

end
-- ==== Proof.Ideal.Epi.lean ====
module

public import proofs.«01_k».proof.Proof.Ideal.Pro
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section rot
theorem WFree_rot (c : Dev nD) (W : S8x14336x2816.Idx → Elt F .fp8e4m3) (a : ℕ) : iprop(WFree c W ((a + 0) % 6) ∗ WFree c W ((a + 1) % 6) ∗ WFree c W ((a + 2) % 6) ∗ WFree c W ((a + 3) % 6) ∗ WFree c W ((a + 4) % 6) ∗ WFree c W ((a + 5) % 6))
    ⊢ (iprop(WFree c W 0 ∗ WFree c W 1 ∗ WFree c W 2 ∗ WFree c W 3 ∗ WFree c W 4 ∗ WFree c W 5) : sProp 𝕄) := by
  have h : a % 6 < 6 := Nat.mod_lt _ (by omega)
  rcases (show a % 6 = 0 ∨ a % 6 = 1 ∨ a % 6 = 2 ∨ a % 6 = 3 ∨ a % 6 = 4 ∨ a % 6 = 5 by omega) with h | h | h | h | h | h
  · rw [show (a + 0) % 6 = 0 by omega, show (a + 1) % 6 = 1 by omega, show (a + 2) % 6 = 2 by omega, show (a + 3) % 6 = 3 by omega, show (a + 4) % 6 = 4 by omega, show (a + 5) % 6 = 5 by omega]
  · rw [show (a + 0) % 6 = 1 by omega, show (a + 1) % 6 = 2 by omega, show (a + 2) % 6 = 3 by omega, show (a + 3) % 6 = 4 by omega, show (a + 4) % 6 = 5 by omega, show (a + 5) % 6 = 0 by omega]
    iintro ⟨H1, H2, H3, H4, H5, H0⟩
    isplitl [H0]; · iexact H0
    isplitl [H1]; · iexact H1
    isplitl [H2]; · iexact H2
    isplitl [H3]; · iexact H3
    isplitl [H4]; · iexact H4
    iexact H5
  · rw [show (a + 0) % 6 = 2 by omega, show (a + 1) % 6 = 3 by omega, show (a + 2) % 6 = 4 by omega, show (a + 3) % 6 = 5 by omega, show (a + 4) % 6 = 0 by omega, show (a + 5) % 6 = 1 by omega]
    iintro ⟨H2, H3, H4, H5, H0, H1⟩
    isplitl [H0]; · iexact H0
    isplitl [H1]; · iexact H1
    isplitl [H2]; · iexact H2
    isplitl [H3]; · iexact H3
    isplitl [H4]; · iexact H4
    iexact H5
  · rw [show (a + 0) % 6 = 3 by omega, show (a + 1) % 6 = 4 by omega, show (a + 2) % 6 = 5 by omega, show (a + 3) % 6 = 0 by omega, show (a + 4) % 6 = 1 by omega, show (a + 5) % 6 = 2 by omega]
    iintro ⟨H3, H4, H5, H0, H1, H2⟩
    isplitl [H0]; · iexact H0
    isplitl [H1]; · iexact H1
    isplitl [H2]; · iexact H2
    isplitl [H3]; · iexact H3
    isplitl [H4]; · iexact H4
    iexact H5
  · rw [show (a + 0) % 6 = 4 by omega, show (a + 1) % 6 = 5 by omega, show (a + 2) % 6 = 0 by omega, show (a + 3) % 6 = 1 by omega, show (a + 4) % 6 = 2 by omega, show (a + 5) % 6 = 3 by omega]
    iintro ⟨H4, H5, H0, H1, H2, H3⟩
    isplitl [H0]; · iexact H0
    isplitl [H1]; · iexact H1
    isplitl [H2]; · iexact H2
    isplitl [H3]; · iexact H3
    isplitl [H4]; · iexact H4
    iexact H5
  · rw [show (a + 0) % 6 = 5 by omega, show (a + 1) % 6 = 0 by omega, show (a + 2) % 6 = 1 by omega, show (a + 3) % 6 = 2 by omega, show (a + 4) % 6 = 3 by omega, show (a + 5) % 6 = 4 by omega]
    iintro ⟨H5, H0, H1, H2, H3, H4⟩
    isplitl [H0]; · iexact H0
    isplitl [H1]; · iexact H1
    isplitl [H2]; · iexact H2
    isplitl [H3]; · iexact H3
    isplitl [H4]; · iexact H4
    iexact H5

theorem OFree_rot (c : Dev nD) (a : ℕ) : iprop(OFree (F := F) c ((a + 0) % 3) ∗ OFree (F := F) c ((a + 1) % 3) ∗ OFree (F := F) c ((a + 2) % 3))
    ⊢ (iprop(OFree (F := F) c 0 ∗ OFree (F := F) c 1 ∗ OFree (F := F) c 2) : sProp 𝕄) := by
  have h : a % 3 < 3 := Nat.mod_lt _ (by omega)
  rcases (show a % 3 = 0 ∨ a % 3 = 1 ∨ a % 3 = 2 by omega) with h | h | h
  · rw [show (a + 0) % 3 = 0 by omega, show (a + 1) % 3 = 1 by omega, show (a + 2) % 3 = 2 by omega]
  · rw [show (a + 0) % 3 = 1 by omega, show (a + 1) % 3 = 2 by omega, show (a + 2) % 3 = 0 by omega]
    iintro ⟨H1, H2, H0⟩
    isplitl [H0]; · iexact H0
    isplitl [H1]; · iexact H1
    iexact H2
  · rw [show (a + 0) % 3 = 2 by omega, show (a + 1) % 3 = 0 by omega, show (a + 2) % 3 = 1 by omega]
    iintro ⟨H2, H0, H1⟩
    isplitl [H0]; · iexact H0
    isplitl [H1]; · iexact H1
    iexact H2

theorem RG_opc (c : Dev nD) (gw : ℕ → BitVec 32) (V : S8x32x14336.Idx → Elt F .bf16) {a b j : ℕ} (ha : a = j) (hb : b = j + 1) (hj : j < 7 * cnt gw 8) :
    (RG c gw V a b : sProp 𝕄) = ((tc c).loc main_v0 ↦[opc (ex gw (j / 7)) (j % 7)]{fullShare} V) := by
  subst ha hb
  unfold RG
  rw [Reg_opc gw hj]

theorem RG_nil (c : Dev nD) (gw : ℕ → BitVec 32) (V : S8x32x14336.Idx → Elt F .bf16) {a b : ℕ} (h : a = b) :
    (RG c gw V a b : sProp 𝕄) = iprop(emp) := by
  subst h
  unfold RG
  rw [Reg_self, pointsTo_empty]

end rot

section ends
variable (c : Dev nD) (gs : S8.Idx → BitVec 32) (gw : ℕ → BitVec 32)

set_option maxHeartbeats 4000000 in
theorem wp_part11 (hgw : ∀ i, gw i = gs (mk S8 ![i])) (L : S9.Idx → BitVec 32) (hL : LP gw L) (X : S8x32x2816.Idx → Elt F .bf16) (WS : S8x14336.Idx → Elt F .f32)
    (W : S8x14336x2816.Idx → Elt F .fp8e4m3) (G V : S8x32x14336.Idx → Elt F .bf16) (f8 : S32x14336.Idx → Elt F .bf16)
    (hz : ∀ i : S8x32x14336.Idx, ¬ 0 < (gw (i 0 : ℕ)).toInt → G i = Scalar.ofBits .bf16 0x0000#16) (v47 a : BitVec 32) {Q} :
    iprop(((tc c).loc cc0_scratch0 ↦[Finset.univ]{fullShare} gs) ∗ LL c L ∗ WFree c W 4 ∗ xcF c fullShare X ∗ scF c fullShare WS
        ∗ ((tc c).loc cc0_scratch8 ↦[Finset.univ]{fullShare} f8) ∗ semVal (tc c, .dma zsem) 0 ∗ RG c gw V 56 64 ∗ Ow c)
      ⊢ iprop((iprop(((tc c).loc cc0_scratch0 ↦[Finset.univ]{fullShare} gs) ∗ LL c L ∗ WA c gw W 4
          ∗ (((tc c).loc cc0_scratch2 ↦[Finset.univ]{fullShare} X) ∗ ((tc c).loc main_arg0 ↦[Finset.univ]{fullShare} X) ∗ semVal (tc c, .dma (Fin.ofNat 13 1)) 0)
          ∗ (((tc c).loc cc0_scratch3 ↦[Finset.univ]{fullShare} WS) ∗ ((tc c).loc main_arg3 ↦[Finset.univ]{fullShare} WS) ∗ semVal (tc c, .dma (Fin.ofNat 13 2)) 0)
          ∗ ZS c gw G V 5 ∗ Ow c)
          -∗ Q (Scalar.extui (Scalar.cmpi .sle (gw 5) 0#32)))
        -∗ wp frame (wpE (defs₀ (F := F)) Variants.none (tc c) none) Set.univ (k0_part11 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) v47 a) Q) := by
  have hn := nlw_eq gw
  have h8 : cnt gw 8 < 9 := by have := cnt_le gw 8; omega
  rw [k0_part11_eq_skeleton]
  unfold k0_part11_skel
  dsimp only
  iintro ⟨Hg, HL, HW4, HX, HS, Hf, Hz, HV, HO⟩ Hk
  iapply (wp_dite c iprop(LL c L ∗ WFree c W 4) iprop(LL c L ∗ WA c gw W 4) ?_ ?_) $$ [HL HW4]
  · intro h
    have hc := (cond5 (gw 0) (gw 1) (gw 2) (gw 3) (gw 4) (gw 5) (gw 6) (gw 7) hn h8).1 h
    rw [show WA c gw W 4 = WFl c W 4 (ex gw 0) 4 from if_pos hc]
    unfold LL
    iintro ⟨HL, HW⟩ Hk
    iapply (wp_ldL c L 0 off24 (by omega)) $$ HL
    iintro HL
    rw [hL 0 (by omega)]
    iapply (wp_asm c (chk12 (gw 0) (gw 1) (gw 2) (gw 3) (gw 4) (gw 5) (gw 6) (gw 7) hn h8 _ (by rw [toNat_ex]; exact ex_le gw _)))
    iapply (wp_wst c W 4 (ex gw 0) 4 (by omega) off25 off26 ((off27 _).trans (by rw [toNat_ex]))) $$ HW
    iintro HF
    iapply Hk
    isplitl [HL]; · iexact HL
    iexact HF
  · intro h
    have hc := (cond5 (gw 0) (gw 1) (gw 2) (gw 3) (gw 4) (gw 5) (gw 6) (gw 7) hn h8).not.1 h
    rw [show WA c gw W 4 = WFree c W 4 from if_neg hc]
  · isplitl [HL]; · iexact HL
    iexact HW4
  iintro ⟨HL, HW4⟩
  iapply (wp_ldz c f8 rfl) $$ Hf
  iintro Hf
  iapply (wp_stz c f8 (k0_pay19 (F := F))) $$ Hf
  iintro Hf
  iapply (wp_xcw c fullShare X) $$ [HX HO]
  · isplitl [HX]; · iexact HX
    iexact HO
  iintro ⟨Hx, Ha0, Hs1, HO⟩
  iapply (wp_scw c fullShare WS) $$ [HS HO]
  · isplitl [HS]; · iexact HS
    iexact HO
  iintro ⟨Hw, Ha3, Hs2, HO⟩
  imod (Transfers.batch_alloc' (Lvl := ℕ) (countersEmb (U := Pipeline.UD sig nD τ)) (c : Thread nD τ) () Nz
      (DZ c gw G) (sm := SemLoc.dma zsem) (E := Set.univ)) $$ Hz with HB
  ihave HZ := (show iprop(Transfers.Batch (countersEmb (U := Pipeline.UD sig nD τ)) (tc c) (.dma zsem) () Nz (DZ c gw G) 0 0
      ∗ RG c gw V 56 64 ∗ ((tc c).loc cc0_scratch8 ↦[Finset.univ]{fullShare} (k0_pay19 (F := F)))) ⊢ (ZS c gw G V 0 : sProp 𝕄) from .rfl) $$ [HB HV Hf]
  · isplitl [HB]; · iexact HB
    isplitl [HV]; · iexact HV
    iexact Hf
  iapply (wp_ldG c gs 0 rfl (by omega)) $$ Hg
  iintro Hg
  rw [← hgw 0]
  iapply (wp_zst c gw G V hz 0 (by omega) rfl) $$ HZ
  iintro HZ
  iapply (wp_ldG c gs 1 rfl (by omega)) $$ Hg
  iintro Hg
  rw [← hgw 1]
  iapply (wp_zst c gw G V hz 1 (by omega) rfl) $$ HZ
  iintro HZ
  iapply (wp_ldG c gs 2 rfl (by omega)) $$ Hg
  iintro Hg
  rw [← hgw 2]
  iapply (wp_zst c gw G V hz 2 (by omega) rfl) $$ HZ
  iintro HZ
  iapply (wp_ldG c gs 3 rfl (by omega)) $$ Hg
  iintro Hg
  rw [← hgw 3]
  iapply (wp_zst c gw G V hz 3 (by omega) rfl) $$ HZ
  iintro HZ
  iapply (wp_ldG c gs 4 rfl (by omega)) $$ Hg
  iintro Hg
  rw [← hgw 4]
  iapply (wp_zst c gw G V hz 4 (by omega) rfl) $$ HZ
  iintro HZ
  iapply (wp_ldG c gs 5 rfl (by omega)) $$ Hg
  iintro Hg
  rw [← hgw 5]
  iapply le_wp_ret
  iapply Hk
  isplitl [Hg]; · iexact Hg
  isplitl [HL]; · iexact HL
  isplitl [HW4]; · iexact HW4
  isplitl [Hx Ha0 Hs1]
  · isplitl [Hx]; · iexact Hx
    isplitl [Ha0]; · iexact Ha0
    iexact Hs1
  isplitl [Hw Ha3 Hs2]
  · isplitl [Hw]; · iexact Hw
    isplitl [Ha3]; · iexact Ha3
    iexact Hs2
  isplitl [HZ]; · iexact HZ
  iexact HO

set_option maxHeartbeats 8000000 in
theorem wp_part12 (hgw : ∀ i, gw i = gs (mk S8 ![i])) (L : S9.Idx → BitVec 32) (hL : LP gw L) (X : S8x32x2816.Idx → Elt F .bf16) (WS : S8x14336.Idx → Elt F .f32)
    (W : S8x14336x2816.Idx → Elt F .fp8e4m3) (G V : S8x32x14336.Idx → Elt F .bf16)
    (hG : ∀ e < 8, 0 < (gw e).toInt → ∀ b < 7, ∀ z, Bl gw X WS W e b z = G (mk S8x32x14336 ![e, (z 1 : ℕ), 2048 * b + (z 2 : ℕ)]))
    (hz : ∀ i : S8x32x14336.Idx, ¬ 0 < (gw (i 0 : ℕ)).toInt → G i = Scalar.ofBits .bf16 0x0000#16)
    (hw13 : k0_chk13 (gw 0) (gw 1) (gw 2) (gw 3) (gw 4) (gw 5) (gw 6) (gw 7)) (v47 : BitVec 32) {Q} :
    iprop(((tc c).loc cc0_scratch0 ↦[Finset.univ]{fullShare} gs) ∗ LL c L ∗ ((tc c).loc cc0_scratch2 ↦[Finset.univ]{fullShare} X) ∗ ((tc c).loc cc0_scratch3 ↦[Finset.univ]{fullShare} WS)
        ∗ XQ c gw X 0 ∗ WA c gw W 0 ∗ WA c gw W 1 ∗ WA c gw W 2 ∗ WA c gw W 3 ∗ WA c gw W 4 ∗ WFree c W 5
        ∗ OFree c 0 ∗ OFree c 1 ∗ OFree c 2 ∗ RG c gw V 0 56 ∗ ZS c gw G V 5 ∗ Ow c)
      ⊢ iprop((iprop(((tc c).loc cc0_scratch0 ↦[Finset.univ]{fullShare} gs) ∗ LL c L ∗ ((tc c).loc cc0_scratch2 ↦[Finset.univ]{fullShare} X) ∗ ((tc c).loc cc0_scratch3 ↦[Finset.univ]{fullShare} WS)
          ∗ XQ c gw X (7 * cnt gw 8) ∗ (WFree c W 0 ∗ WFree c W 1 ∗ WFree c W 2 ∗ WFree c W 3 ∗ WFree c W 4 ∗ WFree c W 5)
          ∗ (OFree c 0 ∗ OFree c 1 ∗ OFree c 2) ∗ RG c gw G 0 56 ∗ ZS c gw G V 8 ∗ Ow c)
          -∗ Q (Scalar.extui (Scalar.cmpi .sle (gw 0) 0#32)))
        -∗ wp frame (wpE (defs₀ (F := F)) Variants.none (tc c) none) Set.univ (k0_part12 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (gw 0) (gw 1) (gw 2) (gw 3) (gw 4) (gw 5) (gw 6) (gw 7) hw13 v47 (Scalar.extui (Scalar.cmpi .sle (gw 5) 0#32))) Q) := by
  have hn := nlw_eq gw
  have h8 : cnt gw 8 < 9 := by have := cnt_le gw 8; omega
  rw [k0_part12_eq_skeleton]
  unfold k0_part12_skel
  dsimp only
  iintro ⟨Hg, HL, HX, HS, HQ, HW0, HW1, HW2, HW3, HW4, HW5, HF0, HF1, HF2, HV, HZ, HO⟩ Hk
  iapply (wp_zst c gw G V hz 5 (by omega) rfl) $$ HZ
  iintro HZ
  iapply (wp_ldG c gs 6 rfl (by omega)) $$ Hg
  iintro Hg
  rw [← hgw 6]
  iapply (wp_zst c gw G V hz 6 (by omega) rfl) $$ HZ
  iintro HZ
  iapply (wp_ldG c gs 7 rfl (by omega)) $$ Hg
  iintro Hg
  rw [← hgw 7]
  iapply (wp_zst c gw G V hz 7 (by omega) rfl) $$ HZ
  iintro HZ
  ihave HI := (show iprop(((tc c).loc cc0_scratch0 ↦[Finset.univ]{fullShare} gs) ∗ LL c L ∗ ((tc c).loc cc0_scratch2 ↦[Finset.univ]{fullShare} X) ∗ ((tc c).loc cc0_scratch3 ↦[Finset.univ]{fullShare} WS)
        ∗ XQ c gw X 0 ∗ WA c gw W 0 ∗ WA c gw W 1 ∗ WA c gw W 2 ∗ WA c gw W 3 ∗ WA c gw W 4 ∗ WFree c W 5
        ∗ OFree c 0 ∗ OFree c 1 ∗ OFree c 2 ∗ RG c gw V 0 56 ∗ Ow c) ⊢ Inv c gs gw L X WS W G V 0 from by
    unfold Inv OF OH
    rw [RG_nil c gw G (show 0 = 0 - 3 by omega), if_neg (show ¬ 3 ≤ 0 by omega), if_neg (show ¬ 3 ≤ 0 + 1 by omega), if_neg (show ¬ 3 ≤ 0 + 2 by omega),
      show 0 % 3 = 0 by omega, show (0 + 1) % 3 = 1 by omega, show (0 + 2) % 3 = 2 by omega]
    iintro ⟨Hg, HL, HX, HS, HQ, HW0, HW1, HW2, HW3, HW4, HW5, HF0, HF1, HF2, HV, HO⟩
    isplitl [Hg]; · iexact Hg
    isplitl [HL]; · iexact HL
    isplitl [HX]; · iexact HX
    isplitl [HS]; · iexact HS
    isplitl [HQ]; · iexact HQ
    isplitl [HW0]; · iexact HW0
    isplitl [HW1]; · iexact HW1
    isplitl [HW2]; · iexact HW2
    isplitl [HW3]; · iexact HW3
    isplitl [HW4]; · iexact HW4
    isplitl [HW5]; · iexact HW5
    isplitl [HF0]; · iexact HF0
    isplitl [HF1]; · iexact HF1
    isplitl [HF2]; · iexact HF2
    isplitl [HV]; · iexact HV
    isplitr; · iempintro
    iexact HO) $$ [Hg HL HX HS HQ HW0 HW1 HW2 HW3 HW4 HW5 HF0 HF1 HF2 HV HO]
  · isplitl [Hg]; · iexact Hg
    isplitl [HL]; · iexact HL
    isplitl [HX]; · iexact HX
    isplitl [HS]; · iexact HS
    isplitl [HQ]; · iexact HQ
    isplitl [HW0]; · iexact HW0
    isplitl [HW1]; · iexact HW1
    isplitl [HW2]; · iexact HW2
    isplitl [HW3]; · iexact HW3
    isplitl [HW4]; · iexact HW4
    isplitl [HW5]; · iexact HW5
    isplitl [HF0]; · iexact HF0
    isplitl [HF1]; · iexact HF1
    isplitl [HF2]; · iexact HF2
    isplitl [HV]; · iexact HV
    iexact HO
  iapply (Scf.wp_for_bind _ _ _ _ _ _ (k0_t1_ok (gw 0) (gw 1) (gw 2) (gw 3) (gw 4) (gw 5) (gw 6) (gw 7) hw13) _ _ (fun u _ => Inv c gs gw L X WS W G V u)
    (fun t x => wp_trip c gs gw hgw L hL X WS W G V hG hw13 _ _ t x)) $$ HI
  iintro %_x HI
  ihave HI := (Entails.of_eq (congrArg (Inv c gs gw L X WS W G V) (trips1 (gw 0) (gw 1) (gw 2) (gw 3) (gw 4) (gw 5) (gw 6) (gw 7) hn h8))) $$ HI
  iapply (Scf.wp_for_bind _ _ _ _ _ _ (k0_t2_ok (gw 0) (gw 1) (gw 2) (gw 3) (gw 4) (gw 5) (gw 6) (gw 7) hw13) _ _ (fun _ _ => Inv c gs gw L X WS W G V (7 * cnt gw 8))
    (fun t x => (Fin.cast (trips2 (gw 0) (gw 1) (gw 2) (gw 3) (gw 4) (gw 5) (gw 6) (gw 7) hn h8) t).elim0)) $$ HI
  iintro %_y HI
  ihave HI := (show Inv c gs gw L X WS W G V (7 * cnt gw 8) ⊢ iprop(((tc c).loc cc0_scratch0 ↦[Finset.univ]{fullShare} gs) ∗ LL c L
    ∗ ((tc c).loc cc0_scratch2 ↦[Finset.univ]{fullShare} X) ∗ ((tc c).loc cc0_scratch3 ↦[Finset.univ]{fullShare} WS) ∗ XQ c gw X (7 * cnt gw 8)
    ∗ (WFree c W 0 ∗ WFree c W 1 ∗ WFree c W 2 ∗ WFree c W 3 ∗ WFree c W 4 ∗ WFree c W 5)
    ∗ OF c gw G (7 * cnt gw 8 + 0) ∗ OF c gw G (7 * cnt gw 8 + 1) ∗ OH c gw G (7 * cnt gw 8 + 2) ∗ RG c gw V (7 * cnt gw 8 - 1) 56 ∗ RG c gw G 0 (7 * cnt gw 8 - 3) ∗ Ow c) from by
    unfold Inv WA
    rw [if_neg (show ¬ 7 * cnt gw 8 + 1 < 7 * cnt gw 8 by omega), if_neg (show ¬ 7 * cnt gw 8 + 2 < 7 * cnt gw 8 by omega), if_neg (show ¬ 7 * cnt gw 8 + 3 < 7 * cnt gw 8 by omega), if_neg (show ¬ 7 * cnt gw 8 + 4 < 7 * cnt gw 8 by omega), if_neg (show ¬ 7 * cnt gw 8 < 7 * cnt gw 8 by omega)]
    iintro ⟨Hg, HL, HX, HS, HQ, HW0, HW1, HW2, HW3, HW4, HW5, HF0, HF1, HF2, HV, HD, HO⟩
    isplitl [Hg]; · iexact Hg
    isplitl [HL]; · iexact HL
    isplitl [HX]; · iexact HX
    isplitl [HS]; · iexact HS
    isplitl [HQ]; · iexact HQ
    isplitl [HW0 HW1 HW2 HW3 HW4 HW5]
    · iapply (WFree_rot c W (7 * cnt gw 8))
      isplitl [HW0]; · iexact HW0
      isplitl [HW1]; · iexact HW1
      isplitl [HW2]; · iexact HW2
      isplitl [HW3]; · iexact HW3
      isplitl [HW4]; · iexact HW4
      iexact HW5
    isplitl [HF0]; · iexact HF0
    isplitl [HF1]; · iexact HF1
    isplitl [HF2]; · iexact HF2
    isplitl [HV]; · iexact HV
    isplitl [HD]; · iexact HD
    iexact HO) $$ HI
  icases HI with ⟨Hg, HL, HX, HS, HQ, HW, HF0, HF1, HF2, HV, HD, HO⟩
  iapply (wp_dite c iprop(LL c L ∗ OH c gw G (7 * cnt gw 8 + 2) ∗ RG c gw V (7 * cnt gw 8 - 1) 56)
      iprop(LL c L ∗ OF c gw G (7 * cnt gw 8 + 2) ∗ RG c gw V (7 * cnt gw 8) 56) ?_ ?_) $$ [HL HF2 HV]
  · intro h
    have hc := (cond22 (gw 0) (gw 1) (gw 2) (gw 3) (gw 4) (gw 5) (gw 6) (gw 7) hn h8).1 h
    rw [show OH c gw G (7 * cnt gw 8 + 2) = OHold c G ((7 * cnt gw 8 - 1 - 0) % 3) (ex gw ((7 * cnt gw 8 - 1 - 0) / 7)) ((7 * cnt gw 8 - 1 - 0) % 7) by
        unfold OH; rw [if_pos (show 3 ≤ 7 * cnt gw 8 + 2 by omega), show 7 * cnt gw 8 + 2 - 3 = 7 * cnt gw 8 - 1 - 0 by omega, show (7 * cnt gw 8 + 2) % 3 = (7 * cnt gw 8 - 1 - 0) % 3 by omega],
      show OF c gw G (7 * cnt gw 8 + 2) = OFl c G ((7 * cnt gw 8 - 1 - 0) % 3) (ex gw ((7 * cnt gw 8 - 1 - 0) / 7)) ((7 * cnt gw 8 - 1 - 0) % 7) by
        unfold OF; rw [if_pos (show 3 ≤ 7 * cnt gw 8 + 2 by omega), show 7 * cnt gw 8 + 2 - 3 = 7 * cnt gw 8 - 1 - 0 by omega, show (7 * cnt gw 8 + 2) % 3 = (7 * cnt gw 8 - 1 - 0) % 3 by omega]]
    iintro ⟨HL, HH, HV⟩ Hk
    iapply (wp_ldL c L ((7 * cnt gw 8 - 1 - 0) / 7) (off72 (gw 0) (gw 1) (gw 2) (gw 3) (gw 4) (gw 5) (gw 6) (gw 7) hn h8 hc) (by omega)) $$ HL
    iintro HL
    rw [hL ((7 * cnt gw 8 - 1 - 0) / 7) (by omega)]
    iapply (wp_asm c (chk24 (gw 0) (gw 1) (gw 2) (gw 3) (gw 4) (gw 5) (gw 6) (gw 7) hn h8 _ (by rw [toNat_ex]; exact ex_le gw _)))
    ihave HV := (RG_split c gw V (a := 7 * cnt gw 8 - 1) (m := 7 * cnt gw 8 - 1 + 1) (b := 56) (by omega) (by omega)) $$ HV
    icases HV with ⟨HV1, HV2⟩
    iapply (wp_ost c G V ((7 * cnt gw 8 - 1 - 0) % 3) (ex gw ((7 * cnt gw 8 - 1 - 0) / 7)) ((7 * cnt gw 8 - 1 - 0) % 7) (by omega) (off73 (gw 0) (gw 1) (gw 2) (gw 3) (gw 4) (gw 5) (gw 6) (gw 7) hn h8 hc) (off75 (gw 0) (gw 1) (gw 2) (gw 3) (gw 4) (gw 5) (gw 6) (gw 7) hn h8 hc)
      ((off74 (gw 0) (gw 1) (gw 2) (gw 3) (gw 4) (gw 5) (gw 6) (gw 7) _ hn h8 hc).trans (by rw [toNat_ex]))) $$ [HH HV1]
    · isplitl [HH]; · iexact HH
      iapply (Entails.of_eq (RG_opc c gw V (j := 7 * cnt gw 8 - 1 - 0) (by omega) (by omega) (by omega))) $$ HV1
    iintro HF
    iapply Hk
    isplitl [HL]; · iexact HL
    isplitl [HF]; · iexact HF
    rw [show 7 * cnt gw 8 - 1 + 1 = 7 * cnt gw 8 by omega]
    iexact HV2
  · intro h
    have hc := (cond22 (gw 0) (gw 1) (gw 2) (gw 3) (gw 4) (gw 5) (gw 6) (gw 7) hn h8).not.1 h
    have h0 : 7 * cnt gw 8 = 0 := by omega
    unfold OH OF
    rw [if_neg (show ¬ 3 ≤ 7 * cnt gw 8 + 2 by omega), if_neg (show ¬ 3 ≤ 7 * cnt gw 8 + 2 by omega), show 7 * cnt gw 8 - 1 = 7 * cnt gw 8 by omega]
  · isplitl [HL]; · iexact HL
    isplitl [HF2]; · iexact HF2
    iexact HV
  iintro ⟨HL, HF2, HV⟩
  iapply (wp_dite c iprop(LL c L ∗ OF c gw G (7 * cnt gw 8 + 2) ∗ Ow c)
      iprop(LL c L ∗ OFree c ((7 * cnt gw 8 + 2) % 3) ∗ RG c gw G (7 * cnt gw 8 - 1 - 0) (7 * cnt gw 8 - 0) ∗ Ow c) ?_ ?_) $$ [HL HF2 HO]
  · intro h
    have hc := (cond23 (gw 0) (gw 1) (gw 2) (gw 3) (gw 4) (gw 5) (gw 6) (gw 7) hn h8).1 h
    rw [show OF c gw G (7 * cnt gw 8 + 2) = OFl c G ((7 * cnt gw 8 - 1 - 0) % 3) (ex gw ((7 * cnt gw 8 - 1 - 0) / 7)) ((7 * cnt gw 8 - 1 - 0) % 7) by
        unfold OF; rw [if_pos (show 3 ≤ 7 * cnt gw 8 + 2 by omega), show 7 * cnt gw 8 + 2 - 3 = 7 * cnt gw 8 - 1 - 0 by omega, show (7 * cnt gw 8 + 2) % 3 = (7 * cnt gw 8 - 1 - 0) % 3 by omega],
      show (7 * cnt gw 8 + 2) % 3 = (7 * cnt gw 8 - 1 - 0) % 3 by omega]
    iintro ⟨HL, HF, HO⟩ Hk
    iapply (wp_ldL c L ((7 * cnt gw 8 - 1 - 0) / 7) (off76 (gw 0) (gw 1) (gw 2) (gw 3) (gw 4) (gw 5) (gw 6) (gw 7) hn h8 (by omega)) (by omega)) $$ HL
    iintro HL
    rw [hL ((7 * cnt gw 8 - 1 - 0) / 7) (by omega)]
    iapply (wp_asm c (chk25 (gw 0) (gw 1) (gw 2) (gw 3) (gw 4) (gw 5) (gw 6) (gw 7) hn h8 _ (by rw [toNat_ex]; exact ex_le gw _)))
    iapply (wp_owt c G ((7 * cnt gw 8 - 1 - 0) % 3) (ex gw ((7 * cnt gw 8 - 1 - 0) / 7)) ((7 * cnt gw 8 - 1 - 0) % 7) (by omega) (off77 (gw 0) (gw 1) (gw 2) (gw 3) (gw 4) (gw 5) (gw 6) (gw 7) hn h8 (by omega))) $$ [HF HO]
    · isplitl [HF]; · iexact HF
      iexact HO
    iintro ⟨HF, HG, HO⟩
    iapply Hk
    isplitl [HL]; · iexact HL
    isplitl [HF]; · iexact HF
    isplitl [HG]
    · iapply (Entails.of_eq (RG_opc c gw G (j := 7 * cnt gw 8 - 1 - 0) rfl (by omega) (by omega)).symm) $$ HG
    iexact HO
  · intro h
    have hc := (cond23 (gw 0) (gw 1) (gw 2) (gw 3) (gw 4) (gw 5) (gw 6) (gw 7) hn h8).not.1 h
    have h0 : 7 * cnt gw 8 = 0 := by omega
    unfold OF
    rw [if_neg (show ¬ 3 ≤ 7 * cnt gw 8 + 2 by omega), RG_nil c gw G (show 7 * cnt gw 8 - 1 - 0 = 7 * cnt gw 8 - 0 by omega)]
    iintro ⟨HL, HF, HO⟩
    isplitl [HL]; · iexact HL
    isplitl [HF]; · iexact HF
    isplitr; · iempintro
    iexact HO
  · isplitl [HL]; · iexact HL
    isplitl [HF2]; · iexact HF2
    iexact HO
  iintro ⟨HL, HF2, HG2, HO⟩
  iapply (wp_dite c iprop(LL c L ∗ OF c gw G (7 * cnt gw 8 + 1) ∗ Ow c)
      iprop(LL c L ∗ OFree c ((7 * cnt gw 8 + 1) % 3) ∗ RG c gw G (7 * cnt gw 8 - 1 - 1) (7 * cnt gw 8 - 1) ∗ Ow c) ?_ ?_) $$ [HL HF1 HO]
  · intro h
    have hc := (cond24 (gw 0) (gw 1) (gw 2) (gw 3) (gw 4) (gw 5) (gw 6) (gw 7) hn h8).1 h
    rw [show OF c gw G (7 * cnt gw 8 + 1) = OFl c G ((7 * cnt gw 8 - 1 - 1) % 3) (ex gw ((7 * cnt gw 8 - 1 - 1) / 7)) ((7 * cnt gw 8 - 1 - 1) % 7) by
        unfold OF; rw [if_pos (show 3 ≤ 7 * cnt gw 8 + 1 by omega), show 7 * cnt gw 8 + 1 - 3 = 7 * cnt gw 8 - 1 - 1 by omega, show (7 * cnt gw 8 + 1) % 3 = (7 * cnt gw 8 - 1 - 1) % 3 by omega],
      show (7 * cnt gw 8 + 1) % 3 = (7 * cnt gw 8 - 1 - 1) % 3 by omega]
    iintro ⟨HL, HF, HO⟩ Hk
    iapply (wp_ldL c L ((7 * cnt gw 8 - 1 - 1) / 7) (off80 (gw 0) (gw 1) (gw 2) (gw 3) (gw 4) (gw 5) (gw 6) (gw 7) hn h8 (by omega)) (by omega)) $$ HL
    iintro HL
    rw [hL ((7 * cnt gw 8 - 1 - 1) / 7) (by omega)]
    iapply (wp_asm c (chk26 (gw 0) (gw 1) (gw 2) (gw 3) (gw 4) (gw 5) (gw 6) (gw 7) hn h8 _ (by rw [toNat_ex]; exact ex_le gw _)))
    iapply (wp_owt c G ((7 * cnt gw 8 - 1 - 1) % 3) (ex gw ((7 * cnt gw 8 - 1 - 1) / 7)) ((7 * cnt gw 8 - 1 - 1) % 7) (by omega) (off81 (gw 0) (gw 1) (gw 2) (gw 3) (gw 4) (gw 5) (gw 6) (gw 7) hn h8 (by omega))) $$ [HF HO]
    · isplitl [HF]; · iexact HF
      iexact HO
    iintro ⟨HF, HG, HO⟩
    iapply Hk
    isplitl [HL]; · iexact HL
    isplitl [HF]; · iexact HF
    isplitl [HG]
    · iapply (Entails.of_eq (RG_opc c gw G (j := 7 * cnt gw 8 - 1 - 1) rfl (by omega) (by omega)).symm) $$ HG
    iexact HO
  · intro h
    have hc := (cond24 (gw 0) (gw 1) (gw 2) (gw 3) (gw 4) (gw 5) (gw 6) (gw 7) hn h8).not.1 h
    have h0 : 7 * cnt gw 8 = 0 := by omega
    unfold OF
    rw [if_neg (show ¬ 3 ≤ 7 * cnt gw 8 + 1 by omega), RG_nil c gw G (show 7 * cnt gw 8 - 1 - 1 = 7 * cnt gw 8 - 1 by omega)]
    iintro ⟨HL, HF, HO⟩
    isplitl [HL]; · iexact HL
    isplitl [HF]; · iexact HF
    isplitr; · iempintro
    iexact HO
  · isplitl [HL]; · iexact HL
    isplitl [HF1]; · iexact HF1
    iexact HO
  iintro ⟨HL, HF1, HG1, HO⟩
  iapply (wp_dite c iprop(LL c L ∗ OF c gw G (7 * cnt gw 8 + 0) ∗ Ow c)
      iprop(LL c L ∗ OFree c ((7 * cnt gw 8 + 0) % 3) ∗ RG c gw G (7 * cnt gw 8 - 1 - 2) (7 * cnt gw 8 - 2) ∗ Ow c) ?_ ?_) $$ [HL HF0 HO]
  · intro h
    have hc := (cond25 (gw 0) (gw 1) (gw 2) (gw 3) (gw 4) (gw 5) (gw 6) (gw 7) hn h8).1 h
    rw [show OF c gw G (7 * cnt gw 8 + 0) = OFl c G ((7 * cnt gw 8 - 1 - 2) % 3) (ex gw ((7 * cnt gw 8 - 1 - 2) / 7)) ((7 * cnt gw 8 - 1 - 2) % 7) by
        unfold OF; rw [if_pos (show 3 ≤ 7 * cnt gw 8 + 0 by omega), show 7 * cnt gw 8 + 0 - 3 = 7 * cnt gw 8 - 1 - 2 by omega, show (7 * cnt gw 8 + 0) % 3 = (7 * cnt gw 8 - 1 - 2) % 3 by omega],
      show (7 * cnt gw 8 + 0) % 3 = (7 * cnt gw 8 - 1 - 2) % 3 by omega]
    iintro ⟨HL, HF, HO⟩ Hk
    iapply (wp_ldL c L ((7 * cnt gw 8 - 1 - 2) / 7) (off84 (gw 0) (gw 1) (gw 2) (gw 3) (gw 4) (gw 5) (gw 6) (gw 7) hn h8 (by omega)) (by omega)) $$ HL
    iintro HL
    rw [hL ((7 * cnt gw 8 - 1 - 2) / 7) (by omega)]
    iapply (wp_asm c (chk27 (gw 0) (gw 1) (gw 2) (gw 3) (gw 4) (gw 5) (gw 6) (gw 7) hn h8 _ (by rw [toNat_ex]; exact ex_le gw _)))
    iapply (wp_owt c G ((7 * cnt gw 8 - 1 - 2) % 3) (ex gw ((7 * cnt gw 8 - 1 - 2) / 7)) ((7 * cnt gw 8 - 1 - 2) % 7) (by omega) (off85 (gw 0) (gw 1) (gw 2) (gw 3) (gw 4) (gw 5) (gw 6) (gw 7) hn h8 (by omega))) $$ [HF HO]
    · isplitl [HF]; · iexact HF
      iexact HO
    iintro ⟨HF, HG, HO⟩
    iapply Hk
    isplitl [HL]; · iexact HL
    isplitl [HF]; · iexact HF
    isplitl [HG]
    · iapply (Entails.of_eq (RG_opc c gw G (j := 7 * cnt gw 8 - 1 - 2) rfl (by omega) (by omega)).symm) $$ HG
    iexact HO
  · intro h
    have hc := (cond25 (gw 0) (gw 1) (gw 2) (gw 3) (gw 4) (gw 5) (gw 6) (gw 7) hn h8).not.1 h
    have h0 : 7 * cnt gw 8 = 0 := by omega
    unfold OF
    rw [if_neg (show ¬ 3 ≤ 7 * cnt gw 8 + 0 by omega), RG_nil c gw G (show 7 * cnt gw 8 - 1 - 2 = 7 * cnt gw 8 - 2 by omega)]
    iintro ⟨HL, HF, HO⟩
    isplitl [HL]; · iexact HL
    isplitl [HF]; · iexact HF
    isplitr; · iempintro
    iexact HO
  · isplitl [HL]; · iexact HL
    isplitl [HF0]; · iexact HF0
    iexact HO
  iintro ⟨HL, HF0, HG0, HO⟩
  iapply (wp_ldG c gs 0 rfl (by omega)) $$ Hg
  iintro Hg
  rw [← hgw 0]
  iapply le_wp_ret
  iapply Hk
  isplitl [Hg]; · iexact Hg
  isplitl [HL]; · iexact HL
  isplitl [HX]; · iexact HX
  isplitl [HS]; · iexact HS
  isplitl [HQ]; · iexact HQ
  isplitl [HW]; · iexact HW
  isplitl [HF0 HF1 HF2]
  · iapply (OFree_rot c (7 * cnt gw 8))
    isplitl [HF0]; · iexact HF0
    isplitl [HF1]; · iexact HF1
    iexact HF2
  isplitl [HD HG0 HG1 HG2 HV]
  · iapply (RG_join c gw G (a := 0) (m := 7 * cnt gw 8) (b := 56) (by omega) (by omega))
    isplitr [HV]
    · iapply (RG_join c gw G (a := 0) (m := 7 * cnt gw 8 - 1) (b := 7 * cnt gw 8) (by omega) (by omega))
      isplitr [HG2]
      · iapply (RG_join c gw G (a := 0) (m := 7 * cnt gw 8 - 2) (b := 7 * cnt gw 8 - 1) (by omega) (by omega))
        isplitr [HG1]
        · iapply (RG_join c gw G (a := 0) (m := 7 * cnt gw 8 - 3) (b := 7 * cnt gw 8 - 2) (by omega) (by omega))
          isplitr [HG0]
          · iexact HD
          · iexact HG0
        · iexact HG1
      · iexact HG2
    · iapply (show RG c gw V (7 * cnt gw 8) 56 ⊢ (RG c gw G (7 * cnt gw 8) 56 : sProp 𝕄) from by
        unfold RG
        rw [Reg_gap, pointsTo_empty, pointsTo_empty]) $$ HV
  isplitl [HZ]; · iexact HZ
  iexact HO

end ends

end Cert.KernelIdeal.Hand

end

end
-- ==== Proof.Ideal.Body.lean ====
module

public import proofs.«01_k».proof.Proof.Ideal.Epi
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section slots

/-- The slots from `a` on. -/
def wrest (a : ℕ) : Finset (S6x2048x2816.Idx) := Finset.univ.filter fun i => a ≤ (i 0 : ℕ)

theorem wrest_sub (a : ℕ) : wslot a ⊆ wrest a := by
  intro i hi
  simp only [wslot, wrest, Finset.mem_filter, Finset.mem_univ, true_and] at hi ⊢
  omega

theorem wrest_diff (a : ℕ) : wrest a \ wslot a = wrest (a + 1) := by
  ext i
  simp only [wslot, wrest, Finset.mem_sdiff, Finset.mem_filter, Finset.mem_univ, true_and]
  omega

theorem wrest_zero : wrest 0 = Finset.univ := by
  ext i
  simp [wrest]

theorem wrest_last : wrest 6 = ∅ := by
  ext i
  have h : (i 0 : ℕ) < 6 := (i 0).isLt
  simp only [wrest, Finset.mem_filter, Finset.mem_univ, true_and, Finset.notMem_empty, iff_false]
  omega

theorem wsplit (c : Dev nD) (f : S6x2048x2816.Idx → Elt F .fp8e4m3) (a : ℕ) :
    ((tc c).loc cc0_scratch6 ↦[wrest a]{fullShare} f : sProp 𝕄)
      ⊢ iprop((∃ f, (tc c).loc cc0_scratch6 ↦[wslot a]{fullShare} f) ∗ ((tc c).loc cc0_scratch6 ↦[wrest (a + 1)]{fullShare} f)) := by
  iintro H
  ihave H := (pointsTo_split_subset (wrest_sub a)).1 $$ H
  icases H with ⟨H1, H2⟩
  isplitl [H1]
  · iexists f
    iexact H1
  rw [wrest_diff]
  iexact H2

theorem wjoin (c : Dev nD) (a : ℕ) :
    iprop((∃ f, (tc c).loc cc0_scratch6 ↦[wslot a]{fullShare} f) ∗ (∃ f, (tc c).loc cc0_scratch6 ↦[wrest (a + 1)]{fullShare} f))
      ⊢ (iprop(∃ f : S6x2048x2816.Idx → Elt F .fp8e4m3, (tc c).loc cc0_scratch6 ↦[wrest a]{fullShare} f) : sProp 𝕄) := by
  iintro ⟨⟨%f, H1⟩, ⟨%g, H2⟩⟩
  rw [← wrest_diff]
  ihave H := (pointsTo_join_subset (ℓ := (tc c).loc cc0_scratch6) (wrest_sub a)) $$ [H1 H2]
  · isplitl [H1]; · iexact H1
    iexact H2
  iexists _
  iexact H

theorem wsplit_all (c : Dev nD) (f : S6x2048x2816.Idx → Elt F .fp8e4m3) :
    ((tc c).loc cc0_scratch6 ↦[Finset.univ]{fullShare} f : sProp 𝕄)
      ⊢ iprop((∃ f, (tc c).loc cc0_scratch6 ↦[wslot 0]{fullShare} f) ∗ (∃ f, (tc c).loc cc0_scratch6 ↦[wslot 1]{fullShare} f) ∗ (∃ f, (tc c).loc cc0_scratch6 ↦[wslot 2]{fullShare} f) ∗ (∃ f, (tc c).loc cc0_scratch6 ↦[wslot 3]{fullShare} f) ∗ (∃ f, (tc c).loc cc0_scratch6 ↦[wslot 4]{fullShare} f) ∗ (∃ f, (tc c).loc cc0_scratch6 ↦[wslot 5]{fullShare} f)) := by
  rw [← wrest_zero]
  iintro H
  ihave H := (wsplit c f 0) $$ H
  icases H with ⟨H0, H⟩
  ihave H := (wsplit c f 1) $$ H
  icases H with ⟨H1, H⟩
  ihave H := (wsplit c f 2) $$ H
  icases H with ⟨H2, H⟩
  ihave H := (wsplit c f 3) $$ H
  icases H with ⟨H3, H⟩
  ihave H := (wsplit c f 4) $$ H
  icases H with ⟨H4, H⟩
  ihave H := (wsplit c f 5) $$ H
  icases H with ⟨H5, H⟩
  isplitl [H0]; · iexact H0
  isplitl [H1]; · iexact H1
  isplitl [H2]; · iexact H2
  isplitl [H3]; · iexact H3
  isplitl [H4]; · iexact H4
  iexact H5

theorem wjoin_all (c : Dev nD) :
    iprop((∃ f, (tc c).loc cc0_scratch6 ↦[wslot 0]{fullShare} f) ∗ (∃ f, (tc c).loc cc0_scratch6 ↦[wslot 1]{fullShare} f) ∗ (∃ f, (tc c).loc cc0_scratch6 ↦[wslot 2]{fullShare} f) ∗ (∃ f, (tc c).loc cc0_scratch6 ↦[wslot 3]{fullShare} f) ∗ (∃ f, (tc c).loc cc0_scratch6 ↦[wslot 4]{fullShare} f) ∗ (∃ f, (tc c).loc cc0_scratch6 ↦[wslot 5]{fullShare} f))
      ⊢ (iprop(∃ f : S6x2048x2816.Idx → Elt F .fp8e4m3, (tc c).loc cc0_scratch6 ↦[Finset.univ]{fullShare} f) : sProp 𝕄) := by
  have he : (iprop(emp) : sProp 𝕄) ⊢ iprop(∃ f : S6x2048x2816.Idx → Elt F .fp8e4m3, (tc c).loc cc0_scratch6 ↦[wrest 6]{fullShare} f) := by
    rw [wrest_last]
    iintro H
    iexists (fun _ => Scalar.ofBits .fp8e4m3 0#8)
    rw [pointsTo_empty]
    iexact H
  rw [← wrest_zero]
  iintro ⟨H0, H1, H2, H3, H4, H5⟩
  ihave H := he $$ []
  · iempintro
  ihave H := (wjoin c 5) $$ [H5 H]
  · isplitl [H5]; · iexact H5
    iexact H
  ihave H := (wjoin c 4) $$ [H4 H]
  · isplitl [H4]; · iexact H4
    iexact H
  ihave H := (wjoin c 3) $$ [H3 H]
  · isplitl [H3]; · iexact H3
    iexact H
  ihave H := (wjoin c 2) $$ [H2 H]
  · isplitl [H2]; · iexact H2
    iexact H
  ihave H := (wjoin c 1) $$ [H1 H]
  · isplitl [H1]; · iexact H1
    iexact H
  ihave H := (wjoin c 0) $$ [H0 H]
  · isplitl [H0]; · iexact H0
    iexact H
  iexact H

/-- The slots from `a` on. -/
def orest (a : ℕ) : Finset (S3x32x2048.Idx) := Finset.univ.filter fun i => a ≤ (i 0 : ℕ)

theorem orest_sub (a : ℕ) : oslot a ⊆ orest a := by
  intro i hi
  simp only [oslot, orest, Finset.mem_filter, Finset.mem_univ, true_and] at hi ⊢
  omega

theorem orest_diff (a : ℕ) : orest a \ oslot a = orest (a + 1) := by
  ext i
  simp only [oslot, orest, Finset.mem_sdiff, Finset.mem_filter, Finset.mem_univ, true_and]
  omega

theorem orest_zero : orest 0 = Finset.univ := by
  ext i
  simp [orest]

theorem orest_last : orest 3 = ∅ := by
  ext i
  have h : (i 0 : ℕ) < 3 := (i 0).isLt
  simp only [orest, Finset.mem_filter, Finset.mem_univ, true_and, Finset.notMem_empty, iff_false]
  omega

theorem osplit (c : Dev nD) (f : S3x32x2048.Idx → Elt F .bf16) (a : ℕ) :
    ((tc c).loc cc0_scratch7 ↦[orest a]{fullShare} f : sProp 𝕄)
      ⊢ iprop((∃ f, (tc c).loc cc0_scratch7 ↦[oslot a]{fullShare} f) ∗ ((tc c).loc cc0_scratch7 ↦[orest (a + 1)]{fullShare} f)) := by
  iintro H
  ihave H := (pointsTo_split_subset (orest_sub a)).1 $$ H
  icases H with ⟨H1, H2⟩
  isplitl [H1]
  · iexists f
    iexact H1
  rw [orest_diff]
  iexact H2

theorem ojoin (c : Dev nD) (a : ℕ) :
    iprop((∃ f, (tc c).loc cc0_scratch7 ↦[oslot a]{fullShare} f) ∗ (∃ f, (tc c).loc cc0_scratch7 ↦[orest (a + 1)]{fullShare} f))
      ⊢ (iprop(∃ f : S3x32x2048.Idx → Elt F .bf16, (tc c).loc cc0_scratch7 ↦[orest a]{fullShare} f) : sProp 𝕄) := by
  iintro ⟨⟨%f, H1⟩, ⟨%g, H2⟩⟩
  rw [← orest_diff]
  ihave H := (pointsTo_join_subset (ℓ := (tc c).loc cc0_scratch7) (orest_sub a)) $$ [H1 H2]
  · isplitl [H1]; · iexact H1
    iexact H2
  iexists _
  iexact H

theorem osplit_all (c : Dev nD) (f : S3x32x2048.Idx → Elt F .bf16) :
    ((tc c).loc cc0_scratch7 ↦[Finset.univ]{fullShare} f : sProp 𝕄)
      ⊢ iprop((∃ f, (tc c).loc cc0_scratch7 ↦[oslot 0]{fullShare} f) ∗ (∃ f, (tc c).loc cc0_scratch7 ↦[oslot 1]{fullShare} f) ∗ (∃ f, (tc c).loc cc0_scratch7 ↦[oslot 2]{fullShare} f)) := by
  rw [← orest_zero]
  iintro H
  ihave H := (osplit c f 0) $$ H
  icases H with ⟨H0, H⟩
  ihave H := (osplit c f 1) $$ H
  icases H with ⟨H1, H⟩
  ihave H := (osplit c f 2) $$ H
  icases H with ⟨H2, H⟩
  isplitl [H0]; · iexact H0
  isplitl [H1]; · iexact H1
  iexact H2

theorem ojoin_all (c : Dev nD) :
    iprop((∃ f, (tc c).loc cc0_scratch7 ↦[oslot 0]{fullShare} f) ∗ (∃ f, (tc c).loc cc0_scratch7 ↦[oslot 1]{fullShare} f) ∗ (∃ f, (tc c).loc cc0_scratch7 ↦[oslot 2]{fullShare} f))
      ⊢ (iprop(∃ f : S3x32x2048.Idx → Elt F .bf16, (tc c).loc cc0_scratch7 ↦[Finset.univ]{fullShare} f) : sProp 𝕄) := by
  have he : (iprop(emp) : sProp 𝕄) ⊢ iprop(∃ f : S3x32x2048.Idx → Elt F .bf16, (tc c).loc cc0_scratch7 ↦[orest 3]{fullShare} f) := by
    rw [orest_last]
    iintro H
    iexists (fun _ => Scalar.ofBits .bf16 0#16)
    rw [pointsTo_empty]
    iexact H
  rw [← orest_zero]
  iintro ⟨H0, H1, H2⟩
  ihave H := he $$ []
  · iempintro
  ihave H := (ojoin c 2) $$ [H2 H]
  · isplitl [H2]; · iexact H2
    iexact H
  ihave H := (ojoin c 1) $$ [H1 H]
  · isplitl [H1]; · iexact H1
    iexact H
  ihave H := (ojoin c 0) $$ [H0 H]
  · isplitl [H0]; · iexact H0
    iexact H
  iexact H

theorem tok_split (c : Dev nD) (W : S8x14336x2816.Idx → Elt F .fp8e4m3) (k : ℕ) :
    (((tc c).loc main_arg2 ↦[Finset.univ]{Transfers.shareDrop fullShare k} W) : sProp 𝕄)
      ⊣⊢ iprop(((tc c).loc main_arg2 ↦[Finset.univ]{Transfers.shareDrop fullShare (k + 1)} W) ∗ ((tc c).loc main_arg2 ↦[Finset.univ]{tok k} W)) :=
  pointsTo_share (PosShare.mem_left_op_right _)

theorem tok_split_all (c : Dev nD) (W : S8x14336x2816.Idx → Elt F .fp8e4m3) :
    (((tc c).loc main_arg2 ↦[Finset.univ]{fullShare} W) : sProp 𝕄)
      ⊢ iprop(((tc c).loc main_arg2 ↦[Finset.univ]{Transfers.shareDrop fullShare 6} W) ∗ ((tc c).loc main_arg2 ↦[Finset.univ]{tok 0} W) ∗ ((tc c).loc main_arg2 ↦[Finset.univ]{tok 1} W) ∗ ((tc c).loc main_arg2 ↦[Finset.univ]{tok 2} W) ∗ ((tc c).loc main_arg2 ↦[Finset.univ]{tok 3} W) ∗ ((tc c).loc main_arg2 ↦[Finset.univ]{tok 4} W) ∗ ((tc c).loc main_arg2 ↦[Finset.univ]{tok 5} W)) := by
  refine (show (((tc c).loc main_arg2 ↦[Finset.univ]{fullShare} W) : sProp 𝕄) ⊢ ((tc c).loc main_arg2 ↦[Finset.univ]{Transfers.shareDrop fullShare 0} W) from .rfl).trans ?_
  iintro H
  ihave H := (tok_split c W 0).1 $$ H
  icases H with ⟨H, H0⟩
  ihave H := (tok_split c W 1).1 $$ H
  icases H with ⟨H, H1⟩
  ihave H := (tok_split c W 2).1 $$ H
  icases H with ⟨H, H2⟩
  ihave H := (tok_split c W 3).1 $$ H
  icases H with ⟨H, H3⟩
  ihave H := (tok_split c W 4).1 $$ H
  icases H with ⟨H, H4⟩
  ihave H := (tok_split c W 5).1 $$ H
  icases H with ⟨H, H5⟩
  isplitl [H]; · iexact H
  isplitl [H0]; · iexact H0
  isplitl [H1]; · iexact H1
  isplitl [H2]; · iexact H2
  isplitl [H3]; · iexact H3
  isplitl [H4]; · iexact H4
  iexact H5

theorem tok_join_all (c : Dev nD) (W : S8x14336x2816.Idx → Elt F .fp8e4m3) :
    iprop(((tc c).loc main_arg2 ↦[Finset.univ]{Transfers.shareDrop fullShare 6} W) ∗ ((tc c).loc main_arg2 ↦[Finset.univ]{tok 0} W) ∗ ((tc c).loc main_arg2 ↦[Finset.univ]{tok 1} W) ∗ ((tc c).loc main_arg2 ↦[Finset.univ]{tok 2} W) ∗ ((tc c).loc main_arg2 ↦[Finset.univ]{tok 3} W) ∗ ((tc c).loc main_arg2 ↦[Finset.univ]{tok 4} W) ∗ ((tc c).loc main_arg2 ↦[Finset.univ]{tok 5} W))
      ⊢ (((tc c).loc main_arg2 ↦[Finset.univ]{fullShare} W) : sProp 𝕄) := by
  refine BIBase.Entails.trans ?_ (show ((tc c).loc main_arg2 ↦[Finset.univ]{Transfers.shareDrop fullShare 0} W) ⊢ (((tc c).loc main_arg2 ↦[Finset.univ]{fullShare} W) : sProp 𝕄) from .rfl)
  iintro ⟨H, H0, H1, H2, H3, H4, H5⟩
  ihave H := (tok_split c W 5).2 $$ [H H5]
  · isplitl [H]; · iexact H
    iexact H5
  ihave H := (tok_split c W 4).2 $$ [H H4]
  · isplitl [H]; · iexact H
    iexact H4
  ihave H := (tok_split c W 3).2 $$ [H H3]
  · isplitl [H]; · iexact H
    iexact H3
  ihave H := (tok_split c W 2).2 $$ [H H2]
  · isplitl [H]; · iexact H
    iexact H2
  ihave H := (tok_split c W 1).2 $$ [H H1]
  · isplitl [H]; · iexact H
    iexact H1
  ihave H := (tok_split c W 0).2 $$ [H H0]
  · isplitl [H]; · iexact H
    iexact H0
  iexact H

/-- The weight slots at the start. -/
theorem WFree_start (c : Dev nD) (W : S8x14336x2816.Idx → Elt F .fp8e4m3) (f6 : S6x2048x2816.Idx → Elt F .fp8e4m3) :
    iprop(((tc c).loc main_arg2 ↦[Finset.univ]{fullShare} W) ∗ ((tc c).loc cc0_scratch6 ↦[Finset.univ]{fullShare} f6) ∗ semVal (tc c, .dma (Fin.ofNat 13 3)) 0 ∗ semVal (tc c, .dma (Fin.ofNat 13 4)) 0 ∗ semVal (tc c, .dma (Fin.ofNat 13 5)) 0 ∗ semVal (tc c, .dma (Fin.ofNat 13 6)) 0 ∗ semVal (tc c, .dma (Fin.ofNat 13 7)) 0 ∗ semVal (tc c, .dma (Fin.ofNat 13 8)) 0)
      ⊢ (iprop(((tc c).loc main_arg2 ↦[Finset.univ]{Transfers.shareDrop fullShare 6} W) ∗ WFree c W 0 ∗ WFree c W 1 ∗ WFree c W 2 ∗ WFree c W 3 ∗ WFree c W 4 ∗ WFree c W 5) : sProp 𝕄) := by
  iintro ⟨HW, Hf, Hm3, Hm4, Hm5, Hm6, Hm7, Hm8⟩
  ihave HW := (tok_split_all c W) $$ HW
  icases HW with ⟨HW, Ht0, Ht1, Ht2, Ht3, Ht4, Ht5⟩
  ihave Hf := (wsplit_all c f6) $$ Hf
  icases Hf with ⟨Hw0, Hw1, Hw2, Hw3, Hw4, Hw5⟩
  isplitl [HW]; · iexact HW
  isplitl [Hw0 Hm3 Ht0]
  · unfold WFree
    isplitl [Hw0]; · iexact Hw0
    isplitl [Hm3]; · iexact Hm3
    iexact Ht0
  isplitl [Hw1 Hm4 Ht1]
  · unfold WFree
    isplitl [Hw1]; · iexact Hw1
    isplitl [Hm4]; · iexact Hm4
    iexact Ht1
  isplitl [Hw2 Hm5 Ht2]
  · unfold WFree
    isplitl [Hw2]; · iexact Hw2
    isplitl [Hm5]; · iexact Hm5
    iexact Ht2
  isplitl [Hw3 Hm6 Ht3]
  · unfold WFree
    isplitl [Hw3]; · iexact Hw3
    isplitl [Hm6]; · iexact Hm6
    iexact Ht3
  isplitl [Hw4 Hm7 Ht4]
  · unfold WFree
    isplitl [Hw4]; · iexact Hw4
    isplitl [Hm7]; · iexact Hm7
    iexact Ht4
  · unfold WFree
    isplitl [Hw5]; · iexact Hw5
    isplitl [Hm8]; · iexact Hm8
    iexact Ht5

/-- The weight slots at the end. -/
theorem WFree_end (c : Dev nD) (W : S8x14336x2816.Idx → Elt F .fp8e4m3) :
    iprop(((tc c).loc main_arg2 ↦[Finset.univ]{Transfers.shareDrop fullShare 6} W) ∗ WFree c W 0 ∗ WFree c W 1 ∗ WFree c W 2 ∗ WFree c W 3 ∗ WFree c W 4 ∗ WFree c W 5)
      ⊢ (iprop(((tc c).loc main_arg2 ↦[Finset.univ]{fullShare} W) ∗ (∃ f, ((tc c).loc cc0_scratch6 ↦[Finset.univ]{fullShare} f)) ∗ semVal (tc c, .dma (Fin.ofNat 13 3)) 0 ∗ semVal (tc c, .dma (Fin.ofNat 13 4)) 0 ∗ semVal (tc c, .dma (Fin.ofNat 13 5)) 0 ∗ semVal (tc c, .dma (Fin.ofNat 13 6)) 0 ∗ semVal (tc c, .dma (Fin.ofNat 13 7)) 0 ∗ semVal (tc c, .dma (Fin.ofNat 13 8)) 0) : sProp 𝕄) := by
  unfold WFree
  iintro ⟨HW, ⟨Hw0, Hm0, Ht0⟩, ⟨Hw1, Hm1, Ht1⟩, ⟨Hw2, Hm2, Ht2⟩, ⟨Hw3, Hm3, Ht3⟩, ⟨Hw4, Hm4, Ht4⟩, ⟨Hw5, Hm5, Ht5⟩⟩
  isplitl [HW Ht0 Ht1 Ht2 Ht3 Ht4 Ht5]
  · iapply (tok_join_all c W)
    isplitl [HW]; · iexact HW
    isplitl [Ht0]; · iexact Ht0
    isplitl [Ht1]; · iexact Ht1
    isplitl [Ht2]; · iexact Ht2
    isplitl [Ht3]; · iexact Ht3
    isplitl [Ht4]; · iexact Ht4
    iexact Ht5
  isplitl [Hw0 Hw1 Hw2 Hw3 Hw4 Hw5]
  · iapply (wjoin_all c)
    isplitl [Hw0]; · iexact Hw0
    isplitl [Hw1]; · iexact Hw1
    isplitl [Hw2]; · iexact Hw2
    isplitl [Hw3]; · iexact Hw3
    isplitl [Hw4]; · iexact Hw4
    iexact Hw5
  isplitl [Hm0]; · iexact Hm0
  isplitl [Hm1]; · iexact Hm1
  isplitl [Hm2]; · iexact Hm2
  isplitl [Hm3]; · iexact Hm3
  isplitl [Hm4]; · iexact Hm4
  iexact Hm5

/-- The output slots at the start. -/
theorem OFree_start (c : Dev nD) (f7 : S3x32x2048.Idx → Elt F .bf16) :
    iprop(((tc c).loc cc0_scratch7 ↦[Finset.univ]{fullShare} f7) ∗ semVal (tc c, .dma (Fin.ofNat 13 9)) 0 ∗ semVal (tc c, .dma (Fin.ofNat 13 10)) 0 ∗ semVal (tc c, .dma (Fin.ofNat 13 11)) 0)
      ⊢ (iprop(OFree (F := F) c 0 ∗ OFree (F := F) c 1 ∗ OFree (F := F) c 2) : sProp 𝕄) := by
  iintro ⟨Hf, Hm0, Hm1, Hm2⟩
  ihave Hf := (osplit_all c f7) $$ Hf
  icases Hf with ⟨Hw0, Hw1, Hw2⟩
  unfold OFree
  isplitl [Hw0 Hm0]
  · isplitl [Hw0]; · iexact Hw0
    iexact Hm0
  isplitl [Hw1 Hm1]
  · isplitl [Hw1]; · iexact Hw1
    iexact Hm1
  · isplitl [Hw2]; · iexact Hw2
    iexact Hm2

/-- The output slots at the end. -/
theorem OFree_end (c : Dev nD) :
    iprop(OFree (F := F) c 0 ∗ OFree (F := F) c 1 ∗ OFree (F := F) c 2)
      ⊢ (iprop((∃ f, ((tc c).loc cc0_scratch7 ↦[Finset.univ]{fullShare} f)) ∗ semVal (tc c, .dma (Fin.ofNat 13 9)) 0 ∗ semVal (tc c, .dma (Fin.ofNat 13 10)) 0 ∗ semVal (tc c, .dma (Fin.ofNat 13 11)) 0) : sProp 𝕄) := by
  unfold OFree
  iintro ⟨⟨Hw0, Hm0⟩, ⟨Hw1, Hm1⟩, ⟨Hw2, Hm2⟩⟩
  isplitl [Hw0 Hw1 Hw2]
  · iapply (ojoin_all c)
    isplitl [Hw0]; · iexact Hw0
    isplitl [Hw1]; · iexact Hw1
    iexact Hw2
  isplitl [Hm0]; · iexact Hm0
  isplitl [Hm1]; · iexact Hm1
  iexact Hm2

end slots

section body
variable (c : Dev nD) (gs : S8.Idx → BitVec 32) (gw : ℕ → BitVec 32)

set_option maxHeartbeats 8000000 in
theorem wp_part13 (hgw : ∀ i, gw i = gs (mk S8 ![i])) (X : S8x32x2816.Idx → Elt F .bf16) (WS : S8x14336.Idx → Elt F .f32)
    (W : S8x14336x2816.Idx → Elt F .fp8e4m3) (G V : S8x32x14336.Idx → Elt F .bf16)
    (hG : ∀ e < 8, 0 < (gw e).toInt → ∀ b < 7, ∀ z, Bl gw X WS W e b z = G (mk S8x32x14336 ![e, (z 1 : ℕ), 2048 * b + (z 2 : ℕ)]))
    (hz : ∀ i : S8x32x14336.Idx, ¬ 0 < (gw (i 0 : ℕ)).toInt → G i = Scalar.ofBits .bf16 0x0000#16)
    (f0 : S8.Idx → BitVec 32) (f1 : S9.Idx → BitVec 32) (f2 : S8x32x2816.Idx → Elt F .bf16) (f3 : S8x14336.Idx → Elt F .f32)
    (f4 : S32x2816.Idx → Elt F .fp8e4m3) (f5 : S32x128.Idx → Elt F .f32) (f8 : S32x14336.Idx → Elt F .bf16) {Q} :
    iprop(((tc c).loc main_arg1 ↦[Finset.univ]{fullShare} gs) ∗ ((tc c).loc cc0_scratch0 ↦[Finset.univ]{fullShare} f0) ∗ semVal (tc c, .dma (Fin.ofNat 13 0)) 0 ∗ ((tc c).loc main_arg0 ↦[Finset.univ]{fullShare} X) ∗ ((tc c).loc cc0_scratch2 ↦[Finset.univ]{fullShare} f2) ∗ semVal (tc c, .dma (Fin.ofNat 13 1)) 0 ∗ ((tc c).loc main_arg3 ↦[Finset.univ]{fullShare} WS) ∗ ((tc c).loc cc0_scratch3 ↦[Finset.univ]{fullShare} f3) ∗ semVal (tc c, .dma (Fin.ofNat 13 2)) 0 ∗ LL c f1 ∗ ((tc c).loc cc0_scratch4 ↦[Finset.univ]{fullShare} f4) ∗ ((tc c).loc cc0_scratch5 ↦[Finset.univ]{fullShare} f5) ∗ ((tc c).loc cc0_scratch8 ↦[Finset.univ]{fullShare} f8) ∗ semVal (tc c, .dma (Fin.ofNat 13 12)) 0 ∗ WFree c W 0 ∗ WFree c W 1 ∗ WFree c W 2 ∗ WFree c W 3 ∗ WFree c W 4 ∗ WFree c W 5 ∗ OFree (F := F) c 0 ∗ OFree (F := F) c 1 ∗ OFree (F := F) c 2 ∗ RG c gw V 0 56 ∗ RG c gw V 56 64 ∗ Ow c)
      ⊢ iprop((iprop(((tc c).loc main_arg1 ↦[Finset.univ]{fullShare} gs) ∗ ((tc c).loc cc0_scratch0 ↦[Finset.univ]{fullShare} gs) ∗ semVal (tc c, .dma (Fin.ofNat 13 0)) 0 ∗ ((tc c).loc main_arg0 ↦[Finset.univ]{fullShare} X) ∗ ((tc c).loc cc0_scratch2 ↦[Finset.univ]{fullShare} X) ∗ semVal (tc c, .dma (Fin.ofNat 13 1)) 0 ∗ ((tc c).loc main_arg3 ↦[Finset.univ]{fullShare} WS) ∗ ((tc c).loc cc0_scratch3 ↦[Finset.univ]{fullShare} WS) ∗ semVal (tc c, .dma (Fin.ofNat 13 2)) 0 ∗ (∃ f, LL c f) ∗ XQ c gw X (7 * cnt gw 8) ∗ ((tc c).loc cc0_scratch8 ↦[Finset.univ]{Transfers.shareDrop fullShare (dn gw 8)} (k0_pay19 (F := F))) ∗ (WFree c W 0 ∗ WFree c W 1 ∗ WFree c W 2 ∗ WFree c W 3 ∗ WFree c W 4 ∗ WFree c W 5) ∗ (OFree (F := F) c 0 ∗ OFree (F := F) c 1 ∗ OFree (F := F) c 2) ∗ RG c gw G 0 56 ∗ ZW c gw G 7)
          -∗ Q (Scalar.extui (Scalar.cmpi .sle (gw 7) 0#32)))
        -∗ wp frame (wpE (defs₀ (F := F)) Variants.none (tc c) none) Set.univ (k0_part13 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  have hn := nlw_eq gw
  have h8 : cnt gw 8 < 9 := by have := cnt_le gw 8; omega
  rw [k0_part13_eq_skeleton]
  unfold k0_part13_skel
  dsimp only
  iintro ⟨Ha1, Hg, Hm0, Ha0, Hx, Hm1, Ha3, Hs, Hm2, HL, Hq, Hf5, Hf8, Hm12, HW0, HW1, HW2, HW3, HW4, HW5, HF0, HF1, HF2, HV, HV2, HO⟩ Hk
  rw [wp_bind]
  iapply (wp_part9 c gs gw hgw f1 X WS f0 f2 f3 (chk5 gw)) $$ [Ha1 Hg Hm0 Ha0 Hx Hm1 Ha3 Hs Hm2 HL HO]
  · isplitl [Ha1]; · iexact Ha1
    isplitl [Hg]; · iexact Hg
    isplitl [Hm0]; · iexact Hm0
    isplitl [Ha0]; · iexact Ha0
    isplitl [Hx]; · iexact Hx
    isplitl [Hm1]; · iexact Hm1
    isplitl [Ha3]; · iexact Ha3
    isplitl [Hs]; · iexact Hs
    isplitl [Hm2]; · iexact Hm2
    isplitl [HL]; · iexact HL
    iexact HO
  iintro %v28 ⟨Ha1, Hg, Hm0, HX, HS, ⟨%L0, HL, %hL0⟩, HO⟩
  dsimp only
  rw [wp_bind]
  iapply (wp_part10 c gs gw hgw L0 hL0 W (chk5 gw) v28 (chk13 (gw 0) (gw 1) (gw 2) (gw 3) (gw 4) (gw 5) (gw 6) (gw 7) hn h8)) $$ [Hg HL HW0 HW1 HW2 HW3]
  · isplitl [Hg]; · iexact Hg
    isplitl [HL]; · iexact HL
    isplitl [HW0]; · iexact HW0
    isplitl [HW1]; · iexact HW1
    isplitl [HW2]; · iexact HW2
    iexact HW3
  iintro %v47 ⟨Hg, ⟨%L, HL, %hL⟩, HW0, HW1, HW2, HW3⟩
  dsimp only
  rw [wp_bind]
  iapply (wp_part11 c gs gw hgw L hL X WS W G V f8 hz v47 4#32) $$ [Hg HL HW4 HX HS Hf8 Hm12 HV2 HO]
  · isplitl [Hg]; · iexact Hg
    isplitl [HL]; · iexact HL
    isplitl [HW4]; · iexact HW4
    isplitl [HX]; · iexact HX
    isplitl [HS]; · iexact HS
    isplitl [Hf8]; · iexact Hf8
    isplitl [Hm12]; · iexact Hm12
    isplitl [HV2]; · iexact HV2
    iexact HO
  iintro ⟨Hg, HL, HW4, ⟨Hx, Ha0, Hm1⟩, ⟨Hs, Ha3, Hm2⟩, HZ, HO⟩
  rw [wp_bind]
  ihave HQ := (show iprop(((tc c).loc cc0_scratch4 ↦[Finset.univ]{fullShare} f4) ∗ ((tc c).loc cc0_scratch5 ↦[Finset.univ]{fullShare} f5)) ⊢ (XQ c gw X 0 : sProp 𝕄) from by
    unfold XQ
    iintro ⟨H1, H2⟩
    iexists f4
    iexists f5
    isplitl [H1]; · iexact H1
    isplitl [H2]; · iexact H2
    ipureintro
    intro h
    omega) $$ [Hq Hf5]
  · isplitl [Hq]; · iexact Hq
    iexact Hf5
  iapply (wp_part12 c gs gw hgw L hL X WS W G V hG hz (chk13 (gw 0) (gw 1) (gw 2) (gw 3) (gw 4) (gw 5) (gw 6) (gw 7) hn h8) v47) $$ [Hg HL Hx Hs HQ HW0 HW1 HW2 HW3 HW4 HW5 HF0 HF1 HF2 HV HZ HO]
  · isplitl [Hg]; · iexact Hg
    isplitl [HL]; · iexact HL
    isplitl [Hx]; · iexact Hx
    isplitl [Hs]; · iexact Hs
    isplitl [HQ]; · iexact HQ
    isplitl [HW0]; · iexact HW0
    isplitl [HW1]; · iexact HW1
    isplitl [HW2]; · iexact HW2
    isplitl [HW3]; · iexact HW3
    isplitl [HW4]; · iexact HW4
    isplitl [HW5]; · iexact HW5
    isplitl [HF0]; · iexact HF0
    isplitl [HF1]; · iexact HF1
    isplitl [HF2]; · iexact HF2
    isplitl [HV]; · iexact HV
    isplitl [HZ]; · iexact HZ
    iexact HO
  iintro ⟨Hg, HL, Hx, Hs, HQ, HW, HF, HG, HZ, HO⟩
  ihave HZ := (show ZS c gw G V 8 ⊢ (iprop(BT c gw G (dn gw 8) 0 ∗ RG c gw V (56 + dn gw 8) 64
      ∗ ((tc c).loc cc0_scratch8 ↦[Finset.univ]{Transfers.shareDrop fullShare (dn gw 8)} (k0_pay19 (F := F)))) : sProp 𝕄) from .rfl) $$ HZ
  icases HZ with ⟨HB, -, H8⟩
  ihave HZ := (show iprop(BT c gw G (dn gw 8) 0 ∗ Ow c) ⊢ (ZW c gw G 0 : sProp 𝕄) from by
    unfold ZW
    rw [show dn gw 0 = 0 from rfl, Nat.zero_mul]) $$ [HB HO]
  · isplitl [HB]; · iexact HB
    iexact HO
  iapply (wp_zwt c gw G 0 (by omega)) $$ HZ
  iintro HZ
  iapply (wp_ldG c gs 1 rfl (by omega)) $$ Hg
  iintro Hg
  rw [← hgw 1]
  iapply (wp_zwt c gw G 1 (by omega)) $$ HZ
  iintro HZ
  iapply (wp_ldG c gs 2 rfl (by omega)) $$ Hg
  iintro Hg
  rw [← hgw 2]
  iapply (wp_zwt c gw G 2 (by omega)) $$ HZ
  iintro HZ
  iapply (wp_ldG c gs 3 rfl (by omega)) $$ Hg
  iintro Hg
  rw [← hgw 3]
  iapply (wp_zwt c gw G 3 (by omega)) $$ HZ
  iintro HZ
  iapply (wp_ldG c gs 4 rfl (by omega)) $$ Hg
  iintro Hg
  rw [← hgw 4]
  iapply (wp_zwt c gw G 4 (by omega)) $$ HZ
  iintro HZ
  iapply (wp_ldG c gs 5 rfl (by omega)) $$ Hg
  iintro Hg
  rw [← hgw 5]
  iapply (wp_zwt c gw G 5 (by omega)) $$ HZ
  iintro HZ
  iapply (wp_ldG c gs 6 rfl (by omega)) $$ Hg
  iintro Hg
  rw [← hgw 6]
  iapply (wp_zwt c gw G 6 (by omega)) $$ HZ
  iintro HZ
  iapply (wp_ldG c gs 7 rfl (by omega)) $$ Hg
  iintro Hg
  rw [← hgw 7]
  iapply le_wp_ret
  iapply Hk
  isplitl [Ha1]; · iexact Ha1
  isplitl [Hg]; · iexact Hg
  isplitl [Hm0]; · iexact Hm0
  isplitl [Ha0]; · iexact Ha0
  isplitl [Hx]; · iexact Hx
  isplitl [Hm1]; · iexact Hm1
  isplitl [Ha3]; · iexact Ha3
  isplitl [Hs]; · iexact Hs
  isplitl [Hm2]; · iexact Hm2
  isplitl [HL]
  · iexists L
    iexact HL
  isplitl [HQ]; · iexact HQ
  isplitl [H8]; · iexact H8
  isplitl [HW]; · iexact HW
  isplitl [HF]; · iexact HF
  isplitl [HG]; · iexact HG
  iexact HZ

set_option maxHeartbeats 8000000 in
/-- The kernel's body: from the four arguments, the result's buffer and the scratch at anything and every
    semaphore at zero, to the result at `G`, everything else handed back. -/
theorem wp_kernel (hgw : ∀ i, gw i = gs (mk S8 ![i])) (X : S8x32x2816.Idx → Elt F .bf16) (WS : S8x14336.Idx → Elt F .f32)
    (W : S8x14336x2816.Idx → Elt F .fp8e4m3) (G V : S8x32x14336.Idx → Elt F .bf16)
    (hG : ∀ e < 8, 0 < (gw e).toInt → ∀ b < 7, ∀ z, Bl gw X WS W e b z = G (mk S8x32x14336 ![e, (z 1 : ℕ), 2048 * b + (z 2 : ℕ)]))
    (hz : ∀ i : S8x32x14336.Idx, ¬ 0 < (gw (i 0 : ℕ)).toInt → G i = Scalar.ofBits .bf16 0x0000#16)
    (f0 : S8.Idx → BitVec 32) (f1 : S9.Idx → BitVec 32) (f2 : S8x32x2816.Idx → Elt F .bf16) (f3 : S8x14336.Idx → Elt F .f32)
    (f4 : S32x2816.Idx → Elt F .fp8e4m3) (f5 : S32x128.Idx → Elt F .f32) (f6 : S6x2048x2816.Idx → Elt F .fp8e4m3)
    (f7 : S3x32x2048.Idx → Elt F .bf16) (f8 : S32x14336.Idx → Elt F .bf16) {Q} :
    iprop(((tc c).loc main_arg0 ↦[Finset.univ]{fullShare} X) ∗ ((tc c).loc main_arg1 ↦[Finset.univ]{fullShare} gs) ∗ ((tc c).loc main_arg2 ↦[Finset.univ]{fullShare} W) ∗ ((tc c).loc main_arg3 ↦[Finset.univ]{fullShare} WS) ∗ ((tc c).loc main_v0 ↦[Finset.univ]{fullShare} V) ∗ ((tc c).loc cc0_scratch0 ↦[Finset.univ]{fullShare} f0) ∗ ((tc c).loc cc0_scratch1 ↦[Finset.univ]{fullShare} f1) ∗ ((tc c).loc cc0_scratch2 ↦[Finset.univ]{fullShare} f2) ∗ ((tc c).loc cc0_scratch3 ↦[Finset.univ]{fullShare} f3) ∗ ((tc c).loc cc0_scratch4 ↦[Finset.univ]{fullShare} f4) ∗ ((tc c).loc cc0_scratch5 ↦[Finset.univ]{fullShare} f5) ∗ ((tc c).loc cc0_scratch6 ↦[Finset.univ]{fullShare} f6) ∗ ((tc c).loc cc0_scratch7 ↦[Finset.univ]{fullShare} f7) ∗ ((tc c).loc cc0_scratch8 ↦[Finset.univ]{fullShare} f8) ∗ semVal (tc c, .dma (Fin.ofNat 13 0)) 0 ∗ semVal (tc c, .dma (Fin.ofNat 13 1)) 0 ∗ semVal (tc c, .dma (Fin.ofNat 13 2)) 0 ∗ semVal (tc c, .dma (Fin.ofNat 13 3)) 0 ∗ semVal (tc c, .dma (Fin.ofNat 13 4)) 0 ∗ semVal (tc c, .dma (Fin.ofNat 13 5)) 0 ∗ semVal (tc c, .dma (Fin.ofNat 13 6)) 0 ∗ semVal (tc c, .dma (Fin.ofNat 13 7)) 0 ∗ semVal (tc c, .dma (Fin.ofNat 13 8)) 0 ∗ semVal (tc c, .dma (Fin.ofNat 13 9)) 0 ∗ semVal (tc c, .dma (Fin.ofNat 13 10)) 0 ∗ semVal (tc c, .dma (Fin.ofNat 13 11)) 0 ∗ semVal (tc c, .dma (Fin.ofNat 13 12)) 0 ∗ Ow c)
      ⊢ iprop((iprop(((tc c).loc main_arg0 ↦[Finset.univ]{fullShare} X) ∗ ((tc c).loc main_arg1 ↦[Finset.univ]{fullShare} gs) ∗ ((tc c).loc main_arg2 ↦[Finset.univ]{fullShare} W) ∗ ((tc c).loc main_arg3 ↦[Finset.univ]{fullShare} WS) ∗ ((tc c).loc main_v0 ↦[Finset.univ]{fullShare} G) ∗ (∃ f, ((tc c).loc cc0_scratch0 ↦[Finset.univ]{fullShare} f)) ∗ (∃ f, ((tc c).loc cc0_scratch1 ↦[Finset.univ]{fullShare} f)) ∗ (∃ f, ((tc c).loc cc0_scratch2 ↦[Finset.univ]{fullShare} f)) ∗ (∃ f, ((tc c).loc cc0_scratch3 ↦[Finset.univ]{fullShare} f)) ∗ (∃ f, ((tc c).loc cc0_scratch4 ↦[Finset.univ]{fullShare} f)) ∗ (∃ f, ((tc c).loc cc0_scratch5 ↦[Finset.univ]{fullShare} f)) ∗ (∃ f, ((tc c).loc cc0_scratch6 ↦[Finset.univ]{fullShare} f)) ∗ (∃ f, ((tc c).loc cc0_scratch7 ↦[Finset.univ]{fullShare} f)) ∗ (∃ f, ((tc c).loc cc0_scratch8 ↦[Finset.univ]{fullShare} f)) ∗ semVal (tc c, .dma (Fin.ofNat 13 0)) 0 ∗ semVal (tc c, .dma (Fin.ofNat 13 1)) 0 ∗ semVal (tc c, .dma (Fin.ofNat 13 2)) 0 ∗ semVal (tc c, .dma (Fin.ofNat 13 3)) 0 ∗ semVal (tc c, .dma (Fin.ofNat 13 4)) 0 ∗ semVal (tc c, .dma (Fin.ofNat 13 5)) 0 ∗ semVal (tc c, .dma (Fin.ofNat 13 6)) 0 ∗ semVal (tc c, .dma (Fin.ofNat 13 7)) 0 ∗ semVal (tc c, .dma (Fin.ofNat 13 8)) 0 ∗ semVal (tc c, .dma (Fin.ofNat 13 9)) 0 ∗ semVal (tc c, .dma (Fin.ofNat 13 10)) 0 ∗ semVal (tc c, .dma (Fin.ofNat 13 11)) 0 ∗ semVal (tc c, .dma (Fin.ofNat 13 12)) 0 ∗ Ow c)
          -∗ Q ⟨⟩)
        -∗ wp frame (wpE (defs₀ (F := F)) Variants.none (tc c) none) Set.univ (cc0_grouped_fp8 (Memref.whole main_arg1) (Memref.isWhole_whole _) (Memref.whole main_arg0) (Memref.isWhole_whole _) (Memref.whole main_arg3) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  simp only [cc0_grouped_fp8_eq_skeleton]
  unfold cc0_grouped_fp8_skel
  dsimp only
  iintro ⟨Ha0, Ha1, Ha2, Ha3, HV, H0, H1, H2, H3, H4, H5, H6, H7, H8, Hm0, Hm1, Hm2, Hm3, Hm4, Hm5, Hm6, Hm7, Hm8, Hm9, Hm10, Hm11, Hm12, HO⟩ Hk
  ihave HW := (WFree_start c W f6) $$ [Ha2 H6 Hm3 Hm4 Hm5 Hm6 Hm7 Hm8]
  · isplitl [Ha2]; · iexact Ha2
    isplitl [H6]; · iexact H6
    isplitl [Hm3]; · iexact Hm3
    isplitl [Hm4]; · iexact Hm4
    isplitl [Hm5]; · iexact Hm5
    isplitl [Hm6]; · iexact Hm6
    isplitl [Hm7]; · iexact Hm7
    iexact Hm8
  icases HW with ⟨Ha2, HW0, HW1, HW2, HW3, HW4, HW5⟩
  ihave HF := (OFree_start c f7) $$ [H7 Hm9 Hm10 Hm11]
  · isplitl [H7]; · iexact H7
    isplitl [Hm9]; · iexact Hm9
    isplitl [Hm10]; · iexact Hm10
    iexact Hm11
  icases HF with ⟨HF0, HF1, HF2⟩
  ihave HV := (show ((tc c).loc main_v0 ↦[Finset.univ]{fullShare} V) ⊢ (RG c gw V 0 64 : sProp 𝕄) from by
    unfold RG
    rw [Reg_all]) $$ HV
  ihave HV := (RG_split c gw V (a := 0) (m := 56) (b := 64) (by omega) (by omega)) $$ HV
  icases HV with ⟨HV, HV2⟩
  rw [wp_bind]
  iapply (wp_part13 c gs gw hgw X WS W G V hG hz f0 f1 f2 f3 f4 f5 f8) $$ [Ha1 H0 Hm0 Ha0 H2 Hm1 Ha3 H3 Hm2 H1 H4 H5 H8 Hm12 HW0 HW1 HW2 HW3 HW4 HW5 HF0 HF1 HF2 HV HV2 HO]
  · isplitl [Ha1]; · iexact Ha1
    isplitl [H0]; · iexact H0
    isplitl [Hm0]; · iexact Hm0
    isplitl [Ha0]; · iexact Ha0
    isplitl [H2]; · iexact H2
    isplitl [Hm1]; · iexact Hm1
    isplitl [Ha3]; · iexact Ha3
    isplitl [H3]; · iexact H3
    isplitl [Hm2]; · iexact Hm2
    isplitl [H1]; · iexact H1
    isplitl [H4]; · iexact H4
    isplitl [H5]; · iexact H5
    isplitl [H8]; · iexact H8
    isplitl [Hm12]; · iexact Hm12
    isplitl [HW0]; · iexact HW0
    isplitl [HW1]; · iexact HW1
    isplitl [HW2]; · iexact HW2
    isplitl [HW3]; · iexact HW3
    isplitl [HW4]; · iexact HW4
    isplitl [HW5]; · iexact HW5
    isplitl [HF0]; · iexact HF0
    isplitl [HF1]; · iexact HF1
    isplitl [HF2]; · iexact HF2
    isplitl [HV]; · iexact HV
    isplitl [HV2]; · iexact HV2
    iexact HO
  iintro ⟨Ha1, H0, Hm0, Ha0, H2, Hm1, Ha3, H3, Hm2, H1, HQ, H8, HW, HF, HG, HZ⟩
  iapply (wp_zwt c gw G 7 (by omega)) $$ HZ
  iintro HZ
  ihave HE := (ZW_end c gw G) $$ [HZ H8]
  · isplitl [HZ]; · iexact HZ
    iexact H8
  imod HE with ⟨HG2, H8, Hm12, HO⟩
  ihave HG := (RG_join c gw G (a := 0) (m := 56) (b := 64) (by omega) (by omega)) $$ [HG HG2]
  · isplitl [HG]; · iexact HG
    iexact HG2
  ihave HG := (show (RG c gw G 0 64 : sProp 𝕄) ⊢ ((tc c).loc main_v0 ↦[Finset.univ]{fullShare} G) from by
    unfold RG
    rw [Reg_all]) $$ HG
  ihave HW := (WFree_end c W) $$ [Ha2 HW]
  · isplitl [Ha2]; · iexact Ha2
    iexact HW
  icases HW with ⟨Ha2, H6, Hm3, Hm4, Hm5, Hm6, Hm7, Hm8⟩
  ihave HF := (OFree_end c) $$ HF
  icases HF with ⟨H7, Hm9, Hm10, Hm11⟩
  ihave HQ := (show XQ c gw X (7 * cnt gw 8) ⊢ (iprop((∃ f, ((tc c).loc cc0_scratch4 ↦[Finset.univ]{fullShare} f)) ∗ (∃ f, ((tc c).loc cc0_scratch5 ↦[Finset.univ]{fullShare} f))) : sProp 𝕄) from by
    unfold XQ
    iintro ⟨%fq, %fs, H1, H2, -⟩
    isplitl [H1]
    · iexists fq
      iexact H1
    iexists fs
    iexact H2) $$ HQ
  icases HQ with ⟨H4, H5⟩
  icases H1 with ⟨%g1, H1⟩
  iapply le_wp_ret
  iapply Hk
  isplitl [Ha0]; · iexact Ha0
  isplitl [Ha1]; · iexact Ha1
  isplitl [Ha2]; · iexact Ha2
  isplitl [Ha3]; · iexact Ha3
  isplitl [HG]; · iexact HG
  isplitl [H0]
  · iexists gs
    iexact H0
  isplitl [H1]
  · iexists g1
    iexact H1
  isplitl [H2]
  · iexists X
    iexact H2
  isplitl [H3]
  · iexists WS
    iexact H3
  isplitl [H4]; · iexact H4
  isplitl [H5]; · iexact H5
  isplitl [H6]; · iexact H6
  isplitl [H7]; · iexact H7
  isplitl [H8]
  · iexists _
    iexact H8
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  iexact HO

end body

end Cert.KernelIdeal.Hand

end

end
-- ==== Proof.Ideal.Final.lean ====
module

public import proofs.«01_k».proof.Proof.Ideal.Body
public import Idealize.ShloMosaic.Lib.Pipeline.FrameBody
public import Idealize.ShloMosaic.Lib.Pipeline.FrameValue
public import proofs.«01_k».proof.Proof.Ideal.Count
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry
public import Idealize.ShloMosaic.Lib.Ring
public import Idealize.ShloMosaic.Lib.Tactic
public import Idealize.ShloMosaic.Lib.WordCmp
public import Mathlib.Tactic.IntervalCases

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## What the kernel leaves -/

/-- The number of rows of group `i`. -/
def gwOf (gs : S8.Idx → BitVec 32) (i : ℕ) : BitVec 32 := gs (mk S8 ![i])

/-- The kernel's result: block by block what a trip computes for an expert that has rows, zero for the others. -/
def Res (gs : S8.Idx → BitVec 32) (X : S8x32x2816.Idx → Elt F .bf16) (WS : S8x14336.Idx → Elt F .f32)
    (W : S8x14336x2816.Idx → Elt F .fp8e4m3) (i : S8x32x14336.Idx) : Elt F .bf16 :=
  if 0 < (gwOf gs (i 0)).toInt then Bl (gwOf gs) X WS W (i 0) ((i 2 : ℕ) / 2048) (mk S1x32x2048 ![0, (i 1 : ℕ), (i 2 : ℕ) % 2048])
  else Scalar.ofBits .bf16 0x0000#16

theorem Res_live (gs : S8.Idx → BitVec 32) (X : S8x32x2816.Idx → Elt F .bf16) (WS : S8x14336.Idx → Elt F .f32)
    (W : S8x14336x2816.Idx → Elt F .fp8e4m3) :
    ∀ e < 8, 0 < (gwOf gs e).toInt → ∀ b < 7, ∀ z, Bl (gwOf gs) X WS W e b z = Res gs X WS W (mk S8x32x14336 ![e, (z 1 : ℕ), 2048 * b + (z 2 : ℕ)]) := by
  intro e he hg b hb z
  have hz0 : (z 0 : ℕ) < 1 := (z 0).isLt
  have hz1 : (z 1 : ℕ) < 32 := (z 1).isLt
  have hz2 : (z 2 : ℕ) < 2048 := (z 2).isLt
  have h0 : ((mk S8x32x14336 ![e, (z 1 : ℕ), 2048 * b + (z 2 : ℕ)]) 0 : ℕ) = e := mk_val S8x32x14336 ![e, (z 1 : ℕ), 2048 * b + (z 2 : ℕ)] _ 0 he
  have h1 : ((mk S8x32x14336 ![e, (z 1 : ℕ), 2048 * b + (z 2 : ℕ)]) 1 : ℕ) = (z 1 : ℕ) := mk_val S8x32x14336 ![e, (z 1 : ℕ), 2048 * b + (z 2 : ℕ)] _ 1 hz1
  have h2 : ((mk S8x32x14336 ![e, (z 1 : ℕ), 2048 * b + (z 2 : ℕ)]) 2 : ℕ) = 2048 * b + (z 2 : ℕ) :=
    mk_val S8x32x14336 ![e, (z 1 : ℕ), 2048 * b + (z 2 : ℕ)] _ 2 (show 2048 * b + (z 2 : ℕ) < 14336 by omega)
  unfold Res
  rw [h0, h1, h2, if_pos hg, show (2048 * b + (z 2 : ℕ)) / 2048 = b by omega, show (2048 * b + (z 2 : ℕ)) % 2048 = (z 2 : ℕ) by omega]
  congr 1
  exact eq_mk S1x32x2048 _ _ z fun a => by
    fin_cases a
    · show (z 0 : ℕ) = 0
      omega
    · rfl
    · rfl

theorem Res_dead (gs : S8.Idx → BitVec 32) (X : S8x32x2816.Idx → Elt F .bf16) (WS : S8x14336.Idx → Elt F .f32)
    (W : S8x14336x2816.Idx → Elt F .fp8e4m3) :
    ∀ i : S8x32x14336.Idx, ¬ 0 < (gwOf gs (i 0 : ℕ)).toInt → Res gs X WS W i = Scalar.ofBits .bf16 0x0000#16 := by
  intro i h
  unfold Res
  rw [if_neg h]

/-! ## The launch -/

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The result on core `c`. -/
def resOf (c : Dev nD) : Buf (Elt F) ((c : Thread nD τ).loc main_v0) :=
  Res (V m c main_arg1) (V m c main_arg0) (V m c main_arg3) (V m c main_arg2)

/-- Every buffer after the run. -/
def after (c : Dev nD) : (b : Ref sig .tc) → Buf (Elt F) ((c : Thread nD τ).loc b) :=
  Function.update (V m c) main_v0 (resOf m c)

theorem after_v0 (c : Dev nD) : after m c main_v0 = resOf m c := Function.update_self ..

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's thirteen cells. -/
abbrev osem0 : Fin 13 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 13 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7, 8, 9, 10, 11, 12] (by decide) (by decide)]; rfl

def H0 : Finset (Ref sig .tc) := {main_arg0, main_arg1, main_arg2, main_arg3}
theorem H0_sub : H0 ⊆ Pipeline.restRefs sig cfg0.spec := by decide
theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)) := by
  rw [BI.bigSep_eq_bigSepL_of_eq [main_arg0, main_arg1, main_arg2, main_arg3] (by decide) (by decide)]; rfl

def R0 : Finset (Ref sig .tc) := {main_v0}
theorem R0_sub : R0 ⊆ Pipeline.restRefs sig cfg0.spec \ H0 := by decide
theorem routed0_eq (c : Dev nD) (G : (b : Ref sig .tc) → Buf (Elt F) ((c : Thread nD τ).loc b)) :
    (Pipeline.routed R0 c G : sProp 𝕄) = (((c : Thread nD τ).loc main_v0) ↦{fullShare} G main_v0) := by
  unfold Pipeline.routed; rw [BI.bigSep_eq_bigSepL_of_eq [main_v0] (by decide) (by decide)]; rfl

theorem Phi_eq (c : Dev nD) (G : (c : Dev nD) → (b : Ref sig .tc) → Buf (Elt F) ((c : Thread nD τ).loc b)) :
    (Pipeline.ΦDRG osem0 cfg0.spec H0 R0 (V m) G c : sProp 𝕄)
      = iprop(iprop((∃ f : Buf (Elt F) ((c : Thread nD τ).loc cc0_scratch2), (((c : Thread nD τ).loc cc0_scratch2) ↦{fullShare} f)) ∗ (∃ f : Buf (Elt F) ((c : Thread nD τ).loc cc0_scratch3), (((c : Thread nD τ).loc cc0_scratch3) ↦{fullShare} f)) ∗ (∃ f : Buf (Elt F) ((c : Thread nD τ).loc cc0_scratch4), (((c : Thread nD τ).loc cc0_scratch4) ↦{fullShare} f)) ∗ (∃ f : Buf (Elt F) ((c : Thread nD τ).loc cc0_scratch5), (((c : Thread nD τ).loc cc0_scratch5) ↦{fullShare} f)) ∗ (∃ f : Buf (Elt F) ((c : Thread nD τ).loc cc0_scratch6), (((c : Thread nD τ).loc cc0_scratch6) ↦{fullShare} f)) ∗ (∃ f : Buf (Elt F) ((c : Thread nD τ).loc cc0_scratch7), (((c : Thread nD τ).loc cc0_scratch7) ↦{fullShare} f)) ∗ (∃ f : Buf (Elt F) ((c : Thread nD τ).loc cc0_scratch8), (((c : Thread nD τ).loc cc0_scratch8) ↦{fullShare} f)) ∗ (∃ f : Buf (Elt F) ((c : Thread nD τ).loc cc0_scratch0), (((c : Thread nD τ).loc cc0_scratch0) ↦{fullShare} f)) ∗ (∃ f : Buf (Elt F) ((c : Thread nD τ).loc cc0_scratch1), (((c : Thread nD τ).loc cc0_scratch1) ↦{fullShare} f)))
      ∗ (∃ r, prngReg c r)
      ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3))
      ∗ (((c : Thread nD τ).loc main_v0) ↦{fullShare} G c main_v0)) := by
  rw [Pipeline.ΦDRG_eq, scopedRest0_eq, ownSems00_eq, hbmPts0_eq, routed0_eq]

/-- The proof data of the one region: nothing staged, the body's invariant at the launch contents before the one
    point and at the result after it. -/
def dats (_ : Fin 1) (c : Dev nD) : Dat τ (Elt F) Unit ℕ (Pipeline.UD sig nD τ) ℕ cfg0 c where
  A w := V m c (Pipeline.arrRef cfg0.spec w)
  after w t := w.elim0
  Φ t := if (t : ℕ) = 0 then Pipeline.ΦDRG osem0 cfg0.spec H0 R0 (V m) (V m) c else Pipeline.ΦDRG osem0 cfg0.spec H0 R0 (V m) (after m) c
  q _ := fullShare
  owed _ := 0

theorem Phi_pre (c : Dev nD) (t : Fin cfg0.N) : (dats m 0 c).Φ t.castSucc = Pipeline.ΦDRG osem0 cfg0.spec H0 R0 (V m) (V m) c := by
  have h : ((t.castSucc : Fin (cfg0.N + 1)) : ℕ) = 0 := by rw [fin_N0 t]; rfl
  dsimp only [dats]
  rw [if_pos h]
theorem Phi_post (c : Dev nD) (t : Fin cfg0.N) : (dats m 0 c).Φ t.succ = Pipeline.ΦDRG osem0 cfg0.spec H0 R0 (V m) (after m) c := by
  have h : ((t.succ : Fin (cfg0.N + 1)) : ℕ) ≠ 0 := by simp
  dsimp only [dats]
  rw [if_neg h]

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, Phi_eq, Phi_eq, after_v0]
  unfold Dat.owesAt Pipeline.owesWithin
  rw [show (dats m 0 c).owed t.castSucc = 0 from rfl, show (dats m 0 c).owed t.succ = 0 from rfl]
  iintro ⟨⟨⟨⟨%f2, H2⟩, ⟨%f3, H3⟩, ⟨%f4, H4⟩, ⟨%f5, H5⟩, ⟨%f6, H6⟩, ⟨%f7, H7⟩, ⟨%f8, H8⟩, ⟨%f0, H0⟩, ⟨%f1, H1⟩⟩, Hp, ⟨Hm0, Hm1, Hm2, Hm3, Hm4, Hm5, Hm6, Hm7, Hm8, Hm9, Hm10, Hm11, Hm12⟩, ⟨Ha0, Ha1, Ha2, Ha3⟩, Hv⟩, ⟨%W, -, HO⟩, -⟩
  ihave HO := (show owes (c : Thread nD τ) 0 W ⊢ (Ow c : sProp 𝕄) from Ow_intro c W) $$ HO
  iapply (wp_kernel c (V m c main_arg1) (gwOf (V m c main_arg1)) (fun _ => rfl) (V m c main_arg0) (V m c main_arg3) (V m c main_arg2)
    (resOf m c) (V m c main_v0) (Res_live _ _ _ _) (Res_dead _ _ _ _) f0 f1 f2 f3 f4 f5 f6 f7 f8) $$ [Ha0 Ha1 Ha2 Ha3 Hv H0 H1 H2 H3 H4 H5 H6 H7 H8 Hm0 Hm1 Hm2 Hm3 Hm4 Hm5 Hm6 Hm7 Hm8 Hm9 Hm10 Hm11 Hm12 HO]
  · isplitl [Ha0]; · iexact Ha0
    isplitl [Ha1]; · iexact Ha1
    isplitl [Ha2]; · iexact Ha2
    isplitl [Ha3]; · iexact Ha3
    isplitl [Hv]; · iexact Hv
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    iexact HO
  iintro ⟨Ha0, Ha1, Ha2, Ha3, Hv, H0, H1, H2, H3, H4, H5, H6, H7, H8, Hm0, Hm1, Hm2, Hm3, Hm4, Hm5, Hm6, Hm7, Hm8, Hm9, Hm10, Hm11, Hm12, HO⟩
  isplitl [Ha0 Ha1 Ha2 Ha3 Hv H0 H1 H2 H3 H4 H5 H6 H7 H8 Hm0 Hm1 Hm2 Hm3 Hm4 Hm5 Hm6 Hm7 Hm8 Hm9 Hm10 Hm11 Hm12 Hp]
  · isplitl [H2 H3 H4 H5 H6 H7 H8 H0 H1]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H0]; · iexact H0
      iexact H1
    isplitl [Hp]; · iexact Hp
    isplitl [Hm0 Hm1 Hm2 Hm3 Hm4 Hm5 Hm6 Hm7 Hm8 Hm9 Hm10 Hm11 Hm12]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      iexact Hm12
    isplitl [Ha0 Ha1 Ha2 Ha3]
    · isplitl [Ha0]; · iexact Ha0
      isplitl [Ha1]; · iexact Ha1
      isplitl [Ha2]; · iexact Ha2
      iexact Ha3
    iexact Hv
  unfold Ow
  icases HO with ⟨%W', HO⟩
  isplitl [HO]
  · iexists W'; isplitr; · ipureintro; exact fun _ _ => Or.inl trivial
    iexact HO
  iempintro

theorem bigSep_none (Φ : Fin cfg0.W → sProp 𝕄) : bigSep Finset.univ Φ = iprop(emp) := by
  rw [show (Finset.univ : Finset (Fin cfg0.W)) = ∅ from Finset.univ_eq_empty, BI.bigSep_empty]
  rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

set_option backward.isDefEq.respectTransparency.types false in
theorem run_main : θ_run defs (onTc (τ := τ) (main (F := F))) (s₀ m ρ) (fun r => Pipeline.FramePostRG cfgs (dats m) 0 R0 (V m) (after m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0) (G := after m)
    (hin := fun c => Entails.of_eq (Phi_pre m c t0_0).symm) (hout := fun c => Entails.of_eq (Phi_post m c t0_0))

/-- The run: the result in the result's buffer, the arguments unchanged, every semaphore at zero. -/
theorem run_value : θ_run defs (onTc (τ := τ) (main (F := F))) ⟨m, fun _ => 0, ρ⟩ (fun r => (∀ c : Dev nD,
      r.2.mem ((c.tc : Thread nD τ).loc main_v0) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.2 c main_v0 (by decide)).trans (after_v0 m c),
      (h.1.1 c).2 main_arg0 (Finset.mem_sdiff.mpr ⟨Pipeline.mem_restRefs_of main_arg0 (by decide) (by decide), by decide⟩),
      (h.1.1 c).2 main_arg1 (Finset.mem_sdiff.mpr ⟨Pipeline.mem_restRefs_of main_arg1 (by decide) (by decide), by decide⟩),
      (h.1.1 c).2 main_arg2 (Finset.mem_sdiff.mpr ⟨Pipeline.mem_restRefs_of main_arg2 (by decide) (by decide), by decide⟩),
      (h.1.1 c).2 main_arg3 (Finset.mem_sdiff.mpr ⟨Pipeline.mem_restRefs_of main_arg3 (by decide) (by decide), by decide⟩)⟩, h.2⟩) (run_main m ρ)

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_value m ρ)

end Cert.KernelIdeal.Hand

end

end
-- ==== Proof.Quant.lean ====
/-
  The row quantiser over the extended reals. The scale is a power of two that keeps every scaled row value within 448, so the
  clip never acts, and scaling the product back gives the plain product. The kernel finds the power by a search on the
  exponent field, the reference by a logarithm.
-/
module

public import Idealize.ShloMosaic.Lib.Pointwise

@[expose] public section

noncomputable section

namespace Cert.Quant

open Idealize.ShloMosaic

/-- The float nearest to 1/448. -/
def inv448 : EReal := Ideal.ofBits .f32 0x3B124925#32

theorem inv448_eq : inv448 = ((9586981 * (2 : ℝ) ^ (-32 : ℤ) : ℝ) : EReal) := by
  have h1 : (BitVec.extractLsb' 23 8 0x3B124925#32).toNat = 118 := by decide
  have h2 : (BitVec.extractLsb' 0 23 0x3B124925#32).toNat = 1198373 := by decide
  have h3 : (BitVec.extractLsb' 31 1 0x3B124925#32 == 1#1) = false := by decide
  unfold inv448 Ideal.ofBits Ideal.ieee
  simp only [h1, h2, h3]
  norm_num

theorem p448 : Ideal.ofBits .f32 0x43E00000#32 = ((448 : ℝ) : EReal) := by
  have h1 : (BitVec.extractLsb' 23 8 0x43E00000#32).toNat = 135 := by decide
  have h2 : (BitVec.extractLsb' 0 23 0x43E00000#32).toNat = 6291456 := by decide
  have h3 : (BitVec.extractLsb' 31 1 0x43E00000#32 == 1#1) = false := by decide
  unfold Ideal.ofBits Ideal.ieee
  simp only [h1, h2, h3]
  norm_num

theorem m448 : Ideal.ofBits .f32 0xC3E00000#32 = ((-448 : ℝ) : EReal) := by
  have h1 : (BitVec.extractLsb' 23 8 0xC3E00000#32).toNat = 135 := by decide
  have h2 : (BitVec.extractLsb' 0 23 0xC3E00000#32).toNat = 6291456 := by decide
  have h3 : (BitVec.extractLsb' 31 1 0xC3E00000#32 == 1#1) = true := by decide
  unfold Ideal.ofBits Ideal.ieee
  simp only [h1, h2, h3]
  norm_num

theorem ninf : Ideal.ofBits .f32 0xFF800000#32 = ⊥ := by
  have h1 : (BitVec.extractLsb' 23 8 0xFF800000#32).toNat = 255 := by decide
  have h2 : (BitVec.extractLsb' 0 23 0xFF800000#32).toNat = 0 := by decide
  have h3 : (BitVec.extractLsb' 31 1 0xFF800000#32 == 1#1) = true := by decide
  unfold Ideal.ofBits Ideal.ieee
  simp only [h1, h2, h3]
  norm_num

theorem pinf : Ideal.ofBits .f32 0x7F800000#32 = ⊤ := by
  have h1 : (BitVec.extractLsb' 23 8 0x7F800000#32).toNat = 255 := by decide
  have h2 : (BitVec.extractLsb' 0 23 0x7F800000#32).toNat = 0 := by decide
  have h3 : (BitVec.extractLsb' 31 1 0x7F800000#32 == 1#1) = false := by decide
  unfold Ideal.ofBits Ideal.ieee
  simp only [h1, h2, h3]
  norm_num

/-! ## The clip never acts -/

theorem mul_sum_real {ι : Type} (t : Finset ι) (f : ι → EReal) (s : ℝ) (hs : 0 < s) :
    (∑ k ∈ t, f k) * (s : EReal) = ∑ k ∈ t, f k * (s : EReal) := by
  classical
  induction t using Finset.induction_on with
  | empty => simp
  | insert a t ha ih =>
    rw [Finset.sum_insert ha, Finset.sum_insert ha, ← ih]
    exact EReal.right_distrib_of_nonneg_of_ne_top (EReal.coe_nonneg.2 hs.le) (EReal.coe_ne_top s) _ _

theorem clip_sum {n : ℕ} (x w : Fin n → EReal) (A s : ℝ) (hs : 0 < s) (hx : ∀ k, max (x k) (-(x k)) ≤ (A : EReal)) (hA : A ≤ 448 * s) :
    (∑ k, min ((448 : ℝ) : EReal) (max ((-448 : ℝ) : EReal) (x k * ((s⁻¹ : ℝ) : EReal))) * w k) * (s : EReal) = ∑ k, x k * w k := by
  rw [mul_sum_real _ _ _ hs]
  refine Finset.sum_congr rfl fun k _ => ?_
  have h1 : x k ≤ A := (le_max_left _ _).trans (hx k)
  have h2 : -(x k) ≤ A := (le_max_right _ _).trans (hx k)
  generalize x k = y at h1 h2
  induction y with
  | bot => simp at h2
  | top => simp at h1
  | coe r =>
    rw [← EReal.coe_neg] at h2
    have h1' := EReal.coe_le_coe_iff.1 h1
    have h2' := EReal.coe_le_coe_iff.1 h2
    have hr : |r| ≤ 448 * s := (abs_le.2 ⟨by linarith, h1'⟩).trans hA
    have hq : |r * s⁻¹| ≤ 448 := by
      rw [abs_mul, abs_of_pos (inv_pos.2 hs)]
      calc |r| * s⁻¹ ≤ 448 * s * s⁻¹ := mul_le_mul_of_nonneg_right hr (inv_pos.2 hs).le
        _ = 448 := by field_simp
    rw [← EReal.coe_mul, max_eq_right (EReal.coe_le_coe_iff.2 (abs_le.1 hq).1), min_eq_right (EReal.coe_le_coe_iff.2 (abs_le.1 hq).2),
      mul_right_comm, ← EReal.coe_mul, inv_mul_cancel_right₀ hs.ne']

/-- What both scales satisfy. -/
theorem le_of_scaled (A s : ℝ) (hA : 0 ≤ A) (h : (A : EReal) * inv448 < (s : EReal)) : A ≤ 448 * s := by
  rw [inv448_eq, ← EReal.coe_mul, EReal.coe_lt_coe_iff] at h
  norm_num at h
  by_contra hc
  rw [not_le] at hc
  have : 448 * s < A := hc
  nlinarith

/-! ## The search on the exponent field -/

/-- The float with exponent field `n` and the other bits zero. -/
def pw (n : ℕ) : EReal := Ideal.ofBits .f32 (BitVec.ofNat 32 n <<< 23)

theorem ofBits_pow (b : BitVec 32) (ex : ℕ) (h1 : (b.extractLsb' 23 8).toNat = ex) (h2 : (b.extractLsb' 0 23).toNat = 0)
    (h3 : (b.extractLsb' 31 1 == 1#1) = false) (h0 : ex ≠ 0) (h255 : ex ≠ 255) :
    Ideal.ofBits .f32 b = (((2 : ℝ) ^ ((ex : ℤ) - 127) : ℝ) : EReal) := by
  unfold Ideal.ofBits Ideal.ieee
  simp only [h1, h2, h3, if_neg h0]
  rw [if_neg (by simpa using h255)]
  have : (2 : ℝ) ^ ((ex : ℤ) - 127) = 8388608 * (2 : ℝ) ^ ((ex : ℤ) - 127 - 23) := by
    rw [zpow_sub₀ (by norm_num : (2 : ℝ) ≠ 0) _ 23]; norm_num; ring
  rw [this]
  norm_num

theorem field_word : ∀ n : Fin 256, ((BitVec.ofNat 32 n.val <<< 23).extractLsb' 23 8).toNat = n.val
    ∧ ((BitVec.ofNat 32 n.val <<< 23).extractLsb' 0 23).toNat = 0
    ∧ ((BitVec.ofNat 32 n.val <<< 23).extractLsb' 31 1 == 1#1) = false := by decide +kernel

theorem pw_eq (n : ℕ) (h0 : 0 < n) (h : n < 255) : pw n = (((2 : ℝ) ^ ((n : ℤ) - 127) : ℝ) : EReal) := by
  obtain ⟨h1, h2, h3⟩ := field_word ⟨n, by omega⟩
  exact ofBits_pow _ n h1 h2 h3 (by omega) (by omega)

theorem pw_top : pw 255 = ⊤ := by
  have h1 : (BitVec.extractLsb' 23 8 (BitVec.ofNat 32 255 <<< 23)).toNat = 255 := by decide
  have h2 : (BitVec.extractLsb' 0 23 (BitVec.ofNat 32 255 <<< 23)).toNat = 0 := by decide
  have h3 : (BitVec.extractLsb' 31 1 (BitVec.ofNat 32 255 <<< 23) == 1#1) = false := by decide
  unfold pw Ideal.ofBits Ideal.ieee
  simp only [h1, h2, h3]
  norm_num

/-- After the step on bit `b`: the field is `n`, the next field up by `b` is above `v`, and `n`'s float is at most `v`. -/
def Inv (v : EReal) (f : BitVec 32) (b : ℕ) : Prop :=
  ∃ n : ℕ, f = BitVec.ofNat 32 n ∧ n + b ≤ 256 ∧ (n + b = 256 ∨ v < pw (n + b)) ∧ (n = 0 ∨ pw n ≤ v)

theorem Inv_start (v : EReal) : Inv v 0#32 256 := ⟨0, rfl, le_rfl, .inl rfl, .inl rfl⟩

/-- One step of the search. -/
def stp (v : EReal) (b f : BitVec 32) : BitVec 32 :=
  Scalar.select (FloatOps.cmpf (F := Ideal) (φ := .f32) .oge v (FloatOps.ofBits .f32 (IntOp.shli .vector (IntOp.addi f b) 23#32))) (IntOp.addi f b) f

theorem shl23 (x : BitVec 32) : IntOp.shli .vector x 23#32 = x <<< 23 := rfl

theorem Inv_step (v : EReal) (f : BitVec 32) (b : ℕ) (h : Inv v f (b + b)) : Inv v (stp v (BitVec.ofNat 32 b) f) b := by
  obtain ⟨n, rfl, h1, h2, h3⟩ := h
  have ha : IntOp.addi (BitVec.ofNat 32 n) (BitVec.ofNat 32 b) = BitVec.ofNat 32 (n + b) := (BitVec.ofNat_add ..).symm
  have hs : stp v (BitVec.ofNat 32 b) (BitVec.ofNat 32 n)
      = if pw (n + b) ≤ v then BitVec.ofNat 32 (n + b) else BitVec.ofNat 32 n := by
    unfold stp
    rw [ha, shl23]
    show Scalar.select (Ideal.cmp .oge v (pw (n + b))) _ _ = _
    unfold Scalar.select Ideal.cmp
    by_cases hc : pw (n + b) ≤ v <;> simp [hc]
  rw [hs]
  by_cases hc : pw (n + b) ≤ v
  · rw [if_pos hc]
    exact ⟨n + b, rfl, by omega, by rw [add_assoc]; exact h2, .inr hc⟩
  · rw [if_neg hc]
    exact ⟨n, rfl, by omega, .inr (not_le.1 hc), h3⟩

/-- The kernel's eight steps. -/
def search (v : EReal) : BitVec 32 :=
  stp v 1#32 (stp v 2#32 (stp v 4#32 (stp v 8#32 (stp v 16#32 (stp v 32#32 (stp v 64#32 (stp v 128#32 0#32)))))))

theorem Inv_search (v : EReal) :
    Inv v (search v) 1 :=
  Inv_step v _ 1 (Inv_step v _ 2 (Inv_step v _ 4 (Inv_step v _ 8 (Inv_step v _ 16 (Inv_step v _ 32 (Inv_step v _ 64 (Inv_step v _ 128 (Inv_start v))))))))

/-- The kernel's exponent from the field. -/
def kExp (f : BitVec 32) : BitVec 32 :=
  Scalar.select (IntOp.ori (IntOp.cmpi .eq f 0#32) (IntOp.cmpi .eq f 255#32)) 0#32 (IntOp.subi f 126#32)

/-- The kernel's scale and its inverse, for a row whose largest value is `A`. -/
theorem kernel_scale (A : ℝ) (hA : 0 ≤ A) (hM : A < 2 ^ 128) (f : BitVec 32) (h : Inv ((A : EReal) * inv448) f 1) :
    ∃ s : ℝ, 0 < s ∧ A ≤ 448 * s ∧ Ideal.ofBits .f32 ((127#32 + kExp f) <<< 23) = (s : EReal)
      ∧ Ideal.ofBits .f32 ((127#32 - kExp f) <<< 23) = ((s⁻¹ : ℝ) : EReal) := by
  obtain ⟨n, rfl, h1, h2, h3⟩ := h
  have hn : n < 247 := by
    by_contra hc
    have hv : (A : EReal) * inv448 < (((2 : ℝ) ^ (120 : ℤ) : ℝ) : EReal) := by
      rw [inv448_eq, ← EReal.coe_mul, EReal.coe_lt_coe_iff]
      norm_num
      norm_num at hM
      nlinarith
    have h3' : pw n ≤ (A : EReal) * inv448 := h3.resolve_left (by omega)
    rcases Nat.lt_or_ge n 255 with hlt | hge
    · rw [pw_eq n (by omega) hlt] at h3'
      have := EReal.coe_lt_coe_iff.1 (h3'.trans_lt hv)
      have h4 := (zpow_lt_zpow_iff_right₀ (by norm_num : (1 : ℝ) < 2)).1 this
      omega
    · obtain rfl : n = 255 := by omega
      have : pw 255 = ⊤ := pw_top
      rw [this] at h3'
      exact absurd (h3'.trans_lt hv) (not_lt.2 le_top)
  have hv : (A : EReal) * inv448 < pw (n + 1) := h2.resolve_left (by omega)
  rw [pw_eq (n + 1) (by omega) (by omega)] at hv
  rcases Nat.eq_zero_or_pos n with rfl | hpos
  · refine ⟨1, one_pos, le_of_scaled A 1 hA (hv.trans ?_), ?_, ?_⟩
    · rw [EReal.coe_lt_coe_iff]; norm_num
    · rw [show (127#32 + kExp (BitVec.ofNat 32 0)) = BitVec.ofNat 32 127 by decide]
      exact (pw_eq 127 (by norm_num) (by norm_num)).trans (by norm_num)
    · rw [show (127#32 - kExp (BitVec.ofNat 32 0)) = BitVec.ofNat 32 127 by decide]
      exact (pw_eq 127 (by norm_num) (by norm_num)).trans (by norm_num)
  · have hk : kExp (BitVec.ofNat 32 n) = BitVec.ofNat 32 n - 126#32 := by
      have : ∀ n : Fin 247, 0 < n.val → kExp (BitVec.ofNat 32 n.val) = BitVec.ofNat 32 n.val - 126#32 := by decide
      exact this ⟨n, hn⟩ hpos
    refine ⟨(2 : ℝ) ^ ((n : ℤ) - 126), by positivity, le_of_scaled A _ hA (hv.trans_le ?_), ?_, ?_⟩
    · rw [EReal.coe_le_coe_iff]; apply le_of_eq; congr 1; push_cast; ring
    · have : 127#32 + kExp (BitVec.ofNat 32 n) = BitVec.ofNat 32 (n + 1) := by
        have : ∀ n : Fin 247, 127#32 + (BitVec.ofNat 32 n.val - 126#32) = BitVec.ofNat 32 (n.val + 1) := by decide
        rw [hk]; exact this ⟨n, hn⟩
      rw [this]
      refine (pw_eq (n + 1) (by omega) (by omega)).trans ?_
      congr 2; push_cast; ring
    · have : 127#32 - kExp (BitVec.ofNat 32 n) = BitVec.ofNat 32 (253 - n) := by
        have : ∀ n : Fin 247, 127#32 - (BitVec.ofNat 32 n.val - 126#32) = BitVec.ofNat 32 (253 - n.val) := by decide
        rw [hk]; exact this ⟨n, hn⟩
      rw [this]
      refine (pw_eq (253 - n) (by omega) (by omega)).trans ?_
      rw [← zpow_neg]
      congr 2; push_cast [Nat.cast_sub (by omega : n ≤ 253)]; ring

/-- For a row with an infinite value both are 1. -/
theorem kernel_scale_top (f : BitVec 32) (h : Inv (⊤ * inv448) f 1) :
    Ideal.ofBits .f32 ((127#32 + kExp f) <<< 23) = ((1 : ℝ) : EReal) ∧ Ideal.ofBits .f32 ((127#32 - kExp f) <<< 23) = ((1 : ℝ) : EReal) := by
  have ht : (⊤ : EReal) * inv448 = ⊤ := by rw [inv448_eq]; exact EReal.top_mul_coe_of_pos (by positivity)
  rw [ht] at h
  obtain ⟨n, rfl, h1, h2, h3⟩ := h
  obtain rfl : n = 255 := by
    have := h2.resolve_right not_top_lt
    omega
  have h1 : Ideal.ofBits .f32 (BitVec.ofNat 32 127 <<< 23) = ((1 : ℝ) : EReal) := (pw_eq 127 (by norm_num) (by norm_num)).trans (by norm_num)
  refine ⟨?_, ?_⟩
  · rw [show (127#32 + kExp (BitVec.ofNat 32 255)) = BitVec.ofNat 32 127 by decide]; exact h1
  · rw [show (127#32 - kExp (BitVec.ofNat 32 255)) = BitVec.ofNat 32 127 by decide]; exact h1

/-! ## The logarithm -/

/-- The reference's exponent, for a row whose largest value is `A`. -/
def rExp (A : EReal) : EReal :=
  if A = 0 ∨ A = ⊤ then 0 else (Ideal.liftRound Int.floor (Ideal.div (Ideal.log (A * inv448)) ((Real.log 2 : ℝ) : EReal)) + 1)

theorem ref_scale (A : ℝ) (hA : 0 ≤ A) :
    ∃ s : ℝ, 0 < s ∧ A ≤ 448 * s ∧ Ideal.exp2 (rExp A) = (s : EReal) ∧ Ideal.exp2 (0 - rExp A) = ((s⁻¹ : ℝ) : EReal) := by
  have key : ∀ e : ℤ, Ideal.exp2 ((e : ℝ) : EReal) = (((2 : ℝ) ^ e : ℝ) : EReal) := fun e => by
    rw [Ideal.exp2_coe]; congr 1; exact Real.rpow_intCast 2 e
  have key' : ∀ e : ℤ, Ideal.exp2 (0 - ((e : ℝ) : EReal)) = ((((2 : ℝ) ^ e)⁻¹ : ℝ) : EReal) := fun e => by
    rw [zero_sub, ← EReal.coe_neg, ← Int.cast_neg, key, zpow_neg]
  rcases hA.eq_or_lt with rfl | hpos
  · have h0 : rExp ((0 : ℝ) : EReal) = (((0 : ℤ) : ℝ) : EReal) := by
      unfold rExp; simp
    refine ⟨(2 : ℝ) ^ (0 : ℤ), by norm_num, by norm_num, ?_, ?_⟩
    · rw [h0, key]
    · rw [h0, key']
  · set q : ℝ := A * (9586981 * (2 : ℝ) ^ (-32 : ℤ)) with hq
    have hqp : 0 < q := by positivity
    set e : ℤ := ⌊Real.log q / Real.log 2⌋ + 1 with he
    have h0 : rExp (A : EReal) = ((e : ℝ) : EReal) := by
      unfold rExp
      rw [if_neg (by simpa using hpos.ne'), inv448_eq, ← EReal.coe_mul, ← hq, Ideal.log_coe, if_neg (not_le.2 hqp)]
      have hl : Real.log 2 ≠ 0 := (Real.log_pos (by norm_num)).ne'
      have : Ideal.div ((Real.log q : ℝ) : EReal) ((Real.log 2 : ℝ) : EReal) = ((Real.log q / Real.log 2 : ℝ) : EReal) := by
        unfold Ideal.div
        rw [if_neg (by simpa using hl), ← EReal.coe_inv, ← EReal.coe_mul]; rfl
      rw [this]
      show ((⌊Real.log q / Real.log 2⌋ : ℝ) : EReal) + 1 = _
      rw [he]; push_cast; rfl
    have hlt : q < (2 : ℝ) ^ e := by
      rw [← Real.log_lt_log_iff hqp (by positivity), Real.log_zpow]
      have h2 : 0 < Real.log 2 := Real.log_pos (by norm_num)
      have := Int.lt_floor_add_one (Real.log q / Real.log 2)
      rw [div_lt_iff₀ h2] at this
      rw [he]; push_cast; exact this
    refine ⟨(2 : ℝ) ^ e, by positivity, le_of_scaled A _ hA ?_, ?_, ?_⟩
    · rw [inv448_eq, ← EReal.coe_mul, ← hq]; exact EReal.coe_lt_coe_iff.2 hlt
    · rw [h0, key]
    · rw [h0, key']

/-- A test for either of two things, as the programs write it. -/
theorem or_false {p q : Prop} [Decidable p] [Decidable q] (hp : ¬p) (hq : ¬q) : IntOp.ori (BitVec.ofBool (decide p)) (BitVec.ofBool (decide q)) ≠ 1#1 := by
  rw [decide_eq_false hp, decide_eq_false hq]
  decide

/-- The reference's exponent, its test as the program writes it. -/
theorem rExp_eq (A : EReal) : rExp A = Scalar.select (IntOp.ori (Ideal.cmp .oeq A 0) (Ideal.cmp .oeq A ⊤)) (0 : EReal)
    ((Ideal.liftRound Int.floor (Ideal.div (Ideal.log (A * inv448)) ((Real.log 2 : ℝ) : EReal))) + 1) := by
  show _ = Scalar.select (IntOp.ori (BitVec.ofBool (decide (A = 0))) (BitVec.ofBool (decide (A = ⊤)))) (0 : EReal) _
  unfold rExp
  by_cases h0 : A = 0
  · rw [if_pos (.inl h0), decide_eq_true h0]
    by_cases h1 : A = ⊤
    · rw [decide_eq_true h1]; rfl
    · rw [decide_eq_false h1]; rfl
  · by_cases h1 : A = ⊤
    · rw [if_pos (.inr h1), decide_eq_false h0, decide_eq_true h1]; rfl
    · rw [if_neg (not_or.2 ⟨h0, h1⟩), decide_eq_false h0, decide_eq_false h1]; rfl

theorem ref_scale_top : Ideal.exp2 (rExp ⊤) = ((1 : ℝ) : EReal) ∧ Ideal.exp2 (0 - rExp ⊤) = ((1 : ℝ) : EReal) := by
  have h : rExp ⊤ = ((0 : ℝ) : EReal) := by unfold rExp; simp
  have h' : (0 : EReal) - ((0 : ℝ) : EReal) = ((0 : ℝ) : EReal) := by simp
  rw [h, h', Ideal.exp2_coe]
  simp

/-! ## A row's largest value -/

/-- A row's largest absolute value. -/
def amax {n : ℕ} (x : Fin n → EReal) : EReal := Finset.univ.fold max (⊥ : EReal) fun k => max (x k) (-(x k))

/-- The largest finite value of the 16-bit format. -/
def bigM : ℝ := 16711680 * 2 ^ 104

theorem bigM_eq : Ideal.ofBits .f32 0x7F7F0000#32 = (bigM : EReal) := by
  have h1 : (BitVec.extractLsb' 23 8 0x7F7F0000#32).toNat = 254 := by decide
  have h2 : (BitVec.extractLsb' 0 23 0x7F7F0000#32).toNat = 8323072 := by decide
  have h3 : (BitVec.extractLsb' 31 1 0x7F7F0000#32 == 1#1) = false := by decide
  unfold Ideal.ofBits Ideal.ieee bigM
  simp only [h1, h2, h3]
  norm_num

theorem bigM_lt : bigM < 2 ^ 128 := by unfold bigM; norm_num

theorem row_max {n : ℕ} (x : Fin (n + 1) → EReal) (M : ℝ) (h : ∀ k, max (x k) (-(x k)) ≤ (M : EReal)) :
    ∃ A : ℝ, (Finset.univ.fold max (⊥ : EReal) fun k => max (x k) (-(x k))) = (A : EReal) ∧ 0 ≤ A ∧ A ≤ M
      ∧ ∀ k, max (x k) (-(x k)) ≤ (A : EReal) := by
  set F := Finset.univ.fold max (⊥ : EReal) fun k => max (x k) (-(x k)) with hF
  have hle : F ≤ M := (Finset.fold_max_le _).2 ⟨bot_le, fun k _ => h k⟩
  have hge : ∀ k, max (x k) (-(x k)) ≤ F := fun k => (Finset.le_fold_max _).2 (.inr ⟨k, Finset.mem_univ _, le_rfl⟩)
  have h0 : 0 ≤ F := by
    refine le_trans ?_ (hge 0)
    rcases le_total 0 (x 0) with h | h
    · exact h.trans (le_max_left _ _)
    · exact (by simpa using h : (0 : EReal) ≤ -(x 0)).trans (le_max_right _ _)
  have h1 : F ≠ ⊤ := fun hc => by rw [hc] at hle; simp at hle
  have h2 : F ≠ ⊥ := fun hc => by rw [hc] at h0; simp at h0
  refine ⟨F.toReal, (EReal.coe_toReal h1 h2).symm, ?_, ?_, ?_⟩
  · exact EReal.toReal_nonneg h0
  · rw [← EReal.coe_le_coe_iff, EReal.coe_toReal h1 h2]; exact hle
  · rw [EReal.coe_toReal h1 h2]; exact hge

/-- A row's product: the plain one, or for a row with an infinite value the one clipped at 448. -/
def dotq {n : ℕ} (x w : Fin n → EReal) : EReal :=
  if amax x = ⊤ then ∑ k, min ((448 : ℝ) : EReal) (max ((-448 : ℝ) : EReal) (x k)) * w k else ∑ k, x k * w k

/-- The quantised product of a row, by any scale `sc` with inverse `inv` that does what a quantiser's must. -/
theorem row_value {n : ℕ} (x w : Fin (n + 1) → EReal) (hx : ∀ k, max (x k) (-(x k)) ≤ (bigM : EReal) ∨ max (x k) (-(x k)) = ⊤) (sc inv : EReal)
    (hfin : ∀ A : ℝ, amax x = (A : EReal) → 0 ≤ A → A ≤ bigM → ∃ s : ℝ, 0 < s ∧ A ≤ 448 * s ∧ sc = (s : EReal) ∧ inv = ((s⁻¹ : ℝ) : EReal))
    (htop : amax x = ⊤ → sc = ((1 : ℝ) : EReal) ∧ inv = ((1 : ℝ) : EReal)) :
    (∑ k, min ((448 : ℝ) : EReal) (max ((-448 : ℝ) : EReal) (x k * inv)) * w k) * sc = dotq x w := by
  unfold dotq
  by_cases ht : amax x = ⊤
  · obtain ⟨h1, h2⟩ := htop ht
    rw [if_pos ht, h1, h2]
    simp only [EReal.coe_one, mul_one]
  · rw [if_neg ht]
    have hle : ∀ k, max (x k) (-(x k)) ≤ (bigM : EReal) := fun k => (hx k).resolve_right fun hk =>
      ht (top_le_iff.1 (hk ▸ (Finset.le_fold_max _).2 (.inr ⟨k, Finset.mem_univ _, le_rfl⟩)))
    obtain ⟨A, hA, h0, hM, hA'⟩ := row_max x bigM hle
    obtain ⟨s, hs, hAs, h1, h2⟩ := hfin A hA h0 hM
    rw [h1, h2, clip_sum x w A s hs hA' hAs]

end Cert.Quant

end
-- ==== Proof.Read.lean ====
/-
  The payloads of the two programs and the precondition, read at an element.
-/
module

public import proofs.«01_k».proof.Pre_bf16_x
public import proofs.«01_k».proof.Proof.Quant
public import proofs.«01_k».proof.Proof.Ideal.Final
public import proofs.«01_k».proof.Proof.Gen.ReferenceIdeal.Value

@[expose] public section

noncomputable section

namespace Cert.Val

open Idealize.ShloMosaic

/-- The precondition's side conditions. -/
instance preFacts : Cert.Pre_bf16_x.Facts where
  bitsLt_bf16_f32 := by decide
  bcast_S_S8x32x2816 := by decide

/-- The precondition read at an element: its absolute value is at most the largest finite one, or infinite. -/
theorem pre_apply (X : FVec Ideal Cert.Pre_bf16_x.S8x32x2816 .bf16) (g : IVec Cert.Pre_bf16_x.S8 32) (W : FVec Ideal Cert.Pre_bf16_x.S8x14336x2816 .fp8e4m3)
    (WS : FVec Ideal Cert.Pre_bf16_x.S8x14336 .f32) (h : Cert.Pre_bf16_x.fn X g W WS = fun _ => 1#1) (i : Cert.Pre_bf16_x.S8x32x2816.Idx) :
    max (X i) (-(X i)) ≤ (Quant.bigM : EReal) ∨ max (X i) (-(X i)) = ⊤ := by
  have h1 : IntOp.ori (Ideal.cmp .ole (max (X i) (-(X i))) (Ideal.ofBits .f32 0x7F7F0000#32))
      (Ideal.cmp .oeq (max (X i) (-(X i))) (Ideal.ofBits .f32 0x7F800000#32)) = 1#1 := congrFun h i
  rw [Quant.bigM_eq, Quant.pinf] at h1
  by_contra hc
  obtain ⟨hc1, hc2⟩ := not_or.1 hc
  exact Quant.or_false hc1 hc2 h1

end Cert.Val

namespace Cert.ReferenceIdeal.Read

open Idealize.ShloMosaic Cert.ReferenceIdeal Cert.ReferenceIdeal.Gen

theorem ref_apply (gs : Vec Ideal S8 .i32) (X : Vec Ideal S8x32x2816 .bf16) (WS : Vec Ideal S8x14336 .f32)
    (W : Vec Ideal S8x14336x2816 .fp8e4m3) (e : Fin 8) (r : Fin 32) (n : Fin 14336) :
    k0_pay1 (F := Ideal) (k0_pay2 X W WS) (iota .tc S8x32x14336 32 [1] iota_S8x32x14336_d1_w32) gs (ix3 e r n)
      = Scalar.select (IntOp.cmpi .slt (BitVec.ofNat 32 r) (gs (ix1 e)))
          ((∑ k : Fin 2816, min ((448 : ℝ) : EReal) (max ((-448 : ℝ) : EReal) (X (ix3 e r k) * Ideal.exp2 (0 - Quant.rExp (Quant.amax fun k => X (ix3 e r k))))) * W (ix3 e n k))
            * Ideal.exp2 (Quant.rExp (Quant.amax fun k => X (ix3 e r k))) * WS (ix2 e n)) 0 := by
  pointwise [k0_pay1, k0_pay2]
  rw [← Quant.p448, ← Quant.m448]
  simp only [Quant.rExp_eq]
  unfold Quant.amax Quant.inv448
  rw [← Quant.ninf, ← Quant.pinf]
  rfl

end Cert.ReferenceIdeal.Read

namespace Cert.KernelIdeal.Read

open Idealize.ShloMosaic Cert.KernelIdeal Cert.KernelIdeal.Gen Cert.KernelIdeal.Hand

theorem amax_apply (x : Vec Ideal S1x32x2816 .bf16) (r : Fin 32) :
    k0_pay2 x (ix2 r 0) = Quant.amax (fun k => x (ix3 0 r k)) * Quant.inv448 := by
  pointwise [k0_pay2, k0_pay1]
  unfold Quant.amax Quant.inv448
  rw [← Quant.ninf]
  rfl

open Quant in
theorem exp_apply (x : Vec Ideal S1x32x2816 .bf16) (j : S32x1.Idx) :
    k0_pay4 (F := Ideal) (k0_pay2 x) (k0_pay3 x) j
      = kExp (search (k0_pay2 x j)) := by
  rfl

theorem in_apply (x : Vec Ideal S1x32x2816 .bf16) (r : Fin 32) (k : Fin 2816) : k0_pay1 x (ix2 r k) = x (ix3 0 r k) := by
  pointwise [k0_pay1]

theorem codes_apply (x : FVec Ideal S32x2816 .f32) (v : FVec Ideal S32x1 .f32) (f : IVec S32x1 32) (r : Fin 32) (k : Fin 2816) :
    k0_pay7 (F := Ideal) (Ideal.ofBits .f32 0x43E00000#32) (k0_pay6 x v f) (ix2 r k)
      = min ((448 : ℝ) : EReal) (max ((-448 : ℝ) : EReal) (x (ix2 r k) * Ideal.ofBits .f32 ((127#32 - k0_pay4 (F := Ideal) v f (ix2 r 0)) <<< 23))) := by
  pointwise [k0_pay7, k0_pay6]
  rw [← Quant.p448, ← Quant.m448]
  rfl

theorem scale_apply (v : FVec Ideal S32x1 .f32) (f : IVec S32x1 32) (r : Fin 32) (l : Fin 128) :
    k0_pay8 (F := Ideal) (k0_pay5 v f) (ix2 r l) = Ideal.ofBits .f32 ((127#32 + k0_pay4 (F := Ideal) v f (ix2 r 0)) <<< 23) := by
  pointwise [k0_pay8, k0_pay5]
  rfl

theorem acc_apply (q : Vec Ideal S32x2816 .fp8e4m3) (w : Vec Ideal S1x2048x2816 .fp8e4m3) (r : Fin 32) (l : Fin 2048) :
    k0_pay9 (F := Ideal) q w (ix2 r l) = ∑ k : Fin 2816, q (ix2 r k) * w (ix3 0 l k) := by
  pointwise [k0_pay9]

theorem out_apply (a : FVec Ideal S32x2048 .f32) (ws : Vec Ideal S1x2048 .f32) (s : Vec Ideal S32x1 .f32) (g : BitVec 32) (r : Fin 32) (l : Fin 2048) :
    k0_pay20 (F := Ideal) a ws s g (ix3 0 r l)
      = Scalar.select (IntOp.cmpi .slt (BitVec.ofNat 32 r) g) (a (ix2 r l) * s (ix2 r 0) * ws (ix2 0 l)) 0 := by
  pointwise [k0_pay20]

theorem mk3 {a b c : ℕ} (h) (i : Fin a) (j : Fin b) (k : Fin c) : mk ⟨3, ![a, b, c]⟩ ![(i : ℕ), (j : ℕ), (k : ℕ)] h = ix3 i j k :=
  (eq_mk _ _ _ _ fun x => by fin_cases x <;> rfl).symm

theorem mk2 {a b : ℕ} (h) (i : Fin a) (j : Fin b) : mk ⟨2, ![a, b]⟩ ![(i : ℕ), (j : ℕ)] h = ix2 i j :=
  (eq_mk _ _ _ _ fun x => by fin_cases x <;> rfl).symm

theorem mk1 {a : ℕ} (h) (i : Fin a) : mk ⟨1, ![a]⟩ ![(i : ℕ)] h = ix1 i :=
  (eq_mk _ _ _ _ fun x => by fin_cases x; rfl).symm

end Cert.KernelIdeal.Read

end
-- ==== Proof.Value.lean ====
/-
  The two programs' results are equal, element by element: both are the row's product, scaled and masked.
-/
module

public import proofs.«01_k».proof.Defs
public import proofs.«01_k».proof.Proof.Read

@[expose] public section

noncomputable section

namespace Cert.Val

open Idealize.ShloMosaic Idealize.SL.Sem

abbrev SX : Shape := ⟨3, ![8, 32, 2816]⟩
abbrev SG : Shape := ⟨1, ![8]⟩
abbrev SW : Shape := ⟨3, ![8, 14336, 2816]⟩
abbrev SS : Shape := ⟨2, ![8, 14336]⟩

variable (gs : SG.Idx → BitVec 32) (X : SX.Idx → EReal) (WS : SS.Idx → EReal) (W : SW.Idx → EReal)
variable (hX : ∀ i, max (X i) (-(X i)) ≤ (Quant.bigM : EReal) ∨ max (X i) (-(X i)) = ⊤)

/-- The product of a row of activations with a row of weights, scaled, and zero past the group's size. -/
def spec (e : Fin 8) (r : Fin 32) (n : Fin 14336) : EReal :=
  Scalar.select (IntOp.cmpi .slt (BitVec.ofNat 32 r) (gs (ix1 e))) (Quant.dotq (fun k : Fin 2816 => X (ix3 e r k)) (fun k => W (ix3 e n k)) * WS (ix2 e n)) 0

include hX in
theorem ref_eq (e : Fin 8) (r : Fin 32) (n : Fin 14336) :
    Cert.ReferenceIdeal.Value.G4 (F := Ideal) gs X WS W (ix3 e r n) = spec gs X WS W e r n := by
  refine (Cert.ReferenceIdeal.Read.ref_apply gs X WS W e r n).trans ?_
  unfold spec
  refine congrArg (fun z : EReal => Scalar.select (IntOp.cmpi .slt (BitVec.ofNat 32 r) (gs (ix1 e))) (z * WS (ix2 e n)) 0) ?_
  refine (Quant.row_value (n := 2815) (fun k => X (ix3 e r k)) (fun k => W (ix3 e n k)) (fun k => hX _)
    (Ideal.exp2 (Quant.rExp (Quant.amax fun k => X (ix3 e r k)))) _ ?_ ?_)
  · intro A hA h0 hM
    obtain ⟨s, hs, hAs, h1, h2⟩ := Quant.ref_scale A h0
    rw [hA]
    exact ⟨s, hs, hAs, h1, h2⟩
  · intro ht
    rw [ht]
    exact Quant.ref_scale_top

open Cert.KernelIdeal.Hand Cert.KernelIdeal.Read in
include hX in
theorem ker_eq (e : Fin 8) (r : Fin 32) (n : Fin 14336) :
    Res (F := Ideal) gs X WS W (ix3 e r n) = spec gs X WS W e r n := by
  have hg : gwOf gs e = gs (ix1 e) := congrArg gs (mk1 _ e)
  unfold spec
  show (if 0 < (gwOf gs (e : ℕ)).toInt then Bl (F := Ideal) (gwOf gs) X WS W (e : ℕ) ((n : ℕ) / 2048)
    (mk Cert.KernelIdeal.S1x32x2048 ![0, (r : ℕ), (n : ℕ) % 2048]) else Scalar.ofBits (F := Ideal) .bf16 0x0000#16) = _
  by_cases hp : 0 < (gwOf gs e).toInt
  · rw [if_pos hp]
    have hl : ∀ k : Fin 2816, xl (F := Ideal) X e (ix3 0 r k) = X (ix3 e r k) := fun k => congrArg X (mk3 _ e r k)
    have hv : Cert.KernelIdeal.Gen.k0_pay2 (F := Ideal) (xl X e) (ix2 r 0) = Quant.amax (fun k => X (ix3 e r k)) * Quant.inv448 := by
      rw [amax_apply]; simp only [hl]
    have hf := exp_apply (xl (F := Ideal) X e) (ix2 r 0)
    rw [hv] at hf
    have hI := Quant.Inv_search (Quant.amax (fun k => X (ix3 e r k)) * Quant.inv448)
    generalize Quant.search (Quant.amax (fun k => X (ix3 e r k)) * Quant.inv448) = f at hf hI
    have hn : (n : ℕ) % 2048 < 2048 := Nat.mod_lt _ (by norm_num)
    set l : Fin 2048 := ⟨(n : ℕ) % 2048, hn⟩ with hldef
    have hnl : 2048 * ((n : ℕ) / 2048) + (l : ℕ) = n := Nat.div_add_mod _ _
    have hi : mk Cert.KernelIdeal.S1x32x2048 ![0, (r : ℕ), (n : ℕ) % 2048] = ix3 0 r l := mk3 _ (0 : Fin 1) r l
    rw [hi]
    unfold Bl
    rw [out_apply, acc_apply, hg]
    refine congrArg (fun z : EReal => Scalar.select (IntOp.cmpi .slt (BitVec.ofNat 32 r) (gs (ix1 e))) z 0) ?_
    have hq : ∀ k : Fin 2816, xqv (F := Ideal) X e (ix2 r k) = min ((448 : ℝ) : EReal) (max ((-448 : ℝ) : EReal) (X (ix3 e r k) * Ideal.ofBits .f32 ((127#32 - Quant.kExp f) <<< 23))) := fun k => by
      unfold xqv
      refine (codes_apply _ _ _ r k).trans ?_
      rw [in_apply, hl, hf]
    have hw : ∀ k : Fin 2816, wlv (F := Ideal) W e ((n : ℕ) / 2048) (ix3 0 l k) = W (ix3 e n k) := fun k => by
      show W (mk SW ![(e : ℕ), 2048 * ((n : ℕ) / 2048) + (l : ℕ), (k : ℕ)]) = _
      rw [hnl]
      exact congrArg W (mk3 _ e n k)
    have hws : wsv (F := Ideal) WS e ((n : ℕ) / 2048) (ix2 0 l) = WS (ix2 e n) := by
      show WS (mk SS ![(e : ℕ), 2048 * ((n : ℕ) / 2048) + (l : ℕ)]) = _
      rw [hnl]
      exact congrArg WS (mk2 _ e n)
    have hsc : xs1 (F := Ideal) X e (ix2 r 0) = Ideal.ofBits .f32 ((127#32 + Quant.kExp f) <<< 23) := by
      show xsv (F := Ideal) X e (mk Cert.KernelIdeal.S32x128 ![(r : ℕ), 0]) = _
      rw [show mk Cert.KernelIdeal.S32x128 ![(r : ℕ), 0] = ix2 r 0 from mk2 _ r (0 : Fin 128)]
      unfold xsv
      rw [scale_apply, hf]
    simp only [hq, hw]
    rw [hws, hsc]
    refine congrArg (· * WS (ix2 e n)) (Quant.row_value (n := 2815) (fun k => X (ix3 e r k)) (fun k => W (ix3 e n k)) (fun k => hX _) _ _ ?_ ?_)
    · intro A hA h0 hM
      rw [hA] at hI
      exact Quant.kernel_scale A h0 (hM.trans_lt Quant.bigM_lt) f hI
    · intro ht
      rw [ht] at hI
      exact Quant.kernel_scale_top f hI
  · rw [if_neg hp]
    rw [hg] at hp
    have hr : IntOp.cmpi .slt (BitVec.ofNat 32 r) (gs (ix1 e)) = 0#1 := by
      have h1 : (BitVec.ofNat 32 (r : ℕ)).toInt = (r : ℕ) := by
        have : ∀ r : Fin 32, (BitVec.ofNat 32 (r : ℕ)).toInt = (r : ℕ) := by decide
        exact this r
      unfold IntOp.cmpi
      simp [BitVec.slt, h1]
      rw [decide_eq_false (by omega)]
      rfl
    rw [hr]
    exact Ideal.ofBits_zero_bf16

include hX in
/-- The kernel's result is the reference's. -/
theorem results_eq : Cert.KernelIdeal.Hand.Res (F := Ideal) gs X WS W = Cert.ReferenceIdeal.Value.G4 (F := Ideal) gs X WS W := by
  funext i
  rw [eq_ix3 i]
  exact (ker_eq gs X WS W hX _ _ _).trans (ref_eq gs X WS W hX _ _ _).symm

/-- Both programs run, and to the same result. -/
theorem algebraic : Cert.algebraic_KernelIdeal_ReferenceIdeal_pre_bf16_x := by
  intro m g m' g' hpre hargs
  refine ⟨fun c => Cert.KernelIdeal.Hand.resOf m c, ?_, ?_⟩
  · exact (θ_run _ _ _).mono (fun r h c => h.1 c) (Cert.KernelIdeal.Hand.run_value m g)
  · refine (θ_run _ _ _).mono (fun r h c => ⟨(h c).1.trans ?_, (h c).2⟩) (Cert.ReferenceIdeal.Value.run m' g')
    obtain ⟨e0, e1, e2, e3⟩ := hargs c
    rw [e0, e1, e2, e3]
    exact (results_eq _ _ _ _ fun i => pre_apply _ _ _ _ (hpre c) i).symm

end Cert.Val

end
-- ==== Proof.lean ====
/-
  The claims of this directory. The frames of the kernel and of its idealization are proved by hand
  (Proof/Final.lean and Proof/Ideal/Final.lean); the reference's frame is the generated one. The equality of the results is Proof/Value.lean.
-/
module

public import proofs.«01_k».proof.Defs
public import proofs.«01_k».proof.Proof.Final
public import proofs.«01_k».proof.Proof.Ideal.Final
public import proofs.«01_k».proof.Proof.Value
public import proofs.«01_k».proof.Proof.Gen.ReferenceIdeal.Frame

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Val.preFacts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  Cert.Val.algebraic⟩

end Cert.Proof

end

end
